-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3)
      ∧ r.2.mem ((c.tc : Thread Cert.Kernel39.nD Cert.Kernel39.τ).loc Cert.Kernel39.main_arg4) = m ((c.tc : Thread Cert.Kernel39.nD Cert.Kernel39.τ).loc Cert.Kernel39.main_arg4)
      ∧ r.2.mem ((c.tc : Thread Cert.Kernel39.nD Cert.Kernel39.τ).loc Cert.Kernel39.main_arg5) = m ((c.tc : Thread Cert.Kernel39.nD Cert.Kernel39.τ).loc Cert.Kernel39.main_arg5))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
      ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
      ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3)
      ∧ r.2.mem ((c.tc : Thread Cert.Reference39Ideal.nD Cert.Reference39Ideal.τ).loc Cert.Reference39Ideal.main_arg4) = m ((c.tc : Thread Cert.Reference39Ideal.nD Cert.Reference39Ideal.τ).loc Cert.Reference39Ideal.main_arg4)
      ∧ r.2.mem ((c.tc : Thread Cert.Reference39Ideal.nD Cert.Reference39Ideal.τ).loc Cert.Reference39Ideal.main_arg5) = m ((c.tc : Thread Cert.Reference39Ideal.nD Cert.Reference39Ideal.τ).loc Cert.Reference39Ideal.main_arg5))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3)
      ∧ r.2.mem ((c.tc : Thread Cert.Kernel40.nD Cert.Kernel40.τ).loc Cert.Kernel40.main_arg4) = m ((c.tc : Thread Cert.Kernel40.nD Cert.Kernel40.τ).loc Cert.Kernel40.main_arg4))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
      ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3)
      ∧ r.2.mem ((c.tc : Thread Cert.Reference40Ideal.nD Cert.Reference40Ideal.τ).loc Cert.Reference40Ideal.main_arg4) = m ((c.tc : Thread Cert.Reference40Ideal.nD Cert.Reference40Ideal.τ).loc Cert.Reference40Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v38) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)) (v4 : (c : Dev Cert.Kernel21Ideal.nD) → Buf (Elt Ideal) ((c.tc : Thread Cert.Kernel21Ideal.nD Cert.Kernel21Ideal.τ).loc Cert.Kernel21Ideal.main_v0_4)) (v5 : (c : Dev Cert.Kernel21Ideal.nD) → Buf (Elt Ideal) ((c.tc : Thread Cert.Kernel21Ideal.nD Cert.Kernel21Ideal.τ).loc Cert.Kernel21Ideal.main_v0_5)) (v6 : (c : Dev Cert.Kernel21Ideal.nD) → Buf (Elt Ideal) ((c.tc : Thread Cert.Kernel21Ideal.nD Cert.Kernel21Ideal.τ).loc Cert.Kernel21Ideal.main_v0_6)) (v7 : (c : Dev Cert.Kernel21Ideal.nD) → Buf (Elt Ideal) ((c.tc : Thread Cert.Kernel21Ideal.nD Cert.Kernel21Ideal.τ).loc Cert.Kernel21Ideal.main_v0_7)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_v0_4) = v4 c
          ∧ r.2.mem ((c.tc : Thread Cert.Kernel21Ideal.nD Cert.Kernel21Ideal.τ).loc Cert.Kernel21Ideal.main_v0_5) = v5 c
          ∧ r.2.mem ((c.tc : Thread Cert.Kernel21Ideal.nD Cert.Kernel21Ideal.τ).loc Cert.Kernel21Ideal.main_v0_6) = v6 c
          ∧ r.2.mem ((c.tc : Thread Cert.Kernel21Ideal.nD Cert.Kernel21Ideal.τ).loc Cert.Kernel21Ideal.main_v0_7) = v7 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v67) = v0 c
          ∧ r.2.mem ((c.tc : Thread Cert.Reference21Ideal.nD Cert.Reference21Ideal.τ).loc Cert.Reference21Ideal.main_v68) = v1 c
          ∧ r.2.mem ((c.tc : Thread Cert.Reference21Ideal.nD Cert.Reference21Ideal.τ).loc Cert.Reference21Ideal.main_v69) = v2 c
          ∧ r.2.mem ((c.tc : Thread Cert.Reference21Ideal.nD Cert.Reference21Ideal.τ).loc Cert.Reference21Ideal.main_v70) = v3 c
          ∧ r.2.mem ((c.tc : Thread Cert.Reference21Ideal.nD Cert.Reference21Ideal.τ).loc Cert.Reference21Ideal.main_v71) = v4 c
          ∧ r.2.mem ((c.tc : Thread Cert.Reference21Ideal.nD Cert.Reference21Ideal.τ).loc Cert.Reference21Ideal.main_v72) = v5 c
          ∧ r.2.mem ((c.tc : Thread Cert.Reference21Ideal.nD Cert.Reference21Ideal.τ).loc Cert.Reference21Ideal.main_v73) = v6 c
          ∧ r.2.mem ((c.tc : Thread Cert.Reference21Ideal.nD Cert.Reference21Ideal.τ).loc Cert.Reference21Ideal.main_v74) = v7 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_v5) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v34) = v0 c
          ∧ r.2.mem ((c.tc : Thread Cert.Reference24Ideal.nD Cert.Reference24Ideal.τ).loc Cert.Reference24Ideal.main_v17) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v49) = v0 c
          ∧ r.2.mem ((c.tc : Thread Cert.Reference25Ideal.nD Cert.Reference25Ideal.τ).loc Cert.Reference25Ideal.main_v48) = v1 c
          ∧ r.2.mem ((c.tc : Thread Cert.Reference25Ideal.nD Cert.Reference25Ideal.τ).loc Cert.Reference25Ideal.main_v32) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v6) = v2 c
          ∧ r.2.mem ((c.tc : Thread Cert.Reference26Ideal.nD Cert.Reference26Ideal.τ).loc Cert.Reference26Ideal.main_v12) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_v24) = v1 c
          ∧ r.2.mem ((c.tc : Thread Cert.Reference27Ideal.nD Cert.Reference27Ideal.τ).loc Cert.Reference27Ideal.main_v5) = v2 c
          ∧ r.2.mem ((c.tc : Thread Cert.Reference27Ideal.nD Cert.Reference27Ideal.τ).loc Cert.Reference27Ideal.main_v11) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v12) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v41) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m ((c.tc : Thread Cert.Kernel31Ideal.nD Cert.Kernel31Ideal.τ).loc Cert.Kernel31Ideal.main_arg0) = Layout.block ⟨3, ![8, 4096, 2051]⟩ ⟨3, ![16, 4096, 2051]⟩ 0 2 c (m' (((0 : Dev Cert.Reference31Ideal.nD).tc : Thread Cert.Reference31Ideal.nD Cert.Reference31Ideal.τ).loc Cert.Reference31Ideal.main_arg0))
      ∧ m ((c.tc : Thread Cert.Kernel31Ideal.nD Cert.Kernel31Ideal.τ).loc Cert.Kernel31Ideal.main_arg1) = Layout.block ⟨3, ![8, 3328, 1024]⟩ ⟨3, ![16, 3328, 1024]⟩ 0 2 c (m' (((0 : Dev Cert.Reference31Ideal.nD).tc : Thread Cert.Reference31Ideal.nD Cert.Reference31Ideal.τ).loc Cert.Reference31Ideal.main_arg1))
      ∧ m ((c.tc : Thread Cert.Kernel31Ideal.nD Cert.Kernel31Ideal.τ).loc Cert.Kernel31Ideal.main_arg2) = Layout.block ⟨3, ![8, 896, 1024]⟩ ⟨3, ![16, 896, 1024]⟩ 0 2 c (m' (((0 : Dev Cert.Reference31Ideal.nD).tc : Thread Cert.Reference31Ideal.nD Cert.Reference31Ideal.τ).loc Cert.Reference31Ideal.main_arg2))) →
    ∃ (v0 : Buf (Elt Ideal) (((0 : Dev Cert.Reference31Ideal.nD).tc : Thread Cert.Reference31Ideal.nD Cert.Reference31Ideal.τ).loc Cert.Reference31Ideal.main_v2)) (v1 : Buf (Elt Ideal) (((0 : Dev Cert.Reference31Ideal.nD).tc : Thread Cert.Reference31Ideal.nD Cert.Reference31Ideal.τ).loc Cert.Reference31Ideal.main_v5)) (v2 : Buf (Elt Ideal) (((0 : Dev Cert.Reference31Ideal.nD).tc : Thread Cert.Reference31Ideal.nD Cert.Reference31Ideal.τ).loc Cert.Reference31Ideal.main_v8)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1_0) = Layout.block ⟨3, ![4, 4096, 2051]⟩ ⟨3, ![8, 4096, 2051]⟩ 0 2 c v0
          ∧ r.2.mem ((c.tc : Thread Cert.Kernel31Ideal.nD Cert.Kernel31Ideal.τ).loc Cert.Kernel31Ideal.main_v1_1) = Layout.block ⟨3, ![4, 3328, 1024]⟩ ⟨3, ![8, 3328, 1024]⟩ 0 2 c v1
          ∧ r.2.mem ((c.tc : Thread Cert.Kernel31Ideal.nD Cert.Kernel31Ideal.τ).loc Cert.Kernel31Ideal.main_v1_2) = Layout.block ⟨3, ![4, 896, 1024]⟩ ⟨3, ![8, 896, 1024]⟩ 0 2 c v2
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r =>
          r.2.mem (((0 : Dev Cert.Reference31Ideal.nD).tc : Thread Cert.Reference31Ideal.nD Cert.Reference31Ideal.τ).loc Cert.Reference31Ideal.main_v2) = v0
          ∧ r.2.mem (((0 : Dev Cert.Reference31Ideal.nD).tc : Thread Cert.Reference31Ideal.nD Cert.Reference31Ideal.τ).loc Cert.Reference31Ideal.main_v5) = v1
          ∧ r.2.mem (((0 : Dev Cert.Reference31Ideal.nD).tc : Thread Cert.Reference31Ideal.nD Cert.Reference31Ideal.τ).loc Cert.Reference31Ideal.main_v8) = v2
          ∧ r.2.mem (((0 : Dev Cert.Reference31Ideal.nD).tc : Thread Cert.Reference31Ideal.nD Cert.Reference31Ideal.τ).loc Cert.Reference31Ideal.main_arg0) = m' (((0 : Dev Cert.Reference31Ideal.nD).tc : Thread Cert.Reference31Ideal.nD Cert.Reference31Ideal.τ).loc Cert.Reference31Ideal.main_arg0)
          ∧ r.2.mem (((0 : Dev Cert.Reference31Ideal.nD).tc : Thread Cert.Reference31Ideal.nD Cert.Reference31Ideal.τ).loc Cert.Reference31Ideal.main_arg1) = m' (((0 : Dev Cert.Reference31Ideal.nD).tc : Thread Cert.Reference31Ideal.nD Cert.Reference31Ideal.τ).loc Cert.Reference31Ideal.main_arg1)
          ∧ r.2.mem (((0 : Dev Cert.Reference31Ideal.nD).tc : Thread Cert.Reference31Ideal.nD Cert.Reference31Ideal.τ).loc Cert.Reference31Ideal.main_arg2) = m' (((0 : Dev Cert.Reference31Ideal.nD).tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m ((c.tc : Thread Cert.Kernel32Ideal.nD Cert.Kernel32Ideal.τ).loc Cert.Kernel32Ideal.main_arg0) = Layout.block ⟨3, ![4, 4096, 2051]⟩ ⟨3, ![16, 4096, 2051]⟩ 0 4 c (m' (((0 : Dev Cert.Reference32Ideal.nD).tc : Thread Cert.Reference32Ideal.nD Cert.Reference32Ideal.τ).loc Cert.Reference32Ideal.main_arg0))
      ∧ m ((c.tc : Thread Cert.Kernel32Ideal.nD Cert.Kernel32Ideal.τ).loc Cert.Kernel32Ideal.main_arg1) = Layout.block ⟨3, ![4, 3328, 1024]⟩ ⟨3, ![16, 3328, 1024]⟩ 0 4 c (m' (((0 : Dev Cert.Reference32Ideal.nD).tc : Thread Cert.Reference32Ideal.nD Cert.Reference32Ideal.τ).loc Cert.Reference32Ideal.main_arg1))
      ∧ m ((c.tc : Thread Cert.Kernel32Ideal.nD Cert.Kernel32Ideal.τ).loc Cert.Kernel32Ideal.main_arg2) = Layout.block ⟨3, ![4, 896, 1024]⟩ ⟨3, ![16, 896, 1024]⟩ 0 4 c (m' (((0 : Dev Cert.Reference32Ideal.nD).tc : Thread Cert.Reference32Ideal.nD Cert.Reference32Ideal.τ).loc Cert.Reference32Ideal.main_arg2))) →
    ∃ (v0 : Buf (Elt Ideal) (((0 : Dev Cert.Reference32Ideal.nD).tc : Thread Cert.Reference32Ideal.nD Cert.Reference32Ideal.τ).loc Cert.Reference32Ideal.main_v4)) (v1 : Buf (Elt Ideal) (((0 : Dev Cert.Reference32Ideal.nD).tc : Thread Cert.Reference32Ideal.nD Cert.Reference32Ideal.τ).loc Cert.Reference32Ideal.main_v9)) (v2 : Buf (Elt Ideal) (((0 : Dev Cert.Reference32Ideal.nD).tc : Thread Cert.Reference32Ideal.nD Cert.Reference32Ideal.τ).loc Cert.Reference32Ideal.main_v14)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1_0) = Layout.block ⟨3, ![4, 4096, 2051]⟩ ⟨3, ![16, 4096, 2051]⟩ 0 4 c v0
          ∧ r.2.mem ((c.tc : Thread Cert.Kernel32Ideal.nD Cert.Kernel32Ideal.τ).loc Cert.Kernel32Ideal.main_v1_1) = Layout.block ⟨3, ![4, 3328, 1024]⟩ ⟨3, ![16, 3328, 1024]⟩ 0 4 c v1
          ∧ r.2.mem ((c.tc : Thread Cert.Kernel32Ideal.nD Cert.Kernel32Ideal.τ).loc Cert.Kernel32Ideal.main_v1_2) = Layout.block ⟨3, ![4, 896, 1024]⟩ ⟨3, ![16, 896, 1024]⟩ 0 4 c v2
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r =>
          r.2.mem (((0 : Dev Cert.Reference32Ideal.nD).tc : Thread Cert.Reference32Ideal.nD Cert.Reference32Ideal.τ).loc Cert.Reference32Ideal.main_v4) = v0
          ∧ r.2.mem (((0 : Dev Cert.Reference32Ideal.nD).tc : Thread Cert.Reference32Ideal.nD Cert.Reference32Ideal.τ).loc Cert.Reference32Ideal.main_v9) = v1
          ∧ r.2.mem (((0 : Dev Cert.Reference32Ideal.nD).tc : Thread Cert.Reference32Ideal.nD Cert.Reference32Ideal.τ).loc Cert.Reference32Ideal.main_v14) = v2
          ∧ r.2.mem (((0 : Dev Cert.Reference32Ideal.nD).tc : Thread Cert.Reference32Ideal.nD Cert.Reference32Ideal.τ).loc Cert.Reference32Ideal.main_arg0) = m' (((0 : Dev Cert.Reference32Ideal.nD).tc : Thread Cert.Reference32Ideal.nD Cert.Reference32Ideal.τ).loc Cert.Reference32Ideal.main_arg0)
          ∧ r.2.mem (((0 : Dev Cert.Reference32Ideal.nD).tc : Thread Cert.Reference32Ideal.nD Cert.Reference32Ideal.τ).loc Cert.Reference32Ideal.main_arg1) = m' (((0 : Dev Cert.Reference32Ideal.nD).tc : Thread Cert.Reference32Ideal.nD Cert.Reference32Ideal.τ).loc Cert.Reference32Ideal.main_arg1)
          ∧ r.2.mem (((0 : Dev Cert.Reference32Ideal.nD).tc : Thread Cert.Reference32Ideal.nD Cert.Reference32Ideal.τ).loc Cert.Reference32Ideal.main_arg2) = m' (((0 : Dev Cert.Reference32Ideal.nD).tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m ((c.tc : Thread Cert.Kernel33Ideal.nD Cert.Kernel33Ideal.τ).loc Cert.Kernel33Ideal.main_arg0) = Layout.block ⟨2, ![4096, 2051]⟩ ⟨2, ![32768, 2051]⟩ 0 8 c (m' (((0 : Dev Cert.Reference33Ideal.nD).tc : Thread Cert.Reference33Ideal.nD Cert.Reference33Ideal.τ).loc Cert.Reference33Ideal.main_arg0))
      ∧ m ((c.tc : Thread Cert.Kernel33Ideal.nD Cert.Kernel33Ideal.τ).loc Cert.Kernel33Ideal.main_arg1) = Layout.block ⟨2, ![3328, 1024]⟩ ⟨2, ![26624, 1024]⟩ 0 8 c (m' (((0 : Dev Cert.Reference33Ideal.nD).tc : Thread Cert.Reference33Ideal.nD Cert.Reference33Ideal.τ).loc Cert.Reference33Ideal.main_arg1))) →
    ∃ (v0 : Buf (Elt Ideal) (((0 : Dev Cert.Reference33Ideal.nD).tc : Thread Cert.Reference33Ideal.nD Cert.Reference33Ideal.τ).loc Cert.Reference33Ideal.main_v0)) (v1 : Buf (Elt Ideal) (((0 : Dev Cert.Reference33Ideal.nD).tc : Thread Cert.Reference33Ideal.nD Cert.Reference33Ideal.τ).loc Cert.Reference33Ideal.main_v1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1_0) = v0
          ∧ r.2.mem ((c.tc : Thread Cert.Kernel33Ideal.nD Cert.Kernel33Ideal.τ).loc Cert.Kernel33Ideal.main_v1_1) = v1
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r =>
          r.2.mem (((0 : Dev Cert.Reference33Ideal.nD).tc : Thread Cert.Reference33Ideal.nD Cert.Reference33Ideal.τ).loc Cert.Reference33Ideal.main_v0) = v0
          ∧ r.2.mem (((0 : Dev Cert.Reference33Ideal.nD).tc : Thread Cert.Reference33Ideal.nD Cert.Reference33Ideal.τ).loc Cert.Reference33Ideal.main_v1) = v1
          ∧ r.2.mem (((0 : Dev Cert.Reference33Ideal.nD).tc : Thread Cert.Reference33Ideal.nD Cert.Reference33Ideal.τ).loc Cert.Reference33Ideal.main_arg0) = m' (((0 : Dev Cert.Reference33Ideal.nD).tc : Thread Cert.Reference33Ideal.nD Cert.Reference33Ideal.τ).loc Cert.Reference33Ideal.main_arg0)
          ∧ r.2.mem (((0 : Dev Cert.Reference33Ideal.nD).tc : Thread Cert.Reference33Ideal.nD Cert.Reference33Ideal.τ).loc Cert.Reference33Ideal.main_arg1) = m' (((0 : Dev Cert.Reference33Ideal.nD).tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v17) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v12) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v47) = v0 c
          ∧ r.2.mem ((c.tc : Thread Cert.Reference36Ideal.nD Cert.Reference36Ideal.τ).loc Cert.Reference36Ideal.main_v24) = v1 c
          ∧ r.2.mem ((c.tc : Thread Cert.Reference36Ideal.nD Cert.Reference36Ideal.τ).loc Cert.Reference36Ideal.main_v46) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v18) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v6) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)
      ∧ m' ((c.tc : Thread Cert.Reference39Ideal.nD Cert.Reference39Ideal.τ).loc Cert.Reference39Ideal.main_arg4) = m ((c.tc : Thread Cert.Kernel39Ideal.nD Cert.Kernel39Ideal.τ).loc Cert.Kernel39Ideal.main_arg4)
      ∧ m' ((c.tc : Thread Cert.Reference39Ideal.nD Cert.Reference39Ideal.τ).loc Cert.Reference39Ideal.main_arg5) = m ((c.tc : Thread Cert.Kernel39Ideal.nD Cert.Kernel39Ideal.τ).loc Cert.Kernel39Ideal.main_arg5)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)) (v3 : (c : Dev Cert.Kernel39Ideal.nD) → Buf (Elt Ideal) ((c.tc : Thread Cert.Kernel39Ideal.nD Cert.Kernel39Ideal.τ).loc Cert.Kernel39Ideal.main_v0_3)) (v4 : (c : Dev Cert.Kernel39Ideal.nD) → Buf (Elt Ideal) ((c.tc : Thread Cert.Kernel39Ideal.nD Cert.Kernel39Ideal.τ).loc Cert.Kernel39Ideal.main_v0_4)) (v5 : (c : Dev Cert.Kernel39Ideal.nD) → Buf (Elt Ideal) ((c.tc : Thread Cert.Kernel39Ideal.nD Cert.Kernel39Ideal.τ).loc Cert.Kernel39Ideal.main_v0_5)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_v0_3) = v3 c
          ∧ r.2.mem ((c.tc : Thread Cert.Kernel39Ideal.nD Cert.Kernel39Ideal.τ).loc Cert.Kernel39Ideal.main_v0_4) = v4 c
          ∧ r.2.mem ((c.tc : Thread Cert.Kernel39Ideal.nD Cert.Kernel39Ideal.τ).loc Cert.Kernel39Ideal.main_v0_5) = v5 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
          ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
          ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v68) = v0 c
          ∧ r.2.mem ((c.tc : Thread Cert.Reference39Ideal.nD Cert.Reference39Ideal.τ).loc Cert.Reference39Ideal.main_v70) = v1 c
          ∧ r.2.mem ((c.tc : Thread Cert.Reference39Ideal.nD Cert.Reference39Ideal.τ).loc Cert.Reference39Ideal.main_v45) = v2 c
          ∧ r.2.mem ((c.tc : Thread Cert.Reference39Ideal.nD Cert.Reference39Ideal.τ).loc Cert.Reference39Ideal.main_v73) = v3 c
          ∧ r.2.mem ((c.tc : Thread Cert.Reference39Ideal.nD Cert.Reference39Ideal.τ).loc Cert.Reference39Ideal.main_v52) = v4 c
          ∧ r.2.mem ((c.tc : Thread Cert.Reference39Ideal.nD Cert.Reference39Ideal.τ).loc Cert.Reference39Ideal.main_v50) = v5 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3)
          ∧ r.2.mem ((c.tc : Thread Cert.Reference39Ideal.nD Cert.Reference39Ideal.τ).loc Cert.Reference39Ideal.main_arg4) = m' ((c.tc : Thread Cert.Reference39Ideal.nD Cert.Reference39Ideal.τ).loc Cert.Reference39Ideal.main_arg4)
          ∧ r.2.mem ((c.tc : Thread Cert.Reference39Ideal.nD Cert.Reference39Ideal.τ).loc Cert.Reference39Ideal.main_arg5) = m' ((c.tc : Thread Cert.Reference39Ideal.nD Cert.Reference39Ideal.τ).loc Cert.Reference39Ideal.main_arg5))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)
      ∧ m' ((c.tc : Thread Cert.Reference40Ideal.nD Cert.Reference40Ideal.τ).loc Cert.Reference40Ideal.main_arg4) = m ((c.tc : Thread Cert.Kernel40Ideal.nD Cert.Kernel40Ideal.τ).loc Cert.Kernel40Ideal.main_arg4)) →
    ∃ (v0 : (c : Dev Cert.Kernel40Ideal.nD) → Buf (Elt Ideal) ((c.tc : Thread Cert.Kernel40Ideal.nD Cert.Kernel40Ideal.τ).loc Cert.Kernel40Ideal.main_v0)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
          ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v31) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3)
          ∧ r.2.mem ((c.tc : Thread Cert.Reference40Ideal.nD Cert.Reference40Ideal.τ).loc Cert.Reference40Ideal.main_arg4) = m' ((c.tc : Thread Cert.Reference40Ideal.nD Cert.Reference40Ideal.τ).loc Cert.Reference40Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hPre_finite : Cert.Pre_finite.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
-- ==== Pre_finite.lean ====
abbrev S8192x1024 : Shape := ⟨2, ![8192, 1024]⟩
abbrev S8192x256 : Shape := ⟨2, ![8192, 256]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn_part1 {F : FTy → Type} [FloatOps F] (main_v10 : IVec S_ 1) (main_v15 : IVec S_ 1) (main_v16 : FVec F S8192x1024 .f32) (main_cst_4 : FVec F S_ .f32) : IVec S_ 1 :=
  let main_v17 : FVec F S8192x1024 .f32 := broadcastInDim S8192x1024 ![] bcast_S_S8192x1024 main_cst_4
  let main_v18 : IVec S8192x1024 1 := cmpf .olt main_v16 main_v17
  let main_c_5 : IVec S_ 1 := constantI S_ 1 1#1
  let main_v19 : IVec S_ 1 := (fun x v => Host.reduce IntOp.andi x v reducesTo_S8192x1024_S_d0_1 h_S_) main_v18 main_c_5
  let main_v20 : IVec S_ 1 := andi main_v15 main_v19
  let main_v21 : IVec S_ 1 := andi main_v10 main_v20
  main_v21

def fn {F : FTy → Type} [FloatOps F] (main_arg0 : FVec F S8192x1024 .bf16) (main_arg1 : FVec F S8192x256 .bf16) (main_arg2 : FVec F S8192x256 .bf16) (main_arg3 : FVec F S8192x1024 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x256 .f32 := (extf .f32 · bitsLt_bf16_f32) main_arg1
  let main_v6 : FVec F S8192x256 .f32 := Host.absf main_v5
  let main_cst_0 : FVec F S_ .f32 := constant S_ .f32 0x7F800000#32
  let main_v7 : FVec F S8192x256 .f32 := broadcastInDim S8192x256 ![] bcast_S_S8192x256 main_cst_0
  let main_v8 : IVec S8192x256 1 := cmpf .olt main_v6 main_v7
  let main_c_1 : IVec S_ 1 := constantI S_ 1 1#1
  let main_v9 : IVec S_ 1 := (fun x v => Host.reduce IntOp.andi x v reducesTo_S8192x256_S_d0_1 h_S_) main_v8 main_c_1
  let main_v10 : IVec S_ 1 := andi main_v4 main_v9
  let main_v11 : FVec F S8192x256 .f32 := (extf .f32 · bitsLt_bf16_f32) main_arg2
  let main_v12 : FVec F S8192x256 .f32 := Host.absf main_v11
  let main_cst_2 : FVec F S_ .f32 := constant S_ .f32 0x7F800000#32
  let main_v13 : FVec F S8192x256 .f32 := broadcastInDim S8192x256 ![] bcast_S_S8192x256 main_cst_2
  let main_v14 : IVec S8192x256 1 := cmpf .olt main_v12 main_v13
  let main_c_3 : IVec S_ 1 := constantI S_ 1 1#1
  let main_v15 : IVec S_ 1 := (fun x v => Host.reduce IntOp.andi x v reducesTo_S8192x256_S_d0_1 h_S_) main_v14 main_c_3
  let main_v16 : FVec F S8192x1024 .f32 := Host.absf main_arg3
  let main_cst_4 : FVec F S_ .f32 := constant S_ .f32 0x7F800000#32
  fn_part1 (F := F) main_v10 main_v15 main_v16 main_cst_4
-- ==== Pre_finite8.lean ====
abbrev S8192x1024 : Shape := ⟨2, ![8192, 1024]⟩
abbrev S8192x256 : Shape := ⟨2, ![8192, 256]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S8192x1024 .bf16) (main_arg1 : FVec F S8192x256 .bf16) (main_arg2 : FVec F S8192x256 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x256 .f32 := (extf .f32 · bitsLt_bf16_f32) main_arg1
  let main_v6 : FVec F S8192x256 .f32 := Host.absf main_v5
  let main_cst_0 : FVec F S_ .f32 := constant S_ .f32 0x7F800000#32
  let main_v7 : FVec F S8192x256 .f32 := broadcastInDim S8192x256 ![] bcast_S_S8192x256 main_cst_0
  let main_v8 : IVec S8192x256 1 := cmpf .olt main_v6 main_v7
  let main_c_1 : IVec S_ 1 := constantI S_ 1 1#1
  let main_v9 : IVec S_ 1 := (fun x v => Host.reduce IntOp.andi x v reducesTo_S8192x256_S_d0_1 h_S_) main_v8 main_c_1
  let main_v10 : FVec F S8192x256 .f32 := (extf .f32 · bitsLt_bf16_f32) main_arg2
  let main_v11 : FVec F S8192x256 .f32 := Host.absf main_v10
  let main_cst_2 : FVec F S_ .f32 := constant S_ .f32 0x7F800000#32
  let main_v12 : FVec F S8192x256 .f32 := broadcastInDim S8192x256 ![] bcast_S_S8192x256 main_cst_2
  let main_v13 : IVec S8192x256 1 := cmpf .olt main_v11 main_v12
  let main_c_3 : IVec S_ 1 := constantI S_ 1 1#1
  let main_v14 : IVec S_ 1 := (fun x v => Host.reduce IntOp.andi x v reducesTo_S8192x256_S_d0_1 h_S_) main_v13 main_c_3
  let main_v15 : IVec S_ 1 := andi main_v9 main_v14
  let main_v16 : IVec S_ 1 := andi main_v4 main_v15
  main_v16
-- ==== Kernel.lean ====
abbrev S8192x1024 : Shape := ⟨2, ![8192, 1024]⟩
abbrev S8192x256 : Shape := ⟨2, ![8192, 256]⟩
abbrev S8192x2x4x128 : Shape := ⟨4, ![8192, 2, 4, 128]⟩
abbrev S8192x2x128 : Shape := ⟨3, ![8192, 2, 128]⟩
abbrev S2x8192x8192x4 : Shape := ⟨4, ![2, 8192, 8192, 4]⟩
abbrev S8192x2x4x8192 : Shape := ⟨4, ![8192, 2, 4, 8192]⟩
abbrev S_ : Shape := ⟨0, ![]⟩
abbrev S8192x2x4 : Shape := ⟨3, ![8192, 2, 4]⟩
abbrev S8192x2x4x1 : Shape := ⟨4, ![8192, 2, 4, 1]⟩
abbrev S2x4x8192x8192 : Shape := ⟨4, ![2, 4, 8192, 8192]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S8192x8x128 : Shape := ⟨3, ![8192, 8, 128]⟩
abbrev S8192x8 : Shape := ⟨2, ![8192, 8]⟩
abbrev S8192x8x1 : Shape := ⟨3, ![8192, 8, 1]⟩
abbrev S2048x128 : Shape := ⟨2, ![2048, 128]⟩
abbrev S8192x128 : Shape := ⟨2, ![8192, 128]⟩
abbrev S2048x2048 : Shape := ⟨2, ![2048, 2048]⟩

abbrev nBuf : Space → Nat
  | .hbm => 58
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x256, .bf16⟩
  | .hbm, ⟨3, _⟩ => ⟨S8192x1024, .f32⟩
  | .hbm, ⟨4, _⟩ => ⟨S8192x1024, .f32⟩
  | .hbm, ⟨5, _⟩ => ⟨S8192x2x4x128, .f32⟩
  | .hbm, ⟨6, _⟩ => ⟨S8192x256, .f32⟩
  | .hbm, ⟨7, _⟩ => ⟨S8192x2x128, .f32⟩
  | .hbm, ⟨8, _⟩ => ⟨S2x8192x8192x4, .f32⟩
  | .hbm, ⟨9, _⟩ => ⟨S8192x2x4x8192, .f32⟩
  | .hbm, ⟨10, _⟩ => ⟨S_, .f32⟩
  | .hbm, ⟨11, _⟩ => ⟨S8192x2x4, .f32⟩
  | .hbm, ⟨12, _⟩ => ⟨S8192x2x4x1, .f32⟩
  | .hbm, ⟨13, _⟩ => ⟨S8192x2x4x8192, .f32⟩
  | .hbm, ⟨14, _⟩ => ⟨S8192x2x4x8192, .f32⟩
  | .hbm, ⟨15, _⟩ => ⟨S8192x2x4x8192, .f32⟩
  | .hbm, ⟨16, _⟩ => ⟨S_, .f32⟩
  | .hbm, ⟨17, _⟩ => ⟨S8192x2x4, .f32⟩
  | .hbm, ⟨18, _⟩ => ⟨S8192x2x4, .f32⟩
  | .hbm, ⟨19, _⟩ => ⟨S8192x2x4, .f32⟩
  | .hbm, ⟨20, _⟩ => ⟨S8192x1024, .f32⟩
  | .hbm, ⟨21, _⟩ => ⟨S8192x2x4x128, .f32⟩
  | .hbm, ⟨22, _⟩ => ⟨S8192x256, .f32⟩
  | .hbm, ⟨23, _⟩ => ⟨S8192x2x128, .f32⟩
  | .hbm, ⟨24, _⟩ => ⟨S8192x256, .f32⟩
  | .hbm, ⟨25, _⟩ => ⟨S8192x2x128, .f32⟩
  | .hbm, ⟨26, _⟩ => ⟨S2x8192x8192x4, .f32⟩
  | .hbm, ⟨27, _⟩ => ⟨S2x4x8192x8192, .f32⟩
  | .hbm, ⟨28, _⟩ => ⟨S_, .f32⟩
  | .hbm, ⟨29, _⟩ => ⟨S2x4x8192, .f32⟩
  | .hbm, ⟨30, _⟩ => ⟨S_, .f32⟩
  | .hbm, ⟨31, _⟩ => ⟨S2x4x8192, .f32⟩
  | .hbm, ⟨32, _⟩ => ⟨S2x4x8192, .f32⟩
  | .hbm, ⟨33, _⟩ => ⟨S2x4x8192x1, .f32⟩
  | .hbm, ⟨34, _⟩ => ⟨S2x4x8192x8192, .f32⟩
  | .hbm, ⟨35, _⟩ => ⟨S2x4x8192x8192, .f32⟩
  | .hbm, ⟨36, _⟩ => ⟨S2x4x8192x8192, .f32⟩
  | .hbm, ⟨37, _⟩ => ⟨S_, .f32⟩
  | .hbm, ⟨38, _⟩ => ⟨S2x4x8192, .f32⟩
  | .hbm, ⟨39, _⟩ => ⟨S2x4x8192x1, .f32⟩
  | .hbm, ⟨40, _⟩ => ⟨S2x4x8192x8192, .f32⟩
  | .hbm, ⟨41, _⟩ => ⟨S2x4x8192x8192, .f32⟩
  | .hbm, ⟨42, _⟩ => ⟨S2x128x4x8192, .f32⟩
  | .hbm, ⟨43, _⟩ => ⟨S8192x2x4x128, .f32⟩
  | .hbm, ⟨44, _⟩ => ⟨S8192x1024, .f32⟩
  | .hbm, ⟨45, _⟩ => ⟨S8192x1024, .f32⟩
  | .hbm, ⟨46, _⟩ => ⟨S8192x8x128, .f32⟩
  | .hbm, ⟨47, _⟩ => ⟨S_, .f32⟩
  | .hbm, ⟨48, _⟩ => ⟨S8192x8, .f32⟩
  | .hbm, ⟨49, _⟩ => ⟨S8192x8x1, .f32⟩
  | .hbm, ⟨50, _⟩ => ⟨S8192x8x128, .f32⟩
  | .hbm, ⟨51, _⟩ => ⟨S8192x1024, .f32⟩
  | .hbm, ⟨52, _⟩ => ⟨S8192x8x1, .f32⟩
  | .hbm, ⟨53, _⟩ => ⟨S8192x8x128, .f32⟩
  | .hbm, ⟨54, _⟩ => ⟨S8192x1024, .f32⟩
  | .hbm, ⟨55, _⟩ => ⟨S8192x1024, .f32⟩
  | .hbm, ⟨56, _⟩ => ⟨S8192x256, .f32⟩
  | .hbm, ⟨57, _⟩ => ⟨S8192x256, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S8192x128, .f32⟩
  | .local _ .vmem, ⟨15, _⟩ => ⟨S8192x128, .f32⟩
  | .local _ .vmem, ⟨16, _⟩ => ⟨S8192x128, .f32⟩
  | .local _ .vmem, ⟨17, _⟩ => ⟨S8192x128, .f32⟩
  | .local _ .vmem, ⟨18, _⟩ => ⟨S2048x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45_0 : Ref sig .tc := ⟨.hbm, 55, rfl⟩
abbrev main_v45_1 : Ref sig .tc := ⟨.hbm, 56, rfl⟩
abbrev main_v45_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨4, ![2, 4, 4, 4], ![false, false, false, false]⟩

def k0_mult1 (i : grid0.Coords) : BitVec 32 :=
  let arg3 : BitVec 32 := BitVec.ofNat 32 (i 3).val
  let c2048_i32 : BitVec 32 := 2048#32
  let v34 : BitVec 32 := Scalar.muli arg3 c2048_i32
  v34
def k0_off1 (i : grid0.Coords) : Fin 2 → Nat :=
  let arg3 : BitVec 32 := BitVec.ofNat 32 (i 3).val
  let c2048_i32 : BitVec 32 := 2048#32
  let v34 : BitVec 32 := Scalar.muli arg3 c2048_i32
  let v35 : BitVec 32 := v34
  let v36 : Index := Scalar.indexCast v35
  let c0_22 : Index := 0#32
  ![v36.toNat, 0]
def k0_cond3 (i : grid0.Coords) : BitVec 1 :=
  let arg3 : BitVec 32 := BitVec.ofNat 32 (i 3).val
  let c3_i32 : BitVec 32 := 3#32
  let v51 : BitVec 1 := Scalar.cmpi .eq arg3 c3_i32
  let v52 : BitVec 32 := Scalar.extui v51
  let c0_i32_28 : BitVec 32 := 0#32
  let v53 : BitVec 1 := Scalar.cmpi .ne v52 c0_i32_28
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false, false]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false, false]
-- ==== ReferenceIdeal.lean ====
abbrev S8192x1024 : Shape := ⟨2, ![8192, 1024]⟩
abbrev S8192x256 : Shape := ⟨2, ![8192, 256]⟩
abbrev S8192x2x4x128 : Shape := ⟨4, ![8192, 2, 4, 128]⟩
abbrev S8192x2x128 : Shape := ⟨3, ![8192, 2, 128]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S2x128x8192 : Shape := ⟨3, ![2, 128, 8192]⟩
abbrev S2x8192x4x128 : Shape := ⟨4, ![2, 8192, 4, 128]⟩
abbrev S2x8192x128 : Shape := ⟨3, ![2, 8192, 128]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x256, .bf16⟩
  | .hbm, ⟨3, _⟩ => ⟨S8192x1024, .f32⟩
  | .hbm, ⟨4, _⟩ => ⟨S8192x1024, .f32⟩
  | .hbm, ⟨5, _⟩ => ⟨S8192x256, .f32⟩
  | .hbm, ⟨6, _⟩ => ⟨S8192x256, .f32⟩
  | .hbm, ⟨7, _⟩ => ⟨S8192x2x4x128, .f32⟩
  | .hbm, ⟨8, _⟩ => ⟨S8192x2x128, .f32⟩
  | .hbm, ⟨9, _⟩ => ⟨S8192x2x128, .f32⟩
  | .hbm, ⟨10, _⟩ => ⟨S2x8192x8192x4, .f32⟩
  | .hbm, ⟨11, _⟩ => ⟨S2x4x8192x8192, .f32⟩
  | .hbm, ⟨12, _⟩ => ⟨S_, .f32⟩
  | .hbm, ⟨13, _⟩ => ⟨S2x4x8192, .f32⟩
  | .hbm, ⟨14, _⟩ => ⟨S2x4x8192x1, .f32⟩
  | .hbm, ⟨15, _⟩ => ⟨S2x4x8192x8192, .f32⟩
  | .hbm, ⟨16, _⟩ => ⟨S2x4x8192x8192, .i1⟩
  | .hbm, ⟨17, _⟩ => ⟨S2x4x8192x8192, .f32⟩
  | .hbm, ⟨18, _⟩ => ⟨S_, .f32⟩
  | .hbm, ⟨19, _⟩ => ⟨S2x4x8192, .f32⟩
  | .hbm, ⟨20, _⟩ => ⟨S_, .f32⟩
  | .hbm, ⟨21, _⟩ => ⟨S2x4x8192, .f32⟩
  | .hbm, ⟨22, _⟩ => ⟨S2x4x8192, .f32⟩
  | .hbm, ⟨23, _⟩ => ⟨S_, .f32⟩
  | .hbm, ⟨24, _⟩ => ⟨S2x4x8192, .f32⟩
  | .hbm, ⟨25, _⟩ => ⟨S2x4x8192, .i1⟩
  | .hbm, ⟨26, _⟩ => ⟨S_, .f32⟩
  | .hbm, ⟨27, _⟩ => ⟨S2x4x8192, .f32⟩
  | .hbm, ⟨28, _⟩ => ⟨S2x4x8192, .i1⟩
  | .hbm, ⟨29, _⟩ => ⟨S_, .f32⟩
  | .hbm, ⟨30, _⟩ => ⟨S2x4x8192, .f32⟩
  | .hbm, ⟨31, _⟩ => ⟨S_, .f32⟩
  | .hbm, ⟨32, _⟩ => ⟨S2x4x8192, .f32⟩
  | .hbm, ⟨33, _⟩ => ⟨S_, .f32⟩
  | .hbm, ⟨34, _⟩ => ⟨S2x4x8192, .f32⟩
  | .hbm, ⟨35, _⟩ => ⟨S2x4x8192, .f32⟩
  | .hbm, ⟨36, _⟩ => ⟨S2x4x8192, .f32⟩
  | .hbm, ⟨37, _⟩ => ⟨S2x4x8192x1, .f32⟩
  | .hbm, ⟨38, _⟩ => ⟨S2x4x8192x8192, .f32⟩
  | .hbm, ⟨39, _⟩ => ⟨S2x4x8192x8192, .f32⟩
  | .hbm, ⟨40, _⟩ => ⟨S2x4x8192x8192, .f32⟩
  | .hbm, ⟨41, _⟩ => ⟨S_, .f32⟩
  | .hbm, ⟨42, _⟩ => ⟨S2x4x8192, .f32⟩
  | .hbm, ⟨43, _⟩ => ⟨S2x4x8192x1, .f32⟩
  | .hbm, ⟨44, _⟩ => ⟨S2x4x8192x8192, .f32⟩
  | .hbm, ⟨45, _⟩ => ⟨S2x4x8192x8192, .f32⟩
  | .hbm, ⟨46, _⟩ => ⟨S2x4x8192x1, .f32⟩
  | .hbm, ⟨47, _⟩ => ⟨S_, .f32⟩
  | .hbm, ⟨48, _⟩ => ⟨S2x4x8192x1, .f32⟩
  | .hbm, ⟨49, _⟩ => ⟨S2x4x8192x1, .f32⟩
  | .hbm, ⟨50, _⟩ => ⟨S2x128x4x8192, .f32⟩
  | .hbm, ⟨51, _⟩ => ⟨S8192x2x4x128, .f32⟩
  | .hbm, ⟨52, _⟩ => ⟨S8192x1024, .f32⟩
  | .hbm, ⟨53, _⟩ => ⟨S8192x2x4x128, .f32⟩
  | .hbm, ⟨54, _⟩ => ⟨S2x128x4x8192, .f32⟩
  | .hbm, ⟨55, _⟩ => ⟨S2x4x8192x8192, .f32⟩
  | .hbm, ⟨56, _⟩ => ⟨S2x128x8192, .f32⟩
  | .hbm, ⟨57, _⟩ => ⟨S8192x2x128, .f32⟩
  | .hbm, ⟨58, _⟩ => ⟨S2x4x8192x8192, .f32⟩
  | .hbm, ⟨59, _⟩ => ⟨S2x4x8192x8192, .f32⟩
  | .hbm, ⟨60, _⟩ => ⟨S2x4x8192x8192, .f32⟩
  | .hbm, ⟨61, _⟩ => ⟨S_, .f32⟩
  | .hbm, ⟨62, _⟩ => ⟨S2x4x8192, .f32⟩
  | .hbm, ⟨63, _⟩ => ⟨S2x4x8192x1, .f32⟩
  | .hbm, ⟨64, _⟩ => ⟨S2x4x8192x1, .f32⟩
  | .hbm, ⟨65, _⟩ => ⟨S2x4x8192x8192, .f32⟩
  | .hbm, ⟨66, _⟩ => ⟨S2x4x8192x8192, .f32⟩
  | .hbm, ⟨67, _⟩ => ⟨S_, .f32⟩
  | .hbm, ⟨68, _⟩ => ⟨S2x4x8192, .f32⟩
  | .hbm, ⟨69, _⟩ => ⟨S2x4x8192x8192, .f32⟩
  | .hbm, ⟨70, _⟩ => ⟨S2x4x8192x8192, .f32⟩
  | .hbm, ⟨71, _⟩ => ⟨S2x4x8192x8192, .f32⟩
  | .hbm, ⟨72, _⟩ => ⟨S2x8192x8192x4, .f32⟩
  | .hbm, ⟨73, _⟩ => ⟨S2x8192x4x128, .f32⟩
  | .hbm, ⟨74, _⟩ => ⟨S8192x2x4x128, .f32⟩
  | .hbm, ⟨75, _⟩ => ⟨S2x8192x128, .f32⟩
  | .hbm, ⟨76, _⟩ => ⟨S8192x2x128, .f32⟩
  | .hbm, ⟨77, _⟩ => ⟨S8192x256, .f32⟩
  | .hbm, ⟨78, _⟩ => ⟨S8192x256, .f32⟩
  | .hbm, ⟨79, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Kernel2.lean ====
abbrev S8192x2048 : Shape := ⟨2, ![8192, 2048]⟩
abbrev S8192x16896 : Shape := ⟨2, ![8192, 16896]⟩
abbrev S2048x16896 : Shape := ⟨2, ![2048, 16896]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x16896, .bf16⟩
  | .hbm, ⟨2, _⟩ => ⟨S2048x16896, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S8192x16896 : Shape := ⟨2, ![8192, 16896]⟩
abbrev S_ : Shape := ⟨0, ![]⟩
abbrev S2048x16896 : Shape := ⟨2, ![2048, 16896]⟩
abbrev S16896x2048 : Shape := ⟨2, ![16896, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x16896, .bf16⟩
  | .hbm, ⟨2, _⟩ => ⟨S_, .f32⟩
  | .hbm, ⟨3, _⟩ => ⟨S2048x16896, .f32⟩
  | .hbm, ⟨4, _⟩ => ⟨S8192x2048, .f32⟩
  | .hbm, ⟨5, _⟩ => ⟨S8192x16896, .f32⟩
  | .hbm, ⟨6, _⟩ => ⟨S8192x16896, .f32⟩
  | .hbm, ⟨7, _⟩ => ⟨S16896x2048, .f32⟩
  | .hbm, ⟨8, _⟩ => ⟨S2048x16896, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x16896 : Shape := ⟨2, ![8192, 16896]⟩
abbrev S2048x16896 : Shape := ⟨2, ![2048, 16896]⟩
abbrev S8192x2048 : Shape := ⟨2, ![8192, 2048]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x16896, .bf16⟩
  | .hbm, ⟨1, _⟩ => ⟨S2048x16896, .bf16⟩
  | .hbm, ⟨2, _⟩ => ⟨S8192x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x16896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x16896 : Shape := ⟨2, ![8192, 16896]⟩
abbrev S2048x16896 : Shape := ⟨2, ![2048, 16896]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x16896, .bf16⟩
  | .hbm, ⟨1, _⟩ => ⟨S2048x16896, .bf16⟩
  | .hbm, ⟨2, _⟩ => ⟨S_, .f32⟩
  | .hbm, ⟨3, _⟩ => ⟨S8192x2048, .f32⟩
  | .hbm, ⟨4, _⟩ => ⟨S2048x16896, .f32⟩
  | .hbm, ⟨5, _⟩ => ⟨S8192x16896, .f32⟩
  | .hbm, ⟨6, _⟩ => ⟨S8192x16896, .f32⟩
  | .hbm, ⟨7, _⟩ => ⟨S8192x2048, .f32⟩
  | _, _ => ⟨S8192x16896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x2048 : Shape := ⟨2, ![8192, 2048]⟩
abbrev S2048x16896 : Shape := ⟨2, ![2048, 16896]⟩
abbrev S8192x16896 : Shape := ⟨2, ![8192, 16896]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x16896, .bf16⟩
  | .hbm, ⟨2, _⟩ => ⟨S8192x16896, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S2048x16896 : Shape := ⟨2, ![2048, 16896]⟩
abbrev S8192x16896 : Shape := ⟨2, ![8192, 16896]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x16896, .bf16⟩
  | .hbm, ⟨2, _⟩ => ⟨S8192x2048, .f32⟩
  | .hbm, ⟨3, _⟩ => ⟨S2048x16896, .f32⟩
  | .hbm, ⟨4, _⟩ => ⟨S8192x16896, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x1024 : Shape := ⟨2, ![8192, 1024]⟩
abbrev S8192x256 : Shape := ⟨2, ![8192, 256]⟩
abbrev S2048x128 : Shape := ⟨2, ![2048, 128]⟩
abbrev S2048x2048 : Shape := ⟨2, ![2048, 2048]⟩
abbrev S2048 : Shape := ⟨1, ![2048]⟩
abbrev S2048x1 : Shape := ⟨2, ![2048, 1]⟩

abbrev nBuf : Space → Nat
  | .hbm => 5
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x256, .bf16⟩
  | .hbm, ⟨3, _⟩ => ⟨S8192x1024, .f32⟩
  | .hbm, ⟨4, _⟩ => ⟨S8192x1024, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v37 : BitVec 1 := Scalar.cmpi .eq arg2 c3_i32
  let v38 : BitVec 32 := Scalar.extui v37
  let c0_i32_21 : BitVec 32 := 0#32
  let v39 : BitVec 1 := Scalar.cmpi .ne v38 c0_i32_21
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg2.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg2.toNat, v16.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference8Ideal.lean ====
abbrev S8192x1024 : Shape := ⟨2, ![8192, 1024]⟩
abbrev S8192x256 : Shape := ⟨2, ![8192, 256]⟩
abbrev S8192x2x4x128 : Shape := ⟨4, ![8192, 2, 4, 128]⟩
abbrev S8192x2x128 : Shape := ⟨3, ![8192, 2, 128]⟩
abbrev S2x8192x8192x4 : Shape := ⟨4, ![2, 8192, 8192, 4]⟩
abbrev S8192x2x4x8192 : Shape := ⟨4, ![8192, 2, 4, 8192]⟩
abbrev S_ : Shape := ⟨0, ![]⟩
abbrev S8192x2x4 : Shape := ⟨3, ![8192, 2, 4]⟩
abbrev S8192x2x4x1 : Shape := ⟨4, ![8192, 2, 4, 1]⟩
abbrev S8192x8x1 : Shape := ⟨3, ![8192, 8, 1]⟩
abbrev S2x4x8192x8192 : Shape := ⟨4, ![2, 4, 8192, 8192]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S8192x8x128 : Shape := ⟨3, ![8192, 8, 128]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x256, .bf16⟩
  | .hbm, ⟨3, _⟩ => ⟨S8192x1024, .f32⟩
  | .hbm, ⟨4, _⟩ => ⟨S8192x2x4x128, .f32⟩
  | .hbm, ⟨5, _⟩ => ⟨S8192x256, .f32⟩
  | .hbm, ⟨6, _⟩ => ⟨S8192x2x128, .f32⟩
  | .hbm, ⟨7, _⟩ => ⟨S2x8192x8192x4, .f32⟩
  | .hbm, ⟨8, _⟩ => ⟨S8192x2x4x8192, .f32⟩
  | .hbm, ⟨9, _⟩ => ⟨S_, .f32⟩
  | .hbm, ⟨10, _⟩ => ⟨S8192x2x4, .f32⟩
  | .hbm, ⟨11, _⟩ => ⟨S8192x2x4x1, .f32⟩
  | .hbm, ⟨12, _⟩ => ⟨S8192x2x4x8192, .f32⟩
  | .hbm, ⟨13, _⟩ => ⟨S8192x2x4x8192, .f32⟩
  | .hbm, ⟨14, _⟩ => ⟨S8192x2x4x8192, .f32⟩
  | .hbm, ⟨15, _⟩ => ⟨S_, .f32⟩
  | .hbm, ⟨16, _⟩ => ⟨S8192x2x4, .f32⟩
  | .hbm, ⟨17, _⟩ => ⟨S8192x2x4, .f32⟩
  | .hbm, ⟨18, _⟩ => ⟨S8192x2x4, .f32⟩
  | .hbm, ⟨19, _⟩ => ⟨S8192x8x1, .f32⟩
  | .hbm, ⟨20, _⟩ => ⟨S8192x1024, .f32⟩
  | .hbm, ⟨21, _⟩ => ⟨S8192x2x4x128, .f32⟩
  | .hbm, ⟨22, _⟩ => ⟨S8192x256, .f32⟩
  | .hbm, ⟨23, _⟩ => ⟨S8192x2x128, .f32⟩
  | .hbm, ⟨24, _⟩ => ⟨S8192x256, .f32⟩
  | .hbm, ⟨25, _⟩ => ⟨S8192x2x128, .f32⟩
  | .hbm, ⟨26, _⟩ => ⟨S2x8192x8192x4, .f32⟩
  | .hbm, ⟨27, _⟩ => ⟨S2x4x8192x8192, .f32⟩
  | .hbm, ⟨28, _⟩ => ⟨S_, .f32⟩
  | .hbm, ⟨29, _⟩ => ⟨S2x4x8192, .f32⟩
  | .hbm, ⟨30, _⟩ => ⟨S_, .f32⟩
  | .hbm, ⟨31, _⟩ => ⟨S2x4x8192, .f32⟩
  | .hbm, ⟨32, _⟩ => ⟨S2x4x8192, .f32⟩
  | .hbm, ⟨33, _⟩ => ⟨S2x4x8192x1, .f32⟩
  | .hbm, ⟨34, _⟩ => ⟨S2x4x8192x8192, .f32⟩
  | .hbm, ⟨35, _⟩ => ⟨S2x4x8192x8192, .f32⟩
  | .hbm, ⟨36, _⟩ => ⟨S2x4x8192x8192, .f32⟩
  | .hbm, ⟨37, _⟩ => ⟨S_, .f32⟩
  | .hbm, ⟨38, _⟩ => ⟨S2x4x8192, .f32⟩
  | .hbm, ⟨39, _⟩ => ⟨S2x4x8192x1, .f32⟩
  | .hbm, ⟨40, _⟩ => ⟨S2x4x8192x8192, .f32⟩
  | .hbm, ⟨41, _⟩ => ⟨S2x4x8192x8192, .f32⟩
  | .hbm, ⟨42, _⟩ => ⟨S2x128x4x8192, .f32⟩
  | .hbm, ⟨43, _⟩ => ⟨S8192x2x4x128, .f32⟩
  | .hbm, ⟨44, _⟩ => ⟨S8192x1024, .f32⟩
  | .hbm, ⟨45, _⟩ => ⟨S8192x8x128, .f32⟩
  | .hbm, ⟨46, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Kernel9.lean ====
abbrev S8192x768 : Shape := ⟨2, ![8192, 768]⟩
abbrev S768x2048 : Shape := ⟨2, ![768, 2048]⟩
abbrev S8192x2048 : Shape := ⟨2, ![8192, 2048]⟩
abbrev S1024x768 : Shape := ⟨2, ![1024, 768]⟩
abbrev S768x1024 : Shape := ⟨2, ![768, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x768, .f32⟩
  | .hbm, ⟨1, _⟩ => ⟨S768x2048, .bf16⟩
  | .hbm, ⟨2, _⟩ => ⟨S8192x2048, .bf16⟩
  | .local _ .vmem, ⟨0, _⟩ => ⟨S1024x768, .f32⟩
  | .local _ .vmem, ⟨1, _⟩ => ⟨S1024x768, .f32⟩
  | .local _ .vmem, ⟨2, _⟩ => ⟨S768x1024, .bf16⟩
  | .local _ .vmem, ⟨3, _⟩ => ⟨S768x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x768 : Shape := ⟨2, ![8192, 768]⟩
abbrev S768x2048 : Shape := ⟨2, ![768, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S768x2048, .bf16⟩
  | .hbm, ⟨2, _⟩ => ⟨S768x2048, .f32⟩
  | .hbm, ⟨3, _⟩ => ⟨S8192x2048, .f32⟩
  | .hbm, ⟨4, _⟩ => ⟨S8192x2048, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8192x2048 : Shape := ⟨2, ![8192, 2048]⟩
abbrev S768x2048 : Shape := ⟨2, ![768, 2048]⟩
abbrev S8192x768 : Shape := ⟨2, ![8192, 768]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S768x2048, .bf16⟩
  | .hbm, ⟨2, _⟩ => ⟨S8192x768, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S768x2048 : Shape := ⟨2, ![768, 2048]⟩
abbrev S_ : Shape := ⟨0, ![]⟩
abbrev S8192x768 : Shape := ⟨2, ![8192, 768]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S768x2048, .bf16⟩
  | .hbm, ⟨2, _⟩ => ⟨S_, .f32⟩
  | .hbm, ⟨3, _⟩ => ⟨S8192x768, .f32⟩
  | .hbm, ⟨4, _⟩ => ⟨S768x2048, .f32⟩
  | .hbm, ⟨5, _⟩ => ⟨S8192x2048, .f32⟩
  | .hbm, ⟨6, _⟩ => ⟨S8192x2048, .f32⟩
  | .hbm, ⟨7, _⟩ => ⟨S8192x768, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x768 : Shape := ⟨2, ![8192, 768]⟩
abbrev S8192x2048 : Shape := ⟨2, ![8192, 2048]⟩
abbrev S768x2048 : Shape := ⟨2, ![768, 2048]⟩
abbrev S1024x768 : Shape := ⟨2, ![1024, 768]⟩
abbrev S1024x1024 : Shape := ⟨2, ![1024, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x768, .f32⟩
  | .hbm, ⟨1, _⟩ => ⟨S8192x2048, .bf16⟩
  | .hbm, ⟨2, _⟩ => ⟨S768x2048, .f32⟩
  | .local _ .vmem, ⟨0, _⟩ => ⟨S1024x768, .f32⟩
  | .local _ .vmem, ⟨1, _⟩ => ⟨S1024x768, .f32⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x768 : Shape := ⟨2, ![8192, 768]⟩
abbrev S8192x2048 : Shape := ⟨2, ![8192, 2048]⟩
abbrev S_ : Shape := ⟨0, ![]⟩
abbrev S768x2048 : Shape := ⟨2, ![768, 2048]⟩
abbrev S2048x768 : Shape := ⟨2, ![2048, 768]⟩

abbrev nBuf : Space → Nat
  | .hbm => 8
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x2048, .bf16⟩
  | .hbm, ⟨2, _⟩ => ⟨S_, .f32⟩
  | .hbm, ⟨3, _⟩ => ⟨S768x2048, .f32⟩
  | .hbm, ⟨4, _⟩ => ⟨S8192x2048, .f32⟩
  | .hbm, ⟨5, _⟩ => ⟨S8192x2048, .f32⟩
  | .hbm, ⟨6, _⟩ => ⟨S2048x768, .f32⟩
  | .hbm, ⟨7, _⟩ => ⟨S768x2048, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .bf16⟩
  | .hbm, ⟨2, _⟩ => ⟨S8192x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .bf16⟩
  | .hbm, ⟨2, _⟩ => ⟨S1024x2048, .f32⟩
  | .hbm, ⟨3, _⟩ => ⟨S8192x2048, .f32⟩
  | .hbm, ⟨4, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S1024x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S8192x2048, .f32⟩
  | .hbm, ⟨6, _⟩ => ⟨S2048x1024, .f32⟩
  | .hbm, ⟨7, _⟩ => ⟨S1024x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x512 : Shape := ⟨2, ![8192, 512]⟩
abbrev S512x2048 : Shape := ⟨2, ![512, 2048]⟩
abbrev S8192x2048 : Shape := ⟨2, ![8192, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x2048, .bf16⟩
  | .hbm, ⟨2, _⟩ => ⟨S8192x2048, .bf16⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .bf16⟩
  | .hbm, ⟨2, _⟩ => ⟨S512x2048, .f32⟩
  | .hbm, ⟨3, _⟩ => ⟨S8192x2048, .f32⟩
  | .hbm, ⟨4, _⟩ => ⟨S8192x2048, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S8192x2048 : Shape := ⟨2, ![8192, 2048]⟩
abbrev S512x2048 : Shape := ⟨2, ![512, 2048]⟩
abbrev S8192x512 : Shape := ⟨2, ![8192, 512]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S512x2048 : Shape := ⟨2, ![512, 2048]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S_, .f32⟩
  | .hbm, ⟨3, _⟩ => ⟨S8192x512, .f32⟩
  | .hbm, ⟨4, _⟩ => ⟨S512x2048, .f32⟩
  | .hbm, ⟨5, _⟩ => ⟨S8192x2048, .f32⟩
  | .hbm, ⟨6, _⟩ => ⟨S8192x2048, .f32⟩
  | .hbm, ⟨7, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8192x512 : Shape := ⟨2, ![8192, 512]⟩
abbrev S8192x2048 : Shape := ⟨2, ![8192, 2048]⟩
abbrev S512x2048 : Shape := ⟨2, ![512, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x2048, .bf16⟩
  | .hbm, ⟨2, _⟩ => ⟨S512x2048, .f32⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2048, .bf16⟩
  | .hbm, ⟨2, _⟩ => ⟨S_, .f32⟩
  | .hbm, ⟨3, _⟩ => ⟨S512x2048, .f32⟩
  | .hbm, ⟨4, _⟩ => ⟨S8192x2048, .f32⟩
  | .hbm, ⟨5, _⟩ => ⟨S8192x2048, .f32⟩
  | .hbm, ⟨6, _⟩ => ⟨S2048x512, .f32⟩
  | .hbm, ⟨7, _⟩ => ⟨S512x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S256x2048 : Shape := ⟨2, ![256, 2048]⟩
abbrev S2048x1024 : Shape := ⟨2, ![2048, 1024]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x2048, .f32⟩
  | .hbm, ⟨3, _⟩ => ⟨S2048x1024, .f32⟩
  | .hbm, ⟨4, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S256x1024 : Shape := ⟨2, ![256, 1024]⟩
abbrev S2048x1024 : Shape := ⟨2, ![2048, 1024]⟩
abbrev S256x2048 : Shape := ⟨2, ![256, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S2048x1024, .bf16⟩
  | .hbm, ⟨2, _⟩ => ⟨S256x2048, .f32⟩
  | .local _ .vmem, ⟨0, _⟩ => ⟨S256x1024, .f32⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S256x1024 : Shape := ⟨2, ![256, 1024]⟩
abbrev S2048x1024 : Shape := ⟨2, ![2048, 1024]⟩
abbrev S_ : Shape := ⟨0, ![]⟩
abbrev S256x2048 : Shape := ⟨2, ![256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2048x1024, .bf16⟩
  | .hbm, ⟨2, _⟩ => ⟨S_, .f32⟩
  | .hbm, ⟨3, _⟩ => ⟨S256x2048, .f32⟩
  | .hbm, ⟨4, _⟩ => ⟨S2048x1024, .f32⟩
  | .hbm, ⟨5, _⟩ => ⟨S256x1024, .f32⟩
  | .hbm, ⟨6, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S256x2048 : Shape := ⟨2, ![256, 2048]⟩
abbrev S256x1024 : Shape := ⟨2, ![256, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S_, .f32⟩
  | .hbm, ⟨3, _⟩ => ⟨S2048x1024, .f32⟩
  | .hbm, ⟨4, _⟩ => ⟨S256x2048, .f32⟩
  | .hbm, ⟨5, _⟩ => ⟨S256x1024, .f32⟩
  | .hbm, ⟨6, _⟩ => ⟨S1024x2048, .f32⟩
  | .hbm, ⟨7, _⟩ => ⟨S2048x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S8192x2048 : Shape := ⟨2, ![8192, 2048]⟩
abbrev S8192x16896 : Shape := ⟨2, ![8192, 16896]⟩
abbrev S128x2048 : Shape := ⟨2, ![128, 2048]⟩

abbrev nBuf : Space → Nat
  | .hbm => 14
  | .vmem => 34
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x16896, .f32⟩
  | .hbm, ⟨5, _⟩ => ⟨S8192x2048, .f32⟩
  | .hbm, ⟨6, _⟩ => ⟨S8192x2048, .bf16⟩
  | .hbm, ⟨7, _⟩ => ⟨S8192x2048, .bf16⟩
  | .hbm, ⟨8, _⟩ => ⟨S8192x2048, .bf16⟩
  | .hbm, ⟨9, _⟩ => ⟨S8192x2048, .bf16⟩
  | .hbm, ⟨10, _⟩ => ⟨S8192x2048, .bf16⟩
  | .hbm, ⟨11, _⟩ => ⟨S8192x2048, .bf16⟩
  | .hbm, ⟨12, _⟩ => ⟨S8192x2048, .bf16⟩
  | .hbm, ⟨13, _⟩ => ⟨S8192x2048, .bf16⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S128x2048, .bf16⟩
  | .local _ .vmem, ⟨23, _⟩ => ⟨S128x2048, .bf16⟩
  | .local _ .vmem, ⟨24, _⟩ => ⟨S128x2048, .bf16⟩
  | .local _ .vmem, ⟨25, _⟩ => ⟨S128x2048, .bf16⟩
  | .local _ .vmem, ⟨26, _⟩ => ⟨S128x2048, .bf16⟩
  | .local _ .vmem, ⟨27, _⟩ => ⟨S128x2048, .bf16⟩
  | .local _ .vmem, ⟨28, _⟩ => ⟨S128x2048, .bf16⟩
  | .local _ .vmem, ⟨29, _⟩ => ⟨S128x2048, .bf16⟩
  | .local _ .vmem, ⟨30, _⟩ => ⟨S128x2048, .bf16⟩
  | .local _ .vmem, ⟨31, _⟩ => ⟨S128x2048, .bf16⟩
  | .local _ .vmem, ⟨32, _⟩ => ⟨S128x2048, .bf16⟩
  | .local _ .vmem, ⟨33, _⟩ => ⟨S128x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference21Ideal.lean ====
abbrev S8192x2048 : Shape := ⟨2, ![8192, 2048]⟩
abbrev S8192x16896 : Shape := ⟨2, ![8192, 16896]⟩
abbrev S_ : Shape := ⟨0, ![]⟩

abbrev nBuf : Space → Nat
  | .hbm => 94
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x16896, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x2048, .f32⟩
  | .hbm, ⟨62, _⟩ => ⟨S8192x2048, .f32⟩
  | .hbm, ⟨63, _⟩ => ⟨S_, .f32⟩
  | .hbm, ⟨64, _⟩ => ⟨S8192x2048, .f32⟩
  | .hbm, ⟨65, _⟩ => ⟨S8192x2048, .f32⟩
  | .hbm, ⟨66, _⟩ => ⟨S_, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S8192x2048, .bf16⟩
  | .hbm, ⟨87, _⟩ => ⟨S8192x2048, .bf16⟩
  | .hbm, ⟨88, _⟩ => ⟨S8192x2048, .bf16⟩
  | .hbm, ⟨89, _⟩ => ⟨S8192x2048, .bf16⟩
  | .hbm, ⟨90, _⟩ => ⟨S8192x2048, .bf16⟩
  | .hbm, ⟨91, _⟩ => ⟨S8192x2048, .bf16⟩
  | .hbm, ⟨92, _⟩ => ⟨S8192x2048, .bf16⟩
  | .hbm, ⟨93, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩

abbrev nD : Nat := 1
abbrev τ : Topo := Topo.v7x

variable {F : FTy → Type} [FloatOps F]
-- ==== Kernel22.lean ====
abbrev S8192x1024 : Shape := ⟨2, ![8192, 1024]⟩
abbrev S8192x16896 : Shape := ⟨2, ![8192, 16896]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x16896, .f32⟩
  | .hbm, ⟨2, _⟩ => ⟨S8192x1024, .f32⟩
  | .hbm, ⟨3, _⟩ => ⟨S8192x1024, .f32⟩
  | .hbm, ⟨4, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference22Ideal.lean ====
abbrev S8192x1024 : Shape := ⟨2, ![8192, 1024]⟩
abbrev S8192x16896 : Shape := ⟨2, ![8192, 16896]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x16896, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v5 : Ref sig .tc := ⟨.hbm, 23, rfl⟩

abbrev nD : Nat := 1
abbrev τ : Topo := Topo.v7x

variable {F : FTy → Type} [FloatOps F]
-- ==== Kernel23.lean ====
abbrev S4x4096x2051 : Shape := ⟨3, ![4, 4096, 2051]⟩
abbrev S4096x2051 : Shape := ⟨2, ![4096, 2051]⟩
abbrev S4x256x2051 : Shape := ⟨3, ![4, 256, 2051]⟩
abbrev S256x2051 : Shape := ⟨2, ![256, 2051]⟩
abbrev S1x256x2051 : Shape := ⟨3, ![1, 256, 2051]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x2051, .bf16⟩
  | .hbm, ⟨1, _⟩ => ⟨S4096x2051, .f32⟩
  | .hbm, ⟨2, _⟩ => ⟨S4096x2051, .f32⟩
  | .hbm, ⟨3, _⟩ => ⟨S4096x2051, .f32⟩
  | .hbm, ⟨4, _⟩ => ⟨S4096x2051, .f32⟩
  | .hbm, ⟨5, _⟩ => ⟨S4096x2051, .f32⟩
  | .hbm, ⟨6, _⟩ => ⟨S4096x2051, .f32⟩
  | .hbm, ⟨7, _⟩ => ⟨S4096x2051, .f32⟩
  | .local _ .vmem, ⟨0, _⟩ => ⟨S4x256x2051, .bf16⟩
  | .local _ .vmem, ⟨1, _⟩ => ⟨S4x256x2051, .bf16⟩
  | .local _ .vmem, ⟨2, _⟩ => ⟨S256x2051, .f32⟩
  | .local _ .vmem, ⟨3, _⟩ => ⟨S256x2051, .f32⟩
  | .local _ .vmem, ⟨4, _⟩ => ⟨S256x2051, .f32⟩
  | .local _ .vmem, ⟨5, _⟩ => ⟨S256x2051, .f32⟩
  | .local _ .vmem, ⟨6, _⟩ => ⟨S256x2051, .f32⟩
  | .local _ .vmem, ⟨7, _⟩ => ⟨S256x2051, .f32⟩
  | .local _ .vmem, ⟨8, _⟩ => ⟨S256x2051, .f32⟩
  | .local _ .vmem, ⟨9, _⟩ => ⟨S256x2051, .f32⟩
  | .local _ .vmem, ⟨10, _⟩ => ⟨S256x2051, .f32⟩
  | .local _ .vmem, ⟨11, _⟩ => ⟨S256x2051, .f32⟩
  | .local _ .vmem, ⟨12, _⟩ => ⟨S256x2051, .f32⟩
  | .local _ .vmem, ⟨13, _⟩ => ⟨S256x2051, .f32⟩
  | .local _ .vmem, ⟨14, _⟩ => ⟨S256x2051, .f32⟩
  | .local _ .vmem, ⟨15, _⟩ => ⟨S256x2051, .f32⟩
  | _, _ => ⟨S4x4096x2051, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x2051 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2051 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2051 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2051 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2051 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2051 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2051 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2051 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S4x4096x2051 : Shape := ⟨3, ![4, 4096, 2051]⟩
abbrev S4096x2051 : Shape := ⟨2, ![4096, 2051]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x2051, .bf16⟩
  | .hbm, ⟨1, _⟩ => ⟨S4096x2051, .f32⟩
  | .hbm, ⟨2, _⟩ => ⟨S4096x2051, .f32⟩
  | .hbm, ⟨3, _⟩ => ⟨S4096x2051, .f32⟩
  | .hbm, ⟨4, _⟩ => ⟨S4x4096x2051, .f32⟩
  | .hbm, ⟨5, _⟩ => ⟨S_, .f32⟩
  | .hbm, ⟨6, _⟩ => ⟨S4096x2051, .f32⟩
  | .hbm, ⟨7, _⟩ => ⟨S_, .f32⟩
  | .hbm, ⟨8, _⟩ => ⟨S4096x2051, .f32⟩
  | .hbm, ⟨9, _⟩ => ⟨S4096x2051, .f32⟩
  | .hbm, ⟨10, _⟩ => ⟨S_, .f32⟩
  | .hbm, ⟨11, _⟩ => ⟨S4096x2051, .f32⟩
  | .hbm, ⟨12, _⟩ => ⟨S4096x2051, .f32⟩
  | .hbm, ⟨13, _⟩ => ⟨S4096x2051, .f32⟩
  | .hbm, ⟨14, _⟩ => ⟨S_, .f32⟩
  | .hbm, ⟨15, _⟩ => ⟨S4096x2051, .f32⟩
  | .hbm, ⟨16, _⟩ => ⟨S4096x2051, .f32⟩
  | .hbm, ⟨17, _⟩ => ⟨S4096x2051, .f32⟩
  | .hbm, ⟨18, _⟩ => ⟨S_, .f32⟩
  | .hbm, ⟨19, _⟩ => ⟨S4096x2051, .f32⟩
  | .hbm, ⟨20, _⟩ => ⟨S4096x2051, .f32⟩
  | .hbm, ⟨21, _⟩ => ⟨S4096x2051, .f32⟩
  | .hbm, ⟨22, _⟩ => ⟨S_, .f32⟩
  | .hbm, ⟨23, _⟩ => ⟨S4096x2051, .f32⟩
  | .hbm, ⟨24, _⟩ => ⟨S4096x2051, .f32⟩
  | .hbm, ⟨25, _⟩ => ⟨S_, .f32⟩
  | .hbm, ⟨26, _⟩ => ⟨S4096x2051, .f32⟩
  | .hbm, ⟨27, _⟩ => ⟨S4096x2051, .f32⟩
  | .hbm, ⟨28, _⟩ => ⟨S4096x2051, .f32⟩
  | .hbm, ⟨29, _⟩ => ⟨S_, .f32⟩
  | .hbm, ⟨30, _⟩ => ⟨S4096x2051, .f32⟩
  | .hbm, ⟨31, _⟩ => ⟨S4096x2051, .f32⟩
  | .hbm, ⟨32, _⟩ => ⟨S4096x2051, .f32⟩
  | .hbm, ⟨33, _⟩ => ⟨S_, .f32⟩
  | .hbm, ⟨34, _⟩ => ⟨S4096x2051, .f32⟩
  | .hbm, ⟨35, _⟩ => ⟨S4096x2051, .f32⟩
  | .hbm, ⟨36, _⟩ => ⟨S4096x2051, .f32⟩
  | .hbm, ⟨37, _⟩ => ⟨S_, .f32⟩
  | .hbm, ⟨38, _⟩ => ⟨S4096x2051, .f32⟩
  | .hbm, ⟨39, _⟩ => ⟨S4096x2051, .f32⟩
  | _, _ => ⟨S4x4096x2051, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference24Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel25.lean ====
abbrev S8192x2048 : Shape := ⟨2, ![8192, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8x128, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S8x128, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S8x128 : Shape := ⟨2, ![8, 128]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel26.lean ====
abbrev S4x3328x1024 : Shape := ⟨3, ![4, 3328, 1024]⟩
abbrev S3328x1024 : Shape := ⟨2, ![3328, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x3328x1024, .bf16⟩
  | .hbm, ⟨1, _⟩ => ⟨S3328x1024, .f32⟩
  | .hbm, ⟨2, _⟩ => ⟨S3328x1024, .f32⟩
  | .hbm, ⟨3, _⟩ => ⟨S3328x1024, .f32⟩
  | .hbm, ⟨4, _⟩ => ⟨S3328x1024, .f32⟩
  | .hbm, ⟨5, _⟩ => ⟨S3328x1024, .f32⟩
  | .hbm, ⟨6, _⟩ => ⟨S3328x1024, .f32⟩
  | .hbm, ⟨7, _⟩ => ⟨S3328x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4x3328x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S4x3328x1024 : Shape := ⟨3, ![4, 3328, 1024]⟩
abbrev S3328x1024 : Shape := ⟨2, ![3328, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x3328x1024, .bf16⟩
  | .hbm, ⟨1, _⟩ => ⟨S3328x1024, .f32⟩
  | .hbm, ⟨2, _⟩ => ⟨S3328x1024, .f32⟩
  | .hbm, ⟨3, _⟩ => ⟨S3328x1024, .f32⟩
  | .hbm, ⟨4, _⟩ => ⟨S4x3328x1024, .f32⟩
  | .hbm, ⟨5, _⟩ => ⟨S_, .f32⟩
  | .hbm, ⟨6, _⟩ => ⟨S3328x1024, .f32⟩
  | .hbm, ⟨7, _⟩ => ⟨S_, .f32⟩
  | .hbm, ⟨8, _⟩ => ⟨S3328x1024, .f32⟩
  | .hbm, ⟨9, _⟩ => ⟨S3328x1024, .f32⟩
  | .hbm, ⟨10, _⟩ => ⟨S_, .f32⟩
  | .hbm, ⟨11, _⟩ => ⟨S3328x1024, .f32⟩
  | .hbm, ⟨12, _⟩ => ⟨S3328x1024, .f32⟩
  | .hbm, ⟨13, _⟩ => ⟨S3328x1024, .f32⟩
  | .hbm, ⟨14, _⟩ => ⟨S_, .f32⟩
  | .hbm, ⟨15, _⟩ => ⟨S3328x1024, .f32⟩
  | .hbm, ⟨16, _⟩ => ⟨S3328x1024, .f32⟩
  | .hbm, ⟨17, _⟩ => ⟨S3328x1024, .f32⟩
  | .hbm, ⟨18, _⟩ => ⟨S_, .f32⟩
  | .hbm, ⟨19, _⟩ => ⟨S3328x1024, .f32⟩
  | .hbm, ⟨20, _⟩ => ⟨S3328x1024, .f32⟩
  | .hbm, ⟨21, _⟩ => ⟨S3328x1024, .f32⟩
  | .hbm, ⟨22, _⟩ => ⟨S_, .f32⟩
  | .hbm, ⟨23, _⟩ => ⟨S3328x1024, .f32⟩
  | .hbm, ⟨24, _⟩ => ⟨S3328x1024, .f32⟩
  | .hbm, ⟨25, _⟩ => ⟨S_, .f32⟩
  | .hbm, ⟨26, _⟩ => ⟨S3328x1024, .f32⟩
  | .hbm, ⟨27, _⟩ => ⟨S3328x1024, .f32⟩
  | .hbm, ⟨28, _⟩ => ⟨S3328x1024, .f32⟩
  | .hbm, ⟨29, _⟩ => ⟨S_, .f32⟩
  | .hbm, ⟨30, _⟩ => ⟨S3328x1024, .f32⟩
  | .hbm, ⟨31, _⟩ => ⟨S3328x1024, .f32⟩
  | .hbm, ⟨32, _⟩ => ⟨S3328x1024, .f32⟩
  | .hbm, ⟨33, _⟩ => ⟨S_, .f32⟩
  | .hbm, ⟨34, _⟩ => ⟨S3328x1024, .f32⟩
  | .hbm, ⟨35, _⟩ => ⟨S3328x1024, .f32⟩
  | .hbm, ⟨36, _⟩ => ⟨S3328x1024, .f32⟩
  | .hbm, ⟨37, _⟩ => ⟨S_, .f32⟩
  | .hbm, ⟨38, _⟩ => ⟨S3328x1024, .f32⟩
  | .hbm, ⟨39, _⟩ => ⟨S3328x1024, .f32⟩
  | _, _ => ⟨S4x3328x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel27.lean ====
abbrev S4x896x1024 : Shape := ⟨3, ![4, 896, 1024]⟩
abbrev S896x1024 : Shape := ⟨2, ![896, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x896x1024, .f32⟩
  | .hbm, ⟨1, _⟩ => ⟨S896x1024, .f32⟩
  | .hbm, ⟨2, _⟩ => ⟨S896x1024, .f32⟩
  | .hbm, ⟨3, _⟩ => ⟨S896x1024, .f32⟩
  | .hbm, ⟨4, _⟩ => ⟨S896x1024, .f32⟩
  | .hbm, ⟨5, _⟩ => ⟨S896x1024, .f32⟩
  | .hbm, ⟨6, _⟩ => ⟨S896x1024, .f32⟩
  | .hbm, ⟨7, _⟩ => ⟨S896x1024, .f32⟩
  | .local _ .vmem, ⟨0, _⟩ => ⟨S4x128x1024, .f32⟩
  | .local _ .vmem, ⟨1, _⟩ => ⟨S4x128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S4x896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference27Ideal.lean ====
abbrev S4x896x1024 : Shape := ⟨3, ![4, 896, 1024]⟩
abbrev S896x1024 : Shape := ⟨2, ![896, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x896x1024, .f32⟩
  | .hbm, ⟨1, _⟩ => ⟨S896x1024, .f32⟩
  | .hbm, ⟨2, _⟩ => ⟨S896x1024, .f32⟩
  | .hbm, ⟨3, _⟩ => ⟨S896x1024, .f32⟩
  | .hbm, ⟨4, _⟩ => ⟨S_, .f32⟩
  | .hbm, ⟨5, _⟩ => ⟨S896x1024, .f32⟩
  | .hbm, ⟨6, _⟩ => ⟨S_, .f32⟩
  | .hbm, ⟨7, _⟩ => ⟨S896x1024, .f32⟩
  | .hbm, ⟨8, _⟩ => ⟨S896x1024, .f32⟩
  | .hbm, ⟨9, _⟩ => ⟨S_, .f32⟩
  | .hbm, ⟨10, _⟩ => ⟨S896x1024, .f32⟩
  | .hbm, ⟨11, _⟩ => ⟨S896x1024, .f32⟩
  | .hbm, ⟨12, _⟩ => ⟨S896x1024, .f32⟩
  | .hbm, ⟨13, _⟩ => ⟨S_, .f32⟩
  | .hbm, ⟨14, _⟩ => ⟨S896x1024, .f32⟩
  | .hbm, ⟨15, _⟩ => ⟨S896x1024, .f32⟩
  | .hbm, ⟨16, _⟩ => ⟨S896x1024, .f32⟩
  | .hbm, ⟨17, _⟩ => ⟨S_, .f32⟩
  | .hbm, ⟨18, _⟩ => ⟨S896x1024, .f32⟩
  | .hbm, ⟨19, _⟩ => ⟨S896x1024, .f32⟩
  | .hbm, ⟨20, _⟩ => ⟨S896x1024, .f32⟩
  | .hbm, ⟨21, _⟩ => ⟨S_, .f32⟩
  | .hbm, ⟨22, _⟩ => ⟨S896x1024, .f32⟩
  | .hbm, ⟨23, _⟩ => ⟨S896x1024, .f32⟩
  | .hbm, ⟨24, _⟩ => ⟨S_, .f32⟩
  | .hbm, ⟨25, _⟩ => ⟨S896x1024, .f32⟩
  | .hbm, ⟨26, _⟩ => ⟨S896x1024, .f32⟩
  | .hbm, ⟨27, _⟩ => ⟨S896x1024, .f32⟩
  | .hbm, ⟨28, _⟩ => ⟨S_, .f32⟩
  | .hbm, ⟨29, _⟩ => ⟨S896x1024, .f32⟩
  | .hbm, ⟨30, _⟩ => ⟨S896x1024, .f32⟩
  | .hbm, ⟨31, _⟩ => ⟨S896x1024, .f32⟩
  | .hbm, ⟨32, _⟩ => ⟨S_, .f32⟩
  | .hbm, ⟨33, _⟩ => ⟨S896x1024, .f32⟩
  | .hbm, ⟨34, _⟩ => ⟨S896x1024, .f32⟩
  | .hbm, ⟨35, _⟩ => ⟨S896x1024, .f32⟩
  | .hbm, ⟨36, _⟩ => ⟨S_, .f32⟩
  | .hbm, ⟨37, _⟩ => ⟨S896x1024, .f32⟩
  | .hbm, ⟨38, _⟩ => ⟨S896x1024, .f32⟩
  | _, _ => ⟨S4x896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel28.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel29.lean ====
abbrev S8192x1024 : Shape := ⟨2, ![8192, 1024]⟩
abbrev S8192x16896 : Shape := ⟨2, ![8192, 16896]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x16896, .f32⟩
  | .hbm, ⟨2, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference29Ideal.lean ====
abbrev S8192x1024 : Shape := ⟨2, ![8192, 1024]⟩
abbrev S8192x16896 : Shape := ⟨2, ![8192, 16896]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x16896, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== Kernel30.lean ====
abbrev S8192x2048 : Shape := ⟨2, ![8192, 2048]⟩
abbrev S8192x16896 : Shape := ⟨2, ![8192, 16896]⟩
abbrev S128x2048 : Shape := ⟨2, ![128, 2048]⟩

abbrev nBuf : Space → Nat
  | .hbm => 6
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x16896, .f32⟩
  | .hbm, ⟨5, _⟩ => ⟨S8192x2048, .bf16⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .bf16⟩
  | .local _ .vmem, ⟨17, _⟩ => ⟨S128x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference30Ideal.lean ====
abbrev S8192x2048 : Shape := ⟨2, ![8192, 2048]⟩
abbrev S8192x16896 : Shape := ⟨2, ![8192, 16896]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x16896, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel31.lean ====
abbrev S8x4096x2051 : Shape := ⟨3, ![8, 4096, 2051]⟩
abbrev S8x3328x1024 : Shape := ⟨3, ![8, 3328, 1024]⟩
abbrev S8x896x1024 : Shape := ⟨3, ![8, 896, 1024]⟩
abbrev S4x4096x2051 : Shape := ⟨3, ![4, 4096, 2051]⟩
abbrev S4x3328x1024 : Shape := ⟨3, ![4, 3328, 1024]⟩
abbrev S4x896x1024 : Shape := ⟨3, ![4, 896, 1024]⟩
abbrev S12 : Shape := ⟨1, ![12]⟩
abbrev S1 : Shape := ⟨1, ![1]⟩
abbrev S_ : Shape := ⟨0, ![]⟩
abbrev S1x4096x2051 : Shape := ⟨3, ![1, 4096, 2051]⟩
abbrev S4096x2051 : Shape := ⟨2, ![4096, 2051]⟩
abbrev S1x3328x1024 : Shape := ⟨3, ![1, 3328, 1024]⟩
abbrev S3328x1024 : Shape := ⟨2, ![3328, 1024]⟩
abbrev S1x896x1024 : Shape := ⟨3, ![1, 896, 1024]⟩
abbrev S896x1024 : Shape := ⟨2, ![896, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8x4096x2051, .f32⟩
  | .hbm, ⟨1, _⟩ => ⟨S8x3328x1024, .f32⟩
  | .hbm, ⟨2, _⟩ => ⟨S8x896x1024, .f32⟩
  | .hbm, ⟨3, _⟩ => ⟨S4x4096x2051, .f32⟩
  | .hbm, ⟨4, _⟩ => ⟨S4x3328x1024, .f32⟩
  | .hbm, ⟨5, _⟩ => ⟨S4x896x1024, .f32⟩
  | _, _ => ⟨S8x4096x2051, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩

abbrev nD : Nat := 2
abbrev τ : Topo := Topo.v7x

variable {F : FTy → Type} [FloatOps F]

abbrev grid0 : Pipeline.Grid := .none

def k0_off1 (d0 : Dev nD) (c0_i32 : BitVec 32) : Fin 3 → Nat :=
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let v4 : BitVec 32 := Scalar.addi c0_i32 v3
  let c0_i32_40 : BitVec 32 := 0#32
  let c0_i32_41 : BitVec 32 := 0#32
  ![v4.toNat, 0, 0]
def k0_dev1 (d0 : Dev nD) : Nat :=
  let c0_i32_37 : BitVec 32 := 0#32
  let c1_i32_1 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v5 : BitVec 32 := Scalar.subi c1_i32_1 v2
  let c1_i32_36 : BitVec 32 := 1#32
  let v39 : BitVec 32 := Scalar.muli v5 c1_i32_36
  let v40 : BitVec 32 := Scalar.addi c0_i32_37 v39
  v40.toNat
def k0_dev2 (d0 : Dev nD) : Nat :=
  let c0_i32_46 : BitVec 32 := 0#32
  let c1_i32_4 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v8 : BitVec 32 := Scalar.subi c1_i32_4 v2
  let c1_i32_45 : BitVec 32 := 1#32
  let v49 : BitVec 32 := Scalar.muli v8 c1_i32_45
  let v50 : BitVec 32 := Scalar.addi c0_i32_46 v49
  v50.toNat
def k0_dev3 (d0 : Dev nD) : Nat :=
  let c0_i32_55 : BitVec 32 := 0#32
  let c1_i32_6 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v11 : BitVec 32 := Scalar.subi c1_i32_6 v2
  let c1_i32_54 : BitVec 32 := 1#32
  let v59 : BitVec 32 := Scalar.muli v11 c1_i32_54
  let v60 : BitVec 32 := Scalar.addi c0_i32_55 v59
  v60.toNat
def k0_dev4 (d0 : Dev nD) : Nat :=
  let c0_i32_63 : BitVec 32 := 0#32
  let c1_i32_8 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v14 : BitVec 32 := Scalar.subi c1_i32_8 v2
  let c1_i32_62 : BitVec 32 := 1#32
  let v69 : BitVec 32 := Scalar.muli v14 c1_i32_62
  let v70 : BitVec 32 := Scalar.addi c0_i32_63 v69
  v70.toNat
def k0_off2 (d0 : Dev nD) (c0_i32_10 : BitVec 32) : Fin 3 → Nat :=
  let c1_i32_9 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v15 : BitVec 32 := Scalar.subi c1_i32_9 v2
  let v16 : BitVec 32 := Scalar.addi c0_i32_10 v15
  let c0_i32_75 : BitVec 32 := 0#32
  let c0_i32_76 : BitVec 32 := 0#32
  ![v16.toNat, 0, 0]
def k0_dev5 (d0 : Dev nD) : Nat :=
  let c0_i32_72 : BitVec 32 := 0#32
  let c1_i32_11 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v17 : BitVec 32 := Scalar.subi c1_i32_11 v2
  let c1_i32_71 : BitVec 32 := 1#32
  let v79 : BitVec 32 := Scalar.muli v17 c1_i32_71
  let v80 : BitVec 32 := Scalar.addi c0_i32_72 v79
  v80.toNat
def k0_dev6 (d0 : Dev nD) : Nat :=
  let c0_i32_80 : BitVec 32 := 0#32
  let c1_i32_14 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v20 : BitVec 32 := Scalar.subi c1_i32_14 v2
  let c1_i32_79 : BitVec 32 := 1#32
  let v89 : BitVec 32 := Scalar.muli v20 c1_i32_79
  let v90 : BitVec 32 := Scalar.addi c0_i32_80 v89
  v90.toNat
def k0_dev7 (d0 : Dev nD) : Nat :=
  let c0_i32_89 : BitVec 32 := 0#32
  let c1_i32_17 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v23 : BitVec 32 := Scalar.subi c1_i32_17 v2
  let c1_i32_88 : BitVec 32 := 1#32
  let v99 : BitVec 32 := Scalar.muli v23 c1_i32_88
  let v100 : BitVec 32 := Scalar.addi c0_i32_89 v99
  v100.toNat
def k0_dev8 (d0 : Dev nD) : Nat :=
  let c0_i32_97 : BitVec 32 := 0#32
  let c1_i32_20 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v26 : BitVec 32 := Scalar.subi c1_i32_20 v2
  let c1_i32_96 : BitVec 32 := 1#32
  let v109 : BitVec 32 := Scalar.muli v26 c1_i32_96
  let v110 : BitVec 32 := Scalar.addi c0_i32_97 v109
  v110.toNat
def k0_off3 (d0 : Dev nD) (c0_i32_22 : BitVec 32) : Fin 3 → Nat :=
  let c1_i32_21 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v27 : BitVec 32 := Scalar.subi c1_i32_21 v2
  let v28 : BitVec 32 := Scalar.addi c0_i32_22 v27
  let c0_i32_108 : BitVec 32 := 0#32
  let c0_i32_109 : BitVec 32 := 0#32
  ![v28.toNat, 0, 0]
def k0_dev9 (d0 : Dev nD) : Nat :=
  let c0_i32_105 : BitVec 32 := 0#32
  let c1_i32_23 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v29 : BitVec 32 := Scalar.subi c1_i32_23 v2
  let c1_i32_104 : BitVec 32 := 1#32
  let v119 : BitVec 32 := Scalar.muli v29 c1_i32_104
  let v120 : BitVec 32 := Scalar.addi c0_i32_105 v119
  v120.toNat
def k0_dev10 (d0 : Dev nD) : Nat :=
  let c0_i32_113 : BitVec 32 := 0#32
  let c1_i32_26 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v32 : BitVec 32 := Scalar.subi c1_i32_26 v2
  let c1_i32_112 : BitVec 32 := 1#32
  let v129 : BitVec 32 := Scalar.muli v32 c1_i32_112
  let v130 : BitVec 32 := Scalar.addi c0_i32_113 v129
  v130.toNat
def k0_dev11 (d0 : Dev nD) : Nat :=
  let c0_i32_121 : BitVec 32 := 0#32
  let c1_i32_29 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v35 : BitVec 32 := Scalar.subi c1_i32_29 v2
  let c1_i32_120 : BitVec 32 := 1#32
  let v139 : BitVec 32 := Scalar.muli v35 c1_i32_120
  let v140 : BitVec 32 := Scalar.addi c0_i32_121 v139
  v140.toNat
def k0_dev12 (d0 : Dev nD) : Nat :=
  let c0_i32_129 : BitVec 32 := 0#32
  let c1_i32_32 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v38 : BitVec 32 := Scalar.subi c1_i32_32 v2
  let c1_i32_128 : BitVec 32 := 1#32
  let v149 : BitVec 32 := Scalar.muli v38 c1_i32_128
  let v150 : BitVec 32 := Scalar.addi c0_i32_129 v149
  v150.toNat
-- ==== Reference31Ideal.lean ====
abbrev S16x4096x2051 : Shape := ⟨3, ![16, 4096, 2051]⟩
abbrev S16x3328x1024 : Shape := ⟨3, ![16, 3328, 1024]⟩
abbrev S16x896x1024 : Shape := ⟨3, ![16, 896, 1024]⟩
abbrev S4x4096x2051 : Shape := ⟨3, ![4, 4096, 2051]⟩
abbrev S8x4096x2051 : Shape := ⟨3, ![8, 4096, 2051]⟩
abbrev S4x3328x1024 : Shape := ⟨3, ![4, 3328, 1024]⟩
abbrev S8x3328x1024 : Shape := ⟨3, ![8, 3328, 1024]⟩
abbrev S4x896x1024 : Shape := ⟨3, ![4, 896, 1024]⟩
abbrev S8x896x1024 : Shape := ⟨3, ![8, 896, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16x4096x2051, .f32⟩
  | .hbm, ⟨1, _⟩ => ⟨S16x3328x1024, .f32⟩
  | .hbm, ⟨2, _⟩ => ⟨S16x896x1024, .f32⟩
  | .hbm, ⟨3, _⟩ => ⟨S4x4096x2051, .f32⟩
  | .hbm, ⟨4, _⟩ => ⟨S4x4096x2051, .f32⟩
  | .hbm, ⟨5, _⟩ => ⟨S8x4096x2051, .f32⟩
  | .hbm, ⟨6, _⟩ => ⟨S4x3328x1024, .f32⟩
  | .hbm, ⟨7, _⟩ => ⟨S4x3328x1024, .f32⟩
  | .hbm, ⟨8, _⟩ => ⟨S8x3328x1024, .f32⟩
  | .hbm, ⟨9, _⟩ => ⟨S4x896x1024, .f32⟩
  | .hbm, ⟨10, _⟩ => ⟨S4x896x1024, .f32⟩
  | .hbm, ⟨11, _⟩ => ⟨S8x896x1024, .f32⟩
  | _, _ => ⟨S16x4096x2051, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel32.lean ====
abbrev S4x4096x2051 : Shape := ⟨3, ![4, 4096, 2051]⟩
abbrev S4x3328x1024 : Shape := ⟨3, ![4, 3328, 1024]⟩
abbrev S4x896x1024 : Shape := ⟨3, ![4, 896, 1024]⟩
abbrev S9 : Shape := ⟨1, ![9]⟩
abbrev S3 : Shape := ⟨1, ![3]⟩
abbrev S1 : Shape := ⟨1, ![1]⟩
abbrev S_ : Shape := ⟨0, ![]⟩
abbrev S1x4096x2051 : Shape := ⟨3, ![1, 4096, 2051]⟩
abbrev S4096x2051 : Shape := ⟨2, ![4096, 2051]⟩
abbrev S1x3328x1024 : Shape := ⟨3, ![1, 3328, 1024]⟩
abbrev S3328x1024 : Shape := ⟨2, ![3328, 1024]⟩
abbrev S1x896x1024 : Shape := ⟨3, ![1, 896, 1024]⟩
abbrev S896x1024 : Shape := ⟨2, ![896, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x2051, .bf16⟩
  | .hbm, ⟨1, _⟩ => ⟨S4x3328x1024, .bf16⟩
  | .hbm, ⟨2, _⟩ => ⟨S4x896x1024, .f32⟩
  | .hbm, ⟨3, _⟩ => ⟨S4x4096x2051, .bf16⟩
  | .hbm, ⟨4, _⟩ => ⟨S4x3328x1024, .bf16⟩
  | .hbm, ⟨5, _⟩ => ⟨S4x896x1024, .f32⟩
  | _, _ => ⟨S4x4096x2051, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩

abbrev nD : Nat := 4
abbrev τ : Topo := Topo.v7x

variable {F : FTy → Type} [FloatOps F]

abbrev grid0 : Pipeline.Grid := .none

def k0_off1 (d0 : Dev nD) : Fin 3 → Nat :=
  let c2_i32_2 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.muli c2_i32_2 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let c0_i32_3 : BitVec 32 := 0#32
  let c0_i32_4 : BitVec 32 := 0#32
  ![v7.toNat, 0, 0]
def k0_off2 (d0 : Dev nD) : Fin 3 → Nat :=
  let c2_i32_2 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.muli c2_i32_2 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let c0_i32_8 : BitVec 32 := 0#32
  let c0_i32_9 : BitVec 32 := 0#32
  ![v7.toNat, 0, 0]
def k0_off3 (d0 : Dev nD) : Fin 3 → Nat :=
  let c2_i32_2 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.muli c2_i32_2 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let c0_i32_13 : BitVec 32 := 0#32
  let c0_i32_14 : BitVec 32 := 0#32
  ![v7.toNat, 0, 0]
def k0_off4 (d0 : Dev nD) (c0_i32_17 : BitVec 32) (c1_i32_18 : BitVec 32) : Fin 3 → Nat :=
  let c2_i32_19 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v26 : BitVec 32 := Scalar.xori v2 c0_i32_17
  let v28 : BitVec 32 := Scalar.muli c2_i32_19 v26
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v27 : BitVec 32 := Scalar.xori v5 c1_i32_18
  let v29 : BitVec 32 := Scalar.addi v28 v27
  let c0_i32_51 : BitVec 32 := 0#32
  let c0_i32_52 : BitVec 32 := 0#32
  ![v29.toNat, 0, 0]
def k0_off4_at (r : Fin 3) : BitVec 32 × BitVec 32 :=
  if r.val < 1 then
    (0#32, 1#32)
  else
    if r.val < 2 then
      (1#32, 0#32)
    else
      (1#32, 1#32)
def k0_dev1 (d0 : Dev nD) : Nat :=
  let c0_i32_47 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_17 : BitVec 32 := 0#32
  let v26 : BitVec 32 := Scalar.xori v2 c0_i32_17
  let c2_i32_46 : BitVec 32 := 2#32
  let v62 : BitVec 32 := Scalar.muli v26 c2_i32_46
  let v63 : BitVec 32 := Scalar.addi c0_i32_47 v62
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_18 : BitVec 32 := 1#32
  let v27 : BitVec 32 := Scalar.xori v5 c1_i32_18
  let c1_i32_48 : BitVec 32 := 1#32
  let v64 : BitVec 32 := Scalar.muli v27 c1_i32_48
  let v65 : BitVec 32 := Scalar.addi v63 v64
  v65.toNat
def k0_dev2 (d0 : Dev nD) : Nat :=
  let c0_i32_56 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_20 : BitVec 32 := 1#32
  let v30 : BitVec 32 := Scalar.xori v2 c1_i32_20
  let c2_i32_55 : BitVec 32 := 2#32
  let v74 : BitVec 32 := Scalar.muli v30 c2_i32_55
  let v75 : BitVec 32 := Scalar.addi c0_i32_56 v74
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_21 : BitVec 32 := 0#32
  let v31 : BitVec 32 := Scalar.xori v5 c0_i32_21
  let c1_i32_57 : BitVec 32 := 1#32
  let v76 : BitVec 32 := Scalar.muli v31 c1_i32_57
  let v77 : BitVec 32 := Scalar.addi v75 v76
  v77.toNat
def k0_dev3 (d0 : Dev nD) : Nat :=
  let c0_i32_65 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_23 : BitVec 32 := 1#32
  let v34 : BitVec 32 := Scalar.xori v2 c1_i32_23
  let c2_i32_64 : BitVec 32 := 2#32
  let v86 : BitVec 32 := Scalar.muli v34 c2_i32_64
  let v87 : BitVec 32 := Scalar.addi c0_i32_65 v86
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_24 : BitVec 32 := 1#32
  let v35 : BitVec 32 := Scalar.xori v5 c1_i32_24
  let c1_i32_66 : BitVec 32 := 1#32
  let v88 : BitVec 32 := Scalar.muli v35 c1_i32_66
  let v89 : BitVec 32 := Scalar.addi v87 v88
  v89.toNat
def k0_off5 (d0 : Dev nD) (c0_i32_26 : BitVec 32) (c1_i32_27 : BitVec 32) : Fin 3 → Nat :=
  let c2_i32_28 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v38 : BitVec 32 := Scalar.xori v2 c0_i32_26
  let v40 : BitVec 32 := Scalar.muli c2_i32_28 v38
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v39 : BitVec 32 := Scalar.xori v5 c1_i32_27
  let v41 : BitVec 32 := Scalar.addi v40 v39
  let c0_i32_77 : BitVec 32 := 0#32
  let c0_i32_78 : BitVec 32 := 0#32
  ![v41.toNat, 0, 0]
def k0_off5_at (r : Fin 3) : BitVec 32 × BitVec 32 :=
  if r.val < 1 then
    (0#32, 1#32)
  else
    if r.val < 2 then
      (1#32, 0#32)
    else
      (1#32, 1#32)
def k0_dev4 (d0 : Dev nD) : Nat :=
  let c0_i32_73 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v38 : BitVec 32 := Scalar.xori v2 c0_i32_26
  let c2_i32_72 : BitVec 32 := 2#32
  let v98 : BitVec 32 := Scalar.muli v38 c2_i32_72
  let v99 : BitVec 32 := Scalar.addi c0_i32_73 v98
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_27 : BitVec 32 := 1#32
  let v39 : BitVec 32 := Scalar.xori v5 c1_i32_27
  let c1_i32_74 : BitVec 32 := 1#32
  let v100 : BitVec 32 := Scalar.muli v39 c1_i32_74
  let v101 : BitVec 32 := Scalar.addi v99 v100
  v101.toNat
def k0_dev5 (d0 : Dev nD) : Nat :=
  let c0_i32_81 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_29 : BitVec 32 := 1#32
  let v42 : BitVec 32 := Scalar.xori v2 c1_i32_29
  let c2_i32_80 : BitVec 32 := 2#32
  let v110 : BitVec 32 := Scalar.muli v42 c2_i32_80
  let v111 : BitVec 32 := Scalar.addi c0_i32_81 v110
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_30 : BitVec 32 := 0#32
  let v43 : BitVec 32 := Scalar.xori v5 c0_i32_30
  let c1_i32_82 : BitVec 32 := 1#32
  let v112 : BitVec 32 := Scalar.muli v43 c1_i32_82
  let v113 : BitVec 32 := Scalar.addi v111 v112
  v113.toNat
def k0_dev6 (d0 : Dev nD) : Nat :=
  let c0_i32_89 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_32 : BitVec 32 := 1#32
  let v46 : BitVec 32 := Scalar.xori v2 c1_i32_32
  let c2_i32_88 : BitVec 32 := 2#32
  let v122 : BitVec 32 := Scalar.muli v46 c2_i32_88
  let v123 : BitVec 32 := Scalar.addi c0_i32_89 v122
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_33 : BitVec 32 := 1#32
  let v47 : BitVec 32 := Scalar.xori v5 c1_i32_33
  let c1_i32_90 : BitVec 32 := 1#32
  let v124 : BitVec 32 := Scalar.muli v47 c1_i32_90
  let v125 : BitVec 32 := Scalar.addi v123 v124
  v125.toNat
def k0_off6 (d0 : Dev nD) (c0_i32_35 : BitVec 32) (c1_i32_36 : BitVec 32) : Fin 3 → Nat :=
  let c2_i32_37 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v50 : BitVec 32 := Scalar.xori v2 c0_i32_35
  let v52 : BitVec 32 := Scalar.muli c2_i32_37 v50
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v51 : BitVec 32 := Scalar.xori v5 c1_i32_36
  let v53 : BitVec 32 := Scalar.addi v52 v51
  let c0_i32_101 : BitVec 32 := 0#32
  let c0_i32_102 : BitVec 32 := 0#32
  ![v53.toNat, 0, 0]
def k0_off6_at (r : Fin 3) : BitVec 32 × BitVec 32 :=
  if r.val < 1 then
    (0#32, 1#32)
  else
    if r.val < 2 then
      (1#32, 0#32)
    else
      (1#32, 1#32)
def k0_dev7 (d0 : Dev nD) : Nat :=
  let c0_i32_97 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_35 : BitVec 32 := 0#32
  let v50 : BitVec 32 := Scalar.xori v2 c0_i32_35
  let c2_i32_96 : BitVec 32 := 2#32
  let v134 : BitVec 32 := Scalar.muli v50 c2_i32_96
  let v135 : BitVec 32 := Scalar.addi c0_i32_97 v134
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_36 : BitVec 32 := 1#32
  let v51 : BitVec 32 := Scalar.xori v5 c1_i32_36
  let c1_i32_98 : BitVec 32 := 1#32
  let v136 : BitVec 32 := Scalar.muli v51 c1_i32_98
  let v137 : BitVec 32 := Scalar.addi v135 v136
  v137.toNat
def k0_dev8 (d0 : Dev nD) : Nat :=
  let c0_i32_105 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_38 : BitVec 32 := 1#32
  let v54 : BitVec 32 := Scalar.xori v2 c1_i32_38
  let c2_i32_104 : BitVec 32 := 2#32
  let v146 : BitVec 32 := Scalar.muli v54 c2_i32_104
  let v147 : BitVec 32 := Scalar.addi c0_i32_105 v146
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_39 : BitVec 32 := 0#32
  let v55 : BitVec 32 := Scalar.xori v5 c0_i32_39
  let c1_i32_106 : BitVec 32 := 1#32
  let v148 : BitVec 32 := Scalar.muli v55 c1_i32_106
  let v149 : BitVec 32 := Scalar.addi v147 v148
  v149.toNat
def k0_dev9 (d0 : Dev nD) : Nat :=
  let c0_i32_113 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_41 : BitVec 32 := 1#32
  let v58 : BitVec 32 := Scalar.xori v2 c1_i32_41
  let c2_i32_112 : BitVec 32 := 2#32
  let v158 : BitVec 32 := Scalar.muli v58 c2_i32_112
  let v159 : BitVec 32 := Scalar.addi c0_i32_113 v158
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_42 : BitVec 32 := 1#32
  let v59 : BitVec 32 := Scalar.xori v5 c1_i32_42
  let c1_i32_114 : BitVec 32 := 1#32
  let v160 : BitVec 32 := Scalar.muli v59 c1_i32_114
  let v161 : BitVec 32 := Scalar.addi v159 v160
  v161.toNat
-- ==== Reference32Ideal.lean ====
abbrev S16x4096x2051 : Shape := ⟨3, ![16, 4096, 2051]⟩
abbrev S16x3328x1024 : Shape := ⟨3, ![16, 3328, 1024]⟩
abbrev S16x896x1024 : Shape := ⟨3, ![16, 896, 1024]⟩
abbrev S4x4096x2051 : Shape := ⟨3, ![4, 4096, 2051]⟩
abbrev S4x3328x1024 : Shape := ⟨3, ![4, 3328, 1024]⟩
abbrev S4x896x1024 : Shape := ⟨3, ![4, 896, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16x4096x2051, .bf16⟩
  | .hbm, ⟨1, _⟩ => ⟨S16x3328x1024, .bf16⟩
  | .hbm, ⟨2, _⟩ => ⟨S16x896x1024, .f32⟩
  | .hbm, ⟨3, _⟩ => ⟨S4x4096x2051, .bf16⟩
  | .hbm, ⟨4, _⟩ => ⟨S4x4096x2051, .bf16⟩
  | .hbm, ⟨5, _⟩ => ⟨S4x4096x2051, .bf16⟩
  | .hbm, ⟨6, _⟩ => ⟨S4x4096x2051, .bf16⟩
  | .hbm, ⟨7, _⟩ => ⟨S16x4096x2051, .bf16⟩
  | .hbm, ⟨8, _⟩ => ⟨S4x3328x1024, .bf16⟩
  | .hbm, ⟨9, _⟩ => ⟨S4x3328x1024, .bf16⟩
  | .hbm, ⟨10, _⟩ => ⟨S4x3328x1024, .bf16⟩
  | .hbm, ⟨11, _⟩ => ⟨S4x3328x1024, .bf16⟩
  | .hbm, ⟨12, _⟩ => ⟨S16x3328x1024, .bf16⟩
  | .hbm, ⟨13, _⟩ => ⟨S4x896x1024, .f32⟩
  | .hbm, ⟨14, _⟩ => ⟨S4x896x1024, .f32⟩
  | .hbm, ⟨15, _⟩ => ⟨S4x896x1024, .f32⟩
  | .hbm, ⟨16, _⟩ => ⟨S4x896x1024, .f32⟩
  | .hbm, ⟨17, _⟩ => ⟨S16x896x1024, .f32⟩
  | _, _ => ⟨S16x4096x2051, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel33.lean ====
abbrev S4096x2051 : Shape := ⟨2, ![4096, 2051]⟩
abbrev S3328x1024 : Shape := ⟨2, ![3328, 1024]⟩
abbrev S8x4096x2051 : Shape := ⟨3, ![8, 4096, 2051]⟩
abbrev S8x3328x1024 : Shape := ⟨3, ![8, 3328, 1024]⟩
abbrev S14 : Shape := ⟨1, ![14]⟩
abbrev S2 : Shape := ⟨1, ![2]⟩
abbrev S1 : Shape := ⟨1, ![1]⟩
abbrev S_ : Shape := ⟨0, ![]⟩
abbrev S1x4096x2051 : Shape := ⟨3, ![1, 4096, 2051]⟩
abbrev S1x3328x1024 : Shape := ⟨3, ![1, 3328, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x2051, .bf16⟩
  | .hbm, ⟨1, _⟩ => ⟨S3328x1024, .bf16⟩
  | .hbm, ⟨2, _⟩ => ⟨S8x4096x2051, .bf16⟩
  | .hbm, ⟨3, _⟩ => ⟨S8x3328x1024, .bf16⟩
  | _, _ => ⟨S4096x2051, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_12 : BitVec 32 := 0#32
  let c0_i32_13 : BitVec 32 := 0#32
  ![v17.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_11 v5
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi v20 v8
  let c0_i32_15 : BitVec 32 := 0#32
  let c0_i32_16 : BitVec 32 := 0#32
  ![v21.toNat, 0, 0]
def k0_dev1 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v62 : BitVec 32 := Scalar.muli v2 c4_i32_35
  let v63 : BitVec 32 := Scalar.addi c0_i32_36 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v64 : BitVec 32 := Scalar.muli v5 c2_i32_37
  let v65 : BitVec 32 := Scalar.addi v63 v64
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_38 : BitVec 32 := 1#32
  let v66 : BitVec 32 := Scalar.muli v9 c1_i32_38
  let v67 : BitVec 32 := Scalar.addi v65 v66
  v67.toNat
def k0_dev2 (d0 : Dev nD) : Nat :=
  let c0_i32_44 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_43 : BitVec 32 := 4#32
  let v74 : BitVec 32 := Scalar.muli v10 c4_i32_43
  let v75 : BitVec 32 := Scalar.addi c0_i32_44 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v76 : BitVec 32 := Scalar.muli v5 c2_i32_45
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v78 : BitVec 32 := Scalar.muli v8 c1_i32_46
  let v79 : BitVec 32 := Scalar.addi v77 v78
  v79.toNat
def k0_dev3 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v86 : BitVec 32 := Scalar.muli v2 c4_i32_51
  let v87 : BitVec 32 := Scalar.addi c0_i32_52 v86
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_53 : BitVec 32 := 2#32
  let v88 : BitVec 32 := Scalar.muli v11 c2_i32_53
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_54 : BitVec 32 := 1#32
  let v90 : BitVec 32 := Scalar.muli v8 c1_i32_54
  let v91 : BitVec 32 := Scalar.addi v89 v90
  v91.toNat
def k0_dev4 (d0 : Dev nD) : Nat :=
  let c0_i32_59 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_58 : BitVec 32 := 4#32
  let v98 : BitVec 32 := Scalar.muli v12 c4_i32_58
  let v99 : BitVec 32 := Scalar.addi c0_i32_59 v98
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_60 : BitVec 32 := 2#32
  let v100 : BitVec 32 := Scalar.muli v13 c2_i32_60
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v102 : BitVec 32 := Scalar.muli v8 c1_i32_61
  let v103 : BitVec 32 := Scalar.addi v101 v102
  v103.toNat
def k0_dev5 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v110 : BitVec 32 := Scalar.muli v2 c4_i32_65
  let v111 : BitVec 32 := Scalar.addi c0_i32_66 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v112 : BitVec 32 := Scalar.muli v5 c2_i32_67
  let v113 : BitVec 32 := Scalar.addi v111 v112
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_68 : BitVec 32 := 1#32
  let v114 : BitVec 32 := Scalar.muli v9 c1_i32_68
  let v115 : BitVec 32 := Scalar.addi v113 v114
  v115.toNat
def k0_dev6 (d0 : Dev nD) : Nat :=
  let c0_i32_73 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_72 : BitVec 32 := 4#32
  let v122 : BitVec 32 := Scalar.muli v10 c4_i32_72
  let v123 : BitVec 32 := Scalar.addi c0_i32_73 v122
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v124 : BitVec 32 := Scalar.muli v5 c2_i32_74
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v126 : BitVec 32 := Scalar.muli v8 c1_i32_75
  let v127 : BitVec 32 := Scalar.addi v125 v126
  v127.toNat
def k0_dev7 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v134 : BitVec 32 := Scalar.muli v2 c4_i32_79
  let v135 : BitVec 32 := Scalar.addi c0_i32_80 v134
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_81 : BitVec 32 := 2#32
  let v136 : BitVec 32 := Scalar.muli v11 c2_i32_81
  let v137 : BitVec 32 := Scalar.addi v135 v136
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v138 : BitVec 32 := Scalar.muli v8 c1_i32_82
  let v139 : BitVec 32 := Scalar.addi v137 v138
  v139.toNat
def k0_dev8 (d0 : Dev nD) : Nat :=
  let c0_i32_87 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_86 : BitVec 32 := 4#32
  let v146 : BitVec 32 := Scalar.muli v12 c4_i32_86
  let v147 : BitVec 32 := Scalar.addi c0_i32_87 v146
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_88 : BitVec 32 := 2#32
  let v148 : BitVec 32 := Scalar.muli v13 c2_i32_88
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v150 : BitVec 32 := Scalar.muli v8 c1_i32_89
  let v151 : BitVec 32 := Scalar.addi v149 v150
  v151.toNat
def k0_off3 (d0 : Dev nD) : Fin 3 → Nat :=
  let c4_i32_94 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v162 : BitVec 32 := Scalar.muli c4_i32_94 v10
  let c2_i32_95 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v163 : BitVec 32 := Scalar.muli c2_i32_95 v5
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v165 : BitVec 32 := Scalar.addi v164 v8
  let c0_i32_102 : BitVec 32 := 0#32
  let c0_i32_103 : BitVec 32 := 0#32
  ![v165.toNat, 0, 0]
def k0_dev9 (d0 : Dev nD) : Nat :=
  let c0_i32_113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_112 : BitVec 32 := 4#32
  let v186 : BitVec 32 := Scalar.muli v2 c4_i32_112
  let v187 : BitVec 32 := Scalar.addi c0_i32_113 v186
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_114 : BitVec 32 := 2#32
  let v188 : BitVec 32 := Scalar.muli v5 c2_i32_114
  let v189 : BitVec 32 := Scalar.addi v187 v188
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_115 : BitVec 32 := 1#32
  let v190 : BitVec 32 := Scalar.muli v9 c1_i32_115
  let v191 : BitVec 32 := Scalar.addi v189 v190
  v191.toNat
def k0_off4 (d0 : Dev nD) : Fin 3 → Nat :=
  let c4_i32_122 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v204 : BitVec 32 := Scalar.muli c4_i32_122 v2
  let c2_i32_123 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v205 : BitVec 32 := Scalar.muli c2_i32_123 v11
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v207 : BitVec 32 := Scalar.addi v206 v8
  let c0_i32_130 : BitVec 32 := 0#32
  let c0_i32_131 : BitVec 32 := 0#32
  ![v207.toNat, 0, 0]
def k0_dev10 (d0 : Dev nD) : Nat :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_139 : BitVec 32 := 4#32
  let v228 : BitVec 32 := Scalar.muli v2 c4_i32_139
  let v229 : BitVec 32 := Scalar.addi c0_i32_140 v228
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_141 : BitVec 32 := 2#32
  let v230 : BitVec 32 := Scalar.muli v5 c2_i32_141
  let v231 : BitVec 32 := Scalar.addi v229 v230
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_142 : BitVec 32 := 1#32
  let v232 : BitVec 32 := Scalar.muli v9 c1_i32_142
  let v233 : BitVec 32 := Scalar.addi v231 v232
  v233.toNat
def k0_off5 (d0 : Dev nD) : Fin 3 → Nat :=
  let c4_i32_149 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v246 : BitVec 32 := Scalar.muli c4_i32_149 v12
  let c2_i32_150 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v247 : BitVec 32 := Scalar.muli c2_i32_150 v13
  let v248 : BitVec 32 := Scalar.addi v246 v247
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v249 : BitVec 32 := Scalar.addi v248 v8
  let c0_i32_157 : BitVec 32 := 0#32
  let c0_i32_158 : BitVec 32 := 0#32
  ![v249.toNat, 0, 0]
def k0_dev11 (d0 : Dev nD) : Nat :=
  let c0_i32_167 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_166 : BitVec 32 := 4#32
  let v270 : BitVec 32 := Scalar.muli v2 c4_i32_166
  let v271 : BitVec 32 := Scalar.addi c0_i32_167 v270
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_168 : BitVec 32 := 2#32
  let v272 : BitVec 32 := Scalar.muli v5 c2_i32_168
  let v273 : BitVec 32 := Scalar.addi v271 v272
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_169 : BitVec 32 := 1#32
  let v274 : BitVec 32 := Scalar.muli v9 c1_i32_169
  let v275 : BitVec 32 := Scalar.addi v273 v274
  v275.toNat
def k0_off6 (d0 : Dev nD) : Fin 3 → Nat :=
  let c4_i32_176 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v288 : BitVec 32 := Scalar.muli c4_i32_176 v10
  let c2_i32_177 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v289 : BitVec 32 := Scalar.muli c2_i32_177 v5
  let v290 : BitVec 32 := Scalar.addi v288 v289
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v291 : BitVec 32 := Scalar.addi v290 v8
  let c0_i32_184 : BitVec 32 := 0#32
  let c0_i32_185 : BitVec 32 := 0#32
  ![v291.toNat, 0, 0]
def k0_dev12 (d0 : Dev nD) : Nat :=
  let c0_i32_194 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_193 : BitVec 32 := 4#32
  let v312 : BitVec 32 := Scalar.muli v2 c4_i32_193
  let v313 : BitVec 32 := Scalar.addi c0_i32_194 v312
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_195 : BitVec 32 := 2#32
  let v314 : BitVec 32 := Scalar.muli v5 c2_i32_195
  let v315 : BitVec 32 := Scalar.addi v313 v314
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_196 : BitVec 32 := 1#32
  let v316 : BitVec 32 := Scalar.muli v9 c1_i32_196
  let v317 : BitVec 32 := Scalar.addi v315 v316
  v317.toNat
def k0_off7 (d0 : Dev nD) : Fin 3 → Nat :=
  let c4_i32_203 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v330 : BitVec 32 := Scalar.muli c4_i32_203 v2
  let c2_i32_204 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v331 : BitVec 32 := Scalar.muli c2_i32_204 v11
  let v332 : BitVec 32 := Scalar.addi v330 v331
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v333 : BitVec 32 := Scalar.addi v332 v8
  let c0_i32_211 : BitVec 32 := 0#32
  let c0_i32_212 : BitVec 32 := 0#32
  ![v333.toNat, 0, 0]
def k0_dev13 (d0 : Dev nD) : Nat :=
  let c0_i32_221 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_220 : BitVec 32 := 4#32
  let v354 : BitVec 32 := Scalar.muli v2 c4_i32_220
  let v355 : BitVec 32 := Scalar.addi c0_i32_221 v354
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_222 : BitVec 32 := 2#32
  let v356 : BitVec 32 := Scalar.muli v5 c2_i32_222
  let v357 : BitVec 32 := Scalar.addi v355 v356
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_223 : BitVec 32 := 1#32
  let v358 : BitVec 32 := Scalar.muli v9 c1_i32_223
  let v359 : BitVec 32 := Scalar.addi v357 v358
  v359.toNat
def k0_off8 (d0 : Dev nD) : Fin 3 → Nat :=
  let c4_i32_230 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v372 : BitVec 32 := Scalar.muli c4_i32_230 v12
  let c2_i32_231 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v373 : BitVec 32 := Scalar.muli c2_i32_231 v13
  let v374 : BitVec 32 := Scalar.addi v372 v373
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v375 : BitVec 32 := Scalar.addi v374 v8
  let c0_i32_238 : BitVec 32 := 0#32
  let c0_i32_239 : BitVec 32 := 0#32
  ![v375.toNat, 0, 0]
def k0_dev14 (d0 : Dev nD) : Nat :=
  let c0_i32_248 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_247 : BitVec 32 := 4#32
  let v396 : BitVec 32 := Scalar.muli v2 c4_i32_247
  let v397 : BitVec 32 := Scalar.addi c0_i32_248 v396
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_249 : BitVec 32 := 2#32
  let v398 : BitVec 32 := Scalar.muli v5 c2_i32_249
  let v399 : BitVec 32 := Scalar.addi v397 v398
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_250 : BitVec 32 := 1#32
  let v400 : BitVec 32 := Scalar.muli v9 c1_i32_250
  let v401 : BitVec 32 := Scalar.addi v399 v400
  v401.toNat
def k0_off9 (d0 : Dev nD) : Fin 3 → Nat :=
  let c4_i32_257 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v414 : BitVec 32 := Scalar.muli c4_i32_257 v2
  let c2_i32_258 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v415 : BitVec 32 := Scalar.muli c2_i32_258 v5
  let v416 : BitVec 32 := Scalar.addi v414 v415
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v417 : BitVec 32 := Scalar.addi v416 v9
  let c0_i32_265 : BitVec 32 := 0#32
  let c0_i32_266 : BitVec 32 := 0#32
  ![v417.toNat, 0, 0]
def k0_off10 (d0 : Dev nD) : Fin 3 → Nat :=
  let c4_i32_272 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v435 : BitVec 32 := Scalar.muli c4_i32_272 v10
  let c2_i32_273 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v436 : BitVec 32 := Scalar.muli c2_i32_273 v5
  let v437 : BitVec 32 := Scalar.addi v435 v436
  let c1_i32_269 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v430 : BitVec 32 := Scalar.subi c1_i32_269 v8
  let v438 : BitVec 32 := Scalar.addi v437 v430
  let c0_i32_280 : BitVec 32 := 0#32
  let c0_i32_281 : BitVec 32 := 0#32
  ![v438.toNat, 0, 0]
def k0_off11 (d0 : Dev nD) : Fin 3 → Nat :=
  let c4_i32_287 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v456 : BitVec 32 := Scalar.muli c4_i32_287 v2
  let c2_i32_288 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v457 : BitVec 32 := Scalar.muli c2_i32_288 v11
  let v458 : BitVec 32 := Scalar.addi v456 v457
  let c1_i32_284 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v451 : BitVec 32 := Scalar.subi c1_i32_284 v8
  let v459 : BitVec 32 := Scalar.addi v458 v451
  let c0_i32_295 : BitVec 32 := 0#32
  let c0_i32_296 : BitVec 32 := 0#32
  ![v459.toNat, 0, 0]
def k0_off12 (d0 : Dev nD) : Fin 3 → Nat :=
  let c4_i32_302 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v477 : BitVec 32 := Scalar.muli c4_i32_302 v12
  let c2_i32_303 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v478 : BitVec 32 := Scalar.muli c2_i32_303 v13
  let v479 : BitVec 32 := Scalar.addi v477 v478
  let c1_i32_299 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v472 : BitVec 32 := Scalar.subi c1_i32_299 v8
  let v480 : BitVec 32 := Scalar.addi v479 v472
  let c0_i32_310 : BitVec 32 := 0#32
  let c0_i32_311 : BitVec 32 := 0#32
  ![v480.toNat, 0, 0]
def k0_off13 (d0 : Dev nD) : Fin 3 → Nat :=
  let c4_i32_316 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v497 : BitVec 32 := Scalar.muli c4_i32_316 v2
  let c2_i32_317 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v498 : BitVec 32 := Scalar.muli c2_i32_317 v5
  let v499 : BitVec 32 := Scalar.addi v497 v498
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v500 : BitVec 32 := Scalar.addi v499 v9
  let c0_i32_324 : BitVec 32 := 0#32
  let c0_i32_325 : BitVec 32 := 0#32
  ![v500.toNat, 0, 0]
def k0_off14 (d0 : Dev nD) : Fin 3 → Nat :=
  let c4_i32_331 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v518 : BitVec 32 := Scalar.muli c4_i32_331 v10
  let c2_i32_332 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v519 : BitVec 32 := Scalar.muli c2_i32_332 v5
  let v520 : BitVec 32 := Scalar.addi v518 v519
  let c1_i32_328 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v513 : BitVec 32 := Scalar.subi c1_i32_328 v8
  let v521 : BitVec 32 := Scalar.addi v520 v513
  let c0_i32_339 : BitVec 32 := 0#32
  let c0_i32_340 : BitVec 32 := 0#32
  ![v521.toNat, 0, 0]
def k0_off15 (d0 : Dev nD) : Fin 3 → Nat :=
  let c4_i32_346 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v539 : BitVec 32 := Scalar.muli c4_i32_346 v2
  let c2_i32_347 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v540 : BitVec 32 := Scalar.muli c2_i32_347 v11
  let v541 : BitVec 32 := Scalar.addi v539 v540
  let c1_i32_343 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v534 : BitVec 32 := Scalar.subi c1_i32_343 v8
  let v542 : BitVec 32 := Scalar.addi v541 v534
  let c0_i32_354 : BitVec 32 := 0#32
  let c0_i32_355 : BitVec 32 := 0#32
  ![v542.toNat, 0, 0]
def k0_off16 (d0 : Dev nD) : Fin 3 → Nat :=
  let c4_i32_361 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v560 : BitVec 32 := Scalar.muli c4_i32_361 v12
  let c2_i32_362 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v561 : BitVec 32 := Scalar.muli c2_i32_362 v13
  let v562 : BitVec 32 := Scalar.addi v560 v561
  let c1_i32_358 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v555 : BitVec 32 := Scalar.subi c1_i32_358 v8
  let v563 : BitVec 32 := Scalar.addi v562 v555
  let c0_i32_369 : BitVec 32 := 0#32
  let c0_i32_370 : BitVec 32 := 0#32
  ![v563.toNat, 0, 0]
-- ==== Reference33Ideal.lean ====
abbrev S32768x2051 : Shape := ⟨2, ![32768, 2051]⟩
abbrev S26624x1024 : Shape := ⟨2, ![26624, 1024]⟩
abbrev S8x4096x2051 : Shape := ⟨3, ![8, 4096, 2051]⟩
abbrev S8x3328x1024 : Shape := ⟨3, ![8, 3328, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x2051, .bf16⟩
  | .hbm, ⟨1, _⟩ => ⟨S26624x1024, .bf16⟩
  | .hbm, ⟨2, _⟩ => ⟨S8x4096x2051, .bf16⟩
  | .hbm, ⟨3, _⟩ => ⟨S8x3328x1024, .bf16⟩
  | _, _ => ⟨S32768x2051, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel34.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 4
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .f32⟩
  | .local _ .vmem, ⟨3, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference34Ideal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 45
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x2048, .f32⟩
  | .hbm, ⟨33, _⟩ => ⟨S256x2048, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel35.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference35Ideal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel36.lean ====
abbrev S8192x768 : Shape := ⟨2, ![8192, 768]⟩
abbrev S8192x16896 : Shape := ⟨2, ![8192, 16896]⟩
abbrev S1x128 : Shape := ⟨2, ![1, 128]⟩
abbrev S256x768 : Shape := ⟨2, ![256, 768]⟩
abbrev S256x128 : Shape := ⟨2, ![256, 128]⟩
abbrev S256 : Shape := ⟨1, ![256]⟩
abbrev S256x1 : Shape := ⟨2, ![256, 1]⟩
abbrev S128 : Shape := ⟨1, ![128]⟩
abbrev S256x640 : Shape := ⟨2, ![256, 640]⟩
abbrev S256x512 : Shape := ⟨2, ![256, 512]⟩
abbrev S256x384 : Shape := ⟨2, ![256, 384]⟩
abbrev S256x256 : Shape := ⟨2, ![256, 256]⟩

abbrev nBuf : Space → Nat
  | .hbm => 7
  | .vmem => 12
  | .smem => 0
  | _ => 0

abbrev bufTy : (tb : Table) → Fin (tcTables nBuf tb) → BufTy
  | .hbm, ⟨0, _⟩ => ⟨S8192x768, .f32⟩
  | .hbm, ⟨1, _⟩ => ⟨S8192x16896, .f32⟩
  | .hbm, ⟨2, _⟩ => ⟨S1x128, .f32⟩
  | .hbm, ⟨3, _⟩ => ⟨S8192x768, .f32⟩
  | .hbm, ⟨4, _⟩ => ⟨S8192x768, .f32⟩
  | .hbm, ⟨5, _⟩ => ⟨S8192x768, .f32⟩
  | .hbm, ⟨6, _⟩ => ⟨S1x128, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S1x128, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S1x128, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference36Ideal.lean ====
abbrev S8192x768 : Shape := ⟨2, ![8192, 768]⟩
abbrev S8192x16896 : Shape := ⟨2, ![8192, 16896]⟩
abbrev S1x128 : Shape := ⟨2, ![1, 128]⟩
abbrev S8192x6x128 : Shape := ⟨3, ![8192, 6, 128]⟩
abbrev S128 : Shape := ⟨1, ![128]⟩
abbrev S_ : Shape := ⟨0, ![]⟩
abbrev S8192x6 : Shape := ⟨2, ![8192, 6]⟩
abbrev S8192x6x1 : Shape := ⟨3, ![8192, 6, 1]⟩
abbrev S1x1x128 : Shape := ⟨3, ![1, 1, 128]⟩

abbrev nBuf : Space → Nat
  | .hbm => 76
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x16896, .f32⟩
  | .hbm, ⟨2, _⟩ => ⟨S1x128, .f32⟩
  | .hbm, ⟨3, _⟩ => ⟨S8192x768, .f32⟩
  | .hbm, ⟨4, _⟩ => ⟨S8192x768, .f32⟩
  | .hbm, ⟨5, _⟩ => ⟨S8192x6x128, .f32⟩
  | .hbm, ⟨6, _⟩ => ⟨S128, .f32⟩
  | .hbm, ⟨7, _⟩ => ⟨S8192x6x128, .f32⟩
  | .hbm, ⟨8, _⟩ => ⟨S_, .f32⟩
  | .hbm, ⟨9, _⟩ => ⟨S8192x6, .f32⟩
  | .hbm, ⟨10, _⟩ => ⟨S8192x6x1, .f32⟩
  | .hbm, ⟨11, _⟩ => ⟨S_, .f32⟩
  | .hbm, ⟨12, _⟩ => ⟨S8192x6x1, .f32⟩
  | .hbm, ⟨13, _⟩ => ⟨S8192x6x1, .f32⟩
  | .hbm, ⟨14, _⟩ => ⟨S_, .f32⟩
  | .hbm, ⟨15, _⟩ => ⟨S8192x6x1, .f32⟩
  | .hbm, ⟨16, _⟩ => ⟨S8192x6x1, .f32⟩
  | .hbm, ⟨17, _⟩ => ⟨S8192x6x1, .f32⟩
  | .hbm, ⟨18, _⟩ => ⟨S8192x6x1, .f32⟩
  | .hbm, ⟨19, _⟩ => ⟨S_, .f32⟩
  | .hbm, ⟨20, _⟩ => ⟨S8192x6x1, .f32⟩
  | .hbm, ⟨21, _⟩ => ⟨S8192x6x1, .f32⟩
  | .hbm, ⟨22, _⟩ => ⟨S8192x6x128, .f32⟩
  | .hbm, ⟨23, _⟩ => ⟨S8192x6x128, .f32⟩
  | .hbm, ⟨24, _⟩ => ⟨S1x1x128, .f32⟩
  | .hbm, ⟨25, _⟩ => ⟨S8192x6x128, .f32⟩
  | .hbm, ⟨26, _⟩ => ⟨S8192x6x128, .f32⟩
  | .hbm, ⟨27, _⟩ => ⟨S8192x768, .f32⟩
  | .hbm, ⟨28, _⟩ => ⟨S8192x768, .f32⟩
  | .hbm, ⟨29, _⟩ => ⟨S8192x768, .f32⟩
  | .hbm, ⟨30, _⟩ => ⟨S_, .f32⟩
  | .hbm, ⟨31, _⟩ => ⟨S8192x768, .f32⟩
  | .hbm, ⟨32, _⟩ => ⟨S8192x768, .f32⟩
  | .hbm, ⟨33, _⟩ => ⟨S_, .f32⟩
  | .hbm, ⟨34, _⟩ => ⟨S8192x768, .f32⟩
  | .hbm, ⟨35, _⟩ => ⟨S8192x768, .f32⟩
  | .hbm, ⟨36, _⟩ => ⟨S_, .f32⟩
  | .hbm, ⟨37, _⟩ => ⟨S8192x768, .f32⟩
  | .hbm, ⟨38, _⟩ => ⟨S8192x768, .f32⟩
  | .hbm, ⟨39, _⟩ => ⟨S8192x768, .f32⟩
  | .hbm, ⟨40, _⟩ => ⟨S8192x768, .f32⟩
  | .hbm, ⟨41, _⟩ => ⟨S8192x768, .f32⟩
  | .hbm, ⟨42, _⟩ => ⟨S8192x768, .f32⟩
  | .hbm, ⟨43, _⟩ => ⟨S8192x768, .f32⟩
  | .hbm, ⟨44, _⟩ => ⟨S8192x768, .f32⟩
  | .hbm, ⟨45, _⟩ => ⟨S8192x768, .f32⟩
  | .hbm, ⟨46, _⟩ => ⟨S8192x768, .f32⟩
  | .hbm, ⟨47, _⟩ => ⟨S8192x768, .f32⟩
  | .hbm, ⟨48, _⟩ => ⟨S8192x6x128, .f32⟩
  | .hbm, ⟨49, _⟩ => ⟨S8192x6x128, .f32⟩
  | .hbm, ⟨50, _⟩ => ⟨S_, .f32⟩
  | .hbm, ⟨51, _⟩ => ⟨S128, .f32⟩
  | .hbm, ⟨52, _⟩ => ⟨S1x1x128, .f32⟩
  | .hbm, ⟨53, _⟩ => ⟨S8192x6x128, .f32⟩
  | .hbm, ⟨54, _⟩ => ⟨S8192x6x128, .f32⟩
  | .hbm, ⟨55, _⟩ => ⟨S_, .f32⟩
  | .hbm, ⟨56, _⟩ => ⟨S128, .f32⟩
  | .hbm, ⟨57, _⟩ => ⟨S8192x6x128, .f32⟩
  | .hbm, ⟨58, _⟩ => ⟨S_, .f32⟩
  | .hbm, ⟨59, _⟩ => ⟨S8192x6, .f32⟩
  | .hbm, ⟨60, _⟩ => ⟨S8192x6x1, .f32⟩
  | .hbm, ⟨61, _⟩ => ⟨S8192x6x128, .f32⟩
  | .hbm, ⟨62, _⟩ => ⟨S8192x6x128, .f32⟩
  | .hbm, ⟨63, _⟩ => ⟨S8192x6x1, .f32⟩
  | .hbm, ⟨64, _⟩ => ⟨S_, .f32⟩
  | .hbm, ⟨65, _⟩ => ⟨S8192x6x1, .f32⟩
  | .hbm, ⟨66, _⟩ => ⟨S8192x6x1, .f32⟩
  | .hbm, ⟨67, _⟩ => ⟨S_, .f32⟩
  | .hbm, ⟨68, _⟩ => ⟨S8192x6, .f32⟩
  | .hbm, ⟨69, _⟩ => ⟨S8192x6x128, .f32⟩
  | .hbm, ⟨70, _⟩ => ⟨S8192x6x128, .f32⟩
  | .hbm, ⟨71, _⟩ => ⟨S8192x6x128, .f32⟩
  | .hbm, ⟨72, _⟩ => ⟨S8192x6x128, .f32⟩
  | .hbm, ⟨73, _⟩ => ⟨S8192x6x128, .f32⟩
  | .hbm, ⟨74, _⟩ => ⟨S1x128, .f32⟩
  | .hbm, ⟨75, _⟩ => ⟨S8192x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v20_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v20_1 : Ref sig .tc := ⟨.hbm, 39, rfl⟩
abbrev main_v20_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== Kernel37.lean ====
abbrev S8192x768 : Shape := ⟨2, ![8192, 768]⟩
abbrev S8192x16896 : Shape := ⟨2, ![8192, 16896]⟩
abbrev S1x128 : Shape := ⟨2, ![1, 128]⟩
abbrev S256x768 : Shape := ⟨2, ![256, 768]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x768, .f32⟩
  | .hbm, ⟨1, _⟩ => ⟨S8192x16896, .f32⟩
  | .hbm, ⟨2, _⟩ => ⟨S1x128, .f32⟩
  | .hbm, ⟨3, _⟩ => ⟨S8192x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S1x128, .f32⟩
  | .local _ .vmem, ⟨5, _⟩ => ⟨S256x768, .f32⟩
  | .local _ .vmem, ⟨6, _⟩ => ⟨S256x768, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference37Ideal.lean ====
abbrev S8192x768 : Shape := ⟨2, ![8192, 768]⟩
abbrev S8192x16896 : Shape := ⟨2, ![8192, 16896]⟩
abbrev S1x128 : Shape := ⟨2, ![1, 128]⟩
abbrev S8192x6x128 : Shape := ⟨3, ![8192, 6, 128]⟩
abbrev S128 : Shape := ⟨1, ![128]⟩
abbrev S_ : Shape := ⟨0, ![]⟩
abbrev S8192x6 : Shape := ⟨2, ![8192, 6]⟩
abbrev S8192x6x1 : Shape := ⟨3, ![8192, 6, 1]⟩
abbrev S1x1x128 : Shape := ⟨3, ![1, 1, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x16896, .f32⟩
  | .hbm, ⟨2, _⟩ => ⟨S1x128, .f32⟩
  | .hbm, ⟨3, _⟩ => ⟨S8192x768, .f32⟩
  | .hbm, ⟨4, _⟩ => ⟨S8192x6x128, .f32⟩
  | .hbm, ⟨5, _⟩ => ⟨S128, .f32⟩
  | .hbm, ⟨6, _⟩ => ⟨S8192x6x128, .f32⟩
  | .hbm, ⟨7, _⟩ => ⟨S_, .f32⟩
  | .hbm, ⟨8, _⟩ => ⟨S8192x6, .f32⟩
  | .hbm, ⟨9, _⟩ => ⟨S8192x6x1, .f32⟩
  | .hbm, ⟨10, _⟩ => ⟨S_, .f32⟩
  | .hbm, ⟨11, _⟩ => ⟨S8192x6x1, .f32⟩
  | .hbm, ⟨12, _⟩ => ⟨S8192x6x1, .f32⟩
  | .hbm, ⟨13, _⟩ => ⟨S_, .f32⟩
  | .hbm, ⟨14, _⟩ => ⟨S8192x6x1, .f32⟩
  | .hbm, ⟨15, _⟩ => ⟨S8192x6x1, .f32⟩
  | .hbm, ⟨16, _⟩ => ⟨S8192x6x1, .f32⟩
  | .hbm, ⟨17, _⟩ => ⟨S8192x6x128, .f32⟩
  | .hbm, ⟨18, _⟩ => ⟨S8192x6x128, .f32⟩
  | .hbm, ⟨19, _⟩ => ⟨S1x1x128, .f32⟩
  | .hbm, ⟨20, _⟩ => ⟨S8192x6x128, .f32⟩
  | .hbm, ⟨21, _⟩ => ⟨S8192x6x128, .f32⟩
  | .hbm, ⟨22, _⟩ => ⟨S8192x768, .f32⟩
  | .hbm, ⟨23, _⟩ => ⟨S8192x768, .f32⟩
  | .hbm, ⟨24, _⟩ => ⟨S8192x768, .f32⟩
  | .hbm, ⟨25, _⟩ => ⟨S_, .f32⟩
  | .hbm, ⟨26, _⟩ => ⟨S8192x768, .f32⟩
  | .hbm, ⟨27, _⟩ => ⟨S8192x768, .f32⟩
  | .hbm, ⟨28, _⟩ => ⟨S_, .f32⟩
  | .hbm, ⟨29, _⟩ => ⟨S8192x768, .f32⟩
  | .hbm, ⟨30, _⟩ => ⟨S8192x768, .f32⟩
  | .hbm, ⟨31, _⟩ => ⟨S8192x768, .f32⟩
  | .hbm, ⟨32, _⟩ => ⟨S8192x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Kernel38.lean ====
abbrev S8192x1024 : Shape := ⟨2, ![8192, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference38Ideal.lean ====
abbrev S8192x1024 : Shape := ⟨2, ![8192, 1024]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8x128, .f32⟩
  | .hbm, ⟨3, _⟩ => ⟨S8192x8x128, .f32⟩
  | .hbm, ⟨4, _⟩ => ⟨S8192x8x128, .f32⟩
  | .hbm, ⟨5, _⟩ => ⟨S_, .f32⟩
  | .hbm, ⟨6, _⟩ => ⟨S8192x8, .f32⟩
  | .hbm, ⟨7, _⟩ => ⟨S8192x8x1, .f32⟩
  | .hbm, ⟨8, _⟩ => ⟨S8192x8x128, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel39.lean ====
abbrev S8192x768 : Shape := ⟨2, ![8192, 768]⟩
abbrev S8192x16896 : Shape := ⟨2, ![8192, 16896]⟩
abbrev S1x768 : Shape := ⟨2, ![1, 768]⟩
abbrev S768x768 : Shape := ⟨2, ![768, 768]⟩
abbrev S256x768 : Shape := ⟨2, ![256, 768]⟩
abbrev S768 : Shape := ⟨1, ![768]⟩

abbrev nBuf : Space → Nat
  | .hbm => 12
  | .vmem => 20
  | .smem => 0
  | _ => 0

abbrev bufTy : (tb : Table) → Fin (tcTables nBuf tb) → BufTy
  | .hbm, ⟨0, _⟩ => ⟨S8192x768, .f32⟩
  | .hbm, ⟨1, _⟩ => ⟨S8192x16896, .f32⟩
  | .hbm, ⟨2, _⟩ => ⟨S1x768, .f32⟩
  | .hbm, ⟨3, _⟩ => ⟨S768x768, .f32⟩
  | .hbm, ⟨4, _⟩ => ⟨S1x768, .f32⟩
  | .hbm, ⟨5, _⟩ => ⟨S8192x768, .f32⟩
  | .hbm, ⟨6, _⟩ => ⟨S8192x768, .f32⟩
  | .hbm, ⟨7, _⟩ => ⟨S8192x768, .f32⟩
  | .hbm, ⟨8, _⟩ => ⟨S8192x768, .f32⟩
  | .hbm, ⟨9, _⟩ => ⟨S1x768, .f32⟩
  | .hbm, ⟨10, _⟩ => ⟨S768x768, .f32⟩
  | .hbm, ⟨11, _⟩ => ⟨S1x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S1x768, .f32⟩
  | .local _ .vmem, ⟨7, _⟩ => ⟨S768x768, .f32⟩
  | .local _ .vmem, ⟨8, _⟩ => ⟨S1x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S1x768, .f32⟩
  | .local _ .vmem, ⟨18, _⟩ => ⟨S768x768, .f32⟩
  | .local _ .vmem, ⟨19, _⟩ => ⟨S1x768, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference39Ideal.lean ====
abbrev S8192x768 : Shape := ⟨2, ![8192, 768]⟩
abbrev S8192x16896 : Shape := ⟨2, ![8192, 16896]⟩
abbrev S1x768 : Shape := ⟨2, ![1, 768]⟩
abbrev S768x768 : Shape := ⟨2, ![768, 768]⟩
abbrev S8192x48x16 : Shape := ⟨3, ![8192, 48, 16]⟩
abbrev S_ : Shape := ⟨0, ![]⟩
abbrev S768 : Shape := ⟨1, ![768]⟩

abbrev nBuf : Space → Nat
  | .hbm => 110
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x16896, .f32⟩
  | .hbm, ⟨2, _⟩ => ⟨S1x768, .f32⟩
  | .hbm, ⟨3, _⟩ => ⟨S768x768, .f32⟩
  | .hbm, ⟨4, _⟩ => ⟨S1x768, .f32⟩
  | .hbm, ⟨5, _⟩ => ⟨S8192x768, .f32⟩
  | .hbm, ⟨6, _⟩ => ⟨S8192x768, .f32⟩
  | .hbm, ⟨7, _⟩ => ⟨S8192x768, .f32⟩
  | .hbm, ⟨8, _⟩ => ⟨S8192x768, .f32⟩
  | .hbm, ⟨9, _⟩ => ⟨S8192x768, .f32⟩
  | .hbm, ⟨10, _⟩ => ⟨S8192x768, .f32⟩
  | .hbm, ⟨11, _⟩ => ⟨S8192x48x16, .f32⟩
  | .hbm, ⟨12, _⟩ => ⟨S8192x48x16, .f32⟩
  | .hbm, ⟨13, _⟩ => ⟨S8192x48x16, .f32⟩
  | .hbm, ⟨14, _⟩ => ⟨S8192x48x16, .f32⟩
  | .hbm, ⟨15, _⟩ => ⟨S_, .f32⟩
  | .hbm, ⟨16, _⟩ => ⟨S8192x48x16, .f32⟩
  | .hbm, ⟨17, _⟩ => ⟨S8192x48x16, .f32⟩
  | .hbm, ⟨18, _⟩ => ⟨S_, .f32⟩
  | .hbm, ⟨19, _⟩ => ⟨S8192x48x16, .f32⟩
  | .hbm, ⟨20, _⟩ => ⟨S8192x48x16, .f32⟩
  | .hbm, ⟨21, _⟩ => ⟨S8192x48x16, .f32⟩
  | .hbm, ⟨22, _⟩ => ⟨S_, .f32⟩
  | .hbm, ⟨23, _⟩ => ⟨S8192x48x16, .f32⟩
  | .hbm, ⟨24, _⟩ => ⟨S8192x48x16, .f32⟩
  | .hbm, ⟨25, _⟩ => ⟨S8192x48x16, .f32⟩
  | .hbm, ⟨26, _⟩ => ⟨S_, .f32⟩
  | .hbm, ⟨27, _⟩ => ⟨S8192x48x16, .f32⟩
  | .hbm, ⟨28, _⟩ => ⟨S8192x48x16, .f32⟩
  | .hbm, ⟨29, _⟩ => ⟨S_, .f32⟩
  | .hbm, ⟨30, _⟩ => ⟨S8192x48x16, .f32⟩
  | .hbm, ⟨31, _⟩ => ⟨S8192x48x16, .f32⟩
  | .hbm, ⟨32, _⟩ => ⟨S8192x48x16, .f32⟩
  | .hbm, ⟨33, _⟩ => ⟨S_, .f32⟩
  | .hbm, ⟨34, _⟩ => ⟨S8192x48x16, .f32⟩
  | .hbm, ⟨35, _⟩ => ⟨S8192x48x16, .f32⟩
  | .hbm, ⟨36, _⟩ => ⟨S_, .f32⟩
  | .hbm, ⟨37, _⟩ => ⟨S8192x48x16, .f32⟩
  | .hbm, ⟨38, _⟩ => ⟨S8192x48x16, .f32⟩
  | .hbm, ⟨39, _⟩ => ⟨S8192x48x16, .f32⟩
  | .hbm, ⟨40, _⟩ => ⟨S8192x768, .f32⟩
  | .hbm, ⟨41, _⟩ => ⟨S8192x768, .f32⟩
  | .hbm, ⟨42, _⟩ => ⟨S8192x768, .f32⟩
  | .hbm, ⟨43, _⟩ => ⟨S8192x768, .f32⟩
  | .hbm, ⟨44, _⟩ => ⟨S8192x768, .f32⟩
  | .hbm, ⟨45, _⟩ => ⟨S8192x768, .f32⟩
  | .hbm, ⟨46, _⟩ => ⟨S_, .f32⟩
  | .hbm, ⟨47, _⟩ => ⟨S8192x768, .f32⟩
  | .hbm, ⟨48, _⟩ => ⟨S8192x768, .f32⟩
  | .hbm, ⟨49, _⟩ => ⟨S_, .f32⟩
  | .hbm, ⟨50, _⟩ => ⟨S8192x768, .f32⟩
  | .hbm, ⟨51, _⟩ => ⟨S8192x768, .f32⟩
  | .hbm, ⟨52, _⟩ => ⟨S_, .f32⟩
  | .hbm, ⟨53, _⟩ => ⟨S8192x768, .f32⟩
  | .hbm, ⟨54, _⟩ => ⟨S8192x768, .f32⟩
  | .hbm, ⟨55, _⟩ => ⟨S8192x768, .f32⟩
  | .hbm, ⟨56, _⟩ => ⟨S8192x768, .f32⟩
  | .hbm, ⟨57, _⟩ => ⟨S8192x768, .f32⟩
  | .hbm, ⟨58, _⟩ => ⟨S8192x768, .f32⟩
  | .hbm, ⟨59, _⟩ => ⟨S_, .f32⟩
  | .hbm, ⟨60, _⟩ => ⟨S8192x768, .f32⟩
  | .hbm, ⟨61, _⟩ => ⟨S8192x768, .f32⟩
  | .hbm, ⟨62, _⟩ => ⟨S_, .f32⟩
  | .hbm, ⟨63, _⟩ => ⟨S8192x768, .f32⟩
  | .hbm, ⟨64, _⟩ => ⟨S8192x768, .f32⟩
  | .hbm, ⟨65, _⟩ => ⟨S_, .f32⟩
  | .hbm, ⟨66, _⟩ => ⟨S8192x768, .f32⟩
  | .hbm, ⟨67, _⟩ => ⟨S8192x768, .f32⟩
  | .hbm, ⟨68, _⟩ => ⟨S8192x768, .f32⟩
  | .hbm, ⟨69, _⟩ => ⟨S8192x768, .f32⟩
  | .hbm, ⟨70, _⟩ => ⟨S8192x768, .f32⟩
  | .hbm, ⟨71, _⟩ => ⟨S8192x768, .f32⟩
  | .hbm, ⟨72, _⟩ => ⟨S8192x768, .f32⟩
  | .hbm, ⟨73, _⟩ => ⟨S8192x768, .f32⟩
  | .hbm, ⟨74, _⟩ => ⟨S8192x768, .f32⟩
  | .hbm, ⟨75, _⟩ => ⟨S8192x768, .f32⟩
  | .hbm, ⟨76, _⟩ => ⟨S8192x768, .f32⟩
  | .hbm, ⟨77, _⟩ => ⟨S8192x768, .f32⟩
  | .hbm, ⟨78, _⟩ => ⟨S8192x768, .f32⟩
  | .hbm, ⟨79, _⟩ => ⟨S8192x768, .f32⟩
  | .hbm, ⟨80, _⟩ => ⟨S_, .f32⟩
  | .hbm, ⟨81, _⟩ => ⟨S768, .f32⟩
  | .hbm, ⟨82, _⟩ => ⟨S1x768, .f32⟩
  | .hbm, ⟨83, _⟩ => ⟨S768x768, .f32⟩
  | .hbm, ⟨84, _⟩ => ⟨S768x768, .f32⟩
  | .hbm, ⟨85, _⟩ => ⟨S8192x768, .f32⟩
  | .hbm, ⟨86, _⟩ => ⟨S8192x768, .f32⟩
  | .hbm, ⟨87, _⟩ => ⟨S8192x48x16, .f32⟩
  | .hbm, ⟨88, _⟩ => ⟨S8192x48x16, .f32⟩
  | .hbm, ⟨89, _⟩ => ⟨S8192x48x16, .f32⟩
  | .hbm, ⟨90, _⟩ => ⟨S_, .f32⟩
  | .hbm, ⟨91, _⟩ => ⟨S8192x48x16, .f32⟩
  | .hbm, ⟨92, _⟩ => ⟨S8192x48x16, .f32⟩
  | .hbm, ⟨93, _⟩ => ⟨S8192x48x16, .f32⟩
  | .hbm, ⟨94, _⟩ => ⟨S_, .f32⟩
  | .hbm, ⟨95, _⟩ => ⟨S8192x48x16, .f32⟩
  | .hbm, ⟨96, _⟩ => ⟨S8192x48x16, .f32⟩
  | .hbm, ⟨97, _⟩ => ⟨S8192x48x16, .f32⟩
  | .hbm, ⟨98, _⟩ => ⟨S_, .f32⟩
  | .hbm, ⟨99, _⟩ => ⟨S8192x48x16, .f32⟩
  | .hbm, ⟨100, _⟩ => ⟨S8192x48x16, .f32⟩
  | .hbm, ⟨101, _⟩ => ⟨S8192x48x16, .f32⟩
  | .hbm, ⟨102, _⟩ => ⟨S8192x48x16, .f32⟩
  | .hbm, ⟨103, _⟩ => ⟨S8192x768, .f32⟩
  | .hbm, ⟨104, _⟩ => ⟨S8192x768, .f32⟩
  | .hbm, ⟨105, _⟩ => ⟨S8192x768, .f32⟩
  | .hbm, ⟨106, _⟩ => ⟨S8192x768, .f32⟩
  | .hbm, ⟨107, _⟩ => ⟨S_, .f32⟩
  | .hbm, ⟨108, _⟩ => ⟨S768, .f32⟩
  | .hbm, ⟨109, _⟩ => ⟨S1x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v41_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v41_1 : Ref sig .tc := ⟨.hbm, 68, rfl⟩
abbrev main_v41_0 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_11 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_13 : Ref sig .tc := ⟨.hbm, 107, rfl⟩
abbrev main_v72 : Ref sig .tc := ⟨.hbm, 108, rfl⟩
abbrev main_v73 : Ref sig .tc := ⟨.hbm, 109, rfl⟩

abbrev nD : Nat := 1
abbrev τ : Topo := Topo.v7x

variable {F : FTy → Type} [FloatOps F]
-- ==== Kernel40.lean ====
abbrev S8192x768 : Shape := ⟨2, ![8192, 768]⟩
abbrev S8192x16896 : Shape := ⟨2, ![8192, 16896]⟩
abbrev S1x768 : Shape := ⟨2, ![1, 768]⟩
abbrev S768x768 : Shape := ⟨2, ![768, 768]⟩
abbrev S256x768 : Shape := ⟨2, ![256, 768]⟩

abbrev nBuf : Space → Nat
  | .hbm => 6
  | .vmem => 11
  | .smem => 0
  | _ => 0

abbrev bufTy : (tb : Table) → Fin (tcTables nBuf tb) → BufTy
  | .hbm, ⟨0, _⟩ => ⟨S8192x768, .f32⟩
  | .hbm, ⟨1, _⟩ => ⟨S8192x16896, .f32⟩
  | .hbm, ⟨2, _⟩ => ⟨S1x768, .f32⟩
  | .hbm, ⟨3, _⟩ => ⟨S768x768, .f32⟩
  | .hbm, ⟨4, _⟩ => ⟨S1x768, .f32⟩
  | .hbm, ⟨5, _⟩ => ⟨S8192x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S1x768, .f32⟩
  | .local _ .vmem, ⟨7, _⟩ => ⟨S768x768, .f32⟩
  | .local _ .vmem, ⟨8, _⟩ => ⟨S1x768, .f32⟩
  | .local _ .vmem, ⟨9, _⟩ => ⟨S256x768, .f32⟩
  | .local _ .vmem, ⟨10, _⟩ => ⟨S256x768, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference40Ideal.lean ====
abbrev S8192x768 : Shape := ⟨2, ![8192, 768]⟩
abbrev S8192x16896 : Shape := ⟨2, ![8192, 16896]⟩
abbrev S1x768 : Shape := ⟨2, ![1, 768]⟩
abbrev S768x768 : Shape := ⟨2, ![768, 768]⟩
abbrev S8192x48x16 : Shape := ⟨3, ![8192, 48, 16]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x16896, .f32⟩
  | .hbm, ⟨2, _⟩ => ⟨S1x768, .f32⟩
  | .hbm, ⟨3, _⟩ => ⟨S768x768, .f32⟩
  | .hbm, ⟨4, _⟩ => ⟨S1x768, .f32⟩
  | .hbm, ⟨5, _⟩ => ⟨S8192x768, .f32⟩
  | .hbm, ⟨6, _⟩ => ⟨S8192x768, .f32⟩
  | .hbm, ⟨7, _⟩ => ⟨S8192x768, .f32⟩
  | .hbm, ⟨8, _⟩ => ⟨S8192x768, .f32⟩
  | .hbm, ⟨9, _⟩ => ⟨S8192x768, .f32⟩
  | .hbm, ⟨10, _⟩ => ⟨S8192x48x16, .f32⟩
  | .hbm, ⟨11, _⟩ => ⟨S8192x48x16, .f32⟩
  | .hbm, ⟨12, _⟩ => ⟨S8192x48x16, .f32⟩
  | .hbm, ⟨13, _⟩ => ⟨S_, .f32⟩
  | .hbm, ⟨14, _⟩ => ⟨S8192x48x16, .f32⟩
  | .hbm, ⟨15, _⟩ => ⟨S8192x48x16, .f32⟩
  | .hbm, ⟨16, _⟩ => ⟨S8192x48x16, .f32⟩
  | .hbm, ⟨17, _⟩ => ⟨S_, .f32⟩
  | .hbm, ⟨18, _⟩ => ⟨S8192x48x16, .f32⟩
  | .hbm, ⟨19, _⟩ => ⟨S8192x48x16, .f32⟩
  | .hbm, ⟨20, _⟩ => ⟨S8192x48x16, .f32⟩
  | .hbm, ⟨21, _⟩ => ⟨S_, .f32⟩
  | .hbm, ⟨22, _⟩ => ⟨S8192x48x16, .f32⟩
  | .hbm, ⟨23, _⟩ => ⟨S8192x48x16, .f32⟩
  | .hbm, ⟨24, _⟩ => ⟨S_, .f32⟩
  | .hbm, ⟨25, _⟩ => ⟨S8192x48x16, .f32⟩
  | .hbm, ⟨26, _⟩ => ⟨S8192x48x16, .f32⟩
  | .hbm, ⟨27, _⟩ => ⟨S8192x48x16, .f32⟩
  | .hbm, ⟨28, _⟩ => ⟨S8192x768, .f32⟩
  | .hbm, ⟨29, _⟩ => ⟨S8192x768, .f32⟩
  | .hbm, ⟨30, _⟩ => ⟨S8192x768, .f32⟩
  | .hbm, ⟨31, _⟩ => ⟨S8192x768, .f32⟩
  | .hbm, ⟨32, _⟩ => ⟨S8192x768, .f32⟩
  | .hbm, ⟨33, _⟩ => ⟨S8192x768, .f32⟩
  | .hbm, ⟨34, _⟩ => ⟨S_, .f32⟩
  | .hbm, ⟨35, _⟩ => ⟨S8192x768, .f32⟩
  | .hbm, ⟨36, _⟩ => ⟨S8192x768, .f32⟩
  | .hbm, ⟨37, _⟩ => ⟨S_, .f32⟩
  | .hbm, ⟨38, _⟩ => ⟨S8192x768, .f32⟩
  | .hbm, ⟨39, _⟩ => ⟨S8192x768, .f32⟩
  | .hbm, ⟨40, _⟩ => ⟨S8192x768, .f32⟩
  | .hbm, ⟨41, _⟩ => ⟨S8192x768, .f32⟩
  | .hbm, ⟨42, _⟩ => ⟨S8192x768, .f32⟩
  | .hbm, ⟨43, _⟩ => ⟨S_, .f32⟩
  | .hbm, ⟨44, _⟩ => ⟨S8192x768, .f32⟩
  | .hbm, ⟨45, _⟩ => ⟨S8192x768, .f32⟩
  | .hbm, ⟨46, _⟩ => ⟨S_, .f32⟩
  | .hbm, ⟨47, _⟩ => ⟨S8192x768, .f32⟩
  | .hbm, ⟨48, _⟩ => ⟨S8192x768, .f32⟩
  | .hbm, ⟨49, _⟩ => ⟨S8192x768, .f32⟩
  | .hbm, ⟨50, _⟩ => ⟨S8192x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Proof.Att.lean ====
/- The attention's gradient on real numbers, and the facts that carry sums, quotients and greatest elements of real
   numbers through the extended reals. -/
module

public import Idealize.ShloMosaic.PureOps.Ideal.Laws
public import Idealize.ShloMosaic.PureOps.Reduce
public import Idealize.ShloMosaic.Lib.Pipeline.Value
public import Mathlib.Analysis.SpecialFunctions.Log.Basic

@[expose] public section

set_option maxRecDepth 16384

noncomputable section

open Idealize.ShloMosaic

namespace Cert.Att

/-- A sum of real numbers is the same sum in the extended reals. -/
theorem coe_sum {ι : Type*} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- A quotient of real numbers by one that is not zero. -/
theorem div_real (a b : ℝ) (h : b ≠ 0) : Ideal.div (a : EReal) (b : EReal) = ((a / b : ℝ) : EReal) := by
  rw [Ideal.div_coe h, ← EReal.coe_mul, mul_one_div]

/-- A sum of products of real numbers, each factor given by its value. -/
theorem sum_mul_real {n : ℕ} (f g : Fin n → EReal) (u v : Fin n → ℝ) (hf : ∀ k, f k = (u k : EReal)) (hg : ∀ k, g k = (v k : EReal)) :
    ∑ k, f k * g k = ((∑ k, u k * v k : ℝ) : EReal) := by
  rw [coe_sum]
  exact Finset.sum_congr rfl fun k _ => by rw [hf, hg, EReal.coe_mul]

/-- A sum of real numbers, each term given by its value. -/
theorem sum_real {n : ℕ} (f : Fin n → EReal) (u : Fin n → ℝ) (hf : ∀ k, f k = (u k : EReal)) :
    ∑ k, f k = ((∑ k, u k : ℝ) : EReal) := by
  rw [coe_sum]
  exact Finset.sum_congr rfl fun k _ => hf k

/-- The word of minus infinity. -/
theorem bot_word : Ideal.ofBits .f32 0xFF800000#32 = ⊥ := by simp [Ideal.ofBits, Ideal.ieee]

/-- The word of plus infinity. -/
theorem top_word : Ideal.ofBits .f32 0x7F800000#32 = ⊤ := by simp [Ideal.ofBits, Ideal.ieee]

/-- The word of one. -/
theorem one_word : Ideal.ofBits .f32 0x3F800000#32 = 1 := by simp [Ideal.ofBits, Ideal.ieee, -EReal.coe_mul]; norm_num

/-- The greatest of finitely many real numbers, taken from minus infinity up, is a real number. -/
theorem fold_max_real {ι : Type*} (s : Finset ι) (hs : s.Nonempty) (f : ι → EReal) (hf : ∀ i, ∃ r : ℝ, f i = (r : EReal)) :
    ∃ r : ℝ, s.fold max ⊥ f = (r : EReal) := by
  obtain ⟨i, _, hi⟩ := Finset.exists_mem_eq_sup s hs f
  obtain ⟨r, hr⟩ := hf i
  exact ⟨r, (show s.fold max ⊥ f = s.sup f from rfl).trans (hi.trans hr)⟩

/-- A maximum over one axis of an array of real numbers, taken from minus infinity, is a real number. -/
theorem reduce_max_real {s t u : Shape} {a : Fin s.rank} (x : FVec Ideal s .f32) (init : FVec Ideal u .f32)
    (h' : s.ReducesTo [a] t) (h : s.Reduces [a] t) (hu : 0 < u.numel) (j : t.Idx) (hs : 0 < s.size a)
    (hi : (init (Shape.Idx.first hu) : EReal) = ⊥) (hx : ∀ i, ∃ r : ℝ, (x i : EReal) = (r : EReal)) :
    ∃ r : ℝ, (show EReal from Host.reduce (FloatOps.maximumf (F := Ideal) (φ := .f32)) x init h' hu j) = (r : EReal) := by
  rw [Host.reduce_eq_fold_single (FloatOps.maximumf (F := Ideal) (φ := .f32)) x init h' h hu j, hi]
  exact fold_max_real Finset.univ ⟨⟨0, hs⟩, Finset.mem_univ _⟩ (fun k => x (h.lift j k)) fun k => hx _

variable (Q K V D : ℕ → ℕ → ℝ)

/-- The score of a query row against a key row, in a head. -/
def sc (h q k : ℕ) : ℝ := ∑ d : Fin 128, Q q (h * 128 + d.val) * K k (h / 4 * 128 + d.val)

/-- The sum of a row's exponentials. -/
def zs (h q : ℕ) : ℝ := ∑ k : Fin 8192, Real.exp (sc Q K h q k.val)

theorem zs_pos (h q : ℕ) : 0 < zs Q K h q := Finset.sum_pos (fun _ _ => Real.exp_pos _) ⟨0, Finset.mem_univ _⟩

/-- The attention's probability. -/
def pr (h q k : ℕ) : ℝ := Real.exp (sc Q K h q k) / zs Q K h q

/-- The cotangent of a probability. -/
def dp (h q k : ℕ) : ℝ := ∑ d : Fin 128, D q (h * 128 + d.val) * V k (h / 4 * 128 + d.val)

/-- A row's sum of probabilities times their cotangents. -/
def dl (h q : ℕ) : ℝ := ∑ k : Fin 8192, pr Q K h q k.val * dp V D h q k.val

/-- The cotangent of a score. -/
def ds (h q k : ℕ) : ℝ := pr Q K h q k * (dp V D h q k - dl Q K V D h q)

/-- The gradient with respect to the queries. -/
def gq (y x : ℕ) : ℝ := ∑ k : Fin 8192, ds Q K V D (x / 128) y k.val * K k.val (x / 128 / 4 * 128 + x % 128)

/-- The gradient with respect to the keys. -/
def gk (y x : ℕ) : ℝ := ∑ g : Fin 4, ∑ q : Fin 8192, ds Q K V D (x / 128 * 4 + g.val) q.val y * Q q.val ((x / 128 * 4 + g.val) * 128 + x % 128)

/-- The gradient with respect to the values. -/
def gv (y x : ℕ) : ℝ := ∑ g : Fin 4, ∑ q : Fin 8192, pr Q K (x / 128 * 4 + g.val) q.val y * D q.val ((x / 128 * 4 + g.val) * 128 + x % 128)

/-- A row's exponentials shifted by any number sum to the row's sum times the shift's exponential. -/
theorem sum_shift (h q : ℕ) (M : ℝ) : ∑ k : Fin 8192, Real.exp (sc Q K h q k.val - M) = zs Q K h q * Real.exp (-M) := by
  rw [zs, Finset.sum_mul]
  exact Finset.sum_congr rfl fun k _ => by rw [← Real.exp_add, sub_eq_add_neg]

/-- The sum of the shifted exponentials is positive. -/
theorem sum_shift_pos (h q : ℕ) (M : ℝ) : 0 < ∑ k : Fin 8192, Real.exp (sc Q K h q k.val - M) := by
  rw [sum_shift]
  exact mul_pos (zs_pos Q K h q) (Real.exp_pos _)

/-- The probability from exponentials shifted by any number. -/
theorem pr_shift (h q k : ℕ) (M : ℝ) : Real.exp (sc Q K h q k - M) / (∑ k : Fin 8192, Real.exp (sc Q K h q k.val - M)) = pr Q K h q k := by
  rw [sum_shift, sub_eq_add_neg, Real.exp_add, pr, mul_div_mul_right _ _ (Real.exp_pos _).ne']

/-- The shift plus the logarithm of the shifted sum is the logarithm of the sum. -/
theorem log_shift (h q : ℕ) (M : ℝ) : M + Real.log (∑ k : Fin 8192, Real.exp (sc Q K h q k.val - M)) = Real.log (zs Q K h q) := by
  rw [sum_shift, Real.log_mul (zs_pos Q K h q).ne' (Real.exp_pos _).ne', Real.log_exp]; ring

/-- The probability from the logarithm of the row's sum. -/
theorem pr_log (h q k : ℕ) : Real.exp (sc Q K h q k - Real.log (zs Q K h q)) = pr Q K h q k := by
  rw [Real.exp_sub, Real.exp_log (zs_pos Q K h q), pr]

/-- The cotangent of a score as the derivative of the quotient gives it: the cotangent over the sum, less the row's sum
    over the sum's square, times the exponential. -/
theorem ds_quot (h q k : ℕ) (M : ℝ) :
    (dp V D h q k / (∑ k : Fin 8192, Real.exp (sc Q K h q k.val - M))
      + -(∑ k' : Fin 8192, dp V D h q k'.val
          * (1 / ((∑ k : Fin 8192, Real.exp (sc Q K h q k.val - M)) * (∑ k : Fin 8192, Real.exp (sc Q K h q k.val - M))))
          * Real.exp (sc Q K h q k'.val - M)))
      * Real.exp (sc Q K h q k - M) = ds Q K V D h q k := by
  have hz := (sum_shift_pos Q K h q M).ne'
  rw [ds, dl, ← pr_shift Q K h q k M]
  simp_rw [← pr_shift Q K h q _ M]
  set Z := ∑ k : Fin 8192, Real.exp (sc Q K h q k.val - M) with hZ
  have e : ∀ k' : Fin 8192, dp V D h q k'.val * (1 / (Z * Z)) * Real.exp (sc Q K h q k'.val - M)
      = (Real.exp (sc Q K h q k'.val - M) / Z * dp V D h q k'.val) * (1 / Z) := fun k' => by field_simp
  rw [Finset.sum_congr rfl fun k' _ => e k', ← Finset.sum_mul]
  field_simp
  ring

/-- The row's sum of cotangent times result is its sum of probabilities times their cotangents. -/
theorem dl_out (h q : ℕ) :
    ∑ d : Fin 128, D q (h * 128 + d.val) * (∑ k : Fin 8192, V k.val (h / 4 * 128 + d.val) * pr Q K h q k.val) = dl Q K V D h q := by
  rw [dl]
  simp_rw [dp, Finset.mul_sum]
  rw [Finset.sum_comm]
  exact Finset.sum_congr rfl fun k _ => Finset.sum_congr rfl fun d _ => by ring

end Cert.Att
end
-- ==== Proof.Fin.lean ====
/- What the precondition gives: every element of every argument is a real number. -/
module

public import proofs.«01_k».proof.Pre_finite
public import proofs.«01_k».proof.Proof.Gen.Pre_finite
public import proofs.«01_k».proof.Proof.Att
public import Idealize.ShloMosaic.Lib.ReduceAll

@[expose] public section

set_option maxRecDepth 16384

noncomputable section

open Idealize.ShloMosaic Idealize.ShloMosaic.TcCoe Idealize.SL.Sem

namespace Cert.Pre_finite.Real
open Cert.Pre_finite Cert.Att

/-- A rank zero array has one index. -/
theorem one_index : Subsingleton S_.Idx := ⟨fun a b => funext fun k => k.elim0⟩

/-- An extended real whose absolute value is below `⊤` is a real number. -/
theorem real_of_abs (x : EReal) (h : max x (-x) < ⊤) : ∃ r : ℝ, x = (r : EReal) := by
  induction x with
  | bot => simp at h
  | top => simp at h
  | coe r => exact ⟨r, rfl⟩

/-- The comparison `|x| < inf`, true at an index, says the element is a real number. -/
theorem real_of_cmp (s : Shape) (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ r : ℝ, (show EReal from x i) = (r : EReal) := by
  refine real_of_abs _ ?_
  have h' : BitVec.ofBool (decide (max (show EReal from x i) (-(show EReal from x i)) < (Ideal.ofBits .f32 0x7F800000#32 : EReal))) = 1#1 := h
  rw [top_word] at h'
  by_contra hc
  rw [decide_eq_false hc] at h'
  exact absurd h' (by decide)

/-- A conjunction over the whole of `|x| < inf`, true, says every element is a real number. -/
theorem real_of_all (s : Shape) (hb : S_.BroadcastsInDim s (![] : Fin 0 → Fin s.rank))
    (a : List (Fin s.rank)) (ha : s.ReducesTo a S_) (hu : 0 < S_.numel) (x : FVec Ideal s .f32) (j : S_.Idx)
    (h : Host.reduce IntOp.andi (cmpf .olt (Host.absf x) (broadcastInDim s ![] hb (constant (F := Ideal) S_ .f32 0x7F800000#32))) (constantI S_ 1 1#1) ha hu j = 1#1)
    (i : s.Idx) : ∃ r : ℝ, (show EReal from x i) = (r : EReal) :=
  haveI := one_index
  real_of_cmp s hb x i (Host.reduce_andi_all _ _ _ _ j h i)

/-- The precondition: every element of the four arguments is a real number. -/
theorem reals (x0 : FVec Ideal S8192x1024 .bf16) (x1 x2 : FVec Ideal S8192x256 .bf16) (x3 : FVec Ideal S8192x1024 .f32)
    (h : (letI := Cert.Pre_finite.Gen.facts; fn (F := Ideal) x0 x1 x2 x3) = fun _ => 1#1) :
    (∀ i, ∃ r : ℝ, (show EReal from x0 i) = (r : EReal)) ∧ (∀ i, ∃ r : ℝ, (show EReal from x1 i) = (r : EReal))
      ∧ (∀ i, ∃ r : ℝ, (show EReal from x2 i) = (r : EReal)) ∧ ∀ i, ∃ r : ℝ, (show EReal from x3 i) = (r : EReal) := by
  have h0 := congrFun h (fun k => k.elim0)
  dsimp only [fn, fn_part1] at h0
  obtain ⟨h01, h23⟩ := IntOp.andi_eq_one.1 h0
  obtain ⟨ha, hb⟩ := IntOp.andi_eq_one.1 h01
  obtain ⟨hc, hd⟩ := IntOp.andi_eq_one.1 h23
  exact ⟨fun i => real_of_all _ _ _ _ _ _ _ ha i, fun i => real_of_all _ _ _ _ _ _ _ hb i,
    fun i => real_of_all _ _ _ _ _ _ _ hc i, fun i => real_of_all _ _ _ _ _ _ _ hd i⟩

/-- The index of a two-axis array with the given coordinates. -/
def idx2 {a b p q : ℕ} (hp : p < a) (hq : q < b) : (⟨2, ![a, b]⟩ : Shape).Idx :=
  fun | ⟨0, _⟩ => ⟨p, hp⟩ | ⟨1, _⟩ => ⟨q, hq⟩

/-- A two-axis array of real numbers as a function of two natural numbers. -/
theorem exists_fun (a b : ℕ) (x : (⟨2, ![a, b]⟩ : Shape).Idx → EReal) (h : ∀ i, ∃ r : ℝ, x i = (r : EReal)) :
    ∃ X : ℕ → ℕ → ℝ, ∀ i, x i = ((X (i 0).val (i 1).val : ℝ) : EReal) := by
  choose f hf using h
  refine ⟨fun p q => if hp : p < a ∧ q < b then f (idx2 hp.1 hp.2) else 0, fun i => (hf i).trans ?_⟩
  have hi : (i 0).val < a ∧ (i 1).val < b := ⟨(i 0).isLt, (i 1).isLt⟩
  refine congrArg (fun r : ℝ => (r : EReal)) (Eq.trans ?_ (dif_pos hi).symm)
  refine congrArg f (funext fun k => ?_)
  match k with
  | ⟨0, _⟩ => rfl
  | ⟨1, _⟩ => rfl

end Cert.Pre_finite.Real
end
-- ==== Proof.Ref.lean ====
/- The reference's stages on arguments that are real numbers: each is the attention gradient's real number of that name. -/
module

public import proofs.«01_k».proof.Proof.Att
public import proofs.«01_k».proof.Proof.Gen.ReferenceIdeal.Read
public import Idealize.ShloMosaic.Lib.TwoAxisContraction
public import Idealize.ShloMosaic.Lib.Pointwise

@[expose] public section

set_option maxRecDepth 16384

noncomputable section

open Idealize.ShloMosaic Idealize.ShloMosaic.TcCoe Idealize.SL.Sem

namespace Cert.ReferenceIdeal.Real
open Cert.ReferenceIdeal Cert.ReferenceIdeal.Gen Cert.ReferenceIdeal.Read Cert.Att

variable (Q K V D : ℕ → ℕ → ℝ)
variable (x0 : (⟨S8192x1024, .bf16⟩ : BufTy).Contents (Elt Ideal)) (x1 x2 : (⟨S8192x256, .bf16⟩ : BufTy).Contents (Elt Ideal))
  (x3 : (⟨S8192x1024, .f32⟩ : BufTy).Contents (Elt Ideal))
variable (h0 : ∀ i, (show EReal from x0 i) = ((Q (i 0).val (i 1).val : ℝ) : EReal))
  (h1 : ∀ i, (show EReal from x1 i) = ((K (i 0).val (i 1).val : ℝ) : EReal))
  (h2 : ∀ i, (show EReal from x2 i) = ((V (i 0).val (i 1).val : ℝ) : EReal))
  (h3 : ∀ i, (show EReal from x3 i) = ((D (i 0).val (i 1).val : ℝ) : EReal))

include h0 in
/-- The queries by key head and group. -/
theorem r3 (i : S8192x2x4x128.Idx) :
    (show EReal from val_main_v3 (F := Ideal) x0 i) = ((Q (i 0).val (((i 1).val * 4 + (i 2).val) * 128 + (i 3).val) : ℝ) : EReal) := by
  have b0 : (i 0).val < 8192 := (i 0).isLt
  have b1 : (i 1).val < 2 := (i 1).isLt
  have b2 : (i 2).val < 4 := (i 2).isLt
  have b3 : (i 3).val < 128 := (i 3).isLt
  rw [val_main_v3_apply]
  refine (h0 _).trans ?_
  congr 2
  · show ((((i 0).val * 2 + (i 1).val) * 4 + (i 2).val) * 128 + (i 3).val) / 1024 = _; omega
  · show ((((i 0).val * 2 + (i 1).val) * 4 + (i 2).val) * 128 + (i 3).val) % 1024 = _; omega

include h1 in
/-- The keys by key head. -/
theorem r4 (i : S8192x2x128.Idx) :
    (show EReal from val_main_v4 (F := Ideal) x1 i) = ((K (i 0).val ((i 1).val * 128 + (i 2).val) : ℝ) : EReal) := by
  have b0 : (i 0).val < 8192 := (i 0).isLt
  have b1 : (i 1).val < 2 := (i 1).isLt
  have b2 : (i 2).val < 128 := (i 2).isLt
  rw [val_main_v4_apply]
  refine (h1 _).trans ?_
  congr 2
  · show (((i 0).val * 2 + (i 1).val) * 128 + (i 2).val) / 256 = _; omega
  · show (((i 0).val * 2 + (i 1).val) * 128 + (i 2).val) % 256 = _; omega

include h2 in
/-- The values by key head. -/
theorem r5 (i : S8192x2x128.Idx) :
    (show EReal from val_main_v5 (F := Ideal) x2 i) = ((V (i 0).val ((i 1).val * 128 + (i 2).val) : ℝ) : EReal) := by
  have b0 : (i 0).val < 8192 := (i 0).isLt
  have b1 : (i 1).val < 2 := (i 1).isLt
  have b2 : (i 2).val < 128 := (i 2).isLt
  rw [val_main_v5_apply]
  refine (h2 _).trans ?_
  congr 2
  · show (((i 0).val * 2 + (i 1).val) * 128 + (i 2).val) / 256 = _; omega
  · show (((i 0).val * 2 + (i 1).val) * 128 + (i 2).val) % 256 = _; omega

include h0 h1 in
/-- The scores, the key's row before the query's. -/
theorem r6 (i : S2x8192x8192x4.Idx) :
    (show EReal from val_main_v6 (F := Ideal) x0 x1 i) = ((sc Q K ((i 0).val * 4 + (i 3).val) (i 2).val (i 1).val : ℝ) : EReal) := by
  have b3 : (i 3).val < 4 := (i 3).isLt
  rw [val_main_v6_apply]
  refine (sum_mul_real _ _ (fun k => K (i 1).val ((i 0).val * 128 + k.val)) (fun k => Q (i 2).val (((i 0).val * 4 + (i 3).val) * 128 + k.val))
    (fun k => r4 K x1 h1 _) (fun k => r3 Q x0 h0 _)).trans ?_
  congr 1
  have e : ((i 0).val * 4 + (i 3).val) / 4 = (i 0).val := by omega
  unfold sc
  rw [e]
  exact Finset.sum_congr rfl fun k _ => mul_comm _ _

include h0 h1 in
/-- The scores. -/
theorem r7 (i : S2x4x8192x8192.Idx) :
    (show EReal from val_main_v7 (F := Ideal) x0 x1 i) = ((sc Q K ((i 0).val * 4 + (i 1).val) (i 2).val (i 3).val : ℝ) : EReal) := by
  rw [val_main_v7_apply]
  exact r6 Q K x0 x1 h0 h1 _

include h0 h1 in
/-- A row's greatest score is a real number. -/
theorem r8 (i : S2x4x8192.Idx) : ∃ M : ℝ, (show EReal from val_main_v8 (F := Ideal) x0 x1 i) = (M : EReal) :=
  reduce_max_real (val_main_v7 (F := Ideal) x0 x1) (val_main_cst (F := Ideal)) reducesTo_S2x4x8192x8192_S2x4x8192_d3 (by decide) h_S_ i
    (by decide) bot_word fun j => ⟨_, r7 Q K x0 x1 h0 h1 j⟩

variable (M : S2x4x8192.Idx → ℝ) (hM : ∀ i, (show EReal from val_main_v8 (F := Ideal) x0 x1 i) = (M i : EReal))

/-- The row of an entry of the scores. -/
abbrev row (i : S2x4x8192x8192.Idx) : S2x4x8192.Idx := fun a => match a with
  | ⟨0, _⟩ => ⟨(i 0).val, (i 0).isLt⟩
  | ⟨1, _⟩ => ⟨(i 1).val, (i 1).isLt⟩
  | ⟨2, _⟩ => ⟨(i 2).val, (i 2).isLt⟩

include hM in
/-- The greatest score once more against minus infinity. -/
theorem r15 (i : S2x4x8192.Idx) : (show EReal from val_main_v15 (F := Ideal) x0 x1 i) = (M i : EReal) := by
  rw [val_main_v15_apply, val_main_v14_apply, val_main_cst_1_apply]
  show max (Ideal.ofBits .f32 0xFF800000#32) (show EReal from val_main_v8 (F := Ideal) x0 x1 i) = _
  rw [bot_word, hM, max_eq_right bot_le]

include h0 h1 hM in
/-- The shifted exponentials. -/
theorem r28 (i : S2x4x8192x8192.Idx) :
    (show EReal from val_main_v28 (F := Ideal) x0 x1 i) = ((Real.exp (sc Q K ((i 0).val * 4 + (i 1).val) (i 2).val (i 3).val - M (row i)) : ℝ) : EReal) := by
  rw [val_main_v28_apply, val_main_v27_apply, val_main_v26_apply, val_main_v25_apply]
  show Ideal.exp ((show EReal from val_main_v7 (F := Ideal) x0 x1 i) - (show EReal from val_main_v15 (F := Ideal) x0 x1 (row i))) = _
  rw [r7 Q K x0 x1 h0 h1, r15 x0 x1 M hM, ← EReal.coe_sub, Ideal.exp_coe]

include h0 h1 hM in
/-- The rows' sums of shifted exponentials. -/
theorem r29 (i : S2x4x8192.Idx) :
    (show EReal from val_main_v29 (F := Ideal) x0 x1 i)
      = ((∑ k : Fin 8192, Real.exp (sc Q K ((i 0).val * 4 + (i 1).val) (i 2).val k.val - M i) : ℝ) : EReal) := by
  rw [val_main_v29_apply, val_main_cst_7_apply]
  show Ideal.ofBits .f32 0x00000000#32 + _ = _
  rw [Ideal.ofBits_zero_f32, zero_add]
  refine sum_real _ _ fun k => (r28 Q K x0 x1 h0 h1 M hM _).trans ?_
  have e : row (idx_main_v29 i k) = i := funext fun a => by fin_cases a <;> rfl
  rw [e]

include h0 h1 hM in
/-- The probabilities. -/
theorem r32 (i : S2x4x8192x8192.Idx) :
    (show EReal from val_main_v32 (F := Ideal) x0 x1 i) = ((pr Q K ((i 0).val * 4 + (i 1).val) (i 2).val (i 3).val : ℝ) : EReal) := by
  rw [val_main_v32_apply, val_main_v31_apply, val_main_v30_apply]
  show Ideal.div (show EReal from val_main_v28 (F := Ideal) x0 x1 i) (show EReal from val_main_v29 (F := Ideal) x0 x1 (row i)) = _
  rw [r28 Q K x0 x1 h0 h1 M hM, r29 Q K x0 x1 h0 h1 M hM]
  refine (div_real _ _ (sum_shift_pos Q K _ _ _).ne').trans ?_
  exact congrArg _ (pr_shift Q K _ _ _ _)

include h3 in
/-- The cotangent by key head and group. -/
theorem r39 (i : S8192x2x4x128.Idx) :
    (show EReal from val_main_v39 (F := Ideal) x3 i) = ((D (i 0).val (((i 1).val * 4 + (i 2).val) * 128 + (i 3).val) : ℝ) : EReal) := by
  have b0 : (i 0).val < 8192 := (i 0).isLt
  have b1 : (i 1).val < 2 := (i 1).isLt
  have b2 : (i 2).val < 4 := (i 2).isLt
  have b3 : (i 3).val < 128 := (i 3).isLt
  rw [val_main_v39_apply]
  refine (h3 _).trans ?_
  congr 2
  · show ((((i 0).val * 2 + (i 1).val) * 4 + (i 2).val) * 128 + (i 3).val) / 1024 = _; omega
  · show ((((i 0).val * 2 + (i 1).val) * 4 + (i 2).val) * 128 + (i 3).val) % 1024 = _; omega

include h3 in
/-- The cotangent with its rows last. -/
theorem r40 (i : S2x128x4x8192.Idx) :
    (show EReal from val_main_v40 (F := Ideal) x3 i) = ((D (i 3).val (((i 0).val * 4 + (i 2).val) * 128 + (i 1).val) : ℝ) : EReal) := by
  rw [val_main_v40_apply]
  exact r39 D x3 h3 _

include h2 h3 in
/-- The cotangents of the probabilities. -/
theorem r41 (i : S2x4x8192x8192.Idx) :
    (show EReal from val_main_v41 (F := Ideal) x2 x3 i) = ((dp V D ((i 0).val * 4 + (i 1).val) (i 2).val (i 3).val : ℝ) : EReal) := by
  have b1 : (i 1).val < 4 := (i 1).isLt
  rw [val_main_v41_apply]
  refine (sum_mul_real _ _ (fun k => D (i 2).val (((i 0).val * 4 + (i 1).val) * 128 + k.val)) (fun k => V (i 3).val ((i 0).val * 128 + k.val))
    (fun k => r40 D x3 h3 _) (fun k => r5 V x2 h2 _)).trans ?_
  congr 1
  have e : ((i 0).val * 4 + (i 1).val) / 4 = (i 0).val := by omega
  unfold dp
  rw [e]

/-- The sum of a row's shifted exponentials. -/
abbrev zM (i : S2x4x8192.Idx) : ℝ := ∑ k : Fin 8192, Real.exp (sc Q K ((i 0).val * 4 + (i 1).val) (i 2).val k.val - M i)

include h0 h1 hM in
/-- One over the square of a row's sum. -/
theorem r44 (i : S2x4x8192x8192.Idx) :
    (show EReal from val_main_v44 (F := Ideal) x0 x1 i) = ((1 / (zM Q K M (row i) * zM Q K M (row i)) : ℝ) : EReal) := by
  rw [val_main_v44_apply, val_main_v35_apply, val_main_v34_apply, val_main_v33_apply, val_main_v30_apply, val_main_cst_8_apply]
  show Ideal.div (Ideal.ofBits .f32 0x3F800000#32)
    ((show EReal from val_main_v29 (F := Ideal) x0 x1 (row i)) * (show EReal from val_main_v29 (F := Ideal) x0 x1 (row i))) = _
  rw [r29 Q K x0 x1 h0 h1 M hM, one_word, ← EReal.coe_mul, ← EReal.coe_one]
  have hz := sum_shift_pos Q K ((row i 0).val * 4 + (row i 1).val) (row i 2).val (M (row i))
  exact div_real _ _ (mul_pos hz hz).ne'

include h0 h1 h2 h3 hM in
/-- The terms of a row's sum over the square. -/
theorem r46 (i : S2x4x8192x8192.Idx) :
    (show EReal from val_main_v46 (F := Ideal) x0 x1 x2 x3 i)
      = ((dp V D ((i 0).val * 4 + (i 1).val) (i 2).val (i 3).val * (1 / (zM Q K M (row i) * zM Q K M (row i)))
          * Real.exp (sc Q K ((i 0).val * 4 + (i 1).val) (i 2).val (i 3).val - M (row i)) : ℝ) : EReal) := by
  rw [val_main_v46_apply, val_main_v45_apply]
  show (show EReal from val_main_v41 (F := Ideal) x2 x3 i) * (show EReal from val_main_v44 (F := Ideal) x0 x1 i)
    * (show EReal from val_main_v28 (F := Ideal) x0 x1 i) = _
  rw [r41 V D x2 x3 h2 h3, r44 Q K x0 x1 h0 h1 M hM, r28 Q K x0 x1 h0 h1 M hM, ← EReal.coe_mul, ← EReal.coe_mul]

/-- A row's sum over the square of its exponentials' sum. -/
abbrev sM (i : S2x4x8192.Idx) : ℝ := ∑ k : Fin 8192, dp V D ((i 0).val * 4 + (i 1).val) (i 2).val k.val * (1 / (zM Q K M i * zM Q K M i))
          * Real.exp (sc Q K ((i 0).val * 4 + (i 1).val) (i 2).val k.val - M i)

include h0 h1 h2 h3 hM in
/-- The rows' sums over the square. -/
theorem r47 (i : S2x4x8192.Idx) :
    (show EReal from val_main_v47 (F := Ideal) x0 x1 x2 x3 i) = ((sM Q K V D M i : ℝ) : EReal) := by
  rw [val_main_v47_apply, val_main_cst_9_apply]
  show Ideal.ofBits .f32 0x00000000#32 + _ = _
  rw [Ideal.ofBits_zero_f32, zero_add]
  refine sum_real _ _ fun k => (r46 Q K V D x0 x1 x2 x3 h0 h1 h2 h3 M hM _).trans ?_
  have e : row (idx_main_v47 i k) = i := funext fun a => by fin_cases a <;> rfl
  rw [e]

include h0 h1 h2 h3 hM in
/-- The rows' sums with their sign turned. -/
theorem r49 (i : S2x4x8192x1.Idx) (j : S2x4x8192.Idx) (hj : idx_main_v48 i = j) :
    (show EReal from val_main_v49 (F := Ideal) x0 x1 x2 x3 i) = ((-sM Q K V D M j : ℝ) : EReal) := by
  rw [val_main_v49_apply, val_main_v48_apply, hj]
  show -(show EReal from val_main_v47 (F := Ideal) x0 x1 x2 x3 j) = _
  rw [r47 Q K V D x0 x1 x2 x3 h0 h1 h2 h3 M hM, ← EReal.coe_neg]

include h0 h1 h2 h3 hM in
/-- The rows' sums with their sign turned, the last axis dropped. -/
theorem r52 (i : S2x4x8192.Idx) :
    (show EReal from val_main_v52 (F := Ideal) x0 x1 x2 x3 i) = ((-sM Q K V D M i : ℝ) : EReal) := by
  have b0 : (i 0).val < 2 := (i 0).isLt
  have b1 : (i 1).val < 4 := (i 1).isLt
  have b2 : (i 2).val < 8192 := (i 2).isLt
  rw [val_main_v52_apply, val_main_cst_10_apply]
  show Ideal.ofBits .f32 0x00000000#32 + _ = _
  rw [Ideal.ofBits_zero_f32, zero_add, Fin.sum_univ_one]
  refine r49 Q K V D x0 x1 x2 x3 h0 h1 h2 h3 M hM _ i ?_
  funext a
  refine Fin.ext ?_
  fin_cases a
  · show ((((i 0).val * 4 + (i 1).val) * 8192 + (i 2).val) * 1 + 0) / 32768 = (i 0).val; omega
  · show ((((i 0).val * 4 + (i 1).val) * 8192 + (i 2).val) * 1 + 0) / 8192 % 4 = (i 1).val; omega
  · show ((((i 0).val * 4 + (i 1).val) * 8192 + (i 2).val) * 1 + 0) % 8192 = (i 2).val; omega

include h0 h1 h2 h3 hM in
/-- The cotangents of the scores. -/
theorem r55 (i : S2x4x8192x8192.Idx) :
    (show EReal from val_main_v55 (F := Ideal) x0 x1 x2 x3 i) = ((ds Q K V D ((i 0).val * 4 + (i 1).val) (i 2).val (i 3).val : ℝ) : EReal) := by
  rw [val_main_v55_apply, val_main_v54_apply, val_main_v53_apply, val_main_v51_apply, val_main_v50_apply, val_main_v30_apply]
  show (Ideal.div (show EReal from val_main_v41 (F := Ideal) x2 x3 i) (show EReal from val_main_v29 (F := Ideal) x0 x1 (row i))
    + (show EReal from val_main_v52 (F := Ideal) x0 x1 x2 x3 (row i))) * (show EReal from val_main_v28 (F := Ideal) x0 x1 i) = _
  rw [r41 V D x2 x3 h2 h3, r29 Q K x0 x1 h0 h1 M hM, r52 Q K V D x0 x1 x2 x3 h0 h1 h2 h3 M hM, r28 Q K x0 x1 h0 h1 M hM]
  rw [div_real _ _ (sum_shift_pos Q K _ _ _).ne', ← EReal.coe_add, ← EReal.coe_mul]
  exact congrArg _ (ds_quot Q K V D _ _ _ _)

include h0 h1 h2 h3 hM in
/-- The gradient with respect to the queries. -/
theorem r63 (i : S8192x1024.Idx) :
    (show EReal from val_main_v63 (F := Ideal) x0 x1 x2 x3 i) = ((gq Q K V D (i 0).val (i 1).val : ℝ) : EReal) := by
  have b0 : (i 0).val < 8192 := (i 0).isLt
  have b1 : (i 1).val < 1024 := (i 1).isLt
  rw [val_main_v63_apply, val_main_v58_apply, val_main_v57_apply]
  refine (sum_mul_real _ _ (fun k => ds Q K V D ((i 1).val / 128) (i 0).val k.val) (fun k => K k.val ((i 1).val / 128 / 4 * 128 + (i 1).val % 128))
    (fun k => ?_) (fun k => (r4 K x1 h1 _).trans ?_)).trans rfl
  · show (show EReal from val_main_v56 (F := Ideal) x0 x1 x2 x3 _) = _
    rw [val_main_v56_apply]
    refine (r55 Q K V D x0 x1 x2 x3 h0 h1 h2 h3 M hM _).trans ?_
    congr 2
    · show ((i 0).val * 1024 + (i 1).val) / 512 % 2 * 4 + ((i 0).val * 1024 + (i 1).val) / 128 % 4 = _; omega
    · show ((i 0).val * 1024 + (i 1).val) / 1024 = _; omega
  · congr 2
    show ((i 0).val * 1024 + (i 1).val) / 512 % 2 * 128 + ((i 0).val * 1024 + (i 1).val) % 128 = _; omega

/-- The places of a product summed over group and row, the left operand's. -/
abbrev lidx42 (i : S2x128x8192.Idx) (g : Fin 4) (q : Fin 8192) : S2x128x4x8192.Idx := ix4 (i 0) (i 1) g q

/-- The places of a product summed over group and row, the right operand's. -/
abbrev ridx42 (i : S2x128x8192.Idx) (g : Fin 4) (q : Fin 8192) : S2x4x8192x8192.Idx := ix4 (i 0) g q (i 2)

/-- The values' gradient before its layout: the sum over group and row. -/
theorem v42_apply (i : S2x128x8192.Idx) :
    (show EReal from val_main_v42 (F := Ideal) x0 x1 x3 i)
      = ∑ g : Fin 4, ∑ q : Fin 8192, (show EReal from val_main_v40 (F := Ideal) x3 (lidx42 i g q)) * (show EReal from val_main_v32 (F := Ideal) x0 x1 (ridx42 i g q)) := by
  unfold val_main_v42
  generalize val_main_v40 (F := Ideal) x3 = y0
  generalize val_main_v32 (F := Ideal) x0 x1 = y1
  pointwise

/-- The keys' gradient before its layout: the sum over row and group. -/
theorem v59_apply (i : S2x8192x128.Idx) :
    (show EReal from val_main_v59 (F := Ideal) x0 x1 x2 x3 i)
      = ∑ q : Fin 8192, ∑ g : Fin 4, (show EReal from val_main_v56 (F := Ideal) x0 x1 x2 x3 (ix4 (i 0) (i 1) q g)) * (show EReal from val_main_v3 (F := Ideal) x0 (ix4 q (i 0) g (i 2))) := by
  unfold val_main_v59
  generalize val_main_v56 (F := Ideal) x0 x1 x2 x3 = y0
  generalize val_main_v3 (F := Ideal) x0 = y1
  pointwise

include h0 h1 h3 hM in
/-- The gradient with respect to the values. -/
theorem r61 (i : S8192x256.Idx) :
    (show EReal from val_main_v61 (F := Ideal) x0 x1 x3 i) = ((gv Q K D (i 0).val (i 1).val : ℝ) : EReal) := by
  have b0 : (i 0).val < 8192 := (i 0).isLt
  have b1 : (i 1).val < 256 := (i 1).isLt
  rw [val_main_v61_apply, val_main_v43_apply]
  refine (v42_apply x0 x1 x3 _).trans ?_
  unfold gv
  rw [coe_sum]
  refine Finset.sum_congr rfl fun g _ => ?_
  rw [coe_sum]
  refine Finset.sum_congr rfl fun q _ => ?_
  rw [r40 D x3 h3, r32 Q K x0 x1 h0 h1 M hM, mul_comm, ← EReal.coe_mul]
  have e0 : ((i 0).val * 256 + (i 1).val) / 128 % 2 = (i 1).val / 128 := by omega
  have e1 : ((i 0).val * 256 + (i 1).val) % 128 = (i 1).val % 128 := by omega
  have e2 : ((i 0).val * 256 + (i 1).val) / 256 = (i 0).val := by omega
  show ((pr Q K (((i 0).val * 256 + (i 1).val) / 128 % 2 * 4 + g.val) q.val (((i 0).val * 256 + (i 1).val) / 256)
    * D q.val ((((i 0).val * 256 + (i 1).val) / 128 % 2 * 4 + g.val) * 128 + ((i 0).val * 256 + (i 1).val) % 128) : ℝ) : EReal) = _
  rw [e0, e1, e2]

include h0 h1 h2 h3 hM in
/-- The gradient with respect to the keys. -/
theorem r62 (i : S8192x256.Idx) :
    (show EReal from val_main_v62 (F := Ideal) x0 x1 x2 x3 i) = ((gk Q K V D (i 0).val (i 1).val : ℝ) : EReal) := by
  have b0 : (i 0).val < 8192 := (i 0).isLt
  have b1 : (i 1).val < 256 := (i 1).isLt
  rw [val_main_v62_apply, val_main_v60_apply]
  refine (v59_apply x0 x1 x2 x3 _).trans ?_
  unfold gk
  rw [Finset.sum_comm, coe_sum]
  refine Finset.sum_congr rfl fun g _ => ?_
  rw [coe_sum]
  refine Finset.sum_congr rfl fun q _ => ?_
  rw [val_main_v56_apply]
  rw [r55 Q K V D x0 x1 x2 x3 h0 h1 h2 h3 M hM, r3 Q x0 h0, ← EReal.coe_mul]
  have e0 : ((i 0).val * 256 + (i 1).val) / 128 % 2 = (i 1).val / 128 := by omega
  have e1 : ((i 0).val * 256 + (i 1).val) % 128 = (i 1).val % 128 := by omega
  have e2 : ((i 0).val * 256 + (i 1).val) / 256 = (i 0).val := by omega
  show ((ds Q K V D (((i 0).val * 256 + (i 1).val) / 128 % 2 * 4 + g.val) q.val (((i 0).val * 256 + (i 1).val) / 256)
    * Q q.val ((((i 0).val * 256 + (i 1).val) / 128 % 2 * 4 + g.val) * 128 + ((i 0).val * 256 + (i 1).val) % 128) : ℝ) : EReal) = _
  rw [e0, e1, e2]

include h0 h1 h2 hM in
/-- The attention's result. -/
theorem r38 (i : S8192x1024.Idx) :
    (show EReal from val_main_v38 (F := Ideal) x0 x1 x2 i)
      = ((∑ k : Fin 8192, V k.val ((i 1).val / 128 / 4 * 128 + (i 1).val % 128) * pr Q K ((i 1).val / 128) (i 0).val k.val : ℝ) : EReal) := by
  have b0 : (i 0).val < 8192 := (i 0).isLt
  have b1 : (i 1).val < 1024 := (i 1).isLt
  rw [val_main_v38_apply, val_main_v37_apply, val_main_v36_apply]
  refine sum_mul_real _ _ _ _ (fun k => (r5 V x2 h2 _).trans ?_) (fun k => (r32 Q K x0 x1 h0 h1 M hM _).trans ?_)
  · congr 2
    show ((i 0).val * 1024 + (i 1).val) / 512 % 2 * 128 + ((i 0).val * 1024 + (i 1).val) % 128 = _; omega
  · congr 2
    · show ((i 0).val * 1024 + (i 1).val) / 512 % 2 * 4 + ((i 0).val * 1024 + (i 1).val) / 128 % 4 = _; omega
    · show ((i 0).val * 1024 + (i 1).val) / 1024 = _; omega

end Cert.ReferenceIdeal.Real
end
-- ==== Proof.Body.lean ====
/- What one grid point of the gradient kernel leaves in its accumulators, read at an index. -/
module

public import proofs.«01_k».proof.Proof.Gen.KernelIdeal.Value
public import Idealize.ShloMosaic.Lib.Pipeline.ValueKit
public import Idealize.ShloMosaic.Lib.Pointwise
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.KernelIdeal.Body
open Cert.KernelIdeal Cert.KernelIdeal.Gen

variable (m : (ℓ : Loc nD τ sig) → Buf (Elt Ideal) ℓ)

/-- The rows the point `t` adds to in the two row accumulators start at `2048 * (t % 4)`. -/
theorem off1_eq : ∀ t : Fin cfg0.N, k0_off1 (grid0.coords t) = ![t.val % 4 * 2048, 0] :=
  (by decide +kernel : ∀ t : Fin grid0.N, _)

/-- The score tile's gradient at point `t`, from the point's six input blocks. -/
abbrev dsT (c : Dev nD) (t : Fin cfg0.N) : FVec Ideal S2048x2048 .bf16 :=
  k0_pay9 (iblk m c 0 t) (iblk m c 1 t) (iblk m c 3 t) (iblk m c 4 t) (iblk m c 2 t) (iblk m c 5 t)

/-- The probability tile at point `t`. -/
abbrev pT (c : Dev nD) (t : Fin cfg0.N) : FVec Ideal S2048x2048 .f32 :=
  k0_pay8 (iblk m c 0 t) (iblk m c 1 t) (iblk m c 4 t)

/-- Row `a` of an 8192-row accumulator, as a row of the 2048-row tile that holds it. -/
abbrev tileRow (a : ℕ) : Fin 2048 := ⟨a % 2048, Nat.mod_lt _ (by decide)⟩

/-- What point `t` adds to the key gradient at `y`: nothing off the point's rows. -/
def addK (c : Dev nD) (t : Fin cfg0.N) (y : S8192x128.Idx) : EReal :=
  if (y 0).val / 2048 = t.val % 4 then
    ∑ k : Fin 2048, dsT m c t (ix2 k (tileRow (y 0).val)) * (show FVec Ideal S2048x128 .bf16 from iblk m c 0 t) (ix2 k (y 1)) else 0

/-- What point `t` adds to the value gradient at `y`: nothing off the point's rows. -/
def addV (c : Dev nD) (t : Fin cfg0.N) (y : S8192x128.Idx) : EReal :=
  if (y 0).val / 2048 = t.val % 4 then
    ∑ k : Fin 2048, pT m c t (ix2 k (tileRow (y 0).val)) * (show FVec Ideal S2048x128 .f32 from iblk m c 3 t) (ix2 k (y 1)) else 0

/-- What point `t` adds to the query gradient at `y`. -/
def addQ (c : Dev nD) (t : Fin cfg0.N) (y : S2048x128.Idx) : EReal :=
  ∑ k : Fin 2048, dsT m c t (ix2 (y 0) k) * (show FVec Ideal S2048x128 .bf16 from iblk m c 1 t) (ix2 k (y 1))

/-- A store over the point's rows of what was loaded from them plus an addend, read at any index. -/
theorem row_add (v : View sig .tc .vmem S8192x128 .f32) (f : v.ty.Contents (Elt Ideal)) (L : List (View.Piece (Elt Ideal) S8192x128 .f32))
    (X : FVec Ideal S8192x128 .f32) (hX : v.read (Elt Ideal) (v.writes (Elt Ideal) f L) = X) (t : Fin cfg0.N)
    (w : FVec Ideal S2048x128 .f32) (A : S2048x128.Idx → EReal)
    (hw : ∀ x, (w x : EReal) = X ((Rect.unit (s := S8192x128) (k0_off1 (grid0.coords t)) S2048x128.size (k0_off1_inb (grid0.coords t))).idx x) + A x)
    (y : S8192x128.Idx) :
    v.read (Elt Ideal) (v.writes (Elt Ideal) f (⟨Rect.unit (s := S8192x128) (k0_off1 (grid0.coords t)) S2048x128.size (k0_off1_inb (grid0.coords t)), w⟩ :: L)) y
      = X y + (if (y 0).val / 2048 = t.val % 4 then A (ix2 (tileRow (y 0).val) (y 1)) else 0) := by
  rw [View.read_writes_cons_rows v f (o := t.val % 4 * 2048) (W := 2048) (k0_off1_inb (grid0.coords t)) w L y (off1_eq t) rfl rfl]
  split_ifs with h h' h'
  · rw [hw]
    have e : (Rect.unitLocal (s := S8192x128) (off := ![t.val % 4 * 2048, 0]) (size := S2048x128.size) y (Rect.unit_rows_mem y rfl rfl h))
        = (ix2 (tileRow (y 0).val) (y 1) : S2048x128.Idx) := by
      refine funext fun a => Fin.ext ?_
      fin_cases a
      · show (y 0).val - t.val % 4 * 2048 = (y 0).val % 2048
        omega
      · show (y 1).val - 0 = (y 1).val
        omega
    rw [e]
    refine congrArg₂ (· + ·) (congrArg X ?_) rfl
    have hidx : ∀ a, ((Rect.unit (s := S8192x128) (k0_off1 (grid0.coords t)) S2048x128.size (k0_off1_inb (grid0.coords t))).idx
        (ix2 (tileRow (y 0).val) (y 1) : S2048x128.Idx) a).val
        = (![t.val % 4 * 2048, 0] : Fin 2 → ℕ) a + 1 * ((ix2 (tileRow (y 0).val) (y 1) : S2048x128.Idx) a).val := by
      rw [← off1_eq t]; exact fun a => rfl
    refine funext fun a => Fin.ext ?_
    rw [hidx]
    fin_cases a
    · show t.val % 4 * 2048 + 1 * ((y 0).val % 2048) = (y 0).val
      omega
    · show 0 + 1 * (y 1).val = (y 1).val
      omega
  · omega
  · omega
  · rw [hX, add_zero]

/-- The key gradient at a point that does not start a key head: what it held plus the point's addend. -/
theorem dk_step (c : Dev nD) (t : Fin cfg0.N) (h0 : ¬t.val % 64 = 0) (y : S8192x128.Idx) :
    (outsAt0 m c t.val t.isLt).2.1 y = (outsAt0 m c (t.val - 1) (Nat.lt_of_le_of_lt (Nat.sub_le _ _) t.isLt)).2.1 y + addK m c t y := by
  have key : ∀ (v : View sig .tc .vmem S8192x128 .f32) (f : v.ty.Contents (Elt Ideal)) (X : FVec Ideal S8192x128 .f32),
      v.read (Elt Ideal) f = X → v.read (Elt Ideal) (v.writes (Elt Ideal) f [⟨Rect.unit (s := S8192x128) (k0_off1 (grid0.coords t)) S2048x128.size (k0_off1_inb (grid0.coords t)),
        k0_pay3 (iblk m c 0 t) (dsT m c t) (View.ld X (Rect.unit (s := S8192x128) (k0_off1 (grid0.coords t)) S2048x128.size (k0_off1_inb (grid0.coords t))))⟩]) y = X y + addK m c t y := by
    intro v f X hX
    refine row_add (A := fun x => ∑ k : Fin 2048, dsT m c t (ix2 k (x 0)) * (show FVec Ideal S2048x128 .bf16 from iblk m c 0 t) (ix2 k (x 1))) v f [] X hX t _ ?_ y
    intro x
    pointwise [k0_pay3]
  by_cases h1 : t.val % 4 = 0
  · rw [outsAt0_D m c t h0 h1 (by omega)]; frame_out
    exact key _ _ _ (Memref.IsWhole.read_unread _ _)
  · by_cases h2 : t.val % 4 = 3
    · rw [outsAt0_C m c t h0 h1 h2]; frame_out
      exact key _ _ _ (Memref.IsWhole.read_unread _ _)
    · rw [outsAt0_B m c t h0 h1 h2]; frame_out
      exact key _ _ _ (Memref.IsWhole.read_unread _ _)

/-- The key gradient at the first point of a key head: the point's addend. -/
theorem dk_start (c : Dev nD) (t : Fin cfg0.N) (h0 : t.val % 64 = 0) (y : S8192x128.Idx) :
    (outsAt0 m c t.val t.isLt).2.1 y = 0 + addK m c t y := by
  rw [outsAt0_A m c t h0 (by omega) (by omega)]; frame_out
  rw [← View.read_writes_junk_apply_eq_canon (ms0_7 t).view]
  refine row_add (A := fun x => ∑ k : Fin 2048, dsT m c t (ix2 k (x 0)) * (show FVec Ideal S2048x128 .bf16 from iblk m c 0 t) (ix2 k (x 1))) _ _ _ (fun _ => 0) ?_ t _ ?_ y
  · rw [View.read_writes_junk_eq_canon]
    refine (View.canon_unit_zero (by decide) _ _).trans (funext fun x => ?_)
    pointwise [k0_pay4, k0_pay5]
  · intro x
    pointwise [k0_pay3, k0_pay4, k0_pay5]

/-- The value gradient at a point that does not start a key head: what it held plus the point's addend. -/
theorem dv_step (c : Dev nD) (t : Fin cfg0.N) (h0 : ¬t.val % 64 = 0) (y : S8192x128.Idx) :
    (outsAt0 m c t.val t.isLt).2.2.1 y = (outsAt0 m c (t.val - 1) (Nat.lt_of_le_of_lt (Nat.sub_le _ _) t.isLt)).2.2.1 y + addV m c t y := by
  have key : ∀ (v : View sig .tc .vmem S8192x128 .f32) (f : v.ty.Contents (Elt Ideal)) (X : FVec Ideal S8192x128 .f32),
      v.read (Elt Ideal) f = X → v.read (Elt Ideal) (v.writes (Elt Ideal) f [⟨Rect.unit (s := S8192x128) (k0_off1 (grid0.coords t)) S2048x128.size (k0_off1_inb (grid0.coords t)),
        k0_pay2 (k0_pay7 (iblk m c 3 t)) (pT m c t) (View.ld X (Rect.unit (s := S8192x128) (k0_off1 (grid0.coords t)) S2048x128.size (k0_off1_inb (grid0.coords t))))⟩]) y = X y + addV m c t y := by
    intro v f X hX
    refine row_add (A := fun x => ∑ k : Fin 2048, pT m c t (ix2 k (x 0)) * (show FVec Ideal S2048x128 .f32 from iblk m c 3 t) (ix2 k (x 1))) v f [] X hX t _ ?_ y
    intro x
    pointwise [k0_pay2, k0_pay7]
  by_cases h1 : t.val % 4 = 0
  · rw [outsAt0_D m c t h0 h1 (by omega)]; frame_out
    exact key _ _ _ (Memref.IsWhole.read_unread _ _)
  · by_cases h2 : t.val % 4 = 3
    · rw [outsAt0_C m c t h0 h1 h2]; frame_out
      exact key _ _ _ (Memref.IsWhole.read_unread _ _)
    · rw [outsAt0_B m c t h0 h1 h2]; frame_out
      exact key _ _ _ (Memref.IsWhole.read_unread _ _)

/-- The value gradient at the first point of a key head: the point's addend. -/
theorem dv_start (c : Dev nD) (t : Fin cfg0.N) (h0 : t.val % 64 = 0) (y : S8192x128.Idx) :
    (outsAt0 m c t.val t.isLt).2.2.1 y = 0 + addV m c t y := by
  rw [outsAt0_A m c t h0 (by omega) (by omega)]; frame_out
  rw [← View.read_writes_junk_apply_eq_canon (ms0_7 t).view]
  refine row_add (A := fun x => ∑ k : Fin 2048, pT m c t (ix2 k (x 0)) * (show FVec Ideal S2048x128 .f32 from iblk m c 3 t) (ix2 k (x 1))) _ _ _ (fun _ => 0) ?_ t _ ?_ y
  · rw [View.read_writes_junk_eq_canon]
    refine (View.canon_unit_zero (by decide) _ _).trans (funext fun x => ?_)
    pointwise [k0_pay4, k0_pay5]
  · intro x
    pointwise [k0_pay2, k0_pay7, k0_pay4, k0_pay5]

/-- The query gradient's scratch at a point that does not start a query block: what it held plus the point's addend. -/
theorem dq_step (c : Dev nD) (t : Fin cfg0.N) (h1 : ¬t.val % 4 = 0) (y : S2048x128.Idx) :
    (outsAt0 m c t.val t.isLt).2.2.2 y = (outsAt0 m c (t.val - 1) (Nat.lt_of_le_of_lt (Nat.sub_le _ _) t.isLt)).2.2.2 y + addQ m c t y := by
  by_cases h2 : t.val % 4 = 3
  · rw [outsAt0_C m c t (by omega) h1 h2]; frame_out
    refine (congrArg (fun Z => k0_pay1 (k0_pay10 (iblk m c 0 t) (iblk m c 1 t) (iblk m c 3 t) (iblk m c 4 t) (iblk m c 2 t) (iblk m c 5 t) Z) y)
      (Memref.IsWhole.read_unread _ _)).trans ?_
    pointwise [k0_pay1, k0_pay10]
    try rfl
  · rw [outsAt0_B m c t (by omega) h1 h2]; frame_out
    refine (congrArg (fun Z => k0_pay1 (k0_pay10 (iblk m c 0 t) (iblk m c 1 t) (iblk m c 3 t) (iblk m c 4 t) (iblk m c 2 t) (iblk m c 5 t) Z) y)
      (Memref.IsWhole.read_unread _ _)).trans ?_
    pointwise [k0_pay1, k0_pay10]
    try rfl

/-- The query gradient's scratch at the first point of a query block: the point's addend. -/
theorem dq_start (c : Dev nD) (t : Fin cfg0.N) (h1 : t.val % 4 = 0) (y : S2048x128.Idx) :
    (outsAt0 m c t.val t.isLt).2.2.2 y = 0 + addQ m c t y := by
  by_cases h0 : t.val % 64 = 0
  · rw [outsAt0_A m c t h0 h1 (by omega)]; frame_out
    pointwise [k0_pay1, k0_pay10, k0_pay6]
    rfl
  · rw [outsAt0_D m c t h0 h1 (by omega)]; frame_out
    pointwise [k0_pay1, k0_pay10, k0_pay6]
    rfl

/-- The query gradient written back at the last point of a query block is the scratch. -/
theorem dq_out (c : Dev nD) (t : Fin cfg0.N) (h2 : t.val % 4 = 3) (y : S2048x128.Idx) :
    (outsAt0 m c t.val t.isLt).1 y = (outsAt0 m c t.val t.isLt).2.2.2 y := by
  rw [outsAt0_C m c t (by omega) (by omega) h2]; frame_out

end Cert.KernelIdeal.Body
end
-- ==== Proof.Tile.lean ====
/- The tiles of the gradient kernel at an entry, its input blocks as entries of the arrays, and the three results as sums
   over the grid's points. -/
module

public import proofs.«01_k».proof.Proof.Body

@[expose] public section

set_option maxRecDepth 16384

noncomputable section

open Idealize.ShloMosaic Idealize.ShloMosaic.TcCoe Idealize.SL.Sem
open Idealize.ShloMosaic.Pipeline (Dat)

namespace Cert.KernelIdeal.Body
open Cert.KernelIdeal Cert.KernelIdeal.Gen Cert.KernelIdeal.Value

/-- The lane of a column. -/
abbrev lane (b : ℕ) : Fin 128 := ⟨b % 128, Nat.mod_lt _ (by decide)⟩

/-- Sixteen copies of a block side by side, read at a column: the block at that column's lane. -/
theorem wide_apply (l : FVec Ideal S2048x128 .f32) (a b : Fin 2048) (h) :
    (concatenate S2048x2048 1 [⟨S2048x128, l⟩, ⟨S2048x128, l⟩, ⟨S2048x128, l⟩, ⟨S2048x128, l⟩, ⟨S2048x128, l⟩, ⟨S2048x128, l⟩, ⟨S2048x128, l⟩, ⟨S2048x128, l⟩, ⟨S2048x128, l⟩, ⟨S2048x128, l⟩, ⟨S2048x128, l⟩, ⟨S2048x128, l⟩, ⟨S2048x128, l⟩, ⟨S2048x128, l⟩, ⟨S2048x128, l⟩, ⟨S2048x128, l⟩] h
      (ix2 a b) : EReal) = l (ix2 a (lane b.val)) := by
  refine concatenate_replicate_apply (s₁ := S2048x128) (t := S2048x2048) 1 16 l h rfl (ix2 a b) (ix2 a (lane b.val)) rfl ?_
  intro b hb
  fin_cases b
  · rfl
  · exact absurd rfl hb

/-- The probability tile at an entry. -/
theorem pay8_apply (q k : FVec Ideal S2048x128 .bf16) (l : FVec Ideal S2048x128 .f32) (a b : Fin 2048) :
    (k0_pay8 (F := Ideal) q k l (ix2 a b) : EReal) = Ideal.exp ((∑ d : Fin 128, q (ix2 a d) * k (ix2 b d)) - l (ix2 a (lane b.val))) := by
  unfold k0_pay8
  rw [shapeCast_self]
  rw [← wide_apply l a b concatenates_S2048x128_S2048x128_S2048x128_S2048x128_S2048x128_S2048x128_S2048x128_S2048x128_S2048x128_S2048x128_S2048x128_S2048x128_S2048x128_S2048x128_S2048x128_S2048x128_S2048x2048_d1]
  generalize concatenate _ _ _ _ = W
  pointwise

/-- The score gradient's tile at an entry. -/
theorem pay9_apply (q k : FVec Ideal S2048x128 .bf16) (o l : FVec Ideal S2048x128 .f32) (v : FVec Ideal S2048x128 .bf16) (e : FVec Ideal S2048x128 .f32) (a b : Fin 2048) :
    (k0_pay9 (F := Ideal) q k o l v e (ix2 a b) : EReal)
      = k0_pay8 (F := Ideal) q k l (ix2 a b) * ((∑ d : Fin 128, o (ix2 a d) * v (ix2 b d)) - e (ix2 a (lane b.val))) := by
  unfold k0_pay9
  rw [shapeCast_self]
  rw [← wide_apply e a b concatenates_S2048x128_S2048x128_S2048x128_S2048x128_S2048x128_S2048x128_S2048x128_S2048x128_S2048x128_S2048x128_S2048x128_S2048x128_S2048x128_S2048x128_S2048x128_S2048x128_S2048x2048_d1]
  generalize concatenate _ _ _ _ = W
  pointwise [k0_pay7]

variable (m : (ℓ : Loc nD τ sig) → Buf (Elt Ideal) ℓ)

/-- The block indices of the six input windows at every point. -/
theorem idx : ∀ t : Fin cfg0.N, win0_0.index t = ![t.val / 4 % 4, t.val / 16] ∧ win0_1.index t = ![t.val % 4, t.val / 64]
    ∧ win0_2.index t = ![t.val % 4, t.val / 64] ∧ win0_3.index t = ![t.val / 4 % 4, t.val / 16]
    ∧ win0_4.index t = ![t.val / 4 % 4, t.val / 16] ∧ win0_5.index t = ![t.val / 4 % 4, t.val / 16] ∧ t.val < 128 :=
  (by decide +kernel : ∀ t : Fin grid0.N, _)

/-- The query gradient: the sum over the four key blocks of each point's addend. -/
theorem G6_apply (c : Dev nD) (i : S8192x1024.Idx) (h : ∀ s : Fin 4, 4 * run6Of i + s.val < cfg0.N) :
    (G6 m c i : EReal) = ∑ s : Fin 4, addQ m c ⟨4 * run6Of i + s.val, h s⟩ (loc6Of i) := by
  have hp : pt6Of i < cfg0.N := h 3
  unfold G6
  rw [dif_pos hp, ← outsAt0_sweep m c _ hp]
  have hd : (4 * run6Of i + 3) / 4 = run6Of i := by omega
  refine (dq_out m c ⟨pt6Of i, hp⟩ (by show (4 * run6Of i + 3) % 4 = 3; omega) _).trans ?_
  refine (Pipeline.eq_sum_fin_of_reset_step_apply_of_flush (fun n h => (outsAt0 m c n h).2.2.2) 4 (fun _ => (0 : EReal)) (addQ m c)
    (fun t h y => dq_start m c t h y) (fun t h y => dq_step m c t h y) ⟨pt6Of i, hp⟩ (by show (4 * run6Of i + 3) % 4 = 3; omega) _).trans ?_
  rw [zero_add]
  refine Finset.sum_congr rfl fun s _ => ?_
  congr 2
  show 4 * ((4 * run6Of i + 3) / 4) + s.val = _
  rw [hd]

/-- The key gradient: the sum over a key head's 64 points of each point's addend. -/
theorem G7_apply (c : Dev nD) (i : S8192x256.Idx) (h : ∀ s : Fin 64, 64 * run7Of i + s.val < cfg0.N) :
    (G7 m c i : EReal) = ∑ s : Fin 64, addK m c ⟨64 * run7Of i + s.val, h s⟩ (loc7Of i) := by
  have hp : pt7Of i < cfg0.N := h 63
  unfold G7
  rw [dif_pos hp, ← outsAt0_sweep m c _ hp]
  have hd : (64 * run7Of i + 63) / 64 = run7Of i := by omega
  refine (Pipeline.eq_sum_fin_of_reset_step_apply_of_flush (fun n h => (outsAt0 m c n h).2.1) 64 (fun _ => (0 : EReal)) (addK m c)
    (fun t h y => dk_start m c t h y) (fun t h y => dk_step m c t h y) ⟨pt7Of i, hp⟩ (by show (64 * run7Of i + 63) % 64 = 63; omega) _).trans ?_
  rw [zero_add]
  refine Finset.sum_congr rfl fun s _ => ?_
  congr 2
  show 64 * ((64 * run7Of i + 63) / 64) + s.val = _
  rw [hd]

/-- The value gradient: the sum over a key head's 64 points of each point's addend. -/
theorem G8_apply (c : Dev nD) (i : S8192x256.Idx) (h : ∀ s : Fin 64, 64 * run8Of i + s.val < cfg0.N) :
    (G8 m c i : EReal) = ∑ s : Fin 64, addV m c ⟨64 * run8Of i + s.val, h s⟩ (loc8Of i) := by
  have hp : pt8Of i < cfg0.N := h 63
  unfold G8
  rw [dif_pos hp, ← outsAt0_sweep m c _ hp]
  have hd : (64 * run8Of i + 63) / 64 = run8Of i := by omega
  refine (Pipeline.eq_sum_fin_of_reset_step_apply_of_flush (fun n h => (outsAt0 m c n h).2.2.1) 64 (fun _ => (0 : EReal)) (addV m c)
    (fun t h y => dv_start m c t h y) (fun t h y => dv_step m c t h y) ⟨pt8Of i, hp⟩ (by show (64 * run8Of i + 63) % 64 = 63; omega) _).trans ?_
  rw [zero_add]
  refine Finset.sum_congr rfl fun s _ => ?_
  congr 2
  show 64 * ((64 * run8Of i + 63) / 64) + s.val = _
  rw [hd]

section Blocks

variable (c : Dev nD)

/-- A row of the 8192 from its block and the row in the block. -/
abbrev rowOf (x : ℕ) (a : Fin 2048) : Fin 8192 := ⟨x % 4 * 2048 + a.val, by have := a.isLt; omega⟩

/-- A column of the 1024 from the head and the lane. -/
abbrev colOf (t : Fin cfg0.N) (b : Fin 128) : Fin 1024 := ⟨t.val / 16 * 128 + b.val, by have := (idx t).2.2.2.2.2.2; have := b.isLt; omega⟩

/-- A column of the 256 from the key head and the lane. -/
abbrev kcolOf (t : Fin cfg0.N) (b : Fin 128) : Fin 256 := ⟨t.val / 64 * 128 + b.val, by have := (idx t).2.2.2.2.2.2; have := b.isLt; omega⟩

/-- Entries of the query block at a point. -/
theorem blk0 (t : Fin cfg0.N) (a : Fin 2048) (b : Fin 128) :
    (show FVec Ideal S2048x128 .bf16 from iblk m c 0 t) (ix2 a b) = (show FVec Ideal S8192x1024 .bf16 from V m c main_arg0) (ix2 (rowOf (t.val / 4) a) (colOf t b)) := by
  unfold iblk
  generalize V m c = W
  blk_ext [idx t]

/-- Entries of the key block at a point. -/
theorem blk1 (t : Fin cfg0.N) (a : Fin 2048) (b : Fin 128) :
    (show FVec Ideal S2048x128 .bf16 from iblk m c 1 t) (ix2 a b) = (show FVec Ideal S8192x256 .bf16 from V m c main_arg1) (ix2 (rowOf t.val a) (kcolOf t b)) := by
  unfold iblk
  generalize V m c = W
  blk_ext [idx t]

/-- Entries of the value block at a point. -/
theorem blk2 (t : Fin cfg0.N) (a : Fin 2048) (b : Fin 128) :
    (show FVec Ideal S2048x128 .bf16 from iblk m c 2 t) (ix2 a b) = (show FVec Ideal S8192x256 .bf16 from V m c main_arg2) (ix2 (rowOf t.val a) (kcolOf t b)) := by
  unfold iblk
  generalize V m c = W
  blk_ext [idx t]

/-- Entries of the cotangent block at a point. -/
theorem blk3 (t : Fin cfg0.N) (a : Fin 2048) (b : Fin 128) :
    (show FVec Ideal S2048x128 .f32 from iblk m c 3 t) (ix2 a b) = (show FVec Ideal S8192x1024 .f32 from V m c main_arg3) (ix2 (rowOf (t.val / 4) a) (colOf t b)) := by
  unfold iblk
  generalize V m c = W
  blk_ext [idx t]

/-- The row of an entry of the log-sum block in its array. -/
theorem emb4_0 (t : Fin cfg0.N) (a : Fin 2048) (b : Fin 128) :
    ((((cfg0.win 4).blk t).view.emb (ix2 a b : S2048x128.Idx)) 0).val = t.val / 4 % 4 * 2048 + a.val := by
  blk_simp [idx t]

/-- The column of an entry of the log-sum block in its array. -/
theorem emb4_1 (t : Fin cfg0.N) (a : Fin 2048) (b : Fin 128) :
    ((((cfg0.win 4).blk t).view.emb (ix2 a b : S2048x128.Idx)) 1).val = t.val / 16 * 128 + b.val := by
  blk_simp [idx t]

/-- The place of an entry of the log-sum block in its array. -/
theorem emb4 (t : Fin cfg0.N) (a : Fin 2048) (b : Fin 128) :
    (((cfg0.win 4).blk t).view.emb (ix2 a b : S2048x128.Idx) : S8192x1024.Idx) = ix2 (rowOf (t.val / 4) a) (colOf t b) := by
  refine funext fun x => Fin.ext ?_
  fin_cases x
  · exact emb4_0 t _ _
  · exact emb4_1 t _ _

/-- The log-sum window reads its array through the block's place. -/
theorem read4 (W : (b : Ref sig Kind.tc) → Buf (Elt Ideal) ((c.tc : Thread nD τ).loc b)) (t : Fin cfg0.N) (x : S2048x128.Idx) :
    (show EReal from View.read (Elt Ideal) ((cfg0.win 4).blk t).view (W (Pipeline.arrRef spec0 4)) x)
      = (show EReal from W (Pipeline.arrRef spec0 4) (((cfg0.win 4).blk t).view.emb x)) := rfl

/-- Entries of the log-sum block of any contents of the arrays. -/
theorem any4 (W : (b : Ref sig Kind.tc) → Buf (Elt Ideal) ((c.tc : Thread nD τ).loc b)) (t : Fin cfg0.N) (a : Fin 2048) (b : Fin 128) :
    (show EReal from View.read (Elt Ideal) ((cfg0.win 4).blk t).view (W (Pipeline.arrRef spec0 4)) (ix2 a b))
      = (show EReal from W main_v41 (ix2 (rowOf (t.val / 4) a) (colOf t b))) :=
  (read4 c W t _).trans (congrArg (fun z : S8192x1024.Idx => (show EReal from W main_v41 z)) (emb4 t a b))

/-- Entries of the log-sum block at a point. -/
theorem blk4 (t : Fin cfg0.N) (a : Fin 2048) (b : Fin 128) :
    (show EReal from iblk m c 4 t (ix2 a b)) = (show EReal from V m c main_v41 (ix2 (rowOf (t.val / 4) a) (colOf t b))) :=
  any4 c (V m c) t a b

/-- The row of an entry of the row-sum block in its array. -/
theorem emb5_0 (t : Fin cfg0.N) (a : Fin 2048) (b : Fin 128) :
    ((((cfg0.win 5).blk t).view.emb (ix2 a b : S2048x128.Idx)) 0).val = t.val / 4 % 4 * 2048 + a.val := by
  blk_simp [idx t]

/-- The column of an entry of the row-sum block in its array. -/
theorem emb5_1 (t : Fin cfg0.N) (a : Fin 2048) (b : Fin 128) :
    ((((cfg0.win 5).blk t).view.emb (ix2 a b : S2048x128.Idx)) 1).val = t.val / 16 * 128 + b.val := by
  blk_simp [idx t]

/-- The place of an entry of the row-sum block in its array. -/
theorem emb5 (t : Fin cfg0.N) (a : Fin 2048) (b : Fin 128) :
    (((cfg0.win 5).blk t).view.emb (ix2 a b : S2048x128.Idx) : S8192x1024.Idx) = ix2 (rowOf (t.val / 4) a) (colOf t b) := by
  refine funext fun x => Fin.ext ?_
  fin_cases x
  · exact emb5_0 t _ _
  · exact emb5_1 t _ _

/-- The row-sum window reads its array through the block's place. -/
theorem read5 (W : (b : Ref sig Kind.tc) → Buf (Elt Ideal) ((c.tc : Thread nD τ).loc b)) (t : Fin cfg0.N) (x : S2048x128.Idx) :
    (show EReal from View.read (Elt Ideal) ((cfg0.win 5).blk t).view (W (Pipeline.arrRef spec0 5)) x)
      = (show EReal from W (Pipeline.arrRef spec0 5) (((cfg0.win 5).blk t).view.emb x)) := rfl

/-- Entries of the row-sum block of any contents of the arrays. -/
theorem any5 (W : (b : Ref sig Kind.tc) → Buf (Elt Ideal) ((c.tc : Thread nD τ).loc b)) (t : Fin cfg0.N) (a : Fin 2048) (b : Fin 128) :
    (show EReal from View.read (Elt Ideal) ((cfg0.win 5).blk t).view (W (Pipeline.arrRef spec0 5)) (ix2 a b))
      = (show EReal from W main_v44 (ix2 (rowOf (t.val / 4) a) (colOf t b))) :=
  (read5 c W t _).trans (congrArg (fun z : S8192x1024.Idx => (show EReal from W main_v44 z)) (emb5 t a b))

/-- Entries of the row-sum block at a point. -/
theorem blk5 (t : Fin cfg0.N) (a : Fin 2048) (b : Fin 128) :
    (show EReal from iblk m c 5 t (ix2 a b)) = (show EReal from V m c main_v44 (ix2 (rowOf (t.val / 4) a) (colOf t b))) :=
  any5 c (V m c) t a b

end Blocks

end Cert.KernelIdeal.Body
end
-- ==== Proof.Host.lean ====
/- What the host prepares for the gradient kernel: each row's log-sum and its sum of cotangent times result, on all lanes of a
   head. -/
module

public import proofs.«01_k».proof.Proof.Ref
public import proofs.«01_k».proof.Proof.Tile

@[expose] public section

set_option maxRecDepth 16384

noncomputable section

open Idealize.ShloMosaic Idealize.ShloMosaic.TcCoe Idealize.SL.Sem

namespace Cert.KernelIdeal.Host
open Cert.KernelIdeal Cert.KernelIdeal.Gen Cert.Att

section Stages
variable (x0 : FVec Ideal S8192x1024 .bf16) (x1 x2 : FVec Ideal S8192x256 .bf16) (x3 : FVec Ideal S8192x1024 .f32)

/-- The scores, the query's row first. -/
def hs : FVec Ideal S8192x2x4x8192 .f32 :=
  transpose S8192x2x4x8192 [2, 0, 3, 1] (ReferenceIdeal.Read.val_main_v6 (F := Ideal) x0 x1) transposes_S2x8192x8192x4_S8192x2x4x8192_2_0_3_1

/-- The greatest entry of each row. -/
def mx (y : FVec Ideal S8192x2x4x8192 .f32) : FVec Ideal S8192x2x4 .f32 :=
  Host.reduce FloatOps.maximumf y (constant S_ .f32 0xFF800000#32) reducesTo_S8192x2x4x8192_S8192x2x4_d3 h_S_

/-- The rows' greatest scores. -/
def hm : FVec Ideal S8192x2x4 .f32 := mx (hs x0 x1)

/-- The shifted exponentials. -/
def he : FVec Ideal S8192x2x4x8192 .f32 :=
  Host.exp (subf (hs x0 x1) (broadcastInDim S8192x2x4x8192 ![0, 1, 2, 3] bcast_S8192x2x4x1_S8192x2x4x8192_0_1_2_3
    (broadcastInDim S8192x2x4x1 ![0, 1, 2] bcast_S8192x2x4_S8192x2x4x1_0_1_2 (hm x0 x1))))

/-- The rows' sums. -/
def rs (y : FVec Ideal S8192x2x4x8192 .f32) : FVec Ideal S8192x2x4 .f32 :=
  Host.reduceAdd y (constant S_ .f32 0x00000000#32) reducesTo_S8192x2x4x8192_S8192x2x4_d3 h_S_

/-- The rows' log-sums. -/
def hl : FVec Ideal S8192x2x4 .f32 := addf (hm x0 x1) (Host.log (rs (he x0 x1)))

/-- The log-sums on all lanes. -/
def hlse : FVec Ideal S8192x1024 .f32 :=
  shapeCast S8192x1024 (broadcastInDim S8192x8x128 ![0, 1, 2] bcast_S8192x8x1_S8192x8x128_0_1_2 (shapeCast S8192x8x1 (hl x0 x1) shapeCasts_S8192x2x4_S8192x8x1)) shapeCasts_S8192x8x128_S8192x1024

/-- The rows' sums of cotangent times result. -/
def hd : FVec Ideal S8192x8 .f32 :=
  Host.reduceAdd (shapeCast S8192x8x128 (mulf x3 (ReferenceIdeal.Read.val_main_v38 (F := Ideal) x0 x1 x2)) shapeCasts_S8192x1024_S8192x8x128)
    (constant S_ .f32 0x00000000#32) reducesTo_S8192x8x128_S8192x8_d2 h_S_

/-- Those sums on all lanes. -/
def hdel : FVec Ideal S8192x1024 .f32 :=
  shapeCast S8192x1024 (broadcastInDim S8192x8x128 ![0, 1, 2] bcast_S8192x8x1_S8192x8x128_0_1_2 (shapeCast S8192x8x1 (hd x0 x1 x2 x3) shapeCasts_S8192x8_S8192x8x1)) shapeCasts_S8192x8x128_S8192x1024

/-- The log-sums on all lanes at an entry: the row's log-sum in the column's head. -/
theorem hlse_apply (i : S8192x1024.Idx) (j : S8192x2x4.Idx) (e0 : (j 0).val = (i 0).val) (e1 : (j 1).val = (i 1).val / 512) (e2 : (j 2).val = (i 1).val / 128 % 4) :
    (show EReal from hlse x0 x1 i) = (show EReal from hl x0 x1 j) := by
  unfold hlse
  generalize hl x0 x1 = y
  have b0 : (i 0).val < 8192 := (i 0).isLt
  have b1 : (i 1).val < 1024 := (i 1).isLt
  have k1 : (i 1).val / 128 < 8 := by omega
  have k2 : (i 1).val % 128 < 128 := by omega
  refine (shapeCast_apply _ shapeCasts_S8192x8x128_S8192x1024 i (ix3 (i 0) ⟨(i 1).val / 128, k1⟩ ⟨(i 1).val % 128, k2⟩) ?_).trans ?_
  · rewrite [Shape.rowMajor_val_two, Shape.rowMajor_val_three]
    show ((i 0).val * 8 + (i 1).val / 128) * 128 + (i 1).val % 128 = (i 0).val * 1024 + (i 1).val
    omega
  refine (broadcastInDim_apply _ bcast_S8192x8x1_S8192x8x128_0_1_2 _ _ (ix3 (i 0) ⟨(i 1).val / 128, k1⟩ ⟨0, Nat.one_pos⟩) (fun a => by fin_cases a <;> rfl)).trans ?_
  refine shapeCast_apply y shapeCasts_S8192x2x4_S8192x8x1 _ j ?_
  rewrite [Shape.rowMajor_val_three, Shape.rowMajor_val_three]
  show ((j 0).val * 2 + (j 1).val) * 4 + (j 2).val = ((i 0).val * 8 + (i 1).val / 128) * 1 + 0
  rw [e0, e1, e2]; omega

/-- The rows' sums on all lanes at an entry: the row's sum in the column's head. -/
theorem hdel_apply (i : S8192x1024.Idx) (j : S8192x8.Idx) (e0 : (j 0).val = (i 0).val) (e1 : (j 1).val = (i 1).val / 128) :
    (show EReal from hdel x0 x1 x2 x3 i) = (show EReal from hd x0 x1 x2 x3 j) := by
  unfold hdel
  generalize hd x0 x1 x2 x3 = y
  have b0 : (i 0).val < 8192 := (i 0).isLt
  have b1 : (i 1).val < 1024 := (i 1).isLt
  have k1 : (i 1).val / 128 < 8 := by omega
  have k2 : (i 1).val % 128 < 128 := by omega
  refine (shapeCast_apply _ shapeCasts_S8192x8x128_S8192x1024 i (ix3 (i 0) ⟨(i 1).val / 128, k1⟩ ⟨(i 1).val % 128, k2⟩) ?_).trans ?_
  · rewrite [Shape.rowMajor_val_two, Shape.rowMajor_val_three]
    show ((i 0).val * 8 + (i 1).val / 128) * 128 + (i 1).val % 128 = (i 0).val * 1024 + (i 1).val
    omega
  refine (broadcastInDim_apply _ bcast_S8192x8x1_S8192x8x128_0_1_2 _ _ (ix3 (i 0) ⟨(i 1).val / 128, k1⟩ ⟨0, Nat.one_pos⟩) (fun a => by fin_cases a <;> rfl)).trans ?_
  refine shapeCast_apply y shapeCasts_S8192x8_S8192x8x1 _ j ?_
  rewrite [Shape.rowMajor_val_three, Shape.rowMajor_val_two]
  show (j 0).val * 8 + (j 1).val = ((i 0).val * 8 + (i 1).val / 128) * 1 + 0
  rw [e0, e1]; omega

/-- The greatest entry of a row of real numbers is a real number. -/
theorem mx_real (y : FVec Ideal S8192x2x4x8192 .f32) (hx : ∀ i, ∃ r : ℝ, (show EReal from y i) = (r : EReal)) (i : S8192x2x4.Idx) :
    ∃ M : ℝ, (show EReal from mx y i) = (M : EReal) :=
  reduce_max_real y (constant S_ .f32 0xFF800000#32) reducesTo_S8192x2x4x8192_S8192x2x4_d3
    (by decide : S8192x2x4x8192.Reduces [3] S8192x2x4) h_S_ i (by decide) bot_word hx

variable (Q K W D : ℕ → ℕ → ℝ)
variable (h0 : ∀ i, (show EReal from x0 i) = ((Q (i 0).val (i 1).val : ℝ) : EReal))
  (h1 : ∀ i, (show EReal from x1 i) = ((K (i 0).val (i 1).val : ℝ) : EReal))
  (h2 : ∀ i, (show EReal from x2 i) = ((W (i 0).val (i 1).val : ℝ) : EReal))
  (h3 : ∀ i, (show EReal from x3 i) = ((D (i 0).val (i 1).val : ℝ) : EReal))

include h0 h1 in
/-- The scores are the real scores. -/
theorem hs_real (i : S8192x2x4x8192.Idx) :
    (show EReal from hs x0 x1 i) = ((sc Q K ((i 1).val * 4 + (i 2).val) (i 0).val (i 3).val : ℝ) : EReal) := by
  unfold hs
  have e := transpose_apply (α := EReal) [2, 0, 3, 1] (ReferenceIdeal.Read.val_main_v6 (F := Ideal) x0 x1) transposes_S2x8192x8192x4_S8192x2x4x8192_2_0_3_1 i
    (ix4 (i 1) (i 3) (i 0) (i 2)) (fun b => match b with
    | ⟨0, _⟩ => rfl
    | ⟨1, _⟩ => rfl
    | ⟨2, _⟩ => rfl
    | ⟨3, _⟩ => rfl)
  exact e.trans (ReferenceIdeal.Real.r6 Q K x0 x1 h0 h1 _)

include h0 h1 in
/-- The rows' greatest scores are real numbers. -/
theorem hm_real (i : S8192x2x4.Idx) : ∃ M : ℝ, (show EReal from hm x0 x1 i) = (M : EReal) :=
  mx_real (hs x0 x1) (fun j => ⟨_, hs_real x0 x1 Q K h0 h1 j⟩) i

/-- The shifted exponentials at an entry. -/
theorem he_apply (i : S8192x2x4x8192.Idx) :
    (show EReal from he x0 x1 i) = Ideal.exp ((show EReal from hs x0 x1 i) - (show EReal from hm x0 x1 (ix3 (i 0) (i 1) (i 2)))) := by
  unfold he
  generalize hs x0 x1 = y
  generalize hm x0 x1 = z
  pointwise

/-- A row's sum from zero. -/
theorem rs_apply (y : FVec Ideal S8192x2x4x8192 .f32) (i : S8192x2x4.Idx) :
    (show EReal from rs y i) = ∑ k : Fin 8192, (show EReal from y (ix4 (i 0) (i 1) (i 2) k)) := by
  unfold rs
  simp only [Host.reduceAdd, Ideal.hostReduceAdd_def]
  rw [Ideal.hostReduceAdd_single reducesTo_S8192x2x4x8192_S8192x2x4_d3 (by decide)]
  refine (congrArg₂ (· + ·) Ideal.ofBits_zero_f32 (Finset.sum_congr rfl fun k _ => ?_)).trans (zero_add _)
  exact congrArg y (funext fun a => Fin.ext (by match a with | ⟨0, _⟩ => rfl | ⟨1, _⟩ => rfl | ⟨2, _⟩ => rfl | ⟨3, _⟩ => rfl))

/-- A sum of an entry and the logarithm of another. -/
theorem addlog (z w : FVec Ideal S8192x2x4 .f32) (i : S8192x2x4.Idx) :
    (show EReal from addf z (Host.log w) i) = (show EReal from z i) + Ideal.log (show EReal from w i) := rfl

/-- The rows' log-sums at an entry. -/
theorem hl_apply (i : S8192x2x4.Idx) :
    (show EReal from hl x0 x1 i) = (show EReal from hm x0 x1 i) + Ideal.log (∑ k : Fin 8192, (show EReal from he x0 x1 (ix4 (i 0) (i 1) (i 2) k))) := by
  rw [← rs_apply]
  exact addlog _ _ i

include h0 h1 in
/-- The shifted exponentials of a row whose greatest score is known. -/
theorem he_real (i : S8192x2x4.Idx) (M : ℝ) (hM : (show EReal from hm x0 x1 i) = (M : EReal)) (k : Fin 8192) :
    (show EReal from he x0 x1 (ix4 (i 0) (i 1) (i 2) k)) = ((Real.exp (sc Q K ((i 1).val * 4 + (i 2).val) (i 0).val k.val - M) : ℝ) : EReal) := by
  have e' : (ix3 (i 0) (i 1) (i 2) : S8192x2x4.Idx) = i := funext fun a => by fin_cases a <;> rfl
  refine (he_apply x0 x1 _).trans ?_
  refine (congrArg₂ (fun u v : EReal => Ideal.exp (u - v)) (hs_real x0 x1 Q K h0 h1 (ix4 (i 0) (i 1) (i 2) k))
    ((congrArg (fun j => show EReal from hm x0 x1 j) e').trans hM)).trans ?_
  show Ideal.exp ((_ : EReal) - _) = _
  rw [← EReal.coe_sub, Ideal.exp_coe]
  rfl

include h0 h1 in
/-- The rows' log-sums are the logarithms of the rows' sums. -/
theorem hl_real (i : S8192x2x4.Idx) :
    (show EReal from hl x0 x1 i) = ((Real.log (zs Q K ((i 1).val * 4 + (i 2).val) (i 0).val) : ℝ) : EReal) := by
  obtain ⟨M, hM⟩ := hm_real x0 x1 Q K h0 h1 i
  rw [hl_apply, hM, sum_real _ _ (he_real x0 x1 Q K h0 h1 i M hM), Ideal.log_coe,
    if_neg (not_le.mpr (sum_shift_pos Q K _ _ M)), ← EReal.coe_add, log_shift]

include h0 h1 in
/-- The log-sum array is the logarithm of the row's sum in the column's head. -/
theorem hlse_real (i : S8192x1024.Idx) :
    (show EReal from hlse x0 x1 i) = ((Real.log (zs Q K ((i 1).val / 128) (i 0).val) : ℝ) : EReal) := by
  have b1 : (i 1).val < 1024 := (i 1).isLt
  rw [hlse_apply x0 x1 i (ix3 (i 0) ⟨(i 1).val / 512, by omega⟩ ⟨(i 1).val / 128 % 4, by omega⟩) rfl rfl rfl]
  refine (hl_real x0 x1 Q K h0 h1 _).trans ?_
  show ((Real.log (zs Q K ((i 1).val / 512 * 4 + (i 1).val / 128 % 4) (i 0).val) : ℝ) : EReal) = _
  rw [show (i 1).val / 512 * 4 + (i 1).val / 128 % 4 = (i 1).val / 128 from by omega]

include h0 h1 h2 h3 in
/-- The row-sum array is the row's sum of probabilities times their cotangents. -/
theorem hd_real (i : S8192x8.Idx) :
    (show EReal from hd x0 x1 x2 x3 i) = ((dl Q K W D (i 1).val (i 0).val : ℝ) : EReal) := by
  have b0 : (i 0).val < 8192 := (i 0).isLt
  have b1 : (i 1).val < 8 := (i 1).isLt
  choose M hM using ReferenceIdeal.Real.r8 Q K x0 x1 h0 h1
  have e : (show EReal from hd x0 x1 x2 x3 i)
      = ∑ d : Fin 128, (show EReal from x3 (ix2 (i 0) ⟨(i 1).val * 128 + d.val, by have := d.isLt; omega⟩))
          * (show EReal from ReferenceIdeal.Read.val_main_v38 (F := Ideal) x0 x1 x2 (ix2 (i 0) ⟨(i 1).val * 128 + d.val, by have := d.isLt; omega⟩)) := by
    unfold hd
    generalize ReferenceIdeal.Read.val_main_v38 (F := Ideal) x0 x1 x2 = y
    pointwise
  rw [e]
  refine (sum_mul_real _ _ (fun d => D (i 0).val ((i 1).val * 128 + d.val))
    (fun d => ∑ k : Fin 8192, W k.val ((i 1).val / 4 * 128 + d.val) * pr Q K (i 1).val (i 0).val k.val) (fun d => h3 _) (fun d => ?_)).trans ?_
  · refine (ReferenceIdeal.Real.r38 Q K W x0 x1 x2 h0 h1 h2 M hM _).trans ?_
    have := d.isLt
    show ((∑ k : Fin 8192, W k.val (((i 1).val * 128 + d.val) / 128 / 4 * 128 + ((i 1).val * 128 + d.val) % 128) * pr Q K (((i 1).val * 128 + d.val) / 128) (i 0).val k.val : ℝ) : EReal) = _
    rw [show ((i 1).val * 128 + d.val) / 128 = (i 1).val from by omega, show ((i 1).val * 128 + d.val) % 128 = d.val from by omega]
  · rw [dl_out]

include h0 h1 h2 h3 in
/-- The row-sum array on all lanes. -/
theorem hdel_real (i : S8192x1024.Idx) :
    (show EReal from hdel x0 x1 x2 x3 i) = ((dl Q K W D ((i 1).val / 128) (i 0).val : ℝ) : EReal) := by
  have b1 : (i 1).val < 1024 := (i 1).isLt
  rw [hdel_apply x0 x1 x2 x3 i (ix2 (i 0) ⟨(i 1).val / 128, by omega⟩) rfl rfl]
  exact hd_real x0 x1 x2 x3 Q K W D h0 h1 h2 h3 _

end Stages

variable (m : (ℓ : Loc nD τ sig) → Buf (Elt Ideal) ℓ) (c : Dev nD)

/-- The log-sum array when the kernel starts. -/
theorem V41 : V m c main_v41 = hlse (m ((c.tc : Thread nD τ).loc main_arg0)) (m ((c.tc : Thread nD τ).loc main_arg1)) := by
  entry_read
  rfl

/-- The row-sum array when the kernel starts. -/
theorem V44 : V m c main_v44 = hdel (m ((c.tc : Thread nD τ).loc main_arg0)) (m ((c.tc : Thread nD τ).loc main_arg1))
    (m ((c.tc : Thread nD τ).loc main_arg2)) (m ((c.tc : Thread nD τ).loc main_arg3)) := by
  entry_read
  rfl

end Cert.KernelIdeal.Host
end
-- ==== Proof.Flash.lean ====
/- One step of the attention's forward kernel: what a key block leaves in the running maximum, the running sum and the
   running result, read on real numbers. -/
module

public import proofs.«01_k».proof.Proof.Gen.Kernel8Ideal.Value
public import proofs.«01_k».proof.Proof.Att
public import Idealize.ShloMosaic.Lib.Pipeline.ValueKit
public import Idealize.ShloMosaic.Lib.Pointwise
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Kernel8Ideal.Flash
open Cert.Kernel8Ideal Cert.Kernel8Ideal.Gen Cert.Att

/-- The lane of a column. -/
abbrev lane (b : ℕ) : Fin 128 := ⟨b % 128, Nat.mod_lt _ (by decide)⟩

/-- Sixteen copies of a block side by side, read at a column: the block at that column's lane. -/
theorem wide_apply (l : FVec Ideal S2048x128 .f32) (a b : Fin 2048) (h) :
    (concatenate S2048x2048 1 [⟨S2048x128, l⟩, ⟨S2048x128, l⟩, ⟨S2048x128, l⟩, ⟨S2048x128, l⟩, ⟨S2048x128, l⟩, ⟨S2048x128, l⟩, ⟨S2048x128, l⟩, ⟨S2048x128, l⟩, ⟨S2048x128, l⟩, ⟨S2048x128, l⟩, ⟨S2048x128, l⟩, ⟨S2048x128, l⟩, ⟨S2048x128, l⟩, ⟨S2048x128, l⟩, ⟨S2048x128, l⟩, ⟨S2048x128, l⟩] h
      (ix2 a b) : EReal) = l (ix2 a (lane b.val)) := by
  refine concatenate_replicate_apply (s₁ := S2048x128) (t := S2048x2048) 1 16 l h rfl (ix2 a b) (ix2 a (lane b.val)) rfl ?_
  intro b hb
  fin_cases b
  · rfl
  · exact absurd rfl hb

/-- A score tile's entry. -/
theorem score_apply (q k : FVec Ideal S2048x128 .bf16) (a b : Fin 2048) :
    (k0_pay8 (F := Ideal) q k (ix2 a b) : EReal) = ∑ d : Fin 128, q (ix2 a d) * k (ix2 b d) := by
  pointwise [k0_pay8]

/-- A row's greatest entry from minus infinity. -/
theorem row_max (y : FVec Ideal S2048x2048 .f32) (a : Fin 2048) (h : S2048x2048.Reduces [1] S2048) :
    (multiReduction .maximumf [1] S2048 y 0xFF800000#32 h (.inl rfl) rfl (ix1 a) : EReal)
      = Finset.univ.fold max (⊥ : EReal) fun b : Fin 2048 => y (h.lift (ix1 a) b) := by
  refine (Ideal.multiReduction_maximumf_single y 0xFF800000#32 h (.inl rfl) rfl (ix1 a)).trans ?_
  exact congrArg (fun e : EReal => Finset.univ.fold max e fun b : Fin 2048 => y (h.lift (ix1 a) b)) bot_word

/-- The greater of a tile and a row's value on all lanes. -/
theorem max_lane (w : FVec Ideal S2048 .f32) (z : FVec Ideal S2048x128 .f32) (a : Fin 2048) (d : Fin 128) :
    (maximumf z (broadcastTo S2048x128 (shapeCast S2048x1 w shapeCasts_S2048_S2048x1) broadcasts_S2048x1_S2048x128) (ix2 a d) : EReal) = max (z (ix2 a d)) (w (ix1 a)) := by
  pointwise

/-- The new maximum of a row, from the old one and the row's scores. -/
theorem max_apply (q k : FVec Ideal S2048x128 .bf16) (z : FVec Ideal S2048x128 .f32) (a : Fin 2048) (d : Fin 128) :
    (k0_pay9 (F := Ideal) q k z (ix2 a d) : EReal)
      = max (z (ix2 a d)) (Finset.univ.fold max (⊥ : EReal) fun b : Fin 2048 => k0_pay8 (F := Ideal) q k (reduces_S2048x2048_S2048.lift (ix1 a) b)) := by
  unfold k0_pay9
  generalize k0_pay8 (F := Ideal) q k = y
  exact (max_lane _ z a d).trans (congrArg (max _) (row_max y a _))

/-- The factor that carries the old sums to the new maximum. -/
theorem alpha_apply (q k : FVec Ideal S2048x128 .bf16) (z : FVec Ideal S2048x128 .f32) (a : Fin 2048) (d : Fin 128) :
    (k0_pay10 (F := Ideal) q k z (ix2 a d) : EReal) = Ideal.exp (z (ix2 a d) - k0_pay9 (F := Ideal) q k z (ix2 a d)) := by
  unfold k0_pay10
  generalize k0_pay9 (F := Ideal) q k z = y
  pointwise

/-- The exponentials' tile at an entry. -/
theorem prob_apply (q k : FVec Ideal S2048x128 .bf16) (z : FVec Ideal S2048x128 .f32) (a b : Fin 2048) :
    (k0_pay11 (F := Ideal) q k z (ix2 a b) : EReal)
      = Ideal.exp (k0_pay8 (F := Ideal) q k (ix2 a b) - k0_pay9 (F := Ideal) q k z (ix2 a (lane b.val))) := by
  unfold k0_pay11
  generalize k0_pay9 (F := Ideal) q k z = y
  generalize k0_pay8 (F := Ideal) q k = x
  rw [← wide_apply y a b concatenates_S2048x128_S2048x128_S2048x128_S2048x128_S2048x128_S2048x128_S2048x128_S2048x128_S2048x128_S2048x128_S2048x128_S2048x128_S2048x128_S2048x128_S2048x128_S2048x128_S2048x2048_d1]
  generalize concatenate _ _ _ _ = W
  pointwise

/-- The new sum of a row. -/
theorem sum_apply (q k : FVec Ideal S2048x128 .bf16) (z l : FVec Ideal S2048x128 .f32) (a : Fin 2048) (d : Fin 128) :
    (k0_pay12 (F := Ideal) q k z l (ix2 a d) : EReal)
      = k0_pay10 (F := Ideal) q k z (ix2 a d) * l (ix2 a d) + ∑ b : Fin 2048, k0_pay11 (F := Ideal) q k z (ix2 a b) := by
  unfold k0_pay12
  generalize k0_pay10 (F := Ideal) q k z = y
  generalize k0_pay11 (F := Ideal) q k z = x
  pointwise

/-- The new result of a row. -/
theorem acc_apply (q k : FVec Ideal S2048x128 .bf16) (z r : FVec Ideal S2048x128 .f32) (v : FVec Ideal S2048x128 .bf16) (a : Fin 2048) (d : Fin 128) :
    (k0_pay13 (F := Ideal) q k z r v (ix2 a d) : EReal)
      = k0_pay10 (F := Ideal) q k z (ix2 a d) * r (ix2 a d) + ∑ b : Fin 2048, k0_pay11 (F := Ideal) q k z (ix2 a b) * v (ix2 b d) := by
  unfold k0_pay13
  generalize k0_pay10 (F := Ideal) q k z = y
  generalize k0_pay11 (F := Ideal) q k z = x
  pointwise

/-- The stored tiles are the tiles computed. -/
theorem keep_acc (z : FVec Ideal S2048x128 .f32) : k0_pay1 (F := Ideal) z = z := shapeCast_self _ _
theorem keep_max (z : FVec Ideal S2048x128 .f32) : k0_pay2 (F := Ideal) z = z := shapeCast_self _ _

/-- The starting maximum is some real number, the same everywhere. -/
theorem start_max : ∃ r : ℝ, ∀ y, (k0_pay5 (F := Ideal) y : EReal) = (r : EReal) := by
  refine ⟨-1000000015047466219876688855040, fun y => ?_⟩
  have e : (k0_pay5 (F := Ideal) y : EReal) = Ideal.ofBits .f32 0xF149F2CA#32 := by pointwise [k0_pay5]
  rw [e]
  simp [Ideal.ofBits, Ideal.ieee, -EReal.coe_mul]
  norm_num

theorem start_sum (y : S2048x128.Idx) : (k0_pay6 (F := Ideal) y : EReal) = 0 := by pointwise [k0_pay6]
theorem start_acc (y : S2048x128.Idx) : (k0_pay7 (F := Ideal) y : EReal) = 0 := by pointwise [k0_pay7]

/-- Sums weighted by exponentials under one maximum, carried to another, with the next 2048 terms. -/
theorem shift_add (n : ℕ) (s f : ℕ → ℝ) (M M' : ℝ) :
    Real.exp (M - M') * (∑ k ∈ Finset.range n, Real.exp (s k - M) * f k) + ∑ b : Fin 2048, Real.exp (s (n + b.val) - M') * f (n + b.val)
      = ∑ k ∈ Finset.range (n + 2048), Real.exp (s k - M') * f k := by
  rw [Finset.sum_range_add, Finset.mul_sum, Finset.sum_range (n := 2048) (fun x => Real.exp (s (n + x) - M') * f (n + x))]
  refine congrArg₂ (· + ·) (Finset.sum_congr rfl fun k _ => ?_) rfl
  rw [← mul_assoc, ← Real.exp_add]
  congr 2; ring

/-- After `n` keys the three tiles hold, under some maximum for each row, the sums of the exponentials and of their products
    with the values; `S` are the scores of the block's query rows, `U` the values. -/
def Holds (S : Fin 2048 → ℕ → ℝ) (U : ℕ → Fin 128 → ℝ) (n : ℕ) (mm ll aa : FVec Ideal S2048x128 .f32) : Prop :=
  ∃ M : Fin 2048 → ℝ, ∀ (a : Fin 2048) (d : Fin 128), (mm (ix2 a d) : EReal) = (M a : EReal)
    ∧ (ll (ix2 a d) : EReal) = ((∑ k ∈ Finset.range n, Real.exp (S a k - M a) : ℝ) : EReal)
    ∧ (aa (ix2 a d) : EReal) = ((∑ k ∈ Finset.range n, Real.exp (S a k - M a) * U k d : ℝ) : EReal)

/-- Before the first key the tiles hold the empty sums. -/
theorem holds_start (S : Fin 2048 → ℕ → ℝ) (U : ℕ → Fin 128 → ℝ) : Holds S U 0 (k0_pay5 (F := Ideal)) (k0_pay6 (F := Ideal)) (k0_pay7 (F := Ideal)) := by
  obtain ⟨r, hr⟩ := start_max
  refine ⟨fun _ => r, fun a d => ⟨hr _, (start_sum _).trans ?_, (start_acc _).trans ?_⟩⟩ <;> simp

/-- A key block's step carries the sums from `n` keys to `n + 2048`. -/
theorem holds_step (S : Fin 2048 → ℕ → ℝ) (U : ℕ → Fin 128 → ℝ) (n : ℕ) (q k v : FVec Ideal S2048x128 .bf16) (mm ll aa : FVec Ideal S2048x128 .f32)
    (hs : ∀ a b, (∑ d : Fin 128, q (ix2 a d) * k (ix2 b d) : EReal) = (S a (n + b.val) : EReal))
    (hv : ∀ b d, (v (ix2 b d) : EReal) = (U (n + b.val) d : EReal)) (h : Holds S U n mm ll aa) :
    Holds S U (n + 2048) (k0_pay9 (F := Ideal) q k mm) (k0_pay12 (F := Ideal) q k mm ll) (k0_pay13 (F := Ideal) q k mm aa v) := by
  obtain ⟨M, hM⟩ := h
  have e8 : ∀ a b, (k0_pay8 (F := Ideal) q k (ix2 a b) : EReal) = (S a (n + b.val) : EReal) := fun a b => (score_apply q k a b).trans (hs a b)
  have el : ∀ a b, (reduces_S2048x2048_S2048.lift (ix1 a) b : S2048x2048.Idx) = ix2 a b := fun a b => funext fun x => by fin_cases x <;> rfl
  have em : ∀ a, ∃ r : ℝ, ∀ d, (k0_pay9 (F := Ideal) q k mm (ix2 a d) : EReal) = (r : EReal) := by
    intro a
    obtain ⟨r, hr⟩ := fold_max_real (Finset.univ : Finset (Fin 2048)) ⟨0, Finset.mem_univ _⟩
      (fun b => k0_pay8 (F := Ideal) q k (reduces_S2048x2048_S2048.lift (ix1 a) b)) (fun b => ⟨_, (congrArg (k0_pay8 (F := Ideal) q k) (el a b)).trans (e8 a b)⟩)
    refine ⟨max (M a) r, fun d => (max_apply q k mm a d).trans ?_⟩
    rw [hr, (hM a d).1]
    exact (EReal.coe_strictMono.monotone.map_max).symm
  choose M' hM' using em
  have ea : ∀ a d, (k0_pay10 (F := Ideal) q k mm (ix2 a d) : EReal) = ((Real.exp (M a - M' a) : ℝ) : EReal) := fun a d => by
    rw [alpha_apply, hM', (hM a d).1, ← EReal.coe_sub, Ideal.exp_coe]
  have ep : ∀ a b, (k0_pay11 (F := Ideal) q k mm (ix2 a b) : EReal) = ((Real.exp (S a (n + b.val) - M' a) : ℝ) : EReal) := fun a b => by
    rw [prob_apply, hM', e8, ← EReal.coe_sub, Ideal.exp_coe]
  refine ⟨M', fun a d => ⟨hM' a d, ?_, ?_⟩⟩
  · rw [sum_apply, ea, (hM a d).2.1, ← EReal.coe_mul, sum_real _ _ (ep a), ← EReal.coe_add]
    have := shift_add n (S a) (fun _ => 1) (M a) (M' a)
    simp only [mul_one] at this
    rw [this]
  · rw [acc_apply, ea, (hM a d).2.2, ← EReal.coe_mul, sum_mul_real _ _ _ _ (ep a) (fun b => hv b d), ← EReal.coe_add]
    rw [shift_add n (S a) (fun k => U k d) (M a) (M' a)]

/-- The result stored at the last key block: the weighted sum over the row's sum. -/
theorem end_out (S : Fin 2048 → ℕ → ℝ) (U : ℕ → Fin 128 → ℝ) (mm ll aa : FVec Ideal S2048x128 .f32) (h : Holds S U 8192 mm ll aa) (a : Fin 2048) (d : Fin 128) :
    (k0_pay3 (F := Ideal) aa ll (ix2 a d) : EReal)
      = (((∑ k : Fin 8192, Real.exp (S a k.val) * U k.val d) / (∑ k : Fin 8192, Real.exp (S a k.val)) : ℝ) : EReal) := by
  obtain ⟨M, hM⟩ := h
  have e : (k0_pay3 (F := Ideal) aa ll (ix2 a d) : EReal) = Ideal.div (aa (ix2 a d)) (ll (ix2 a d)) := rfl
  have hp : 0 < ∑ k : Fin 8192, Real.exp (S a k.val - M a) := Finset.sum_pos (fun _ _ => Real.exp_pos _) ⟨0, Finset.mem_univ _⟩
  rw [e, (hM a d).2.1, (hM a d).2.2, Finset.sum_range, Finset.sum_range, div_real _ _ hp.ne']
  congr 1
  simp_rw [sub_eq_add_neg, Real.exp_add, mul_right_comm _ (Real.exp (-M a)), ← Finset.sum_mul]
  exact mul_div_mul_right _ _ (Real.exp_pos _).ne'

/-- The log-sum stored at the last key block: the logarithm of the row's sum. -/
theorem end_lse (S : Fin 2048 → ℕ → ℝ) (U : ℕ → Fin 128 → ℝ) (mm ll aa : FVec Ideal S2048x128 .f32) (h : Holds S U 8192 mm ll aa) (a : Fin 2048) (d : Fin 128) :
    (k0_pay4 (F := Ideal) mm ll (ix2 a d) : EReal) = ((Real.log (∑ k : Fin 8192, Real.exp (S a k.val)) : ℝ) : EReal) := by
  obtain ⟨M, hM⟩ := h
  have e : (k0_pay4 (F := Ideal) mm ll (ix2 a d) : EReal) = (mm (ix2 a d) : EReal) + Ideal.log (ll (ix2 a d)) := rfl
  have hp : 0 < ∑ k : Fin 8192, Real.exp (S a k.val - M a) := Finset.sum_pos (fun _ _ => Real.exp_pos _) ⟨0, Finset.mem_univ _⟩
  have hz : 0 < ∑ k : Fin 8192, Real.exp (S a k.val) := Finset.sum_pos (fun _ _ => Real.exp_pos _) ⟨0, Finset.mem_univ _⟩
  rw [e, (hM a d).2.1, (hM a d).1, Finset.sum_range, Ideal.log_coe, if_neg (not_le.mpr hp), ← EReal.coe_add]
  congr 1
  simp_rw [sub_eq_add_neg, Real.exp_add, ← Finset.sum_mul]
  rw [Real.log_mul hz.ne' (Real.exp_pos _).ne', Real.log_exp]; ring

end Cert.Kernel8Ideal.Flash
end
-- ==== Proof.FlashRun.lean ====
/- The attention's forward kernel over its points: after a head's last key block the two results are the attention and the
   row's log-sum. -/
module

public import proofs.«01_k».proof.Proof.Flash
public import proofs.«01_k».proof.Proof.Att

@[expose] public section

set_option maxRecDepth 16384

noncomputable section

open Idealize.ShloMosaic Idealize.ShloMosaic.TcCoe Idealize.SL.Sem
open Idealize.ShloMosaic.Pipeline (Dat)

namespace Cert.Kernel8Ideal.Flash
open Cert.Kernel8Ideal Cert.Kernel8Ideal.Gen Cert.Kernel8Ideal.Value Cert.Att

variable (m : (ℓ : Loc nD τ sig) → Buf (Elt Ideal) ℓ) (c : Dev nD)

/-- The block indices of the three input windows at every point. -/
theorem idx : ∀ t : Fin cfg0.N, win0_0.index t = ![t.val / 4 % 4, t.val / 16] ∧ win0_1.index t = ![t.val % 4, t.val / 64]
    ∧ win0_2.index t = ![t.val % 4, t.val / 64] ∧ t.val < 128 :=
  (by decide +kernel : ∀ t : Fin grid0.N, _)

/-- A row of the 8192 from its block and the row in the block. -/
abbrev rowOf (x : ℕ) (a : Fin 2048) : Fin 8192 := ⟨x % 4 * 2048 + a.val, by have := a.isLt; omega⟩

/-- A column of the 1024 from the head and the lane. -/
abbrev colOf (t : Fin cfg0.N) (b : Fin 128) : Fin 1024 := ⟨t.val / 16 * 128 + b.val, by have := (idx t).2.2.2; have := b.isLt; omega⟩

/-- A column of the 256 from the key head and the lane. -/
abbrev kcolOf (t : Fin cfg0.N) (b : Fin 128) : Fin 256 := ⟨t.val / 64 * 128 + b.val, by have := (idx t).2.2.2; have := b.isLt; omega⟩

/-- Entries of the query block at a point. -/
theorem blk0 (t : Fin cfg0.N) (a : Fin 2048) (b : Fin 128) :
    (show FVec Ideal S2048x128 .bf16 from iblk m c 0 t) (ix2 a b) = (show FVec Ideal S8192x1024 .bf16 from V m c main_arg0) (ix2 (rowOf (t.val / 4) a) (colOf t b)) := by
  unfold iblk
  generalize V m c = W
  blk_ext [idx t]

/-- Entries of the key block at a point. -/
theorem blk1 (t : Fin cfg0.N) (a : Fin 2048) (b : Fin 128) :
    (show FVec Ideal S2048x128 .bf16 from iblk m c 1 t) (ix2 a b) = (show FVec Ideal S8192x256 .bf16 from V m c main_arg1) (ix2 (rowOf t.val a) (kcolOf t b)) := by
  unfold iblk
  generalize V m c = W
  blk_ext [idx t]

/-- Entries of the value block at a point. -/
theorem blk2 (t : Fin cfg0.N) (a : Fin 2048) (b : Fin 128) :
    (show FVec Ideal S2048x128 .bf16 from iblk m c 2 t) (ix2 a b) = (show FVec Ideal S8192x256 .bf16 from V m c main_arg2) (ix2 (rowOf t.val a) (kcolOf t b)) := by
  unfold iblk
  generalize V m c = W
  blk_ext [idx t]

/-- What the three scratch tiles hold after a point that starts a row block: one step from the starting tiles. -/
theorem tiles_start (t : Fin cfg0.N) (h : t.val % 4 = 0) :
    (outsAt0 m c t.val t.isLt).2.2 = (k0_pay9 (F := Ideal) (iblk m c 0 t) (iblk m c 1 t) (k0_pay5 (F := Ideal)),
      k0_pay12 (F := Ideal) (iblk m c 0 t) (iblk m c 1 t) (k0_pay5 (F := Ideal)) (k0_pay6 (F := Ideal)), k0_pay13 (F := Ideal) (iblk m c 0 t) (iblk m c 1 t) (k0_pay5 (F := Ideal)) (k0_pay7 (F := Ideal)) (iblk m c 2 t)) := by
  rw [outsAt0_A m c t h (by omega)]
  refine Prod.ext ?_ (Prod.ext ?_ ?_)
  · frame_out
    exact keep_max _
  · frame_out
  · frame_out
    exact keep_acc _

/-- What the three scratch tiles hold after any other point: one step from what they held. -/
theorem tiles_step (t : Fin cfg0.N) (h : ¬t.val % 4 = 0) (mm ll aa : FVec Ideal S2048x128 .f32)
    (e : (outsAt0 m c (t.val - 1) (Nat.lt_of_le_of_lt (Nat.sub_le _ _) t.isLt)).2.2 = (mm, ll, aa)) :
    (outsAt0 m c t.val t.isLt).2.2 = (k0_pay9 (F := Ideal) (iblk m c 0 t) (iblk m c 1 t) mm,
      k0_pay12 (F := Ideal) (iblk m c 0 t) (iblk m c 1 t) mm ll, k0_pay13 (F := Ideal) (iblk m c 0 t) (iblk m c 1 t) mm aa (iblk m c 2 t)) := by
  by_cases h1 : t.val % 4 = 3
  · rw [outsAt0_C m c t h h1, e]
    refine Prod.ext ?_ (Prod.ext ?_ ?_)
    · frame_out
      exact (keep_max _).trans (congrArg (fun z => k0_pay9 (F := Ideal) (iblk m c 0 t) (iblk m c 1 t) z) (Memref.IsWhole.read_unread _ _))
    · frame_out
      exact congrArg₂ (fun z l => k0_pay12 (F := Ideal) (iblk m c 0 t) (iblk m c 1 t) z l) (Memref.IsWhole.read_unread _ _) (Memref.IsWhole.read_unread _ _)
    · frame_out
      exact (keep_acc _).trans (congrArg₂ (fun z r => k0_pay13 (F := Ideal) (iblk m c 0 t) (iblk m c 1 t) z r (iblk m c 2 t)) (Memref.IsWhole.read_unread _ _) (Memref.IsWhole.read_unread _ _))
  · rw [outsAt0_B m c t h h1, e]
    refine Prod.ext ?_ (Prod.ext ?_ ?_)
    · frame_out
      exact (keep_max _).trans (congrArg (fun z => k0_pay9 (F := Ideal) (iblk m c 0 t) (iblk m c 1 t) z) (Memref.IsWhole.read_unread _ _))
    · frame_out
      exact congrArg₂ (fun z l => k0_pay12 (F := Ideal) (iblk m c 0 t) (iblk m c 1 t) z l) (Memref.IsWhole.read_unread _ _) (Memref.IsWhole.read_unread _ _)
    · frame_out
      exact (keep_acc _).trans (congrArg₂ (fun z r => k0_pay13 (F := Ideal) (iblk m c 0 t) (iblk m c 1 t) z r (iblk m c 2 t)) (Memref.IsWhole.read_unread _ _) (Memref.IsWhole.read_unread _ _))

/-- What a row block's last point writes to the two results. -/
theorem tiles_end (t : Fin cfg0.N) (h : t.val % 4 = 3) (mm ll aa : FVec Ideal S2048x128 .f32)
    (e : (outsAt0 m c (t.val - 1) (Nat.lt_of_le_of_lt (Nat.sub_le _ _) t.isLt)).2.2 = (mm, ll, aa)) :
    (outsAt0 m c t.val t.isLt).1 = k0_pay3 (F := Ideal) (k0_pay13 (F := Ideal) (iblk m c 0 t) (iblk m c 1 t) mm aa (iblk m c 2 t)) (k0_pay12 (F := Ideal) (iblk m c 0 t) (iblk m c 1 t) mm ll)
      ∧ (outsAt0 m c t.val t.isLt).2.1 = k0_pay4 (F := Ideal) (k0_pay9 (F := Ideal) (iblk m c 0 t) (iblk m c 1 t) mm) (k0_pay12 (F := Ideal) (iblk m c 0 t) (iblk m c 1 t) mm ll) := by
  rw [outsAt0_C m c t (by omega) h, e]
  refine ⟨?_, ?_⟩
  · frame_out
    exact congrArg₂ (fun r l => k0_pay3 (F := Ideal) r l)
      ((keep_acc _).trans (congrArg₂ (fun z r => k0_pay13 (F := Ideal) (iblk m c 0 t) (iblk m c 1 t) z r (iblk m c 2 t)) (Memref.IsWhole.read_unread _ _) (Memref.IsWhole.read_unread _ _)))
      (congrArg₂ (fun z l => k0_pay12 (F := Ideal) (iblk m c 0 t) (iblk m c 1 t) z l) (Memref.IsWhole.read_unread _ _) (Memref.IsWhole.read_unread _ _))
  · frame_out
    exact congrArg₂ (fun z l => k0_pay4 (F := Ideal) z l)
      ((keep_max _).trans (congrArg (fun z => k0_pay9 (F := Ideal) (iblk m c 0 t) (iblk m c 1 t) z) (Memref.IsWhole.read_unread _ _)))
      (congrArg₂ (fun z l => k0_pay12 (F := Ideal) (iblk m c 0 t) (iblk m c 1 t) z l) (Memref.IsWhole.read_unread _ _) (Memref.IsWhole.read_unread _ _))

variable (Q K W : ℕ → ℕ → ℝ)
variable (h0 : ∀ i : S8192x1024.Idx, (show EReal from m ((c.tc : Thread nD τ).loc main_arg0) i) = ((Q (i 0).val (i 1).val : ℝ) : EReal))
  (h1 : ∀ i : S8192x256.Idx, (show EReal from m ((c.tc : Thread nD τ).loc main_arg1) i) = ((K (i 0).val (i 1).val : ℝ) : EReal))
  (h2 : ∀ i : S8192x256.Idx, (show EReal from m ((c.tc : Thread nD τ).loc main_arg2) i) = ((W (i 0).val (i 1).val : ℝ) : EReal))

include h0 h1 in
/-- The scores of a point's query block against its key block. -/
theorem scores (t : Fin cfg0.N) (r s : ℕ) (hs : s < 4) (ht : t.val = 4 * r + s) (a b : Fin 2048) :
    (∑ d : Fin 128, (show FVec Ideal S2048x128 .bf16 from iblk m c 0 t) (ix2 a d) * (show FVec Ideal S2048x128 .bf16 from iblk m c 1 t) (ix2 b d) : EReal)
      = ((sc Q K (r / 4) (r % 4 * 2048 + a.val) (s * 2048 + b.val) : ℝ) : EReal) := by
  refine sum_mul_real _ _ _ _ (fun d => ?_) (fun d => ?_)
  · refine (blk0 m c t a d).trans ?_
    rw [V_main_arg0]
    refine (h0 _).trans ?_
    show ((Q (t.val / 4 % 4 * 2048 + a.val) (t.val / 16 * 128 + d.val) : ℝ) : EReal) = _
    rw [show t.val / 16 = r / 4 from by omega, show t.val / 4 % 4 = r % 4 from by omega]
  · refine (blk1 m c t b d).trans ?_
    rw [V_main_arg1]
    refine (h1 _).trans ?_
    show ((K (t.val % 4 * 2048 + b.val) (t.val / 64 * 128 + d.val) : ℝ) : EReal) = _
    rw [show t.val / 64 = r / 4 / 4 from by omega, show t.val % 4 = s from by omega]

include h2 in
/-- The value block at a point. -/
theorem values (t : Fin cfg0.N) (r s : ℕ) (hs : s < 4) (ht : t.val = 4 * r + s) (b : Fin 2048) (d : Fin 128) :
    ((show FVec Ideal S2048x128 .bf16 from iblk m c 2 t) (ix2 b d) : EReal) = ((W (s * 2048 + b.val) (r / 16 * 128 + d.val) : ℝ) : EReal) := by
  refine (blk2 m c t b d).trans ?_
  rw [V_main_arg2]
  refine (h2 _).trans ?_
  show ((W (t.val % 4 * 2048 + b.val) (t.val / 64 * 128 + d.val) : ℝ) : EReal) = _
  rw [show t.val / 64 = r / 16 from by omega, show t.val % 4 = s from by omega]

/-- The scores of a query block's rows, and the values of its head. -/
abbrev scOf (r : ℕ) (a : Fin 2048) (k : ℕ) : ℝ := sc Q K (r / 4) (r % 4 * 2048 + a.val) k
abbrev valOf (r : ℕ) (k : ℕ) (d : Fin 128) : ℝ := W k (r / 16 * 128 + d.val)

include h0 h1 h2 in
/-- One point's step, from what the tiles held. -/
theorem step_at (t : Fin cfg0.N) (r s : ℕ) (hs : s < 4) (ht : t.val = 4 * r + s) (mm ll aa : FVec Ideal S2048x128 .f32)
    (h : Holds (scOf Q K r) (valOf W r) (s * 2048) mm ll aa) :
    Holds (scOf Q K r) (valOf W r) ((s + 1) * 2048) (k0_pay9 (F := Ideal) (iblk m c 0 t) (iblk m c 1 t) mm)
      (k0_pay12 (F := Ideal) (iblk m c 0 t) (iblk m c 1 t) mm ll) (k0_pay13 (F := Ideal) (iblk m c 0 t) (iblk m c 1 t) mm aa (iblk m c 2 t)) := by
  rw [Nat.succ_mul]
  exact holds_step _ _ _ _ _ _ _ _ _ (scores m c Q K h0 h1 t r s hs ht) (values m c W h2 t r s hs ht) h

include h0 h1 h2 in
/-- What the tiles hold after each of a row block's points. -/
theorem holds_at (r : ℕ) : ∀ (s : ℕ) (hs : s < 4) (h : 4 * r + s < cfg0.N), ∃ mm ll aa : FVec Ideal S2048x128 .f32,
    (outsAt0 m c (4 * r + s) h).2.2 = (mm, ll, aa) ∧ Holds (scOf Q K r) (valOf W r) ((s + 1) * 2048) mm ll aa
  | 0, hs, h => ⟨_, _, _, tiles_start m c ⟨4 * r + 0, h⟩ (by show (4 * r + 0) % 4 = 0; omega),
      step_at m c Q K W h0 h1 h2 ⟨4 * r + 0, h⟩ r 0 hs rfl _ _ _ (by rw [Nat.zero_mul]; exact holds_start _ _)⟩
  | s + 1, hs, h => by
      obtain ⟨mm, ll, aa, e, hh⟩ := holds_at r s (by omega) (by omega)
      exact ⟨_, _, _, tiles_step m c ⟨4 * r + (s + 1), h⟩ (by show ¬(4 * r + (s + 1)) % 4 = 0; omega) mm ll aa e,
        step_at m c Q K W h0 h1 h2 ⟨4 * r + (s + 1), h⟩ r (s + 1) hs rfl _ _ _ hh⟩

include h0 h1 h2 in
/-- What a row block's last point writes. -/
theorem ends_at (r : ℕ) (h : 4 * r + 3 < cfg0.N) (a : Fin 2048) (d : Fin 128) :
    ((outsAt0 m c (4 * r + 3) h).1 (ix2 a d) : EReal)
        = (((∑ k : Fin 8192, Real.exp (scOf Q K r a k.val) * valOf W r k.val d) / (∑ k : Fin 8192, Real.exp (scOf Q K r a k.val)) : ℝ) : EReal)
      ∧ ((outsAt0 m c (4 * r + 3) h).2.1 (ix2 a d) : EReal) = ((Real.log (∑ k : Fin 8192, Real.exp (scOf Q K r a k.val)) : ℝ) : EReal) := by
  obtain ⟨mm, ll, aa, e, hh⟩ := holds_at m c Q K W h0 h1 h2 r 2 (by omega) (by omega)
  obtain ⟨e3, e4⟩ := tiles_end m c ⟨4 * r + 3, h⟩ (by show (4 * r + 3) % 4 = 3; omega) mm ll aa e
  have hl := step_at m c Q K W h0 h1 h2 ⟨4 * r + 3, h⟩ r 3 (by omega) rfl mm ll aa hh
  exact ⟨(congrFun e3 _).trans (end_out _ _ _ _ _ hl a d), (congrFun e4 _).trans (end_lse _ _ _ _ _ hl a d)⟩

include h0 h1 h2 in
/-- The attention. -/
theorem G3_real (i : S8192x1024.Idx) : (show EReal from G3 m c i)
    = ((∑ k : Fin 8192, W k.val ((i 1).val / 128 / 4 * 128 + (i 1).val % 128) * pr Q K ((i 1).val / 128) (i 0).val k.val : ℝ) : EReal) := by
  have c0 : (i 0).val < 8192 := (i 0).isLt
  have c1 : (i 1).val < 1024 := (i 1).isLt
  have hr : run3Of i = (i 0).val / 2048 + 4 * ((i 1).val / 128) := by show 1 * ((i 0).val / 2048 - 0) + 4 * ((i 1).val / 128 - 0) = _; omega
  have hp : pt3Of i < cfg0.N := by show 4 * run3Of i + 3 < 128; omega
  unfold G3
  rw [dif_pos hp, ← outsAt0_sweep m c _ hp]
  have hl : loc3Of i = ix2 ⟨(i 0).val % 2048, Nat.mod_lt _ (by decide)⟩ ⟨(i 1).val % 128, Nat.mod_lt _ (by decide)⟩ := funext fun x => by fin_cases x <;> rfl
  rw [hl]
  refine (ends_at m c Q K W h0 h1 h2 (run3Of i) hp _ _).1.trans (congrArg _ ?_)
  have ea : run3Of i % 4 * 2048 + (i 0).val % 2048 = (i 0).val := by omega
  have eb : run3Of i / 4 = (i 1).val / 128 := by omega
  have ec : run3Of i / 16 = (i 1).val / 128 / 4 := by omega
  show (∑ k : Fin 8192, Real.exp (sc Q K (run3Of i / 4) (run3Of i % 4 * 2048 + (i 0).val % 2048) k.val) * W k.val (run3Of i / 16 * 128 + (i 1).val % 128))
    / (∑ k : Fin 8192, Real.exp (sc Q K (run3Of i / 4) (run3Of i % 4 * 2048 + (i 0).val % 2048) k.val)) = _
  rw [ea, eb, ec, Finset.sum_div]
  refine Finset.sum_congr rfl fun k _ => ?_
  unfold pr zs
  rw [mul_comm, mul_div_assoc]

include h0 h1 h2 in
/-- The log-sums. -/
theorem G4_real (i : S8192x1024.Idx) : (show EReal from G4 m c i) = ((Real.log (zs Q K ((i 1).val / 128) (i 0).val) : ℝ) : EReal) := by
  have c0 : (i 0).val < 8192 := (i 0).isLt
  have c1 : (i 1).val < 1024 := (i 1).isLt
  have hr : run4Of i = (i 0).val / 2048 + 4 * ((i 1).val / 128) := by show 1 * ((i 0).val / 2048 - 0) + 4 * ((i 1).val / 128 - 0) = _; omega
  have hp : pt4Of i < cfg0.N := by show 4 * run4Of i + 3 < 128; omega
  unfold G4
  rw [dif_pos hp, ← outsAt0_sweep m c _ hp]
  have hl : loc4Of i = ix2 ⟨(i 0).val % 2048, Nat.mod_lt _ (by decide)⟩ ⟨(i 1).val % 128, Nat.mod_lt _ (by decide)⟩ := funext fun x => by fin_cases x <;> rfl
  rw [hl]
  refine (ends_at m c Q K W h0 h1 h2 (run4Of i) hp _ _).2.trans (congrArg _ ?_)
  have ea : run4Of i % 4 * 2048 + (i 0).val % 2048 = (i 0).val := by omega
  have eb : run4Of i / 4 = (i 1).val / 128 := by omega
  show Real.log (∑ k : Fin 8192, Real.exp (sc Q K (run4Of i / 4) (run4Of i % 4 * 2048 + (i 0).val % 2048) k.val)) = _
  rw [ea, eb]
  rfl

end Cert.Kernel8Ideal.Flash
end
-- ==== Proof.Fin8.lean ====
/- The attention's forward kernel: its precondition, its reference and its claim. -/
module

public import proofs.«01_k».proof.Defs
public import proofs.«01_k».proof.Pre_finite8
public import proofs.«01_k».proof.Proof.Gen.Pre_finite8
public import proofs.«01_k».proof.Proof.Gen.Reference8Ideal.Read
public import proofs.«01_k».proof.Proof.Fin
public import proofs.«01_k».proof.Proof.Ref
public import proofs.«01_k».proof.Proof.Host
public import proofs.«01_k».proof.Proof.FlashRun
public import Idealize.ShloMosaic.Lib.Quiescent

@[expose] public section

set_option maxRecDepth 16384

noncomputable section

open Idealize.ShloMosaic Idealize.ShloMosaic.TcCoe Idealize.SL.Sem

namespace Cert.Pre_finite8.Real
open Cert.Pre_finite8 Cert.Att

/-- The precondition: every element of the three arguments is a real number. -/
theorem reals (x0 : FVec Ideal S8192x1024 .bf16) (x1 x2 : FVec Ideal S8192x256 .bf16)
    (h : (letI := Cert.Pre_finite8.Gen.facts; fn (F := Ideal) x0 x1 x2) = fun _ => 1#1) :
    (∀ i, ∃ r : ℝ, (show EReal from x0 i) = (r : EReal)) ∧ (∀ i, ∃ r : ℝ, (show EReal from x1 i) = (r : EReal))
      ∧ ∀ i, ∃ r : ℝ, (show EReal from x2 i) = (r : EReal) := by
  have h0 := congrFun h (fun k => k.elim0)
  dsimp only [fn] at h0
  obtain ⟨ha, hbc⟩ := IntOp.andi_eq_one.1 h0
  obtain ⟨hb, hc⟩ := IntOp.andi_eq_one.1 hbc
  exact ⟨fun i => Cert.Pre_finite.Real.real_of_all _ _ _ _ _ _ _ ha i, fun i => Cert.Pre_finite.Real.real_of_all _ _ _ _ _ _ _ hb i,
    fun i => Cert.Pre_finite.Real.real_of_all _ _ _ _ _ _ _ hc i⟩

end Cert.Pre_finite8.Real

namespace Cert.Proof

/-- The reference's attention is the one inside the gradient's reference. -/
theorem attention_same (x0 : FVec Ideal Cert.Reference8Ideal.S8192x1024 .bf16) (x1 x2 : FVec Ideal Cert.Reference8Ideal.S8192x256 .bf16) :
    Cert.Reference8Ideal.Read.val_main_v36 (F := Ideal) x0 x1 x2 = Cert.ReferenceIdeal.Read.val_main_v38 (F := Ideal) x0 x1 x2 := rfl

/-- The reference's log-sums are those the gradient's kernel is given. -/
theorem logsum_same (x0 : FVec Ideal Cert.Reference8Ideal.S8192x1024 .bf16) (x1 : FVec Ideal Cert.Reference8Ideal.S8192x256 .bf16) :
    Cert.Reference8Ideal.Read.val_main_v38 (F := Ideal) x0 x1 = Cert.KernelIdeal.Host.hlse x0 x1 := rfl

attribute [local instance] Cert.Kernel8Ideal.Gen.facts Cert.Reference8Ideal.Gen.facts Cert.Pre_finite8.Gen.facts

/-- The reference runs, keeps its arguments and leaves every semaphore at zero. -/
theorem reference8_frame : Cert.quiescent_Reference8Ideal := by
  intro m g _
  exact (θ_run _ _ _).mono (fun r h => ⟨fun c => (h c).2.2, sem_eq_zero_of_no_sems rfl r.2⟩) (Cert.Reference8Ideal.Value.run m g)

/-- On finite arguments the kernel's two results are the reference's attention and log-sums. -/
theorem forward_results (m : (ℓ : Loc Cert.Kernel8Ideal.nD Cert.Kernel8Ideal.τ Cert.Kernel8Ideal.sig) → Buf (Elt Ideal) ℓ) (c : Dev Cert.Kernel8Ideal.nD)
    (h : Cert.Pre_Kernel8Ideal_finite8 m) :
    Cert.Reference8Ideal.Read.val_main_v36 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))
        = Cert.Kernel8Ideal.Value.G3 m c
      ∧ Cert.Reference8Ideal.Read.val_main_v38 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))
        = Cert.Kernel8Ideal.Value.G4 m c := by
  obtain ⟨f0, f1, f2⟩ := Cert.Pre_finite8.Real.reals _ _ _ (h c)
  obtain ⟨Q, h0⟩ := Cert.Pre_finite.Real.exists_fun _ _ _ f0
  obtain ⟨K, h1⟩ := Cert.Pre_finite.Real.exists_fun _ _ _ f1
  obtain ⟨W, h2⟩ := Cert.Pre_finite.Real.exists_fun _ _ _ f2
  choose M hM using Cert.ReferenceIdeal.Real.r8 Q K _ _ h0 h1
  rw [attention_same, logsum_same]
  exact ⟨funext fun i => (Cert.ReferenceIdeal.Real.r38 Q K W _ _ _ h0 h1 h2 M hM i).trans (Cert.Kernel8Ideal.Flash.G3_real m c Q K W h0 h1 h2 i).symm,
    funext fun i => (Cert.KernelIdeal.Host.hlse_real _ _ Q K h0 h1 i).trans (Cert.Kernel8Ideal.Flash.G4_real m c Q K W h0 h1 h2 i).symm⟩

/-- The attention's forward kernel and the reference end with equal results on finite arguments. -/
theorem attention_forward : Cert.algebraic_Kernel8Ideal_Reference8Ideal_pre_finite8 := by
  intro m g m' g' hpre hagree
  refine ⟨fun c => Cert.Kernel8Ideal.Value.G3 m c, fun c => Cert.Kernel8Ideal.Value.G4 m c, Cert.Kernel8Ideal.Value.run m g, ?_⟩
  refine (θ_run _ _ _).mono (fun r h c => ?_) (Cert.Reference8Ideal.Value.run m' g')
  obtain ⟨r0, r1, ha⟩ := h c
  obtain ⟨a0, a1, a2⟩ := hagree c
  obtain ⟨e0, e1⟩ := forward_results m c hpre
  refine ⟨(r0.trans (Cert.Reference8Ideal.Read.val_main_v36_eq _ _ _)).trans ?_, (r1.trans (Cert.Reference8Ideal.Read.val_main_v38_eq _ _)).trans ?_, ha⟩
  · rw [a0, a1, a2]
    exact e0
  · rw [a0, a1]
    exact e1

end Cert.Proof
end
-- ==== Proof.Kern.lean ====
/- The gradient kernel's three results on arguments that are real numbers. -/
module

public import proofs.«01_k».proof.Proof.Host

@[expose] public section

set_option maxRecDepth 16384

noncomputable section

open Idealize.ShloMosaic Idealize.ShloMosaic.TcCoe Idealize.SL.Sem

namespace Cert.KernelIdeal.Kern
open Cert.KernelIdeal Cert.KernelIdeal.Gen Cert.KernelIdeal.Value Cert.KernelIdeal.Body Cert.Att

/-- A key head's 64 points, four groups of four query blocks of four key blocks, of which only those of the row's own key
    block add: the sum over groups and query rows. -/
theorem sum64 (F : ℕ → ℕ → ℝ) (y : ℕ) (hy : y < 8192) :
    ∑ s : Fin 64, (if y / 2048 = s.val % 4 then ∑ k : Fin 2048, F (s.val / 16) (s.val / 4 % 4 * 2048 + k.val) else 0)
      = ∑ g : Fin 4, ∑ q : Fin 8192, F g.val q.val := by
  have hj : y / 2048 < 4 := by omega
  refine (Fin.sum_divmod_congr (A := 16) (S := 4)
    (f := fun a j => if (⟨y / 2048, hj⟩ : Fin 4) = j then ∑ k : Fin 2048, F (a.val / 4) (a.val % 4 * 2048 + k.val) else 0) fun t ha hs => ?_).trans ?_
  · have e : t.val / 4 / 4 = t.val / 16 := by omega
    simp only [Fin.mk.injEq, e]
  · simp only [Finset.sum_ite_eq, Finset.mem_univ, if_true]
    refine (Fin.sum_divmod_congr (A := 4) (S := 4)
      (f := fun g i => ∑ k : Fin 2048, F g.val (i.val * 2048 + k.val)) fun t ha hs => rfl).trans ?_
    exact Finset.sum_congr rfl fun g _ => Fin.sum_mul_add_congr fun s k hl => rfl

section Tiles

/-- A probability tile's entry from blocks of real numbers. -/
theorem pay8_real (q k : FVec Ideal S2048x128 .bf16) (l : FVec Ideal S2048x128 .f32) (a b : Fin 2048) (u w : Fin 128 → ℝ) (z : ℝ)
    (hq : ∀ d, (show EReal from q (ix2 a d)) = (u d : EReal)) (hk : ∀ d, (show EReal from k (ix2 b d)) = (w d : EReal))
    (hl : ∀ d, (show EReal from l (ix2 a d)) = (z : EReal)) :
    (k0_pay8 (F := Ideal) q k l (ix2 a b) : EReal) = ((Real.exp ((∑ d, u d * w d) - z) : ℝ) : EReal) := by
  refine (pay8_apply q k l a b).trans ?_
  refine (congrArg₂ (fun x y : EReal => Ideal.exp (x - y)) (sum_mul_real _ _ u w hq hk) (hl _)).trans ?_
  show Ideal.exp ((_ : EReal) - _) = _
  rw [← EReal.coe_sub, Ideal.exp_coe]

/-- A score gradient tile's entry from blocks of real numbers. -/
theorem pay9_real (q k : FVec Ideal S2048x128 .bf16) (o l : FVec Ideal S2048x128 .f32) (v : FVec Ideal S2048x128 .bf16) (e : FVec Ideal S2048x128 .f32)
    (a b : Fin 2048) (p : ℝ) (u w : Fin 128 → ℝ) (z : ℝ) (hp : (k0_pay8 (F := Ideal) q k l (ix2 a b) : EReal) = (p : EReal))
    (ho : ∀ d, (show EReal from o (ix2 a d)) = (u d : EReal)) (hv : ∀ d, (show EReal from v (ix2 b d)) = (w d : EReal))
    (he : ∀ d, (show EReal from e (ix2 a d)) = (z : EReal)) :
    (k0_pay9 (F := Ideal) q k o l v e (ix2 a b) : EReal) = ((p * ((∑ d, u d * w d) - z) : ℝ) : EReal) := by
  refine (pay9_apply q k o l v e a b).trans ?_
  refine (congrArg₂ (fun x y : EReal => x * y) hp (congrArg₂ (fun x y : EReal => x - y) (sum_mul_real _ _ u w ho hv) (he _))).trans ?_
  show (_ : EReal) * (_ - _) = _
  rw [← EReal.coe_sub, ← EReal.coe_mul]

end Tiles

variable (m : (ℓ : Loc nD τ sig) → Buf (Elt Ideal) ℓ) (c : Dev nD) (Q K W D : ℕ → ℕ → ℝ)
variable (h0 : ∀ i : S8192x1024.Idx, (show EReal from m ((c.tc : Thread nD τ).loc main_arg0) i) = ((Q (i 0).val (i 1).val : ℝ) : EReal))
  (h1 : ∀ i : S8192x256.Idx, (show EReal from m ((c.tc : Thread nD τ).loc main_arg1) i) = ((K (i 0).val (i 1).val : ℝ) : EReal))
  (h2 : ∀ i : S8192x256.Idx, (show EReal from m ((c.tc : Thread nD τ).loc main_arg2) i) = ((W (i 0).val (i 1).val : ℝ) : EReal))
  (h3 : ∀ i : S8192x1024.Idx, (show EReal from m ((c.tc : Thread nD τ).loc main_arg3) i) = ((D (i 0).val (i 1).val : ℝ) : EReal))

include h0 in
/-- The query block at a point. -/
theorem b0 (t : Fin cfg0.N) (a : Fin 2048) (d : Fin 128) :
    (show EReal from iblk m c 0 t (ix2 a d)) = ((Q (t.val / 4 % 4 * 2048 + a.val) (t.val / 16 * 128 + d.val) : ℝ) : EReal) := by
  refine (blk0 m c t a d).trans ?_
  rw [V_main_arg0]
  exact h0 _

include h1 in
/-- The key block at a point. -/
theorem b1 (t : Fin cfg0.N) (a : Fin 2048) (d : Fin 128) :
    (show EReal from iblk m c 1 t (ix2 a d)) = ((K (t.val % 4 * 2048 + a.val) (t.val / 16 / 4 * 128 + d.val) : ℝ) : EReal) := by
  refine (blk1 m c t a d).trans ?_
  rw [V_main_arg1, show t.val / 16 / 4 = t.val / 64 from by omega]
  exact h1 _

include h2 in
/-- The value block at a point. -/
theorem b2 (t : Fin cfg0.N) (a : Fin 2048) (d : Fin 128) :
    (show EReal from iblk m c 2 t (ix2 a d)) = ((W (t.val % 4 * 2048 + a.val) (t.val / 16 / 4 * 128 + d.val) : ℝ) : EReal) := by
  refine (blk2 m c t a d).trans ?_
  rw [V_main_arg2, show t.val / 16 / 4 = t.val / 64 from by omega]
  exact h2 _

include h3 in
/-- The cotangent block at a point. -/
theorem b3 (t : Fin cfg0.N) (a : Fin 2048) (d : Fin 128) :
    (show EReal from iblk m c 3 t (ix2 a d)) = ((D (t.val / 4 % 4 * 2048 + a.val) (t.val / 16 * 128 + d.val) : ℝ) : EReal) := by
  refine (blk3 m c t a d).trans ?_
  rw [V_main_arg3]
  exact h3 _

include h0 h1 in
/-- The log-sum block at a point. -/
theorem b4 (t : Fin cfg0.N) (a : Fin 2048) (d : Fin 128) :
    (show EReal from iblk m c 4 t (ix2 a d)) = ((Real.log (zs Q K (t.val / 16) (t.val / 4 % 4 * 2048 + a.val)) : ℝ) : EReal) := by
  refine (blk4 m c t a d).trans ?_
  rw [Host.V41]
  refine (Host.hlse_real _ _ Q K h0 h1 _).trans ?_
  have := d.isLt
  show ((Real.log (zs Q K ((t.val / 16 * 128 + d.val) / 128) (t.val / 4 % 4 * 2048 + a.val)) : ℝ) : EReal) = _
  rw [show (t.val / 16 * 128 + d.val) / 128 = t.val / 16 from by omega]

include h0 h1 h2 h3 in
/-- The row-sum block at a point. -/
theorem b5 (t : Fin cfg0.N) (a : Fin 2048) (d : Fin 128) :
    (show EReal from iblk m c 5 t (ix2 a d)) = ((dl Q K W D (t.val / 16) (t.val / 4 % 4 * 2048 + a.val) : ℝ) : EReal) := by
  refine (blk5 m c t a d).trans ?_
  rw [Host.V44]
  refine (Host.hdel_real _ _ _ _ Q K W D h0 h1 h2 h3 _).trans ?_
  have := d.isLt
  show ((dl Q K W D ((t.val / 16 * 128 + d.val) / 128) (t.val / 4 % 4 * 2048 + a.val) : ℝ) : EReal) = _
  rw [show (t.val / 16 * 128 + d.val) / 128 = t.val / 16 from by omega]

include h0 h1 in
/-- The probability tile at a point. -/
theorem pT_real (t : Fin cfg0.N) (a b : Fin 2048) :
    (show EReal from pT m c t (ix2 a b)) = ((pr Q K (t.val / 16) (t.val / 4 % 4 * 2048 + a.val) (t.val % 4 * 2048 + b.val) : ℝ) : EReal) :=
  (pay8_real _ _ _ a b _ _ _ (b0 m c Q h0 t a) (b1 m c K h1 t b) (b4 m c Q K h0 h1 t a)).trans
    (congrArg _ (pr_log Q K _ _ _))

include h0 h1 h2 h3 in
/-- The score gradient's tile at a point. -/
theorem dsT_real (t : Fin cfg0.N) (a b : Fin 2048) :
    (show EReal from dsT m c t (ix2 a b)) = ((ds Q K W D (t.val / 16) (t.val / 4 % 4 * 2048 + a.val) (t.val % 4 * 2048 + b.val) : ℝ) : EReal) :=
  pay9_real _ _ _ _ _ _ a b _ _ _ _ (pT_real m c Q K h0 h1 t a b) (b3 m c D h3 t a) (b2 m c W h2 t b) (b5 m c Q K W D h0 h1 h2 h3 t a)

include h0 h1 h2 h3 in
/-- The query gradient. -/
theorem G6_real (i : S8192x1024.Idx) : (show EReal from G6 m c i) = ((gq Q K W D (i 0).val (i 1).val : ℝ) : EReal) := by
  have c0 : (i 0).val < 8192 := (i 0).isLt
  have c1 : (i 1).val < 1024 := (i 1).isLt
  have hr : run6Of i = (i 0).val / 2048 + 4 * ((i 1).val / 128) := by show 1 * ((i 0).val / 2048 - 0) + 4 * ((i 1).val / 128 - 0) = _; omega
  have hN : cfg0.N = 128 := rfl
  refine (G6_apply m c i fun s => by have := s.isLt; omega).trans ?_
  refine (sum_real _ (fun s => ∑ k : Fin 2048, ds Q K W D ((i 1).val / 128) (i 0).val (s.val * 2048 + k.val)
    * K (s.val * 2048 + k.val) ((i 1).val / 128 / 4 * 128 + (i 1).val % 128)) fun s => ?_).trans ?_
  · have := s.isLt
    refine sum_mul_real _ _ _ _ (fun k => (dsT_real m c Q K W D h0 h1 h2 h3 _ _ _).trans ?_) (fun k => (b1 m c K h1 _ _ _).trans ?_)
    · show ((ds Q K W D ((4 * run6Of i + s.val) / 16) ((4 * run6Of i + s.val) / 4 % 4 * 2048 + (i 0).val % 2048) ((4 * run6Of i + s.val) % 4 * 2048 + k.val) : ℝ) : EReal) = _
      rw [show (4 * run6Of i + s.val) / 16 = (i 1).val / 128 from by omega,
        show (4 * run6Of i + s.val) / 4 % 4 * 2048 + (i 0).val % 2048 = (i 0).val from by omega,
        show (4 * run6Of i + s.val) % 4 = s.val from by omega]
    · show ((K ((4 * run6Of i + s.val) % 4 * 2048 + k.val) ((4 * run6Of i + s.val) / 16 / 4 * 128 + (i 1).val % 128) : ℝ) : EReal) = _
      rw [show (4 * run6Of i + s.val) / 16 = (i 1).val / 128 from by omega, show (4 * run6Of i + s.val) % 4 = s.val from by omega]
  · refine congrArg _ ?_
    exact Fin.sum_mul_add_congr fun s k hl => rfl

include h0 h1 h2 h3 in
/-- What a point adds to the key gradient. -/
theorem addK_real (t : Fin cfg0.N) (y : S8192x128.Idx) :
    addK m c t y = ((if (y 0).val / 2048 = t.val % 4 then ∑ k : Fin 2048, ds Q K W D (t.val / 16) (t.val / 4 % 4 * 2048 + k.val) (y 0).val
      * Q (t.val / 4 % 4 * 2048 + k.val) (t.val / 16 * 128 + (y 1).val) else 0 : ℝ) : EReal) := by
  unfold addK
  split
  · rename_i hy
    refine sum_mul_real _ _ _ _ (fun k => (dsT_real m c Q K W D h0 h1 h2 h3 _ _ _).trans ?_) (fun k => b0 m c Q h0 _ _ _)
    show ((ds Q K W D (t.val / 16) (t.val / 4 % 4 * 2048 + k.val) (t.val % 4 * 2048 + (y 0).val % 2048) : ℝ) : EReal) = _
    rw [show t.val % 4 * 2048 + (y 0).val % 2048 = (y 0).val from by omega]
  · rfl

include h0 h1 h3 in
/-- What a point adds to the value gradient. -/
theorem addV_real (t : Fin cfg0.N) (y : S8192x128.Idx) :
    addV m c t y = ((if (y 0).val / 2048 = t.val % 4 then ∑ k : Fin 2048, pr Q K (t.val / 16) (t.val / 4 % 4 * 2048 + k.val) (y 0).val
      * D (t.val / 4 % 4 * 2048 + k.val) (t.val / 16 * 128 + (y 1).val) else 0 : ℝ) : EReal) := by
  unfold addV
  split
  · rename_i hy
    refine sum_mul_real _ _ _ _ (fun k => (pT_real m c Q K h0 h1 _ _ _).trans ?_) (fun k => b3 m c D h3 _ _ _)
    show ((pr Q K (t.val / 16) (t.val / 4 % 4 * 2048 + k.val) (t.val % 4 * 2048 + (y 0).val % 2048) : ℝ) : EReal) = _
    rw [show t.val % 4 * 2048 + (y 0).val % 2048 = (y 0).val from by omega]
  · rfl

include h0 h1 h2 h3 in
/-- The key gradient. -/
theorem G7_real (i : S8192x256.Idx) : (show EReal from G7 m c i) = ((gk Q K W D (i 0).val (i 1).val : ℝ) : EReal) := by
  have c0 : (i 0).val < 8192 := (i 0).isLt
  have c1 : (i 1).val < 256 := (i 1).isLt
  have hr : run7Of i = (i 1).val / 128 := by show 2 * ((i 0).val / 8192 - 0) + 1 * ((i 1).val / 128 - 0) = _; omega
  have hN : cfg0.N = 128 := rfl
  refine (G7_apply m c i fun s => by have := s.isLt; omega).trans ?_
  refine (sum_real _ (fun s => if (i 0).val / 2048 = s.val % 4 then ∑ k : Fin 2048, ds Q K W D ((i 1).val / 128 * 4 + s.val / 16) (s.val / 4 % 4 * 2048 + k.val) (i 0).val
      * Q (s.val / 4 % 4 * 2048 + k.val) (((i 1).val / 128 * 4 + s.val / 16) * 128 + (i 1).val % 128) else 0) fun s => ?_).trans ?_
  · have := s.isLt
    refine (addK_real m c Q K W D h0 h1 h2 h3 _ _).trans ?_
    show (((if (i 0).val % 8192 / 2048 = (64 * run7Of i + s.val) % 4 then ∑ k : Fin 2048, ds Q K W D ((64 * run7Of i + s.val) / 16) ((64 * run7Of i + s.val) / 4 % 4 * 2048 + k.val) ((i 0).val % 8192)
      * Q ((64 * run7Of i + s.val) / 4 % 4 * 2048 + k.val) ((64 * run7Of i + s.val) / 16 * 128 + (i 1).val % 128) else 0) : ℝ) : EReal) = _
    rw [show (i 0).val % 8192 = (i 0).val from by omega, show (64 * run7Of i + s.val) % 4 = s.val % 4 from by omega,
      show (64 * run7Of i + s.val) / 16 = (i 1).val / 128 * 4 + s.val / 16 from by omega, show (64 * run7Of i + s.val) / 4 % 4 = s.val / 4 % 4 from by omega]
  · exact congrArg _ (sum64 (fun g q => ds Q K W D ((i 1).val / 128 * 4 + g) q (i 0).val * Q q (((i 1).val / 128 * 4 + g) * 128 + (i 1).val % 128)) _ c0)

include h0 h1 h3 in
/-- The value gradient. -/
theorem G8_real (i : S8192x256.Idx) : (show EReal from G8 m c i) = ((gv Q K D (i 0).val (i 1).val : ℝ) : EReal) := by
  have c0 : (i 0).val < 8192 := (i 0).isLt
  have c1 : (i 1).val < 256 := (i 1).isLt
  have hr : run8Of i = (i 1).val / 128 := by show 2 * ((i 0).val / 8192 - 0) + 1 * ((i 1).val / 128 - 0) = _; omega
  have hN : cfg0.N = 128 := rfl
  refine (G8_apply m c i fun s => by have := s.isLt; omega).trans ?_
  refine (sum_real _ (fun s => if (i 0).val / 2048 = s.val % 4 then ∑ k : Fin 2048, pr Q K ((i 1).val / 128 * 4 + s.val / 16) (s.val / 4 % 4 * 2048 + k.val) (i 0).val
      * D (s.val / 4 % 4 * 2048 + k.val) (((i 1).val / 128 * 4 + s.val / 16) * 128 + (i 1).val % 128) else 0) fun s => ?_).trans ?_
  · have := s.isLt
    refine (addV_real m c Q K D h0 h1 h3 _ _).trans ?_
    show (((if (i 0).val % 8192 / 2048 = (64 * run8Of i + s.val) % 4 then ∑ k : Fin 2048, pr Q K ((64 * run8Of i + s.val) / 16) ((64 * run8Of i + s.val) / 4 % 4 * 2048 + k.val) ((i 0).val % 8192)
      * D ((64 * run8Of i + s.val) / 4 % 4 * 2048 + k.val) ((64 * run8Of i + s.val) / 16 * 128 + (i 1).val % 128) else 0) : ℝ) : EReal) = _
    rw [show (i 0).val % 8192 = (i 0).val from by omega, show (64 * run8Of i + s.val) % 4 = s.val % 4 from by omega,
      show (64 * run8Of i + s.val) / 16 = (i 1).val / 128 * 4 + s.val / 16 from by omega, show (64 * run8Of i + s.val) / 4 % 4 = s.val / 4 % 4 from by omega]
  · exact congrArg _ (sum64 (fun g q => pr Q K ((i 1).val / 128 * 4 + g) q (i 0).val * D q (((i 1).val / 128 * 4 + g) * 128 + (i 1).val % 128)) _ c0)

end Cert.KernelIdeal.Kern
end
-- ==== Proof.Tiles.lean ====
/- The product of two arrays, contracted over the rows or columns of either, and such a product summed block by block into a
   resident tile. -/
module

public import Idealize.ShloMosaic.Lib.Pipeline.ValueKit
public import Idealize.ShloMosaic.Lib.Pointwise

@[expose] public section

noncomputable section

open Idealize.ShloMosaic

namespace Cert.Tiles

/-- The arrays of two axes and their entries. -/
abbrev Arr (a b : ℕ) := (⟨2, ![a, b]⟩ : Shape).Idx → EReal

variable {M N K : ℕ}

/-- An entry of `a b`. -/
def mulAt (a : Arr M K) (b : Arr K N) (i : (⟨2, ![M, N]⟩ : Shape).Idx) : EReal := ∑ k, a (ix2 (i 0) k) * b (ix2 k (i 1))
/-- An entry of `a bᵀ`. -/
def mulTAt (a : Arr M K) (b : Arr N K) (i : (⟨2, ![M, N]⟩ : Shape).Idx) : EReal := ∑ k, a (ix2 (i 0) k) * b (ix2 (i 1) k)
/-- An entry of `aᵀ b`. -/
def tMulAt (a : Arr K M) (b : Arr K N) (i : (⟨2, ![M, N]⟩ : Shape).Idx) : EReal := ∑ k, a (ix2 k (i 0)) * b (ix2 k (i 1))

/-- A tile that is its first point's sum in a run of `J` points, grows by a point's sum at every further point, and takes
    `K = J * n` terms in all, is at the run's last point the sum of all its terms. -/
theorem sum_blocks {P J n K : ℕ} [NeZero J] {ι : Type} (f : (p : ℕ) → p < P → ι → EReal) (term : Fin P → ι → Fin n → EReal)
    (h0 : ∀ t : Fin P, t.val % J = 0 → ∀ y, f t.val t.isLt y = 0 + ∑ k, term t y k)
    (hs : ∀ t : Fin P, ¬t.val % J = 0 → ∀ y, f t.val t.isLt y = f (t.val - 1) (Nat.lt_of_le_of_lt (Nat.sub_le _ _) t.isLt) y + ∑ k, term t y k)
    (t : Fin P) (ht : t.val % J = J - 1) (y : ι) (g : Fin K → EReal)
    (hg : ∀ (s : Fin J) (k : Fin n) (u : Fin P) (l : Fin K), u.val = J * (t.val / J) + s.val → l.val = s.val * n + k.val → term u y k = g l)
    (hK : K = J * n := by first | rfl | decide) :
    f t.val t.isLt y = ∑ l, g l := by
  refine (Pipeline.eq_sum_fin_of_reset_step_apply_of_flush f J (fun _ => (0 : EReal)) (fun t y => ∑ k, term t y k) h0 hs t ht y).trans ?_
  rw [zero_add]
  exact Fin.sum_mul_add_congr (fun s k hl => hg s k _ ⟨_, hl⟩ rfl rfl) hK

end Cert.Tiles
end
-- ==== Proof.MulT.lean ====
/- Products with the second operand transposed: the gradients of the input, output, branch and memory products at their left operands. -/
module

public import proofs.«01_k».proof.Proof.Tiles
public import proofs.«01_k».proof.Proof.Gen.Kernel3Ideal.Value
public import proofs.«01_k».proof.Proof.Gen.Reference3Ideal.Read
public import proofs.«01_k».proof.Proof.Gen.Kernel5Ideal.Value
public import proofs.«01_k».proof.Proof.Gen.Reference5Ideal.Read
public import proofs.«01_k».proof.Proof.Gen.Kernel10Ideal.Value
public import proofs.«01_k».proof.Proof.Gen.Reference10Ideal.Read
public import proofs.«01_k».proof.Proof.Gen.Kernel13Ideal.Value
public import proofs.«01_k».proof.Proof.Gen.Reference13Ideal.Read
public import proofs.«01_k».proof.Proof.Gen.Kernel16Ideal.Value
public import proofs.«01_k».proof.Proof.Gen.Reference16Ideal.Read
public import proofs.«01_k».proof.Proof.Gen.Kernel19Ideal.Value
public import proofs.«01_k».proof.Proof.Gen.Reference19Ideal.Read
public import Idealize.ShloMosaic.Lib.WritesUnit
public import Idealize.ShloMosaic.Lib.Quiescent
public import proofs.«01_k».proof.Defs

@[expose] public section

set_option maxRecDepth 16384

noncomputable section

open Idealize.ShloMosaic Idealize.ShloMosaic.TcCoe Idealize.SL.Sem
open Cert.Tiles

namespace Cert.Kernel3Ideal.Prod
open Cert.Kernel3Ideal Cert.Kernel3Ideal.Gen Cert.Kernel3Ideal.Value

variable (m : (ℓ : Loc nD τ sig) → Buf (Elt Ideal) ℓ) (c : Dev nD)

/-- The windows' blocks at every point, and the points that write back. -/
theorem idx : ∀ t : Fin cfg0.N, win0_0.index t = ![t.val / 22, t.val % 11] ∧ win0_1.index t = ![t.val / 11 % 2, t.val % 11] ∧ win0_2.index t = ![t.val / 22, t.val / 11 % 2]
    ∧ (win0_2.flush t = true → t.val % 11 = 10) :=
  (by decide +kernel : ∀ t : Fin grid0.N, _)

/-- The stored tile at an entry: what the tile held plus the product of the two blocks. -/
theorem pay_apply (z : FVec Ideal S1024x1024 .f32) (a : FVec Ideal S1024x1536 .bf16) (b : FVec Ideal S1024x1536 .bf16) (y : S1024x1024.Idx) :
    k0_pay2 (F := Ideal) z a b y = z y + mulTAt a b y := by
  unfold mulTAt; pointwise [k0_pay2]

/-- The scratch after a tile's first point, and after any other point. -/
theorem start (t : Fin cfg0.N) (h : t.val % 11 = 0) (y : S1024x1024.Idx) :
    (outsAt0 m c t.val t.isLt).2 y = 0 + mulTAt (M := 1024) (N := 1024) (K := 1536) (iblk m c 0 t) (iblk m c 1 t) y := by
  rw [outsAt0_A m c t h (by omega)]; frame_out
  exact (pay_apply _ _ _ y).trans (congrArg₂ (· + ·) (by pointwise [k0_pay1]) rfl)
theorem step (t : Fin cfg0.N) (h : ¬t.val % 11 = 0) (y : S1024x1024.Idx) :
    (outsAt0 m c t.val t.isLt).2 y = (outsAt0 m c (t.val - 1) (Nat.lt_of_le_of_lt (Nat.sub_le _ _) t.isLt)).2 y
      + mulTAt (M := 1024) (N := 1024) (K := 1536) (iblk m c 0 t) (iblk m c 1 t) y := by
  by_cases h1 : t.val % 11 = 10
  on_goal 1 => rw [outsAt0_C m c t h h1]; frame_out
  on_goal 2 => rw [outsAt0_B m c t h h1]; frame_out
  all_goals
    exact (congrArg (fun Z => k0_pay2 Z (iblk m c 0 t) (iblk m c 1 t) y) (Memref.IsWhole.read_unread _ _)).trans (pay_apply _ _ _ y)

/-- The array after the run is the product. -/
theorem final : (dats m 0 c).arrAt 2 cfg0.N = mulTAt (M := 8192) (N := 2048) (K := 16896) (V m c main_arg0) (V m c main_arg1) := by
  refine (dats m 0 c).arrAt_eq_of_covers 2 _ (by decide +kernel) fun t hf y => ?_
  have ht := (idx t).2.2.2 hf
  rw [after0_2]; blk_simp
  refine Eq.trans (b := (outsAt0 m c t.val t.isLt).2 y) (by rw [outsAt0_C m c t (by omega) ht]; frame_out) ?_
  refine sum_blocks (fun n h => (outsAt0 m c n h).2) _ (start m c) (step m c) t ht y _ fun s k u l hu hl => ?_
  have hs := s.isLt
  unfold iblk
  generalize V m c = W
  refine congrArg₂ (· * ·) (congrArg (W main_arg0) (funext (Fin.forall_fin_two.mpr ⟨Fin.ext ?_, Fin.ext ?_⟩)))
    (congrArg (W main_arg1) (funext (Fin.forall_fin_two.mpr ⟨Fin.ext ?_, Fin.ext ?_⟩))) <;> blk_simp [idx u, idx t] <;> omega

end Cert.Kernel3Ideal.Prod

namespace Cert.Reference3Ideal.Prod
open Cert.Reference3Ideal Cert.Reference3Ideal.Read

/-- The reference's array is the same product. -/
theorem ref_eq (a : FVec Ideal S8192x16896 .bf16) (b : FVec Ideal S2048x16896 .bf16) :
    val_main_v4 (F := Ideal) a b = mulTAt (M := 8192) (N := 2048) (K := 16896) a b := by
  funext i
  rw [val_main_v4_apply]
  refine Finset.sum_congr rfl fun k _ => ?_
  rw [val_main_v3_apply, val_main_v1_apply]
  exact congrArg₂ (· * ·) (congrArg a (funext (Fin.forall_fin_two.mpr ⟨rfl, rfl⟩))) (congrArg b (funext (Fin.forall_fin_two.mpr ⟨rfl, rfl⟩)))

end Cert.Reference3Ideal.Prod

namespace Cert.Proof
attribute [local instance] Cert.Kernel3Ideal.Gen.facts Cert.Reference3Ideal.Gen.facts

/-- The reference runs, keeps its arguments and leaves every semaphore at zero. -/
theorem reference3_frame : Cert.quiescent_Reference3Ideal := by
  intro m g _
  exact (θ_run _ _ _).mono (fun r h => ⟨fun c => (h c).2, sem_eq_zero_of_no_sems rfl r.2⟩) (Cert.Reference3Ideal.Value.run m g)

/-- The input product's gradient at its left operand: the kernel and the reference end with equal results. -/
theorem product3 : Cert.algebraic_Kernel3Ideal_Reference3Ideal := by
  intro m g m' g' _ hagree
  refine ⟨_, Cert.Kernel3Ideal.Value.run_blocks m g, (θ_run _ _ _).mono (fun r h c => ⟨?_, (h c).2⟩) (Cert.Reference3Ideal.Value.run m' g')⟩
  refine (h c).1.trans ((Cert.Reference3Ideal.Read.val_main_v4_eq _ _).trans ((Cert.Reference3Ideal.Prod.ref_eq _ _).trans ?_))
  rw [(hagree c).1, (hagree c).2]
  exact (Cert.Kernel3Ideal.Prod.final m c).symm

end Cert.Proof

namespace Cert.Kernel5Ideal.Prod
open Cert.Kernel5Ideal Cert.Kernel5Ideal.Gen Cert.Kernel5Ideal.Value

variable (m : (ℓ : Loc nD τ sig) → Buf (Elt Ideal) ℓ) (c : Dev nD)

/-- The windows' blocks at every point, and the points that write back. -/
theorem idx : ∀ t : Fin cfg0.N, win0_0.index t = ![t.val / 4, t.val % 2] ∧ win0_1.index t = ![t.val / 2 % 2, t.val % 2] ∧ win0_2.index t = ![t.val / 4, t.val / 2 % 2]
    ∧ (win0_2.flush t = true → t.val % 2 = 1) :=
  (by decide +kernel : ∀ t : Fin grid0.N, _)

/-- The stored tile at an entry: what the tile held plus the product of the two blocks. -/
theorem pay_apply (z : FVec Ideal S1024x1024 .f32) (a : FVec Ideal S1024x1024 .f32) (b : FVec Ideal S1024x1024 .bf16) (y : S1024x1024.Idx) :
    k0_pay2 (F := Ideal) z a b y = z y + mulTAt a b y := by
  unfold mulTAt; pointwise [k0_pay2]

/-- The scratch after a tile's first point, and after any other point. -/
theorem start (t : Fin cfg0.N) (h : t.val % 2 = 0) (y : S1024x1024.Idx) :
    (outsAt0 m c t.val t.isLt).2 y = 0 + mulTAt (M := 1024) (N := 1024) (K := 1024) (iblk m c 0 t) (iblk m c 1 t) y := by
  rw [outsAt0_A m c t h (by omega)]; frame_out
  exact (pay_apply _ _ _ y).trans (congrArg₂ (· + ·) (by pointwise [k0_pay1]) rfl)
theorem step (t : Fin cfg0.N) (h : ¬t.val % 2 = 0) (y : S1024x1024.Idx) :
    (outsAt0 m c t.val t.isLt).2 y = (outsAt0 m c (t.val - 1) (Nat.lt_of_le_of_lt (Nat.sub_le _ _) t.isLt)).2 y
      + mulTAt (M := 1024) (N := 1024) (K := 1024) (iblk m c 0 t) (iblk m c 1 t) y := by
  rw [outsAt0_B m c t h (by omega)]; frame_out
  exact (congrArg (fun Z => k0_pay2 Z (iblk m c 0 t) (iblk m c 1 t) y) (Memref.IsWhole.read_unread _ _)).trans (pay_apply _ _ _ y)

/-- The array after the run is the product. -/
theorem final : (dats m 0 c).arrAt 2 cfg0.N = mulTAt (M := 8192) (N := 2048) (K := 2048) (V m c main_arg0) (V m c main_arg1) := by
  refine (dats m 0 c).arrAt_eq_of_covers 2 _ (by decide +kernel) fun t hf y => ?_
  have ht := (idx t).2.2.2 hf
  rw [after0_2]; blk_simp
  refine Eq.trans (b := (outsAt0 m c t.val t.isLt).2 y) (by rw [outsAt0_B m c t (by omega) ht]; frame_out) ?_
  refine sum_blocks (fun n h => (outsAt0 m c n h).2) _ (start m c) (step m c) t ht y _ fun s k u l hu hl => ?_
  have hs := s.isLt
  unfold iblk
  generalize V m c = W
  refine congrArg₂ (· * ·) (congrArg (W main_arg0) (funext (Fin.forall_fin_two.mpr ⟨Fin.ext ?_, Fin.ext ?_⟩)))
    (congrArg (W main_arg1) (funext (Fin.forall_fin_two.mpr ⟨Fin.ext ?_, Fin.ext ?_⟩))) <;> blk_simp [idx u, idx t] <;> omega

end Cert.Kernel5Ideal.Prod

namespace Cert.Reference5Ideal.Prod
open Cert.Reference5Ideal Cert.Reference5Ideal.Read

/-- The reference's array is the same product. -/
theorem ref_eq (a : FVec Ideal S8192x2048 .f32) (b : FVec Ideal S2048x2048 .bf16) :
    val_main_v3 (F := Ideal) a b = mulTAt (M := 8192) (N := 2048) (K := 2048) a b := by
  funext i
  rw [val_main_v3_apply]
  refine Finset.sum_congr rfl fun k _ => ?_
  rw [val_main_v1_apply]
  exact congrArg₂ (· * ·) (congrArg a (funext (Fin.forall_fin_two.mpr ⟨rfl, rfl⟩))) (congrArg b (funext (Fin.forall_fin_two.mpr ⟨rfl, rfl⟩)))

end Cert.Reference5Ideal.Prod

namespace Cert.Proof
attribute [local instance] Cert.Kernel5Ideal.Gen.facts Cert.Reference5Ideal.Gen.facts

/-- The reference runs, keeps its arguments and leaves every semaphore at zero. -/
theorem reference5_frame : Cert.quiescent_Reference5Ideal := by
  intro m g _
  exact (θ_run _ _ _).mono (fun r h => ⟨fun c => (h c).2, sem_eq_zero_of_no_sems rfl r.2⟩) (Cert.Reference5Ideal.Value.run m g)

/-- The output product's gradient at its left operand: the kernel and the reference end with equal results. -/
theorem product5 : Cert.algebraic_Kernel5Ideal_Reference5Ideal := by
  intro m g m' g' _ hagree
  refine ⟨_, Cert.Kernel5Ideal.Value.run_blocks m g, (θ_run _ _ _).mono (fun r h c => ⟨?_, (h c).2⟩) (Cert.Reference5Ideal.Value.run m' g')⟩
  refine (h c).1.trans ((Cert.Reference5Ideal.Read.val_main_v3_eq _ _).trans ((Cert.Reference5Ideal.Prod.ref_eq _ _).trans ?_))
  rw [(hagree c).1, (hagree c).2]
  exact (Cert.Kernel5Ideal.Prod.final m c).symm

end Cert.Proof

namespace Cert.Kernel10Ideal.Prod
open Cert.Kernel10Ideal Cert.Kernel10Ideal.Gen Cert.Kernel10Ideal.Value

variable (m : (ℓ : Loc nD τ sig) → Buf (Elt Ideal) ℓ) (c : Dev nD)

/-- The windows' blocks at every point, and the points that write back. -/
theorem idx : ∀ t : Fin cfg0.N, win0_0.index t = ![t.val / 2, t.val % 2] ∧ win0_1.index t = ![0, t.val % 2] ∧ win0_2.index t = ![t.val / 2, 0]
    ∧ (win0_2.flush t = true → t.val % 2 = 1) :=
  (by decide +kernel : ∀ t : Fin grid0.N, _)

/-- The stored tile at an entry: what the tile held plus the product of the two blocks. -/
theorem pay_apply (z : FVec Ideal S1024x768 .f32) (a : FVec Ideal S1024x1024 .bf16) (b : FVec Ideal S768x1024 .bf16) (y : S1024x768.Idx) :
    k0_pay2 (F := Ideal) z a b y = z y + mulTAt a b y := by
  unfold mulTAt; pointwise [k0_pay2]

/-- The scratch after a tile's first point, and after any other point. -/
theorem start (t : Fin cfg0.N) (h : t.val % 2 = 0) (y : S1024x768.Idx) :
    (outsAt0 m c t.val t.isLt).2 y = 0 + mulTAt (M := 1024) (N := 768) (K := 1024) (iblk m c 0 t) (iblk m c 1 t) y := by
  rw [outsAt0_A m c t h (by omega)]; frame_out
  exact (pay_apply _ _ _ y).trans (congrArg₂ (· + ·) (by pointwise [k0_pay1]) rfl)
theorem step (t : Fin cfg0.N) (h : ¬t.val % 2 = 0) (y : S1024x768.Idx) :
    (outsAt0 m c t.val t.isLt).2 y = (outsAt0 m c (t.val - 1) (Nat.lt_of_le_of_lt (Nat.sub_le _ _) t.isLt)).2 y
      + mulTAt (M := 1024) (N := 768) (K := 1024) (iblk m c 0 t) (iblk m c 1 t) y := by
  rw [outsAt0_B m c t h (by omega)]; frame_out
  exact (congrArg (fun Z => k0_pay2 Z (iblk m c 0 t) (iblk m c 1 t) y) (Memref.IsWhole.read_unread _ _)).trans (pay_apply _ _ _ y)

/-- The array after the run is the product. -/
theorem final : (dats m 0 c).arrAt 2 cfg0.N = mulTAt (M := 8192) (N := 768) (K := 2048) (V m c main_arg0) (V m c main_arg1) := by
  refine (dats m 0 c).arrAt_eq_of_covers 2 _ (by decide +kernel) fun t hf y => ?_
  have ht := (idx t).2.2.2 hf
  rw [after0_2]; blk_simp
  refine Eq.trans (b := (outsAt0 m c t.val t.isLt).2 y) (by rw [outsAt0_B m c t (by omega) ht]; frame_out) ?_
  refine sum_blocks (fun n h => (outsAt0 m c n h).2) _ (start m c) (step m c) t ht y _ fun s k u l hu hl => ?_
  have hs := s.isLt
  unfold iblk
  generalize V m c = W
  refine congrArg₂ (· * ·) (congrArg (W main_arg0) (funext (Fin.forall_fin_two.mpr ⟨Fin.ext ?_, Fin.ext ?_⟩)))
    (congrArg (W main_arg1) (funext (Fin.forall_fin_two.mpr ⟨Fin.ext ?_, Fin.ext ?_⟩))) <;> blk_simp [idx u, idx t] <;> omega

end Cert.Kernel10Ideal.Prod

namespace Cert.Reference10Ideal.Prod
open Cert.Reference10Ideal Cert.Reference10Ideal.Read

/-- The reference's array is the same product. -/
theorem ref_eq (a : FVec Ideal S8192x2048 .bf16) (b : FVec Ideal S768x2048 .bf16) :
    val_main_v4 (F := Ideal) a b = mulTAt (M := 8192) (N := 768) (K := 2048) a b := by
  funext i
  rw [val_main_v4_apply]
  refine Finset.sum_congr rfl fun k _ => ?_
  rw [val_main_v1_apply, val_main_v3_apply]
  exact congrArg₂ (· * ·) (congrArg a (funext (Fin.forall_fin_two.mpr ⟨rfl, rfl⟩))) (congrArg b (funext (Fin.forall_fin_two.mpr ⟨rfl, rfl⟩)))

end Cert.Reference10Ideal.Prod

namespace Cert.Proof
attribute [local instance] Cert.Kernel10Ideal.Gen.facts Cert.Reference10Ideal.Gen.facts

/-- The reference runs, keeps its arguments and leaves every semaphore at zero. -/
theorem reference10_frame : Cert.quiescent_Reference10Ideal := by
  intro m g _
  exact (θ_run _ _ _).mono (fun r h => ⟨fun c => (h c).2, sem_eq_zero_of_no_sems rfl r.2⟩) (Cert.Reference10Ideal.Value.run m g)

/-- The gradient of the branch of width 768: the kernel and the reference end with equal results. -/
theorem product10 : Cert.algebraic_Kernel10Ideal_Reference10Ideal := by
  intro m g m' g' _ hagree
  refine ⟨_, Cert.Kernel10Ideal.Value.run_blocks m g, (θ_run _ _ _).mono (fun r h c => ⟨?_, (h c).2⟩) (Cert.Reference10Ideal.Value.run m' g')⟩
  refine (h c).1.trans ((Cert.Reference10Ideal.Read.val_main_v4_eq _ _).trans ((Cert.Reference10Ideal.Prod.ref_eq _ _).trans ?_))
  rw [(hagree c).1, (hagree c).2]
  exact (Cert.Kernel10Ideal.Prod.final m c).symm

end Cert.Proof

namespace Cert.Kernel13Ideal.Prod
open Cert.Kernel13Ideal Cert.Kernel13Ideal.Gen Cert.Kernel13Ideal.Value

variable (m : (ℓ : Loc nD τ sig) → Buf (Elt Ideal) ℓ) (c : Dev nD)

/-- The windows' blocks at every point, and the points that write back. -/
theorem idx : ∀ t : Fin cfg0.N, win0_0.index t = ![t.val / 2, t.val % 2] ∧ win0_1.index t = ![0, t.val % 2] ∧ win0_2.index t = ![t.val / 2, 0]
    ∧ (win0_2.flush t = true → t.val % 2 = 1) :=
  (by decide +kernel : ∀ t : Fin grid0.N, _)

/-- The stored tile at an entry: what the tile held plus the product of the two blocks. -/
theorem pay_apply (z : FVec Ideal S1024x1024 .f32) (a : FVec Ideal S1024x1024 .bf16) (b : FVec Ideal S1024x1024 .bf16) (y : S1024x1024.Idx) :
    k0_pay2 (F := Ideal) z a b y = z y + mulTAt a b y := by
  unfold mulTAt; pointwise [k0_pay2]

/-- The scratch after a tile's first point, and after any other point. -/
theorem start (t : Fin cfg0.N) (h : t.val % 2 = 0) (y : S1024x1024.Idx) :
    (outsAt0 m c t.val t.isLt).2 y = 0 + mulTAt (M := 1024) (N := 1024) (K := 1024) (iblk m c 0 t) (iblk m c 1 t) y := by
  rw [outsAt0_A m c t h (by omega)]; frame_out
  exact (pay_apply _ _ _ y).trans (congrArg₂ (· + ·) (by pointwise [k0_pay1]) rfl)
theorem step (t : Fin cfg0.N) (h : ¬t.val % 2 = 0) (y : S1024x1024.Idx) :
    (outsAt0 m c t.val t.isLt).2 y = (outsAt0 m c (t.val - 1) (Nat.lt_of_le_of_lt (Nat.sub_le _ _) t.isLt)).2 y
      + mulTAt (M := 1024) (N := 1024) (K := 1024) (iblk m c 0 t) (iblk m c 1 t) y := by
  rw [outsAt0_B m c t h (by omega)]; frame_out
  exact (congrArg (fun Z => k0_pay2 Z (iblk m c 0 t) (iblk m c 1 t) y) (Memref.IsWhole.read_unread _ _)).trans (pay_apply _ _ _ y)

/-- The array after the run is the product. -/
theorem final : (dats m 0 c).arrAt 2 cfg0.N = mulTAt (M := 8192) (N := 1024) (K := 2048) (V m c main_arg0) (V m c main_arg1) := by
  refine (dats m 0 c).arrAt_eq_of_covers 2 _ (by decide +kernel) fun t hf y => ?_
  have ht := (idx t).2.2.2 hf
  rw [after0_2]; blk_simp
  refine Eq.trans (b := (outsAt0 m c t.val t.isLt).2 y) (by rw [outsAt0_B m c t (by omega) ht]; frame_out) ?_
  refine sum_blocks (fun n h => (outsAt0 m c n h).2) _ (start m c) (step m c) t ht y _ fun s k u l hu hl => ?_
  have hs := s.isLt
  unfold iblk
  generalize V m c = W
  refine congrArg₂ (· * ·) (congrArg (W main_arg0) (funext (Fin.forall_fin_two.mpr ⟨Fin.ext ?_, Fin.ext ?_⟩)))
    (congrArg (W main_arg1) (funext (Fin.forall_fin_two.mpr ⟨Fin.ext ?_, Fin.ext ?_⟩))) <;> blk_simp [idx u, idx t] <;> omega

end Cert.Kernel13Ideal.Prod

namespace Cert.Reference13Ideal.Prod
open Cert.Reference13Ideal Cert.Reference13Ideal.Read

/-- The reference's array is the same product. -/
theorem ref_eq (a : FVec Ideal S8192x2048 .bf16) (b : FVec Ideal S1024x2048 .bf16) :
    val_main_v4 (F := Ideal) a b = mulTAt (M := 8192) (N := 1024) (K := 2048) a b := by
  funext i
  rw [val_main_v4_apply]
  refine Finset.sum_congr rfl fun k _ => ?_
  rw [val_main_v1_apply, val_main_v3_apply]
  exact congrArg₂ (· * ·) (congrArg a (funext (Fin.forall_fin_two.mpr ⟨rfl, rfl⟩))) (congrArg b (funext (Fin.forall_fin_two.mpr ⟨rfl, rfl⟩)))

end Cert.Reference13Ideal.Prod

namespace Cert.Proof
attribute [local instance] Cert.Kernel13Ideal.Gen.facts Cert.Reference13Ideal.Gen.facts

/-- The reference runs, keeps its arguments and leaves every semaphore at zero. -/
theorem reference13_frame : Cert.quiescent_Reference13Ideal := by
  intro m g _
  exact (θ_run _ _ _).mono (fun r h => ⟨fun c => (h c).2, sem_eq_zero_of_no_sems rfl r.2⟩) (Cert.Reference13Ideal.Value.run m g)

/-- The gradient of the branch of width 1024: the kernel and the reference end with equal results. -/
theorem product13 : Cert.algebraic_Kernel13Ideal_Reference13Ideal := by
  intro m g m' g' _ hagree
  refine ⟨_, Cert.Kernel13Ideal.Value.run_blocks m g, (θ_run _ _ _).mono (fun r h c => ⟨?_, (h c).2⟩) (Cert.Reference13Ideal.Value.run m' g')⟩
  refine (h c).1.trans ((Cert.Reference13Ideal.Read.val_main_v4_eq _ _).trans ((Cert.Reference13Ideal.Prod.ref_eq _ _).trans ?_))
  rw [(hagree c).1, (hagree c).2]
  exact (Cert.Kernel13Ideal.Prod.final m c).symm

end Cert.Proof

namespace Cert.Kernel16Ideal.Prod
open Cert.Kernel16Ideal Cert.Kernel16Ideal.Gen Cert.Kernel16Ideal.Value

variable (m : (ℓ : Loc nD τ sig) → Buf (Elt Ideal) ℓ) (c : Dev nD)

/-- The windows' blocks at every point, and the points that write back. -/
theorem idx : ∀ t : Fin cfg0.N, win0_0.index t = ![t.val / 2, t.val % 2] ∧ win0_1.index t = ![0, t.val % 2] ∧ win0_2.index t = ![t.val / 2, 0]
    ∧ (win0_2.flush t = true → t.val % 2 = 1) :=
  (by decide +kernel : ∀ t : Fin grid0.N, _)

/-- The stored tile at an entry: what the tile held plus the product of the two blocks. -/
theorem pay_apply (z : FVec Ideal S1024x512 .f32) (a : FVec Ideal S1024x1024 .bf16) (b : FVec Ideal S512x1024 .bf16) (y : S1024x512.Idx) :
    k0_pay2 (F := Ideal) z a b y = z y + mulTAt a b y := by
  unfold mulTAt; pointwise [k0_pay2]

/-- The scratch after a tile's first point, and after any other point. -/
theorem start (t : Fin cfg0.N) (h : t.val % 2 = 0) (y : S1024x512.Idx) :
    (outsAt0 m c t.val t.isLt).2 y = 0 + mulTAt (M := 1024) (N := 512) (K := 1024) (iblk m c 0 t) (iblk m c 1 t) y := by
  rw [outsAt0_A m c t h (by omega)]; frame_out
  exact (pay_apply _ _ _ y).trans (congrArg₂ (· + ·) (by pointwise [k0_pay1]) rfl)
theorem step (t : Fin cfg0.N) (h : ¬t.val % 2 = 0) (y : S1024x512.Idx) :
    (outsAt0 m c t.val t.isLt).2 y = (outsAt0 m c (t.val - 1) (Nat.lt_of_le_of_lt (Nat.sub_le _ _) t.isLt)).2 y
      + mulTAt (M := 1024) (N := 512) (K := 1024) (iblk m c 0 t) (iblk m c 1 t) y := by
  rw [outsAt0_B m c t h (by omega)]; frame_out
  exact (congrArg (fun Z => k0_pay2 Z (iblk m c 0 t) (iblk m c 1 t) y) (Memref.IsWhole.read_unread _ _)).trans (pay_apply _ _ _ y)

/-- The array after the run is the product. -/
theorem final : (dats m 0 c).arrAt 2 cfg0.N = mulTAt (M := 8192) (N := 512) (K := 2048) (V m c main_arg0) (V m c main_arg1) := by
  refine (dats m 0 c).arrAt_eq_of_covers 2 _ (by decide +kernel) fun t hf y => ?_
  have ht := (idx t).2.2.2 hf
  rw [after0_2]; blk_simp
  refine Eq.trans (b := (outsAt0 m c t.val t.isLt).2 y) (by rw [outsAt0_B m c t (by omega) ht]; frame_out) ?_
  refine sum_blocks (fun n h => (outsAt0 m c n h).2) _ (start m c) (step m c) t ht y _ fun s k u l hu hl => ?_
  have hs := s.isLt
  unfold iblk
  generalize V m c = W
  refine congrArg₂ (· * ·) (congrArg (W main_arg0) (funext (Fin.forall_fin_two.mpr ⟨Fin.ext ?_, Fin.ext ?_⟩)))
    (congrArg (W main_arg1) (funext (Fin.forall_fin_two.mpr ⟨Fin.ext ?_, Fin.ext ?_⟩))) <;> blk_simp [idx u, idx t] <;> omega

end Cert.Kernel16Ideal.Prod

namespace Cert.Reference16Ideal.Prod
open Cert.Reference16Ideal Cert.Reference16Ideal.Read

/-- The reference's array is the same product. -/
theorem ref_eq (a : FVec Ideal S8192x2048 .bf16) (b : FVec Ideal S512x2048 .bf16) :
    val_main_v4 (F := Ideal) a b = mulTAt (M := 8192) (N := 512) (K := 2048) a b := by
  funext i
  rw [val_main_v4_apply]
  refine Finset.sum_congr rfl fun k _ => ?_
  rw [val_main_v1_apply, val_main_v3_apply]
  exact congrArg₂ (· * ·) (congrArg a (funext (Fin.forall_fin_two.mpr ⟨rfl, rfl⟩))) (congrArg b (funext (Fin.forall_fin_two.mpr ⟨rfl, rfl⟩)))

end Cert.Reference16Ideal.Prod

namespace Cert.Proof
attribute [local instance] Cert.Kernel16Ideal.Gen.facts Cert.Reference16Ideal.Gen.facts

/-- The reference runs, keeps its arguments and leaves every semaphore at zero. -/
theorem reference16_frame : Cert.quiescent_Reference16Ideal := by
  intro m g _
  exact (θ_run _ _ _).mono (fun r h => ⟨fun c => (h c).2, sem_eq_zero_of_no_sems rfl r.2⟩) (Cert.Reference16Ideal.Value.run m g)

/-- The gradient of the branch of width 512: the kernel and the reference end with equal results. -/
theorem product16 : Cert.algebraic_Kernel16Ideal_Reference16Ideal := by
  intro m g m' g' _ hagree
  refine ⟨_, Cert.Kernel16Ideal.Value.run_blocks m g, (θ_run _ _ _).mono (fun r h c => ⟨?_, (h c).2⟩) (Cert.Reference16Ideal.Value.run m' g')⟩
  refine (h c).1.trans ((Cert.Reference16Ideal.Read.val_main_v4_eq _ _).trans ((Cert.Reference16Ideal.Prod.ref_eq _ _).trans ?_))
  rw [(hagree c).1, (hagree c).2]
  exact (Cert.Kernel16Ideal.Prod.final m c).symm

end Cert.Proof

namespace Cert.Kernel19Ideal.Prod
open Cert.Kernel19Ideal Cert.Kernel19Ideal.Gen Cert.Kernel19Ideal.Value

variable (m : (ℓ : Loc nD τ sig) → Buf (Elt Ideal) ℓ) (c : Dev nD)

/-- The windows' blocks at every point. -/
theorem idx : ∀ t : Fin cfg0.N, win0_0.index t = ![0, 0] ∧ win0_1.index t = ![t.val, 0] ∧ win0_2.index t = ![0, t.val] :=
  (by decide +kernel : ∀ t : Fin grid0.N, _)

/-- The stored tile at an entry: what the tile held plus the product of the two blocks. -/
theorem pay_apply (z : FVec Ideal S256x1024 .f32) (a : FVec Ideal S256x1024 .f32) (b : FVec Ideal S1024x1024 .bf16) (y : S256x1024.Idx) :
    k0_pay2 (F := Ideal) z a b y = z y + mulTAt a b y := by
  unfold mulTAt; pointwise [k0_pay2]

/-- What a point leaves in its tile. -/
theorem out (t : Fin cfg0.N) (y : S256x1024.Idx) : (outsAt0 m c t y : EReal) = mulTAt (M := 256) (N := 1024) (K := 1024) (iblk m c 0 t) (iblk m c 1 t) y := by
  unfold outsAt0; frame_out
  exact (pay_apply _ _ _ y).trans ((congrArg₂ (· + ·) (by pointwise [k0_pay1]) rfl).trans (zero_add _))

/-- The array after the run is the product. -/
theorem final : (dats m 0 c).arrAt 2 cfg0.N = mulTAt (M := 256) (N := 2048) (K := 1024) (V m c main_arg0) (V m c main_arg1) := by
  refine (dats m 0 c).arrAt_eq_of_covers 2 _ (by decide +kernel) fun t hf y => ?_
  rw [after0_2]; blk_simp
  refine (out m c t y).trans (Finset.sum_congr rfl fun k _ => ?_)
  unfold iblk
  generalize V m c = W
  refine congrArg₂ (· * ·) (congrArg (W main_arg0) (funext (Fin.forall_fin_two.mpr ⟨Fin.ext ?_, Fin.ext ?_⟩)))
    (congrArg (W main_arg1) (funext (Fin.forall_fin_two.mpr ⟨Fin.ext ?_, Fin.ext ?_⟩))) <;> blk_simp [idx t]

end Cert.Kernel19Ideal.Prod

namespace Cert.Reference19Ideal.Prod
open Cert.Reference19Ideal Cert.Reference19Ideal.Read

/-- The reference's array is the same product. -/
theorem ref_eq (a : FVec Ideal S256x1024 .f32) (b : FVec Ideal S2048x1024 .bf16) :
    val_main_v3 (F := Ideal) a b = mulTAt (M := 256) (N := 2048) (K := 1024) a b := by
  funext i
  rw [val_main_v3_apply]
  refine Finset.sum_congr rfl fun k _ => ?_
  rw [val_main_v1_apply]
  exact congrArg₂ (· * ·) (congrArg a (funext (Fin.forall_fin_two.mpr ⟨rfl, rfl⟩))) (congrArg b (funext (Fin.forall_fin_two.mpr ⟨rfl, rfl⟩)))

end Cert.Reference19Ideal.Prod

namespace Cert.Proof
attribute [local instance] Cert.Kernel19Ideal.Gen.facts Cert.Reference19Ideal.Gen.facts

/-- The reference runs, keeps its arguments and leaves every semaphore at zero. -/
theorem reference19_frame : Cert.quiescent_Reference19Ideal := by
  intro m g _
  exact (θ_run _ _ _).mono (fun r h => ⟨fun c => (h c).2, sem_eq_zero_of_no_sems rfl r.2⟩) (Cert.Reference19Ideal.Value.run m g)

/-- The memory product's gradient at its left operand: the kernel and the reference end with equal results. -/
theorem product19 : Cert.algebraic_Kernel19Ideal_Reference19Ideal := by
  intro m g m' g' _ hagree
  refine ⟨_, Cert.Kernel19Ideal.Value.run_blocks m g, (θ_run _ _ _).mono (fun r h c => ⟨?_, (h c).2⟩) (Cert.Reference19Ideal.Value.run m' g')⟩
  refine (h c).1.trans ((Cert.Reference19Ideal.Read.val_main_v3_eq _ _).trans ((Cert.Reference19Ideal.Prod.ref_eq _ _).trans ?_))
  rw [(hagree c).1, (hagree c).2]
  exact (Cert.Kernel19Ideal.Prod.final m c).symm

end Cert.Proof
end
-- ==== Proof.TMul.lean ====
/- Products with the first operand transposed: the gradients of the input, output, branch and memory products at their weights. -/
module

public import proofs.«01_k».proof.Proof.Tiles
public import proofs.«01_k».proof.Proof.Gen.Kernel2Ideal.Value
public import proofs.«01_k».proof.Proof.Gen.Reference2Ideal.Read
public import proofs.«01_k».proof.Proof.Gen.Kernel6Ideal.Value
public import proofs.«01_k».proof.Proof.Gen.Reference6Ideal.Read
public import proofs.«01_k».proof.Proof.Gen.Kernel11Ideal.Value
public import proofs.«01_k».proof.Proof.Gen.Reference11Ideal.Read
public import proofs.«01_k».proof.Proof.Gen.Kernel14Ideal.Value
public import proofs.«01_k».proof.Proof.Gen.Reference14Ideal.Read
public import proofs.«01_k».proof.Proof.Gen.Kernel17Ideal.Value
public import proofs.«01_k».proof.Proof.Gen.Reference17Ideal.Read
public import proofs.«01_k».proof.Proof.Gen.Kernel20Ideal.Value
public import proofs.«01_k».proof.Proof.Gen.Reference20Ideal.Read
public import Idealize.ShloMosaic.Lib.WritesUnit
public import Idealize.ShloMosaic.Lib.Quiescent
public import proofs.«01_k».proof.Defs

@[expose] public section

set_option maxRecDepth 16384

noncomputable section

open Idealize.ShloMosaic Idealize.ShloMosaic.TcCoe Idealize.SL.Sem
open Cert.Tiles

namespace Cert.Kernel2Ideal.Prod
open Cert.Kernel2Ideal Cert.Kernel2Ideal.Gen Cert.Kernel2Ideal.Value

variable (m : (ℓ : Loc nD τ sig) → Buf (Elt Ideal) ℓ) (c : Dev nD)

/-- The windows' blocks at every point, and the points that write back. -/
theorem idx : ∀ t : Fin cfg0.N, win0_0.index t = ![t.val % 4, t.val / 44] ∧ win0_1.index t = ![t.val % 4, t.val / 4 % 11] ∧ win0_2.index t = ![t.val / 44, t.val / 4 % 11]
    ∧ (win0_2.flush t = true → t.val % 4 = 3) :=
  (by decide +kernel : ∀ t : Fin grid0.N, _)

/-- The stored tile at an entry: what the tile held plus the product of the two blocks. -/
theorem pay_apply (z : FVec Ideal S1024x1536 .f32) (a : FVec Ideal S2048x1024 .bf16) (b : FVec Ideal S2048x1536 .bf16) (y : S1024x1536.Idx) :
    k0_pay2 (F := Ideal) z a b y = z y + tMulAt a b y := by
  unfold tMulAt; pointwise [k0_pay2]

/-- The scratch after a tile's first point, and after any other point. -/
theorem start (t : Fin cfg0.N) (h : t.val % 4 = 0) (y : S1024x1536.Idx) :
    (outsAt0 m c t.val t.isLt).2 y = 0 + tMulAt (M := 1024) (N := 1536) (K := 2048) (iblk m c 0 t) (iblk m c 1 t) y := by
  rw [outsAt0_A m c t h (by omega)]; frame_out
  exact (pay_apply _ _ _ y).trans (congrArg₂ (· + ·) (by pointwise [k0_pay1]) rfl)
theorem step (t : Fin cfg0.N) (h : ¬t.val % 4 = 0) (y : S1024x1536.Idx) :
    (outsAt0 m c t.val t.isLt).2 y = (outsAt0 m c (t.val - 1) (Nat.lt_of_le_of_lt (Nat.sub_le _ _) t.isLt)).2 y
      + tMulAt (M := 1024) (N := 1536) (K := 2048) (iblk m c 0 t) (iblk m c 1 t) y := by
  by_cases h1 : t.val % 4 = 3
  on_goal 1 => rw [outsAt0_C m c t h h1]; frame_out
  on_goal 2 => rw [outsAt0_B m c t h h1]; frame_out
  all_goals
    exact (congrArg (fun Z => k0_pay2 Z (iblk m c 0 t) (iblk m c 1 t) y) (Memref.IsWhole.read_unread _ _)).trans (pay_apply _ _ _ y)

/-- The array after the run is the product. -/
theorem final : (dats m 0 c).arrAt 2 cfg0.N = tMulAt (M := 2048) (N := 16896) (K := 8192) (V m c main_arg0) (V m c main_arg1) := by
  refine (dats m 0 c).arrAt_eq_of_covers 2 _ (by decide +kernel) fun t hf y => ?_
  have ht := (idx t).2.2.2 hf
  rw [after0_2]; blk_simp
  refine Eq.trans (b := (outsAt0 m c t.val t.isLt).2 y) (by rw [outsAt0_C m c t (by omega) ht]; frame_out) ?_
  refine sum_blocks (fun n h => (outsAt0 m c n h).2) _ (start m c) (step m c) t ht y _ fun s k u l hu hl => ?_
  have hs := s.isLt
  unfold iblk
  generalize V m c = W
  refine congrArg₂ (· * ·) (congrArg (W main_arg0) (funext (Fin.forall_fin_two.mpr ⟨Fin.ext ?_, Fin.ext ?_⟩)))
    (congrArg (W main_arg1) (funext (Fin.forall_fin_two.mpr ⟨Fin.ext ?_, Fin.ext ?_⟩))) <;> blk_simp [idx u, idx t] <;> omega

end Cert.Kernel2Ideal.Prod

namespace Cert.Reference2Ideal.Prod
open Cert.Reference2Ideal Cert.Reference2Ideal.Read

/-- The reference's array is the same product. -/
theorem ref_eq (a : FVec Ideal S8192x2048 .bf16) (b : FVec Ideal S8192x16896 .bf16) :
    val_main_v5 (F := Ideal) a b = tMulAt (M := 2048) (N := 16896) (K := 8192) a b := by
  funext i
  rw [val_main_v5_apply, val_main_v4_apply]
  refine Finset.sum_congr rfl fun k _ => ?_
  rw [val_main_v3_apply, val_main_v1_apply]
  exact (mul_comm (G := EReal) _ _).trans (congrArg₂ (· * ·) (congrArg a (funext (Fin.forall_fin_two.mpr ⟨rfl, rfl⟩))) (congrArg b (funext (Fin.forall_fin_two.mpr ⟨rfl, rfl⟩))))

end Cert.Reference2Ideal.Prod

namespace Cert.Proof
attribute [local instance] Cert.Kernel2Ideal.Gen.facts Cert.Reference2Ideal.Gen.facts

/-- The reference runs, keeps its arguments and leaves every semaphore at zero. -/
theorem reference2_frame : Cert.quiescent_Reference2Ideal := by
  intro m g _
  exact (θ_run _ _ _).mono (fun r h => ⟨fun c => (h c).2, sem_eq_zero_of_no_sems rfl r.2⟩) (Cert.Reference2Ideal.Value.run m g)

/-- The input product's gradient at its weight: the kernel and the reference end with equal results. -/
theorem product2 : Cert.algebraic_Kernel2Ideal_Reference2Ideal := by
  intro m g m' g' _ hagree
  refine ⟨_, Cert.Kernel2Ideal.Value.run_blocks m g, (θ_run _ _ _).mono (fun r h c => ⟨?_, (h c).2⟩) (Cert.Reference2Ideal.Value.run m' g')⟩
  refine (h c).1.trans ((Cert.Reference2Ideal.Read.val_main_v5_eq _ _).trans ((Cert.Reference2Ideal.Prod.ref_eq _ _).trans ?_))
  rw [(hagree c).1, (hagree c).2]
  exact (Cert.Kernel2Ideal.Prod.final m c).symm

end Cert.Proof

namespace Cert.Kernel6Ideal.Prod
open Cert.Kernel6Ideal Cert.Kernel6Ideal.Gen Cert.Kernel6Ideal.Value

variable (m : (ℓ : Loc nD τ sig) → Buf (Elt Ideal) ℓ) (c : Dev nD)

/-- The windows' blocks at every point, and the points that write back. -/
theorem idx : ∀ t : Fin cfg0.N, win0_0.index t = ![t.val % 8, t.val / 16] ∧ win0_1.index t = ![t.val % 8, t.val / 8 % 2] ∧ win0_2.index t = ![t.val / 16, t.val / 8 % 2]
    ∧ (win0_2.flush t = true → t.val % 8 = 7) :=
  (by decide +kernel : ∀ t : Fin grid0.N, _)

/-- The stored tile at an entry: what the tile held plus the product of the two blocks. -/
theorem pay_apply (z : FVec Ideal S1024x1024 .f32) (a : FVec Ideal S1024x1024 .bf16) (b : FVec Ideal S1024x1024 .f32) (y : S1024x1024.Idx) :
    k0_pay2 (F := Ideal) z a b y = z y + tMulAt a b y := by
  unfold tMulAt; pointwise [k0_pay2]

/-- The scratch after a tile's first point, and after any other point. -/
theorem start (t : Fin cfg0.N) (h : t.val % 8 = 0) (y : S1024x1024.Idx) :
    (outsAt0 m c t.val t.isLt).2 y = 0 + tMulAt (M := 1024) (N := 1024) (K := 1024) (iblk m c 0 t) (iblk m c 1 t) y := by
  rw [outsAt0_A m c t h (by omega)]; frame_out
  exact (pay_apply _ _ _ y).trans (congrArg₂ (· + ·) (by pointwise [k0_pay1]) rfl)
theorem step (t : Fin cfg0.N) (h : ¬t.val % 8 = 0) (y : S1024x1024.Idx) :
    (outsAt0 m c t.val t.isLt).2 y = (outsAt0 m c (t.val - 1) (Nat.lt_of_le_of_lt (Nat.sub_le _ _) t.isLt)).2 y
      + tMulAt (M := 1024) (N := 1024) (K := 1024) (iblk m c 0 t) (iblk m c 1 t) y := by
  by_cases h1 : t.val % 8 = 7
  on_goal 1 => rw [outsAt0_C m c t h h1]; frame_out
  on_goal 2 => rw [outsAt0_B m c t h h1]; frame_out
  all_goals
    exact (congrArg (fun Z => k0_pay2 Z (iblk m c 0 t) (iblk m c 1 t) y) (Memref.IsWhole.read_unread _ _)).trans (pay_apply _ _ _ y)

/-- The array after the run is the product. -/
theorem final : (dats m 0 c).arrAt 2 cfg0.N = tMulAt (M := 2048) (N := 2048) (K := 8192) (V m c main_arg0) (V m c main_arg1) := by
  refine (dats m 0 c).arrAt_eq_of_covers 2 _ (by decide +kernel) fun t hf y => ?_
  have ht := (idx t).2.2.2 hf
  rw [after0_2]; blk_simp
  refine Eq.trans (b := (outsAt0 m c t.val t.isLt).2 y) (by rw [outsAt0_C m c t (by omega) ht]; frame_out) ?_
  refine sum_blocks (fun n h => (outsAt0 m c n h).2) _ (start m c) (step m c) t ht y _ fun s k u l hu hl => ?_
  have hs := s.isLt
  unfold iblk
  generalize V m c = W
  refine congrArg₂ (· * ·) (congrArg (W main_arg0) (funext (Fin.forall_fin_two.mpr ⟨Fin.ext ?_, Fin.ext ?_⟩)))
    (congrArg (W main_arg1) (funext (Fin.forall_fin_two.mpr ⟨Fin.ext ?_, Fin.ext ?_⟩))) <;> blk_simp [idx u, idx t] <;> omega

end Cert.Kernel6Ideal.Prod

namespace Cert.Reference6Ideal.Prod
open Cert.Reference6Ideal Cert.Reference6Ideal.Read

/-- The reference's array is the same product. -/
theorem ref_eq (a : FVec Ideal S8192x2048 .bf16) (b : FVec Ideal S8192x2048 .f32) :
    val_main_v4 (F := Ideal) a b = tMulAt (M := 2048) (N := 2048) (K := 8192) a b := by
  funext i
  rw [val_main_v4_apply, val_main_v3_apply]
  refine Finset.sum_congr rfl fun k _ => ?_
  rw [val_main_v1_apply]
  exact (mul_comm (G := EReal) _ _).trans (congrArg₂ (· * ·) (congrArg a (funext (Fin.forall_fin_two.mpr ⟨rfl, rfl⟩))) (congrArg b (funext (Fin.forall_fin_two.mpr ⟨rfl, rfl⟩))))

end Cert.Reference6Ideal.Prod

namespace Cert.Proof
attribute [local instance] Cert.Kernel6Ideal.Gen.facts Cert.Reference6Ideal.Gen.facts

/-- The reference runs, keeps its arguments and leaves every semaphore at zero. -/
theorem reference6_frame : Cert.quiescent_Reference6Ideal := by
  intro m g _
  exact (θ_run _ _ _).mono (fun r h => ⟨fun c => (h c).2, sem_eq_zero_of_no_sems rfl r.2⟩) (Cert.Reference6Ideal.Value.run m g)

/-- The output product's gradient at its weight: the kernel and the reference end with equal results. -/
theorem product6 : Cert.algebraic_Kernel6Ideal_Reference6Ideal := by
  intro m g m' g' _ hagree
  refine ⟨_, Cert.Kernel6Ideal.Value.run_blocks m g, (θ_run _ _ _).mono (fun r h c => ⟨?_, (h c).2⟩) (Cert.Reference6Ideal.Value.run m' g')⟩
  refine (h c).1.trans ((Cert.Reference6Ideal.Read.val_main_v4_eq _ _).trans ((Cert.Reference6Ideal.Prod.ref_eq _ _).trans ?_))
  rw [(hagree c).1, (hagree c).2]
  exact (Cert.Kernel6Ideal.Prod.final m c).symm

end Cert.Proof

namespace Cert.Kernel11Ideal.Prod
open Cert.Kernel11Ideal Cert.Kernel11Ideal.Gen Cert.Kernel11Ideal.Value

variable (m : (ℓ : Loc nD τ sig) → Buf (Elt Ideal) ℓ) (c : Dev nD)

/-- The windows' blocks at every point, and the points that write back. -/
theorem idx : ∀ t : Fin cfg0.N, win0_0.index t = ![t.val % 8, 0] ∧ win0_1.index t = ![t.val % 8, t.val / 8] ∧ win0_2.index t = ![0, t.val / 8]
    ∧ (win0_2.flush t = true → t.val % 8 = 7) :=
  (by decide +kernel : ∀ t : Fin grid0.N, _)

/-- The stored tile at an entry: what the tile held plus the product of the two blocks. -/
theorem pay_apply (z : FVec Ideal S768x1024 .f32) (a : FVec Ideal S1024x768 .f32) (b : FVec Ideal S1024x1024 .bf16) (y : S768x1024.Idx) :
    k0_pay2 (F := Ideal) z a b y = z y + tMulAt a b y := by
  unfold tMulAt; pointwise [k0_pay2]

/-- The scratch after a tile's first point, and after any other point. -/
theorem start (t : Fin cfg0.N) (h : t.val % 8 = 0) (y : S768x1024.Idx) :
    (outsAt0 m c t.val t.isLt).2 y = 0 + tMulAt (M := 768) (N := 1024) (K := 1024) (iblk m c 0 t) (iblk m c 1 t) y := by
  rw [outsAt0_A m c t h (by omega)]; frame_out
  exact (pay_apply _ _ _ y).trans (congrArg₂ (· + ·) (by pointwise [k0_pay1]) rfl)
theorem step (t : Fin cfg0.N) (h : ¬t.val % 8 = 0) (y : S768x1024.Idx) :
    (outsAt0 m c t.val t.isLt).2 y = (outsAt0 m c (t.val - 1) (Nat.lt_of_le_of_lt (Nat.sub_le _ _) t.isLt)).2 y
      + tMulAt (M := 768) (N := 1024) (K := 1024) (iblk m c 0 t) (iblk m c 1 t) y := by
  by_cases h1 : t.val % 8 = 7
  on_goal 1 => rw [outsAt0_C m c t h h1]; frame_out
  on_goal 2 => rw [outsAt0_B m c t h h1]; frame_out
  all_goals
    exact (congrArg (fun Z => k0_pay2 Z (iblk m c 0 t) (iblk m c 1 t) y) (Memref.IsWhole.read_unread _ _)).trans (pay_apply _ _ _ y)

/-- The array after the run is the product. -/
theorem final : (dats m 0 c).arrAt 2 cfg0.N = tMulAt (M := 768) (N := 2048) (K := 8192) (V m c main_arg0) (V m c main_arg1) := by
  refine (dats m 0 c).arrAt_eq_of_covers 2 _ (by decide +kernel) fun t hf y => ?_
  have ht := (idx t).2.2.2 hf
  rw [after0_2]; blk_simp
  refine Eq.trans (b := (outsAt0 m c t.val t.isLt).2 y) (by rw [outsAt0_C m c t (by omega) ht]; frame_out) ?_
  refine sum_blocks (fun n h => (outsAt0 m c n h).2) _ (start m c) (step m c) t ht y _ fun s k u l hu hl => ?_
  have hs := s.isLt
  unfold iblk
  generalize V m c = W
  refine congrArg₂ (· * ·) (congrArg (W main_arg0) (funext (Fin.forall_fin_two.mpr ⟨Fin.ext ?_, Fin.ext ?_⟩)))
    (congrArg (W main_arg1) (funext (Fin.forall_fin_two.mpr ⟨Fin.ext ?_, Fin.ext ?_⟩))) <;> blk_simp [idx u, idx t] <;> omega

end Cert.Kernel11Ideal.Prod

namespace Cert.Reference11Ideal.Prod
open Cert.Reference11Ideal Cert.Reference11Ideal.Read

/-- The reference's array is the same product. -/
theorem ref_eq (a : FVec Ideal S8192x768 .f32) (b : FVec Ideal S8192x2048 .bf16) :
    val_main_v4 (F := Ideal) a b = tMulAt (M := 768) (N := 2048) (K := 8192) a b := by
  funext i
  rw [val_main_v4_apply, val_main_v3_apply]
  refine Finset.sum_congr rfl fun k _ => ?_
  rw [val_main_v2_apply]
  exact (mul_comm (G := EReal) _ _).trans (congrArg₂ (· * ·) (congrArg a (funext (Fin.forall_fin_two.mpr ⟨rfl, rfl⟩))) (congrArg b (funext (Fin.forall_fin_two.mpr ⟨rfl, rfl⟩))))

end Cert.Reference11Ideal.Prod

namespace Cert.Proof
attribute [local instance] Cert.Kernel11Ideal.Gen.facts Cert.Reference11Ideal.Gen.facts

/-- The reference runs, keeps its arguments and leaves every semaphore at zero. -/
theorem reference11_frame : Cert.quiescent_Reference11Ideal := by
  intro m g _
  exact (θ_run _ _ _).mono (fun r h => ⟨fun c => (h c).2, sem_eq_zero_of_no_sems rfl r.2⟩) (Cert.Reference11Ideal.Value.run m g)

/-- The weight's gradient of the branch of width 768: the kernel and the reference end with equal results. -/
theorem product11 : Cert.algebraic_Kernel11Ideal_Reference11Ideal := by
  intro m g m' g' _ hagree
  refine ⟨_, Cert.Kernel11Ideal.Value.run_blocks m g, (θ_run _ _ _).mono (fun r h c => ⟨?_, (h c).2⟩) (Cert.Reference11Ideal.Value.run m' g')⟩
  refine (h c).1.trans ((Cert.Reference11Ideal.Read.val_main_v4_eq _ _).trans ((Cert.Reference11Ideal.Prod.ref_eq _ _).trans ?_))
  rw [(hagree c).1, (hagree c).2]
  exact (Cert.Kernel11Ideal.Prod.final m c).symm

end Cert.Proof

namespace Cert.Kernel14Ideal.Prod
open Cert.Kernel14Ideal Cert.Kernel14Ideal.Gen Cert.Kernel14Ideal.Value

variable (m : (ℓ : Loc nD τ sig) → Buf (Elt Ideal) ℓ) (c : Dev nD)

/-- The windows' blocks at every point, and the points that write back. -/
theorem idx : ∀ t : Fin cfg0.N, win0_0.index t = ![t.val % 8, 0] ∧ win0_1.index t = ![t.val % 8, t.val / 8] ∧ win0_2.index t = ![0, t.val / 8]
    ∧ (win0_2.flush t = true → t.val % 8 = 7) :=
  (by decide +kernel : ∀ t : Fin grid0.N, _)

/-- The stored tile at an entry: what the tile held plus the product of the two blocks. -/
theorem pay_apply (z : FVec Ideal S1024x1024 .f32) (a : FVec Ideal S1024x1024 .f32) (b : FVec Ideal S1024x1024 .bf16) (y : S1024x1024.Idx) :
    k0_pay2 (F := Ideal) z a b y = z y + tMulAt a b y := by
  unfold tMulAt; pointwise [k0_pay2]

/-- The scratch after a tile's first point, and after any other point. -/
theorem start (t : Fin cfg0.N) (h : t.val % 8 = 0) (y : S1024x1024.Idx) :
    (outsAt0 m c t.val t.isLt).2 y = 0 + tMulAt (M := 1024) (N := 1024) (K := 1024) (iblk m c 0 t) (iblk m c 1 t) y := by
  rw [outsAt0_A m c t h (by omega)]; frame_out
  exact (pay_apply _ _ _ y).trans (congrArg₂ (· + ·) (by pointwise [k0_pay1]) rfl)
theorem step (t : Fin cfg0.N) (h : ¬t.val % 8 = 0) (y : S1024x1024.Idx) :
    (outsAt0 m c t.val t.isLt).2 y = (outsAt0 m c (t.val - 1) (Nat.lt_of_le_of_lt (Nat.sub_le _ _) t.isLt)).2 y
      + tMulAt (M := 1024) (N := 1024) (K := 1024) (iblk m c 0 t) (iblk m c 1 t) y := by
  by_cases h1 : t.val % 8 = 7
  on_goal 1 => rw [outsAt0_C m c t h h1]; frame_out
  on_goal 2 => rw [outsAt0_B m c t h h1]; frame_out
  all_goals
    exact (congrArg (fun Z => k0_pay2 Z (iblk m c 0 t) (iblk m c 1 t) y) (Memref.IsWhole.read_unread _ _)).trans (pay_apply _ _ _ y)

/-- The array after the run is the product. -/
theorem final : (dats m 0 c).arrAt 2 cfg0.N = tMulAt (M := 1024) (N := 2048) (K := 8192) (V m c main_arg0) (V m c main_arg1) := by
  refine (dats m 0 c).arrAt_eq_of_covers 2 _ (by decide +kernel) fun t hf y => ?_
  have ht := (idx t).2.2.2 hf
  rw [after0_2]; blk_simp
  refine Eq.trans (b := (outsAt0 m c t.val t.isLt).2 y) (by rw [outsAt0_C m c t (by omega) ht]; frame_out) ?_
  refine sum_blocks (fun n h => (outsAt0 m c n h).2) _ (start m c) (step m c) t ht y _ fun s k u l hu hl => ?_
  have hs := s.isLt
  unfold iblk
  generalize V m c = W
  refine congrArg₂ (· * ·) (congrArg (W main_arg0) (funext (Fin.forall_fin_two.mpr ⟨Fin.ext ?_, Fin.ext ?_⟩)))
    (congrArg (W main_arg1) (funext (Fin.forall_fin_two.mpr ⟨Fin.ext ?_, Fin.ext ?_⟩))) <;> blk_simp [idx u, idx t] <;> omega

end Cert.Kernel14Ideal.Prod

namespace Cert.Reference14Ideal.Prod
open Cert.Reference14Ideal Cert.Reference14Ideal.Read

/-- The reference's array is the same product. -/
theorem ref_eq (a : FVec Ideal S8192x1024 .f32) (b : FVec Ideal S8192x2048 .bf16) :
    val_main_v4 (F := Ideal) a b = tMulAt (M := 1024) (N := 2048) (K := 8192) a b := by
  funext i
  rw [val_main_v4_apply, val_main_v3_apply]
  refine Finset.sum_congr rfl fun k _ => ?_
  rw [val_main_v2_apply]
  exact (mul_comm (G := EReal) _ _).trans (congrArg₂ (· * ·) (congrArg a (funext (Fin.forall_fin_two.mpr ⟨rfl, rfl⟩))) (congrArg b (funext (Fin.forall_fin_two.mpr ⟨rfl, rfl⟩))))

end Cert.Reference14Ideal.Prod

namespace Cert.Proof
attribute [local instance] Cert.Kernel14Ideal.Gen.facts Cert.Reference14Ideal.Gen.facts

/-- The reference runs, keeps its arguments and leaves every semaphore at zero. -/
theorem reference14_frame : Cert.quiescent_Reference14Ideal := by
  intro m g _
  exact (θ_run _ _ _).mono (fun r h => ⟨fun c => (h c).2, sem_eq_zero_of_no_sems rfl r.2⟩) (Cert.Reference14Ideal.Value.run m g)

/-- The weight's gradient of the branch of width 1024: the kernel and the reference end with equal results. -/
theorem product14 : Cert.algebraic_Kernel14Ideal_Reference14Ideal := by
  intro m g m' g' _ hagree
  refine ⟨_, Cert.Kernel14Ideal.Value.run_blocks m g, (θ_run _ _ _).mono (fun r h c => ⟨?_, (h c).2⟩) (Cert.Reference14Ideal.Value.run m' g')⟩
  refine (h c).1.trans ((Cert.Reference14Ideal.Read.val_main_v4_eq _ _).trans ((Cert.Reference14Ideal.Prod.ref_eq _ _).trans ?_))
  rw [(hagree c).1, (hagree c).2]
  exact (Cert.Kernel14Ideal.Prod.final m c).symm

end Cert.Proof

namespace Cert.Kernel17Ideal.Prod
open Cert.Kernel17Ideal Cert.Kernel17Ideal.Gen Cert.Kernel17Ideal.Value

variable (m : (ℓ : Loc nD τ sig) → Buf (Elt Ideal) ℓ) (c : Dev nD)

/-- The windows' blocks at every point, and the points that write back. -/
theorem idx : ∀ t : Fin cfg0.N, win0_0.index t = ![t.val % 8, 0] ∧ win0_1.index t = ![t.val % 8, t.val / 8] ∧ win0_2.index t = ![0, t.val / 8]
    ∧ (win0_2.flush t = true → t.val % 8 = 7) :=
  (by decide +kernel : ∀ t : Fin grid0.N, _)

/-- The stored tile at an entry: what the tile held plus the product of the two blocks. -/
theorem pay_apply (z : FVec Ideal S512x1024 .f32) (a : FVec Ideal S1024x512 .f32) (b : FVec Ideal S1024x1024 .bf16) (y : S512x1024.Idx) :
    k0_pay2 (F := Ideal) z a b y = z y + tMulAt a b y := by
  unfold tMulAt; pointwise [k0_pay2]

/-- The scratch after a tile's first point, and after any other point. -/
theorem start (t : Fin cfg0.N) (h : t.val % 8 = 0) (y : S512x1024.Idx) :
    (outsAt0 m c t.val t.isLt).2 y = 0 + tMulAt (M := 512) (N := 1024) (K := 1024) (iblk m c 0 t) (iblk m c 1 t) y := by
  rw [outsAt0_A m c t h (by omega)]; frame_out
  exact (pay_apply _ _ _ y).trans (congrArg₂ (· + ·) (by pointwise [k0_pay1]) rfl)
theorem step (t : Fin cfg0.N) (h : ¬t.val % 8 = 0) (y : S512x1024.Idx) :
    (outsAt0 m c t.val t.isLt).2 y = (outsAt0 m c (t.val - 1) (Nat.lt_of_le_of_lt (Nat.sub_le _ _) t.isLt)).2 y
      + tMulAt (M := 512) (N := 1024) (K := 1024) (iblk m c 0 t) (iblk m c 1 t) y := by
  by_cases h1 : t.val % 8 = 7
  on_goal 1 => rw [outsAt0_C m c t h h1]; frame_out
  on_goal 2 => rw [outsAt0_B m c t h h1]; frame_out
  all_goals
    exact (congrArg (fun Z => k0_pay2 Z (iblk m c 0 t) (iblk m c 1 t) y) (Memref.IsWhole.read_unread _ _)).trans (pay_apply _ _ _ y)

/-- The array after the run is the product. -/
theorem final : (dats m 0 c).arrAt 2 cfg0.N = tMulAt (M := 512) (N := 2048) (K := 8192) (V m c main_arg0) (V m c main_arg1) := by
  refine (dats m 0 c).arrAt_eq_of_covers 2 _ (by decide +kernel) fun t hf y => ?_
  have ht := (idx t).2.2.2 hf
  rw [after0_2]; blk_simp
  refine Eq.trans (b := (outsAt0 m c t.val t.isLt).2 y) (by rw [outsAt0_C m c t (by omega) ht]; frame_out) ?_
  refine sum_blocks (fun n h => (outsAt0 m c n h).2) _ (start m c) (step m c) t ht y _ fun s k u l hu hl => ?_
  have hs := s.isLt
  unfold iblk
  generalize V m c = W
  refine congrArg₂ (· * ·) (congrArg (W main_arg0) (funext (Fin.forall_fin_two.mpr ⟨Fin.ext ?_, Fin.ext ?_⟩)))
    (congrArg (W main_arg1) (funext (Fin.forall_fin_two.mpr ⟨Fin.ext ?_, Fin.ext ?_⟩))) <;> blk_simp [idx u, idx t] <;> omega

end Cert.Kernel17Ideal.Prod

namespace Cert.Reference17Ideal.Prod
open Cert.Reference17Ideal Cert.Reference17Ideal.Read

/-- The reference's array is the same product. -/
theorem ref_eq (a : FVec Ideal S8192x512 .f32) (b : FVec Ideal S8192x2048 .bf16) :
    val_main_v4 (F := Ideal) a b = tMulAt (M := 512) (N := 2048) (K := 8192) a b := by
  funext i
  rw [val_main_v4_apply, val_main_v3_apply]
  refine Finset.sum_congr rfl fun k _ => ?_
  rw [val_main_v2_apply]
  exact (mul_comm (G := EReal) _ _).trans (congrArg₂ (· * ·) (congrArg a (funext (Fin.forall_fin_two.mpr ⟨rfl, rfl⟩))) (congrArg b (funext (Fin.forall_fin_two.mpr ⟨rfl, rfl⟩))))

end Cert.Reference17Ideal.Prod

namespace Cert.Proof
attribute [local instance] Cert.Kernel17Ideal.Gen.facts Cert.Reference17Ideal.Gen.facts

/-- The reference runs, keeps its arguments and leaves every semaphore at zero. -/
theorem reference17_frame : Cert.quiescent_Reference17Ideal := by
  intro m g _
  exact (θ_run _ _ _).mono (fun r h => ⟨fun c => (h c).2, sem_eq_zero_of_no_sems rfl r.2⟩) (Cert.Reference17Ideal.Value.run m g)

/-- The weight's gradient of the branch of width 512: the kernel and the reference end with equal results. -/
theorem product17 : Cert.algebraic_Kernel17Ideal_Reference17Ideal := by
  intro m g m' g' _ hagree
  refine ⟨_, Cert.Kernel17Ideal.Value.run_blocks m g, (θ_run _ _ _).mono (fun r h c => ⟨?_, (h c).2⟩) (Cert.Reference17Ideal.Value.run m' g')⟩
  refine (h c).1.trans ((Cert.Reference17Ideal.Read.val_main_v4_eq _ _).trans ((Cert.Reference17Ideal.Prod.ref_eq _ _).trans ?_))
  rw [(hagree c).1, (hagree c).2]
  exact (Cert.Kernel17Ideal.Prod.final m c).symm

end Cert.Proof

namespace Cert.Kernel20Ideal.Prod
open Cert.Kernel20Ideal Cert.Kernel20Ideal.Gen Cert.Kernel20Ideal.Value

variable (m : (ℓ : Loc nD τ sig) → Buf (Elt Ideal) ℓ) (c : Dev nD)

/-- The windows' blocks at every point. -/
theorem idx : ∀ t : Fin cfg0.N, win0_0.index t = ![0, t.val] ∧ win0_1.index t = ![0, 0] ∧ win0_2.index t = ![t.val, 0] :=
  (by decide +kernel : ∀ t : Fin grid0.N, _)

/-- The stored tile at an entry: what the tile held plus the product of the two blocks. -/
theorem pay_apply (z : FVec Ideal S1024x1024 .f32) (a : FVec Ideal S256x1024 .bf16) (b : FVec Ideal S256x1024 .f32) (y : S1024x1024.Idx) :
    k0_pay2 (F := Ideal) z a b y = z y + tMulAt a b y := by
  unfold tMulAt; pointwise [k0_pay2]

/-- What a point leaves in its tile. -/
theorem out (t : Fin cfg0.N) (y : S1024x1024.Idx) : (outsAt0 m c t y : EReal) = tMulAt (M := 1024) (N := 1024) (K := 256) (iblk m c 0 t) (iblk m c 1 t) y := by
  unfold outsAt0; frame_out
  exact (pay_apply _ _ _ y).trans ((congrArg₂ (· + ·) (by pointwise [k0_pay1]) rfl).trans (zero_add _))

/-- The array after the run is the product. -/
theorem final : (dats m 0 c).arrAt 2 cfg0.N = tMulAt (M := 2048) (N := 1024) (K := 256) (V m c main_arg0) (V m c main_arg1) := by
  refine (dats m 0 c).arrAt_eq_of_covers 2 _ (by decide +kernel) fun t hf y => ?_
  rw [after0_2]; blk_simp
  refine (out m c t y).trans (Finset.sum_congr rfl fun k _ => ?_)
  unfold iblk
  generalize V m c = W
  refine congrArg₂ (· * ·) (congrArg (W main_arg0) (funext (Fin.forall_fin_two.mpr ⟨Fin.ext ?_, Fin.ext ?_⟩)))
    (congrArg (W main_arg1) (funext (Fin.forall_fin_two.mpr ⟨Fin.ext ?_, Fin.ext ?_⟩))) <;> blk_simp [idx t]

end Cert.Kernel20Ideal.Prod

namespace Cert.Reference20Ideal.Prod
open Cert.Reference20Ideal Cert.Reference20Ideal.Read

/-- The reference's array is the same product. -/
theorem ref_eq (a : FVec Ideal S256x2048 .bf16) (b : FVec Ideal S256x1024 .f32) :
    val_main_v4 (F := Ideal) a b = tMulAt (M := 2048) (N := 1024) (K := 256) a b := by
  funext i
  rw [val_main_v4_apply, val_main_v3_apply]
  refine Finset.sum_congr rfl fun k _ => ?_
  rw [val_main_v1_apply]
  exact (mul_comm (G := EReal) _ _).trans (congrArg₂ (· * ·) (congrArg a (funext (Fin.forall_fin_two.mpr ⟨rfl, rfl⟩))) (congrArg b (funext (Fin.forall_fin_two.mpr ⟨rfl, rfl⟩))))

end Cert.Reference20Ideal.Prod

namespace Cert.Proof
attribute [local instance] Cert.Kernel20Ideal.Gen.facts Cert.Reference20Ideal.Gen.facts

/-- The reference runs, keeps its arguments and leaves every semaphore at zero. -/
theorem reference20_frame : Cert.quiescent_Reference20Ideal := by
  intro m g _
  exact (θ_run _ _ _).mono (fun r h => ⟨fun c => (h c).2, sem_eq_zero_of_no_sems rfl r.2⟩) (Cert.Reference20Ideal.Value.run m g)

/-- The memory product's gradient at its weight: the kernel and the reference end with equal results. -/
theorem product20 : Cert.algebraic_Kernel20Ideal_Reference20Ideal := by
  intro m g m' g' _ hagree
  refine ⟨_, Cert.Kernel20Ideal.Value.run_blocks m g, (θ_run _ _ _).mono (fun r h c => ⟨?_, (h c).2⟩) (Cert.Reference20Ideal.Value.run m' g')⟩
  refine (h c).1.trans ((Cert.Reference20Ideal.Read.val_main_v4_eq _ _).trans ((Cert.Reference20Ideal.Prod.ref_eq _ _).trans ?_))
  rw [(hagree c).1, (hagree c).2]
  exact (Cert.Kernel20Ideal.Prod.final m c).symm

end Cert.Proof
end
-- ==== Proof.Mul.lean ====
/- Products of the forward pass: the input product, the output product with its residual, the branch products and the memory product. -/
module

public import proofs.«01_k».proof.Proof.Tiles
public import proofs.«01_k».proof.Proof.Gen.Kernel4Ideal.Value
public import proofs.«01_k».proof.Proof.Gen.Reference4Ideal.Read
public import proofs.«01_k».proof.Proof.Gen.Kernel7Ideal.Value
public import proofs.«01_k».proof.Proof.Gen.Reference7Ideal.Read
public import proofs.«01_k».proof.Proof.Gen.Kernel9Ideal.Value
public import proofs.«01_k».proof.Proof.Gen.Reference9Ideal.Read
public import proofs.«01_k».proof.Proof.Gen.Kernel12Ideal.Value
public import proofs.«01_k».proof.Proof.Gen.Reference12Ideal.Read
public import proofs.«01_k».proof.Proof.Gen.Kernel15Ideal.Value
public import proofs.«01_k».proof.Proof.Gen.Reference15Ideal.Read
public import proofs.«01_k».proof.Proof.Gen.Kernel18Ideal.Value
public import proofs.«01_k».proof.Proof.Gen.Reference18Ideal.Read
public import Idealize.ShloMosaic.Lib.WritesUnit
public import Idealize.ShloMosaic.Lib.Quiescent
public import proofs.«01_k».proof.Defs

@[expose] public section

set_option maxRecDepth 16384

noncomputable section

open Idealize.ShloMosaic Idealize.ShloMosaic.TcCoe Idealize.SL.Sem
open Cert.Tiles

namespace Cert.Kernel4Ideal.Prod
open Cert.Kernel4Ideal Cert.Kernel4Ideal.Gen Cert.Kernel4Ideal.Value

variable (m : (ℓ : Loc nD τ sig) → Buf (Elt Ideal) ℓ) (c : Dev nD)

/-- The windows' blocks at every point. -/
theorem idx : ∀ t : Fin cfg0.N, win0_0.index t = ![t.val / 11, 0] ∧ win0_1.index t = ![0, t.val % 11] ∧ win0_2.index t = ![t.val / 11, t.val % 11] :=
  (by decide +kernel : ∀ t : Fin grid0.N, _)

/-- The stored tile at an entry: what the tile held plus the product of the two blocks. -/
theorem pay_apply (z : FVec Ideal S1024x1536 .f32) (a : FVec Ideal S1024x2048 .bf16) (b : FVec Ideal S2048x1536 .bf16) (y : S1024x1536.Idx) :
    k0_pay2 (F := Ideal) z a b y = z y + mulAt a b y := by
  unfold mulAt; pointwise [k0_pay2]

/-- What a point leaves in its tile. -/
theorem out (t : Fin cfg0.N) (y : S1024x1536.Idx) : (outsAt0 m c t y : EReal) = mulAt (M := 1024) (N := 1536) (K := 2048) (iblk m c 0 t) (iblk m c 1 t) y := by
  unfold outsAt0; frame_out
  exact (pay_apply _ _ _ y).trans ((congrArg₂ (· + ·) (by pointwise [k0_pay1]) rfl).trans (zero_add _))

/-- The array after the run is the product. -/
theorem final : (dats m 0 c).arrAt 2 cfg0.N = mulAt (M := 8192) (N := 16896) (K := 2048) (m ((c.tc : Thread nD τ).loc main_arg0)) (m ((c.tc : Thread nD τ).loc main_arg1)) := by
  rw [← V_main_arg0 m c, ← V_main_arg1 m c]
  refine (dats m 0 c).arrAt_eq_of_covers 2 _ (by decide +kernel) fun t hf y => ?_
  rw [after0_2]; blk_simp
  refine (out m c t y).trans (Finset.sum_congr rfl fun k _ => ?_)
  unfold iblk
  generalize V m c = W
  refine congrArg₂ (· * ·) (congrArg (W main_arg0) (funext (Fin.forall_fin_two.mpr ⟨Fin.ext ?_, Fin.ext ?_⟩)))
    (congrArg (W main_arg1) (funext (Fin.forall_fin_two.mpr ⟨Fin.ext ?_, Fin.ext ?_⟩))) <;> blk_simp [idx t]

end Cert.Kernel4Ideal.Prod

namespace Cert.Reference4Ideal.Prod
open Cert.Reference4Ideal Cert.Reference4Ideal.Read

/-- The reference's array is the same product. -/
theorem ref_eq (a : FVec Ideal S8192x2048 .bf16) (b : FVec Ideal S2048x16896 .bf16) :
    val_main_v2 (F := Ideal) a b = mulAt (M := 8192) (N := 16896) (K := 2048) a b := by
  funext i
  rw [val_main_v2_apply]
  refine Finset.sum_congr rfl fun k _ => ?_
  rw [val_main_v0_apply, val_main_v1_apply]
  exact congrArg₂ (· * ·) (congrArg a (funext (Fin.forall_fin_two.mpr ⟨rfl, rfl⟩))) (congrArg b (funext (Fin.forall_fin_two.mpr ⟨rfl, rfl⟩)))

end Cert.Reference4Ideal.Prod

namespace Cert.Proof
attribute [local instance] Cert.Kernel4Ideal.Gen.facts Cert.Reference4Ideal.Gen.facts

/-- The reference runs, keeps its arguments and leaves every semaphore at zero. -/
theorem reference4_frame : Cert.quiescent_Reference4Ideal := by
  intro m g _
  exact (θ_run _ _ _).mono (fun r h => ⟨fun c => (h c).2, sem_eq_zero_of_no_sems rfl r.2⟩) (Cert.Reference4Ideal.Value.run m g)

/-- The input product: the kernel and the reference end with equal results. -/
theorem product4 : Cert.algebraic_Kernel4Ideal_Reference4Ideal := by
  intro m g m' g' _ hagree
  refine ⟨_, Cert.Kernel4Ideal.Value.run_blocks m g, (θ_run _ _ _).mono (fun r h c => ⟨?_, (h c).2⟩) (Cert.Reference4Ideal.Value.run m' g')⟩
  refine (h c).1.trans ((Cert.Reference4Ideal.Read.val_main_v2_eq _ _).trans ((Cert.Reference4Ideal.Prod.ref_eq _ _).trans ?_))
  rw [(hagree c).1, (hagree c).2]
  exact (Cert.Kernel4Ideal.Prod.final m c).symm

end Cert.Proof

namespace Cert.Kernel7Ideal.Prod
open Cert.Kernel7Ideal Cert.Kernel7Ideal.Gen Cert.Kernel7Ideal.Value

variable (m : (ℓ : Loc nD τ sig) → Buf (Elt Ideal) ℓ) (c : Dev nD)

/-- The windows' blocks at every point, and the points that write back. -/
theorem idx : ∀ t : Fin cfg0.N, win0_0.index t = ![t.val / 4, t.val % 2] ∧ win0_1.index t = ![t.val % 2, t.val / 2 % 2] ∧ win0_2.index t = ![t.val / 4, t.val / 2 % 2] ∧ win0_3.index t = ![t.val / 4, t.val / 2 % 2]
    ∧ (win0_3.flush t = true → t.val % 2 = 1) :=
  (by decide +kernel : ∀ t : Fin grid0.N, _)

/-- The stored tile at an entry: what the tile held plus the product of the two blocks. -/
theorem pay_apply (z : FVec Ideal S1024x1024 .f32) (a : FVec Ideal S1024x1024 .bf16) (b : FVec Ideal S1024x1024 .bf16) (y : S1024x1024.Idx) :
    k0_pay2 (F := Ideal) z a b y = z y + mulAt a b y := by
  unfold mulAt; pointwise [k0_pay2]

/-- The result's tile at an entry: the summed tile plus the residual's block. -/
theorem end_apply (z r : FVec Ideal S1024x1024 .f32) (y : S1024x1024.Idx) : (k0_pay3 (F := Ideal) z r y : EReal) = z y + r y := by
  pointwise [k0_pay3]

/-- The scratch after a tile's first point, and after any other point. -/
theorem start (t : Fin cfg0.N) (h : t.val % 2 = 0) (y : S1024x1024.Idx) :
    (outsAt0 m c t.val t.isLt).2 y = 0 + mulAt (M := 1024) (N := 1024) (K := 1024) (iblk m c 0 t) (iblk m c 1 t) y := by
  rw [outsAt0_A m c t h (by omega)]; frame_out
  exact (pay_apply _ _ _ y).trans (congrArg₂ (· + ·) (by pointwise [k0_pay1]) rfl)
theorem step (t : Fin cfg0.N) (h : ¬t.val % 2 = 0) (y : S1024x1024.Idx) :
    (outsAt0 m c t.val t.isLt).2 y = (outsAt0 m c (t.val - 1) (Nat.lt_of_le_of_lt (Nat.sub_le _ _) t.isLt)).2 y
      + mulAt (M := 1024) (N := 1024) (K := 1024) (iblk m c 0 t) (iblk m c 1 t) y := by
  rw [outsAt0_B m c t h (by omega)]; frame_out
  exact (congrArg (fun Z => k0_pay2 Z (iblk m c 0 t) (iblk m c 1 t) y) (Memref.IsWhole.read_unread _ _)).trans (pay_apply _ _ _ y)

/-- The array after the run is the product plus the residual. -/
theorem final : (dats m 0 c).arrAt 3 cfg0.N = fun i => (mulAt (M := 8192) (N := 2048) (K := 2048) (m ((c.tc : Thread nD τ).loc main_arg0)) (m ((c.tc : Thread nD τ).loc main_arg1)) i + (show Arr 8192 2048 from m ((c.tc : Thread nD τ).loc main_arg2)) i : EReal) := by
  rw [← V_main_arg0 m c, ← V_main_arg1 m c, ← V_main_arg2 m c]
  refine (dats m 0 c).arrAt_eq_of_covers 3 _ (by decide +kernel) fun t hf y => ?_
  have ht := (idx t).2.2.2.2 hf
  rw [after0_3]; blk_simp
  refine Eq.trans (b := ((outsAt0 m c t.val t.isLt).2 y + (show Arr 1024 1024 from iblk m c 2 t) y : EReal)) ?_ (congrArg₂ (· + ·) ?_ ?_)
  · rw [outsAt0_B m c t (by omega) ht]; frame_out
    exact end_apply _ _ y
  on_goal 2 =>
    unfold iblk
    generalize V m c = W
    exact congrArg (W main_arg2) (funext (Fin.forall_fin_two.mpr ⟨Fin.ext (by blk_simp [idx t]), Fin.ext (by blk_simp [idx t])⟩))
  refine sum_blocks (fun n h => (outsAt0 m c n h).2) _ (start m c) (step m c) t ht y _ fun s k u l hu hl => ?_
  have hs := s.isLt
  unfold iblk
  generalize V m c = W
  refine congrArg₂ (· * ·) (congrArg (W main_arg0) (funext (Fin.forall_fin_two.mpr ⟨Fin.ext ?_, Fin.ext ?_⟩)))
    (congrArg (W main_arg1) (funext (Fin.forall_fin_two.mpr ⟨Fin.ext ?_, Fin.ext ?_⟩))) <;> blk_simp [idx u, idx t] <;> omega

end Cert.Kernel7Ideal.Prod

namespace Cert.Reference7Ideal.Prod
open Cert.Reference7Ideal Cert.Reference7Ideal.Read

/-- The reference's array is the same sum. -/
theorem ref_eq (a : FVec Ideal S8192x2048 .bf16) (b : FVec Ideal S2048x2048 .bf16) (r : FVec Ideal S8192x2048 .f32) :
    val_main_v3 (F := Ideal) a b r = fun i => (mulAt (M := 8192) (N := 2048) (K := 2048) a b i + r i : EReal) := by
  funext i
  rw [val_main_v3_apply, val_main_v2_apply]
  refine (add_comm (G := EReal) _ _).trans (congrArg₂ (· + ·) (Finset.sum_congr rfl fun k _ => ?_) rfl)
  rw [val_main_v0_apply, val_main_v1_apply]
  exact congrArg₂ (· * ·) (congrArg a (funext (Fin.forall_fin_two.mpr ⟨rfl, rfl⟩))) (congrArg b (funext (Fin.forall_fin_two.mpr ⟨rfl, rfl⟩)))

end Cert.Reference7Ideal.Prod

namespace Cert.Proof
attribute [local instance] Cert.Kernel7Ideal.Gen.facts Cert.Reference7Ideal.Gen.facts

/-- The reference runs, keeps its arguments and leaves every semaphore at zero. -/
theorem reference7_frame : Cert.quiescent_Reference7Ideal := by
  intro m g _
  exact (θ_run _ _ _).mono (fun r h => ⟨fun c => (h c).2, sem_eq_zero_of_no_sems rfl r.2⟩) (Cert.Reference7Ideal.Value.run m g)

/-- The output product with its residual: the kernel and the reference end with equal results. -/
theorem product7 : Cert.algebraic_Kernel7Ideal_Reference7Ideal := by
  intro m g m' g' _ hagree
  refine ⟨_, Cert.Kernel7Ideal.Value.run_blocks m g, (θ_run _ _ _).mono (fun r h c => ⟨?_, (h c).2⟩) (Cert.Reference7Ideal.Value.run m' g')⟩
  refine (h c).1.trans ((Cert.Reference7Ideal.Read.val_main_v3_eq _ _ _).trans ((Cert.Reference7Ideal.Prod.ref_eq _ _ _).trans ?_))
  rw [(hagree c).1, (hagree c).2.1, (hagree c).2.2]
  exact (Cert.Kernel7Ideal.Prod.final m c).symm

end Cert.Proof

namespace Cert.Kernel9Ideal.Prod
open Cert.Kernel9Ideal Cert.Kernel9Ideal.Gen Cert.Kernel9Ideal.Value

variable (m : (ℓ : Loc nD τ sig) → Buf (Elt Ideal) ℓ) (c : Dev nD)

/-- The windows' blocks at every point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The stored tile at an entry: what the tile held plus the product of the two blocks. -/
theorem pay_apply (z : FVec Ideal S1024x1024 .f32) (a : FVec Ideal S1024x768 .f32) (b : FVec Ideal S768x1024 .bf16) (y : S1024x1024.Idx) :
    k0_pay2 (F := Ideal) z a b y = z y + mulAt a b y := by
  unfold mulAt; pointwise [k0_pay2]

/-- What a point leaves in its tile. -/
theorem out (t : Fin cfg0.N) (y : S1024x1024.Idx) : (outsAt0 m c t y : EReal) = mulAt (M := 1024) (N := 1024) (K := 768) (iblk m c 0 t) (iblk m c 1 t) y := by
  unfold outsAt0; frame_out
  exact (pay_apply _ _ _ y).trans ((congrArg₂ (· + ·) (by pointwise [k0_pay1]) rfl).trans (zero_add _))

/-- The array after the run is the product. -/
theorem final : (dats m 0 c).arrAt 2 cfg0.N = mulAt (M := 8192) (N := 2048) (K := 768) (m ((c.tc : Thread nD τ).loc main_arg0)) (m ((c.tc : Thread nD τ).loc main_arg1)) := by
  rw [← V_main_arg0 m c, ← V_main_arg1 m c]
  refine (dats m 0 c).arrAt_eq_of_covers 2 _ (by decide +kernel) fun t hf y => ?_
  rw [after0_2]; blk_simp
  refine (out m c t y).trans (Finset.sum_congr rfl fun k _ => ?_)
  unfold iblk
  generalize V m c = W
  refine congrArg₂ (· * ·) (congrArg (W main_arg0) (funext (Fin.forall_fin_two.mpr ⟨Fin.ext ?_, Fin.ext ?_⟩)))
    (congrArg (W main_arg1) (funext (Fin.forall_fin_two.mpr ⟨Fin.ext ?_, Fin.ext ?_⟩))) <;> blk_simp [idx t]

end Cert.Kernel9Ideal.Prod

namespace Cert.Reference9Ideal.Prod
open Cert.Reference9Ideal Cert.Reference9Ideal.Read

/-- The reference's array is the same product. -/
theorem ref_eq (a : FVec Ideal S8192x768 .f32) (b : FVec Ideal S768x2048 .bf16) :
    val_main_v2 (F := Ideal) a b = mulAt (M := 8192) (N := 2048) (K := 768) a b := by
  funext i
  rw [val_main_v2_apply]
  refine (val_main_v1_apply a b i).trans ?_
  refine Finset.sum_congr rfl fun k _ => ?_
  rw [val_main_v0_apply]
  exact congrArg₂ (· * ·) (congrArg a (funext (Fin.forall_fin_two.mpr ⟨rfl, rfl⟩))) (congrArg b (funext (Fin.forall_fin_two.mpr ⟨rfl, rfl⟩)))

end Cert.Reference9Ideal.Prod

namespace Cert.Proof
attribute [local instance] Cert.Kernel9Ideal.Gen.facts Cert.Reference9Ideal.Gen.facts

/-- The reference runs, keeps its arguments and leaves every semaphore at zero. -/
theorem reference9_frame : Cert.quiescent_Reference9Ideal := by
  intro m g _
  exact (θ_run _ _ _).mono (fun r h => ⟨fun c => (h c).2, sem_eq_zero_of_no_sems rfl r.2⟩) (Cert.Reference9Ideal.Value.run m g)

/-- The product of the branch of width 768: the kernel and the reference end with equal results. -/
theorem product9 : Cert.algebraic_Kernel9Ideal_Reference9Ideal := by
  intro m g m' g' _ hagree
  refine ⟨_, Cert.Kernel9Ideal.Value.run_blocks m g, (θ_run _ _ _).mono (fun r h c => ⟨?_, (h c).2⟩) (Cert.Reference9Ideal.Value.run m' g')⟩
  refine (h c).1.trans ((Cert.Reference9Ideal.Read.val_main_v2_eq _ _).trans ((Cert.Reference9Ideal.Prod.ref_eq _ _).trans ?_))
  rw [(hagree c).1, (hagree c).2]
  exact (Cert.Kernel9Ideal.Prod.final m c).symm

end Cert.Proof

namespace Cert.Kernel12Ideal.Prod
open Cert.Kernel12Ideal Cert.Kernel12Ideal.Gen Cert.Kernel12Ideal.Value

variable (m : (ℓ : Loc nD τ sig) → Buf (Elt Ideal) ℓ) (c : Dev nD)

/-- The windows' blocks at every point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The stored tile at an entry: what the tile held plus the product of the two blocks. -/
theorem pay_apply (z : FVec Ideal S1024x1024 .f32) (a : FVec Ideal S1024x1024 .f32) (b : FVec Ideal S1024x1024 .bf16) (y : S1024x1024.Idx) :
    k0_pay2 (F := Ideal) z a b y = z y + mulAt a b y := by
  unfold mulAt; pointwise [k0_pay2]

/-- What a point leaves in its tile. -/
theorem out (t : Fin cfg0.N) (y : S1024x1024.Idx) : (outsAt0 m c t y : EReal) = mulAt (M := 1024) (N := 1024) (K := 1024) (iblk m c 0 t) (iblk m c 1 t) y := by
  unfold outsAt0; frame_out
  exact (pay_apply _ _ _ y).trans ((congrArg₂ (· + ·) (by pointwise [k0_pay1]) rfl).trans (zero_add _))

/-- The array after the run is the product. -/
theorem final : (dats m 0 c).arrAt 2 cfg0.N = mulAt (M := 8192) (N := 2048) (K := 1024) (m ((c.tc : Thread nD τ).loc main_arg0)) (m ((c.tc : Thread nD τ).loc main_arg1)) := by
  rw [← V_main_arg0 m c, ← V_main_arg1 m c]
  refine (dats m 0 c).arrAt_eq_of_covers 2 _ (by decide +kernel) fun t hf y => ?_
  rw [after0_2]; blk_simp
  refine (out m c t y).trans (Finset.sum_congr rfl fun k _ => ?_)
  unfold iblk
  generalize V m c = W
  refine congrArg₂ (· * ·) (congrArg (W main_arg0) (funext (Fin.forall_fin_two.mpr ⟨Fin.ext ?_, Fin.ext ?_⟩)))
    (congrArg (W main_arg1) (funext (Fin.forall_fin_two.mpr ⟨Fin.ext ?_, Fin.ext ?_⟩))) <;> blk_simp [idx t]

end Cert.Kernel12Ideal.Prod

namespace Cert.Reference12Ideal.Prod
open Cert.Reference12Ideal Cert.Reference12Ideal.Read

/-- The reference's array is the same product. -/
theorem ref_eq (a : FVec Ideal S8192x1024 .f32) (b : FVec Ideal S1024x2048 .bf16) :
    val_main_v2 (F := Ideal) a b = mulAt (M := 8192) (N := 2048) (K := 1024) a b := by
  funext i
  rw [val_main_v2_apply]
  refine (val_main_v1_apply a b i).trans ?_
  refine Finset.sum_congr rfl fun k _ => ?_
  rw [val_main_v0_apply]
  exact congrArg₂ (· * ·) (congrArg a (funext (Fin.forall_fin_two.mpr ⟨rfl, rfl⟩))) (congrArg b (funext (Fin.forall_fin_two.mpr ⟨rfl, rfl⟩)))

end Cert.Reference12Ideal.Prod

namespace Cert.Proof
attribute [local instance] Cert.Kernel12Ideal.Gen.facts Cert.Reference12Ideal.Gen.facts

/-- The reference runs, keeps its arguments and leaves every semaphore at zero. -/
theorem reference12_frame : Cert.quiescent_Reference12Ideal := by
  intro m g _
  exact (θ_run _ _ _).mono (fun r h => ⟨fun c => (h c).2, sem_eq_zero_of_no_sems rfl r.2⟩) (Cert.Reference12Ideal.Value.run m g)

/-- The product of the branch of width 1024: the kernel and the reference end with equal results. -/
theorem product12 : Cert.algebraic_Kernel12Ideal_Reference12Ideal := by
  intro m g m' g' _ hagree
  refine ⟨_, Cert.Kernel12Ideal.Value.run_blocks m g, (θ_run _ _ _).mono (fun r h c => ⟨?_, (h c).2⟩) (Cert.Reference12Ideal.Value.run m' g')⟩
  refine (h c).1.trans ((Cert.Reference12Ideal.Read.val_main_v2_eq _ _).trans ((Cert.Reference12Ideal.Prod.ref_eq _ _).trans ?_))
  rw [(hagree c).1, (hagree c).2]
  exact (Cert.Kernel12Ideal.Prod.final m c).symm

end Cert.Proof

namespace Cert.Kernel15Ideal.Prod
open Cert.Kernel15Ideal Cert.Kernel15Ideal.Gen Cert.Kernel15Ideal.Value

variable (m : (ℓ : Loc nD τ sig) → Buf (Elt Ideal) ℓ) (c : Dev nD)

/-- The windows' blocks at every point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The stored tile at an entry: what the tile held plus the product of the two blocks. -/
theorem pay_apply (z : FVec Ideal S1024x1024 .f32) (a : FVec Ideal S1024x512 .f32) (b : FVec Ideal S512x1024 .bf16) (y : S1024x1024.Idx) :
    k0_pay2 (F := Ideal) z a b y = z y + mulAt a b y := by
  unfold mulAt; pointwise [k0_pay2]

/-- What a point leaves in its tile. -/
theorem out (t : Fin cfg0.N) (y : S1024x1024.Idx) : (outsAt0 m c t y : EReal) = mulAt (M := 1024) (N := 1024) (K := 512) (iblk m c 0 t) (iblk m c 1 t) y := by
  unfold outsAt0; frame_out
  exact (pay_apply _ _ _ y).trans ((congrArg₂ (· + ·) (by pointwise [k0_pay1]) rfl).trans (zero_add _))

/-- The array after the run is the product. -/
theorem final : (dats m 0 c).arrAt 2 cfg0.N = mulAt (M := 8192) (N := 2048) (K := 512) (m ((c.tc : Thread nD τ).loc main_arg0)) (m ((c.tc : Thread nD τ).loc main_arg1)) := by
  rw [← V_main_arg0 m c, ← V_main_arg1 m c]
  refine (dats m 0 c).arrAt_eq_of_covers 2 _ (by decide +kernel) fun t hf y => ?_
  rw [after0_2]; blk_simp
  refine (out m c t y).trans (Finset.sum_congr rfl fun k _ => ?_)
  unfold iblk
  generalize V m c = W
  refine congrArg₂ (· * ·) (congrArg (W main_arg0) (funext (Fin.forall_fin_two.mpr ⟨Fin.ext ?_, Fin.ext ?_⟩)))
    (congrArg (W main_arg1) (funext (Fin.forall_fin_two.mpr ⟨Fin.ext ?_, Fin.ext ?_⟩))) <;> blk_simp [idx t]

end Cert.Kernel15Ideal.Prod

namespace Cert.Reference15Ideal.Prod
open Cert.Reference15Ideal Cert.Reference15Ideal.Read

/-- The reference's array is the same product. -/
theorem ref_eq (a : FVec Ideal S8192x512 .f32) (b : FVec Ideal S512x2048 .bf16) :
    val_main_v2 (F := Ideal) a b = mulAt (M := 8192) (N := 2048) (K := 512) a b := by
  funext i
  rw [val_main_v2_apply]
  refine (val_main_v1_apply a b i).trans ?_
  refine Finset.sum_congr rfl fun k _ => ?_
  rw [val_main_v0_apply]
  exact congrArg₂ (· * ·) (congrArg a (funext (Fin.forall_fin_two.mpr ⟨rfl, rfl⟩))) (congrArg b (funext (Fin.forall_fin_two.mpr ⟨rfl, rfl⟩)))

end Cert.Reference15Ideal.Prod

namespace Cert.Proof
attribute [local instance] Cert.Kernel15Ideal.Gen.facts Cert.Reference15Ideal.Gen.facts

/-- The reference runs, keeps its arguments and leaves every semaphore at zero. -/
theorem reference15_frame : Cert.quiescent_Reference15Ideal := by
  intro m g _
  exact (θ_run _ _ _).mono (fun r h => ⟨fun c => (h c).2, sem_eq_zero_of_no_sems rfl r.2⟩) (Cert.Reference15Ideal.Value.run m g)

/-- The product of the branch of width 512: the kernel and the reference end with equal results. -/
theorem product15 : Cert.algebraic_Kernel15Ideal_Reference15Ideal := by
  intro m g m' g' _ hagree
  refine ⟨_, Cert.Kernel15Ideal.Value.run_blocks m g, (θ_run _ _ _).mono (fun r h c => ⟨?_, (h c).2⟩) (Cert.Reference15Ideal.Value.run m' g')⟩
  refine (h c).1.trans ((Cert.Reference15Ideal.Read.val_main_v2_eq _ _).trans ((Cert.Reference15Ideal.Prod.ref_eq _ _).trans ?_))
  rw [(hagree c).1, (hagree c).2]
  exact (Cert.Kernel15Ideal.Prod.final m c).symm

end Cert.Proof

namespace Cert.Kernel18Ideal.Prod
open Cert.Kernel18Ideal Cert.Kernel18Ideal.Gen Cert.Kernel18Ideal.Value

variable (m : (ℓ : Loc nD τ sig) → Buf (Elt Ideal) ℓ) (c : Dev nD)

/-- The windows' blocks at every point, and the points that write back. -/
theorem idx : ∀ t : Fin cfg0.N, win0_0.index t = ![0, t.val % 2] ∧ win0_1.index t = ![t.val % 2, 0] ∧ win0_2.index t = ![0, 0]
    ∧ (win0_2.flush t = true → t.val % 2 = 1) :=
  (by decide +kernel : ∀ t : Fin grid0.N, _)

/-- The stored tile at an entry: what the tile held plus the product of the two blocks. -/
theorem pay_apply (z : FVec Ideal S256x1024 .f32) (a : FVec Ideal S256x1024 .bf16) (b : FVec Ideal S1024x1024 .bf16) (y : S256x1024.Idx) :
    k0_pay2 (F := Ideal) z a b y = z y + mulAt a b y := by
  unfold mulAt; pointwise [k0_pay2]

/-- The scratch after a tile's first point, and after any other point. -/
theorem start (t : Fin cfg0.N) (h : t.val % 2 = 0) (y : S256x1024.Idx) :
    (outsAt0 m c t.val t.isLt).2 y = 0 + mulAt (M := 256) (N := 1024) (K := 1024) (iblk m c 0 t) (iblk m c 1 t) y := by
  rw [outsAt0_A m c t h (by omega)]; frame_out
  exact (pay_apply _ _ _ y).trans (congrArg₂ (· + ·) (by pointwise [k0_pay1]) rfl)
theorem step (t : Fin cfg0.N) (h : ¬t.val % 2 = 0) (y : S256x1024.Idx) :
    (outsAt0 m c t.val t.isLt).2 y = (outsAt0 m c (t.val - 1) (Nat.lt_of_le_of_lt (Nat.sub_le _ _) t.isLt)).2 y
      + mulAt (M := 256) (N := 1024) (K := 1024) (iblk m c 0 t) (iblk m c 1 t) y := by
  rw [outsAt0_B m c t h (by omega)]; frame_out
  exact (congrArg (fun Z => k0_pay2 Z (iblk m c 0 t) (iblk m c 1 t) y) (Memref.IsWhole.read_unread _ _)).trans (pay_apply _ _ _ y)

/-- The array after the run is the product. -/
theorem final : (dats m 0 c).arrAt 2 cfg0.N = mulAt (M := 256) (N := 1024) (K := 2048) (m ((c.tc : Thread nD τ).loc main_arg0)) (m ((c.tc : Thread nD τ).loc main_arg1)) := by
  rw [← V_main_arg0 m c, ← V_main_arg1 m c]
  refine (dats m 0 c).arrAt_eq_of_covers 2 _ (by decide +kernel) fun t hf y => ?_
  have ht := (idx t).2.2.2 hf
  rw [after0_2]; blk_simp
  refine Eq.trans (b := (outsAt0 m c t.val t.isLt).2 y) (by rw [outsAt0_B m c t (by omega) ht]; frame_out) ?_
  refine sum_blocks (fun n h => (outsAt0 m c n h).2) _ (start m c) (step m c) t ht y _ fun s k u l hu hl => ?_
  have hs := s.isLt
  unfold iblk
  generalize V m c = W
  refine congrArg₂ (· * ·) (congrArg (W main_arg0) (funext (Fin.forall_fin_two.mpr ⟨Fin.ext ?_, Fin.ext ?_⟩)))
    (congrArg (W main_arg1) (funext (Fin.forall_fin_two.mpr ⟨Fin.ext ?_, Fin.ext ?_⟩))) <;> blk_simp [idx u, idx t] <;> omega

end Cert.Kernel18Ideal.Prod

namespace Cert.Reference18Ideal.Prod
open Cert.Reference18Ideal Cert.Reference18Ideal.Read

/-- The reference's array is the same product. -/
theorem ref_eq (a : FVec Ideal S256x2048 .bf16) (b : FVec Ideal S2048x1024 .bf16) :
    val_main_v2 (F := Ideal) a b = mulAt (M := 256) (N := 1024) (K := 2048) a b := by
  funext i
  rw [val_main_v2_apply]
  refine Finset.sum_congr rfl fun k _ => ?_
  rw [val_main_v0_apply, val_main_v1_apply]
  exact congrArg₂ (· * ·) (congrArg a (funext (Fin.forall_fin_two.mpr ⟨rfl, rfl⟩))) (congrArg b (funext (Fin.forall_fin_two.mpr ⟨rfl, rfl⟩)))

end Cert.Reference18Ideal.Prod

namespace Cert.Proof
attribute [local instance] Cert.Kernel18Ideal.Gen.facts Cert.Reference18Ideal.Gen.facts

/-- The reference runs, keeps its arguments and leaves every semaphore at zero. -/
theorem reference18_frame : Cert.quiescent_Reference18Ideal := by
  intro m g _
  exact (θ_run _ _ _).mono (fun r h => ⟨fun c => (h c).2, sem_eq_zero_of_no_sems rfl r.2⟩) (Cert.Reference18Ideal.Value.run m g)

/-- The memory product: the kernel and the reference end with equal results. -/
theorem product18 : Cert.algebraic_Kernel18Ideal_Reference18Ideal := by
  intro m g m' g' _ hagree
  refine ⟨_, Cert.Kernel18Ideal.Value.run_blocks m g, (θ_run _ _ _).mono (fun r h c => ⟨?_, (h c).2⟩) (Cert.Reference18Ideal.Value.run m' g')⟩
  refine (h c).1.trans ((Cert.Reference18Ideal.Read.val_main_v2_eq _ _).trans ((Cert.Reference18Ideal.Prod.ref_eq _ _).trans ?_))
  rw [(hagree c).1, (hagree c).2]
  exact (Cert.Kernel18Ideal.Prod.final m c).symm

end Cert.Proof
end
-- ==== Proof.Adam.lean ====
/- The input weights' gradient summed over the four partial sums, and AdamW's step with it. -/
module

public import proofs.«01_k».proof.Proof.Tiles
public import proofs.«01_k».proof.Proof.Gen.Kernel23Ideal.Value
public import proofs.«01_k».proof.Proof.Gen.Reference23Ideal.Read
public import Idealize.ShloMosaic.Lib.WritesUnit
public import Idealize.ShloMosaic.Lib.Quiescent
public import proofs.«01_k».proof.Defs

@[expose] public section

set_option maxRecDepth 16384

noncomputable section

open Idealize.ShloMosaic Idealize.ShloMosaic.TcCoe Idealize.SL.Sem
open Cert.Tiles

namespace Cert.Adam

/-- The arrays of three axes. -/
abbrev Arr3 (a b c : ℕ) := (⟨3, ![a, b, c]⟩ : Shape).Idx → EReal

/-- What holds of the three axes holds of every axis. -/
theorem forall_three {P : Fin 3 → Prop} (h0 : P 0) (h1 : P 1) (h2 : P 2) : ∀ a, P a :=
  Fin.forall_fin_succ.mpr ⟨h0, Fin.forall_fin_two.mpr ⟨h1, h2⟩⟩

/-- The sum of the four partial sums at an entry. -/
def gradAt {a b : ℕ} (r : Arr3 4 a b) (i : (⟨2, ![a, b]⟩ : Shape).Idx) : EReal := ∑ k : Fin 4, r (ix3 k (i 0) (i 1))
/-- The new first moment, of the decay 0.9. -/
def firstMoment (m g : EReal) : EReal := Ideal.ofBits .f32 0x3F666666#32 * m + Ideal.ofBits .f32 0x3DCCCCCD#32 * g
/-- The new second moment, of the decay 0.999. -/
def secondMoment (v g : EReal) : EReal := Ideal.ofBits .f32 0x3F7FBE77#32 * v + Ideal.ofBits .f32 0x3A83126F#32 * (g * g)
/-- AdamW's change of a weight: the step size times the quotient of the corrected moments plus the weight's decay. -/
def change (w m v g : EReal) : EReal :=
  Ideal.ofBits .f32 0xBA83126F#32 * (Ideal.div (Ideal.div (firstMoment m g) (Ideal.ofBits .f32 0x3F26BD02#32))
    (Ideal.sqrt (Ideal.div (secondMoment v g) (Ideal.ofBits .f32 0x3C231ACC#32)) + Ideal.ofBits .f32 0x322BCC77#32)
    + Ideal.ofBits .f32 0x3C23D70A#32 * w)

end Cert.Adam

namespace Cert.Kernel23Ideal.Adam
open Cert.Kernel23Ideal Cert.Kernel23Ideal.Gen Cert.Kernel23Ideal.Value Cert.Adam

variable (m : (ℓ : Loc nD τ sig) → Buf (Elt Ideal) ℓ) (c : Dev nD)

/-- The windows' blocks at every point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The sum of the four slots of a point's block of partial sums. -/
def slots (r : Vec Ideal S4x256x2051 .bf16) (y : S256x2051.Idx) : EReal := ∑ k : Fin 4, (r (ix3 k (y 0) (y 1)) : EReal)

/-- What a point stores in the four result blocks. -/
theorem out (r : Vec Ideal S4x256x2051 .bf16) (w p q : Vec Ideal S256x2051 .f32) (y : S256x2051.Idx) :
    (out0_4 r w p q y : EReal) = slots r y ∧ (out0_5 r w p q y : EReal) = change (w y) (p y) (q y) (slots r y)
    ∧ (out0_6 r w p q y : EReal) = firstMoment (p y) (slots r y) ∧ (out0_7 r w p q y : EReal) = secondMoment (q y) (slots r y) := by
  unfold slots change firstMoment secondMoment
  rw [Fin.sum_univ_four]
  refine ⟨(canon4_eq _ _ _ _ y).trans ?_, (canon5_eq _ _ _ _ _ _ _ y).trans ?_, (canon6_eq _ _ _ _ _ y).trans ?_, (canon7_eq _ _ _ _ _ y).trans ?_⟩
  · pointwise [E4]
  · pointwise [E5]
  · pointwise [E6]
  · pointwise [E7]

/-- The blocks at a point: the rows from `t * 256` on. -/
theorem blocks (t : Fin cfg0.N) (y : S256x2051.Idx) (i : S4096x2051.Idx) (h0 : (i 0).val = t.val * 256 + (y 0).val) (h1 : (i 1).val = (y 1).val) :
    slots (iblk m c 0 t) y = gradAt (V m c main_arg0) i ∧ (iblk m c 1 t y : EReal) = (V m c main_arg1 : Arr 4096 2051) i
    ∧ (iblk m c 2 t y : EReal) = (V m c main_arg2 : Arr 4096 2051) i ∧ (iblk m c 3 t y : EReal) = (V m c main_arg3 : Arr 4096 2051) i := by
  unfold slots gradAt iblk
  generalize V m c = W
  refine ⟨Finset.sum_congr rfl fun k _ => congrArg (W main_arg0) (funext (forall_three (Fin.ext ?_) (Fin.ext ?_) (Fin.ext ?_))),
    congrArg (W main_arg1) ?_, congrArg (W main_arg2) ?_, congrArg (W main_arg3) ?_⟩
  · blk_simp [idx t, h0, h1]
  · blk_simp [idx t, h0, h1]
  · blk_simp [idx t, h0, h1]
  all_goals refine funext (Fin.forall_fin_two.mpr ⟨Fin.ext ?_, Fin.ext ?_⟩) <;> blk_simp [idx t, h0, h1]

/-- The four arrays after the run. -/
theorem final : (dats m 0 c).arrAt 4 cfg0.N = (fun i => gradAt (V m c main_arg0) i)
    ∧ (dats m 0 c).arrAt 5 cfg0.N = (fun i => change ((m ((c.tc : Thread nD τ).loc main_arg1) : Arr 4096 2051) i) ((m ((c.tc : Thread nD τ).loc main_arg2) : Arr 4096 2051) i) ((m ((c.tc : Thread nD τ).loc main_arg3) : Arr 4096 2051) i) (gradAt (V m c main_arg0) i))
    ∧ (dats m 0 c).arrAt 6 cfg0.N = (fun i => firstMoment ((m ((c.tc : Thread nD τ).loc main_arg2) : Arr 4096 2051) i) (gradAt (V m c main_arg0) i))
    ∧ (dats m 0 c).arrAt 7 cfg0.N = (fun i => secondMoment ((m ((c.tc : Thread nD τ).loc main_arg3) : Arr 4096 2051) i) (gradAt (V m c main_arg0) i)) := by
  refine ⟨?_, ?_, ?_, ?_⟩
  · refine (dats m 0 c).arrAt_eq_of_covers 4 _ (by decide +kernel) fun t hf y => ?_
    rw [after0_4]; blk_simp
    exact (out _ _ _ _ y).1.trans (blocks m c t y _ (by blk_simp [idx t]) (by blk_simp [idx t])).1
  · refine (dats m 0 c).arrAt_eq_of_covers 5 _ (by decide +kernel) fun t hf y => ?_
    rw [after0_5]; blk_simp
    exact (out _ _ _ _ y).2.1.trans (congr (congr (congrArg₂ change (blocks m c t y _ (by blk_simp [idx t]) (by blk_simp [idx t])).2.1 (blocks m c t y _ (by blk_simp [idx t]) (by blk_simp [idx t])).2.2.1) (blocks m c t y _ (by blk_simp [idx t]) (by blk_simp [idx t])).2.2.2) (blocks m c t y _ (by blk_simp [idx t]) (by blk_simp [idx t])).1)
  · refine (dats m 0 c).arrAt_eq_of_covers 6 _ (by decide +kernel) fun t hf y => ?_
    rw [after0_6]; blk_simp
    exact (out _ _ _ _ y).2.2.1.trans (congrArg₂ firstMoment (blocks m c t y _ (by blk_simp [idx t]) (by blk_simp [idx t])).2.2.1 (blocks m c t y _ (by blk_simp [idx t]) (by blk_simp [idx t])).1)
  · refine (dats m 0 c).arrAt_eq_of_covers 7 _ (by decide +kernel) fun t hf y => ?_
    rw [after0_7]; blk_simp
    exact (out _ _ _ _ y).2.2.2.trans (congrArg₂ secondMoment (blocks m c t y _ (by blk_simp [idx t]) (by blk_simp [idx t])).2.2.2 (blocks m c t y _ (by blk_simp [idx t]) (by blk_simp [idx t])).1)

end Cert.Kernel23Ideal.Adam

namespace Cert.Reference23Ideal.Adam
open Cert.Reference23Ideal Cert.Reference23Ideal.Read Cert.Adam

/-- The reference's sum over the partial sums. -/
theorem ref_grad (r) : val_main_v1 (F := Ideal) r = fun i => gradAt r i := by
  funext i
  rw [val_main_v1_apply]
  have e : ∀ k, idx_main_v1 i k = ix3 k (i 0) (i 1) := fun k =>
    funext (forall_three rfl rfl rfl)
  unfold gradAt
  simp only [e]
  pointwise [val_main_cst, val_main_v0]

/-- The reference's moments and change. -/
theorem ref_step (r) (w p q : Arr 4096 2051) :
    val_main_v25 (F := Ideal) r w p q = (fun i => change (w i) (p i) (q i) (gradAt r i))
    ∧ val_main_v6 (F := Ideal) r p = (fun i => firstMoment (p i) (gradAt r i))
    ∧ val_main_v12 (F := Ideal) r q = (fun i => secondMoment (q i) (gradAt r i)) := by
  have g : ∀ i, val_main_v1 (F := Ideal) r i = gradAt r i := fun i => congrFun (ref_grad r) i
  refine ⟨?_, ?_, ?_⟩ <;> funext i <;> rw [← g i] <;> pointwise [change, firstMoment, secondMoment, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]

end Cert.Reference23Ideal.Adam

namespace Cert.Proof
open Cert.Adam
attribute [local instance] Cert.Kernel23Ideal.Gen.facts Cert.Reference23Ideal.Gen.facts

/-- The reference of the sum and the step keeps its arguments and its semaphores. -/
theorem reference23_frame : Cert.quiescent_Reference23Ideal := by
  intro m g _
  exact (θ_run _ _ _).mono (fun r h => ⟨fun c => (h c).2.2.2.2, sem_eq_zero_of_no_sems rfl r.2⟩) (Cert.Reference23Ideal.Value.run m g)

/-- The gradient, the change and the moments of the input weights are those of the reference. -/
theorem product23 : Cert.algebraic_Kernel23Ideal_Reference23Ideal := by
  intro m g m' g' _ hagree
  refine ⟨_, _, _, _, Cert.Kernel23Ideal.Value.run_blocks m g,
    (θ_run _ _ _).mono (fun r h c => ⟨?_, ?_, ?_, ?_, (h c).2.2.2.2⟩) (Cert.Reference23Ideal.Value.run m' g')⟩
  · refine (h c).1.trans ((Cert.Reference23Ideal.Read.val_main_v1_eq _).trans ((Cert.Reference23Ideal.Adam.ref_grad _).trans ?_))
    rw [(hagree c).1]
    exact (Cert.Kernel23Ideal.Adam.final m c).1.symm
  · refine (h c).2.1.trans ((Cert.Reference23Ideal.Read.val_main_v25_eq _ _ _ _).trans ((Cert.Reference23Ideal.Adam.ref_step _ _ _ _).1.trans ?_))
    rw [(hagree c).1, (hagree c).2.1, (hagree c).2.2.1, (hagree c).2.2.2]
    exact (Cert.Kernel23Ideal.Adam.final m c).2.1.symm
  · refine (h c).2.2.1.trans ((Cert.Reference23Ideal.Read.val_main_v6_eq _ _).trans ((Cert.Reference23Ideal.Adam.ref_step _ (m' ((c.tc : Thread Cert.Reference23Ideal.nD Cert.Reference23Ideal.τ).loc Cert.Reference23Ideal.main_arg1)) _ (m' ((c.tc : Thread Cert.Reference23Ideal.nD Cert.Reference23Ideal.τ).loc Cert.Reference23Ideal.main_arg3))).2.1.trans ?_))
    rw [(hagree c).1, (hagree c).2.2.1]
    exact (Cert.Kernel23Ideal.Adam.final m c).2.2.1.symm
  · refine (h c).2.2.2.1.trans ((Cert.Reference23Ideal.Read.val_main_v12_eq _ _).trans ((Cert.Reference23Ideal.Adam.ref_step _ (m' ((c.tc : Thread Cert.Reference23Ideal.nD Cert.Reference23Ideal.τ).loc Cert.Reference23Ideal.main_arg1)) (m' ((c.tc : Thread Cert.Reference23Ideal.nD Cert.Reference23Ideal.τ).loc Cert.Reference23Ideal.main_arg2)) _).2.2.trans ?_))
    rw [(hagree c).1, (hagree c).2.2.2]
    exact (Cert.Kernel23Ideal.Adam.final m c).2.2.2.symm

end Cert.Proof
end
-- ==== Proof.AdamPacked.lean ====
/- The same sum and step for the packed rows of the other weights. -/
module

public import proofs.«01_k».proof.Proof.Adam
public import proofs.«01_k».proof.Proof.Gen.Kernel26Ideal.Value
public import proofs.«01_k».proof.Proof.Gen.Reference26Ideal.Read
public import proofs.«01_k».proof.Proof.Gen.Kernel27Ideal.Value
public import proofs.«01_k».proof.Proof.Gen.Reference27Ideal.Read
public import Idealize.ShloMosaic.Lib.WritesUnit
public import Idealize.ShloMosaic.Lib.Quiescent
public import proofs.«01_k».proof.Defs

@[expose] public section

set_option maxRecDepth 16384

noncomputable section

open Idealize.ShloMosaic Idealize.ShloMosaic.TcCoe Idealize.SL.Sem
open Cert.Tiles

namespace Cert.Kernel26Ideal.Adam
open Cert.Kernel26Ideal Cert.Kernel26Ideal.Gen Cert.Kernel26Ideal.Value Cert.Adam

variable (m : (ℓ : Loc nD τ sig) → Buf (Elt Ideal) ℓ) (c : Dev nD)

/-- The windows' blocks at every point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The sum of the four slots of a point's block of partial sums. -/
def slots (r : Vec Ideal S4x256x1024 .bf16) (y : S256x1024.Idx) : EReal := ∑ k : Fin 4, (r (ix3 k (y 0) (y 1)) : EReal)

/-- What a point stores in the four result blocks. -/
theorem out (r : Vec Ideal S4x256x1024 .bf16) (w p q : Vec Ideal S256x1024 .f32) (y : S256x1024.Idx) :
    (out0_4 r w p q y : EReal) = slots r y ∧ (out0_5 r w p q y : EReal) = change (w y) (p y) (q y) (slots r y)
    ∧ (out0_6 r w p q y : EReal) = firstMoment (p y) (slots r y) ∧ (out0_7 r w p q y : EReal) = secondMoment (q y) (slots r y) := by
  unfold slots change firstMoment secondMoment
  rw [Fin.sum_univ_four]
  refine ⟨(canon4_eq _ _ _ _ y).trans ?_, (canon5_eq _ _ _ _ _ _ _ y).trans ?_, (canon6_eq _ _ _ _ _ y).trans ?_, (canon7_eq _ _ _ _ _ y).trans ?_⟩
  · pointwise [E4]
  · pointwise [E5]
  · pointwise [E6]
  · pointwise [E7]

/-- The blocks at a point: the rows from `t * 256` on. -/
theorem blocks (t : Fin cfg0.N) (y : S256x1024.Idx) (i : S3328x1024.Idx) (h0 : (i 0).val = t.val * 256 + (y 0).val) (h1 : (i 1).val = (y 1).val) :
    slots (iblk m c 0 t) y = gradAt (V m c main_arg0) i ∧ (iblk m c 1 t y : EReal) = (V m c main_arg1 : Arr 3328 1024) i
    ∧ (iblk m c 2 t y : EReal) = (V m c main_arg2 : Arr 3328 1024) i ∧ (iblk m c 3 t y : EReal) = (V m c main_arg3 : Arr 3328 1024) i := by
  unfold slots gradAt iblk
  generalize V m c = W
  refine ⟨Finset.sum_congr rfl fun k _ => congrArg (W main_arg0) (funext (forall_three (Fin.ext ?_) (Fin.ext ?_) (Fin.ext ?_))),
    congrArg (W main_arg1) ?_, congrArg (W main_arg2) ?_, congrArg (W main_arg3) ?_⟩
  · blk_simp [idx t, h0, h1]
  · blk_simp [idx t, h0, h1]
  · blk_simp [idx t, h0, h1]
  all_goals refine funext (Fin.forall_fin_two.mpr ⟨Fin.ext ?_, Fin.ext ?_⟩) <;> blk_simp [idx t, h0, h1]

/-- The four arrays after the run. -/
theorem final : (dats m 0 c).arrAt 4 cfg0.N = (fun i => gradAt (V m c main_arg0) i)
    ∧ (dats m 0 c).arrAt 5 cfg0.N = (fun i => change ((m ((c.tc : Thread nD τ).loc main_arg1) : Arr 3328 1024) i) ((m ((c.tc : Thread nD τ).loc main_arg2) : Arr 3328 1024) i) ((m ((c.tc : Thread nD τ).loc main_arg3) : Arr 3328 1024) i) (gradAt (V m c main_arg0) i))
    ∧ (dats m 0 c).arrAt 6 cfg0.N = (fun i => firstMoment ((m ((c.tc : Thread nD τ).loc main_arg2) : Arr 3328 1024) i) (gradAt (V m c main_arg0) i))
    ∧ (dats m 0 c).arrAt 7 cfg0.N = (fun i => secondMoment ((m ((c.tc : Thread nD τ).loc main_arg3) : Arr 3328 1024) i) (gradAt (V m c main_arg0) i)) := by
  refine ⟨?_, ?_, ?_, ?_⟩
  · refine (dats m 0 c).arrAt_eq_of_covers 4 _ (by decide +kernel) fun t hf y => ?_
    rw [after0_4]; blk_simp
    exact (out _ _ _ _ y).1.trans (blocks m c t y _ (by blk_simp [idx t]) (by blk_simp [idx t])).1
  · refine (dats m 0 c).arrAt_eq_of_covers 5 _ (by decide +kernel) fun t hf y => ?_
    rw [after0_5]; blk_simp
    exact (out _ _ _ _ y).2.1.trans (congr (congr (congrArg₂ change (blocks m c t y _ (by blk_simp [idx t]) (by blk_simp [idx t])).2.1 (blocks m c t y _ (by blk_simp [idx t]) (by blk_simp [idx t])).2.2.1) (blocks m c t y _ (by blk_simp [idx t]) (by blk_simp [idx t])).2.2.2) (blocks m c t y _ (by blk_simp [idx t]) (by blk_simp [idx t])).1)
  · refine (dats m 0 c).arrAt_eq_of_covers 6 _ (by decide +kernel) fun t hf y => ?_
    rw [after0_6]; blk_simp
    exact (out _ _ _ _ y).2.2.1.trans (congrArg₂ firstMoment (blocks m c t y _ (by blk_simp [idx t]) (by blk_simp [idx t])).2.2.1 (blocks m c t y _ (by blk_simp [idx t]) (by blk_simp [idx t])).1)
  · refine (dats m 0 c).arrAt_eq_of_covers 7 _ (by decide +kernel) fun t hf y => ?_
    rw [after0_7]; blk_simp
    exact (out _ _ _ _ y).2.2.2.trans (congrArg₂ secondMoment (blocks m c t y _ (by blk_simp [idx t]) (by blk_simp [idx t])).2.2.2 (blocks m c t y _ (by blk_simp [idx t]) (by blk_simp [idx t])).1)

end Cert.Kernel26Ideal.Adam

namespace Cert.Reference26Ideal.Adam
open Cert.Reference26Ideal Cert.Reference26Ideal.Read Cert.Adam

/-- The reference's sum over the partial sums. -/
theorem ref_grad (r) : val_main_v1 (F := Ideal) r = fun i => gradAt r i := by
  funext i
  rw [val_main_v1_apply]
  have e : ∀ k, idx_main_v1 i k = ix3 k (i 0) (i 1) := fun k =>
    funext (forall_three rfl rfl rfl)
  unfold gradAt
  simp only [e]
  pointwise [val_main_cst, val_main_v0]

/-- The reference's moments and change. -/
theorem ref_step (r) (w p q : Arr 3328 1024) :
    val_main_v25 (F := Ideal) r w p q = (fun i => change (w i) (p i) (q i) (gradAt r i))
    ∧ val_main_v6 (F := Ideal) r p = (fun i => firstMoment (p i) (gradAt r i))
    ∧ val_main_v12 (F := Ideal) r q = (fun i => secondMoment (q i) (gradAt r i)) := by
  have g : ∀ i, val_main_v1 (F := Ideal) r i = gradAt r i := fun i => congrFun (ref_grad r) i
  refine ⟨?_, ?_, ?_⟩ <;> funext i <;> rw [← g i] <;> pointwise [change, firstMoment, secondMoment, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]

end Cert.Reference26Ideal.Adam

namespace Cert.Proof
open Cert.Adam
attribute [local instance] Cert.Kernel26Ideal.Gen.facts Cert.Reference26Ideal.Gen.facts

/-- The reference of the sum and the step keeps its arguments and its semaphores. -/
theorem reference26_frame : Cert.quiescent_Reference26Ideal := by
  intro m g _
  exact (θ_run _ _ _).mono (fun r h => ⟨fun c => (h c).2.2.2.2, sem_eq_zero_of_no_sems rfl r.2⟩) (Cert.Reference26Ideal.Value.run m g)

/-- The gradient, the change and the moments of the packed rows of the cut weights are those of the reference. -/
theorem product26 : Cert.algebraic_Kernel26Ideal_Reference26Ideal := by
  intro m g m' g' _ hagree
  refine ⟨_, _, _, _, Cert.Kernel26Ideal.Value.run_blocks m g,
    (θ_run _ _ _).mono (fun r h c => ⟨?_, ?_, ?_, ?_, (h c).2.2.2.2⟩) (Cert.Reference26Ideal.Value.run m' g')⟩
  · refine (h c).1.trans ((Cert.Reference26Ideal.Read.val_main_v1_eq _).trans ((Cert.Reference26Ideal.Adam.ref_grad _).trans ?_))
    rw [(hagree c).1]
    exact (Cert.Kernel26Ideal.Adam.final m c).1.symm
  · refine (h c).2.1.trans ((Cert.Reference26Ideal.Read.val_main_v25_eq _ _ _ _).trans ((Cert.Reference26Ideal.Adam.ref_step _ _ _ _).1.trans ?_))
    rw [(hagree c).1, (hagree c).2.1, (hagree c).2.2.1, (hagree c).2.2.2]
    exact (Cert.Kernel26Ideal.Adam.final m c).2.1.symm
  · refine (h c).2.2.1.trans ((Cert.Reference26Ideal.Read.val_main_v6_eq _ _).trans ((Cert.Reference26Ideal.Adam.ref_step _ (m' ((c.tc : Thread Cert.Reference26Ideal.nD Cert.Reference26Ideal.τ).loc Cert.Reference26Ideal.main_arg1)) _ (m' ((c.tc : Thread Cert.Reference26Ideal.nD Cert.Reference26Ideal.τ).loc Cert.Reference26Ideal.main_arg3))).2.1.trans ?_))
    rw [(hagree c).1, (hagree c).2.2.1]
    exact (Cert.Kernel26Ideal.Adam.final m c).2.2.1.symm
  · refine (h c).2.2.2.1.trans ((Cert.Reference26Ideal.Read.val_main_v12_eq _ _).trans ((Cert.Reference26Ideal.Adam.ref_step _ (m' ((c.tc : Thread Cert.Reference26Ideal.nD Cert.Reference26Ideal.τ).loc Cert.Reference26Ideal.main_arg1)) (m' ((c.tc : Thread Cert.Reference26Ideal.nD Cert.Reference26Ideal.τ).loc Cert.Reference26Ideal.main_arg2)) _).2.2.trans ?_))
    rw [(hagree c).1, (hagree c).2.2.2]
    exact (Cert.Kernel26Ideal.Adam.final m c).2.2.2.symm

end Cert.Proof
namespace Cert.Kernel27Ideal.Adam
open Cert.Kernel27Ideal Cert.Kernel27Ideal.Gen Cert.Kernel27Ideal.Value Cert.Adam

variable (m : (ℓ : Loc nD τ sig) → Buf (Elt Ideal) ℓ) (c : Dev nD)

/-- The windows' blocks at every point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The sum of the four slots of a point's block of partial sums. -/
def slots (r : Vec Ideal S4x128x1024 .f32) (y : S128x1024.Idx) : EReal := ∑ k : Fin 4, (r (ix3 k (y 0) (y 1)) : EReal)

/-- What a point stores in the four result blocks. -/
theorem out (r : Vec Ideal S4x128x1024 .f32) (w p q : Vec Ideal S128x1024 .f32) (y : S128x1024.Idx) :
    (out0_4 r w p q y : EReal) = slots r y ∧ (out0_5 r w p q y : EReal) = change (w y) (p y) (q y) (slots r y)
    ∧ (out0_6 r w p q y : EReal) = firstMoment (p y) (slots r y) ∧ (out0_7 r w p q y : EReal) = secondMoment (q y) (slots r y) := by
  unfold slots change firstMoment secondMoment
  rw [Fin.sum_univ_four]
  refine ⟨(canon4_eq _ _ _ _ y).trans ?_, (canon5_eq _ _ _ _ _ _ _ y).trans ?_, (canon6_eq _ _ _ _ _ y).trans ?_, (canon7_eq _ _ _ _ _ y).trans ?_⟩
  · pointwise [E4]
  · pointwise [E5]
  · pointwise [E6]
  · pointwise [E7]

/-- The blocks at a point: the rows from `t * 128` on. -/
theorem blocks (t : Fin cfg0.N) (y : S128x1024.Idx) (i : S896x1024.Idx) (h0 : (i 0).val = t.val * 128 + (y 0).val) (h1 : (i 1).val = (y 1).val) :
    slots (iblk m c 0 t) y = gradAt (V m c main_arg0) i ∧ (iblk m c 1 t y : EReal) = (V m c main_arg1 : Arr 896 1024) i
    ∧ (iblk m c 2 t y : EReal) = (V m c main_arg2 : Arr 896 1024) i ∧ (iblk m c 3 t y : EReal) = (V m c main_arg3 : Arr 896 1024) i := by
  unfold slots gradAt iblk
  generalize V m c = W
  refine ⟨Finset.sum_congr rfl fun k _ => congrArg (W main_arg0) (funext (forall_three (Fin.ext ?_) (Fin.ext ?_) (Fin.ext ?_))),
    congrArg (W main_arg1) ?_, congrArg (W main_arg2) ?_, congrArg (W main_arg3) ?_⟩
  · blk_simp [idx t, h0, h1]
  · blk_simp [idx t, h0, h1]
  · blk_simp [idx t, h0, h1]
  all_goals refine funext (Fin.forall_fin_two.mpr ⟨Fin.ext ?_, Fin.ext ?_⟩) <;> blk_simp [idx t, h0, h1]

/-- The four arrays after the run. -/
theorem final : (dats m 0 c).arrAt 4 cfg0.N = (fun i => gradAt (V m c main_arg0) i)
    ∧ (dats m 0 c).arrAt 5 cfg0.N = (fun i => change ((m ((c.tc : Thread nD τ).loc main_arg1) : Arr 896 1024) i) ((m ((c.tc : Thread nD τ).loc main_arg2) : Arr 896 1024) i) ((m ((c.tc : Thread nD τ).loc main_arg3) : Arr 896 1024) i) (gradAt (V m c main_arg0) i))
    ∧ (dats m 0 c).arrAt 6 cfg0.N = (fun i => firstMoment ((m ((c.tc : Thread nD τ).loc main_arg2) : Arr 896 1024) i) (gradAt (V m c main_arg0) i))
    ∧ (dats m 0 c).arrAt 7 cfg0.N = (fun i => secondMoment ((m ((c.tc : Thread nD τ).loc main_arg3) : Arr 896 1024) i) (gradAt (V m c main_arg0) i)) := by
  refine ⟨?_, ?_, ?_, ?_⟩
  · refine (dats m 0 c).arrAt_eq_of_covers 4 _ (by decide +kernel) fun t hf y => ?_
    rw [after0_4]; blk_simp
    exact (out _ _ _ _ y).1.trans (blocks m c t y _ (by blk_simp [idx t]) (by blk_simp [idx t])).1
  · refine (dats m 0 c).arrAt_eq_of_covers 5 _ (by decide +kernel) fun t hf y => ?_
    rw [after0_5]; blk_simp
    exact (out _ _ _ _ y).2.1.trans (congr (congr (congrArg₂ change (blocks m c t y _ (by blk_simp [idx t]) (by blk_simp [idx t])).2.1 (blocks m c t y _ (by blk_simp [idx t]) (by blk_simp [idx t])).2.2.1) (blocks m c t y _ (by blk_simp [idx t]) (by blk_simp [idx t])).2.2.2) (blocks m c t y _ (by blk_simp [idx t]) (by blk_simp [idx t])).1)
  · refine (dats m 0 c).arrAt_eq_of_covers 6 _ (by decide +kernel) fun t hf y => ?_
    rw [after0_6]; blk_simp
    exact (out _ _ _ _ y).2.2.1.trans (congrArg₂ firstMoment (blocks m c t y _ (by blk_simp [idx t]) (by blk_simp [idx t])).2.2.1 (blocks m c t y _ (by blk_simp [idx t]) (by blk_simp [idx t])).1)
  · refine (dats m 0 c).arrAt_eq_of_covers 7 _ (by decide +kernel) fun t hf y => ?_
    rw [after0_7]; blk_simp
    exact (out _ _ _ _ y).2.2.2.trans (congrArg₂ secondMoment (blocks m c t y _ (by blk_simp [idx t]) (by blk_simp [idx t])).2.2.2 (blocks m c t y _ (by blk_simp [idx t]) (by blk_simp [idx t])).1)

end Cert.Kernel27Ideal.Adam

namespace Cert.Reference27Ideal.Adam
open Cert.Reference27Ideal Cert.Reference27Ideal.Read Cert.Adam

/-- The reference's sum over the partial sums. -/
theorem ref_grad (r) : val_main_v0 (F := Ideal) r = fun i => gradAt r i := by
  funext i
  rw [val_main_v0_apply]
  have e : ∀ k, idx_main_v0 i k = ix3 k (i 0) (i 1) := fun k =>
    funext (forall_three rfl rfl rfl)
  unfold gradAt
  simp only [e]
  pointwise [val_main_cst]

/-- The reference's moments and change. -/
theorem ref_step (r) (w p q : Arr 896 1024) :
    val_main_v24 (F := Ideal) r w p q = (fun i => change (w i) (p i) (q i) (gradAt r i))
    ∧ val_main_v5 (F := Ideal) r p = (fun i => firstMoment (p i) (gradAt r i))
    ∧ val_main_v11 (F := Ideal) r q = (fun i => secondMoment (q i) (gradAt r i)) := by
  have g : ∀ i, val_main_v0 (F := Ideal) r i = gradAt r i := fun i => congrFun (ref_grad r) i
  refine ⟨?_, ?_, ?_⟩ <;> funext i <;> rw [← g i] <;> pointwise [change, firstMoment, secondMoment, val_main_cst_0, val_main_v1, val_main_v2, val_main_cst_1, val_main_v3, val_main_v4, val_main_v5, val_main_cst_2, val_main_v6, val_main_v7, val_main_v8, val_main_cst_3, val_main_v9, val_main_v10, val_main_v11, val_main_cst_4, val_main_v12, val_main_v13, val_main_cst_5, val_main_v14, val_main_v15, val_main_v16, val_main_cst_6, val_main_v17, val_main_v18, val_main_v19, val_main_cst_7, val_main_v20, val_main_v21, val_main_v22, val_main_cst_8, val_main_v23, val_main_v24]

end Cert.Reference27Ideal.Adam

namespace Cert.Proof
open Cert.Adam
attribute [local instance] Cert.Kernel27Ideal.Gen.facts Cert.Reference27Ideal.Gen.facts

/-- The reference of the sum and the step keeps its arguments and its semaphores. -/
theorem reference27_frame : Cert.quiescent_Reference27Ideal := by
  intro m g _
  exact (θ_run _ _ _).mono (fun r h => ⟨fun c => (h c).2.2.2.2, sem_eq_zero_of_no_sems rfl r.2⟩) (Cert.Reference27Ideal.Value.run m g)

/-- The gradient, the change and the moments of the packed rows of the whole weights are those of the reference. -/
theorem product27 : Cert.algebraic_Kernel27Ideal_Reference27Ideal := by
  intro m g m' g' _ hagree
  refine ⟨_, _, _, _, Cert.Kernel27Ideal.Value.run_blocks m g,
    (θ_run _ _ _).mono (fun r h c => ⟨?_, ?_, ?_, ?_, (h c).2.2.2.2⟩) (Cert.Reference27Ideal.Value.run m' g')⟩
  · refine (h c).1.trans ((Cert.Reference27Ideal.Read.val_main_v0_eq _).trans ((Cert.Reference27Ideal.Adam.ref_grad _).trans ?_))
    rw [(hagree c).1]
    exact (Cert.Kernel27Ideal.Adam.final m c).1.symm
  · refine (h c).2.1.trans ((Cert.Reference27Ideal.Read.val_main_v24_eq _ _ _ _).trans ((Cert.Reference27Ideal.Adam.ref_step _ _ _ _).1.trans ?_))
    rw [(hagree c).1, (hagree c).2.1, (hagree c).2.2.1, (hagree c).2.2.2]
    exact (Cert.Kernel27Ideal.Adam.final m c).2.1.symm
  · refine (h c).2.2.1.trans ((Cert.Reference27Ideal.Read.val_main_v5_eq _ _).trans ((Cert.Reference27Ideal.Adam.ref_step _ (m' ((c.tc : Thread Cert.Reference27Ideal.nD Cert.Reference27Ideal.τ).loc Cert.Reference27Ideal.main_arg1)) _ (m' ((c.tc : Thread Cert.Reference27Ideal.nD Cert.Reference27Ideal.τ).loc Cert.Reference27Ideal.main_arg3))).2.1.trans ?_))
    rw [(hagree c).1, (hagree c).2.2.1]
    exact (Cert.Kernel27Ideal.Adam.final m c).2.2.1.symm
  · refine (h c).2.2.2.1.trans ((Cert.Reference27Ideal.Read.val_main_v11_eq _ _).trans ((Cert.Reference27Ideal.Adam.ref_step _ (m' ((c.tc : Thread Cert.Reference27Ideal.nD Cert.Reference27Ideal.τ).loc Cert.Reference27Ideal.main_arg1)) (m' ((c.tc : Thread Cert.Reference27Ideal.nD Cert.Reference27Ideal.τ).loc Cert.Reference27Ideal.main_arg2)) _).2.2.trans ?_))
    rw [(hagree c).1, (hagree c).2.2.2]
    exact (Cert.Kernel27Ideal.Adam.final m c).2.2.2.symm

end Cert.Proof

end
-- ==== Proof.Norm.lean ====
/- The backward pass of a normalised layer: the gradient to its input and to its scale. -/
module

public import proofs.«01_k».proof.Proof.Tiles
public import proofs.«01_k».proof.Proof.Gen.Kernel24Ideal.Value
public import proofs.«01_k».proof.Proof.Gen.Reference24Ideal.Read
public import Idealize.ShloMosaic.Lib.WritesUnit
public import Idealize.ShloMosaic.Lib.Quiescent
public import proofs.«01_k».proof.Defs

@[expose] public section

set_option maxRecDepth 16384

noncomputable section

open Idealize.ShloMosaic Idealize.ShloMosaic.TcCoe Idealize.SL.Sem
open Cert.Tiles

namespace Cert.Norm

/-- A row of an array. -/
def row {R n : ℕ} (x : Arr R n) (r : Fin R) (k : Fin n) : EReal := x (ix2 r k)
/-- The mean of a row's squares, and a small number. -/
def meanSq (x : Fin 2048 → EReal) : EReal := Ideal.div (∑ k, x k * x k) (Ideal.ofBits .f32 0x45000000#32) + Ideal.ofBits .f32 0x358637BD#32
/-- The factor a row is scaled by. -/
def factor (x : Fin 2048 → EReal) : EReal := Ideal.rsqrt (meanSq x)
/-- What the gradient to a row gains, per unit of the row and twice, through the row's factor. -/
def drag (x g d : Fin 2048 → EReal) : EReal :=
  ∑ _ : Fin 1, Ideal.div ((∑ k, x k * (d k * g k)) * (Ideal.ofBits .f32 0xBF000000#32 * Ideal.div (factor x) (meanSq x))) (Ideal.ofBits .f32 0x45000000#32)
/-- The gradient of `x * factor x * g` to the row `x`, along `d`. -/
def dRow (x g d : Fin 2048 → EReal) (k : Fin 2048) : EReal := d k * g k * factor x + x k * drag x g d + drag x g d * x k
/-- A row's share of the gradient of `x * factor x * g` to `g`, along `d`. -/
def dScale (x d : Fin 2048 → EReal) (k : Fin 2048) : EReal := x k * factor x * d k

end Cert.Norm

namespace Cert.Kernel24Ideal.Norm
open Cert.Kernel24Ideal Cert.Kernel24Ideal.Gen Cert.Kernel24Ideal.Value Cert.Norm

variable (m : (ℓ : Loc nD τ sig) → Buf (Elt Ideal) ℓ) (c : Dev nD)

/-- The windows' blocks at every point, and the point the scale's gradient is flushed at. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ ((cfg0.win 5).flush t = true → t.val % 32 = 31) :=
  (by decide +kernel : ∀ t : Fin grid0.N, _)

/-- The input's gradient a point stores. -/
theorem pay_row (x : FVec Ideal S256x2048 .f32) (g : FVec Ideal S1x2048 .f32) (d e : FVec Ideal S256x2048 .f32) (y : S256x2048.Idx) :
    k0_pay6 (F := Ideal) x g d e y = dRow (row (R := 256) x (y 0)) (row (R := 1) g 0) (row (R := 256) d (y 0)) (y 1) + e y := by
  unfold dRow drag factor meanSq row
  rw [ix2_eta y]
  pointwise [k0_pay6, k0_pay4, k0_pay3]

/-- The scale's gradient a point stores: what it held and the point's rows' shares. -/
theorem pay_scale (x d : FVec Ideal S256x2048 .f32) (z : FVec Ideal S1x2048 .f32) (y : S1x2048.Idx) :
    k0_pay2 (F := Ideal) (k0_pay5 x d) z y = z y + ∑ r : Fin 256, dScale (row (R := 256) x r) (row (R := 256) d r) (y 1) := by
  unfold dScale factor meanSq row
  pointwise [k0_pay2, k0_pay5, k0_pay4, k0_pay3]

/-- What a point leaves in the input's gradient's block. -/
theorem out_row (t : Fin cfg0.N) : (outsAt0 m c t.val t.isLt).1 = k0_pay6 (iblk m c 0 t) (iblk m c 1 t) (iblk m c 2 t) (iblk m c 3 t) := by
  by_cases h : t.val % 32 = 0
  · rw [outsAt0_A m c t h]; frame_out
  · rw [outsAt0_B m c t h]; frame_out

/-- The scale's gradient's block after the first point. -/
theorem start (t : Fin cfg0.N) (h : t.val % 32 = 0) (y : S1x2048.Idx) : ((outsAt0 m c t.val t.isLt).2 y : EReal)
    = 0 + ∑ r : Fin 256, dScale (row (R := 256) (iblk m c 0 t) r) (row (R := 256) (iblk m c 2 t) r) (y 1) := by
  rw [outsAt0_A m c t h]; frame_out
  exact (pay_scale _ _ _ y).trans (congrArg₂ (· + ·) (by pointwise [k0_pay1]) rfl)

/-- The scale's gradient's block after a further point. -/
theorem step (t : Fin cfg0.N) (h : ¬t.val % 32 = 0) (y : S1x2048.Idx) : ((outsAt0 m c t.val t.isLt).2 y : EReal)
    = (outsAt0 m c (t.val - 1) (Nat.lt_of_le_of_lt (Nat.sub_le _ _) t.isLt)).2 y
      + ∑ r : Fin 256, dScale (row (R := 256) (iblk m c 0 t) r) (row (R := 256) (iblk m c 2 t) r) (y 1) := by
  rw [outsAt0_B m c t h]; frame_out
  exact pay_scale _ _ _ y

/-- The blocks' rows at a point: the arrays' rows from `t * 256` on, and the scale. -/
theorem blocks (t : Fin cfg0.N) (r : Fin 256) (i : Fin 8192) (hi : i.val = t.val * 256 + r.val) :
    row (R := 256) (n := 2048) (iblk m c 0 t) r = row (R := 8192) (n := 2048) (V m c main_arg0) i
    ∧ row (R := 1) (n := 2048) (iblk m c 1 t) 0 = row (R := 1) (n := 2048) (V m c main_arg1) 0
    ∧ row (R := 256) (n := 2048) (iblk m c 2 t) r = row (R := 8192) (n := 2048) (V m c main_arg2) i
    ∧ row (R := 256) (n := 2048) (iblk m c 3 t) r = row (R := 8192) (n := 2048) (V m c main_arg3) i := by
  unfold iblk row
  generalize V m c = W
  refine ⟨funext fun k => congrArg (W main_arg0) ?_, funext fun k => congrArg (W main_arg1) ?_, funext fun k => congrArg (W main_arg2) ?_,
    funext fun k => congrArg (W main_arg3) ?_⟩ <;>
    refine funext (Fin.forall_fin_two.mpr ⟨Fin.ext ?_, Fin.ext ?_⟩) <;> blk_simp [idx t, hi]

/-- The array of the input's gradient after the run. -/
theorem final_row : (dats m 0 c).arrAt 4 cfg0.N = fun i => dRow (row (R := 8192) (V m c main_arg0) (i 0)) (row (R := 1) (V m c main_arg1) 0) (row (R := 8192) (V m c main_arg2) (i 0)) (i 1)
    + row (R := 8192) (n := 2048) (V m c main_arg3) (i 0) (i 1) := by
  refine (dats m 0 c).arrAt_eq_of_covers 4 _ (by decide +kernel) fun t hf y => ?_
  rw [after0_4, out_row m c t]; blk_simp
  have e1 : (((win0_4.blk t).view.emb y) 1 : Fin 2048) = y 1 := Fin.ext (by blk_simp [idx t])
  have B := blocks m c t (y 0) (((win0_4.blk t).view.emb y) 0) (by blk_simp [idx t])
  refine (pay_row _ _ _ _ y).trans (congrArg₂ (· + ·) (congr (congr (congrArg₂ dRow B.1 B.2.1) B.2.2.1) e1.symm) ?_)
  exact (congrArg (iblk m c 3 t) (ix2_eta y).symm).trans ((congrFun B.2.2.2 (y 1)).trans (congrArg _ e1.symm))

/-- The array of the scale's gradient after the run. -/
theorem final_scale : (dats m 0 c).arrAt 5 cfg0.N = fun i => ∑ r : Fin 8192, dScale (row (R := 8192) (V m c main_arg0) r) (row (R := 8192) (V m c main_arg2) r) (i 1) := by
  refine (dats m 0 c).arrAt_eq_of_covers 5 _ (by decide +kernel) fun t hf y => ?_
  have ht := (idx t).2.2.2.2.2.2 hf
  rw [after0_5]; blk_simp
  refine sum_blocks (fun n h => (outsAt0 m c n h).2) _ (start m c) (step m c) t ht y _ fun s k u l hu hl => ?_
  have hs := s.isLt
  have B := blocks m c u k l (by have := t.isLt; have : cfg0.N = 32 := rfl; omega)
  refine congr (congrArg₂ dScale B.1 B.2.2.1) (Fin.ext ?_)
  blk_simp [idx t]

end Cert.Kernel24Ideal.Norm

namespace Cert.Reference24Ideal.Norm
open Cert.Reference24Ideal Cert.Reference24Ideal.Read Cert.Norm

/-- The reference's gradient to the input. -/
theorem ref_row (x : Arr 8192 2048) (g : Arr 1 2048) (d e : Arr 8192 2048) : val_main_v34 (F := Ideal) x g d e
    = fun i => dRow (row x (i 0)) (row g 0) (row d (i 0)) (i 1) + row e (i 0) (i 1) := by
  funext i
  refine Eq.trans ?_ (add_comm (G := EReal) _ _)
  unfold dRow drag factor meanSq row
  rw [ix2_eta i]
  pointwise [val_main_v0, val_main_cst, val_main_v1, val_main_v2, val_main_cst_0, val_main_v3, val_main_v4, val_main_cst_1, val_main_v5, val_main_v6, val_main_v7, val_main_v8, val_main_cst_2, val_main_v9, val_main_v10, val_main_v18, val_main_v19, val_main_v20, val_main_cst_4, val_main_v21, val_main_v22, val_main_v23, val_main_v24, val_main_v25, val_main_cst_5, val_main_v26, val_main_v27, val_main_cst_6, val_main_v28, val_main_v29, val_main_v30, val_main_v31, val_main_v32, val_main_v33, val_main_v34]

/-- The reference's gradient to the scale. -/
theorem ref_scale (x d : Arr 8192 2048) : val_main_v17 (F := Ideal) x d = fun i => ∑ r : Fin 8192, dScale (row x r) (row d r) (i 1) := by
  funext i
  unfold dScale factor meanSq row
  pointwise [val_main_v0, val_main_cst, val_main_v1, val_main_v2, val_main_cst_0, val_main_v3, val_main_v4, val_main_cst_1, val_main_v5, val_main_v6, val_main_v7, val_main_v11, val_main_v12, val_main_v15, val_main_cst_3, val_main_v16, val_main_v17]

end Cert.Reference24Ideal.Norm

namespace Cert.Proof
open Cert.Norm
attribute [local instance] Cert.Kernel24Ideal.Gen.facts Cert.Reference24Ideal.Gen.facts

/-- The reference of the normalised layer keeps its arguments and its semaphores. -/
theorem reference24_frame : Cert.quiescent_Reference24Ideal := by
  intro m g _
  exact (θ_run _ _ _).mono (fun r h => ⟨fun c => (h c).2.2, sem_eq_zero_of_no_sems rfl r.2⟩) (Cert.Reference24Ideal.Value.run m g)

/-- The gradients of the normalised layer are those of the reference. -/
theorem product24 : Cert.algebraic_Kernel24Ideal_Reference24Ideal := by
  intro m g m' g' _ hagree
  refine ⟨_, _, Cert.Kernel24Ideal.Value.run_blocks m g, (θ_run _ _ _).mono (fun r h c => ⟨?_, ?_, (h c).2.2⟩) (Cert.Reference24Ideal.Value.run m' g')⟩
  · refine (h c).1.trans ((Cert.Reference24Ideal.Read.val_main_v34_eq _ _ _ _).trans ((Cert.Reference24Ideal.Norm.ref_row _ _ _ _).trans ?_))
    rw [(hagree c).1, (hagree c).2.1, (hagree c).2.2.1, (hagree c).2.2.2]
    exact (Cert.Kernel24Ideal.Norm.final_row m c).symm
  · refine (h c).2.1.trans ((Cert.Reference24Ideal.Read.val_main_v17_eq _ _).trans ((Cert.Reference24Ideal.Norm.ref_scale _ _).trans ?_))
    rw [(hagree c).1, (hagree c).2.2.1]
    exact (Cert.Kernel24Ideal.Norm.final_scale m c).symm

end Cert.Proof
end
-- ==== Proof.Loss.lean ====
/- The loss head: the final normalised layer, the loss, and its gradient to the layer's input and scale. -/
module

public import proofs.«01_k».proof.Proof.Norm
public import proofs.«01_k».proof.Proof.Gen.Kernel25Ideal.Value
public import proofs.«01_k».proof.Proof.Gen.Reference25Ideal.Read
public import Idealize.ShloMosaic.Lib.WritesUnit
public import Idealize.ShloMosaic.Lib.Quiescent
public import proofs.«01_k».proof.Defs

@[expose] public section

set_option maxRecDepth 16384

noncomputable section

open Idealize.ShloMosaic Idealize.ShloMosaic.TcCoe Idealize.SL.Sem
open Cert.Tiles

namespace Cert.Norm

/-- One half. -/
def half : EReal := Ideal.ofBits .f32 0x3F000000#32
/-- The error of a normalised row against its target. -/
def err (x g d : Fin 2048 → EReal) (k : Fin 2048) : EReal := x k * factor x * g k - d k
/-- The mean of a row's squared errors. -/
def lossRow (x g d : Fin 2048 → EReal) : EReal := Ideal.div (∑ k, err x g d k * err x g d k) (Ideal.ofBits .f32 0x45000000#32)
/-- The weight of an entry in the loss. -/
def share : EReal := Ideal.div half (Ideal.ofBits .f32 0x45000000#32)
/-- The loss's gradient to a normalised row. -/
def dErr (x g d : Fin 2048 → EReal) (k : Fin 2048) : EReal := share * (Ideal.ofBits .f32 0x40000000#32 * err x g d k)

theorem half_eq : half = ((1 / 2 : ℝ) : EReal) := by
  simp [half, Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem width_eq : Ideal.ofBits .f32 0x45000000#32 = ((2048 : ℝ) : EReal) := by
  simp [Ideal.ofBits, Ideal.ieee, -EReal.coe_mul]; norm_num

/-- One half of a sum is the sum of the halves. -/
theorem half_mul_sum {n : ℕ} (f : Fin n → EReal) : half * ∑ r, f r = ∑ r, half * f r := by
  have h0 : 0 ≤ half := by rw [half_eq]; exact EReal.coe_nonneg.mpr (by norm_num)
  have h1 : half ≠ ⊤ := by rw [half_eq]; exact EReal.coe_ne_top _
  refine Finset.induction_on (Finset.univ : Finset (Fin n)) (by simp) fun a s ha ih => ?_
  rw [Finset.sum_insert ha, Finset.sum_insert ha, EReal.left_distrib_of_nonneg_of_ne_top h0 h1, ih]

theorem share_nonneg : 0 ≤ share ∧ share ≠ ⊤ := by
  have e : share = ((1 / 2 * (2048 : ℝ)⁻¹ : ℝ) : EReal) := by
    unfold share Ideal.div
    rw [half_eq, width_eq, if_neg (by norm_num), ← EReal.coe_inv, ← EReal.coe_mul]
  rw [e]
  exact ⟨EReal.coe_nonneg.mpr (by norm_num), EReal.coe_ne_top _⟩

/-- An error's gradient, written as the sum of the square's two factors' gradients. -/
theorem two_sided (z : EReal) : z * share + share * z = share * (Ideal.ofBits .f32 0x40000000#32 * z) := by
  have e : Ideal.ofBits .f32 0x40000000#32 * z = z + z := by
    rw [two_eq, show ((2 : ℝ) : EReal) = 1 + 1 by norm_cast, EReal.right_distrib_of_nonneg zero_le_one zero_le_one, one_mul]
  rw [e, EReal.left_distrib_of_nonneg_of_ne_top share_nonneg.1 share_nonneg.2, mul_comm z share]

end Cert.Norm

namespace Cert.Kernel25Ideal.Loss
open Cert.Kernel25Ideal Cert.Kernel25Ideal.Gen Cert.Kernel25Ideal.Value Cert.Norm

variable (m : (ℓ : Loc nD τ sig) → Buf (Elt Ideal) ℓ) (c : Dev nD)

/-- The windows' blocks at every point, and the point the sums are flushed at. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0]
    ∧ ((cfg0.win 3).flush t = true → t.val % 32 = 31) ∧ ((cfg0.win 5).flush t = true → t.val % 32 = 31) :=
  (by decide +kernel : ∀ t : Fin grid0.N, _)

/-- The loss's gradient to a point's normalised rows. -/
theorem pay_err (x : FVec Ideal S256x2048 .f32) (g : FVec Ideal S1x2048 .f32) (d : FVec Ideal S256x2048 .f32) (r : Fin 256) :
    row (R := 256) (n := 2048) (k0_pay12 (F := Ideal) x g d) r = dErr (row (R := 256) x r) (row (R := 1) g 0) (row (R := 256) d r) := by
  funext k
  refine Eq.trans ?_ (two_sided _)
  unfold share half err factor meanSq row
  pointwise [k0_pay12, k0_pay10, k0_pay9, k0_pay7, k0_pay6]
  simp only [Fin.sum_univ_one]

/-- The gradient to the input a point stores, from that to the normalised rows. -/
theorem pay_row (x : FVec Ideal S256x2048 .f32) (g : FVec Ideal S1x2048 .f32) (d : FVec Ideal S256x2048 .f32) (y : S256x2048.Idx) :
    k0_pay1 (F := Ideal) x g (k0_pay7 x) (k0_pay8 x) d y = dRow (row (R := 256) x (y 0)) (row (R := 1) g 0) (row (R := 256) d (y 0)) (y 1) := by
  unfold dRow drag factor meanSq row
  rw [ix2_eta y]
  pointwise [k0_pay1, k0_pay8, k0_pay7, k0_pay6]

/-- The gradient to the scale a point stores: what it held and the point's rows' shares. -/
theorem pay_scale (x : FVec Ideal S256x2048 .f32) (g : FVec Ideal S1x2048 .f32) (d : FVec Ideal S256x2048 .f32) (z : FVec Ideal S1x2048 .f32) (y : S1x2048.Idx) :
    k0_pay5 (F := Ideal) (k0_pay13 x g d) z y
      = z y + ∑ r : Fin 256, dScale (row (R := 256) x r) (dErr (row (R := 256) x r) (row (R := 1) g 0) (row (R := 256) d r)) (y 1) := by
  simp only [← pay_err]
  unfold dScale factor meanSq row k0_pay13
  generalize k0_pay12 (F := Ideal) x g d = D
  pointwise [k0_pay5, k0_pay9, k0_pay7, k0_pay6]

/-- The loss a point stores: what it held and the halves of the point's rows' losses. -/
theorem pay_loss (x : FVec Ideal S256x2048 .f32) (g : FVec Ideal S1x2048 .f32) (d : FVec Ideal S256x2048 .f32) (z : FVec Ideal S8x128 .f32) (y : S8x128.Idx) :
    k0_pay4 (F := Ideal) (k0_pay11 x g d) z y = z y + ∑ r : Fin 256, half * lossRow (row (R := 256) x r) (row (R := 1) g 0) (row (R := 256) d r) := by
  rw [← half_mul_sum]
  unfold half lossRow err factor meanSq row
  pointwise [k0_pay4, k0_pay11, k0_pay10, k0_pay9, k0_pay7, k0_pay6]
  simp only [Fin.sum_univ_one]

/-- What a point leaves in the input's gradient's block. -/
theorem out_row (t : Fin cfg0.N) : (outsAt0 m c t.val t.isLt).2.1
    = k0_pay1 (iblk m c 0 t) (iblk m c 1 t) (k0_pay7 (iblk m c 0 t)) (k0_pay8 (iblk m c 0 t)) (k0_pay12 (iblk m c 0 t) (iblk m c 1 t) (iblk m c 2 t)) := by
  by_cases h : t.val % 32 = 0
  · rw [outsAt0_A m c t h]; frame_out
  · rw [outsAt0_B m c t h]; frame_out

/-- The loss's and the scale's gradient's blocks after the first point. -/
theorem start (t : Fin cfg0.N) (h : t.val % 32 = 0) : (∀ y, ((outsAt0 m c t.val t.isLt).1 y : EReal)
      = 0 + ∑ r : Fin 256, half * lossRow (row (R := 256) (iblk m c 0 t) r) (row (R := 1) (iblk m c 1 t) 0) (row (R := 256) (iblk m c 2 t) r))
    ∧ ∀ y, ((outsAt0 m c t.val t.isLt).2.2 y : EReal)
      = 0 + ∑ r : Fin 256, dScale (row (R := 256) (iblk m c 0 t) r) (dErr (row (R := 256) (iblk m c 0 t) r) (row (R := 1) (iblk m c 1 t) 0) (row (R := 256) (iblk m c 2 t) r)) (y 1) := by
  refine ⟨fun y => ?_, fun y => ?_⟩ <;> rw [outsAt0_A m c t h] <;> frame_out
  · exact (pay_loss _ _ _ _ y).trans (congrArg₂ (· + ·) (by pointwise [k0_pay2]) rfl)
  · exact (pay_scale _ _ _ _ y).trans (congrArg₂ (· + ·) (by pointwise [k0_pay3]) rfl)

/-- The loss's and the scale's gradient's blocks after a further point. -/
theorem step (t : Fin cfg0.N) (h : ¬t.val % 32 = 0) : (∀ y, ((outsAt0 m c t.val t.isLt).1 y : EReal)
      = (outsAt0 m c (t.val - 1) (Nat.lt_of_le_of_lt (Nat.sub_le _ _) t.isLt)).1 y
        + ∑ r : Fin 256, half * lossRow (row (R := 256) (iblk m c 0 t) r) (row (R := 1) (iblk m c 1 t) 0) (row (R := 256) (iblk m c 2 t) r))
    ∧ ∀ y, ((outsAt0 m c t.val t.isLt).2.2 y : EReal)
      = (outsAt0 m c (t.val - 1) (Nat.lt_of_le_of_lt (Nat.sub_le _ _) t.isLt)).2.2 y
        + ∑ r : Fin 256, dScale (row (R := 256) (iblk m c 0 t) r) (dErr (row (R := 256) (iblk m c 0 t) r) (row (R := 1) (iblk m c 1 t) 0) (row (R := 256) (iblk m c 2 t) r)) (y 1) := by
  refine ⟨fun y => ?_, fun y => ?_⟩ <;> rw [outsAt0_B m c t h] <;> frame_out
  · exact pay_loss _ _ _ _ y
  · exact pay_scale _ _ _ _ y

/-- The blocks' rows at a point: the arrays' rows from `t * 256` on, and the scale. -/
theorem blocks (t : Fin cfg0.N) (r : Fin 256) (i : Fin 8192) (hi : i.val = t.val * 256 + r.val) :
    row (R := 256) (n := 2048) (iblk m c 0 t) r = row (R := 8192) (n := 2048) (V m c main_arg0) i
    ∧ row (R := 1) (n := 2048) (iblk m c 1 t) 0 = row (R := 1) (n := 2048) (V m c main_arg1) 0
    ∧ row (R := 256) (n := 2048) (iblk m c 2 t) r = row (R := 8192) (n := 2048) (V m c main_arg2) i := by
  unfold iblk row
  generalize V m c = W
  refine ⟨funext fun k => congrArg (W main_arg0) ?_, funext fun k => congrArg (W main_arg1) ?_, funext fun k => congrArg (W main_arg2) ?_⟩ <;>
    refine funext (Fin.forall_fin_two.mpr ⟨Fin.ext ?_, Fin.ext ?_⟩) <;> blk_simp [idx t, hi]

/-- The loss's array after the run: the loss at every entry. -/
theorem final_loss : (dats m 0 c).arrAt 3 cfg0.N
    = fun i => ∑ r : Fin 8192, half * lossRow (row (R := 8192) (V m c main_arg0) r) (row (R := 1) (V m c main_arg1) 0) (row (R := 8192) (V m c main_arg2) r) := by
  refine (dats m 0 c).arrAt_eq_of_covers 3 _ (by decide +kernel) fun t hf y => ?_
  have ht := (idx t).2.2.2.2.2.2.1 hf
  rw [after0_3]; blk_simp
  refine sum_blocks (fun n h => (outsAt0 m c n h).1) _ (fun t h => (start m c t h).1) (fun t h => (step m c t h).1) t ht y _ fun s k u l hu hl => ?_
  have hs := s.isLt
  have B := blocks m c u k l (by have := t.isLt; have : cfg0.N = 32 := rfl; omega)
  exact congrArg (half * ·) (congr (congrArg₂ lossRow B.1 B.2.1) B.2.2)

/-- The array of the gradient to the input after the run. -/
theorem final_row : (dats m 0 c).arrAt 4 cfg0.N = fun i => dRow (row (R := 8192) (V m c main_arg0) (i 0)) (row (R := 1) (V m c main_arg1) 0)
    (dErr (row (R := 8192) (V m c main_arg0) (i 0)) (row (R := 1) (V m c main_arg1) 0) (row (R := 8192) (V m c main_arg2) (i 0))) (i 1) := by
  refine (dats m 0 c).arrAt_eq_of_covers 4 _ (by decide +kernel) fun t hf y => ?_
  rw [after0_4, out_row m c t]; blk_simp
  have e1 : (((win0_4.blk t).view.emb y) 1 : Fin 2048) = y 1 := Fin.ext (by blk_simp [idx t])
  have B := blocks m c t (y 0) (((win0_4.blk t).view.emb y) 0) (by blk_simp [idx t])
  refine (pay_row _ _ _ y).trans (congr (congr (congrArg₂ dRow B.1 B.2.1) ((pay_err _ _ _ _).trans (congr (congrArg₂ dErr B.1 B.2.1) B.2.2))) e1.symm)

/-- The array of the gradient to the scale after the run. -/
theorem final_scale : (dats m 0 c).arrAt 5 cfg0.N = fun i => ∑ r : Fin 8192, dScale (row (R := 8192) (V m c main_arg0) r)
    (dErr (row (R := 8192) (V m c main_arg0) r) (row (R := 1) (V m c main_arg1) 0) (row (R := 8192) (V m c main_arg2) r)) (i 1) := by
  refine (dats m 0 c).arrAt_eq_of_covers 5 _ (by decide +kernel) fun t hf y => ?_
  have ht := (idx t).2.2.2.2.2.2.2 hf
  rw [after0_5]; blk_simp
  refine sum_blocks (fun n h => (outsAt0 m c n h).2.2) _ (fun t h => (start m c t h).2) (fun t h => (step m c t h).2) t ht y _ fun s k u l hu hl => ?_
  have hs := s.isLt
  have B := blocks m c u k l (by have := t.isLt; have : cfg0.N = 32 := rfl; omega)
  refine congr (congrArg₂ dScale B.1 (congr (congrArg₂ dErr B.1 B.2.1) B.2.2)) (Fin.ext ?_)
  blk_simp [idx t]

end Cert.Kernel25Ideal.Loss

namespace Cert.Reference25Ideal.Loss
open Cert.Reference25Ideal Cert.Reference25Ideal.Read Cert.Norm

/-- The reference's loss. -/
theorem ref_loss (x : Arr 8192 2048) (g : Arr 1 2048) (d : Arr 8192 2048) : val_main_v49 (F := Ideal) x g d
    = fun i => ∑ r : Fin 8192, half * lossRow (row x r) (row g 0) (row d r) := by
  funext i
  rw [← half_mul_sum]
  unfold half lossRow err factor meanSq row
  pointwise [val_main_v0, val_main_cst, val_main_v1, val_main_v2, val_main_cst_0, val_main_v3, val_main_v4, val_main_cst_1, val_main_v5, val_main_v6, val_main_v7, val_main_v11, val_main_v12, val_main_v13, val_main_v14, val_main_v15, val_main_v16, val_main_cst_4, val_main_v19, val_main_cst_5, val_main_v20, val_main_v21, val_main_cst_6, val_main_v22, val_main_cst_7, val_main_v23, val_main_v49]

/-- The reference's gradient to the normalised rows. -/
theorem ref_err (x : Arr 8192 2048) (g : Arr 1 2048) (d : Arr 8192 2048) (r : Fin 8192) :
    dErr (row x r) (row g 0) (row d r) = row (R := 8192) (n := 2048) (val_main_v29 (F := Ideal) x g d) r := by
  funext k
  unfold dErr share half err factor meanSq row
  pointwise [val_main_v0, val_main_cst, val_main_v1, val_main_v2, val_main_cst_0, val_main_v3, val_main_v4, val_main_cst_1, val_main_v5, val_main_v6, val_main_v7, val_main_v11, val_main_v12, val_main_v13, val_main_v14, val_main_v15, val_main_cst_3, val_main_v17, val_main_v18, val_main_cst_8, val_main_cst_9, val_main_v24, val_main_v25, val_main_cst_10, val_main_v26, val_main_v27, val_main_v28, val_main_v29]

/-- The reference's gradient to the input. -/
theorem ref_row (x : Arr 8192 2048) (g : Arr 1 2048) (d : Arr 8192 2048) : val_main_v48 (F := Ideal) x g d
    = fun i => dRow (row x (i 0)) (row g 0) (dErr (row x (i 0)) (row g 0) (row d (i 0))) (i 1) := by
  funext i
  rw [ref_err x g d (i 0)]
  unfold dRow drag factor meanSq row
  rw [ix2_eta i]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v17, val_main_v18, val_main_cst_8, val_main_cst_9, val_main_v24, val_main_v25, val_main_cst_10, val_main_v26, val_main_v27, val_main_v28, val_main_v33, val_main_v34, val_main_v35, val_main_cst_12, val_main_v36, val_main_v37, val_main_v38, val_main_v39, val_main_v40, val_main_cst_13, val_main_v41, val_main_v42, val_main_cst_14, val_main_v43, val_main_v44, val_main_v45, val_main_v46, val_main_v47, val_main_v48]

/-- The reference's gradient to the scale. -/
theorem ref_scale (x : Arr 8192 2048) (g : Arr 1 2048) (d : Arr 8192 2048) : val_main_v32 (F := Ideal) x g d
    = fun i => ∑ r : Fin 8192, dScale (row x r) (dErr (row x r) (row g 0) (row d r)) (i 1) := by
  funext i
  simp only [ref_err x g d]
  unfold dScale factor meanSq row
  pointwise [val_main_v0, val_main_cst, val_main_v1, val_main_v2, val_main_cst_0, val_main_v3, val_main_v4, val_main_cst_1, val_main_v5, val_main_v6, val_main_v7, val_main_v11, val_main_v12, val_main_v13, val_main_v14, val_main_v15, val_main_cst_3, val_main_v17, val_main_v18, val_main_cst_8, val_main_cst_9, val_main_v24, val_main_v25, val_main_cst_10, val_main_v26, val_main_v27, val_main_v28, val_main_v30, val_main_cst_11, val_main_v31, val_main_v32]

end Cert.Reference25Ideal.Loss

namespace Cert.Proof
open Cert.Norm
attribute [local instance] Cert.Kernel25Ideal.Gen.facts Cert.Reference25Ideal.Gen.facts

/-- The reference of the loss head keeps its arguments and its semaphores. -/
theorem reference25_frame : Cert.quiescent_Reference25Ideal := by
  intro m g _
  exact (θ_run _ _ _).mono (fun r h => ⟨fun c => (h c).2.2.2, sem_eq_zero_of_no_sems rfl r.2⟩) (Cert.Reference25Ideal.Value.run m g)

/-- The loss and its gradients are those of the reference. -/
theorem product25 : Cert.algebraic_Kernel25Ideal_Reference25Ideal := by
  intro m g m' g' _ hagree
  refine ⟨_, _, _, Cert.Kernel25Ideal.Value.run_blocks m g, (θ_run _ _ _).mono (fun r h c => ⟨?_, ?_, ?_, (h c).2.2.2⟩) (Cert.Reference25Ideal.Value.run m' g')⟩
  · refine (h c).1.trans ((Cert.Reference25Ideal.Read.val_main_v49_eq _ _ _).trans ((Cert.Reference25Ideal.Loss.ref_loss _ _ _).trans ?_))
    rw [(hagree c).1, (hagree c).2.1, (hagree c).2.2]
    exact (Cert.Kernel25Ideal.Loss.final_loss m c).symm
  · refine (h c).2.1.trans ((Cert.Reference25Ideal.Read.val_main_v48_eq _ _).trans ((Cert.Reference25Ideal.Loss.ref_row _ _ _).trans ?_))
    rw [(hagree c).1, (hagree c).2.1, (hagree c).2.2]
    exact (Cert.Kernel25Ideal.Loss.final_row m c).symm
  · refine (h c).2.2.1.trans ((Cert.Reference25Ideal.Read.val_main_v32_eq _ _ _).trans ((Cert.Reference25Ideal.Loss.ref_scale _ _ _).trans ?_))
    rw [(hagree c).1, (hagree c).2.1, (hagree c).2.2]
    exact (Cert.Kernel25Ideal.Loss.final_scale m c).symm

end Cert.Proof
end
-- ==== Proof.Gate.lean ====
/- The gates' gradients: the attention's gate, and the merge of the four branches. -/
module

public import proofs.«01_k».proof.Proof.Tiles
public import proofs.«01_k».proof.Proof.Gen.Kernel22Ideal.Value
public import proofs.«01_k».proof.Proof.Gen.Reference22Ideal.Read
public import Idealize.ShloMosaic.Lib.WritesUnit
public import Idealize.ShloMosaic.Lib.Quiescent
public import proofs.«01_k».proof.Defs

@[expose] public section

set_option maxRecDepth 16384

noncomputable section

open Idealize.ShloMosaic Idealize.ShloMosaic.TcCoe Idealize.SL.Sem
open Cert.Tiles

namespace Cert.Gate

/-- The sigSlope of the logistic function at `g`. -/
def sigSlope (g : EReal) : EReal := Ideal.logistic g * (1 - Ideal.logistic g)
/-- The gradient of `o * silu z` to `o`, along `d`. -/
def dOut (z d : EReal) : EReal := d * (z * Ideal.logistic z)
/-- The gradient of `o * silu z` to `z`, along `d`. -/
def dGate (o z d : EReal) : EReal := o * d * Ideal.logistic z + z * (o * d) * sigSlope z
/-- The entry of `h` below the entry `i` of the slice of its columns from `s` on. -/
def colAt {R C n : ℕ} (h : Arr R C) (s : ℕ) (hs : s + n ≤ C) (i : (⟨2, ![R, n]⟩ : Shape).Idx) : EReal :=
  h (ix2 (i 0) ⟨s + (i 1).val, Nat.lt_of_lt_of_le (Nat.add_lt_add_left (i 1).isLt s) hs⟩)

end Cert.Gate

namespace Cert.Kernel22Ideal.Gate
open Cert.Kernel22Ideal Cert.Kernel22Ideal.Gen Cert.Kernel22Ideal.Value Cert.Gate

variable (m : (ℓ : Loc nD τ sig) → Buf (Elt Ideal) ℓ) (c : Dev nD)

/-- The windows' blocks at every point. -/
theorem idx : ∀ t : Fin cfg0.N, win0_0.index t = ![t.val, 0] ∧ win0_1.index t = ![t.val, 6] ∧ win0_2.index t = ![t.val, 0]
    ∧ win0_3.index t = ![t.val, 0] ∧ win0_4.index t = ![t.val, 0] :=
  (by decide +kernel : ∀ t : Fin grid0.N, _)

/-- The gradient a point stores for the attention's output. -/
theorem pay_out (z w : FVec Ideal S256x1024 .f32) (y : S256x1024.Idx) : k0_pay2 (F := Ideal) z w y = dOut (z y) (w y) := by
  unfold dOut; pointwise [k0_pay2, k0_pay1]

/-- The gradient a point stores for the gate. -/
theorem pay_gate (o z w : FVec Ideal S256x1024 .f32) (y : S256x1024.Idx) : k0_pay3 (F := Ideal) o z w y = dGate (o y) (z y) (w y) := by
  unfold dGate sigSlope; pointwise [k0_pay3, k0_pay1]

/-- What a point leaves in the two blocks. -/
theorem out (t : Fin cfg0.N) : (outsAt0 m c t).1 = k0_pay2 (X0_1 m c t) (iblk m c 2 t)
    ∧ (outsAt0 m c t).2 = k0_pay3 (iblk m c 0 t) (X0_1 m c t) (iblk m c 2 t) := by
  unfold outsAt0; constructor <;> frame_out

/-- The gate's block at a point: the columns of `h` from 6144 on, at the rows `t * 256` on. -/
theorem gate_block (t : Fin cfg0.N) (y : S256x1024.Idx) (i : S8192x1024.Idx) (h0 : (i 0).val = t.val * 256 + (y 0).val) (h1 : (i 1).val = (y 1).val) :
    (X0_1 m c t y : EReal) = colAt (R := 8192) (C := 16896) (n := 1024) (V m c main_arg1) 6144 (by decide) i := by
  unfold X0_1 Pipeline.Window.fill iblk colAt
  rw [dif_pos (moved0_1 t y)]
  generalize V m c = W
  refine congrArg (W main_arg1) (funext (Fin.forall_fin_two.mpr ⟨Fin.ext ?_, Fin.ext ?_⟩)) <;> blk_simp [idx t, h0, h1]

/-- The array of the gradient to the attention's output after the run. -/
theorem final_out : (dats m 0 c).arrAt 3 cfg0.N = fun i => dOut (colAt (R := 8192) (C := 16896) (n := 1024) (m ((c.tc : Thread nD τ).loc main_arg1)) 6144 (by decide) i)
    ((m ((c.tc : Thread nD τ).loc main_arg2) : Arr 8192 1024) i) := by
  rw [← V_main_arg1 m c, ← V_main_arg2 m c]
  refine (dats m 0 c).arrAt_eq_of_covers 3 _ (by decide +kernel) fun t hf y => ?_
  rw [after0_3, (out m c t).1]; blk_simp
  refine (pay_out _ _ y).trans (congrArg₂ dOut (gate_block m c t y _ (by blk_simp [idx t]) (by blk_simp [idx t])) ?_)
  unfold iblk
  generalize V m c = W
  refine congrArg (W main_arg2) (funext (Fin.forall_fin_two.mpr ⟨Fin.ext ?_, Fin.ext ?_⟩)) <;> blk_simp [idx t]

/-- The array of the gradient to the gate after the run. -/
theorem final_gate : (dats m 0 c).arrAt 4 cfg0.N = fun i => dGate ((m ((c.tc : Thread nD τ).loc main_arg0) : Arr 8192 1024) i)
    (colAt (R := 8192) (C := 16896) (n := 1024) (m ((c.tc : Thread nD τ).loc main_arg1)) 6144 (by decide) i) ((m ((c.tc : Thread nD τ).loc main_arg2) : Arr 8192 1024) i) := by
  rw [← V_main_arg0 m c, ← V_main_arg1 m c, ← V_main_arg2 m c]
  refine (dats m 0 c).arrAt_eq_of_covers 4 _ (by decide +kernel) fun t hf y => ?_
  rw [after0_4, (out m c t).2]; blk_simp
  refine (pay_gate _ _ _ y).trans (congr (congrArg₂ dGate ?_ (gate_block m c t y _ (by blk_simp [idx t]) (by blk_simp [idx t]))) ?_)
  · unfold iblk
    generalize V m c = W
    refine congrArg (W main_arg0) (funext (Fin.forall_fin_two.mpr ⟨Fin.ext ?_, Fin.ext ?_⟩)) <;> blk_simp [idx t]
  · unfold iblk
    generalize V m c = W
    refine congrArg (W main_arg2) (funext (Fin.forall_fin_two.mpr ⟨Fin.ext ?_, Fin.ext ?_⟩)) <;> blk_simp [idx t]

end Cert.Kernel22Ideal.Gate

namespace Cert.Reference22Ideal.Gate
open Cert.Reference22Ideal Cert.Reference22Ideal.Read Cert.Gate

/-- The reference's gradient to the attention's output at an entry. -/
theorem ref_out (x w) : val_main_v4 (F := Ideal) x w = fun i => dOut (colAt (R := 8192) (C := 16896) (n := 1024) x 6144 (by decide) i) ((w : Arr 8192 1024) i) := by
  funext i
  unfold dOut colAt Ideal.logistic
  pointwise [val_main_v4, val_main_call0_v4, val_main_call0_v3, val_main_call0_v2, val_main_call0_v1, val_main_call0_v0, val_main_call0_cst, val_main_call0_cst_0, val_main_v1_0, val_main_v1_2, val_main_v0]

/-- The reference's gradient to the gate at an entry. -/
theorem ref_gate (a x w) : val_main_v5 (F := Ideal) a x w = fun i => dGate ((a : Arr 8192 1024) i) (colAt (R := 8192) (C := 16896) (n := 1024) x 6144 (by decide) i) ((w : Arr 8192 1024) i) := by
  funext i
  unfold dGate sigSlope colAt Ideal.logistic
  pointwise [val_main_v5, val_main_call1_v1, val_main_call1_v2, val_main_call1_v0, val_main_v1_1, val_main_v1_2, val_main_call0_v7, val_main_call0_v6, val_main_call0_v4, val_main_call0_v3, val_main_call0_v2, val_main_call0_v1, val_main_call0_v0, val_main_call0_cst, val_main_call0_cst_0, val_main_call0_cst_1, val_main_v3, val_main_v0]

end Cert.Reference22Ideal.Gate

namespace Cert.Proof
open Cert.Gate
attribute [local instance] Cert.Kernel22Ideal.Gen.facts Cert.Reference22Ideal.Gen.facts

/-- The reference of the attention's gate keeps its arguments and its semaphores. -/
theorem reference22_frame : Cert.quiescent_Reference22Ideal := by
  intro m g _
  exact (θ_run _ _ _).mono (fun r h => ⟨fun c => (h c).2.2, sem_eq_zero_of_no_sems rfl r.2⟩) (Cert.Reference22Ideal.Value.run m g)

/-- The gradients of the attention's gate are those of the reference. -/
theorem product22 : Cert.algebraic_Kernel22Ideal_Reference22Ideal := by
  intro m g m' g' _ hagree
  refine ⟨_, _, Cert.Kernel22Ideal.Value.run_blocks m g, (θ_run _ _ _).mono (fun r h c => ⟨?_, ?_, (h c).2.2⟩) (Cert.Reference22Ideal.Value.run m' g')⟩
  · refine (h c).1.trans ((Cert.Reference22Ideal.Read.val_main_v4_eq _ _).trans ((Cert.Reference22Ideal.Gate.ref_out _ _).trans ?_))
    rw [(hagree c).2.1, (hagree c).2.2]
    exact (Cert.Kernel22Ideal.Gate.final_out m c).symm
  · refine (h c).2.1.trans ((Cert.Reference22Ideal.Read.val_main_v5_eq _ _ _).trans ((Cert.Reference22Ideal.Gate.ref_gate _ _ _).trans ?_))
    rw [(hagree c).1, (hagree c).2.1, (hagree c).2.2]
    exact (Cert.Kernel22Ideal.Gate.final_gate m c).symm

end Cert.Proof
end
-- ==== Proof.Merge.lean ====
/- The merge of the four branches: its gradients to the branches and to their gates. -/
module

public import proofs.«01_k».proof.Proof.Gate
public import proofs.«01_k».proof.Proof.Gen.Kernel21Ideal.Value
public import proofs.«01_k».proof.Proof.Gen.Reference21Ideal.Read
public import Idealize.ShloMosaic.Lib.WritesUnit
public import Idealize.ShloMosaic.Lib.Quiescent
public import proofs.«01_k».proof.Defs

@[expose] public section

set_option maxRecDepth 16384

noncomputable section

open Idealize.ShloMosaic Idealize.ShloMosaic.TcCoe Idealize.SL.Sem
open Cert.Tiles

namespace Cert.Gate

/-- The gradient of `logistic g * p` to `p`, along `d`. -/
def dBranch (g d : EReal) : EReal := Ideal.logistic g * d
/-- The gradient of `logistic g * p` to `g`, along `d`. -/
def dLogit (p g d : EReal) : EReal := d * p * sigSlope g
/-- The array of the gradients to a branch whose gates are the columns of `h` from `s` on. -/
def dBranchArr (h : Arr 8192 16896) (d : Arr 8192 2048) (s : ℕ) (hs : s + 2048 ≤ 16896) : Arr 8192 2048 := fun i => dBranch (colAt h s hs i) (d i)
/-- The array of the gradients to the gates of the branch `p`. -/
def dLogitArr (p : Arr 8192 2048) (h : Arr 8192 16896) (d : Arr 8192 2048) (s : ℕ) (hs : s + 2048 ≤ 16896) : Arr 8192 2048 :=
  fun i => dLogit (p i) (colAt h s hs i) (d i)

end Cert.Gate

namespace Cert.Kernel21Ideal.Gate
open Cert.Kernel21Ideal Cert.Kernel21Ideal.Gen Cert.Kernel21Ideal.Value Cert.Gate

variable (m : (ℓ : Loc nD τ sig) → Buf (Elt Ideal) ℓ) (c : Dev nD)

/-- The blocks of the branches, the incoming gradient and the results at every point. -/
theorem idx : ∀ t : Fin cfg0.N, win0_0.index t = ![t.val, 0] ∧ win0_1.index t = ![t.val, 0] ∧ win0_2.index t = ![t.val, 0] ∧ win0_3.index t = ![t.val, 0]
    ∧ win0_8.index t = ![t.val, 0] ∧ win0_9.index t = ![t.val, 0] ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0] ∧ win0_16.index t = ![t.val, 0] :=
  (by decide +kernel : ∀ t : Fin grid0.N, _)

/-- The blocks of the gates at every point. -/
theorem idxH : ∀ t : Fin cfg0.N, win0_4.index t = ![t.val, 4] ∧ win0_5.index t = ![t.val, 5] ∧ win0_6.index t = ![t.val, 6] ∧ win0_7.index t = ![t.val, 7] :=
  (by decide +kernel : ∀ t : Fin grid0.N, _)

/-- What a point leaves in the eight blocks, in the order of the results. -/
theorem out (t : Fin cfg0.N) (y : S128x2048.Idx) :
    ((outsAt0 m c t).1 y : EReal) = dBranch (X0_4 m c t y) (iblk m c 8 t y)
    ∧ ((outsAt0 m c t).2.1 y : EReal) = dBranch (X0_5 m c t y) (iblk m c 8 t y)
    ∧ ((outsAt0 m c t).2.2.1 y : EReal) = dBranch (X0_6 m c t y) (iblk m c 8 t y)
    ∧ ((outsAt0 m c t).2.2.2.1 y : EReal) = dBranch (X0_7 m c t y) (iblk m c 8 t y)
    ∧ ((outsAt0 m c t).2.2.2.2.1 y : EReal) = dLogit (iblk m c 0 t y) (X0_4 m c t y) (iblk m c 8 t y)
    ∧ ((outsAt0 m c t).2.2.2.2.2.1 y : EReal) = dLogit (iblk m c 1 t y) (X0_5 m c t y) (iblk m c 8 t y)
    ∧ ((outsAt0 m c t).2.2.2.2.2.2.1 y : EReal) = dLogit (iblk m c 2 t y) (X0_6 m c t y) (iblk m c 8 t y)
    ∧ ((outsAt0 m c t).2.2.2.2.2.2.2 y : EReal) = dLogit (iblk m c 3 t y) (X0_7 m c t y) (iblk m c 8 t y) := by
  unfold outsAt0 dBranch dLogit sigSlope
  refine ⟨?_, ?_, ?_, ?_, ?_, ?_, ?_, ?_⟩ <;> frame_out <;> generalize X0_4 m c t = x4 <;> generalize X0_5 m c t = x5 <;> generalize X0_6 m c t = x6 <;> generalize X0_7 m c t = x7 <;>
    generalize iblk m c 8 t = x8 <;> generalize iblk m c 0 t = x0 <;> generalize iblk m c 1 t = x1 <;> generalize iblk m c 2 t = x2 <;> generalize iblk m c 3 t = x3 <;>
    pointwise [k0_pay1, k0_pay2, k0_pay3, k0_pay4, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23]

/-- The gates' blocks at a point: the columns of `h` from 8192, 10240, 12288 and 14336 on, at the rows from `t * 128` on. -/
theorem gate_blocks (t : Fin cfg0.N) (y : S128x2048.Idx) (i : S8192x2048.Idx) (h0 : (i 0).val = t.val * 128 + (y 0).val) (h1 : (i 1).val = (y 1).val) :
    (X0_4 m c t y : EReal) = colAt (R := 8192) (C := 16896) (n := 2048) (V m c main_arg4) 8192 (by decide) i
    ∧ (X0_5 m c t y : EReal) = colAt (R := 8192) (C := 16896) (n := 2048) (V m c main_arg4) 10240 (by decide) i
    ∧ (X0_6 m c t y : EReal) = colAt (R := 8192) (C := 16896) (n := 2048) (V m c main_arg4) 12288 (by decide) i
    ∧ (X0_7 m c t y : EReal) = colAt (R := 8192) (C := 16896) (n := 2048) (V m c main_arg4) 14336 (by decide) i := by
  unfold X0_4 X0_5 X0_6 X0_7 Pipeline.Window.fill iblk colAt
  rw [dif_pos (moved0_4 t y), dif_pos (moved0_5 t y), dif_pos (moved0_6 t y), dif_pos (moved0_7 t y)]
  generalize V m c = W
  refine ⟨?_, ?_, ?_, ?_⟩ <;>
    refine congrArg (W main_arg4) (funext (Fin.forall_fin_two.mpr ⟨Fin.ext ?_, Fin.ext ?_⟩)) <;> blk_simp [idxH t, h0, h1]

/-- The branches' and the incoming gradient's blocks at a point: the rows from `t * 128` on. -/
theorem blocks (t : Fin cfg0.N) (y : S128x2048.Idx) (i : S8192x2048.Idx) (h0 : (i 0).val = t.val * 128 + (y 0).val) (h1 : (i 1).val = (y 1).val) :
    (iblk m c 0 t y : EReal) = (V m c main_arg0 : Arr 8192 2048) i ∧ (iblk m c 1 t y : EReal) = (V m c main_arg1 : Arr 8192 2048) i
    ∧ (iblk m c 2 t y : EReal) = (V m c main_arg2 : Arr 8192 2048) i ∧ (iblk m c 3 t y : EReal) = (V m c main_arg3 : Arr 8192 2048) i
    ∧ (iblk m c 8 t y : EReal) = (V m c main_arg5 : Arr 8192 2048) i := by
  unfold iblk
  generalize V m c = W
  refine ⟨congrArg (W main_arg0) ?_, congrArg (W main_arg1) ?_, congrArg (W main_arg2) ?_, congrArg (W main_arg3) ?_, congrArg (W main_arg5) ?_⟩ <;>
    refine funext (Fin.forall_fin_two.mpr ⟨Fin.ext ?_, Fin.ext ?_⟩) <;> blk_simp [idx t, h0, h1]

/-- The eight arrays after the run. -/
theorem final : (dats m 0 c).arrAt 9 cfg0.N = dBranchArr (V m c main_arg4) (V m c main_arg5) 8192 (by decide)
    ∧ (dats m 0 c).arrAt 10 cfg0.N = dBranchArr (V m c main_arg4) (V m c main_arg5) 10240 (by decide)
    ∧ (dats m 0 c).arrAt 11 cfg0.N = dBranchArr (V m c main_arg4) (V m c main_arg5) 12288 (by decide)
    ∧ (dats m 0 c).arrAt 12 cfg0.N = dBranchArr (V m c main_arg4) (V m c main_arg5) 14336 (by decide)
    ∧ (dats m 0 c).arrAt 13 cfg0.N = dLogitArr (V m c main_arg0) (V m c main_arg4) (V m c main_arg5) 8192 (by decide)
    ∧ (dats m 0 c).arrAt 14 cfg0.N = dLogitArr (V m c main_arg1) (V m c main_arg4) (V m c main_arg5) 10240 (by decide)
    ∧ (dats m 0 c).arrAt 15 cfg0.N = dLogitArr (V m c main_arg2) (V m c main_arg4) (V m c main_arg5) 12288 (by decide)
    ∧ (dats m 0 c).arrAt 16 cfg0.N = dLogitArr (V m c main_arg3) (V m c main_arg4) (V m c main_arg5) 14336 (by decide) := by
  refine ⟨?_, ?_, ?_, ?_, ?_, ?_, ?_, ?_⟩
  · refine (dats m 0 c).arrAt_eq_of_covers 9 _ (by decide +kernel) fun t hf y => ?_
    rw [after0_9]; blk_simp
    exact (out m c t y).1.trans (congrArg₂ dBranch (gate_blocks m c t y _ (by blk_simp [idx t]) (by blk_simp [idx t])).1 (blocks m c t y _ (by blk_simp [idx t]) (by blk_simp [idx t])).2.2.2.2)
  · refine (dats m 0 c).arrAt_eq_of_covers 10 _ (by decide +kernel) fun t hf y => ?_
    rw [after0_10]; blk_simp
    exact (out m c t y).2.1.trans (congrArg₂ dBranch (gate_blocks m c t y _ (by blk_simp [idx t]) (by blk_simp [idx t])).2.1 (blocks m c t y _ (by blk_simp [idx t]) (by blk_simp [idx t])).2.2.2.2)
  · refine (dats m 0 c).arrAt_eq_of_covers 11 _ (by decide +kernel) fun t hf y => ?_
    rw [after0_11]; blk_simp
    exact (out m c t y).2.2.1.trans (congrArg₂ dBranch (gate_blocks m c t y _ (by blk_simp [idx t]) (by blk_simp [idx t])).2.2.1 (blocks m c t y _ (by blk_simp [idx t]) (by blk_simp [idx t])).2.2.2.2)
  · refine (dats m 0 c).arrAt_eq_of_covers 12 _ (by decide +kernel) fun t hf y => ?_
    rw [after0_12]; blk_simp
    exact (out m c t y).2.2.2.1.trans (congrArg₂ dBranch (gate_blocks m c t y _ (by blk_simp [idx t]) (by blk_simp [idx t])).2.2.2 (blocks m c t y _ (by blk_simp [idx t]) (by blk_simp [idx t])).2.2.2.2)
  · refine (dats m 0 c).arrAt_eq_of_covers 13 _ (by decide +kernel) fun t hf y => ?_
    rw [after0_13]; blk_simp
    exact (out m c t y).2.2.2.2.1.trans (congr (congrArg₂ dLogit (blocks m c t y _ (by blk_simp [idx t]) (by blk_simp [idx t])).1 (gate_blocks m c t y _ (by blk_simp [idx t]) (by blk_simp [idx t])).1) (blocks m c t y _ (by blk_simp [idx t]) (by blk_simp [idx t])).2.2.2.2)
  · refine (dats m 0 c).arrAt_eq_of_covers 14 _ (by decide +kernel) fun t hf y => ?_
    rw [after0_14]; blk_simp
    exact (out m c t y).2.2.2.2.2.1.trans (congr (congrArg₂ dLogit (blocks m c t y _ (by blk_simp [idx t]) (by blk_simp [idx t])).2.1 (gate_blocks m c t y _ (by blk_simp [idx t]) (by blk_simp [idx t])).2.1) (blocks m c t y _ (by blk_simp [idx t]) (by blk_simp [idx t])).2.2.2.2)
  · refine (dats m 0 c).arrAt_eq_of_covers 15 _ (by decide +kernel) fun t hf y => ?_
    rw [after0_15]; blk_simp
    exact (out m c t y).2.2.2.2.2.2.1.trans (congr (congrArg₂ dLogit (blocks m c t y _ (by blk_simp [idx t]) (by blk_simp [idx t])).2.2.1 (gate_blocks m c t y _ (by blk_simp [idx t]) (by blk_simp [idx t])).2.2.1) (blocks m c t y _ (by blk_simp [idx t]) (by blk_simp [idx t])).2.2.2.2)
  · refine (dats m 0 c).arrAt_eq_of_covers 16 _ (by decide +kernel) fun t hf y => ?_
    rw [after0_16]; blk_simp
    exact (out m c t y).2.2.2.2.2.2.2.trans (congr (congrArg₂ dLogit (blocks m c t y _ (by blk_simp [idx t]) (by blk_simp [idx t])).2.2.2.1 (gate_blocks m c t y _ (by blk_simp [idx t]) (by blk_simp [idx t])).2.2.2) (blocks m c t y _ (by blk_simp [idx t]) (by blk_simp [idx t])).2.2.2.2)

end Cert.Kernel21Ideal.Gate

namespace Cert.Reference21Ideal.Gate
open Cert.Reference21Ideal Cert.Reference21Ideal.Read Cert.Gate

/-- The reference's gradients to the four branches. -/
theorem ref_branch (x : Arr 8192 16896) (w : Arr 8192 2048) :
    val_main_v67 (F := Ideal) x w = dBranchArr x w 8192 (by decide) ∧ val_main_v68 (F := Ideal) x w = dBranchArr x w 10240 (by decide)
    ∧ val_main_v69 (F := Ideal) x w = dBranchArr x w 12288 (by decide) ∧ val_main_v70 (F := Ideal) x w = dBranchArr x w 14336 (by decide) := by
  refine ⟨?_, ?_, ?_, ?_⟩ <;> funext i <;> unfold dBranchArr dBranch colAt Ideal.logistic <;>
    pointwise [val_main_v67, val_main_v68, val_main_v69, val_main_v70, val_main_v64, val_main_v61, val_main_v58, val_main_v55, val_main_v14, val_main_v53, val_main_v25, val_main_v36, val_main_v47, val_main_v54, val_main_v13, val_main_v12, val_main_v24, val_main_v23, val_main_v35, val_main_v34, val_main_v46, val_main_v45, val_main_cst_1, val_main_v11, val_main_v10, val_main_cst_4, val_main_v22, val_main_v21, val_main_cst_7, val_main_v33, val_main_v32, val_main_cst_10, val_main_v44, val_main_v43, val_main_cst_0, val_main_v9, val_main_cst_3, val_main_v20, val_main_cst_6, val_main_v31, val_main_cst_9, val_main_v42, val_main_v4, val_main_v5, val_main_v6, val_main_v7]

/-- The reference's gradients to the four branches' gates. -/
theorem ref_gate (a b p q : Arr 8192 2048) (x : Arr 8192 16896) (w : Arr 8192 2048) :
    val_main_v71 (F := Ideal) a x w = dLogitArr a x w 8192 (by decide) ∧ val_main_v72 (F := Ideal) b x w = dLogitArr b x w 10240 (by decide)
    ∧ val_main_v73 (F := Ideal) p x w = dLogitArr p x w 12288 (by decide) ∧ val_main_v74 (F := Ideal) q x w = dLogitArr q x w 14336 (by decide) := by
  refine ⟨?_, ?_, ?_, ?_⟩ <;> funext i <;> unfold dLogitArr dLogit sigSlope colAt Ideal.logistic <;>
    pointwise [val_main_v71, val_main_v72, val_main_v73, val_main_v74, val_main_v66, val_main_v63, val_main_v60, val_main_v57, val_main_v14, val_main_v53, val_main_v25, val_main_v36, val_main_v47, val_main_v54, val_main_v65, val_main_v17, val_main_v62, val_main_v28, val_main_v59, val_main_v39, val_main_v56, val_main_v50, val_main_v13, val_main_v12, val_main_v24, val_main_v23, val_main_v35, val_main_v34, val_main_v46, val_main_v45, val_main_v0, val_main_v16, val_main_v1, val_main_v27, val_main_v2, val_main_v38, val_main_v3, val_main_v49, val_main_cst_1, val_main_v11, val_main_v10, val_main_cst_4, val_main_v22, val_main_v21, val_main_cst_7, val_main_v33, val_main_v32, val_main_cst_10, val_main_v44, val_main_v43, val_main_v15, val_main_v26, val_main_v37, val_main_v48, val_main_cst_0, val_main_v9, val_main_cst_3, val_main_v20, val_main_cst_6, val_main_v31, val_main_cst_9, val_main_v42, val_main_cst_2, val_main_cst_5, val_main_cst_8, val_main_cst_11, val_main_v4, val_main_v5, val_main_v6, val_main_v7]

end Cert.Reference21Ideal.Gate

namespace Cert.Proof
attribute [local instance] Cert.Kernel21Ideal.Gen.facts Cert.Reference21Ideal.Gen.facts

/-- The reference of the merge keeps its arguments and its semaphores. -/
theorem reference21_frame : Cert.quiescent_Reference21Ideal := by
  intro m g _
  exact (θ_run _ _ _).mono (fun r h => ⟨fun c => (h c).2.2.2.2.2.2.2.2, sem_eq_zero_of_no_sems rfl r.2⟩) (Cert.Reference21Ideal.Value.run m g)

/-- The merge's gradients to the four branches and to their gates are those of the reference. -/
theorem product21 : Cert.algebraic_Kernel21Ideal_Reference21Ideal := by
  intro m g m' g' _ hagree
  refine ⟨_, _, _, _, _, _, _, _, Cert.Kernel21Ideal.Value.run_blocks m g,
    (θ_run _ _ _).mono (fun r h c => ⟨?_, ?_, ?_, ?_, ?_, ?_, ?_, ?_, (h c).2.2.2.2.2.2.2.2⟩) (Cert.Reference21Ideal.Value.run m' g')⟩
  · refine (h c).1.trans ((Cert.Reference21Ideal.Read.val_main_v67_eq _ _).trans ((Cert.Reference21Ideal.Gate.ref_branch _ _).1.trans ?_))
    rw [(hagree c).2.2.2.2.1, (hagree c).2.2.2.2.2]
    exact (Cert.Kernel21Ideal.Gate.final m c).1.symm
  · refine (h c).2.1.trans ((Cert.Reference21Ideal.Read.val_main_v68_eq _ _).trans ((Cert.Reference21Ideal.Gate.ref_branch _ _).2.1.trans ?_))
    rw [(hagree c).2.2.2.2.1, (hagree c).2.2.2.2.2]
    exact (Cert.Kernel21Ideal.Gate.final m c).2.1.symm
  · refine (h c).2.2.1.trans ((Cert.Reference21Ideal.Read.val_main_v69_eq _ _).trans ((Cert.Reference21Ideal.Gate.ref_branch _ _).2.2.1.trans ?_))
    rw [(hagree c).2.2.2.2.1, (hagree c).2.2.2.2.2]
    exact (Cert.Kernel21Ideal.Gate.final m c).2.2.1.symm
  · refine (h c).2.2.2.1.trans ((Cert.Reference21Ideal.Read.val_main_v70_eq _ _).trans ((Cert.Reference21Ideal.Gate.ref_branch _ _).2.2.2.trans ?_))
    rw [(hagree c).2.2.2.2.1, (hagree c).2.2.2.2.2]
    exact (Cert.Kernel21Ideal.Gate.final m c).2.2.2.1.symm
  · refine (h c).2.2.2.2.1.trans ((Cert.Reference21Ideal.Read.val_main_v71_eq _ _ _).trans ((Cert.Reference21Ideal.Gate.ref_gate (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) (m' ((c.tc : Thread Cert.Reference21Ideal.nD Cert.Reference21Ideal.τ).loc Cert.Reference21Ideal.main_arg3)) _ _).1.trans ?_))
    rw [(hagree c).1, (hagree c).2.2.2.2.1, (hagree c).2.2.2.2.2]
    exact (Cert.Kernel21Ideal.Gate.final m c).2.2.2.2.1.symm
  · refine (h c).2.2.2.2.2.1.trans ((Cert.Reference21Ideal.Read.val_main_v72_eq _ _ _).trans ((Cert.Reference21Ideal.Gate.ref_gate (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) (m' ((c.tc : Thread Cert.Reference21Ideal.nD Cert.Reference21Ideal.τ).loc Cert.Reference21Ideal.main_arg3)) _ _).2.1.trans ?_))
    rw [(hagree c).2.1, (hagree c).2.2.2.2.1, (hagree c).2.2.2.2.2]
    exact (Cert.Kernel21Ideal.Gate.final m c).2.2.2.2.2.1.symm
  · refine (h c).2.2.2.2.2.2.1.trans ((Cert.Reference21Ideal.Read.val_main_v73_eq _ _ _).trans ((Cert.Reference21Ideal.Gate.ref_gate (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) (m' ((c.tc : Thread Cert.Reference21Ideal.nD Cert.Reference21Ideal.τ).loc Cert.Reference21Ideal.main_arg3)) _ _).2.2.1.trans ?_))
    rw [(hagree c).2.2.1, (hagree c).2.2.2.2.1, (hagree c).2.2.2.2.2]
    exact (Cert.Kernel21Ideal.Gate.final m c).2.2.2.2.2.2.1.symm
  · refine (h c).2.2.2.2.2.2.2.1.trans ((Cert.Reference21Ideal.Read.val_main_v74_eq _ _ _).trans ((Cert.Reference21Ideal.Gate.ref_gate (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) (m' ((c.tc : Thread Cert.Reference21Ideal.nD Cert.Reference21Ideal.τ).loc Cert.Reference21Ideal.main_arg3)) _ _).2.2.2.trans ?_))
    rw [(hagree c).2.2.2.1, (hagree c).2.2.2.2.1, (hagree c).2.2.2.2.2]
    exact (Cert.Kernel21Ideal.Gate.final m c).2.2.2.2.2.2.2.symm

end Cert.Proof
end
-- ==== Proof.Forward.lean ====
/- The norm, the gate behind the attention and the merge of the branches, forward. -/
module

public import proofs.«01_k».proof.Proof.Merge
public import proofs.«01_k».proof.Proof.Norm
public import proofs.«01_k».proof.Proof.Gen.Kernel28Ideal.Value
public import proofs.«01_k».proof.Proof.Gen.Reference28Ideal.Read
public import proofs.«01_k».proof.Proof.Gen.Kernel29Ideal.Value
public import proofs.«01_k».proof.Proof.Gen.Reference29Ideal.Read
public import proofs.«01_k».proof.Proof.Gen.Kernel30Ideal.Value
public import proofs.«01_k».proof.Proof.Gen.Reference30Ideal.Read
public import Idealize.ShloMosaic.Lib.WritesUnit
public import Idealize.ShloMosaic.Lib.Quiescent
public import proofs.«01_k».proof.Defs

@[expose] public section

set_option maxRecDepth 16384

noncomputable section

open Idealize.ShloMosaic Idealize.ShloMosaic.TcCoe Idealize.SL.Sem
open Cert.Tiles

namespace Cert.Norm

/-- A row scaled to a mean square of one, and by the scale. -/
def normRow (x g : Fin 2048 → EReal) (k : Fin 2048) : EReal := x k * factor x * g k

end Cert.Norm

namespace Cert.Gate

/-- An entry under its gate: `o * silu z`. -/
def gated (o z : EReal) : EReal := o * (z * Ideal.logistic z)
/-- The sum of four entries under their gates. -/
def merged (p0 p1 p2 p3 g0 g1 g2 g3 : EReal) : EReal :=
  Ideal.logistic g0 * p0 + Ideal.logistic g1 * p1 + Ideal.logistic g2 * p2 + Ideal.logistic g3 * p3
/-- The array of the merged branches, whose gates are the columns of `h` from 8192 on. -/
def mergedArr (p0 p1 p2 p3 : Arr 8192 2048) (h : Arr 8192 16896) : Arr 8192 2048 := fun i => merged (p0 i) (p1 i) (p2 i) (p3 i)
  (colAt h 8192 (by decide) i) (colAt h 10240 (by decide) i) (colAt h 12288 (by decide) i) (colAt h 14336 (by decide) i)

end Cert.Gate

namespace Cert.Kernel28Ideal.Forward
open Cert.Kernel28Ideal Cert.Kernel28Ideal.Gen Cert.Kernel28Ideal.Value Cert.Norm

variable (m : (ℓ : Loc nD τ sig) → Buf (Elt Ideal) ℓ) (c : Dev nD)

/-- The windows' blocks at every point. -/
theorem idx : ∀ t : Fin cfg0.N, win0_0.index t = ![t.val, 0] ∧ win0_1.index t = ![0, 0] ∧ win0_2.index t = ![t.val, 0] :=
  (by decide +kernel : ∀ t : Fin grid0.N, _)

/-- What a point stores: its normalised rows. -/
theorem pay (x : FVec Ideal S256x2048 .f32) (g : FVec Ideal S1x2048 .f32) (y : S256x2048.Idx) :
    (out0_2 (F := Ideal) x g y : EReal) = normRow (row (R := 256) x (y 0)) (row (R := 1) g 0) (y 1) := by
  refine (canon2_eq _ _ y).trans ?_
  unfold normRow factor meanSq row
  rw [ix2_eta y]
  pointwise [E2]

/-- The blocks' rows at a point. -/
theorem blocks (t : Fin cfg0.N) (r : Fin 256) (i : Fin 8192) (hi : i.val = t.val * 256 + r.val) :
    row (R := 256) (n := 2048) (iblk m c 0 t) r = row (R := 8192) (n := 2048) (V m c main_arg0) i
    ∧ row (R := 1) (n := 2048) (iblk m c 1 t) 0 = row (R := 1) (n := 2048) (V m c main_arg1) 0 := by
  unfold iblk row
  generalize V m c = W
  refine ⟨funext fun k => congrArg (W main_arg0) ?_, funext fun k => congrArg (W main_arg1) ?_⟩ <;>
    refine funext (Fin.forall_fin_two.mpr ⟨Fin.ext ?_, Fin.ext ?_⟩) <;> blk_simp [idx t, hi]

/-- The normalised array after the run. -/
theorem final : (dats m 0 c).arrAt 2 cfg0.N = fun i => normRow (row (R := 8192) (V m c main_arg0) (i 0)) (row (R := 1) (V m c main_arg1) 0) (i 1) := by
  refine (dats m 0 c).arrAt_eq_of_covers 2 _ (by decide +kernel) fun t hf y => ?_
  rw [after0_2]; blk_simp
  have e1 : (((win0_2.blk t).view.emb y) 1 : Fin 2048) = y 1 := Fin.ext (by blk_simp [idx t])
  have B := blocks m c t (y 0) (((win0_2.blk t).view.emb y) 0) (by blk_simp [idx t])
  exact (pay _ _ y).trans (congr (congrArg₂ normRow B.1 B.2) e1.symm)

end Cert.Kernel28Ideal.Forward

namespace Cert.Reference28Ideal.Forward
open Cert.Reference28Ideal Cert.Reference28Ideal.Read Cert.Norm

/-- The reference's normalised array. -/
theorem ref_norm (x : Arr 8192 2048) (g : Arr 1 2048) : val_main_v12 (F := Ideal) x g = fun i => normRow (row x (i 0)) (row g 0) (i 1) := by
  funext i
  unfold normRow factor meanSq row
  rw [ix2_eta i]
  pointwise [val_main_v0, val_main_cst, val_main_v1, val_main_v2, val_main_cst_0, val_main_v3, val_main_v4, val_main_cst_1, val_main_v5, val_main_v6, val_main_v7, val_main_v8, val_main_v9, val_main_v10, val_main_v11, val_main_v12]

end Cert.Reference28Ideal.Forward

namespace Cert.Kernel29Ideal.Forward
open Cert.Kernel29Ideal Cert.Kernel29Ideal.Gen Cert.Kernel29Ideal.Value Cert.Gate

variable (m : (ℓ : Loc nD τ sig) → Buf (Elt Ideal) ℓ) (c : Dev nD)

/-- The windows' blocks at every point. -/
theorem idx : ∀ t : Fin cfg0.N, win0_0.index t = ![t.val, 0] ∧ win0_1.index t = ![t.val, 6] ∧ win0_2.index t = ![t.val, 0] :=
  (by decide +kernel : ∀ t : Fin grid0.N, _)

/-- What a point leaves in its block: the rows under their gates. -/
theorem out (t : Fin cfg0.N) (y : S256x1024.Idx) : (outsAt0 m c t y : EReal) = gated (iblk m c 0 t y) (X0_1 m c t y) := by
  unfold outsAt0 gated; frame_out
  generalize X0_1 m c t = z; generalize iblk m c 0 t = o
  pointwise [k0_pay1]

/-- The blocks at a point: the rows from `t * 256` on, of the gates the columns of `h` from 6144 on. -/
theorem blocks (t : Fin cfg0.N) (y : S256x1024.Idx) (i : S8192x1024.Idx) (h0 : (i 0).val = t.val * 256 + (y 0).val) (h1 : (i 1).val = (y 1).val) :
    (iblk m c 0 t y : EReal) = (V m c main_arg0 : Arr 8192 1024) i
    ∧ (X0_1 m c t y : EReal) = colAt (R := 8192) (C := 16896) (n := 1024) (V m c main_arg1) 6144 (by decide) i := by
  unfold X0_1 Pipeline.Window.fill iblk colAt
  rw [dif_pos (moved0_1 t y)]
  generalize V m c = W
  refine ⟨congrArg (W main_arg0) ?_, congrArg (W main_arg1) ?_⟩ <;>
    refine funext (Fin.forall_fin_two.mpr ⟨Fin.ext ?_, Fin.ext ?_⟩) <;> blk_simp [idx t, h0, h1]

/-- The array after the run. -/
theorem final : (dats m 0 c).arrAt 2 cfg0.N = fun i => gated ((m ((c.tc : Thread nD τ).loc main_arg0) : Arr 8192 1024) i) (colAt (R := 8192) (C := 16896) (n := 1024) (V m c main_arg1) 6144 (by decide) i) := by
  refine (dats m 0 c).arrAt_eq_of_covers 2 _ (by decide +kernel) fun t hf y => ?_
  rw [after0_2]; blk_simp
  have B := blocks m c t y ((win0_2.blk t).view.emb y) (by blk_simp [idx t]) (by blk_simp [idx t])
  exact (out m c t y).trans (congrArg₂ gated B.1 B.2)

end Cert.Kernel29Ideal.Forward

namespace Cert.Reference29Ideal.Forward
open Cert.Reference29Ideal Cert.Reference29Ideal.Read Cert.Gate

/-- The reference's array under its gates. -/
theorem ref_gated (o x) : val_main_v2 (F := Ideal) o x = fun i => gated ((o : Arr 8192 1024) i) (colAt (R := 8192) (C := 16896) (n := 1024) x 6144 (by decide) i) := by
  funext i
  unfold gated colAt Ideal.logistic
  pointwise [val_main_v0, val_main_call0_v0, val_main_call0_v1, val_main_call0_cst, val_main_call0_v2, val_main_call0_v3, val_main_call0_cst_0, val_main_call0_v4, val_main_call0_v5, val_main_v1, val_main_v2]

end Cert.Reference29Ideal.Forward

namespace Cert.Kernel30Ideal.Forward
open Cert.Kernel30Ideal Cert.Kernel30Ideal.Gen Cert.Kernel30Ideal.Value Cert.Gate

variable (m : (ℓ : Loc nD τ sig) → Buf (Elt Ideal) ℓ) (c : Dev nD)

/-- The blocks of the branches and the result at every point. -/
theorem idx : ∀ t : Fin cfg0.N, win0_0.index t = ![t.val, 0] ∧ win0_1.index t = ![t.val, 0] ∧ win0_2.index t = ![t.val, 0] ∧ win0_3.index t = ![t.val, 0]
    ∧ win0_8.index t = ![t.val, 0] :=
  (by decide +kernel : ∀ t : Fin grid0.N, _)

/-- The blocks of the gates at every point. -/
theorem idxH : ∀ t : Fin cfg0.N, win0_4.index t = ![t.val, 4] ∧ win0_5.index t = ![t.val, 5] ∧ win0_6.index t = ![t.val, 6] ∧ win0_7.index t = ![t.val, 7] :=
  (by decide +kernel : ∀ t : Fin grid0.N, _)

/-- What a point leaves in its block: the sum of the branches under their gates. -/
theorem out (t : Fin cfg0.N) (y : S128x2048.Idx) : (outsAt0 m c t y : EReal)
    = merged (iblk m c 0 t y) (iblk m c 1 t y) (iblk m c 2 t y) (iblk m c 3 t y) (X0_4 m c t y) (X0_5 m c t y) (X0_6 m c t y) (X0_7 m c t y) := by
  unfold outsAt0 merged; frame_out
  generalize X0_4 m c t = x4; generalize X0_5 m c t = x5; generalize X0_6 m c t = x6; generalize X0_7 m c t = x7
  generalize iblk m c 0 t = x0; generalize iblk m c 1 t = x1; generalize iblk m c 2 t = x2; generalize iblk m c 3 t = x3
  pointwise [k0_pay1]

/-- The gates' blocks at a point: the columns of `h` from 8192, 10240, 12288 and 14336 on, at the rows from `t * 128` on. -/
theorem gate_blocks (t : Fin cfg0.N) (y : S128x2048.Idx) (i : S8192x2048.Idx) (h0 : (i 0).val = t.val * 128 + (y 0).val) (h1 : (i 1).val = (y 1).val) :
    (X0_4 m c t y : EReal) = colAt (R := 8192) (C := 16896) (n := 2048) (V m c main_arg4) 8192 (by decide) i
    ∧ (X0_5 m c t y : EReal) = colAt (R := 8192) (C := 16896) (n := 2048) (V m c main_arg4) 10240 (by decide) i
    ∧ (X0_6 m c t y : EReal) = colAt (R := 8192) (C := 16896) (n := 2048) (V m c main_arg4) 12288 (by decide) i
    ∧ (X0_7 m c t y : EReal) = colAt (R := 8192) (C := 16896) (n := 2048) (V m c main_arg4) 14336 (by decide) i := by
  unfold X0_4 X0_5 X0_6 X0_7 Pipeline.Window.fill iblk colAt
  rw [dif_pos (moved0_4 t y), dif_pos (moved0_5 t y), dif_pos (moved0_6 t y), dif_pos (moved0_7 t y)]
  generalize V m c = W
  refine ⟨?_, ?_, ?_, ?_⟩ <;>
    refine congrArg (W main_arg4) (funext (Fin.forall_fin_two.mpr ⟨Fin.ext ?_, Fin.ext ?_⟩)) <;> blk_simp [idxH t, h0, h1]

/-- The branches' blocks at a point: the rows from `t * 128` on. -/
theorem blocks (t : Fin cfg0.N) (y : S128x2048.Idx) (i : S8192x2048.Idx) (h0 : (i 0).val = t.val * 128 + (y 0).val) (h1 : (i 1).val = (y 1).val) :
    (iblk m c 0 t y : EReal) = (V m c main_arg0 : Arr 8192 2048) i ∧ (iblk m c 1 t y : EReal) = (V m c main_arg1 : Arr 8192 2048) i
    ∧ (iblk m c 2 t y : EReal) = (V m c main_arg2 : Arr 8192 2048) i ∧ (iblk m c 3 t y : EReal) = (V m c main_arg3 : Arr 8192 2048) i := by
  unfold iblk
  generalize V m c = W
  refine ⟨congrArg (W main_arg0) ?_, congrArg (W main_arg1) ?_, congrArg (W main_arg2) ?_, congrArg (W main_arg3) ?_⟩ <;>
    refine funext (Fin.forall_fin_two.mpr ⟨Fin.ext ?_, Fin.ext ?_⟩) <;> blk_simp [idx t, h0, h1]

/-- The merged array after the run. -/
theorem final : (dats m 0 c).arrAt 8 cfg0.N = mergedArr (V m c main_arg0) (V m c main_arg1) (V m c main_arg2) (V m c main_arg3) (V m c main_arg4) := by
  refine (dats m 0 c).arrAt_eq_of_covers 8 _ (by decide +kernel) fun t hf y => ?_
  rw [after0_8]; blk_simp
  have B := blocks m c t y ((win0_8.blk t).view.emb y) (by blk_simp [idx t]) (by blk_simp [idx t])
  have G := gate_blocks m c t y ((win0_8.blk t).view.emb y) (by blk_simp [idx t]) (by blk_simp [idx t])
  refine (out m c t y).trans ?_
  rw [B.1, B.2.1, B.2.2.1, B.2.2.2, G.1, G.2.1, G.2.2.1, G.2.2.2]
  rfl

end Cert.Kernel30Ideal.Forward

namespace Cert.Reference30Ideal.Forward
open Cert.Reference30Ideal Cert.Reference30Ideal.Read Cert.Gate

/-- The reference's merged array. -/
theorem ref_merged (a b p q : Arr 8192 2048) (x : Arr 8192 16896) : val_main_v41 (F := Ideal) a b p q x = mergedArr a b p q x := by
  funext i
  unfold mergedArr merged colAt Ideal.logistic
  pointwise [val_main_v0, val_main_v1, val_main_v2, val_main_v3, val_main_v4, val_main_v5, val_main_v6, val_main_v7, val_main_cst, val_main_v8, val_main_v9, val_main_v10, val_main_cst_0, val_main_v11, val_main_v12, val_main_cst_1, val_main_v13, val_main_v14, val_main_v15, val_main_v16, val_main_v17, val_main_v18, val_main_cst_2, val_main_v19, val_main_v20, val_main_cst_3, val_main_v21, val_main_v22, val_main_v23, val_main_v24, val_main_v25, val_main_v26, val_main_cst_4, val_main_v27, val_main_v28, val_main_cst_5, val_main_v29, val_main_v30, val_main_v31, val_main_v32, val_main_v33, val_main_v34, val_main_cst_6, val_main_v35, val_main_v36, val_main_cst_7, val_main_v37, val_main_v38, val_main_v39, val_main_v40, val_main_v41]

end Cert.Reference30Ideal.Forward

namespace Cert.Proof
attribute [local instance] Cert.Kernel28Ideal.Gen.facts Cert.Reference28Ideal.Gen.facts Cert.Kernel29Ideal.Gen.facts Cert.Reference29Ideal.Gen.facts
  Cert.Kernel30Ideal.Gen.facts Cert.Reference30Ideal.Gen.facts

/-- The reference of the norm keeps its arguments and its semaphores. -/
theorem reference28_frame : Cert.quiescent_Reference28Ideal := by
  intro m g _
  exact (θ_run _ _ _).mono (fun r h => ⟨fun c => (h c).2, sem_eq_zero_of_no_sems rfl r.2⟩) (Cert.Reference28Ideal.Value.run m g)

/-- The reference of the gate keeps its arguments and its semaphores. -/
theorem reference29_frame : Cert.quiescent_Reference29Ideal := by
  intro m g _
  exact (θ_run _ _ _).mono (fun r h => ⟨fun c => (h c).2, sem_eq_zero_of_no_sems rfl r.2⟩) (Cert.Reference29Ideal.Value.run m g)

/-- The reference of the merge keeps its arguments and its semaphores. -/
theorem reference30_frame : Cert.quiescent_Reference30Ideal := by
  intro m g _
  exact (θ_run _ _ _).mono (fun r h => ⟨fun c => (h c).2, sem_eq_zero_of_no_sems rfl r.2⟩) (Cert.Reference30Ideal.Value.run m g)

/-- The norm is the reference's. -/
theorem product28 : Cert.algebraic_Kernel28Ideal_Reference28Ideal := by
  intro m g m' g' _ hagree
  refine ⟨_, Cert.Kernel28Ideal.Value.run_blocks m g, (θ_run _ _ _).mono (fun r h c => ⟨?_, (h c).2⟩) (Cert.Reference28Ideal.Value.run m' g')⟩
  refine (h c).1.trans ((Cert.Reference28Ideal.Read.val_main_v12_eq _ _).trans ((Cert.Reference28Ideal.Forward.ref_norm _ _).trans ?_))
  rw [(hagree c).1, (hagree c).2]
  exact (Cert.Kernel28Ideal.Forward.final m c).symm

/-- The attention under its gate is the reference's. -/
theorem product29 : Cert.algebraic_Kernel29Ideal_Reference29Ideal := by
  intro m g m' g' _ hagree
  refine ⟨_, Cert.Kernel29Ideal.Value.run_blocks m g, (θ_run _ _ _).mono (fun r h c => ⟨?_, (h c).2⟩) (Cert.Reference29Ideal.Value.run m' g')⟩
  refine (h c).1.trans ((Cert.Reference29Ideal.Read.val_main_v2_eq _ _).trans ((Cert.Reference29Ideal.Forward.ref_gated _ _).trans ?_))
  rw [(hagree c).1, (hagree c).2]
  exact (Cert.Kernel29Ideal.Forward.final m c).symm

/-- The merged branches are the reference's. -/
theorem product30 : Cert.algebraic_Kernel30Ideal_Reference30Ideal := by
  intro m g m' g' _ hagree
  refine ⟨_, Cert.Kernel30Ideal.Value.run_blocks m g, (θ_run _ _ _).mono (fun r h c => ⟨?_, (h c).2⟩) (Cert.Reference30Ideal.Value.run m' g')⟩
  refine (h c).1.trans ((Cert.Reference30Ideal.Read.val_main_v41_eq _ _ _ _ _).trans ((Cert.Reference30Ideal.Forward.ref_merged _ _ _ _ _).trans ?_))
  rw [(hagree c).1, (hagree c).2.1, (hagree c).2.2.1, (hagree c).2.2.2.1, (hagree c).2.2.2.2]
  exact (Cert.Kernel30Ideal.Forward.final m c).symm

end Cert.Proof
end
-- ==== Proof.MemNorm.lean ====
/- The norm of the memory tokens: the gradient to its scale, and the norm itself, each at the one point of its grid. -/
module

public import proofs.«01_k».proof.Proof.Forward
public import proofs.«01_k».proof.Proof.Gen.Kernel34Ideal.Value
public import proofs.«01_k».proof.Proof.Gen.Reference34Ideal.Read
public import proofs.«01_k».proof.Proof.Gen.Kernel35Ideal.Value
public import proofs.«01_k».proof.Proof.Gen.Reference35Ideal.Read
public import Idealize.ShloMosaic.Lib.WritesUnit
public import Idealize.ShloMosaic.Lib.Quiescent
public import proofs.«01_k».proof.Defs

@[expose] public section

set_option maxRecDepth 16384

noncomputable section

open Idealize.ShloMosaic Idealize.ShloMosaic.TcCoe Idealize.SL.Sem
open Cert.Tiles

namespace Cert.Kernel34Ideal.Norm
open Cert.Kernel34Ideal Cert.Kernel34Ideal.Gen Cert.Kernel34Ideal.Value Cert.Norm

variable (m : (ℓ : Loc nD τ sig) → Buf (Elt Ideal) ℓ) (c : Dev nD)

/-- The windows' blocks at the point: the whole arrays. -/
theorem idx : ∀ t : Fin cfg0.N, win0_0.index t = ![0, 0] ∧ win0_2.index t = ![0, 0] ∧ win0_3.index t = ![0, 0] :=
  (by decide +kernel : ∀ t : Fin grid0.N, _)

/-- The scale's gradient stored: what was there and the rows' shares. -/
theorem pay_scale (x d : FVec Ideal S256x2048 .f32) (z : FVec Ideal S1x2048 .f32) (y : S1x2048.Idx) :
    k0_pay2 (F := Ideal) x d z y = z y + ∑ r : Fin 256, dScale (row (R := 256) x r) (row (R := 256) d r) (y 1) := by
  unfold dScale factor meanSq row
  pointwise [k0_pay2]

/-- The scale's gradient's block after the point. -/
theorem out_scale (t : Fin cfg0.N) (y : S1x2048.Idx) : (outsAt0 m c t y : EReal)
    = ∑ r : Fin 256, dScale (row (R := 256) (iblk m c 0 t) r) (row (R := 256) (iblk m c 2 t) r) (y 1) := by
  unfold outsAt0; frame_out
  refine (pay_scale _ _ _ y).trans (Eq.trans (congrArg₂ (· + ·) ?_ rfl) (zero_add (M := EReal) _))
  pointwise [k0_pay1]

/-- The blocks at the point are the arrays, row by row. -/
theorem blocks (t : Fin cfg0.N) (r : Fin 256) :
    row (R := 256) (n := 2048) (iblk m c 0 t) r = row (R := 256) (n := 2048) (V m c main_arg0) r
    ∧ row (R := 256) (n := 2048) (iblk m c 2 t) r = row (R := 256) (n := 2048) (V m c main_arg2) r := by
  unfold iblk row
  generalize V m c = W
  refine ⟨funext fun k => congrArg (W main_arg0) ?_, funext fun k => congrArg (W main_arg2) ?_⟩ <;>
    refine funext (Fin.forall_fin_two.mpr ⟨Fin.ext ?_, Fin.ext ?_⟩) <;> blk_simp [idx t]

/-- The array of the scale's gradient after the run. -/
theorem final_scale : (dats m 0 c).arrAt 3 cfg0.N = fun i => ∑ r : Fin 256, dScale (row (R := 256) (V m c main_arg0) r) (row (R := 256) (V m c main_arg2) r) (i 1) := by
  refine (dats m 0 c).arrAt_eq_of_covers 3 _ (by decide +kernel) fun t hf y => ?_
  rw [after0_3]; blk_simp
  have e1 : (((win0_3.blk t).view.emb y) 1 : Fin 2048) = y 1 := Fin.ext (by blk_simp [idx t])
  exact (out_scale m c t y).trans (Finset.sum_congr rfl fun r _ => congr (congrArg₂ dScale (blocks m c t r).1 (blocks m c t r).2) e1.symm)

end Cert.Kernel34Ideal.Norm

namespace Cert.Reference34Ideal.Norm
open Cert.Reference34Ideal Cert.Reference34Ideal.Read Cert.Norm

/-- The reference's gradient to the scale. -/
theorem ref_scale (x d : Arr 256 2048) : val_main_v17 (F := Ideal) x d = fun i => ∑ r : Fin 256, dScale (row x r) (row d r) (i 1) := by
  funext i
  unfold dScale factor meanSq row
  pointwise [val_main_v0, val_main_cst, val_main_v1, val_main_v2, val_main_cst_0, val_main_v3, val_main_v4, val_main_cst_1, val_main_v5, val_main_v6, val_main_v7, val_main_v11, val_main_v12, val_main_v15, val_main_cst_3, val_main_v16, val_main_v17]

end Cert.Reference34Ideal.Norm

namespace Cert.Kernel35Ideal.Forward
open Cert.Kernel35Ideal Cert.Kernel35Ideal.Gen Cert.Kernel35Ideal.Value Cert.Norm

variable (m : (ℓ : Loc nD τ sig) → Buf (Elt Ideal) ℓ) (c : Dev nD)

/-- The windows' blocks at the point: the whole arrays. -/
theorem idx : ∀ t : Fin cfg0.N, win0_0.index t = ![0, 0] ∧ win0_1.index t = ![0, 0] ∧ win0_2.index t = ![0, 0] :=
  (by decide +kernel : ∀ t : Fin grid0.N, _)

/-- What the point stores: the normalised rows. -/
theorem pay (x : FVec Ideal S256x2048 .f32) (g : FVec Ideal S1x2048 .f32) (y : S256x2048.Idx) :
    (out0_2 (F := Ideal) x g y : EReal) = normRow (row (R := 256) x (y 0)) (row (R := 1) g 0) (y 1) := by
  refine (canon2_eq _ _ y).trans ?_
  unfold normRow factor meanSq row
  rw [ix2_eta y]
  pointwise [E2]

/-- The blocks at the point are the arrays, row by row. -/
theorem blocks (t : Fin cfg0.N) (r : Fin 256) :
    row (R := 256) (n := 2048) (iblk m c 0 t) r = row (R := 256) (n := 2048) (V m c main_arg0) r
    ∧ row (R := 1) (n := 2048) (iblk m c 1 t) 0 = row (R := 1) (n := 2048) (V m c main_arg1) 0 := by
  unfold iblk row
  generalize V m c = W
  refine ⟨funext fun k => congrArg (W main_arg0) ?_, funext fun k => congrArg (W main_arg1) ?_⟩ <;>
    refine funext (Fin.forall_fin_two.mpr ⟨Fin.ext ?_, Fin.ext ?_⟩) <;> blk_simp [idx t]

/-- The normalised array after the run. -/
theorem final : (dats m 0 c).arrAt 2 cfg0.N = fun i => normRow (row (R := 256) (V m c main_arg0) (i 0)) (row (R := 1) (V m c main_arg1) 0) (i 1) := by
  refine (dats m 0 c).arrAt_eq_of_covers 2 _ (by decide +kernel) fun t hf y => ?_
  rw [after0_2]; blk_simp
  have e0 : (((win0_2.blk t).view.emb y) 0 : Fin 256) = y 0 := Fin.ext (by blk_simp [idx t])
  have e1 : (((win0_2.blk t).view.emb y) 1 : Fin 2048) = y 1 := Fin.ext (by blk_simp [idx t])
  exact (pay _ _ y).trans (congr (congrArg₂ normRow ((blocks m c t (y 0)).1.trans (congrArg _ e0.symm)) (blocks m c t (y 0)).2) e1.symm)

end Cert.Kernel35Ideal.Forward

namespace Cert.Reference35Ideal.Forward
open Cert.Reference35Ideal Cert.Reference35Ideal.Read Cert.Norm

/-- The reference's normalised array. -/
theorem ref_norm (x : Arr 256 2048) (g : Arr 1 2048) : val_main_v12 (F := Ideal) x g = fun i => normRow (row x (i 0)) (row g 0) (i 1) := by
  funext i
  unfold normRow factor meanSq row
  rw [ix2_eta i]
  pointwise [val_main_v0, val_main_cst, val_main_v1, val_main_v2, val_main_cst_0, val_main_v3, val_main_v4, val_main_cst_1, val_main_v5, val_main_v6, val_main_v7, val_main_v8, val_main_v9, val_main_v10, val_main_v11, val_main_v12]

end Cert.Reference35Ideal.Forward

namespace Cert.Proof
open Cert.Norm
attribute [local instance] Cert.Kernel34Ideal.Gen.facts Cert.Reference34Ideal.Gen.facts Cert.Kernel35Ideal.Gen.facts Cert.Reference35Ideal.Gen.facts

/-- The reference of the scale's gradient keeps its arguments and its semaphores. -/
theorem reference34_frame : Cert.quiescent_Reference34Ideal := by
  intro m g _
  exact (θ_run _ _ _).mono (fun r h => ⟨fun c => (h c).2, sem_eq_zero_of_no_sems rfl r.2⟩) (Cert.Reference34Ideal.Value.run m g)

/-- The reference of the memory tokens' norm keeps its arguments and its semaphores. -/
theorem reference35_frame : Cert.quiescent_Reference35Ideal := by
  intro m g _
  exact (θ_run _ _ _).mono (fun r h => ⟨fun c => (h c).2, sem_eq_zero_of_no_sems rfl r.2⟩) (Cert.Reference35Ideal.Value.run m g)

/-- The gradient of the memory norm's scale is the reference's. -/
theorem product34 : Cert.algebraic_Kernel34Ideal_Reference34Ideal := by
  intro m g m' g' _ hagree
  refine ⟨_, Cert.Kernel34Ideal.Value.run_blocks m g, (θ_run _ _ _).mono (fun r h c => ⟨?_, (h c).2⟩) (Cert.Reference34Ideal.Value.run m' g')⟩
  refine (h c).1.trans ((Cert.Reference34Ideal.Read.val_main_v17_eq _ _).trans ((Cert.Reference34Ideal.Norm.ref_scale _ _).trans ?_))
  rw [(hagree c).1, (hagree c).2.2]
  exact (Cert.Kernel34Ideal.Norm.final_scale m c).symm

/-- The memory tokens' norm is the reference's. -/
theorem product35 : Cert.algebraic_Kernel35Ideal_Reference35Ideal := by
  intro m g m' g' _ hagree
  refine ⟨_, Cert.Kernel35Ideal.Value.run_blocks m g, (θ_run _ _ _).mono (fun r h c => ⟨?_, (h c).2⟩) (Cert.Reference35Ideal.Value.run m' g')⟩
  refine (h c).1.trans ((Cert.Reference35Ideal.Read.val_main_v12_eq _ _).trans ((Cert.Reference35Ideal.Forward.ref_norm _ _).trans ?_))
  rw [(hagree c).1, (hagree c).2]
  exact (Cert.Kernel35Ideal.Forward.final m c).symm

end Cert.Proof
end
-- ==== Proof.Heads.lean ====
/- The norm of each head behind the DeltaNet recurrence under its gate, and the row sums of the attention's backward pass. -/
module

public import proofs.«01_k».proof.Proof.Forward
public import proofs.«01_k».proof.Proof.Gen.Kernel36Ideal.Value
public import proofs.«01_k».proof.Proof.Gen.Reference36Ideal.Read
public import proofs.«01_k».proof.Proof.Gen.Kernel37Ideal.Value
public import proofs.«01_k».proof.Proof.Gen.Reference37Ideal.Read
public import proofs.«01_k».proof.Proof.Gen.Kernel38Ideal.Value
public import proofs.«01_k».proof.Proof.Gen.Reference38Ideal.Read
public import Idealize.ShloMosaic.Lib.WritesUnit
public import Idealize.ShloMosaic.Lib.Quiescent
public import proofs.«01_k».proof.Defs

@[expose] public section

set_option maxRecDepth 16384

noncomputable section

open Idealize.ShloMosaic Idealize.ShloMosaic.TcCoe Idealize.SL.Sem
open Cert.Tiles

namespace Cert.Heads

/-- A head's column among all the columns of a row. -/
def at_ {n H : ℕ} (h : n = H * 128) (q : Fin H) (k : Fin 128) : Fin n := ⟨q.val * 128 + k.val, by have := q.isLt; have := k.isLt; omega⟩
/-- A head's part of a row. -/
def part {R n H : ℕ} (h : n = H * 128) (x : Arr R n) (r : Fin R) (q : Fin H) (k : Fin 128) : EReal := x (ix2 r (at_ h q k))
/-- The mean of a head's squares, and a small number. -/
def headSq (x : Fin 128 → EReal) : EReal := Ideal.div (∑ k, x k * x k) (Ideal.ofBits .f32 0x43000000#32) + Ideal.ofBits .f32 0x358637BD#32
/-- A head scaled to a mean square of one, and by the scale. -/
def normHead (x g : Fin 128 → EReal) (k : Fin 128) : EReal := x k * Ideal.rsqrt (headSq x) * g k

/-- The mean square's drag on a head's gradient: what it gains, per unit of the head and twice, through the head's factor. -/
def dragHead (x g d : Fin 128 → EReal) : EReal :=
  ∑ _ : Fin 1, Ideal.div ((∑ k, x k * (d k * g k)) * (Ideal.ofBits .f32 0xBF000000#32 * Ideal.div (Ideal.rsqrt (headSq x)) (headSq x))) (Ideal.ofBits .f32 0x43000000#32)
/-- The gradient of `normHead x g` to the head `x`, along `d`. -/
def dHead (x g d : Fin 128 → EReal) (k : Fin 128) : EReal := d k * g k * Ideal.rsqrt (headSq x) + x k * dragHead x g d + dragHead x g d * x k
/-- A head's share of the gradient of `normHead x g` to `g`, along `d`. -/
def dHeadScale (x d : Fin 128 → EReal) (k : Fin 128) : EReal := x k * Ideal.rsqrt (headSq x) * d k
/-- The gradient to a head under its gate `z`, along `d`. -/
def along (z d : Fin 128 → EReal) (k : Fin 128) : EReal := Cert.Gate.dOut (z k) (d k)
/-- The head a column is of, and its lane in the head. -/
def headOf {n H : ℕ} (h : n = H * 128) (j : Fin n) : Fin H := ⟨j.val / 128, by have := j.isLt; omega⟩
def laneOf {n : ℕ} (j : Fin n) : Fin 128 := ⟨j.val % 128, Nat.mod_lt _ (by decide)⟩
/-- A column is its lane of its head. -/
theorem at_head {n H : ℕ} (h : n = H * 128) (j : Fin n) : at_ h (headOf h j) (laneOf j) = j := Fin.ext (Nat.div_add_mod' _ _)
/-- An array given head by head. -/
def over {R n H : ℕ} (h : n = H * 128) (f : Fin R → Fin H → Fin 128 → EReal) : Arr R n := fun i => f (i 0) (headOf h (i 1)) (laneOf (i 1))
/-- An array is the one that its heads give. -/
theorem eq_over {R n H : ℕ} (h : n = H * 128) (f : Fin R → Fin H → Fin 128 → EReal) (a : Arr R n) (e : ∀ r q k, a (ix2 r (at_ h q k)) = f r q k) : a = over h f :=
  funext fun i => (congrArg a ((ix2_eta i).symm.trans (congrArg (ix2 (i 0)) (at_head h (i 1)).symm))).trans (e (i 0) (headOf h (i 1)) (laneOf (i 1)))
/-- A block's entry is the array's where the heads of their rows are the same. -/
theorem over_block {R S n H : ℕ} (h : n = H * 128) (f : Fin R → Fin H → Fin 128 → EReal) (g : Fin S → Fin H → Fin 128 → EReal) (y : (⟨2, ![R, n]⟩ : Shape).Idx) (i : (⟨2, ![S, n]⟩ : Shape).Idx)
    (e : (i 1 : Fin n) = y 1) (hf : ∀ q, f (y 0) q = g (i 0) q) : over h f y = over h g i := by
  unfold over
  rw [hf]
  exact (congr (congrArg (g (i 0)) (congrArg (headOf h) e)) (congrArg laneOf e)).symm
/-- The gates' part of the input product's row: the columns from 3840 on. -/
def gatePart (h : Arr 8192 16896) (r : Fin 8192) (q : Fin 6) (k : Fin 128) : EReal := Cert.Gate.colAt (R := 8192) (C := 16896) (n := 768) h 3840 (by decide) (ix2 r (at_ (n := 768) rfl q k))
/-- A sum over the rows and the six heads, head by head from the last. -/
theorem sum_heads {n : ℕ} (f : Fin n → Fin 6 → EReal) : (∑ r, ∑ q, f r q) = (∑ r, f r 5) + (∑ r, f r 4) + (∑ r, f r 3) + (∑ r, f r 2) + (∑ r, f r 1) + ∑ r, f r 0 := by
  rw [Finset.sum_comm, Fin.sum_univ_six]; abel
/-- A column of the second head or a later one, counted from the second head on. -/
theorem column (k : ℕ) : 896 + k - 128 = 768 + k ∧ 768 + k - 128 = 640 + k ∧ 640 + k - 128 = 512 + k ∧ 512 + k - 128 = 384 + k ∧ 384 + k - 128 = 256 + k ∧ 256 + k - 128 = 128 + k ∧ 128 + k - 128 = k := by omega
/-- Such a column is not one of the first head's. -/
theorem later (k : ℕ) : ¬896 + k < 128 ∧ ¬768 + k < 128 ∧ ¬640 + k < 128 ∧ ¬512 + k < 128 ∧ ¬384 + k < 128 ∧ ¬256 + k < 128 ∧ ¬128 + k < 128 := by omega

end Cert.Heads

namespace Cert.Kernel37Ideal.Heads
open Cert.Kernel37Ideal Cert.Kernel37Ideal.Gen Cert.Kernel37Ideal.Value Cert.Norm Cert.Gate Cert.Heads

/-- What a point stores. -/
theorem pay (o z : FVec Ideal S256x768 .f32) (g : FVec Ideal S1x128 .f32) (r : Fin 256) (q : Fin 6) (k : Fin 128) :
    (k0_pay1 (F := Ideal) z g (k0_pay2 o) (k0_pay3 o) (k0_pay4 o) (k0_pay5 o g) (k0_pay6 o g) (k0_pay7 o) (k0_pay8 g) (ix2 r (at_ (n := 768) rfl q k)) : EReal)
      = gated (normHead (part (R := 256) (n := 768) rfl o r q) (row (R := 1) g 0) k) (part (R := 256) (n := 768) rfl z r q k) := by
  unfold gated normHead headSq part row at_
  fin_cases q <;> pointwise [k0_pay1, k0_pay2, k0_pay3, k0_pay4, k0_pay5, k0_pay6, k0_pay7, k0_pay8] <;>
    simp only [column, later, k.isLt, dif_pos, dif_neg, not_false_eq_true]

end Cert.Kernel37Ideal.Heads

namespace Cert.Reference37Ideal.Heads
open Cert.Reference37Ideal Cert.Reference37Ideal.Read Cert.Norm Cert.Gate Cert.Heads

/-- The reference's array under its gates. -/
theorem ref_head (o : Arr 8192 768) (h : Arr 8192 16896) (g : Arr 1 128) (r : Fin 8192) (q : Fin 6) (k : Fin 128) : (val_main_v18 (F := Ideal) o h g (ix2 r (at_ (n := 768) rfl q k)) : EReal)
    = gated (normHead (part (R := 8192) (n := 768) rfl o r q) (row (R := 1) g 0) k) (gatePart h r q k) := by
  unfold gated normHead headSq part row gatePart at_ colAt Ideal.logistic
  pointwise [val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_call0_v0, val_main_call0_v1, val_main_call0_cst, val_main_call0_v2, val_main_call0_v3, val_main_call0_cst_0, val_main_call0_v4, val_main_call0_v5, val_main_v17, val_main_v18]

end Cert.Reference37Ideal.Heads

namespace Cert.Kernel38Ideal.Heads
open Cert.Kernel38Ideal Cert.Kernel38Ideal.Gen Cert.Kernel38Ideal.Value Cert.Heads

/-- What a point stores: on each lane of a head the sum of the products of the head. -/
theorem pay (d o : FVec Ideal S256x1024 .f32) (r : Fin 256) (q : Fin 8) (k : Fin 128) :
    (k0_pay1 (F := Ideal) (k0_pay2 d) (k0_pay3 o) (k0_pay4 d o) (k0_pay5 d o) (k0_pay6 d o) (k0_pay7 d o) (k0_pay8 d o) (k0_pay9 d o) (k0_pay10 d o) (ix2 r (at_ (n := 1024) rfl q k)) : EReal)
      = ∑ l, part (R := 256) (n := 1024) rfl d r q l * part (R := 256) (n := 1024) rfl o r q l := by
  unfold part at_
  fin_cases q <;> pointwise [k0_pay1, k0_pay2, k0_pay3, k0_pay4, k0_pay5, k0_pay6, k0_pay7, k0_pay8, k0_pay9, k0_pay10] <;>
    simp only [column, later, k.isLt, dif_pos, dif_neg, not_false_eq_true]

end Cert.Kernel38Ideal.Heads

namespace Cert.Reference38Ideal.Heads
open Cert.Reference38Ideal Cert.Reference38Ideal.Read Cert.Heads

/-- The reference's row sums. -/
theorem ref_head (d o : Arr 8192 1024) (r : Fin 8192) (q : Fin 8) (k : Fin 128) : (val_main_v6 (F := Ideal) d o (ix2 r (at_ (n := 1024) rfl q k)) : EReal)
    = ∑ l, part (R := 8192) (n := 1024) rfl d r q l * part (R := 8192) (n := 1024) rfl o r q l := by
  unfold part at_
  pointwise [val_main_v0, val_main_v1, val_main_v2, val_main_cst, val_main_v3, val_main_v4, val_main_v5, val_main_v6]

end Cert.Reference38Ideal.Heads

namespace Cert.Kernel36Ideal.Heads
open Cert.Kernel36Ideal Cert.Kernel36Ideal.Gen Cert.Kernel36Ideal.Value Cert.Norm Cert.Gate Cert.Heads

variable (m : (ℓ : Loc nD τ sig) → Buf (Elt Ideal) ℓ) (c : Dev nD)

/-- The gradient to the heads that a point stores. -/
def pHead (x z : FVec Ideal S256x768 .f32) (g : FVec Ideal S1x128 .f32) (d : FVec Ideal S256x768 .f32) : FVec Ideal S256x768 .f32 :=
  k0_pay63 (k0_pay48 z g d (k0_pay6 x) (k0_pay33 (k0_pay6 x)) k0_pay34)
    (k0_pay50 g (k0_pay5 x) (k0_pay29 (k0_pay5 x)) (k0_pay30 (k0_pay5 x)) (k0_pay45 z d))
    (k0_pay51 g (k0_pay4 x) (k0_pay24 (k0_pay4 x)) (k0_pay25 (k0_pay4 x)) (k0_pay44 z d))
    (k0_pay56 (k0_pay3 x) (k0_pay54 g (k0_pay19 (k0_pay17 x)) (k0_pay43 z d)) (k0_pay55 g (k0_pay3 x) (k0_pay20 (k0_pay17 x)) (k0_pay43 z d)))
    (k0_pay57 g (k0_pay2 x) (k0_pay13 x) (k0_pay14 x) (k0_pay42 z d))
    (k0_pay61 g (k0_pay1 x) (k0_pay8 x) (k0_pay9 x) (k0_pay41 z d))
    (k0_pay62 g (k0_pay1 x) (k0_pay9 x) (k0_pay41 z d))
/-- The gradient to the gates that a point stores. -/
def pGate (x z : FVec Ideal S256x768 .f32) (g : FVec Ideal S1x128 .f32) (d : FVec Ideal S256x768 .f32) : FVec Ideal S256x768 .f32 :=
  k0_pay40 z g d (k0_pay6 x) (k0_pay11 x g) (k0_pay16 x g) (k0_pay22 g (k0_pay3 x) (k0_pay17 x)) (k0_pay27 g (k0_pay4 x)) (k0_pay32 g (k0_pay5 x)) (k0_pay33 (k0_pay6 x)) k0_pay34
/-- The scale's gradient that a point stores over `w`. -/
def pScale (x z d : FVec Ideal S256x768 .f32) (w : FVec Ideal S1x128 .f32) : FVec Ideal S1x128 .f32 :=
  k0_pay65 (k0_pay58 (k0_pay10 x) (k0_pay15 x) (k0_pay41 z d) (k0_pay42 z d)
    (k0_pay52 (k0_pay21 (k0_pay3 x) (k0_pay17 x)) (k0_pay26 (k0_pay4 x)) (k0_pay43 z d) (k0_pay44 z d)
      (k0_pay47 z d (k0_pay6 x) (k0_pay33 (k0_pay6 x)) k0_pay34) (k0_pay49 z d (k0_pay31 (k0_pay5 x))))) w

/-- The six heads laid side by side, each in a row of zeros and the rows added. -/
theorem assemble (a5 a4 a3 a2 a1 b c : FVec Ideal S256x128 .f32) (r : Fin 256) (q : Fin 6) (k : Fin 128) : (k0_pay63 (F := Ideal) a5 a4 a3 a2 a1 b c (ix2 r (at_ (n := 768) rfl q k)) : EReal)
    = (match q with | 0 => b (ix2 r k) + c (ix2 r k) | 1 => a1 (ix2 r k) | 2 => a2 (ix2 r k) | 3 => a3 (ix2 r k) | 4 => a4 (ix2 r k) | 5 => a5 (ix2 r k) : EReal) := by
  have hk := k.isLt
  unfold at_
  fin_cases q <;> pointwise [k0_pay63] <;>
    simp (disch := omega) only [column, later, hk, dif_pos, dif_neg, not_false_eq_true, ↓reduceDIte, add_zero, zero_add]

/-- The gradient to a head, at its lanes. -/
theorem pay_head (x z d : FVec Ideal S256x768 .f32) (g : FVec Ideal S1x128 .f32) (r : Fin 256) (q : Fin 6) (k : Fin 128) : (pHead x z g d (ix2 r (at_ (n := 768) rfl q k)) : EReal)
    = dHead (part (R := 256) (n := 768) rfl x r q) (row (R := 1) g 0) (along (part (R := 256) (n := 768) rfl z r q) (part (R := 256) (n := 768) rfl d r q)) k := by
  unfold pHead dHead dragHead along dOut headSq part row
  rw [assemble]
  unfold at_
  fin_cases q <;> pointwise [k0_pay1, k0_pay2, k0_pay3, k0_pay4, k0_pay5, k0_pay6, k0_pay7, k0_pay8, k0_pay9, k0_pay12, k0_pay13, k0_pay14, k0_pay17, k0_pay18, k0_pay19, k0_pay20, k0_pay23, k0_pay24, k0_pay25,
    k0_pay28, k0_pay29, k0_pay30, k0_pay33, k0_pay34, k0_pay35, k0_pay36, k0_pay38, k0_pay39, k0_pay41, k0_pay42, k0_pay43, k0_pay44, k0_pay45, k0_pay46, k0_pay48, k0_pay50, k0_pay51, k0_pay53, k0_pay54, k0_pay55,
    k0_pay56, k0_pay57, k0_pay59, k0_pay60, k0_pay61, k0_pay62]

/-- The gradient to a head's gates, at its lanes. -/
theorem pay_gate (x z d : FVec Ideal S256x768 .f32) (g : FVec Ideal S1x128 .f32) (r : Fin 256) (q : Fin 6) (k : Fin 128) : (pGate x z g d (ix2 r (at_ (n := 768) rfl q k)) : EReal)
    = dGate (normHead (part (R := 256) (n := 768) rfl x r q) (row (R := 1) g 0) k) (part (R := 256) (n := 768) rfl z r q k) (part (R := 256) (n := 768) rfl d r q k) := by
  unfold pGate dGate sigSlope normHead headSq part row at_
  fin_cases q <;> pointwise [k0_pay1, k0_pay2, k0_pay3, k0_pay4, k0_pay5, k0_pay6, k0_pay7, k0_pay8, k0_pay10, k0_pay11, k0_pay12, k0_pay13, k0_pay15, k0_pay16, k0_pay17, k0_pay18, k0_pay19, k0_pay21, k0_pay22,
    k0_pay23, k0_pay24, k0_pay26, k0_pay27, k0_pay28, k0_pay29, k0_pay31, k0_pay32, k0_pay33, k0_pay34, k0_pay35, k0_pay36, k0_pay37, k0_pay38, k0_pay39, k0_pay40] <;>
    simp only [column, later, k.isLt, dif_pos, dif_neg, not_false_eq_true]

/-- The scale's gradient: what it held and the shares of the point's rows and their heads. -/
theorem pay_scale (x z d : FVec Ideal S256x768 .f32) (w : FVec Ideal S1x128 .f32) (y : S1x128.Idx) : (pScale x z d w y : EReal)
    = w y + ∑ r : Fin 256, ∑ q : Fin 6, dHeadScale (part (R := 256) (n := 768) rfl x r q) (along (part (R := 256) (n := 768) rfl z r q) (part (R := 256) (n := 768) rfl d r q)) (y 1) := by
  rw [sum_heads]
  unfold pScale dHeadScale along dOut headSq part at_
  pointwise [k0_pay1, k0_pay2, k0_pay3, k0_pay4, k0_pay5, k0_pay6, k0_pay7, k0_pay8, k0_pay10, k0_pay12, k0_pay13, k0_pay15, k0_pay17, k0_pay18, k0_pay19, k0_pay21, k0_pay23, k0_pay24, k0_pay26, k0_pay28, k0_pay29,
    k0_pay31, k0_pay33, k0_pay34, k0_pay35, k0_pay36, k0_pay37, k0_pay38, k0_pay39, k0_pay41, k0_pay42, k0_pay43, k0_pay44, k0_pay45, k0_pay46, k0_pay47, k0_pay49, k0_pay52, k0_pay58, k0_pay65]

end Cert.Kernel36Ideal.Heads

namespace Cert.Reference36Ideal.Heads
open Cert.Reference36Ideal Cert.Reference36Ideal.Read Cert.Norm Cert.Gate Cert.Heads

/-- The reference's gradient to a head. -/
theorem ref_head (o : Arr 8192 768) (h : Arr 8192 16896) (g : Arr 1 128) (d : Arr 8192 768) (r : Fin 8192) (q : Fin 6) (k : Fin 128) : (val_main_v47 (F := Ideal) o h g d (ix2 r (at_ (n := 768) rfl q k)) : EReal)
    = dHead (part (R := 8192) (n := 768) rfl o r q) (row (R := 1) g 0) (along (gatePart h r q) (part (R := 8192) (n := 768) rfl d r q)) k := by
  unfold dHead dragHead along dOut headSq part row gatePart at_ colAt Ideal.logistic
  pointwise [val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v16, val_main_call0_v0, val_main_call0_v1, val_main_call0_cst, val_main_call0_v2, val_main_call0_v3, val_main_call0_cst_0, val_main_call0_v4, val_main_v20_2, val_main_v20_0, val_main_v23, val_main_v25, val_main_v29, val_main_v30, val_main_v32, val_main_cst_5, val_main_v33, val_main_v34, val_main_v35, val_main_v36, val_main_v37, val_main_cst_6, val_main_v38, val_main_v39, val_main_cst_7, val_main_v40, val_main_v41, val_main_v42, val_main_v43, val_main_v44, val_main_v45, val_main_v47]

/-- The reference's gradient to a head's gates. -/
theorem ref_gate (o : Arr 8192 768) (h : Arr 8192 16896) (g : Arr 1 128) (d : Arr 8192 768) (r : Fin 8192) (q : Fin 6) (k : Fin 128) : (val_main_v24 (F := Ideal) o h g d (ix2 r (at_ (n := 768) rfl q k)) : EReal)
    = dGate (normHead (part (R := 8192) (n := 768) rfl o r q) (row (R := 1) g 0) k) (gatePart h r q k) (part (R := 8192) (n := 768) rfl d r q k) := by
  unfold dGate sigSlope normHead headSq part row gatePart at_ colAt Ideal.logistic
  pointwise [val_main_v0, val_main_v1, val_main_v2, val_main_v3, val_main_cst, val_main_v4, val_main_v5, val_main_cst_0, val_main_v6, val_main_v7, val_main_cst_1, val_main_v8, val_main_v9, val_main_v10, val_main_v14, val_main_v15, val_main_v16, val_main_v17, val_main_v18, val_main_v19, val_main_call0_v0, val_main_call0_v1, val_main_call0_cst, val_main_call0_v2, val_main_call0_v3, val_main_call0_cst_0, val_main_call0_v4, val_main_v20_2, val_main_call0_cst_1, val_main_call0_v6, val_main_call0_v7, val_main_v20_1, val_main_v22, val_main_call1_v0, val_main_call1_v1, val_main_call1_v2, val_main_v24]

/-- A sum over the first two of three axes, at an entry. -/
theorem sum_two {a b n : ℕ} (h : (⟨3, ![a, b, n]⟩ : Shape).ReducesTo [0, 1] ⟨1, ![n]⟩) (x : (⟨3, ![a, b, n]⟩ : Shape).Idx → EReal) (s : EReal) (hs : s = 0) (j : (⟨1, ![n]⟩ : Shape).Idx) :
    Ideal.hostReduceAdd h x s j = ∑ r : Fin a, ∑ q : Fin b, x (ix3 r q (j 0)) := by
  unfold Ideal.hostReduceAdd
  rw [hs, zero_add, ← Fintype.sum_prod_type' (f := fun r q => x (ix3 r q (j 0)))]
  refine (Finset.sum_bij' (fun i _ => ((i 0 : Fin a), (i 1 : Fin b))) (fun p _ => ix3 p.1 p.2 (j 0)) (fun _ _ => Finset.mem_univ _) (fun p _ => ?_) (fun i hi => ?_) (fun _ _ => rfl) (fun i hi => ?_))
  · refine Finset.mem_filter.2 ⟨Finset.mem_univ _, funext fun b => ?_⟩
    match b with | ⟨0, _⟩ => rfl
  all_goals
    have e : (i 2 : Fin n) = j 0 := congrFun (Finset.mem_filter.1 hi).2 0
    simp only [← e, ix3_eta]

/-- The reference's gradient to the scale. -/
theorem ref_scale (o : Arr 8192 768) (h : Arr 8192 16896) (d : Arr 8192 768) (y : (⟨2, ![1, 128]⟩ : Shape).Idx) : (val_main_v46 (F := Ideal) o h d y : EReal)
    = ∑ r : Fin 8192, ∑ q : Fin 6, dHeadScale (part (R := 8192) (n := 768) rfl o r q) (along (gatePart h r q) (part (R := 8192) (n := 768) rfl d r q)) (y 1) := by
  rw [val_main_v46_apply]
  refine ((sum_two _ (val_main_v28 (F := Ideal) o h d) _ Ideal.ofBits_zero_f32 _).trans ?_)
  rw [Fin.sum_univ_one, Fin.sum_univ_one]
  rw [val_main_v28_apply]
  refine ((sum_two _ (val_main_v26 (F := Ideal) o h d) _ Ideal.ofBits_zero_f32 _).trans ?_)
  refine Finset.sum_congr rfl fun r _ => Finset.sum_congr rfl fun q _ => ?_
  unfold dHeadScale along dOut headSq part gatePart at_ colAt Ideal.logistic
  pointwise [val_main_v0, val_main_v1, val_main_v3, val_main_cst, val_main_v4, val_main_v5, val_main_cst_0, val_main_v6, val_main_v7, val_main_cst_1, val_main_v8, val_main_v9, val_main_v10, val_main_v14, val_main_v15, val_main_call0_v0, val_main_call0_v1, val_main_call0_cst, val_main_call0_v2, val_main_call0_v3, val_main_call0_cst_0, val_main_call0_v4, val_main_v20_2, val_main_v20_0, val_main_v23, val_main_v25, val_main_v26, val_main_cst_3, val_main_cst_4]

end Cert.Reference36Ideal.Heads
end
-- ==== Proof.HeadsRun.lean ====
/- The norm of each head under its gate, its gradients, and the attention's row sums, over the whole arrays. -/
module

public import proofs.«01_k».proof.Proof.Heads

@[expose] public section

set_option maxRecDepth 16384

noncomputable section

open Idealize.ShloMosaic Idealize.ShloMosaic.TcCoe Idealize.SL.Sem
open Cert.Tiles

namespace Cert.Kernel37Ideal.Heads
open Cert.Kernel37Ideal Cert.Kernel37Ideal.Gen Cert.Kernel37Ideal.Value Cert.Norm Cert.Gate Cert.Heads

variable (m : (ℓ : Loc nD τ sig) → Buf (Elt Ideal) ℓ) (c : Dev nD)

/-- The windows' blocks at every point. -/
theorem idx : ∀ t : Fin cfg0.N, win0_0.index t = ![t.val, 0] ∧ win0_1.index t = ![t.val, 5] ∧ win0_2.index t = ![0, 0] ∧ win0_3.index t = ![t.val, 0] :=
  (by decide +kernel : ∀ t : Fin grid0.N, _)

/-- The blocks at a point are the arrays' rows from 256 times the point on, head by head. -/
theorem blocks (t : Fin cfg0.N) (r : Fin 256) (i : Fin 8192) (hi : i.val = t.val * 256 + r.val) (q : Fin 6) :
    part (R := 256) (n := 768) rfl (iblk m c 0 t) r q = part (R := 8192) (n := 768) rfl (V m c main_arg0) i q
    ∧ part (R := 256) (n := 768) rfl (iblk m c 1 t) r q = gatePart (V m c main_arg1) i q
    ∧ row (R := 1) (n := 128) (iblk m c 2 t) 0 = row (R := 1) (n := 128) (V m c main_arg2) 0 := by
  unfold iblk part row gatePart colAt
  generalize V m c = W
  refine ⟨funext fun k => congrArg (W main_arg0) ?_, funext fun k => congrArg (W main_arg1) ?_, funext fun k => congrArg (W main_arg2) ?_⟩ <;>
    refine funext (Fin.forall_fin_two.mpr ⟨Fin.ext ?_, Fin.ext ?_⟩) <;> blk_simp [idx t, hi]

/-- The normalised heads under their gates after the run. -/
theorem final : (dats m 0 c).arrAt 3 cfg0.N = over (R := 8192) (n := 768) (H := 6) rfl fun r q k => gated (normHead (part (R := 8192) (n := 768) rfl (V m c main_arg0) r q) (row (R := 1) (V m c main_arg2) 0) k) (gatePart (V m c main_arg1) r q k) := by
  refine (dats m 0 c).arrAt_eq_of_covers 3 _ (by decide +kernel) fun t hf y => ?_
  rw [after0_3]; unfold out0_3; frame_out; blk_simp
  have e1 : (((win0_3.blk t).view.emb y) 1 : Fin 768) = y 1 := Fin.ext (by blk_simp [idx t])
  refine (congrFun (eq_over rfl _ _ (pay (iblk m c 0 t) (iblk m c 1 t) (iblk m c 2 t))) y).trans ?_
  refine (over_block (R := 256) (S := 8192) (n := 768) (H := 6) rfl _ _ y ((win0_3.blk t).view.emb y) e1 fun q => funext fun k => ?_)
  have B := blocks m c t (y 0) (((win0_3.blk t).view.emb y) 0) (by blk_simp [idx t]) q
  exact congrArg₂ gated (congrFun (congrArg₂ normHead B.1 B.2.2) k) (congrFun B.2.1 k)

end Cert.Kernel37Ideal.Heads

namespace Cert.Kernel38Ideal.Heads
open Cert.Kernel38Ideal Cert.Kernel38Ideal.Gen Cert.Kernel38Ideal.Value Cert.Norm Cert.Gate Cert.Heads

variable (m : (ℓ : Loc nD τ sig) → Buf (Elt Ideal) ℓ) (c : Dev nD)

/-- The windows' blocks at every point. -/
theorem idx : ∀ t : Fin cfg0.N, win0_0.index t = ![t.val, 0] ∧ win0_1.index t = ![t.val, 0] ∧ win0_2.index t = ![t.val, 0] :=
  (by decide +kernel : ∀ t : Fin grid0.N, _)

/-- The blocks at a point are the arrays' rows from 256 times the point on, head by head. -/
theorem blocks (t : Fin cfg0.N) (r : Fin 256) (i : Fin 8192) (hi : i.val = t.val * 256 + r.val) (q : Fin 8) :
    part (R := 256) (n := 1024) rfl (iblk m c 0 t) r q = part (R := 8192) (n := 1024) rfl (V m c main_arg0) i q
    ∧ part (R := 256) (n := 1024) rfl (iblk m c 1 t) r q = part (R := 8192) (n := 1024) rfl (V m c main_arg1) i q := by
  unfold iblk part
  generalize V m c = W
  refine ⟨funext fun k => congrArg (W main_arg0) ?_, funext fun k => congrArg (W main_arg1) ?_⟩ <;>
    refine funext (Fin.forall_fin_two.mpr ⟨Fin.ext ?_, Fin.ext ?_⟩) <;> blk_simp [idx t, hi]

/-- The row sums after the run. -/
theorem final : (dats m 0 c).arrAt 2 cfg0.N = over (R := 8192) (n := 1024) (H := 8) rfl fun r q _ => ∑ l, part (R := 8192) (n := 1024) rfl (V m c main_arg0) r q l * part (R := 8192) (n := 1024) rfl (V m c main_arg1) r q l := by
  refine (dats m 0 c).arrAt_eq_of_covers 2 _ (by decide +kernel) fun t hf y => ?_
  rw [after0_2]; unfold out0_2; frame_out; blk_simp
  have e1 : (((win0_2.blk t).view.emb y) 1 : Fin 1024) = y 1 := Fin.ext (by blk_simp [idx t])
  refine (congrFun (eq_over rfl _ _ (pay (iblk m c 0 t) (iblk m c 1 t))) y).trans ?_
  refine (over_block (R := 256) (S := 8192) (n := 1024) (H := 8) rfl _ _ y ((win0_2.blk t).view.emb y) e1 fun q => funext fun _ => ?_)
  have B := blocks m c t (y 0) (((win0_2.blk t).view.emb y) 0) (by blk_simp [idx t]) q
  exact Finset.sum_congr rfl fun l _ => congrArg₂ (· * ·) (congrFun B.1 l) (congrFun B.2 l)

end Cert.Kernel38Ideal.Heads

namespace Cert.Kernel36Ideal.Heads
open Cert.Kernel36Ideal Cert.Kernel36Ideal.Gen Cert.Kernel36Ideal.Value Cert.Norm Cert.Gate Cert.Heads

variable (m : (ℓ : Loc nD τ sig) → Buf (Elt Ideal) ℓ) (c : Dev nD)

/-- The windows' blocks at every point, and the point the scale's gradient is flushed at. -/
theorem idx : ∀ t : Fin cfg0.N, win0_0.index t = ![t.val, 0] ∧ win0_1.index t = ![t.val, 5] ∧ win0_2.index t = ![0, 0] ∧ win0_3.index t = ![t.val, 0] ∧ win0_4.index t = ![t.val, 0] ∧ win0_5.index t = ![t.val, 0] ∧ win0_6.index t = ![0, 0] ∧ ((cfg0.win 6).flush t = true → t.val % 32 = 31) :=
  (by decide +kernel : ∀ t : Fin grid0.N, _)

/-- The blocks at a point are the arrays' rows from 256 times the point on, head by head. -/
theorem blocks (t : Fin cfg0.N) (r : Fin 256) (i : Fin 8192) (hi : i.val = t.val * 256 + r.val) (q : Fin 6) :
    part (R := 256) (n := 768) rfl (iblk m c 0 t) r q = part (R := 8192) (n := 768) rfl (V m c main_arg0) i q
    ∧ part (R := 256) (n := 768) rfl (iblk m c 1 t) r q = gatePart (V m c main_arg1) i q
    ∧ row (R := 1) (n := 128) (iblk m c 2 t) 0 = row (R := 1) (n := 128) (V m c main_arg2) 0
    ∧ part (R := 256) (n := 768) rfl (iblk m c 3 t) r q = part (R := 8192) (n := 768) rfl (V m c main_arg3) i q := by
  unfold iblk part row gatePart colAt
  generalize V m c = W
  refine ⟨funext fun k => congrArg (W main_arg0) ?_, funext fun k => congrArg (W main_arg1) ?_, funext fun k => congrArg (W main_arg2) ?_, funext fun k => congrArg (W main_arg3) ?_⟩ <;>
    refine funext (Fin.forall_fin_two.mpr ⟨Fin.ext ?_, Fin.ext ?_⟩) <;> blk_simp [idx t, hi]

/-- What a point stores of the gradients to the heads and to the gates. -/
theorem out_rows (t : Fin cfg0.N) : (outsAt0 m c t.val t.isLt).1 = pHead (iblk m c 0 t) (iblk m c 1 t) (iblk m c 2 t) (iblk m c 3 t)
    ∧ (outsAt0 m c t.val t.isLt).2.1 = pGate (iblk m c 0 t) (iblk m c 1 t) (iblk m c 2 t) (iblk m c 3 t) := by
  unfold pHead pGate
  by_cases h : t.val % 32 = 0
  · rw [outsAt0_A m c t h]; constructor <;> frame_out
  · rw [outsAt0_B m c t h]; constructor <;> frame_out

/-- The scale's gradient after the first point: from zero, the shares of its rows. -/
theorem start (t : Fin cfg0.N) (h : t.val % 32 = 0) (y : S1x128.Idx) : ((outsAt0 m c t.val t.isLt).2.2 y : EReal)
    = 0 + ∑ r : Fin 256, ∑ q : Fin 6, dHeadScale (part (R := 256) (n := 768) rfl (iblk m c 0 t) r q) (along (part (R := 256) (n := 768) rfl (iblk m c 1 t) r q) (part (R := 256) (n := 768) rfl (iblk m c 3 t) r q)) (y 1) := by
  rw [outsAt0_A m c t h]; frame_out
  exact (pay_scale _ _ _ _ y).trans (congrArg₂ (· + ·) (by pointwise [k0_pay64]) rfl)

/-- The scale's gradient after a later point: what the point before left, and the shares of its rows. -/
theorem step (t : Fin cfg0.N) (h : ¬t.val % 32 = 0) (y : S1x128.Idx) : ((outsAt0 m c t.val t.isLt).2.2 y : EReal)
    = (outsAt0 m c (t.val - 1) (Nat.lt_of_le_of_lt (Nat.sub_le _ _) t.isLt)).2.2 y
      + ∑ r : Fin 256, ∑ q : Fin 6, dHeadScale (part (R := 256) (n := 768) rfl (iblk m c 0 t) r q) (along (part (R := 256) (n := 768) rfl (iblk m c 1 t) r q) (part (R := 256) (n := 768) rfl (iblk m c 3 t) r q)) (y 1) := by
  rw [outsAt0_B m c t h]; frame_out
  exact pay_scale _ _ _ _ y

/-- The gradient to the heads after the run. -/
theorem final_head : (dats m 0 c).arrAt 4 cfg0.N = over (R := 8192) (n := 768) (H := 6) rfl fun r q k => dHead (part (R := 8192) (n := 768) rfl (V m c main_arg0) r q) (row (R := 1) (V m c main_arg2) 0) (along (gatePart (V m c main_arg1) r q) (part (R := 8192) (n := 768) rfl (V m c main_arg3) r q)) k := by
  refine (dats m 0 c).arrAt_eq_of_covers 4 _ (by decide +kernel) fun t hf y => ?_
  rw [after0_4, (out_rows m c t).1]; blk_simp
  have e1 : (((win0_4.blk t).view.emb y) 1 : Fin 768) = y 1 := Fin.ext (by blk_simp [idx t])
  refine (congrFun (eq_over rfl _ _ (pay_head (iblk m c 0 t) (iblk m c 1 t) (iblk m c 3 t) (iblk m c 2 t))) y).trans ?_
  refine (over_block (R := 256) (S := 8192) (n := 768) (H := 6) rfl _ _ y ((win0_4.blk t).view.emb y) e1 fun q => funext fun k => ?_)
  have B := blocks m c t (y 0) (((win0_4.blk t).view.emb y) 0) (by blk_simp [idx t]) q
  exact congrFun (congr (congrArg₂ dHead B.1 B.2.2.1) (congrArg₂ along B.2.1 B.2.2.2)) k

/-- The gradient to the gates after the run. -/
theorem final_gate : (dats m 0 c).arrAt 5 cfg0.N = over (R := 8192) (n := 768) (H := 6) rfl fun r q k => dGate (normHead (part (R := 8192) (n := 768) rfl (V m c main_arg0) r q) (row (R := 1) (V m c main_arg2) 0) k) (gatePart (V m c main_arg1) r q k) (part (R := 8192) (n := 768) rfl (V m c main_arg3) r q k) := by
  refine (dats m 0 c).arrAt_eq_of_covers 5 _ (by decide +kernel) fun t hf y => ?_
  rw [after0_5, (out_rows m c t).2]; blk_simp
  have e1 : (((win0_5.blk t).view.emb y) 1 : Fin 768) = y 1 := Fin.ext (by blk_simp [idx t])
  refine (congrFun (eq_over rfl _ _ (pay_gate (iblk m c 0 t) (iblk m c 1 t) (iblk m c 3 t) (iblk m c 2 t))) y).trans ?_
  refine (over_block (R := 256) (S := 8192) (n := 768) (H := 6) rfl _ _ y ((win0_5.blk t).view.emb y) e1 fun q => funext fun k => ?_)
  have B := blocks m c t (y 0) (((win0_5.blk t).view.emb y) 0) (by blk_simp [idx t]) q
  exact congr (congrArg₂ dGate (congrFun (congrArg₂ normHead B.1 B.2.2.1) k) (congrFun B.2.1 k)) (congrFun B.2.2.2 k)

/-- The scale's gradient after the run: the shares of all the rows and their heads. -/
theorem final_scale : (dats m 0 c).arrAt 6 cfg0.N = fun i => ∑ r : Fin 8192, ∑ q : Fin 6, dHeadScale (part (R := 8192) (n := 768) rfl (V m c main_arg0) r q) (along (gatePart (V m c main_arg1) r q) (part (R := 8192) (n := 768) rfl (V m c main_arg3) r q)) (i 1) := by
  refine (dats m 0 c).arrAt_eq_of_covers 6 _ (by decide +kernel) fun t hf y => ?_
  have ht := (idx t).2.2.2.2.2.2.2 hf
  rw [after0_6]; blk_simp
  refine sum_blocks (fun n h => (outsAt0 m c n h).2.2) _ (start m c) (step m c) t ht y _ fun s k u l hu hl => Finset.sum_congr rfl fun q _ => ?_
  have hs := s.isLt
  have B := blocks m c u k l (by have := t.isLt; have : cfg0.N = 32 := rfl; omega) q
  refine congr (congrArg₂ dHeadScale B.1 (congrArg₂ along B.2.1 B.2.2.2)) (Fin.ext ?_)
  blk_simp [idx t]

end Cert.Kernel36Ideal.Heads

namespace Cert.Proof
open Cert.Norm Cert.Gate Cert.Heads
attribute [local instance] Cert.Kernel36Ideal.Gen.facts Cert.Reference36Ideal.Gen.facts Cert.Kernel37Ideal.Gen.facts Cert.Reference37Ideal.Gen.facts Cert.Kernel38Ideal.Gen.facts Cert.Reference38Ideal.Gen.facts

/-- The reference of the heads' norm's gradients keeps its arguments and its semaphores. -/
theorem reference36_frame : Cert.quiescent_Reference36Ideal := by
  intro m g _
  exact (θ_run _ _ _).mono (fun r h => ⟨fun c => (h c).2.2.2, sem_eq_zero_of_no_sems rfl r.2⟩) (Cert.Reference36Ideal.Value.run m g)

/-- The reference of the heads' norm keeps its arguments and its semaphores. -/
theorem reference37_frame : Cert.quiescent_Reference37Ideal := by
  intro m g _
  exact (θ_run _ _ _).mono (fun r h => ⟨fun c => (h c).2, sem_eq_zero_of_no_sems rfl r.2⟩) (Cert.Reference37Ideal.Value.run m g)

/-- The reference of the row sums keeps its arguments and its semaphores. -/
theorem reference38_frame : Cert.quiescent_Reference38Ideal := by
  intro m g _
  exact (θ_run _ _ _).mono (fun r h => ⟨fun c => (h c).2, sem_eq_zero_of_no_sems rfl r.2⟩) (Cert.Reference38Ideal.Value.run m g)

/-- The gradients of the heads' norm under the gates are the reference's. -/
theorem product36 : Cert.algebraic_Kernel36Ideal_Reference36Ideal := by
  intro m g m' g' _ hagree
  refine ⟨_, _, _, Cert.Kernel36Ideal.Value.run_blocks m g, (θ_run _ _ _).mono (fun r h c => ⟨?_, ?_, ?_, (h c).2.2.2⟩) (Cert.Reference36Ideal.Value.run m' g')⟩
  · refine (h c).1.trans ((Cert.Reference36Ideal.Read.val_main_v47_eq _ _).trans ((eq_over rfl _ _ (Cert.Reference36Ideal.Heads.ref_head _ _ _ _)).trans ?_))
    rw [(hagree c).1, (hagree c).2.1, (hagree c).2.2.1, (hagree c).2.2.2]
    exact (Cert.Kernel36Ideal.Heads.final_head m c).symm
  · refine (h c).2.1.trans ((Cert.Reference36Ideal.Read.val_main_v24_eq _ _ _ _).trans ((eq_over rfl _ _ (Cert.Reference36Ideal.Heads.ref_gate _ _ _ _)).trans ?_))
    rw [(hagree c).1, (hagree c).2.1, (hagree c).2.2.1, (hagree c).2.2.2]
    exact (Cert.Kernel36Ideal.Heads.final_gate m c).symm
  · refine (h c).2.2.1.trans ((Cert.Reference36Ideal.Read.val_main_v46_eq _ _ _).trans ((funext (Cert.Reference36Ideal.Heads.ref_scale _ _ _)).trans ?_))
    rw [(hagree c).1, (hagree c).2.1, (hagree c).2.2.2]
    exact (Cert.Kernel36Ideal.Heads.final_scale m c).symm

/-- The heads' norm under the gates is the reference's. -/
theorem product37 : Cert.algebraic_Kernel37Ideal_Reference37Ideal := by
  intro m g m' g' _ hagree
  refine ⟨_, Cert.Kernel37Ideal.Value.run_blocks m g, (θ_run _ _ _).mono (fun r h c => ⟨?_, (h c).2⟩) (Cert.Reference37Ideal.Value.run m' g')⟩
  refine (h c).1.trans ((Cert.Reference37Ideal.Read.val_main_v18_eq _ _ _).trans ((eq_over rfl _ _ (Cert.Reference37Ideal.Heads.ref_head _ _ _)).trans ?_))
  rw [(hagree c).1, (hagree c).2.1, (hagree c).2.2]
  exact (Cert.Kernel37Ideal.Heads.final m c).symm

/-- The attention's row sums are the reference's. -/
theorem product38 : Cert.algebraic_Kernel38Ideal_Reference38Ideal := by
  intro m g m' g' _ hagree
  refine ⟨_, Cert.Kernel38Ideal.Value.run_blocks m g, (θ_run _ _ _).mono (fun r h c => ⟨?_, (h c).2⟩) (Cert.Reference38Ideal.Value.run m' g')⟩
  refine (h c).1.trans ((Cert.Reference38Ideal.Read.val_main_v6_eq _ _).trans ((eq_over rfl _ _ (Cert.Reference38Ideal.Heads.ref_head _ _)).trans ?_))
  rw [(hagree c).1, (hagree c).2]
  exact (Cert.Kernel38Ideal.Heads.final m c).symm

end Cert.Proof
end
-- ==== Proof.Tail.lean ====
/- The gated unit and the gate behind the S5 scan, forward and backward. -/
module

public import proofs.«01_k».proof.Proof.Forward
public import proofs.«01_k».proof.Proof.Gen.Kernel39Ideal.Value
public import proofs.«01_k».proof.Proof.Gen.Reference39Ideal.Read
public import proofs.«01_k».proof.Proof.Gen.Kernel40Ideal.Value
public import proofs.«01_k».proof.Proof.Gen.Reference40Ideal.Read
public import Idealize.ShloMosaic.Lib.WritesUnit
public import Idealize.ShloMosaic.Lib.Quiescent
public import proofs.«01_k».proof.Defs

@[expose] public section

set_option maxRecDepth 16384

noncomputable section

open Idealize.ShloMosaic Idealize.ShloMosaic.TcCoe Idealize.SL.Sem
open Cert.Tiles

namespace Cert.Tail
open Cert.Gate Cert.Norm

/-- A row of the scan with its skip added. -/
def before (x u d : Fin 768 → EReal) (j : Fin 768) : EReal := x j + d j * u j
/-- The hyperbolic tangent in `gelu`. -/
def bend (p : EReal) : EReal := Ideal.tanh (Ideal.ofBits .f32 0x3F4C422A#32 * (p + Ideal.ofBits .f32 0x3D372713#32 * (p * (p * p))))
/-- The same, the cube taken from the left. -/
theorem bend_assoc (p : EReal) : bend p = Ideal.tanh (Ideal.ofBits .f32 0x3F4C422A#32 * (p + Ideal.ofBits .f32 0x3D372713#32 * (p * p * p))) := by
  unfold bend
  rw [mul_assoc p p p]
/-- The factor of `gelu`. -/
def half (p : EReal) : EReal := Ideal.ofBits .f32 0x3F000000#32 * (1 + bend p)
/-- `gelu`. -/
def gelu (p : EReal) : EReal := p * half p
/-- The gated unit's gate of a row. -/
def unit (p : Fin 768 → EReal) (w : Fin 768 → Fin 768 → EReal) (b : Fin 768 → EReal) (j : Fin 768) : EReal := Ideal.logistic ((∑ k, gelu (p k) * w k j) + b j)
/-- The gated unit of a row. -/
def glu (p : Fin 768 → EReal) (w : Fin 768 → Fin 768 → EReal) (b : Fin 768 → EReal) (j : Fin 768) : EReal := gelu (p j) * unit p w b j
/-- The gradient to the gate's argument, along `e`. -/
def dUnit (p z : Fin 768 → EReal) (w : Fin 768 → Fin 768 → EReal) (b e : Fin 768 → EReal) (j : Fin 768) : EReal :=
  gelu (p j) * dOut (z j) (e j) * (unit p w b j * (1 - unit p w b j))
/-- The gradient to `gelu`'s result: through the unit and through its gate. -/
def dGelu (p z : Fin 768 → EReal) (w : Fin 768 → Fin 768 → EReal) (b e : Fin 768 → EReal) (j : Fin 768) : EReal :=
  dOut (z j) (e j) * unit p w b j + ∑ k, dUnit p z w b e k * w j k
/-- The share of `gelu`'s gradient that goes through the tangent's argument. -/
def dBend (p e : EReal) : EReal := Ideal.ofBits .f32 0x3F4C422A#32 * (Ideal.ofBits .f32 0x3F000000#32 * (p * e) * ((1 + bend p) * (1 - bend p)))
/-- The gradient of `gelu`. -/
def geluSlope (p e : EReal) : EReal := e * half p + dBend p e + Ideal.ofBits .f32 0x3D372713#32 * dBend p e * (Ideal.ofBits .f32 0x40400000#32 * (p * p))
/-- The gradient to a row with its skip added. -/
def dBefore (p z : Fin 768 → EReal) (w : Fin 768 → Fin 768 → EReal) (b e : Fin 768 → EReal) (j : Fin 768) : EReal := geluSlope (p j) (dGelu p z w b e j)
/-- The scan's input, and the gates, in a row of the input product: the columns from 0 and from 768 on. -/
def uRow (h : Arr 8192 16896) (r : Fin 8192) (j : Fin 768) : EReal := h (ix2 r ⟨j.val, by have := j.isLt; omega⟩)
def zRow (h : Arr 8192 16896) (r : Fin 8192) (j : Fin 768) : EReal := colAt (R := 8192) (C := 16896) (n := 768) h 768 (by decide) (ix2 r j)

section
variable (x u z : Arr 256 768) (d : Arr 1 768) (w : Arr 768 768) (b : Arr 1 768) (e : Arr 256 768) (r : Fin 256)
/-- Of a point's blocks: a row before `gelu`, its gated unit, and the gradients to both arguments. -/
def ptBefore : Fin 768 → EReal := before (row x r) (row u r) (row d 0)
def ptGlu : Fin 768 → EReal := glu (ptBefore x u d r) (fun k j => w (ix2 k j)) (row b 0)
def ptIn : Fin 768 → EReal := dBefore (ptBefore x u d r) (row z r) (fun k j => w (ix2 k j)) (row b 0) (row e r)
def ptUnit : Fin 768 → EReal := dUnit (ptBefore x u d r) (row z r) (fun k j => w (ix2 k j)) (row b 0) (row e r)
end
section
variable (x : Arr 8192 768) (h : Arr 8192 16896) (d : Arr 1 768) (w : Arr 768 768) (b : Arr 1 768) (e : Arr 8192 768) (r : Fin 8192)
/-- The same of the whole arrays. -/
def rowBefore : Fin 768 → EReal := before (row x r) (uRow h r) (row d 0)
def rowGlu : Fin 768 → EReal := glu (rowBefore x h d r) (fun k j => w (ix2 k j)) (row b 0)
def rowIn : Fin 768 → EReal := dBefore (rowBefore x h d r) (zRow h r) (fun k j => w (ix2 k j)) (row b 0) (row e r)
def rowUnit : Fin 768 → EReal := dUnit (rowBefore x h d r) (zRow h r) (fun k j => w (ix2 k j)) (row b 0) (row e r)
end

end Cert.Tail

namespace Cert.Kernel40Ideal.Tail
open Cert.Kernel40Ideal Cert.Kernel40Ideal.Gen Cert.Kernel40Ideal.Value Cert.Norm Cert.Gate Cert.Tail

/-- What a point stores. -/
theorem pay (x u z : FVec Ideal S256x768 .f32) (d : FVec Ideal S1x768 .f32) (w : FVec Ideal S768x768 .f32) (b : FVec Ideal S1x768 .f32) (r : Fin 256) (j : Fin 768) : (k0_pay1 (F := Ideal) x u z d w b (ix2 r j) : EReal)
    = gated (ptGlu x u d w b r j) (row (R := 256) (n := 768) z r j) := by
  unfold gated ptGlu ptBefore glu unit gelu half bend before row
  pointwise [k0_pay1]

end Cert.Kernel40Ideal.Tail

namespace Cert.Reference40Ideal.Tail
open Cert.Reference40Ideal Cert.Reference40Ideal.Read Cert.Norm Cert.Gate Cert.Tail

/-- The reference's result. -/
theorem ref (x : Arr 8192 768) (h : Arr 8192 16896) (d : Arr 1 768) (w : Arr 768 768) (b : Arr 1 768) (r : Fin 8192) (j : Fin 768) : (val_main_v31 (F := Ideal) x h d w b (ix2 r j) : EReal)
    = gated (rowGlu x h d w b r j) (zRow h r j) := by
  unfold gated rowGlu rowBefore glu unit gelu half before row uRow zRow colAt Ideal.logistic
  simp only [bend_assoc]
  pointwise [val_main_v0, val_main_v1, val_main_v2, val_main_v3, val_main_v4, val_main_v5, val_main_v6, val_main_v7, val_main_cst, val_main_v8, val_main_v9, val_main_v10, val_main_cst_0, val_main_v11, val_main_v12, val_main_v13, val_main_cst_1, val_main_v14, val_main_v15, val_main_cst_2, val_main_v16, val_main_v17, val_main_v18, val_main_v19, val_main_v20, val_main_v21, val_main_v22, val_main_v23, val_main_v24, val_main_cst_3, val_main_v25, val_main_v26, val_main_cst_4, val_main_v27, val_main_v28, val_main_v29, val_main_call0_v0, val_main_call0_v1, val_main_call0_cst, val_main_call0_v2, val_main_call0_v3, val_main_call0_cst_0, val_main_call0_v4, val_main_call0_v5, val_main_v30, val_main_v31]

end Cert.Reference40Ideal.Tail

namespace Cert.Kernel39Ideal.Tail
open Cert.Kernel39Ideal Cert.Kernel39Ideal.Gen Cert.Kernel39Ideal.Value Cert.Norm Cert.Gate Cert.Tail

variable (x u z : FVec Ideal S256x768 .f32) (d : FVec Ideal S1x768 .f32) (w : FVec Ideal S768x768 .f32) (b : FVec Ideal S1x768 .f32) (e : FVec Ideal S256x768 .f32)

/-- What a point stores: the gradients to the gates, to the scan and to its input, -/
def pGate : FVec Ideal S256x768 .f32 := k0_pay18 z e (k0_pay12 x u d) (k0_pay15 x u d w b)
def pScan : FVec Ideal S256x768 .f32 := k0_pay22 z e (k0_pay7 x u d) (k0_pay8 x u d) (k0_pay10 x u d) (k0_pay11 x u d) (k0_pay12 x u d) (k0_pay14 w) (k0_pay15 x u d w b)
def pIn : FVec Ideal S256x768 .f32 := k0_pay23 z d e (k0_pay7 x u d) (k0_pay8 x u d) (k0_pay10 x u d) (k0_pay11 x u d) (k0_pay12 x u d) (k0_pay14 w) (k0_pay15 x u d w b)
/-- and, over what was there, to the skip, to the gate's weight and to its offset. -/
def pSkip (v : FVec Ideal S1x768 .f32) : FVec Ideal S1x768 .f32 := k0_pay2 (k0_pay24 u z e (k0_pay7 x u d) (k0_pay8 x u d) (k0_pay10 x u d) (k0_pay11 x u d) (k0_pay12 x u d) (k0_pay14 w) (k0_pay15 x u d w b)) v
def pWeight (v : FVec Ideal S768x768 .f32) : FVec Ideal S768x768 .f32 := k0_pay4 (k0_pay21 z e (k0_pay12 x u d) (k0_pay13 x u d) (k0_pay15 x u d w b)) v
def pOffset (v : FVec Ideal S1x768 .f32) : FVec Ideal S1x768 .f32 := k0_pay6 (k0_pay20 z e (k0_pay12 x u d) (k0_pay15 x u d w b)) v

/-- The gradient to the gates. -/
theorem pay_gate (r : Fin 256) (j : Fin 768) : (pGate x u z d w b e (ix2 r j) : EReal)
    = dGate (ptGlu x u d w b r j) ((row (R := 256) (n := 768) z r) j) ((row (R := 256) (n := 768) e r) j) := by
  unfold pGate ptGlu ptBefore dGate sigSlope glu unit gelu half bend before row
  pointwise [k0_pay7, k0_pay9, k0_pay11, k0_pay12, k0_pay13, k0_pay14, k0_pay15, k0_pay16, k0_pay17, k0_pay18, k0_pay19, k0_pay20, k0_pay21, k0_pay22, k0_pay23, k0_pay24]

/-- The gradient to the scan. -/
theorem pay_scan (r : Fin 256) (j : Fin 768) : (pScan x u z d w b e (ix2 r j) : EReal)
    = ptIn x u z d w b e r j := by
  unfold pScan ptIn ptBefore dBefore geluSlope dBend dGelu dUnit dOut unit gelu half bend before row
  pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]

/-- The gradient to the scan's input. -/
theorem pay_in (r : Fin 256) (j : Fin 768) : (pIn x u z d w b e (ix2 r j) : EReal)
    = (row (R := 1) (n := 768) d 0) j * ptIn x u z d w b e r j := by
  unfold pIn ptIn ptBefore dBefore geluSlope dBend dGelu dUnit dOut unit gelu half bend before row
  pointwise [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]

/-- The gradient to the skip. -/
theorem pay_skip (v : FVec Ideal S1x768 .f32) (y : S1x768.Idx) : (pSkip x u z d w b e v y : EReal)
    = v y + ∑ r : Fin 256, ptIn x u z d w b e r (y 1) * (row (R := 256) (n := 768) u r) (y 1) := by
  unfold pSkip ptIn ptBefore dBefore geluSlope dBend dGelu dUnit dOut unit gelu half bend before row
  pointwise [k0_pay2, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]

/-- The gradient to the gate's weight. -/
theorem pay_weight (v : FVec Ideal S768x768 .f32) (i j : Fin 768) : (pWeight x u z d w b e v (ix2 i j) : EReal)
    = v (ix2 i j) + ∑ r : Fin 256, ptUnit x u z d w b e r j * gelu (ptBefore x u d r i) := by
  unfold pWeight ptUnit ptBefore dUnit dOut unit gelu half bend before row
  pointwise [k0_pay4, k0_pay7, k0_pay9, k0_pay11, k0_pay12, k0_pay13, k0_pay14, k0_pay15, k0_pay16, k0_pay17, k0_pay18, k0_pay19, k0_pay20, k0_pay21, k0_pay22, k0_pay23, k0_pay24]

/-- The gradient to the gate's offset. -/
theorem pay_offset (v : FVec Ideal S1x768 .f32) (y : S1x768.Idx) : (pOffset x u z d w b e v y : EReal)
    = v y + ∑ r : Fin 256, ptUnit x u z d w b e r (y 1) := by
  unfold pOffset ptUnit ptBefore dUnit dOut unit gelu half bend before row
  pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]

end Cert.Kernel39Ideal.Tail

namespace Cert.Reference39Ideal.Tail
open Cert.Reference39Ideal Cert.Reference39Ideal.Read Cert.Norm Cert.Gate Cert.Tail

variable (x : Arr 8192 768) (h : Arr 8192 16896) (d : Arr 1 768) (w : Arr 768 768) (b : Arr 1 768) (e : Arr 8192 768)

/-- The reference's gradient to the scan. -/
theorem ref_scan (r : Fin 8192) (j : Fin 768) : (val_main_v68 (F := Ideal) x h d w b e (ix2 r j) : EReal)
    = rowIn x h d w b e r j := by
  unfold rowIn rowBefore dBefore geluSlope dBend dGelu dUnit dOut unit gelu half before row uRow zRow colAt Ideal.logistic
  simp only [bend_assoc]
  pointwise [val_main_v0, val_main_v1, val_main_v2, val_main_v3, val_main_v4, val_main_v5, val_main_v6, val_main_v7, val_main_v8, val_main_cst, val_main_v9, val_main_v10, val_main_cst_0, val_main_v11, val_main_v12, val_main_v13, val_main_cst_1, val_main_v14, val_main_v15, val_main_v16, val_main_cst_2, val_main_v17, val_main_v18, val_main_cst_3, val_main_v19, val_main_v20, val_main_v21, val_main_cst_4, val_main_v22, val_main_v23, val_main_cst_5, val_main_v24, val_main_v25, val_main_v26, val_main_v27, val_main_v28, val_main_v29, val_main_v30, val_main_v31, val_main_v32, val_main_cst_6, val_main_v33, val_main_v34, val_main_cst_7, val_main_v35, val_main_v36, val_main_cst_8, val_main_v37, val_main_v38, val_main_v39, val_main_call0_v0, val_main_call0_v1, val_main_call0_cst, val_main_call0_v2, val_main_call0_v3, val_main_call0_cst_0, val_main_call0_v4, val_main_v41_2, val_main_v41_0, val_main_v44, val_main_v46, val_main_v47, val_main_v48, val_main_v53, val_main_v54, val_main_v55, val_main_v56, val_main_v57, val_main_cst_10, val_main_v58, val_main_v59, val_main_v60, val_main_cst_11, val_main_v61, val_main_v62, val_main_v63, val_main_cst_12, val_main_v64, val_main_v65, val_main_v66, val_main_v67, val_main_v68]

/-- The reference's gradient to the scan's input. -/
theorem ref_in (r : Fin 8192) (j : Fin 768) : (val_main_v70 (F := Ideal) x h d w b e (ix2 r j) : EReal)
    = (row (R := 1) (n := 768) d 0) j * rowIn x h d w b e r j := by
  rw [val_main_v70_apply, ref_scan]
  unfold row
  pointwise [val_main_v69]

/-- The reference's gradient to the gates. -/
theorem ref_gate (r : Fin 8192) (j : Fin 768) : (val_main_v45 (F := Ideal) x h d w b e (ix2 r j) : EReal)
    = dGate (rowGlu x h d w b r j) (zRow h r j) ((row (R := 8192) (n := 768) e r) j) := by
  unfold rowGlu rowBefore dGate sigSlope glu unit gelu half before row uRow zRow colAt Ideal.logistic
  simp only [bend_assoc]
  pointwise [val_main_v0, val_main_v1, val_main_v2, val_main_v3, val_main_v4, val_main_v5, val_main_v6, val_main_v7, val_main_cst_0, val_main_v11, val_main_v12, val_main_v13, val_main_cst_1, val_main_v14, val_main_v15, val_main_v16, val_main_cst_4, val_main_v22, val_main_v23, val_main_cst_5, val_main_v24, val_main_v25, val_main_v26, val_main_v27, val_main_v28, val_main_v29, val_main_v30, val_main_v31, val_main_v32, val_main_cst_6, val_main_v33, val_main_v34, val_main_cst_7, val_main_v35, val_main_v36, val_main_v40, val_main_call0_v0, val_main_call0_v1, val_main_call0_cst, val_main_call0_v2, val_main_call0_v3, val_main_call0_cst_0, val_main_call0_v4, val_main_v41_2, val_main_call0_cst_1, val_main_call0_v6, val_main_call0_v7, val_main_v41_1, val_main_v43, val_main_call1_v0, val_main_call1_v1, val_main_call1_v2, val_main_v45]

/-- The reference's gradient to the skip. -/
theorem ref_skip (y : (⟨2, ![1, 768]⟩ : Shape).Idx) : (val_main_v73 (F := Ideal) x h d w b e y : EReal)
    = ∑ r : Fin 8192, rowIn x h d w b e r (y 1) * uRow h r (y 1) := by
  pointwise [val_main_v0, val_main_v71, val_main_cst_13, val_main_v72, val_main_v73]
  exact Finset.sum_congr rfl fun r _ => congrArg (· * uRow h r (y 1)) (ref_scan x h d w b e r (y 1))

/-- The reference's gradient to the argument of the unit's gate. -/
theorem ref_unit (r : Fin 8192) (j : Fin 768) : (val_main_v48 (F := Ideal) x h d w b e (ix2 r j) : EReal)
    = rowUnit x h d w b e r j := by
  unfold rowUnit rowBefore dUnit dOut unit gelu half before row uRow zRow colAt Ideal.logistic
  simp only [bend_assoc]
  pointwise [val_main_v0, val_main_v1, val_main_v2, val_main_v3, val_main_v4, val_main_v5, val_main_v6, val_main_v7, val_main_cst_0, val_main_v11, val_main_v12, val_main_v13, val_main_cst_1, val_main_v14, val_main_v15, val_main_v16, val_main_cst_4, val_main_v22, val_main_v23, val_main_cst_5, val_main_v24, val_main_v25, val_main_v26, val_main_v27, val_main_v28, val_main_v29, val_main_v30, val_main_v31, val_main_v32, val_main_cst_6, val_main_v33, val_main_v34, val_main_cst_7, val_main_v35, val_main_v36, val_main_cst_8, val_main_v37, val_main_v38, val_main_v39, val_main_call0_v0, val_main_call0_v1, val_main_call0_cst, val_main_call0_v2, val_main_call0_v3, val_main_call0_cst_0, val_main_call0_v4, val_main_v41_2, val_main_v41_0, val_main_v44, val_main_v46, val_main_v48]

/-- The reference's `gelu`. -/
theorem ref_gelu (r : Fin 8192) (j : Fin 768) : (val_main_v27 (F := Ideal) x h d (ix2 r j) : EReal)
    = gelu (rowBefore x h d r j) := by
  unfold rowBefore gelu half before row uRow
  simp only [bend_assoc]
  pointwise [val_main_v0, val_main_v2, val_main_v3, val_main_v4, val_main_v5, val_main_v6, val_main_v7, val_main_cst_0, val_main_v11, val_main_v12, val_main_v13, val_main_cst_1, val_main_v14, val_main_v15, val_main_v16, val_main_cst_4, val_main_v22, val_main_v23, val_main_cst_5, val_main_v24, val_main_v25, val_main_v26, val_main_v27]

/-- The reference's gradient to the gate's weight. -/
theorem ref_weight (i j : Fin 768) : (val_main_v52 (F := Ideal) x h d w b e (ix2 i j) : EReal)
    = ∑ r : Fin 8192, rowUnit x h d w b e r j * gelu (rowBefore x h d r i) := by
  pointwise [val_main_v51, val_main_v52]
  exact Finset.sum_congr rfl fun r _ => congrArg₂ (· * ·) (ref_unit x h d w b e r j) (ref_gelu x h d r i)

/-- The reference's gradient to the gate's offset. -/
theorem ref_offset (y : (⟨2, ![1, 768]⟩ : Shape).Idx) : (val_main_v50 (F := Ideal) x h d w b e y : EReal)
    = ∑ r : Fin 8192, rowUnit x h d w b e r (y 1) := by
  pointwise [val_main_cst_9, val_main_v49, val_main_v50]
  exact Finset.sum_congr rfl fun r _ => ref_unit x h d w b e r (y 1)

end Cert.Reference39Ideal.Tail
end
-- ==== Proof.TailRun.lean ====
/- The gated unit and the gate behind the S5 scan, over the whole arrays. -/
module

public import proofs.«01_k».proof.Proof.Tail

@[expose] public section

set_option maxRecDepth 16384

noncomputable section

open Idealize.ShloMosaic Idealize.ShloMosaic.TcCoe Idealize.SL.Sem
open Cert.Tiles

namespace Cert.Kernel40Ideal.Tail
open Cert.Kernel40Ideal Cert.Kernel40Ideal.Gen Cert.Kernel40Ideal.Value Cert.Norm Cert.Gate Cert.Tail

variable (m : (ℓ : Loc nD τ sig) → Buf (Elt Ideal) ℓ) (c : Dev nD)

/-- The windows' blocks at every point. -/
theorem idx : ∀ t : Fin cfg0.N, win0_0.index t = ![t.val, 0] ∧ win0_1.index t = ![t.val, 0] ∧ win0_2.index t = ![t.val, 1] ∧ win0_3.index t = ![0, 0] ∧ win0_4.index t = ![0, 0] ∧ win0_5.index t = ![0, 0] ∧ win0_6.index t = ![t.val, 0] :=
  (by decide +kernel : ∀ t : Fin grid0.N, _)

/-- The blocks at a point are the arrays' rows from 256 times the point on. -/
theorem blocks (t : Fin cfg0.N) (r : Fin 256) (i : Fin 8192) (hi : i.val = t.val * 256 + r.val) :
    (row (R := 256) (n := 768) (iblk m c 0 t) r) = row (R := 8192) (n := 768) (V m c main_arg0) i
    ∧ (row (R := 256) (n := 768) (iblk m c 1 t) r) = uRow (V m c main_arg1) i
    ∧ (row (R := 256) (n := 768) (iblk m c 2 t) r) = zRow (V m c main_arg1) i
    ∧ (row (R := 1) (n := 768) (iblk m c 3 t) 0) = row (R := 1) (n := 768) (V m c main_arg2) 0
    ∧ (fun k j => iblk m c 4 t (ix2 k j)) = (fun k j => V m c main_arg3 (ix2 k j))
    ∧ (row (R := 1) (n := 768) (iblk m c 5 t) 0) = row (R := 1) (n := 768) (V m c main_arg4) 0 := by
  unfold iblk row uRow zRow colAt
  generalize V m c = W
  refine ⟨funext fun k => congrArg (W main_arg0) ?_, funext fun k => congrArg (W main_arg1) ?_, funext fun k => congrArg (W main_arg1) ?_, funext fun k => congrArg (W main_arg2) ?_, funext fun k => funext fun j => congrArg (W main_arg3) ?_, funext fun k => congrArg (W main_arg4) ?_⟩ <;>
    refine funext (Fin.forall_fin_two.mpr ⟨Fin.ext ?_, Fin.ext ?_⟩) <;> blk_simp [idx t, hi]

/-- So are the rows before `gelu`, the gated units. -/
theorem rows (t : Fin cfg0.N) (r : Fin 256) (i : Fin 8192) (hi : i.val = t.val * 256 + r.val) :
    ptGlu (iblk m c 0 t) (iblk m c 1 t) (iblk m c 3 t) (iblk m c 4 t) (iblk m c 5 t) r = rowGlu (V m c main_arg0) (V m c main_arg1) (V m c main_arg2) (V m c main_arg3) (V m c main_arg4) i
    ∧ (row (R := 256) (n := 768) (iblk m c 2 t) r) = zRow (V m c main_arg1) i := by
  have B := blocks m c t r i hi
  unfold ptGlu rowGlu ptBefore rowBefore
  rw [B.1, B.2.1, B.2.2.1, B.2.2.2.1, B.2.2.2.2.1, B.2.2.2.2.2]
  exact ⟨rfl, rfl⟩

/-- The gated rows after the run. -/
theorem final : (dats m 0 c).arrAt 6 cfg0.N = fun i => gated (rowGlu (V m c main_arg0) (V m c main_arg1) (V m c main_arg2) (V m c main_arg3) (V m c main_arg4) (i 0) (i 1)) (zRow (V m c main_arg1) (i 0) (i 1)) := by
  refine (dats m 0 c).arrAt_eq_of_covers 6 _ (by decide +kernel) fun t hf y => ?_
  rw [after0_6]; unfold out0_6; frame_out; blk_simp
  have e1 : (((win0_6.blk t).view.emb y) 1 : Fin 768) = y 1 := Fin.ext (by blk_simp [idx t])
  have B := rows m c t (y 0) (((win0_6.blk t).view.emb y) 0) (by blk_simp [idx t])
  have P := pay (iblk m c 0 t) (iblk m c 1 t) (iblk m c 2 t) (iblk m c 3 t) (iblk m c 4 t) (iblk m c 5 t) (y 0) (y 1)
  rw [B.1, B.2] at P
  refine (congrArg _ (ix2_eta y).symm).trans (P.trans ?_)
  rw [e1]

end Cert.Kernel40Ideal.Tail

namespace Cert.Kernel39Ideal.Tail
open Cert.Kernel39Ideal Cert.Kernel39Ideal.Gen Cert.Kernel39Ideal.Value Cert.Norm Cert.Gate Cert.Tail

variable (m : (ℓ : Loc nD τ sig) → Buf (Elt Ideal) ℓ) (c : Dev nD)

/-- The windows' blocks at every point, and the point the parameters' gradients are flushed at. -/
theorem idx : ∀ t : Fin cfg0.N, win0_0.index t = ![t.val, 0] ∧ win0_1.index t = ![t.val, 0] ∧ win0_2.index t = ![t.val, 1] ∧ win0_3.index t = ![0, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] ∧ win0_10.index t = ![0, 0] ∧ win0_11.index t = ![0, 0] ∧ win0_12.index t = ![0, 0] ∧ ((cfg0.win 10).flush t = true → t.val % 32 = 31) ∧ ((cfg0.win 11).flush t = true → t.val % 32 = 31) ∧ ((cfg0.win 12).flush t = true → t.val % 32 = 31) :=
  (by decide +kernel : ∀ t : Fin grid0.N, _)

/-- The blocks at a point are the arrays' rows from 256 times the point on. -/
theorem blocks (t : Fin cfg0.N) (r : Fin 256) (i : Fin 8192) (hi : i.val = t.val * 256 + r.val) :
    (row (R := 256) (n := 768) (iblk m c 0 t) r) = row (R := 8192) (n := 768) (V m c main_arg0) i
    ∧ (row (R := 256) (n := 768) (iblk m c 1 t) r) = uRow (V m c main_arg1) i
    ∧ (row (R := 256) (n := 768) (iblk m c 2 t) r) = zRow (V m c main_arg1) i
    ∧ (row (R := 1) (n := 768) (iblk m c 3 t) 0) = row (R := 1) (n := 768) (V m c main_arg2) 0
    ∧ (fun k j => iblk m c 4 t (ix2 k j)) = (fun k j => V m c main_arg3 (ix2 k j))
    ∧ (row (R := 1) (n := 768) (iblk m c 5 t) 0) = row (R := 1) (n := 768) (V m c main_arg4) 0
    ∧ (row (R := 256) (n := 768) (iblk m c 6 t) r) = row (R := 8192) (n := 768) (V m c main_arg5) i := by
  unfold iblk row uRow zRow colAt
  generalize V m c = W
  refine ⟨funext fun k => congrArg (W main_arg0) ?_, funext fun k => congrArg (W main_arg1) ?_, funext fun k => congrArg (W main_arg1) ?_, funext fun k => congrArg (W main_arg2) ?_, funext fun k => funext fun j => congrArg (W main_arg3) ?_, funext fun k => congrArg (W main_arg4) ?_, funext fun k => congrArg (W main_arg5) ?_⟩ <;>
    refine funext (Fin.forall_fin_two.mpr ⟨Fin.ext ?_, Fin.ext ?_⟩) <;> blk_simp [idx t, hi]

/-- So are the rows before `gelu`, the gated units and the gradients. -/
theorem rows (t : Fin cfg0.N) (r : Fin 256) (i : Fin 8192) (hi : i.val = t.val * 256 + r.val) :
    ptGlu (iblk m c 0 t) (iblk m c 1 t) (iblk m c 3 t) (iblk m c 4 t) (iblk m c 5 t) r = rowGlu (V m c main_arg0) (V m c main_arg1) (V m c main_arg2) (V m c main_arg3) (V m c main_arg4) i
    ∧ (row (R := 256) (n := 768) (iblk m c 2 t) r) = zRow (V m c main_arg1) i
    ∧ ptIn (iblk m c 0 t) (iblk m c 1 t) (iblk m c 2 t) (iblk m c 3 t) (iblk m c 4 t) (iblk m c 5 t) (iblk m c 6 t) r = rowIn (V m c main_arg0) (V m c main_arg1) (V m c main_arg2) (V m c main_arg3) (V m c main_arg4) (V m c main_arg5) i
    ∧ ptUnit (iblk m c 0 t) (iblk m c 1 t) (iblk m c 2 t) (iblk m c 3 t) (iblk m c 4 t) (iblk m c 5 t) (iblk m c 6 t) r = rowUnit (V m c main_arg0) (V m c main_arg1) (V m c main_arg2) (V m c main_arg3) (V m c main_arg4) (V m c main_arg5) i
    ∧ ptBefore (iblk m c 0 t) (iblk m c 1 t) (iblk m c 3 t) r = rowBefore (V m c main_arg0) (V m c main_arg1) (V m c main_arg2) i
    ∧ (row (R := 256) (n := 768) (iblk m c 1 t) r) = uRow (V m c main_arg1) i
    ∧ (row (R := 1) (n := 768) (iblk m c 3 t) 0) = row (R := 1) (n := 768) (V m c main_arg2) 0
    ∧ (row (R := 256) (n := 768) (iblk m c 6 t) r) = row (R := 8192) (n := 768) (V m c main_arg5) i := by
  have B := blocks m c t r i hi
  unfold ptGlu rowGlu ptIn rowIn ptUnit rowUnit ptBefore rowBefore
  rw [B.1, B.2.1, B.2.2.1, B.2.2.2.1, B.2.2.2.2.1, B.2.2.2.2.2.1, B.2.2.2.2.2.2]
  exact ⟨rfl, rfl, rfl, rfl, rfl, rfl, rfl, rfl⟩

/-- What a point stores of the gradients to the scan, to its input and to the gates. -/
theorem out_rows (t : Fin cfg0.N) : (outsAt0 m c t.val t.isLt).1 = pScan (iblk m c 0 t) (iblk m c 1 t) (iblk m c 2 t) (iblk m c 3 t) (iblk m c 4 t) (iblk m c 5 t) (iblk m c 6 t)
    ∧ (outsAt0 m c t.val t.isLt).2.1 = pIn (iblk m c 0 t) (iblk m c 1 t) (iblk m c 2 t) (iblk m c 3 t) (iblk m c 4 t) (iblk m c 5 t) (iblk m c 6 t)
    ∧ (outsAt0 m c t.val t.isLt).2.2.1 = pGate (iblk m c 0 t) (iblk m c 1 t) (iblk m c 2 t) (iblk m c 3 t) (iblk m c 4 t) (iblk m c 5 t) (iblk m c 6 t) := by
  unfold pScan pIn pGate
  by_cases h : t.val % 32 = 0
  · rw [outsAt0_A m c t h h h]; refine ⟨?_, ?_, ?_⟩ <;> frame_out
  · rw [outsAt0_B m c t h h h]; refine ⟨?_, ?_, ?_⟩ <;> frame_out

/-- A point's shares of the gradients to the skip, to the gate's weight and to its offset. -/
def toSkip (t : Fin cfg0.N) (y : S1x768.Idx) (r : Fin 256) : EReal := ptIn (iblk m c 0 t) (iblk m c 1 t) (iblk m c 2 t) (iblk m c 3 t) (iblk m c 4 t) (iblk m c 5 t) (iblk m c 6 t) r (y 1) * (row (R := 256) (n := 768) (iblk m c 1 t) r) (y 1)
def toWeight (t : Fin cfg0.N) (y : S768x768.Idx) (r : Fin 256) : EReal := ptUnit (iblk m c 0 t) (iblk m c 1 t) (iblk m c 2 t) (iblk m c 3 t) (iblk m c 4 t) (iblk m c 5 t) (iblk m c 6 t) r (y 1) * gelu (ptBefore (iblk m c 0 t) (iblk m c 1 t) (iblk m c 3 t) r (y 0))
def toOffset (t : Fin cfg0.N) (y : S1x768.Idx) (r : Fin 256) : EReal := ptUnit (iblk m c 0 t) (iblk m c 1 t) (iblk m c 2 t) (iblk m c 3 t) (iblk m c 4 t) (iblk m c 5 t) (iblk m c 6 t) r (y 1)

/-- The weight's gradient over what was there, at any entry. -/
theorem weight_at (t : Fin cfg0.N) (v : FVec Ideal S768x768 .f32) (y : S768x768.Idx) : (pWeight (iblk m c 0 t) (iblk m c 1 t) (iblk m c 2 t) (iblk m c 3 t) (iblk m c 4 t) (iblk m c 5 t) (iblk m c 6 t) v y : EReal) = v y + ∑ r : Fin 256, toWeight m c t y r := by
  obtain ⟨i, j, rfl⟩ : ∃ i j, y = ix2 i j := ⟨_, _, (ix2_eta y).symm⟩
  exact pay_weight (iblk m c 0 t) (iblk m c 1 t) (iblk m c 2 t) (iblk m c 3 t) (iblk m c 4 t) (iblk m c 5 t) (iblk m c 6 t) v i j

/-- The parameters' gradients after the first point: from zero, the shares of its rows. -/
theorem start (t : Fin cfg0.N) (h : t.val % 32 = 0) :
    (∀ y, ((outsAt0 m c t.val t.isLt).2.2.2.1 y : EReal) = 0 + ∑ r : Fin 256, toSkip m c t y r)
    ∧ (∀ y, ((outsAt0 m c t.val t.isLt).2.2.2.2.1 y : EReal) = 0 + ∑ r : Fin 256, toWeight m c t y r)
    ∧ ∀ y, ((outsAt0 m c t.val t.isLt).2.2.2.2.2 y : EReal) = 0 + ∑ r : Fin 256, toOffset m c t y r := by
  rw [outsAt0_A m c t h h h]
  refine ⟨fun y => ?_, fun y => ?_, fun y => ?_⟩ <;> frame_out
  · exact (pay_skip (iblk m c 0 t) (iblk m c 1 t) (iblk m c 2 t) (iblk m c 3 t) (iblk m c 4 t) (iblk m c 5 t) (iblk m c 6 t) _ y).trans (congrArg₂ (· + ·) (by pointwise [k0_pay1]) rfl)
  · exact (weight_at m c t _ y).trans (congrArg₂ (· + ·) (by pointwise [k0_pay3]) rfl)
  · exact (pay_offset (iblk m c 0 t) (iblk m c 1 t) (iblk m c 2 t) (iblk m c 3 t) (iblk m c 4 t) (iblk m c 5 t) (iblk m c 6 t) _ y).trans (congrArg₂ (· + ·) (by pointwise [k0_pay5]) rfl)

/-- The parameters' gradients after a later point: what the point before left, and the shares of its rows. -/
theorem step (t : Fin cfg0.N) (h : ¬t.val % 32 = 0) :
    (∀ y, ((outsAt0 m c t.val t.isLt).2.2.2.1 y : EReal) = (outsAt0 m c (t.val - 1) (Nat.lt_of_le_of_lt (Nat.sub_le _ _) t.isLt)).2.2.2.1 y + ∑ r : Fin 256, toSkip m c t y r)
    ∧ (∀ y, ((outsAt0 m c t.val t.isLt).2.2.2.2.1 y : EReal) = (outsAt0 m c (t.val - 1) (Nat.lt_of_le_of_lt (Nat.sub_le _ _) t.isLt)).2.2.2.2.1 y + ∑ r : Fin 256, toWeight m c t y r)
    ∧ ∀ y, ((outsAt0 m c t.val t.isLt).2.2.2.2.2 y : EReal) = (outsAt0 m c (t.val - 1) (Nat.lt_of_le_of_lt (Nat.sub_le _ _) t.isLt)).2.2.2.2.2 y + ∑ r : Fin 256, toOffset m c t y r := by
  rw [outsAt0_B m c t h h h]
  refine ⟨fun y => ?_, fun y => ?_, fun y => ?_⟩ <;> frame_out
  · exact pay_skip (iblk m c 0 t) (iblk m c 1 t) (iblk m c 2 t) (iblk m c 3 t) (iblk m c 4 t) (iblk m c 5 t) (iblk m c 6 t) _ y
  · exact weight_at m c t _ y
  · exact pay_offset (iblk m c 0 t) (iblk m c 1 t) (iblk m c 2 t) (iblk m c 3 t) (iblk m c 4 t) (iblk m c 5 t) (iblk m c 6 t) _ y

/-- The gradient to the scan after the run. -/
theorem final_scan : (dats m 0 c).arrAt 7 cfg0.N = fun i => rowIn (V m c main_arg0) (V m c main_arg1) (V m c main_arg2) (V m c main_arg3) (V m c main_arg4) (V m c main_arg5) (i 0) (i 1) := by
  refine (dats m 0 c).arrAt_eq_of_covers 7 _ (by decide +kernel) fun t hf y => ?_
  rw [after0_7, (out_rows m c t).1]; blk_simp
  have e1 : (((win0_7.blk t).view.emb y) 1 : Fin 768) = y 1 := Fin.ext (by blk_simp [idx t])
  have B := rows m c t (y 0) (((win0_7.blk t).view.emb y) 0) (by blk_simp [idx t])
  have P := pay_scan (iblk m c 0 t) (iblk m c 1 t) (iblk m c 2 t) (iblk m c 3 t) (iblk m c 4 t) (iblk m c 5 t) (iblk m c 6 t) (y 0) (y 1)
  rw [B.2.2.1] at P
  refine (congrArg _ (ix2_eta y).symm).trans (P.trans ?_)
  rw [e1]

/-- The gradient to the scan's input after the run. -/
theorem final_in : (dats m 0 c).arrAt 8 cfg0.N = fun i => (row (R := 1) (n := 768) (V m c main_arg2) 0) (i 1) * rowIn (V m c main_arg0) (V m c main_arg1) (V m c main_arg2) (V m c main_arg3) (V m c main_arg4) (V m c main_arg5) (i 0) (i 1) := by
  refine (dats m 0 c).arrAt_eq_of_covers 8 _ (by decide +kernel) fun t hf y => ?_
  rw [after0_8, (out_rows m c t).2.1]; blk_simp
  have e1 : (((win0_8.blk t).view.emb y) 1 : Fin 768) = y 1 := Fin.ext (by blk_simp [idx t])
  have B := rows m c t (y 0) (((win0_8.blk t).view.emb y) 0) (by blk_simp [idx t])
  have P := pay_in (iblk m c 0 t) (iblk m c 1 t) (iblk m c 2 t) (iblk m c 3 t) (iblk m c 4 t) (iblk m c 5 t) (iblk m c 6 t) (y 0) (y 1)
  rw [B.2.2.1, B.2.2.2.2.2.2.1] at P
  refine (congrArg _ (ix2_eta y).symm).trans (P.trans ?_)
  rw [e1]

/-- The gradient to the gates after the run. -/
theorem final_gate : (dats m 0 c).arrAt 9 cfg0.N = fun i => dGate (rowGlu (V m c main_arg0) (V m c main_arg1) (V m c main_arg2) (V m c main_arg3) (V m c main_arg4) (i 0) (i 1)) (zRow (V m c main_arg1) (i 0) (i 1)) ((row (R := 8192) (n := 768) (V m c main_arg5) (i 0)) (i 1)) := by
  refine (dats m 0 c).arrAt_eq_of_covers 9 _ (by decide +kernel) fun t hf y => ?_
  rw [after0_9, (out_rows m c t).2.2]; blk_simp
  have e1 : (((win0_9.blk t).view.emb y) 1 : Fin 768) = y 1 := Fin.ext (by blk_simp [idx t])
  have B := rows m c t (y 0) (((win0_9.blk t).view.emb y) 0) (by blk_simp [idx t])
  have P := pay_gate (iblk m c 0 t) (iblk m c 1 t) (iblk m c 2 t) (iblk m c 3 t) (iblk m c 4 t) (iblk m c 5 t) (iblk m c 6 t) (y 0) (y 1)
  rw [B.1, B.2.1, B.2.2.2.2.2.2.2] at P
  refine (congrArg _ (ix2_eta y).symm).trans (P.trans ?_)
  rw [e1]

/-- The gradient to the skip after the run: the shares of all the rows. -/
theorem final_skip : (dats m 0 c).arrAt 10 cfg0.N = fun i => ∑ r : Fin 8192, rowIn (V m c main_arg0) (V m c main_arg1) (V m c main_arg2) (V m c main_arg3) (V m c main_arg4) (V m c main_arg5) r (i 1) * uRow (V m c main_arg1) r (i 1) := by
  refine (dats m 0 c).arrAt_eq_of_covers 10 _ (by decide +kernel) fun t hf y => ?_
  have ht := (idx t).2.2.2.2.2.2.2.2.2.2.2.2.2.1 hf
  have e1 : (((win0_10.blk t).view.emb y) 1 : Fin 768) = y 1 := Fin.ext (by blk_simp [idx t])
  rw [after0_10]; blk_simp
  refine sum_blocks (fun n h => (outsAt0 m c n h).2.2.2.1) _ (fun t h => (start m c t h).1) (fun t h => (step m c t h).1) t ht y _ fun s k u l hu hl => ?_
  have hs := s.isLt
  have B := rows m c u k l (by have := t.isLt; have : cfg0.N = 32 := rfl; omega)
  unfold toSkip
  rw [B.2.2.1, B.2.2.2.2.2.1]
  rw [← e1]

/-- The gradient to the gate's weight after the run: the shares of all the rows. -/
theorem final_weight : (dats m 0 c).arrAt 11 cfg0.N = fun i => ∑ r : Fin 8192, rowUnit (V m c main_arg0) (V m c main_arg1) (V m c main_arg2) (V m c main_arg3) (V m c main_arg4) (V m c main_arg5) r (i 1) * gelu (rowBefore (V m c main_arg0) (V m c main_arg1) (V m c main_arg2) r (i 0)) := by
  refine (dats m 0 c).arrAt_eq_of_covers 11 _ (by decide +kernel) fun t hf y => ?_
  have ht := (idx t).2.2.2.2.2.2.2.2.2.2.2.2.2.2.1 hf
  have e1 : (((win0_11.blk t).view.emb y) 1 : Fin 768) = y 1 := Fin.ext (by blk_simp [idx t])
  have e0 : (((win0_11.blk t).view.emb y) 0 : Fin 768) = y 0 := Fin.ext (by blk_simp [idx t])
  rw [after0_11]; blk_simp
  refine sum_blocks (fun n h => (outsAt0 m c n h).2.2.2.2.1) _ (fun t h => (start m c t h).2.1) (fun t h => (step m c t h).2.1) t ht y _ fun s k u l hu hl => ?_
  have hs := s.isLt
  have B := rows m c u k l (by have := t.isLt; have : cfg0.N = 32 := rfl; omega)
  unfold toWeight
  rw [B.2.2.2.1, B.2.2.2.2.1]
  rw [← e1, ← e0]

/-- The gradient to the gate's offset after the run: the shares of all the rows. -/
theorem final_offset : (dats m 0 c).arrAt 12 cfg0.N = fun i => ∑ r : Fin 8192, rowUnit (V m c main_arg0) (V m c main_arg1) (V m c main_arg2) (V m c main_arg3) (V m c main_arg4) (V m c main_arg5) r (i 1) := by
  refine (dats m 0 c).arrAt_eq_of_covers 12 _ (by decide +kernel) fun t hf y => ?_
  have ht := (idx t).2.2.2.2.2.2.2.2.2.2.2.2.2.2.2 hf
  have e1 : (((win0_12.blk t).view.emb y) 1 : Fin 768) = y 1 := Fin.ext (by blk_simp [idx t])
  rw [after0_12]; blk_simp
  refine sum_blocks (fun n h => (outsAt0 m c n h).2.2.2.2.2) _ (fun t h => (start m c t h).2.2) (fun t h => (step m c t h).2.2) t ht y _ fun s k u l hu hl => ?_
  have hs := s.isLt
  have B := rows m c u k l (by have := t.isLt; have : cfg0.N = 32 := rfl; omega)
  unfold toOffset
  rw [B.2.2.2.1]
  rw [← e1]

end Cert.Kernel39Ideal.Tail

namespace Cert.Proof
open Cert.Norm Cert.Gate Cert.Tail
attribute [local instance] Cert.Kernel39Ideal.Gen.facts Cert.Reference39Ideal.Gen.facts Cert.Kernel40Ideal.Gen.facts Cert.Reference40Ideal.Gen.facts

/-- The reference of the tail's gradients keeps its arguments and its semaphores. -/
theorem reference39_frame : Cert.quiescent_Reference39Ideal := by
  intro m g _
  exact (θ_run _ _ _).mono (fun r h => ⟨fun c => (h c).2.2.2.2.2.2, sem_eq_zero_of_no_sems rfl r.2⟩) (Cert.Reference39Ideal.Value.run m g)

/-- The reference of the tail keeps its arguments and its semaphores. -/
theorem reference40_frame : Cert.quiescent_Reference40Ideal := by
  intro m g _
  exact (θ_run _ _ _).mono (fun r h => ⟨fun c => (h c).2, sem_eq_zero_of_no_sems rfl r.2⟩) (Cert.Reference40Ideal.Value.run m g)

/-- An array given entry by entry. -/
theorem eq_entries {R n : ℕ} {f : Arr R n} {g : Fin R → Fin n → EReal} (h : ∀ r j, f (ix2 r j) = g r j) : f = fun i => g (i 0) (i 1) :=
  funext fun i => (congrArg f (ix2_eta i).symm).trans (h (i 0) (i 1))

/-- The tail's gradients are the reference's. -/
theorem product39 : Cert.algebraic_Kernel39Ideal_Reference39Ideal := by
  intro m g m' g' _ hagree
  refine ⟨_, _, _, _, _, _, Cert.Kernel39Ideal.Value.run_blocks m g, (θ_run _ _ _).mono (fun r h c => ?_) (Cert.Reference39Ideal.Value.run m' g')⟩
  obtain ⟨a0, a1, a2, a3, a4, a5⟩ := hagree c
  refine ⟨?_, ?_, ?_, ?_, ?_, ?_, (h c).2.2.2.2.2.2⟩
  · refine (h c).1.trans ((Cert.Reference39Ideal.Read.val_main_v68_eq _ _).trans ((eq_entries (Cert.Reference39Ideal.Tail.ref_scan _ _ _ _ _ _)).trans ?_))
    rw [a0, a1, a2, a3, a4, a5]
    exact (Cert.Kernel39Ideal.Tail.final_scan m c).symm
  · refine (h c).2.1.trans ((Cert.Reference39Ideal.Read.val_main_v70_eq _ _).trans ((eq_entries (Cert.Reference39Ideal.Tail.ref_in _ _ _ _ _ _)).trans ?_))
    rw [a0, a1, a2, a3, a4, a5]
    exact (Cert.Kernel39Ideal.Tail.final_in m c).symm
  · refine (h c).2.2.1.trans ((Cert.Reference39Ideal.Read.val_main_v45_eq _ _).trans ((eq_entries (Cert.Reference39Ideal.Tail.ref_gate _ _ _ _ _ _)).trans ?_))
    rw [a0, a1, a2, a3, a4, a5]
    exact (Cert.Kernel39Ideal.Tail.final_gate m c).symm
  · refine (h c).2.2.2.1.trans ((Cert.Reference39Ideal.Read.val_main_v73_eq _ _).trans ((funext (Cert.Reference39Ideal.Tail.ref_skip _ _ _ _ _ _)).trans ?_))
    rw [a0, a1, a2, a3, a4, a5]
    exact (Cert.Kernel39Ideal.Tail.final_skip m c).symm
  · refine (h c).2.2.2.2.1.trans ((Cert.Reference39Ideal.Read.val_main_v52_eq _ _).trans ((eq_entries (Cert.Reference39Ideal.Tail.ref_weight _ _ _ _ _ _)).trans ?_))
    rw [a0, a1, a2, a3, a4, a5]
    exact (Cert.Kernel39Ideal.Tail.final_weight m c).symm
  · refine (h c).2.2.2.2.2.1.trans ((Cert.Reference39Ideal.Read.val_main_v50_eq _ _).trans ((funext (Cert.Reference39Ideal.Tail.ref_offset _ _ _ _ _ _)).trans ?_))
    rw [a0, a1, a2, a3, a4, a5]
    exact (Cert.Kernel39Ideal.Tail.final_offset m c).symm

/-- The tail is the reference's. -/
theorem product40 : Cert.algebraic_Kernel40Ideal_Reference40Ideal := by
  intro m g m' g' _ hagree
  refine ⟨_, Cert.Kernel40Ideal.Value.run_blocks m g, (θ_run _ _ _).mono (fun r h c => ⟨?_, (h c).2⟩) (Cert.Reference40Ideal.Value.run m' g')⟩
  refine (h c).1.trans ((Cert.Reference40Ideal.Read.val_main_v31_eq _ _).trans ((eq_entries (Cert.Reference40Ideal.Tail.ref _ _ _ _ _)).trans ?_))
  rw [(hagree c).1, (hagree c).2.1, (hagree c).2.2.1, (hagree c).2.2.2.1, (hagree c).2.2.2.2]
  exact (Cert.Kernel40Ideal.Tail.final m c).symm

end Cert.Proof
end
-- ==== Proof.Slab.lean ====
/-
# Slabs and lists of copies

What the exchanges share: slabs of an array along its first axis, where an element of a slab lies, a buffer dealt
into disjoint slabs, and separating conjunctions along a list of copies.
-/
module

public import Idealize.ShloMosaic.Lib.Pipeline.Launch
public import Idealize.ShloMosaic.Lib.Pipeline.Kit
public import Idealize.ShloMosaic.Lib.Pointwise.Index
public import Idealize.ShloMosaic.Lib.Tactic

@[expose] public section

noncomputable section

namespace Cert.SlabProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Boxes and slabs -/

/-- Two boxes apart along an axis share no entry. -/
theorem disjoint_unit {s : Shape} (a : Fin s.rank) {off off' size : Fin s.rank → Nat} {inb inb'}
    (h : off a + size a ≤ off' a ∨ off' a + size a ≤ off a) : Disjoint (Rect.unit off size inb).set (Rect.unit off' size inb').set := by
  rw [Finset.disjoint_left]
  intro i hi hi'
  have h1 := Rect.mem_set_unit.mp hi a
  have h2 := Rect.mem_set_unit.mp hi' a
  omega

/-- Two different rows are apart. -/
theorem rows_apart' {n : Nat} {k k' : Fin n} (h : k ≠ k') : k.val + 1 ≤ k'.val ∨ k'.val + 1 ≤ k.val := by
  have hk : k.val ≠ k'.val := fun e => h (Fin.ext e)
  omega

section
variable {sig : RefSig}

/-- The elements of a slab. -/
theorem set_slab (b : Ref sig .tc) {off size : Fin b.ty.shape.rank → Nat} {s' : Shape} (inb : ∀ a, off a + size a ≤ b.ty.shape.size a)
    (hq : (Rect.unit off size inb).shape.Squeezes s') :
    (((Memref.whole b).slice (Rect.unit off size inb) (fun _ => rfl)).squeeze s' hq).view.set = (Rect.unit off size inb).set :=
  (Memref.set_view_squeeze _ hq).trans (View.set_slice_whole b _)

/-- Slabs apart along an axis are disjoint. -/
theorem disjoint_slabs (b : Ref sig .tc) (a : Fin b.ty.shape.rank) {off off' size : Fin b.ty.shape.rank → Nat} {s' : Shape}
    (hq : Shape.Squeezes ⟨b.ty.shape.rank, size⟩ s') (inb : ∀ a, off a + size a ≤ b.ty.shape.size a) (inb' : ∀ a, off' a + size a ≤ b.ty.shape.size a)
    (h : off a + size a ≤ off' a ∨ off' a + size a ≤ off a) :
    Disjoint (((Memref.whole b).slice (Rect.unit off size inb) (fun _ => rfl)).squeeze s' hq).view.set
      (((Memref.whole b).slice (Rect.unit off' size inb') (fun _ => rfl)).squeeze s' hq).view.set := by
  rw [set_slab b inb hq, set_slab b inb' hq]; exact disjoint_unit a h

/-- A slab is determined by where it starts. -/
theorem slab_congr (b : Ref sig .tc) {off off' size : Fin b.ty.shape.rank → Nat} {s' : Shape} (hq : Shape.Squeezes ⟨b.ty.shape.rank, size⟩ s')
    (inb : ∀ a, off a + size a ≤ b.ty.shape.size a) (inb' : ∀ a, off' a + size a ≤ b.ty.shape.size a) (h : off = off') :
    ((Memref.whole b).slice (Rect.unit off size inb) (fun _ => rfl)).squeeze s' hq = ((Memref.whole b).slice (Rect.unit off' size inb') (fun _ => rfl)).squeeze s' hq := by
  subst h; rfl

/-- Where an element of an array's slab lies in the array. -/
theorem slab_coord (b : Ref sig .tc) {off size : Fin b.ty.shape.rank → Nat} {s' : Shape} (inb : ∀ a, off a + size a ≤ b.ty.shape.size a)
    (hq : Shape.Squeezes ⟨b.ty.shape.rank, size⟩ s') (x : s'.Idx) (a : Fin b.ty.shape.rank) :
    ((((Memref.whole b).slice (Rect.unit off size inb) (fun _ => rfl)).squeeze s' hq).view.emb x a : Nat)
      = off a + ((Shape.reshapeEquiv hq.numel_eq x : Shape.Idx ⟨b.ty.shape.rank, size⟩) a).val :=
  (Rect.emb_apply (Rect.unit off size inb) _ a).trans (by rw [show (Rect.unit off size inb).stride a = 1 from rfl, Nat.one_mul]; rfl)
end

/-- An element of slab `k` is inside it. -/
theorem inside {n A B : Nat} (k : Fin n) (a : Fin A) (b : Fin B) (d : Fin 3) :
    (![k.val, 0, 0] : Fin 3 → Nat) d ≤ (ix3 k a b d).val ∧ (ix3 k a b d).val < (![k.val, 0, 0] : Fin 3 → Nat) d + (![1, A, B] : Fin 3 → Nat) d := by
  fin_cases d
  · exact ⟨le_refl _, Nat.lt_succ_self _⟩
  · exact ⟨Nat.zero_le _, (Nat.zero_add A).symm ▸ a.isLt⟩
  · exact ⟨Nat.zero_le _, (Nat.zero_add B).symm ▸ b.isLt⟩

/-- Two slabs' elements at one place `y`: one is `(k, a, b)`, the other `(r, a, b)`. -/
theorem moved {n n' A B : Nat} (r : Fin n) (k : Fin n') (a : Fin A) (b : Fin B) (i : (⟨3, ![n, A, B]⟩ : Shape).Idx) (j : (⟨3, ![n', A, B]⟩ : Shape).Idx)
    (y : (⟨3, ![1, A, B]⟩ : Shape).Idx) (off off' : Fin 3 → Nat) (ho : off = ![r.val, 0, 0]) (ho' : off' = ![k.val, 0, 0]) (hi : ∀ d : Fin 3, (i d).val = off d + (y d).val)
    (hj : ∀ d : Fin 3, (j d).val = off' d + (y d).val) (hjk : j = ix3 k a b) : i = ix3 r a b := by
  subst ho ho' hjk
  have hy : (y 0).val < 1 := (y 0).isLt
  funext d
  refine Fin.ext ((hi d).trans ?_)
  have h := hj d
  fin_cases d
  · show r.val + (y 0).val = r.val; omega
  · exact h.symm
  · exact h.symm

/-! ## Lists of copies -/

section
variable {M : Type} [URA M] {I : Type}

/-- A conjunction over a list. -/
def sepL (Φ : I → sProp M) : List I → sProp M
  | [] => iprop(emp)
  | j :: l => iprop(Φ j ∗ sepL Φ l)

/-- The pieces of two lists together. -/
theorem sepL_append (Φ : I → sProp M) (l' : List I) : ∀ l : List I, sepL Φ (l ++ l') = iprop(sepL Φ l ∗ sepL Φ l')
  | [] => (equiv_iff.mp BI.emp_sep).symm
  | j :: l => by
    rw [List.cons_append, sepL, sepL, sepL_append Φ l' l]
    exact (equiv_iff.mp ⟨BI.sep_assoc, BI.sep_assoc'⟩).symm

/-- The pieces of a list renamed. -/
theorem sepL_map {I' : Type} (Φ : I → sProp M) (f : I' → I) : ∀ l : List I', sepL Φ (l.map f) = sepL (fun j => Φ (f j)) l
  | [] => rfl
  | j :: l => by rw [List.map_cons, sepL, sepL, sepL_map Φ f l]

/-- Weaker pieces. -/
theorem sepL_mono {Φ Ψ : I → sProp M} (h : ∀ j, Φ j ⊢ Ψ j) : ∀ l : List I, sepL Φ l ⊢ sepL Ψ l
  | [] => BI.Entails.refl _
  | j :: l => BI.sep_mono (h j) (sepL_mono h l)

/-- Pairs of pieces of a list of different copies are its pieces of either kind. -/
theorem sepL_pairs (Φ Ψ : I → sProp M) : ∀ l : List I, sepL (fun j => iprop(Φ j ∗ Ψ j)) l ⊢ iprop(sepL Φ l ∗ sepL Ψ l)
  | [] => by unfold sepL; iintro -; isplitr <;> iempintro
  | j :: l => by
    rw [sepL, sepL, sepL]
    iintro ⟨⟨H1, H2⟩, H⟩
    ihave H := (sepL_pairs Φ Ψ l) $$ H
    icases H with ⟨H3, H4⟩
    isplitl [H1 H3]
    · isplitl [H1] <;> iassumption
    isplitl [H2] <;> iassumption

/-- And the other way. -/
theorem sepL_paired (Φ Ψ : I → sProp M) : ∀ l : List I, iprop(sepL Φ l ∗ sepL Ψ l) ⊢ sepL (fun j => iprop(Φ j ∗ Ψ j)) l
  | [] => by unfold sepL; iintro -; iempintro
  | j :: l => by
    rw [sepL, sepL, sepL]
    iintro ⟨⟨H1, H3⟩, H2, H4⟩
    isplitl [H1 H2]
    · isplitl [H1] <;> iassumption
    iapply (sepL_paired Φ Ψ l)
    isplitl [H3] <;> iassumption

variable [DecidableEq I]

/-- The pieces of a list of different copies are the pieces of their set. -/
theorem sepL_eq (Φ : I → sProp M) : ∀ l : List I, l.Nodup → sepL Φ l = bigSep l.toFinset Φ
  | [], _ => by rw [sepL, List.toFinset_nil, BI.bigSep_empty]; rfl
  | j :: l, h => by
    rw [sepL, List.toFinset_cons, bigSep_insert (fun hj => (List.nodup_cons.mp h).1 (List.mem_toFinset.mp hj)), sepL_eq Φ l (List.nodup_cons.mp h).2]
    rfl
end

/-- A buffer gives disjoint parts of it. -/
theorem slabs {nD : Nat} {τ : Topo} {sig : RefSig} {Val : EltTy → Type} {Ix : Type} [DecidableEq Ix] {Name : Type} [DecidableEq Name] {U : Type} [URA U] {Lvl : Type} {n : Nat}
    {ℓ : Loc nD τ sig} (q : PosShare TreeShare) (f : Buf Val ℓ) (K : Fin n → Finset (Idx ℓ)) (h : ∀ k k', k ≠ k' → Disjoint (K k) (K k')) :
    (ℓ ↦{q} f : sProp (MT nD τ sig Ix Val Name U Lvl)) ⊢ bigSep Finset.univ fun k => ℓ ↦[K k]{q} f := by
  rw [← pointsTo_biUnion Finset.univ K fun t _ t' _ => h t t']
  refine (pointsTo_split_subset (Finset.subset_univ (Finset.univ.biUnion K))).1.trans ?_
  iintro ⟨H, -⟩; iexact H

end Cert.SlabProof

end
-- ==== Proof.Exchange.lean ====
/-
# The exchange of the gradients between the two cores of a chip

Each device sends four slabs of each of its three gradient arrays into the three output arrays of the other
device: twelve remote copies started together, then the twelve arrivals awaited, then the twelve departures.
Copy `(a, k)` is array `a`'s slab for chip `k`. A copy's two semaphores are cells of one round and one duty;
an arrival's duty hands the device the slab it holds from then on. The output slabs are the peer's to write
from the start, so they are dealt across the devices at launch, before any core runs.
-/
module

public import proofs.«01_k».proof.Proof.Gen.Kernel31Ideal
public import proofs.«01_k».proof.Proof.Gen.Kernel31Ideal.Points
public import proofs.«01_k».proof.Proof.Slab

@[expose] public section

noncomputable section

namespace Cert.ExchangeProof

open Cert.Kernel31Ideal Cert.Kernel31Ideal.Gen
open Cert.SlabProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The copies -/

/-- A copy: the array and the chip. -/
abbrev J : Type := Fin 3 × Fin 4

/-- The copies in the order the kernel starts them. -/
def js : List J := [(0, 0), (0, 1), (0, 2), (0, 3), (1, 0), (1, 1), (1, 2), (1, 3), (2, 0), (2, 1), (2, 2), (2, 3)]

/-- The other device of the pair. -/
def peer : Dev nD → Dev nD := ![1, 0]

/-- The other device of the other device is this one. -/
theorem peer_peer (c : Dev nD) : peer (peer c) = c := by revert c; decide

/-- The pair's swap, as a permutation of the devices. -/
def swap : Dev nD ≃ Dev nD := ⟨peer, peer, peer_peer, peer_peer⟩

/-- The device a copy is addressed to, as the kernel computes it. -/
def goesTo (c : Dev nD) : J → Dev nD := fun j => match j with
  | (0, 0) => ⟨k0_dev1 c, k0_dev1_lt c⟩ | (0, 1) => ⟨k0_dev2 c, k0_dev2_lt c⟩ | (0, 2) => ⟨k0_dev3 c, k0_dev3_lt c⟩ | (0, 3) => ⟨k0_dev4 c, k0_dev4_lt c⟩
  | (1, 0) => ⟨k0_dev5 c, k0_dev5_lt c⟩ | (1, 1) => ⟨k0_dev6 c, k0_dev6_lt c⟩ | (1, 2) => ⟨k0_dev7 c, k0_dev7_lt c⟩ | (1, 3) => ⟨k0_dev8 c, k0_dev8_lt c⟩
  | (2, 0) => ⟨k0_dev9 c, k0_dev9_lt c⟩ | (2, 1) => ⟨k0_dev10 c, k0_dev10_lt c⟩ | (2, 2) => ⟨k0_dev11 c, k0_dev11_lt c⟩ | (2, 3) => ⟨k0_dev12 c, k0_dev12_lt c⟩

/-- Every copy goes to the peer. -/
theorem goesTo_eq (c : Dev nD) (j : J) : goesTo c j = peer c := by revert c j; decide +kernel

/-- A slab's shape. -/
abbrev tl (a : Fin 3) : Shape := match a with
  | 0 => S4096x2051 | 1 => S3328x1024 | 2 => S896x1024

/-- A slab lies inside the first result. -/
theorem dst_inb0 (k : Fin 4) : ∀ a, (![k.val, 0, 0] : Fin 3 → Nat) a + S1x4096x2051.size a ≤ S4x4096x2051.size a := by revert k; decide
/-- A slab lies inside the second result. -/
theorem dst_inb1 (k : Fin 4) : ∀ a, (![k.val, 0, 0] : Fin 3 → Nat) a + S1x3328x1024.size a ≤ S4x3328x1024.size a := by revert k; decide
/-- A slab lies inside the third result. -/
theorem dst_inb2 (k : Fin 4) : ∀ a, (![k.val, 0, 0] : Fin 3 → Nat) a + S1x896x1024.size a ≤ S4x896x1024.size a := by revert k; decide

/-- The slab device `c` sends in copy `j`, a view of its gradient array. -/
abbrev src (c : Dev nD) : (j : J) → Memref sig .tc .hbm (tl j.1) .f32 := fun j => match j with
  | (0, k) => ((Memref.whole main_arg0).slice (Rect.unit (s := S8x4096x2051) (k0_off1 c (BitVec.ofNat 32 (2 * k.val))) S1x4096x2051.size (k0_off1_inb c k)) (fun _ => rfl)).squeeze S4096x2051 squeezes_S1x4096x2051_S4096x2051
  | (1, k) => ((Memref.whole main_arg1).slice (Rect.unit (s := S8x3328x1024) (k0_off2 c (BitVec.ofNat 32 (2 * k.val))) S1x3328x1024.size (k0_off2_inb c k)) (fun _ => rfl)).squeeze S3328x1024 squeezes_S1x3328x1024_S3328x1024
  | (2, k) => ((Memref.whole main_arg2).slice (Rect.unit (s := S8x896x1024) (k0_off3 c (BitVec.ofNat 32 (2 * k.val))) S1x896x1024.size (k0_off3_inb c k)) (fun _ => rfl)).squeeze S896x1024 squeezes_S1x896x1024_S896x1024

/-- The slab copy `j` lands in, a view of an output array. -/
abbrev dst : (j : J) → Memref sig .tc .hbm (tl j.1) .f32 := fun j => match j with
  | (0, k) => ((Memref.whole main_v1_0).slice (Rect.unit (s := S4x4096x2051) ![k.val, 0, 0] S1x4096x2051.size (dst_inb0 k)) (fun _ => rfl)).squeeze S4096x2051 squeezes_S1x4096x2051_S4096x2051
  | (1, k) => ((Memref.whole main_v1_1).slice (Rect.unit (s := S4x3328x1024) ![k.val, 0, 0] S1x3328x1024.size (dst_inb1 k)) (fun _ => rfl)).squeeze S3328x1024 squeezes_S1x3328x1024_S3328x1024
  | (2, k) => ((Memref.whole main_v1_2).slice (Rect.unit (s := S4x896x1024) ![k.val, 0, 0] S1x896x1024.size (dst_inb2 k)) (fun _ => rfl)).squeeze S896x1024 squeezes_S1x896x1024_S896x1024

/-- A sent slab consists of whole words. -/
theorem src_wordExact (c : Dev nD) (j : J) : (src c j).view.WordExact := match j with
  | (0, k) => (View.wordExact_bits rfl).reshape _ _
  | (1, k) => (View.wordExact_bits rfl).reshape _ _
  | (2, k) => (View.wordExact_bits rfl).reshape _ _

/-- A received slab consists of whole words. -/
theorem dst_wordExact (j : J) : (dst j).view.WordExact := match j with
  | (0, k) => (View.wordExact_bits rfl).reshape _ _
  | (1, k) => (View.wordExact_bits rfl).reshape _ _
  | (2, k) => (View.wordExact_bits rfl).reshape _ _

/-- The semaphore a departure is counted on. -/
def sS (j : J) : DmaSem sig := (⟨4 * j.1.val + j.2.val, by have := j.1.isLt; have := j.2.isLt; omega⟩ : Fin 24)
/-- The semaphore an arrival is counted on. -/
def rS (j : J) : DmaSem sig := (⟨12 + (4 * j.1.val + j.2.val), by have := j.1.isLt; have := j.2.isLt; omega⟩ : Fin 24)

/-! ## The body, over the list of copies -/

/-- A received slab is not scratch. -/
theorem dst_hsc (j : J) : (dst j).view.ref.isScScratch = false := match j with
  | (0, k) => rfl
  | (1, k) => rfl
  | (2, k) => rfl

abbrev PR (F : FTy → Type) : Type 1 := Prog (TpuEff nD τ sig (Elt F) Λ₀ .tc) PUnit

/-- Start the copies of a list, copy `j` addressed to `n j`, then go on. -/
def starts (c : Dev nD) (n : J → Dev nD) (k : PR F) : List J → PR F
  | [] => k
  | j :: l => .op (.enqueueDma (src c j) (.remote (Dev.tc (n j) : Thread nD τ) (dst j) (.dma (sS j)) (dst_hsc j)) (.dma (rS j))
      (src_wordExact c j) (dst_wordExact j) ⟨⟨rfl, Or.inl rfl⟩, trivial⟩) fun _ => starts c n k l

/-- The semaphore of a copy: its arrival's (`true`) or its departure's (`false`). -/
abbrev semOf : Bool → J → DmaSem sig := fun b => if b then rS else sS
/-- The two slabs a wait names, in its order. -/
abbrev fst (c : Dev nD) (b : Bool) (j : J) : Memref sig .tc .hbm (tl j.1) .f32 := match b with
  | true => src c j | false => dst j
abbrev snd (c : Dev nD) (b : Bool) (j : J) : Memref sig .tc .hbm (tl j.1) .f32 := match b with
  | true => dst j | false => src c j

/-- The source of a copy, whichever end is looked at, consists of whole words. -/
theorem fst_wordExact (c : Dev nD) (b : Bool) (j : J) : (fst c b j).view.WordExact := match b with
  | true => src_wordExact c j | false => dst_wordExact j
/-- The same of its target. -/
theorem snd_wordExact (c : Dev nD) (b : Bool) (j : J) : (snd c b j).view.WordExact := match b with
  | true => dst_wordExact j | false => src_wordExact c j

/-- Await the arrivals (`true`) or the departures (`false`) of a list, then go on. -/
def waits (c : Dev nD) (b : Bool) (k : PR F) : List J → PR F
  | [] => k
  | j :: l => .op (.waitDma2 (semOf b j) (fst c b j) (snd c b j) (fst_wordExact c b j) (snd_wordExact c b j)) fun _ => waits c b k l

/-- The kernel's body after it has read its device's number. -/
def tailOf (c : Dev nD) : PR F := starts c (goesTo c) (waits c true (waits c false (.ret ⟨⟩) js) js) js

set_option maxRecDepth 20000 in
/-- The kernel's body: read the device's number; start, await the arrivals, await the departures. -/
theorem body_eq (t : Fin cfg0.N) : bodyAt0 (F := F) t = .op .deviceId tailOf := by
  rfl

/-! ## The resource algebra, the cells, the contents -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- The cells of a device: a copy's arrival or its departure. -/
abbrev csem : Bool × J → SemLoc sig := fun x => .dma (semOf x.1 x.2)
abbrev cell (c : Dev nD) (b : Bool) (j : J) : GSem nD τ sig := ((c : Thread nD τ), csem (b, j))
abbrev kcell (x : Dev nD × Bool × J) : GSem nD τ sig := cell x.1 x.2.1 x.2.2

/-- What a copy adds to each of its two cells. -/
def N (j : J) : ℕ := (dst j).view.dmaCredit
/-- Every copy moves something. -/
theorem N_pos (j : J) : 0 < N j := match j with
  | (0, k) => View.dmaCredit_pos _ (show 0 < S4096x2051.numel by decide)
  | (1, k) => View.dmaCredit_pos _ (show 0 < S3328x1024.numel by decide)
  | (2, k) => View.dmaCredit_pos _ (show 0 < S896x1024.numel by decide)
/-- What a copy adds to its semaphore. -/
theorem snd_credit (c : Dev nD) (b : Bool) (j : J) : (snd c b j).view.dmaCredit = N j := match b, j with
  | true, j => rfl
  | false, (0, k) => rfl
  | false, (1, k) => rfl
  | false, (2, k) => rfl

/-- The slab of an output of device `c` that copy `j` lands in, holding `f`. -/
def dstPts (c : Dev nD) (j : J) (f : Buf (Elt F) ((dst j).view.loc (c : Thread nD τ))) : sProp 𝕄 :=
  (dst j).view.loc (c : Thread nD τ) ↦[(dst j).view.set]{fullShare} f
/-- Half of the slab device `c` sends in copy `j`, as launched. -/
def srcPts (c : Dev nD) (j : J) : sProp 𝕄 :=
  (src c j).view.loc (c : Thread nD τ) ↦[(src c j).view.set]{fullShare.right} m ((src c j).view.loc (c : Thread nD τ))
/-- What copy `j` leaves on device `c`: the peer's slab. -/
def landed (c : Dev nD) (j : J) : Buf (Elt F) ((dst j).view.loc (c : Thread nD τ)) :=
  (dst j).view.write (Elt F) (m ((dst j).view.loc (c : Thread nD τ)))
    ((src (peer c) j).view.read (Elt F) (m ((src (peer c) j).view.loc (peer c : Thread nD τ)))) Finset.univ

/-- What a wait hands over: an arrival's the slab, a departure's nothing. -/
def pay (c : Dev nD) (b : Bool) (j : J) : sProp 𝕄 := if b then dstPts c j (landed m c j) else iprop(emp)

omit [FloatOps F] in
/-- What a semaphore hands over may be kept in its record. -/
instance pay_storable (c : Dev nD) (b : Bool) (j : J) : BI.Storable (upEmb : UEmb _ 𝕄) (pay (F := F) m c b j) := by
  unfold pay dstPts; split <;> infer_instance

/-! ## The schedule -/

/-- The copy of a semaphore, and whether it counts the arrival. -/
def jOf (q : Fin 24) : J := (⟨q.val % 12 / 4, by omega⟩, ⟨q.val % 4, by omega⟩)
/-- Whether a semaphore is of the receiving array. -/
def bOf (q : Fin 24) : Bool := decide (12 ≤ q.val)
/-- The copy of the semaphore of a copy. -/
theorem jOf_semOf (b : Bool) (j : J) : jOf (semOf b j) = j := by revert b j; decide
/-- The array of the semaphore of a copy. -/
theorem bOf_semOf (b : Bool) (j : J) : bOf (semOf b j) = b := by revert b j; decide

/-- One round, of one duty: the copy's credit. -/
def rd : Rounds.Schedule (GSem nD τ sig) Unit 𝕄 where
  duties g r := if r = 0 ∧ g.1.2 = .tc then {()} else ∅
  unitless _ := False
  amount g _ _ := match g.2 with
    | .dma q => N (jOf q) | .reg _ => 1
  payload g _ _ := match g.2 with
    | .dma q => pay m g.1.1 (bOf q) (jOf q) | .reg _ => iprop(emp)
  amount_pos g _ _ _ := by
    split
    · exact N_pos _
    · exact Nat.one_pos

omit [FloatOps F] in
/-- The same for every semaphore of the schedule. -/
instance rd_payload_storable (g : GSem nD τ sig) (r : ℕ) (d : Unit) :
    BI.Storable (upEmb : UEmb _ 𝕄) ((rd (F := F) m).payload g r d) := by
  dsimp only [rd]; split <;> infer_instance

section Sched
variable (c : Dev nD) (b : Bool) (j : J)

omit [FloatOps F] in
/-- A copy's semaphore is raised once in its only round. -/
theorem duties_cell : (rd (F := F) m).duties (cell c b j) 0 = {()} := by dsimp only [rd]; exact if_pos ⟨rfl, rfl⟩
omit [FloatOps F] in
/-- Nothing is raised after that round. -/
theorem duties_later (g : GSem nD τ sig) : ∀ r, 1 ≤ r → (rd (F := F) m).duties g r = ∅ :=
  fun r hr => by dsimp only [rd]; exact if_neg fun h => by omega
omit [FloatOps F] in
/-- By how much it is raised. -/
theorem amount_cell : (rd (F := F) m).amount (cell c b j) 0 () = N j := by
  show N (jOf (semOf b j)) = N j; rw [jOf_semOf]
omit [FloatOps F] in
/-- What it hands over. -/
theorem payload_cell (d : Unit) : (rd (F := F) m).payload (cell c b j) 0 d = pay m c b j := by
  show pay m c (bOf (semOf b j)) (jOf (semOf b j)) = pay m c b j; rw [jOf_semOf, bOf_semOf]
omit [FloatOps F] in
/-- What a wait on it takes. -/
theorem expect_cell : (rd (F := F) m).expect (cell c b j) 0 = N j := by
  unfold Schedule.expect Schedule.amountOf; rw [duties_cell, Finset.sum_singleton, amount_cell]
omit [FloatOps F] in
/-- What is handed over when nothing has been taken yet. -/
theorem rest_cell : bigSep ((rd (F := F) m).duties (cell c b j) 0 \ ∅) (fun d => (rd (F := F) m).payload (cell c b j) 0 d) = pay m c b j := by
  rw [Finset.sdiff_empty, duties_cell, bigSep_singleton, payload_cell]

end Sched

/-! ## The body -/

abbrev 𝒱₀ : Variants := Variants.none

omit [FloatOps F] in
/-- Over every copy, in the order they are started. -/
theorem sepL_js (Φ : J → sProp 𝕄) : sepL Φ js = bigSep Finset.univ Φ := by
  rw [sepL_eq Φ js (by decide), show js.toFinset = Finset.univ by decide]

omit [FloatOps F] in
/-- The pieces of all copies, paired along the list. -/
theorem sepL_intro (Φ Ψ : J → sProp 𝕄) : iprop(bigSep Finset.univ Φ ∗ bigSep Finset.univ Ψ) ⊢ sepL (fun j => iprop(Φ j ∗ Ψ j)) js := by
  rw [sepL_js, bigSep_sep']
omit [FloatOps F] in
/-- And taken apart again. -/
theorem sepL_elim (Φ Ψ : J → sProp 𝕄) : sepL (fun j => iprop(Φ j ∗ Ψ j)) js ⊢ iprop(bigSep Finset.univ Φ ∗ bigSep Finset.univ Ψ) := by
  rw [sepL_js, bigSep_sep']

/-- The credit a device owes its peer's arrivals while a list is still to be started. -/
def owed (c : Dev nD) : List J → CellTallies nD τ sig Unit
  | [] => 0
  | j :: l => owed c l + tallyAt (cell (peer c) true j) () (N j)

/-- Every cell's invariant, and that it has reached round 0. -/
def records (K : Dev nD × Bool × J → ℕ) : sProp 𝕄 :=
  iprop((bigSep Finset.univ fun x : Dev nD × Bool × J => cellInv ER (rd m) (K x) (kcell x))
    ∗ bigSep Finset.univ fun x : Dev nD × Bool × J => reached ER (kcell x) 0)

omit [FloatOps F] in
/-- The records may be used any number of times. -/
instance records_persistent (K : Dev nD × Bool × J → ℕ) : BI.Persistent (records m K) := by unfold records; infer_instance

omit [FloatOps F] in
/-- The record of one semaphore. -/
theorem inv_at (K : Dev nD × Bool × J → ℕ) (c : Dev nD) (b : Bool) (j : J) : records m K ⊢ cellInv ER (rd m) (K (c, b, j)) (cell c b j) := by
  unfold records; iintro ⟨H, -⟩
  iapply (show (bigSep Finset.univ fun x : Dev nD × Bool × J => (cellInv ER (rd m) (K x) (kcell x) : sProp 𝕄)) ⊢ cellInv ER (rd m) (K (c, b, j)) (cell c b j) from bigSep_elim (Finset.mem_univ (c, b, j))); iexact H
omit [FloatOps F] in
/-- Each semaphore has reached its first round. -/
theorem reached_at (K : Dev nD × Bool × J → ℕ) (c : Dev nD) (b : Bool) (j : J) : records m K ⊢ reached ER (cell c b j) 0 := by
  unfold records; iintro ⟨-, H⟩
  iapply (show (bigSep Finset.univ fun x : Dev nD × Bool × J => (reached ER (kcell x) 0 : sProp 𝕄)) ⊢ reached ER (cell c b j) 0 from bigSep_elim (Finset.mem_univ (c, b, j))); iexact H

/-- What starting copy `j` takes: the slab to send, the peer's slab it lands in, the two duties it pays. -/
def startRes (c : Dev nD) (j : J) : sProp 𝕄 :=
  iprop(srcPts m c j ∗ dstPts (peer c) j (m ((dst j).view.loc (peer c : Thread nD τ)))
    ∗ dutyTok ER (cell c false j) 0 () ∗ dutyTok ER (cell (peer c) true j) 0 ())

/-- What waiting on a cell takes: its credit and its position. -/
def waitRes (c : Dev nD) (b : Bool) (j : J) : sProp 𝕄 :=
  iprop(cred (tallyAt (cell c b j) () (N j)) ∗ atPos ER (cell c b j) 0 ∅ 0)

/-- What a wait leaves: the counter at zero, and what the duty handed over. -/
def waited (c : Dev nD) (b : Bool) (j : J) : sProp 𝕄 := iprop(semVal (cell c b j) 0 ∗ pay m c b j)

/-- One copy started. -/
theorem wp_start (K : Dev nD × Bool × J → ℕ) (c : Dev nD) (n : J → Dev nD) (hn : ∀ j, n j = peer c) (j : J) (l : List J)
    (k : PR F) (W : Waits sig Unit) (Q : PUnit → sProp 𝕄) :
    iprop(records m K ∗ startRes m c j ∗ owes (c : Thread nD τ) (owed c (j :: l)) W)
      ⊢ iprop(((cred (tallyAt (cell c false j) () (N j)) ∗ owes (c : Thread nD τ) (owed c l) W)
            -∗ wp frame (wpE (defs₀ (F := F)) 𝒱₀ (c : Thread nD τ) none) Set.univ (starts c n k l) Q)
          -∗ wp frame (wpE (defs₀ (F := F)) 𝒱₀ (c : Thread nD τ) none) Set.univ (starts c n k (j :: l)) Q) := by
  obtain rfl : n = fun _ => peer c := funext hn
  have hs := Rounds.wp_send_pointsTo (Q := Q) (k := fun _ => starts (F := F) c (fun _ => peer c) k l) (defs := defs₀ (F := F)) (Γ := .empty) 𝒱₀ ER (rd m) (c : Thread nD τ) none (κ₁ := K (c, false, j)) (κ₂ := K (peer c, true, j))
    (c' := (peer c : Thread nD τ)) (src := src c j) (dst := dst j) (sS := .dma (sS j)) (sem := .dma (rS j)) (hsc := dst_hsc j)
    (hsrc := src_wordExact c j) (hdst := dst_wordExact j) (hsem := ⟨⟨rfl, Or.inl rfl⟩, trivial⟩)
    (q := fullShare.right) (fs := m ((src c j).view.loc (c : Thread nD τ))) (fd := m ((dst j).view.loc (peer c : Thread nD τ)))
    (r₁ := 0) (r₂ := 0) (d₁ := ()) (d₂ := ()) (Es := Set.univ)
    (by rw [show ((c : Thread nD τ), SemLoc.dma (sS j)) = cell c false j from rfl, duties_cell]; exact Finset.mem_singleton_self _)
    (by rw [show ((peer c : Thread nD τ), SemLoc.dma (rS j)) = cell (peer c) true j from rfl, duties_cell]; exact Finset.mem_singleton_self _)
    () () (N j) rfl (amount_cell m c false j) (amount_cell m (peer c) true j) (owed c l) rfl (W := W)
    (by rw [show ((c : Thread nD τ), SemLoc.dma (sS j)) = cell c false j from rfl, payload_cell]; unfold pay; iintro -; iempintro)
    (by
      rw [show ((peer c : Thread nD τ), SemLoc.dma (rS j)) = cell (peer c) true j from rfl, payload_cell]
      unfold pay dstPts landed; rw [peer_peer]; exact BI.Entails.refl _)
  unfold startRes srcPts dstPts
  iintro ⟨#HR, ⟨Hs, Hd, Ht, Ht'⟩, HO⟩
  iapply hs
  isplitr; · iapply (inv_at m K c false j); iexact HR
  isplitr; · iapply (inv_at m K (peer c) true j); iexact HR
  isplitl [Hs]; · iexact Hs
  isplitl [Hd]; · iexact Hd
  isplitl [HO]; · iexact HO
  isplitl [Ht]; · iexact Ht
  isplitr; · iapply (reached_at m K c false j); iexact HR
  isplitl [Ht']; · iexact Ht'
  iapply (reached_at m K (peer c) true j); iexact HR

/-- A list of copies started. -/
theorem wp_starts (K : Dev nD × Bool × J → ℕ) (c : Dev nD) (n : J → Dev nD) (hn : ∀ j, n j = peer c)
    (k : PR F) (W : Waits sig Unit) (Q : PUnit → sProp 𝕄) : ∀ l : List J,
    iprop(records m K ∗ sepL (startRes m c) l ∗ owes (c : Thread nD τ) (owed c l) W)
      ⊢ iprop(((sepL (fun j => cred (tallyAt (cell c false j) () (N j))) l ∗ owes (c : Thread nD τ) 0 W)
            -∗ wp frame (wpE (defs₀ (F := F)) 𝒱₀ (c : Thread nD τ) none) Set.univ k Q)
          -∗ wp frame (wpE (defs₀ (F := F)) 𝒱₀ (c : Thread nD τ) none) Set.univ (starts c n k l) Q)
  | [] => by
    iintro ⟨-, -, HO⟩ Hk
    iapply Hk
    isplitr; · unfold sepL; iempintro
    iexact HO
  | j :: l => by
    rw [sepL, sepL]
    iintro ⟨#HR, ⟨Hj, Hl⟩, HO⟩ Hk
    iapply (wp_start m K c n hn j l k W Q) $$ [Hj HO]
    · isplitr; · iexact HR
      isplitl [Hj] <;> iassumption
    iintro ⟨Hc, HO⟩
    iapply (wp_starts K c n hn k W Q l) $$ [Hl HO]
    · isplitr; · iexact HR
      isplitl [Hl] <;> iassumption
    iintro ⟨Hcs, HO⟩
    iapply Hk
    isplitl [Hc Hcs]
    · isplitl [Hc] <;> iassumption
    iexact HO

/-- One arrival or departure awaited, and its cell closed. -/
theorem wp_wait (K : Dev nD × Bool × J → ℕ) (c : Dev nD) (b : Bool) (j : J) (l : List J)
    (k : PR F) (W : Waits sig Unit) (Q : PUnit → sProp 𝕄) :
    iprop(records m K ∗ waitRes c b j ∗ owes (c : Thread nD τ) 0 W)
      ⊢ iprop(((waited m c b j ∗ owes (c : Thread nD τ) 0 (insert (csem (b, j), ()) W))
            -∗ wp frame (wpE (defs₀ (F := F)) 𝒱₀ (c : Thread nD τ) none) Set.univ (waits c b k l) Q)
          -∗ wp frame (wpE (defs₀ (F := F)) 𝒱₀ (c : Thread nD τ) none) Set.univ (waits c b k (j :: l)) Q) := by
  unfold waitRes waited
  iintro ⟨#HR, ⟨Hc, Hat⟩, HO⟩ Hk
  rw [waits]
  iapply (Rounds.wp_wait_rest_token 𝒱₀ ER (rd m) (c : Thread nD τ) none (κ := K (c, b, j)) (sm := csem (b, j))
      (wpE_waitDma2_eq 𝒱₀ (c : Thread nD τ) none Set.univ) (Set.mem_univ _) () (O := 0) (W := W) (R := 0) (m := 0) (T := ∅)
      (by rw [Nat.zero_add, expect_cell, snd_credit])) $$ [Hc HO Hat]
  · isplitr; · iapply (inv_at m K c b j); iexact HR
    isplitl [Hc]; · rw [snd_credit]; iexact Hc
    isplitl [HO]; · iexact HO
    isplitr; · rw [MayWait_zero]; iempintro
    iexact Hat
  iintro ⟨HO, Hat, -, Hpay⟩
  ihave Hp := (Entails.of_eq (rest_cell m c b j)) $$ Hpay
  imod (Rounds.cell_close ER (rd m) (Set.mem_univ (K (c, b, j))) (fun h => h) (R := 0 + 1) (duties_later m (cell c b j))) $$ [Hat] with Hz
  · isplitr; · iapply (inv_at m K c b j); iexact HR
    iexact Hat
  iapply Hk
  isplitl [Hz Hp]
  · isplitl [Hz] <;> iassumption
  iexact HO

/-- A list of arrivals or departures awaited. -/
theorem wp_waits (K : Dev nD × Bool × J → ℕ) (c : Dev nD) (b : Bool) (k : PR F) (Q : PUnit → sProp 𝕄) : ∀ (l : List J) (W : Waits sig Unit),
    iprop(records m K ∗ sepL (waitRes c b) l ∗ owes (c : Thread nD τ) 0 W)
      ⊢ iprop(((sepL (waited m c b) l ∗ ∃ W, owes (c : Thread nD τ) 0 W)
            -∗ wp frame (wpE (defs₀ (F := F)) 𝒱₀ (c : Thread nD τ) none) Set.univ k Q)
          -∗ wp frame (wpE (defs₀ (F := F)) 𝒱₀ (c : Thread nD τ) none) Set.univ (waits c b k l) Q)
  | [], W => by
    iintro ⟨-, -, HO⟩ Hk
    iapply Hk
    isplitr; · unfold sepL; iempintro
    iexists W; iexact HO
  | j :: l, W => by
    rw [sepL, sepL]
    iintro ⟨#HR, ⟨Hj, Hl⟩, HO⟩ Hk
    iapply (wp_wait m K c b j l k W Q) $$ [Hj HO]
    · isplitr; · iexact HR
      isplitl [Hj] <;> iassumption
    iintro ⟨Hw, HO⟩
    iapply (wp_waits K c b k Q l _) $$ [Hl HO]
    · isplitr; · iexact HR
      isplitl [Hl] <;> iassumption
    iintro ⟨Hws, HO⟩
    iapply Hk
    isplitl [Hw Hws]
    · isplitl [Hw] <;> iassumption
    iexact HO

/-- What a device's body starts from, but its launch credit. -/
def start (c : Dev nD) : sProp 𝕄 :=
  iprop((∃ K, records m K) ∗ bigSep Finset.univ (startRes m c)
    ∗ (bigSep Finset.univ fun j => atPos ER (cell c false j) 0 ∅ 0) ∗ bigSep Finset.univ fun j => atPos ER (cell c true j) 0 ∅ 0)

/-- A device's counters, all at zero. -/
def zeros (c : Dev nD) : sProp 𝕄 := bigSep Finset.univ fun x : Bool × J => semVal (cell c x.1 x.2) 0

/-- The launch credit of a device: its arrivals'. -/
def credits (c : Dev nD) : sProp 𝕄 := bigSep Finset.univ fun j => cred (tallyAt (cell c true j) () (N j))

/-- What the body leaves: the slabs landed. -/
def done (c : Dev nD) : sProp 𝕄 := bigSep Finset.univ fun j => dstPts c j (landed m c j)

omit [FloatOps F] in
/-- Pieces of both arrays of semaphores, one array at a time. -/
theorem bigSep_bool (Φ : Bool × J → sProp 𝕄) :
    bigSep Finset.univ Φ = iprop((bigSep Finset.univ fun j => Φ (false, j)) ∗ bigSep Finset.univ fun j => Φ (true, j)) := by
  rw [bigSep_univ_prod, bigSep_univ_eq_bigSepL [false, true] (by decide) (by decide), bigSepL_cons_cons, bigSepL_singleton]; rfl

/-- The body. -/
theorem wp_body (c : Dev nD) (t : Fin cfg0.N) (W : Waits sig Unit) (Q : PUnit → sProp 𝕄) :
    iprop(start m c ∗ credits c ∗ owes (c : Thread nD τ) (owed c js) W)
      ⊢ iprop(((zeros c ∗ done m c ∗ ∃ W, owes (c : Thread nD τ) 0 W) -∗ Q ⟨⟩)
        -∗ wp frame (wpE (defs₀ (F := F)) 𝒱₀ (c : Thread nD τ) none) Set.univ (bodyAt0 t) Q) := by
  rw [body_eq]
  unfold tailOf start credits zeros done
  rw [wp_deviceId, bigSep_bool]
  iintro ⟨⟨⟨%K, #HR⟩, Hst, HaS, HaV⟩, Hcr, HO⟩ Hk
  iapply (wp_starts m K c (goesTo c) (goesTo_eq c) _ W Q js) $$ [Hst HO]
  · isplitr; · iexact HR
    isplitl [Hst]; · iapply (Entails.of_eq (sepL_js (startRes m c)).symm); iexact Hst
    iexact HO
  iintro ⟨HcS, HO⟩
  iapply (wp_waits m K c true _ Q js W) $$ [Hcr HaV HO]
  · isplitr; · iexact HR
    isplitl [Hcr HaV]
    · iapply (show _ ⊢ sepL (waitRes c true) js from sepL_intro _ _)
      isplitl [Hcr] <;> iassumption
    iexact HO
  iintro ⟨HwV, ⟨%W', HO⟩⟩
  ihave HcS := (Entails.of_eq (sepL_js (fun j => cred (tallyAt (cell c false j) () (N j))))) $$ HcS
  iapply (wp_waits m K c false _ Q js W') $$ [HcS HaS HO]
  · isplitr; · iexact HR
    isplitl [HcS HaS]
    · iapply (show _ ⊢ sepL (waitRes c false) js from sepL_intro _ _)
      isplitl [HcS] <;> iassumption
    iexact HO
  iintro ⟨HwS, ⟨%W'', HO⟩⟩
  ihave HwV := (show sepL (waited m c true) js ⊢ _ from sepL_elim _ _) $$ HwV
  ihave HwS := (show sepL (waited m c false) js ⊢ _ from sepL_elim _ _) $$ HwS
  icases HwV with ⟨HzV, Hpay⟩
  icases HwS with ⟨HzS, -⟩
  rw [wp_ret]; imodintro
  iapply Hk
  isplitl [HzS HzV]
  · isplitl [HzS] <;> iassumption
  isplitl [Hpay]; · iexact Hpay
  iexists W''; iexact HO

/-! ## The region's proof data -/

/-- The call has one grid point. -/
theorem cfg0_N : cfg0.N = 1 := by decide
/-- That point. -/
def t₀ : Fin cfg0.N := ⟨0, by rw [cfg0_N]; decide⟩
/-- There is no other. -/
theorem fin_N (t : Fin cfg0.N) : t = t₀ := by
  obtain ⟨t, ht⟩ := t; have := cfg0_N; exact Fin.ext (by simp only [t₀]; omega)

/-- What the call holds before and after its point. -/
def dats (_ : Fin 1) (c : Dev nD) : Pipeline.Dat τ (Elt F) Unit ℕ UU ℕ cfg0 c where
  A w := w.elim0
  after w := w.elim0
  Φ t := match t with
    | ⟨0, _⟩ => iprop(start m c ∗ credits c)
    | ⟨_ + 1, _⟩ => iprop(zeros c ∗ done m c)
  q _ := fullShare
  owed t := match t with
    | ⟨0, _⟩ => owed c js
    | ⟨_ + 1, _⟩ => 0

omit [FloatOps F] in
/-- No window, nothing held. -/
theorem bigSep_none (Φ : Fin cfg0.W → sProp 𝕄) : bigSep Finset.univ Φ = iprop(emp) := by
  rw [Finset.univ_eq_empty (α := Fin 0), BI.bigSep_empty]; rfl

/-- The library's obligation of the body. -/
theorem body_obligation (c : Dev nD) : Pipeline.BodyObligation (dats (F := F) m 0 c) (defs₀ (F := F)) 𝒱₀ () Set.univ := fun t => by
  rw [fin_N t]
  rw [bigSep_none, bigSep_none]
  show iprop((start m c ∗ credits c) ∗ (dats m 0 c).owesAt () t₀.castSucc ∗ emp) ⊢ wp frame (wpE (defs₀ (F := F)) 𝒱₀ c none) Set.univ (bodyAt0 t₀)
    (fun _ => iprop((zeros c ∗ done m c) ∗ (dats m 0 c).owesAt () t₀.succ ∗ emp))
  unfold Pipeline.Dat.owesAt Pipeline.owesWithin
  rw [show (dats m 0 c).owed t₀.castSucc = owed c js from rfl, show (dats m 0 c).owed t₀.succ = 0 from rfl]
  iintro ⟨⟨Hs, Hc⟩, ⟨%W, -, HO⟩, -⟩
  iapply (wp_body m c t₀ W _) $$ [Hs Hc HO]
  · isplitl [Hs]; · iexact Hs
    isplitl [Hc] <;> iassumption
  iintro ⟨Hz, Hd, ⟨%W', HO⟩⟩
  isplitl [Hz Hd]
  · isplitl [Hz] <;> iassumption
  isplitl [HO]
  · iexists W'
    isplitr; · ipureintro; exact fun _ _ => Or.inl trivial
    iexact HO
  iempintro

/-! ## The memory dealt: the slabs -/

/-- Two sent slabs are at different places. -/
theorem rows_apart (c : Dev nD) {k k' : Fin 4} (h : k ≠ k') :
    (2 * k.val + 1) - c.val + 1 ≤ (2 * k'.val + 1) - c.val ∨ (2 * k'.val + 1) - c.val + 1 ≤ (2 * k.val + 1) - c.val := by
  have hc : c.val < 2 := c.isLt
  have hk : k.val ≠ k'.val := fun e => h (Fin.ext e)
  omega

/-- The sent slabs of the first array share no entry. -/
theorem src_disjoint0 (c : Dev nD) (k k' : Fin 4) (h : k ≠ k') : Disjoint (src c (0, k)).view.set (src c (0, k')).view.set := by
  refine disjoint_slabs main_arg0 (0 : Fin 3) squeezes_S1x4096x2051_S4096x2051 (k0_off1_inb c k) (k0_off1_inb c k') ?_
  rw [k0_off1_eq, k0_off1_eq]; exact rows_apart c h
/-- The received slabs of the first array share no entry. -/
theorem dst_disjoint0 (k k' : Fin 4) (h : k ≠ k') : Disjoint (dst (0, k)).view.set (dst (0, k')).view.set :=
  disjoint_slabs main_v1_0 (0 : Fin 3) squeezes_S1x4096x2051_S4096x2051 (dst_inb0 k) (dst_inb0 k') (rows_apart' h)
/-- The sent slabs of the second array share no entry. -/
theorem src_disjoint1 (c : Dev nD) (k k' : Fin 4) (h : k ≠ k') : Disjoint (src c (1, k)).view.set (src c (1, k')).view.set := by
  refine disjoint_slabs main_arg1 (0 : Fin 3) squeezes_S1x3328x1024_S3328x1024 (k0_off2_inb c k) (k0_off2_inb c k') ?_
  rw [k0_off2_eq, k0_off2_eq]; exact rows_apart c h
/-- The received slabs of the second array share no entry. -/
theorem dst_disjoint1 (k k' : Fin 4) (h : k ≠ k') : Disjoint (dst (1, k)).view.set (dst (1, k')).view.set :=
  disjoint_slabs main_v1_1 (0 : Fin 3) squeezes_S1x3328x1024_S3328x1024 (dst_inb1 k) (dst_inb1 k') (rows_apart' h)
/-- The sent slabs of the third array share no entry. -/
theorem src_disjoint2 (c : Dev nD) (k k' : Fin 4) (h : k ≠ k') : Disjoint (src c (2, k)).view.set (src c (2, k')).view.set := by
  refine disjoint_slabs main_arg2 (0 : Fin 3) squeezes_S1x896x1024_S896x1024 (k0_off3_inb c k) (k0_off3_inb c k') ?_
  rw [k0_off3_eq, k0_off3_eq]; exact rows_apart c h
/-- The received slabs of the third array share no entry. -/
theorem dst_disjoint2 (k k' : Fin 4) (h : k ≠ k') : Disjoint (dst (2, k)).view.set (dst (2, k')).view.set :=
  disjoint_slabs main_v1_2 (0 : Fin 3) squeezes_S1x896x1024_S896x1024 (dst_inb2 k) (dst_inb2 k') (rows_apart' h)

/-- The half of its arguments a device keeps. -/
def kept (c : Dev nD) : sProp 𝕄 :=
  iprop((((c : Thread nD τ).loc main_arg0) ↦{fullShare.left} m ((c : Thread nD τ).loc main_arg0))
    ∗ (((c : Thread nD τ).loc main_arg1) ↦{fullShare.left} m ((c : Thread nD τ).loc main_arg1))
    ∗ (((c : Thread nD τ).loc main_arg2) ↦{fullShare.left} m ((c : Thread nD τ).loc main_arg2)))

omit [FloatOps F] in
/-- Pieces of all copies, one array at a time. -/
theorem bigSep_arrays (Φ : J → sProp 𝕄) :
    bigSep Finset.univ Φ = iprop((bigSep Finset.univ fun k => Φ (0, k)) ∗ (bigSep Finset.univ fun k => Φ (1, k)) ∗ bigSep Finset.univ fun k => Φ (2, k)) := by
  rw [bigSep_univ_prod, bigSep_univ_eq_bigSepL [0, 1, 2] (by decide) (by decide), bigSepL_cons_cons, bigSepL_cons_cons, bigSepL_singleton]; rfl

omit [FloatOps F] in
/-- A device's six arrays: half its arguments kept, half in the slabs it sends; its outputs in the slabs it receives. -/
theorem mem_split (c : Dev nD) : (unscopedBufs c (fun b => m ((c : Thread nD τ).loc b)) : sProp 𝕄)
    ⊢ iprop(kept m c ∗ bigSep Finset.univ (srcPts m c) ∗ bigSep Finset.univ fun j => dstPts c j (m ((dst j).view.loc (c : Thread nD τ)))) := by
  have hb : (unscopedBufs c (fun b => m ((c : Thread nD τ).loc b)) : sProp 𝕄) = iprop(
      (((c : Thread nD τ).loc main_arg0) ↦{fullShare} m ((c : Thread nD τ).loc main_arg0))
      ∗ (((c : Thread nD τ).loc main_arg1) ↦{fullShare} m ((c : Thread nD τ).loc main_arg1))
      ∗ (((c : Thread nD τ).loc main_arg2) ↦{fullShare} m ((c : Thread nD τ).loc main_arg2))
      ∗ (((c : Thread nD τ).loc main_v1_0) ↦{fullShare} m ((c : Thread nD τ).loc main_v1_0))
      ∗ (((c : Thread nD τ).loc main_v1_1) ↦{fullShare} m ((c : Thread nD τ).loc main_v1_1))
      ∗ (((c : Thread nD τ).loc main_v1_2) ↦{fullShare} m ((c : Thread nD τ).loc main_v1_2))) := by
    unfold unscopedBufs
    rw [bigSep_eq_bigSepL_of_eq [main_arg0, main_arg1, main_arg2, main_v1_0, main_v1_1, main_v1_2] (by decide) (by decide),
      bigSepL_cons_cons, bigSepL_cons_cons, bigSepL_cons_cons, bigSepL_cons_cons, bigSepL_cons_cons, bigSepL_singleton]
    rfl
  rw [hb, bigSep_arrays, bigSep_arrays]
  unfold kept
  iintro ⟨H0, H1, H2, H3, H4, H5⟩
  ihave H0 := (pointsTo_share (PosShare.mem_left_op_right fullShare)).1 $$ H0
  ihave H1 := (pointsTo_share (PosShare.mem_left_op_right fullShare)).1 $$ H1
  ihave H2 := (pointsTo_share (PosShare.mem_left_op_right fullShare)).1 $$ H2
  icases H0 with ⟨H0, R0⟩
  icases H1 with ⟨H1, R1⟩
  icases H2 with ⟨H2, R2⟩
  isplitl [H0 H1 H2]
  · isplitl [H0]; · iexact H0
    isplitl [H1] <;> iassumption
  isplitl [R0 R1 R2]
  · isplitl [R0]; · iapply (slabs fullShare.right (m ((c : Thread nD τ).loc main_arg0)) (fun k => (src c (0, k)).view.set) (src_disjoint0 c)); iexact R0
    isplitl [R1]; · iapply (slabs fullShare.right (m ((c : Thread nD τ).loc main_arg1)) (fun k => (src c (1, k)).view.set) (src_disjoint1 c)); iexact R1
    iapply (slabs fullShare.right (m ((c : Thread nD τ).loc main_arg2)) (fun k => (src c (2, k)).view.set) (src_disjoint2 c)); iexact R2
  isplitl [H3]; · iapply (slabs fullShare (m ((c : Thread nD τ).loc main_v1_0)) (fun k => (dst (0, k)).view.set) dst_disjoint0); iexact H3
  isplitl [H4]; · iapply (slabs fullShare (m ((c : Thread nD τ).loc main_v1_1)) (fun k => (dst (1, k)).view.set) dst_disjoint1); iexact H4
  iapply (slabs fullShare (m ((c : Thread nD τ).loc main_v1_2)) (fun k => (dst (2, k)).view.set) dst_disjoint2); iexact H5

/-! ## The launch -/

/-- Different copies and devices have different semaphores. -/
theorem kcell_injective : Function.Injective kcell := by
  rintro ⟨c, b, j⟩ ⟨c', b', j'⟩ h
  have h1 : c = c' := congrArg (fun g : GSem nD τ sig => g.1.1) h
  have h2 : semOf b j = semOf b' j' := SemLoc.dma.inj (congrArg Prod.snd h)
  have h3 : b = b' := by rw [← bOf_semOf b j, h2, bOf_semOf]
  have h4 : j = j' := by rw [← jOf_semOf b j, h2, jOf_semOf]
  rw [h1, h3, h4]

/-- On one device too. -/
theorem csem_injective : Function.Injective csem := fun x y h =>
  congrArg Prod.snd (kcell_injective (a₁ := (0, x)) (a₂ := (0, y)) (Prod.ext rfl h))

/-- Every cell, and every duty. -/
def cells : Finset (GSem nD τ sig) := Finset.univ.map ⟨kcell, kcell_injective⟩
/-- Every raise of a semaphore, at the launch. -/
def duties : Finset (GSem nD τ sig × ℕ × Unit) := Finset.univ.map ⟨fun x => (kcell x, 0, ()), fun _ _ h => kcell_injective (congrArg Prod.fst h)⟩

/-- The records at the launch. -/
def u₀ : UU := (initOf ∅ ∅, initOf cells duties)

omit [FloatOps F] in
/-- The ghost state of every cell. -/
theorem fund_cells : BI.own (ER (initOf cells duties)) ⊢ (|==> iprop((bigSep Finset.univ fun x => roundState ER (rd m) (kcell x) 0)
    ∗ (bigSep Finset.univ fun x => reached ER (kcell x) 0) ∗ (bigSep Finset.univ fun x => atPos ER (kcell x) 0 ∅ 0)
    ∗ bigSep Finset.univ fun x => dutyTok ER (kcell x) 0 ()) : sProp 𝕄) := by
  have h := Rounds.fund ER (rd m) cells duties
  unfold cells duties at h ⊢
  simp only [bigSep_map] at h
  exact h

omit [FloatOps F] in
/-- A device's scoped semaphores are its cells. -/
theorem scopedSems0_eq (c : Dev nD) : (scopedSems0 (c : Thread nD τ) : sProp 𝕄) = zeros c := by
  rw [show (scopedSems0 (c.tc : Thread nD τ) : sProp 𝕄) = _ from scopedSems0_tc c,
    show (Finset.univ.filter fun sm : SemLoc sig => sm.isScoped .tc = true) = Finset.univ.map ⟨csem, csem_injective⟩ from by decide, bigSep_map]
  rfl

omit [FloatOps F] in
/-- Over every cell, by device, departures and arrivals. -/
theorem bigSep_cells (Φ : Dev nD × Bool × J → sProp 𝕄) :
    bigSep Finset.univ Φ = bigSep Finset.univ fun c => iprop((bigSep Finset.univ fun j => Φ (c, false, j)) ∗ bigSep Finset.univ fun j => Φ (c, true, j)) := by
  rw [bigSep_univ_prod]; exact bigSep_congr fun c _ => bigSep_bool _

/-- What a device starts the kernel's call from. -/
def dealt (c : Dev nD) : sProp 𝕄 := iprop(start m c ∗ kept m c)

omit [FloatOps F] in
/-- The cells' invariants, allocated together. -/
theorem alloc_cells : iprop((bigSep Finset.univ fun c : Dev nD => zeros c) ∗ bigSep Finset.univ fun x => roundState ER (rd m) (kcell x) 0)
    ⊢ (|={Set.univ}=> ∃ K : Dev nD × Bool × J → ℕ, bigSep Finset.univ fun x => cellInv ER (rd m) (K x) (kcell x) : sProp 𝕄) := by
  have hz : (bigSep Finset.univ fun c : Dev nD => (zeros c : sProp 𝕄)) = bigSep Finset.univ fun x => semVal (kcell x) 0 := by
    rw [bigSep_univ_prod]; rfl
  rw [hz, ← bigSep_sep']
  exact ((bigSep_mono fun x _ => (Rounds.body_intro ER (rd m) (kcell x)).trans inv_alloc).trans (bigSep_fupd _ _)).trans
    (BI.fupd_mono (BI.bigSep_exists_pi Finset.univ (fun (x : Dev nD × Bool × J) (κ : ℕ) => (cellInv ER (rd m) κ (kcell x) : sProp 𝕄))))

/-- What is a device's alone: its slabs to send, the slabs of its peer it writes, the duties it pays, its positions, its half of its arguments. -/
def own (c : Dev nD) : sProp 𝕄 :=
  iprop(bigSep Finset.univ (startRes m c)
    ∗ (bigSep Finset.univ fun j => atPos ER (cell c false j) 0 ∅ 0) ∗ (bigSep Finset.univ fun j => atPos ER (cell c true j) 0 ∅ 0) ∗ kept m c)

omit [FloatOps F] in
/-- The outputs' slabs and the arrivals' duties cross over to the peer. -/
theorem cross : iprop((bigSep Finset.univ fun c : Dev nD => iprop(kept m c ∗ bigSep Finset.univ (srcPts m c) ∗ bigSep Finset.univ fun j => dstPts c j (m ((dst j).view.loc (c : Thread nD τ)))))
      ∗ (bigSep Finset.univ fun x => atPos ER (kcell x) 0 ∅ 0) ∗ bigSep Finset.univ fun x => dutyTok ER (kcell x) 0 ())
    ⊢ (bigSep Finset.univ (own m) : sProp 𝕄) := by
  rw [bigSep_cells, bigSep_cells]
  unfold own startRes
  simp only [bigSep_sep']
  rw [bigSep_univ_equiv swap (fun c : Dev nD => (bigSep Finset.univ fun j => (dstPts c j (m ((dst j).view.loc (c : Thread nD τ))) : sProp 𝕄))),
    bigSep_univ_equiv swap (fun c : Dev nD => (bigSep Finset.univ fun j => (dutyTok ER (kcell (c, true, j)) 0 () : sProp 𝕄)))]
  iintro ⟨⟨Hk, Hs, Hd⟩, ⟨HaS, HaV⟩, HtS, HtV⟩
  isplitl [Hs Hd HtS HtV]
  · isplitl [Hs]; · iexact Hs
    isplitl [Hd]; · iexact Hd
    isplitl [HtS]; · iexact HtS
    iexact HtV
  isplitl [HaS]; · iexact HaS
  isplitl [HaV]; · iexact HaV
  iexact Hk

omit [FloatOps F] in
/-- The launch's step over both devices at once. -/
theorem deal : iprop((bigSep Finset.univ fun c : Dev nD => scopedSems0 (c : Thread nD τ))
      ∗ (bigSep Finset.univ fun c : Dev nD => unscopedBufs c (fun b => m ((c : Thread nD τ).loc b)))
      ∗ BI.own (ER (initOf cells duties)))
    ⊢ (|={Set.univ}=> bigSep Finset.univ (dealt m) : sProp 𝕄) := by
  rw [bigSep_congr (s := Finset.univ) fun (c : Dev nD) _ => scopedSems0_eq c]
  iintro ⟨Hz, Hb, Hu⟩
  imod (fund_cells m) $$ Hu with ⟨Hst, #Hr, Hat, Htok⟩
  imod (alloc_cells m) $$ [Hz Hst] with ⟨%K, #HI⟩
  · isplitl [Hz] <;> iassumption
  imodintro
  iapply (bigSep_with_persistent (R := records m K) (Φ := own m) (Ψ := dealt m) fun c _ => (by
    unfold own dealt start
    iintro ⟨#HR, H1, H2, H3, H4⟩
    isplitr [H4]
    · isplitr; · iexists K; iexact HR
      isplitl [H1]; · iexact H1
      isplitl [H2] <;> iassumption
    iexact H4))
  isplitr
  · unfold records; isplitl; · iexact HI
    iexact Hr
  iapply (cross m)
  isplitl [Hb]; · iapply (show (bigSep Finset.univ fun c : Dev nD => (unscopedBufs c (fun b => m ((c : Thread nD τ).loc b)) : sProp 𝕄)) ⊢ _ from bigSep_mono fun c _ => mem_split m c); iexact Hb
  isplitl [Hat] <;> iassumption

/-! ### The launch credit -/

/-- Receive semaphores are equal just when device and copy are. -/
theorem cell_eq_iff {c d : Dev nD} {i j : J} : Iff (cell c true i = cell d true j) (c = d ∧ i = j) :=
  ⟨fun h => by
    have := kcell_injective (a₁ := (c, true, i)) (a₂ := (d, true, j)) h
    exact ⟨congrArg Prod.fst this, congrArg (fun x : Dev nD × Bool × J => x.2.2) this⟩, fun ⟨h, h'⟩ => h ▸ h' ▸ rfl⟩

/-- What device `d` owes an arrival: its credit, if it is its peer's. -/
theorem owed_apply (d c : Dev nD) (j : J) : ∀ l : List J, l.Nodup → owed d l (cell c true j) () = if peer d = c ∧ j ∈ l then N j else 0
  | [], _ => by rw [owed, if_neg (fun h => nomatch h.2)]; rfl
  | i :: l, h => by
    rw [owed, Pi.add_apply, Finsupp.add_apply, tallyAt_apply, owed_apply d c j l (List.nodup_cons.mp h).2]
    have hn := (List.nodup_cons.mp h).1
    by_cases hc : peer d = c
    · by_cases hi : i = j
      · subst hc hi
        rw [if_neg (fun h => hn h.2), if_pos ⟨rfl, rfl⟩, if_pos ⟨rfl, List.mem_cons_self⟩, Nat.zero_add]
      · have h2 : ¬(cell c true j = cell (peer d) true i ∧ () = ()) := fun h => hi (cell_eq_iff.mp h.1).2.symm
        rw [if_neg h2, Nat.add_zero]
        exact if_congr ⟨fun h => ⟨h.1, List.mem_cons_of_mem _ h.2⟩, fun h => ⟨h.1, (List.mem_cons.mp h.2).resolve_left fun e => hi e.symm⟩⟩ rfl rfl
    · have h2 : ¬(cell c true j = cell (peer d) true i ∧ () = ()) := fun h => hc (cell_eq_iff.mp h.1).1.symm
      rw [if_neg (fun h => hc h.1), if_neg h2, if_neg (fun h => hc h.1)]

/-- What the launch expects of one receive semaphore. -/
theorem launch_cell (c : Dev nD) (j : J) :
    tallyOn (cell c true j) (launchCredit (Pipeline.owing fun c => owed c js) 0 (cell c true j)) = (tallyAt (cell c true j) () (N j) : CellTallies nD τ sig Unit) := by
  unfold tallyAt; refine congrArg _ (Finsupp.ext fun u => ?_); cases u
  rw [Pipeline.launchCredit_owing, Finsupp.single_eq_same, Finset.sum_congr rfl fun d _ => owed_apply d c j js (by decide),
    Finset.sum_eq_single (peer c) (fun d _ hd => if_neg fun h => hd (by rw [← h.1, peer_peer])) (fun h => absurd (Finset.mem_univ _) h),
    if_pos ⟨peer_peer c, by revert j; decide⟩]

omit [FloatOps F] in
/-- What the launch hands a device for its waits. -/
theorem creds (c : Dev nD) : (Pipeline.launchCred (fun c => owed c js) c : sProp 𝕄) ⊢ credits c := by
  unfold Pipeline.launchCred credits
  refine (Idealize.SL.BI.bigSep_subset (Finset.subset_univ (Finset.univ.map ⟨fun j : J => csem (true, j), fun i j h => congrArg Prod.snd (csem_injective h)⟩))).trans ?_
  rw [bigSep_map]
  exact bigSep_mono fun j _ => by
    show cred (tallyOn (cell c true j) (launchCredit (Pipeline.owing fun c => owed c js) 0 (cell c true j))) ⊢ _
    rw [launch_cell]

/-! ### A device's run -/

omit [FloatOps F] in
/-- No buffer is scoped. -/
theorem scopedBufs_emp (c : Dev nD) : (scopedBufs (c.tc : Thread nD τ) : sProp 𝕄) = BI.emp := by
  rw [show (scopedBufs (c.tc : Thread nD τ) : sProp 𝕄) = _ from scopedBufs_tc c,
    show (Finset.univ.filter fun b : Ref sig .tc => b.isScoped) = ∅ from by decide, BI.bigSep_empty]

/-- What a device ends with. -/
def fin (c : Dev nD) : sProp 𝕄 := iprop(kept m c ∗ done m c ∗ scopedSems0 (c.tc : Thread nD τ))

abbrev adms : (p : Fin 1) → (pcfgs (F := F) p).Adm := fun p => (cfgs p).toPCfg_adm

/-- The call has no windows, so no two share a semaphore. -/
theorem cells_none : Function.Injective (Pipeline.cellOf (nD := nD) (τ := τ) (Pipeline.pin (pcfgs (F := F)) adms)) := by
  rintro ⟨_, ⟨_, ⟨w, _⟩⟩⟩ _ _; exact w.elim0

/-- The call needs what the device owes, and nothing of a pipeline: no operand is staged. -/
theorem entry_pre (c : Dev nD) : iprop(owes (c : Thread nD τ) (owed c js) ∅)
    ⊢ Pipeline.EntryPre (Pipeline.pin (pcfgs (F := F)) adms) (dats m) () EP (fun _ => 0) 0 c := by
  show _ ⊢ iprop(bigSep Finset.univ _ ∗ (dats m 0 c).owesAt () 0 ∗ bigSep Finset.univ _ ∗ bigSep Finset.univ _ ∗ bigSep Finset.univ _)
  unfold Pipeline.Dat.owesAt Pipeline.owesWithin
  rw [bigSep_none, bigSep_none, bigSep_none, bigSep_none]
  iintro H
  isplitr; · iempintro
  isplitl [H]
  · iexists ∅; isplitr; · ipureintro; rw [Finset.coe_empty]; exact Set.empty_subset _
    iexact H
  isplitr; · iempintro
  isplitr <;> iempintro

/-- What the call leaves: the device owes nothing. -/
theorem entry_post (c : Dev nD) : Pipeline.EntryPost (Pipeline.pin (pcfgs (F := F)) adms) (dats m) () 0 c
    ⊢ iprop(∃ W, owes (c : Thread nD τ) (0 : CellTallies nD τ sig Unit) W) := by
  show iprop(bigSep Finset.univ _ ∗ (dats m 0 c).owesAt () (Fin.last _)) ⊢ _
  unfold Pipeline.Dat.owesAt Pipeline.owesWithin
  iintro ⟨-, ⟨%W, -, H⟩⟩
  iexists W; iexact H

/-- No table is prefetched. -/
theorem pref_none (c : Dev nD) : (Pipeline.prefHeld (pcfgs (F := F) 0).pre c (fun _ => fullShare) (adms (F := F) 0).1 : sProp 𝕄) = iprop(emp) := by
  unfold Pipeline.prefHeld
  exact (congrArg (fun S => bigSep S _) (Finset.univ_eq_empty (α := Fin 0))).trans BI.bigSep_empty

/-- What the call needs at its start. -/
theorem call_in (c : Dev nD) : iprop(iprop(start m c ∗ credits c) ∗ Pipeline.prefHeld (pcfgs (F := F) 0).pre c (fun _ => fullShare) (adms (F := F) 0).1 ∗ BI.emp)
    ⊢ (dats m 0 c).Φ 0 := by
  show _ ⊢ iprop(start m c ∗ credits c)
  iintro ⟨H, -⟩; iexact H

/-- What it leaves at its end. -/
theorem call_out (c : Dev nD) : iprop((dats m 0 c).Φ (Fin.last (Pipeline.pin (pcfgs (F := F)) adms 0).N)
      ∗ Pipeline.cellsSems0 (Pipeline.pin (pcfgs (F := F)) adms) 0 c ∗ Pipeline.Dat.staging (Pipeline.pin (pcfgs (F := F)) adms 0) c ∗ BI.emp)
    ⊢ iprop(done m c ∗ scopedSems0 (c.tc : Thread nD τ) ∗ scopedBufs (c.tc : Thread nD τ)) := by
  rw [scopedBufs_emp, show (scopedSems0 (c.tc : Thread nD τ) : sProp 𝕄) = zeros c from scopedSems0_eq c]
  show iprop(iprop(zeros c ∗ done m c) ∗ _) ⊢ _
  iintro ⟨⟨Hz, Hd⟩, -⟩
  isplitl [Hd]; · iexact Hd
  isplitl [Hz]; · iexact Hz
  iempintro

/-- It has no buffers of its own. -/
theorem call_bufs (c : Dev nD) : (scopedBufs (c.tc : Thread nD τ) : sProp 𝕄) ⊢ iprop(Pipeline.Dat.staging (Pipeline.pin (pcfgs (F := F)) adms 0) c ∗ BI.emp) := by
  show _ ⊢ iprop(bigSep Finset.univ _ ∗ BI.emp)
  rw [bigSep_none]
  iintro -
  isplitr <;> iempintro

/-- A device's run of the program. -/
theorem wp_main (c : Dev nD) : iprop(dealt m c ∗ credits c ∗ owes (c : Thread nD τ) (owed c js) ∅)
    ⊢ wp frame (wpE (defs (F := F)) 𝒱₀.lift (c : Thread nD τ) none) Set.univ (main (F := F) c) (fun _ => post (liftTc (fin m) BI.emp) (c : Thread nD τ)) := by
  have hcall := Pipeline.wp_customCall_entry_frame (pcfgs (F := F)) adms (dats m) () EP (fun _ => 0) cells_none (0 : Fin 1) defs₀ 𝒱₀ (fun _ => fullShare) c Set.univ
    (fun _ _ => Set.mem_univ _) (body_obligation m c).loose (fun w => w.elim0) none (fun u h => nomatch h)
    (call_bufs c) (call_in m c) (call_out m c)
    (α := PUnit) (k := fun _ => .ret PUnit.unit) (Q := fun _ => post (liftTc (fin m) BI.emp) (c : Thread nD τ))
  unfold dealt
  iintro ⟨⟨Hs, Hk⟩, Hc, HO⟩
  iapply hcall $$ [Hs Hc HO]
  · isplitl [HO]; · iapply (entry_pre m c); iexact HO
    isplitr; · rw [pref_none]; iempintro
    isplitl [Hs Hc]; · isplitl [Hs] <;> iassumption
    isplitr; · iempintro
    rw [scopedBufs_emp]; iempintro
  iintro ⟨Hp, Hd, Hz, -⟩
  rw [wp_ret]; imodintro
  unfold post; simp only [liftTc_tc, fin]
  isplitl [Hk Hd Hz]
  · isplitl [Hk]; · iexact Hk
    isplitl [Hd] <;> iassumption
  iapply (entry_post m c); iexact Hp

/-! ### The end -/

/-- The slabs a device holds are what memory has there. -/
theorem read_slabs (c : Dev nD) (s' : Phys nD τ sig (Elt F)) (S : Finset J) :
    iprop(SI s' ∗ bigSep S fun j => dstPts c j (landed m c j))
      ⊢ (⌜∀ j ∈ S, ∀ i ∈ (dst j).view.set, s'.mem.mem ((dst j).view.loc (c : Thread nD τ)) i = landed m c j i⌝ : sProp 𝕄) := by
  induction S using Finset.induction_on with
  | empty => iintro -; ipureintro; exact fun j h => absurd h (Finset.notMem_empty j)
  | insert j S hj ih =>
    rw [bigSep_insert hj]
    show iprop(SI s' ∗ ((dst j).view.loc (c : Thread nD τ) ↦[(dst j).view.set]{fullShare} landed m c j) ∗ bigSep S fun j => dstPts c j (landed m c j)) ⊢ _
    iintro ⟨HSI, H, HS⟩
    icombine HSI H gives %h
    ihave %hS := ih $$ [HSI HS]
    · isplitl [HSI] <;> iassumption
    ipureintro
    exact fun j' h' => (Finset.mem_insert.mp h').elim (fun e => e ▸ h) (hS j')

/-- Every semaphore is scoped. -/
theorem all_scoped : ∀ sm : SemLoc sig, sm.isScoped .tc = true := by decide

/-- What memory holds of a device at the end. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2))
  ∧ ∀ j, ∀ i ∈ (dst j).view.set, s.mem ((dst j).view.loc (c : Thread nD τ)) i = landed m c j i

/-- What a device ends with, read off the memory. -/
theorem read_fin (c : Dev nD) (s' : Phys nD τ sig (Elt F)) : iprop(fin m c ∗ SI s')
    ⊢ |={Set.univ}=> iprop(⌜Ends m c s'.mem ∧ ∀ sm : SemLoc sig, sm.isScoped .tc = true → s'.mem.sem ((c.tc : Thread nD τ), sm) = 0⌝ ∗ SI s') := by
  unfold fin kept
  iintro ⟨⟨⟨H0, H1, H2⟩, Hd, Hz⟩, HSI⟩
  ihave %hz := (tcScoped_read_pers c s') $$ [Hz HSI]
  · isplitl [Hz] <;> iassumption
  icombine HSI H0 gives %h0
  icombine HSI H1 gives %h1
  icombine HSI H2 gives %h2
  ihave %hd := ((read_slabs m c s' Finset.univ).trans Laws.persistently_pure.2) $$ [HSI Hd]
  · isplitl [HSI]; · iexact HSI
    unfold done; iexact Hd
  imodintro
  isplitr
  · ipureintro
    exact ⟨⟨⟨Buf.eq_of_forall_mem_univ h0, Buf.eq_of_forall_mem_univ h1, Buf.eq_of_forall_mem_univ h2⟩, fun j => hd j (Finset.mem_univ j)⟩, hz⟩
  · iexact HSI

/-- Both devices' runs: every array of gradients unchanged, every slab landed, every semaphore back at zero. -/
theorem run_main (g : Dev nD → PrngReg) :
    θ_run (defs (F := F)) (onTc (τ := τ) (main (F := F))) ⟨m, fun _ => 0, g⟩ (fun r => (∀ c, Ends m c r.2) ∧ r.2.sem = fun _ => 0) := by
  refine (θ_run (defs (F := F)) _ _).mono (Q := fun r => (∀ c : Dev nD, Ends m c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, funext fun g' => sems_of_reads (fun c => (hr.1 c).2) hr.2 g'
      (Or.inr (all_scoped g'.2))⟩)
    (adequate_tpu (defs (F := F)) _ _ _
    (reflect_intro_fupd_tc_sems (X := Unit) (Ix := Unit) (Name := ℕ) (U := UU) (Lvl := ℕ) 𝒱₀.lift (Pipeline.owing fun c => owed c js) 0 (noBookings fun _ => le_rfl)
      (Pipeline.owing_of_ne _) u₀ (fun _ c => iprop(dealt m c ∗ credits c ∗ owes (c : Thread nD τ) (owed c js) ∅)) (fun _ => fin m)
      (fun _ => iprop(emp)) Set.univ ?_ (fun _ c => wp_main m c) fun _ => ?_))
  · have hcore : (bigSep Finset.univ fun d : Dev nD =>
          coreInit (Ix := Unit) (Name := ℕ) (U := UU) (Lvl := ℕ) (Pipeline.owing fun c => owed c js) 0 (⟨m, fun _ => 0, g⟩ : MemSt nD τ sig (Elt F)) (d.tc : Thread nD τ))
        ⊢ (bigSep Finset.univ fun c : Dev nD => iprop(scopedSems0 (c : Thread nD τ) ∗ unscopedBufs c (fun b => m ((c : Thread nD τ).loc b))
          ∗ owes (c : Thread nD τ) (owed c js) ∅ ∗ credits c) : sProp 𝕄) :=
      bigSep_mono fun c _ => (Pipeline.coreInit_boundary_owing _ m g c).trans (by
        unfold boundary
        iintro ⟨⟨-, Hz, -⟩, Hb, -, HO, -, -, Hc⟩
        isplitl [Hz]; · iexact Hz
        isplitl [Hb]; · iexact Hb
        isplitl [HO]; · iexact HO
        iapply (creds c); iexact Hc)
    simp only [bigSep_sep'] at hcore ⊢
    iintro ⟨H, Hu⟩
    ihave Hc := hcore $$ H
    icases Hc with ⟨Hz, Hb, HO, Hc⟩
    unfold u₀
    ihave Hu2 := (ownU_pair _ _) $$ Hu
    icases Hu2 with ⟨-, HX⟩
    imod (deal m) $$ [Hz Hb HX] with Hd
    · isplitl [Hz]; · iexact Hz
      isplitl [Hb] <;> iassumption
    imodintro
    iexists ()
    isplitl
    · isplitl [Hd]; · iexact Hd
      isplitl [Hc] <;> iassumption
    · iempintro
  · iintro ⟨H, -, Hsc⟩ %s' HSI
    ihave %hsc := (scSems_read_zero m g s') $$ [Hsc HSI]
    · isplitl [Hsc] <;> iassumption
    imod (posts_fupd Finset.univ (read_fin m) s') $$ [H HSI] with %h
    · isplitl [H] <;> iassumption
    imodintro
    ipureintro
    exact ⟨fun c => h c (Finset.mem_univ c), hsc⟩

end Cert.ExchangeProof

end
-- ==== Proof.ExchangeValue.lean ====
/-
# What the exchange leaves, and the reference's slices

Device `c` ends with its peer's slabs `2 k + 1 - peer c` of each array: block `c` of the whole array of the
slabs the reference takes, the second device's even ones before the first one's odd ones.
-/
module

public import proofs.«01_k».proof.Proof.Exchange
public import proofs.«01_k».proof.Proof.Gen.Kernel31
public import proofs.«01_k».proof.Proof.Gen.Reference31Ideal.Run
public import proofs.«01_k».proof.Proof.Gen.Reference31Ideal.Read
public import proofs.«01_k».proof.Defs
public import Idealize.ShloMosaic.Lib.Pointwise.Index
public import Idealize.ShloMosaic.Lib.Pipeline.Value
public import Idealize.ShloMosaic.Lib.Layout

@[expose] public section

noncomputable section

namespace Cert.ExchangeProof

open Cert.Kernel31Ideal Cert.Kernel31Ideal.Gen
open Cert.SlabProof

open Idealize.ShloMosaic
open Idealize.ShloMosaic.TcCoe

variable {F : FTy → Type} [FloatOps F] (m : (ℓ : Loc nD τ sig) → Buf (Elt F) ℓ)

/-- The slab of its array a device's peer sends for chip `k`. -/
def row (c : Dev nD) (k : Fin 4) : Fin 8 := ⟨2 * k.val + 1 - (peer c).val, by omega⟩

variable {m}

/-- The first output: its slab `k` is the peer's. -/
theorem out0 {c : Dev nD} {s : MemSt nD τ sig (Elt F)} (h : Ends m c s) (k : Fin 4) (a : Fin 4096) (b : Fin 2051) :
    s.mem ((c : Thread nD τ).loc main_v1_0) (ix3 k a b) = m ((peer c : Thread nD τ).loc main_arg0) (ix3 (row c k) a b) := by
  have hi : (ix3 k a b : S4x4096x2051.Idx) ∈ (dst (0, k)).view.set := by
    rw [set_slab main_v1_0 (dst_inb0 k) squeezes_S1x4096x2051_S4096x2051]
    exact Rect.mem_set_unit.mpr (inside k a b)
  obtain ⟨x, -, hx⟩ := Finset.mem_map.mp hi
  refine (h.2 (0, k) _ hi).trans ((congrArg (landed m c (0, k)) hx.symm).trans ((View.write_emb_of_mem _ _ (Finset.mem_univ x)).trans ?_))
  refine congrArg (m ((peer c : Thread nD τ).loc main_arg0)) (moved (row c k) k a b _ _ _ _ _ (k0_off1_eq (peer c) k) rfl
    (slab_coord main_arg0 (k0_off1_inb (peer c) k) squeezes_S1x4096x2051_S4096x2051 x) (slab_coord main_v1_0 (dst_inb0 k) squeezes_S1x4096x2051_S4096x2051 x) hx)

/-- The second output: its slab `k` is the peer's. -/
theorem out1 {c : Dev nD} {s : MemSt nD τ sig (Elt F)} (h : Ends m c s) (k : Fin 4) (a : Fin 3328) (b : Fin 1024) :
    s.mem ((c : Thread nD τ).loc main_v1_1) (ix3 k a b) = m ((peer c : Thread nD τ).loc main_arg1) (ix3 (row c k) a b) := by
  have hi : (ix3 k a b : S4x3328x1024.Idx) ∈ (dst (1, k)).view.set := by
    rw [set_slab main_v1_1 (dst_inb1 k) squeezes_S1x3328x1024_S3328x1024]
    exact Rect.mem_set_unit.mpr (inside k a b)
  obtain ⟨x, -, hx⟩ := Finset.mem_map.mp hi
  refine (h.2 (1, k) _ hi).trans ((congrArg (landed m c (1, k)) hx.symm).trans ((View.write_emb_of_mem _ _ (Finset.mem_univ x)).trans ?_))
  refine congrArg (m ((peer c : Thread nD τ).loc main_arg1)) (moved (row c k) k a b _ _ _ _ _ (k0_off2_eq (peer c) k) rfl
    (slab_coord main_arg1 (k0_off2_inb (peer c) k) squeezes_S1x3328x1024_S3328x1024 x) (slab_coord main_v1_1 (dst_inb1 k) squeezes_S1x3328x1024_S3328x1024 x) hx)

/-- The third output: its slab `k` is the peer's. -/
theorem out2 {c : Dev nD} {s : MemSt nD τ sig (Elt F)} (h : Ends m c s) (k : Fin 4) (a : Fin 896) (b : Fin 1024) :
    s.mem ((c : Thread nD τ).loc main_v1_2) (ix3 k a b) = m ((peer c : Thread nD τ).loc main_arg2) (ix3 (row c k) a b) := by
  have hi : (ix3 k a b : S4x896x1024.Idx) ∈ (dst (2, k)).view.set := by
    rw [set_slab main_v1_2 (dst_inb2 k) squeezes_S1x896x1024_S896x1024]
    exact Rect.mem_set_unit.mpr (inside k a b)
  obtain ⟨x, -, hx⟩ := Finset.mem_map.mp hi
  refine (h.2 (2, k) _ hi).trans ((congrArg (landed m c (2, k)) hx.symm).trans ((View.write_emb_of_mem _ _ (Finset.mem_univ x)).trans ?_))
  refine congrArg (m ((peer c : Thread nD τ).loc main_arg2)) (moved (row c k) k a b _ _ _ _ _ (k0_off3_eq (peer c) k) rfl
    (slab_coord main_arg2 (k0_off3_inb (peer c) k) squeezes_S1x896x1024_S896x1024 x) (slab_coord main_v1_2 (dst_inb2 k) squeezes_S1x896x1024_S896x1024 x) hx)

/-- The reference's array of slabs: slab `k` of block `c` is its argument's slab `row c k` of the peer's block. -/
theorem slices_at {α : Type} {A B : Nat} (x : (⟨3, ![16, A, B]⟩ : Shape).Idx → α)
    (h8 : Shape.SlicesBy ⟨3, ![16, A, B]⟩ ![8, 0, 0] ![2, 1, 1] ⟨3, ![4, A, B]⟩) (h1 : Shape.SlicesBy ⟨3, ![16, A, B]⟩ ![1, 0, 0] ![2, 1, 1] ⟨3, ![4, A, B]⟩)
    (hc : Shape.Concatenates [⟨3, ![4, A, B]⟩, ⟨3, ![4, A, B]⟩] ⟨3, ![8, A, B]⟩ 0)
    (ht : Layout.Tiles ⟨3, ![4, A, B]⟩ ⟨3, ![8, A, B]⟩ 0 2) (ht' : Layout.Tiles ⟨3, ![8, A, B]⟩ ⟨3, ![16, A, B]⟩ 0 2)
    (c : Dev nD) (k : Fin 4) (a : Fin A) (b : Fin B) :
    Layout.block ⟨3, ![4, A, B]⟩ ⟨3, ![8, A, B]⟩ 0 2 c (concatenate ⟨3, ![8, A, B]⟩ 0
        [⟨⟨3, ![4, A, B]⟩, Host.slice ⟨3, ![4, A, B]⟩ ![8, 0, 0] ![2, 1, 1] x h8⟩, ⟨⟨3, ![4, A, B]⟩, Host.slice ⟨3, ![4, A, B]⟩ ![1, 0, 0] ![2, 1, 1] x h1⟩] hc) ht (ix3 k a b)
      = Layout.block ⟨3, ![8, A, B]⟩ ⟨3, ![16, A, B]⟩ 0 2 (peer c) x ht' (ix3 (row c k) a b) := by
  rw [Layout.block_apply, Layout.block_apply]
  fin_cases c
  · refine (concatenate_pair_apply_left 0 _ _ hc _ rfl (ix3 k a b) fun d => ?_).trans (congrArg x (funext fun d => Fin.ext ?_))
    · fin_cases d
      · exact (Nat.zero_add _).symm.trans (congrArg (· + k.val) (Nat.zero_mul _).symm)
      · rfl
      · rfl
    · fin_cases d
      · show 8 + 2 * k.val = 1 * 8 + (2 * k.val + 1 - 1); omega
      · show 0 + 1 * a.val = a.val; omega
      · show 0 + 1 * b.val = b.val; omega
  · refine (concatenate_pair_apply_right 0 _ _ hc _ rfl rfl (ix3 k a b) (fun d hd => ?_) ?_).trans (congrArg x (funext fun d => Fin.ext ?_))
    · fin_cases d
      · exact absurd rfl hd
      · rfl
      · rfl
    · show k.val + 4 = 1 * 4 + k.val; omega
    · fin_cases d
      · show 1 + 2 * k.val = 0 * 8 + (2 * k.val + 1 - 0); omega
      · show 0 + 1 * a.val = a.val; omega
      · show 0 + 1 * b.val = b.val; omega

end Cert.ExchangeProof

namespace Cert.Proof

open Idealize.ShloMosaic Idealize.SL.Sem Cert.ExchangeProof

section
attribute [local instance] Cert.Kernel31.Gen.facts Cert.Kernel31Ideal.Gen.facts Cert.Reference31Ideal.Gen.facts

/-- The exchange runs, keeps its arguments and leaves every semaphore at zero. -/
theorem exchange_frame_ideal : Cert.quiescent_Kernel31Ideal := fun m g _ =>
  (θ_run _ _ _).mono (fun r h => ⟨fun c => (h.1 c).1, h.2⟩) (run_main (F := Ideal) m g)

/-- So it does on bits: it is the same text. -/
theorem exchange_frame : Cert.quiescent_Kernel31 := fun m g _ =>
  (θ_run _ _ _).mono (fun r h => ⟨fun c => (h.1 c).1, h.2⟩) (run_main (F := Bits) m g)

/-- The reference runs, keeps its arguments and leaves every semaphore at zero. -/
theorem reference31_frame : Cert.quiescent_Reference31Ideal := by
  intro m g _
  exact (θ_run _ _ _).mono (fun r h => ⟨fun c => (h c).2.2.2, sem_eq_zero_of_no_sems rfl r.2⟩) (Cert.Reference31Ideal.Value.run m g)

/-- Each device ends with its block of the reference's arrays. -/
theorem exchange : Cert.algebraic_Kernel31Ideal_Reference31Ideal := by
  intro m g m' g' _ hagree
  refine ⟨_, _, _, (θ_run _ _ _).mono (fun r h c => ⟨?_, ?_, ?_, (h.1 c).1⟩) (run_main (F := Ideal) m g),
    (θ_run _ _ _).mono (fun r h => h 0) (Cert.Reference31Ideal.Value.run m' g')⟩
  · exact funext fun i => by
      rw [← ix3_eta i]
      exact (out0 (h.1 c) _ _ _).trans ((congrFun ((hagree (peer c)).1) _).trans (slices_at _ _ _ _ _ _ c _ _ _).symm)
  · exact funext fun i => by
      rw [← ix3_eta i]
      exact (out1 (h.1 c) _ _ _).trans ((congrFun ((hagree (peer c)).2.1) _).trans (slices_at _ _ _ _ _ _ c _ _ _).symm)
  · exact funext fun i => by
      rw [← ix3_eta i]
      exact (out2 (h.1 c) _ _ _).trans ((congrFun ((hagree (peer c)).2.2) _).trans (slices_at _ _ _ _ _ _ c _ _ _).symm)
end

end Cert.Proof

end
-- ==== Proof.ChipExchange.lean ====
/-
# The exchange of the gradients among the four chips

Each device holds four slabs of each of its three arrays, one for every chip. It keeps its own by a local copy and
sends each of the other three to its chip, into the slab of that chip's output that bears the sender's number: three
local and nine remote copies started together, then every arrival awaited, every departure, and the local copies.
Copy `(a, k)` is array `a`'s slab to the `k`-th neighbour, `k = 0` the device itself. A remote copy has a departure
and an arrival, a local one an arrival only; each is a cell of one round and one duty, and an arrival's duty hands
the device the slab it holds from then on. The output slabs are the senders' to write from the start, so they are
dealt across the devices at launch, before any core runs.
-/
module

public import proofs.«01_k».proof.Proof.Gen.Kernel32Ideal
public import proofs.«01_k».proof.Proof.Gen.Kernel32Ideal.Points
public import proofs.«01_k».proof.Proof.Slab

@[expose] public section

noncomputable section

namespace Cert.ChipExchange

open Cert.Kernel32Ideal Cert.Kernel32Ideal.Gen
open Cert.SlabProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The copies -/

/-- A copy: the array and the neighbour. -/
abbrev J : Type := Fin 3 × Fin 4
/-- A remote copy: the array and the neighbour, counted without the device itself. -/
abbrev R : Type := Fin 3 × Fin 3
/-- The events awaited: the departures of the remote copies and the arrivals of all. -/
abbrev X : Type := R ⊕ J

/-- The remote copies in the order the kernel starts them. -/
def rs : List R := [(0, 0), (0, 1), (0, 2), (1, 0), (1, 1), (1, 2), (2, 0), (2, 1), (2, 2)]
/-- The events in the order the kernel awaits them: arrivals from others, departures, local copies. -/
def xs : List X := [.inr (0, 1), .inr (0, 2), .inr (0, 3), .inr (1, 1), .inr (1, 2), .inr (1, 3), .inr (2, 1), .inr (2, 2), .inr (2, 3),
  .inl (0, 0), .inl (0, 1), .inl (0, 2), .inl (1, 0), .inl (1, 1), .inl (1, 2), .inl (2, 0), .inl (2, 1), .inl (2, 2),
  .inr (0, 0), .inr (1, 0), .inr (2, 0)]

/-- The neighbours of a device: itself, the one along the second axis, the one along the first, the one across. -/
def peer (k : Fin 4) : Dev nD → Dev nD := match k with
  | 0 => fun c => c | 1 => ![1, 0, 3, 2] | 2 => ![2, 3, 0, 1] | 3 => ![3, 2, 1, 0]

/-- A device is its neighbour's neighbour. -/
theorem peer_peer (k : Fin 4) (c : Dev nD) : peer k (peer k c) = c := by revert k c; decide

/-- Different neighbours are different devices. -/
theorem peer_ne (c : Dev nD) (k k' : Fin 4) (h : k ≠ k') : peer k c ≠ peer k' c := by revert c k k'; decide

/-- Going to a neighbour, as a permutation of the devices. -/
def swap (k : Fin 4) : Dev nD ≃ Dev nD := ⟨peer k, peer k, peer_peer k, peer_peer k⟩

/-- The device a remote copy is addressed to, as the kernel computes it. -/
def goesTo (c : Dev nD) : R → Dev nD := fun j => match j with
  | (0, 0) => ⟨k0_dev1 c, k0_dev1_lt c⟩ | (0, 1) => ⟨k0_dev2 c, k0_dev2_lt c⟩ | (0, 2) => ⟨k0_dev3 c, k0_dev3_lt c⟩
  | (1, 0) => ⟨k0_dev4 c, k0_dev4_lt c⟩ | (1, 1) => ⟨k0_dev5 c, k0_dev5_lt c⟩ | (1, 2) => ⟨k0_dev6 c, k0_dev6_lt c⟩
  | (2, 0) => ⟨k0_dev7 c, k0_dev7_lt c⟩ | (2, 1) => ⟨k0_dev8 c, k0_dev8_lt c⟩ | (2, 2) => ⟨k0_dev9 c, k0_dev9_lt c⟩

/-- A remote copy goes to its neighbour. -/
theorem goesTo_eq (c : Dev nD) (j : R) : goesTo c j = peer j.2.succ c := by revert c j; decide +kernel

/-- A slab's shape. -/
abbrev tl (a : Fin 3) : Shape := match a with
  | 0 => S4096x2051 | 1 => S3328x1024 | 2 => S896x1024
/-- An array's element type. -/
abbrev el (a : Fin 3) : EltTy := match a with
  | 0 => .bf16 | 1 => .bf16 | 2 => .f32

/-- Where the slab of a neighbour starts in the first array, as the kernel computes it. -/
abbrev off0 (c : Dev nD) (k : Fin 4) : Fin 3 → Nat := match k with
  | 0 => k0_off1 c | 1 => k0_off4 c 0#32 1#32 | 2 => k0_off4 c 1#32 0#32 | 3 => k0_off4 c 1#32 1#32
/-- The same of the second. -/
abbrev off1 (c : Dev nD) (k : Fin 4) : Fin 3 → Nat := match k with
  | 0 => k0_off2 c | 1 => k0_off5 c 0#32 1#32 | 2 => k0_off5 c 1#32 0#32 | 3 => k0_off5 c 1#32 1#32
/-- The same of the third. -/
abbrev off2 (c : Dev nD) (k : Fin 4) : Fin 3 → Nat := match k with
  | 0 => k0_off3 c | 1 => k0_off6 c 0#32 1#32 | 2 => k0_off6 c 1#32 0#32 | 3 => k0_off6 c 1#32 1#32

/-- It is the slab of the neighbour's number. -/
theorem off0_eq (c : Dev nD) (k : Fin 4) : off0 c k = ![(peer k c).val, 0, 0] := by revert c k; decide +kernel
/-- The same of the second. -/
theorem off1_eq (c : Dev nD) (k : Fin 4) : off1 c k = ![(peer k c).val, 0, 0] := by revert c k; decide +kernel
/-- The same of the third. -/
theorem off2_eq (c : Dev nD) (k : Fin 4) : off2 c k = ![(peer k c).val, 0, 0] := by revert c k; decide +kernel

/-- A slab lies inside the first array. -/
theorem off0_inb (c : Dev nD) (k : Fin 4) : ∀ a, off0 c k a + S1x4096x2051.size a ≤ S4x4096x2051.size a := match k with
  | 0 => k0_off1_inb c | 1 => k0_off4_inb c 0 | 2 => k0_off4_inb c 1 | 3 => k0_off4_inb c 2
/-- A slab lies inside the second. -/
theorem off1_inb (c : Dev nD) (k : Fin 4) : ∀ a, off1 c k a + S1x3328x1024.size a ≤ S4x3328x1024.size a := match k with
  | 0 => k0_off2_inb c | 1 => k0_off5_inb c 0 | 2 => k0_off5_inb c 1 | 3 => k0_off5_inb c 2
/-- A slab lies inside the third. -/
theorem off2_inb (c : Dev nD) (k : Fin 4) : ∀ a, off2 c k a + S1x896x1024.size a ≤ S4x896x1024.size a := match k with
  | 0 => k0_off3_inb c | 1 => k0_off6_inb c 0 | 2 => k0_off6_inb c 1 | 3 => k0_off6_inb c 2

/-- A slab of the first array consists of whole words. -/
theorem off0_words (c : Dev nD) (k : Fin 4) : (Rect.unit (s := S4x4096x2051) (off0 c k) S1x4096x2051.size (off0_inb c k)).WholeWords (EltTy.packing .bf16) := match k with
  | 0 => k0_off1_wordsbf16 c | 1 => k0_off4_wordsbf16 c 0 | 2 => k0_off4_wordsbf16 c 1 | 3 => k0_off4_wordsbf16 c 2
/-- A slab of the second consists of whole words. -/
theorem off1_words (c : Dev nD) (k : Fin 4) : (Rect.unit (s := S4x3328x1024) (off1 c k) S1x3328x1024.size (off1_inb c k)).WholeWords (EltTy.packing .bf16) := match k with
  | 0 => k0_off2_wordsbf16 c | 1 => k0_off5_wordsbf16 c 0 | 2 => k0_off5_wordsbf16 c 1 | 3 => k0_off5_wordsbf16 c 2

/-- Device `c`'s slab of array `a` for its `k`-th neighbour. -/
abbrev src (c : Dev nD) (a : Fin 3) (k : Fin 4) : Memref sig .tc .hbm (tl a) (el a) := match a with
  | 0 => ((Memref.whole main_arg0).slice (Rect.unit (s := S4x4096x2051) (off0 c k) S1x4096x2051.size (off0_inb c k)) (fun _ => rfl)).squeeze S4096x2051 squeezes_S1x4096x2051_S4096x2051
  | 1 => ((Memref.whole main_arg1).slice (Rect.unit (s := S4x3328x1024) (off1 c k) S1x3328x1024.size (off1_inb c k)) (fun _ => rfl)).squeeze S3328x1024 squeezes_S1x3328x1024_S3328x1024
  | 2 => ((Memref.whole main_arg2).slice (Rect.unit (s := S4x896x1024) (off2 c k) S1x896x1024.size (off2_inb c k)) (fun _ => rfl)).squeeze S896x1024 squeezes_S1x896x1024_S896x1024

/-- The slab of output `a` at the number of device `c`'s `k`-th neighbour. -/
abbrev out (c : Dev nD) (a : Fin 3) (k : Fin 4) : Memref sig .tc .hbm (tl a) (el a) := match a with
  | 0 => ((Memref.whole main_v1_0).slice (Rect.unit (s := S4x4096x2051) (off0 c k) S1x4096x2051.size (off0_inb c k)) (fun _ => rfl)).squeeze S4096x2051 squeezes_S1x4096x2051_S4096x2051
  | 1 => ((Memref.whole main_v1_1).slice (Rect.unit (s := S4x3328x1024) (off1 c k) S1x3328x1024.size (off1_inb c k)) (fun _ => rfl)).squeeze S3328x1024 squeezes_S1x3328x1024_S3328x1024
  | 2 => ((Memref.whole main_v1_2).slice (Rect.unit (s := S4x896x1024) (off2 c k) S1x896x1024.size (off2_inb c k)) (fun _ => rfl)).squeeze S896x1024 squeezes_S1x896x1024_S896x1024

/-- An output slab at a neighbour: the sender's number, whichever of the two says so. -/
theorem out_peer (c : Dev nD) (a : Fin 3) (k : Fin 4) : out (peer k c) a k = out c a 0 := match a with
  | 0 => slab_congr main_v1_0 squeezes_S1x4096x2051_S4096x2051 (off0_inb _ k) (off0_inb c 0) (by rw [off0_eq, off0_eq, peer_peer]; rfl)
  | 1 => slab_congr main_v1_1 squeezes_S1x3328x1024_S3328x1024 (off1_inb _ k) (off1_inb c 0) (by rw [off1_eq, off1_eq, peer_peer]; rfl)
  | 2 => slab_congr main_v1_2 squeezes_S1x896x1024_S896x1024 (off2_inb _ k) (off2_inb c 0) (by rw [off2_eq, off2_eq, peer_peer]; rfl)

/-- A sent slab consists of whole words. -/
theorem src_wordExact (c : Dev nD) (a : Fin 3) (k : Fin 4) : (src c a k).view.WordExact := match a with
  | 0 => ((Memref.isWhole_whole main_arg0).wordExact_slice rfl _ (off0_words c k)).reshape _ _
  | 1 => ((Memref.isWhole_whole main_arg1).wordExact_slice rfl _ (off1_words c k)).reshape _ _
  | 2 => (View.wordExact_bits rfl).reshape _ _

/-- A received slab consists of whole words. -/
theorem out_wordExact (c : Dev nD) (a : Fin 3) (k : Fin 4) : (out c a k).view.WordExact := match a with
  | 0 => ((Memref.isWhole_whole main_v1_0).wordExact_slice rfl _ (off0_words c k)).reshape _ _
  | 1 => ((Memref.isWhole_whole main_v1_1).wordExact_slice rfl _ (off1_words c k)).reshape _ _
  | 2 => (View.wordExact_bits rfl).reshape _ _

/-- The semaphore an event is counted on. -/
def semOf (x : X) : DmaSem sig := match x with
  | .inl (a, r) => (⟨3 * a.val + r.val, by have := a.isLt; have := r.isLt; omega⟩ : Fin 21)
  | .inr (a, ⟨0, _⟩) => (⟨18 + a.val, by have := a.isLt; omega⟩ : Fin 21)
  | .inr (a, ⟨r + 1, h⟩) => (⟨9 + (3 * a.val + r), by have := a.isLt; omega⟩ : Fin 21)

/-! ## The body, over the lists of copies -/

/-- A received slab is not scratch. -/
theorem out_hsc (c : Dev nD) (a : Fin 3) (k : Fin 4) : (out c a k).view.ref.isScScratch = false := match a with
  | 0 => rfl
  | 1 => rfl
  | 2 => rfl

abbrev PR (F : FTy → Type) : Type 1 := Prog (TpuEff nD τ sig (Elt F) Λ₀ .tc) PUnit

/-- Copy the device's own slabs of a list of arrays, then go on. -/
def keeps (c : Dev nD) (k : PR F) : List (Fin 3) → PR F
  | [] => k
  | a :: l => .op (.enqueueDma (src c a 0) (.here (out c a 0)) (.dma (semOf (.inr (a, 0)))) (src_wordExact c a 0) (out_wordExact c a 0) ⟨Or.inl rfl, trivial⟩)
      fun _ => keeps c k l

/-- Start the remote copies of a list, copy `j` addressed to `n j`, then go on. -/
def starts (c : Dev nD) (n : R → Dev nD) (k : PR F) : List R → PR F
  | [] => k
  | j :: l => .op (.enqueueDma (src c j.1 j.2.succ) (.remote (Dev.tc (n j) : Thread nD τ) (out c j.1 0) (.dma (semOf (.inl j))) (out_hsc c j.1 0)) (.dma (semOf (.inr (j.1, j.2.succ))))
      (src_wordExact c j.1 j.2.succ) (out_wordExact c j.1 0) ⟨⟨rfl, Or.inl rfl⟩, trivial⟩) fun _ => starts c n k l

/-- The array of an event. -/
abbrev arr (x : X) : Fin 3 := match x with
  | .inl j => j.1 | .inr j => j.1
/-- The two slabs a wait names, in its order. -/
abbrev fst (c : Dev nD) (x : X) : Memref sig .tc .hbm (tl (arr x)) (el (arr x)) := match x with
  | .inl j => out c j.1 0 | .inr j => src c j.1 0
abbrev snd (c : Dev nD) (x : X) : Memref sig .tc .hbm (tl (arr x)) (el (arr x)) := match x with
  | .inl j => src c j.1 j.2.succ | .inr j => out c j.1 j.2

/-- The first slab a wait names consists of whole words. -/
theorem fst_wordExact (c : Dev nD) (x : X) : (fst c x).view.WordExact := match x with
  | .inl j => out_wordExact c j.1 0 | .inr j => src_wordExact c j.1 0
/-- The same of the second. -/
theorem snd_wordExact (c : Dev nD) (x : X) : (snd c x).view.WordExact := match x with
  | .inl j => src_wordExact c j.1 j.2.succ | .inr j => out_wordExact c j.1 j.2

/-- Await the events of a list, then go on. -/
def waits (c : Dev nD) (k : PR F) : List X → PR F
  | [] => k
  | x :: l => .op (.waitDma2 (semOf x) (fst c x) (snd c x) (fst_wordExact c x) (snd_wordExact c x)) fun _ => waits c k l

/-- The kernel's body after it has read its device's number. -/
def tailOf (c : Dev nD) : PR F := keeps c (starts c (goesTo c) (waits c (.ret ⟨⟩) xs) rs) [0, 1, 2]

set_option maxRecDepth 20000 in
/-- The kernel's body: read the device's number; copy, start, await. -/
theorem body_eq (t : Fin cfg0.N) : bodyAt0 (F := F) t = .op .deviceId tailOf := by
  rfl

/-! ## The resource algebra, the cells, the contents -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- The cell of an event of a device. -/
abbrev csem : X → SemLoc sig := fun x => .dma (semOf x)
abbrev cell (c : Dev nD) (x : X) : GSem nD τ sig := ((c : Thread nD τ), csem x)
abbrev kcell (x : Dev nD × X) : GSem nD τ sig := cell x.1 x.2

/-- What a copy of array `a` adds to its cells. -/
def N (a : Fin 3) : ℕ := (out 0 a 0).view.dmaCredit
/-- Every copy moves something. -/
theorem N_pos (a : Fin 3) : 0 < N a := match a with
  | 0 => View.dmaCredit_pos _ (show 0 < S4096x2051.numel by decide)
  | 1 => View.dmaCredit_pos _ (show 0 < S3328x1024.numel by decide)
  | 2 => View.dmaCredit_pos _ (show 0 < S896x1024.numel by decide)
/-- A slab of an output counts as much as the first. -/
theorem out_credit (c : Dev nD) (a : Fin 3) (k : Fin 4) : (out c a k).view.dmaCredit = N a := match a with
  | 0 => rfl
  | 1 => rfl
  | 2 => rfl
/-- What an event is awaited by. -/
theorem snd_credit (c : Dev nD) (x : X) : (snd c x).view.dmaCredit = N (arr x) := match x with
  | .inr (a, k) => out_credit c a k
  | .inl (0, r) => rfl
  | .inl (1, r) => rfl
  | .inl (2, r) => rfl

/-- An output slab of device `c`, as launched. -/
def fresh (c : Dev nD) {s : Shape} {e : EltTy} (v : Memref sig .tc .hbm s e) : sProp 𝕄 :=
  v.view.loc (c : Thread nD τ) ↦[v.view.set]{fullShare} m (v.view.loc (c : Thread nD τ))
/-- A slab `v` of device `c` holding what slab `w` of device `d` was launched with. -/
def holds (c : Dev nD) {s : Shape} {e : EltTy} (v : Memref sig .tc .hbm s e) (d : Dev nD) (w : Memref sig .tc .hbm s e) : sProp 𝕄 :=
  v.view.loc (c : Thread nD τ) ↦[v.view.set]{fullShare}
    v.view.write (Elt F) (m (v.view.loc (c : Thread nD τ))) (w.view.read (Elt F) (m (w.view.loc (d : Thread nD τ)))) Finset.univ
/-- Half of the slab device `c` sends to its `k`-th neighbour, as launched. -/
def srcPts (c : Dev nD) (a : Fin 3) (k : Fin 4) : sProp 𝕄 :=
  (src c a k).view.loc (c : Thread nD τ) ↦[(src c a k).view.set]{fullShare.right} m ((src c a k).view.loc (c : Thread nD τ))

/-- What copy `(a, k)` leaves on device `c`: its `k`-th neighbour's slab for it. -/
def landed (c : Dev nD) (j : J) : sProp 𝕄 := holds m c (out c j.1 j.2) (peer j.2 c) (src (peer j.2 c) j.1 j.2)

/-- What a wait hands over: an arrival's the slab, a departure's nothing. -/
def pay (c : Dev nD) (x : X) : sProp 𝕄 := match x with
  | .inl _ => iprop(emp) | .inr j => landed m c j

omit [FloatOps F] in
/-- What a semaphore hands over may be kept in its record. -/
instance pay_storable (c : Dev nD) (x : X) : BI.Storable (upEmb : UEmb _ 𝕄) (pay (F := F) m c x) := by
  unfold pay landed holds; split <;> infer_instance

/-! ## The schedule -/

/-- The event of a semaphore. -/
def xOf (q : Fin 21) : X := if q.val < 9 then .inl (⟨q.val / 3 % 3, by omega⟩, ⟨q.val % 3, by omega⟩)
  else if q.val < 18 then .inr (⟨(q.val - 9) / 3 % 3, by omega⟩, ⟨q.val % 3 + 1, by omega⟩) else .inr (⟨q.val % 3, by omega⟩, 0)
/-- The event of the semaphore of an event. -/
theorem xOf_semOf (x : X) : xOf (semOf x) = x := by revert x; decide

/-- One round, of one duty: the copy's credit. -/
def rd : Rounds.Schedule (GSem nD τ sig) Unit 𝕄 where
  duties g r := if r = 0 ∧ g.1.2 = .tc then {()} else ∅
  unitless _ := False
  amount g _ _ := match g.2 with
    | .dma q => N (arr (xOf q)) | .reg _ => 1
  payload g _ _ := match g.2 with
    | .dma q => pay m g.1.1 (xOf q) | .reg _ => iprop(emp)
  amount_pos g _ _ _ := by
    split
    · exact N_pos _
    · exact Nat.one_pos

omit [FloatOps F] in
/-- The same for every semaphore of the schedule. -/
instance rd_payload_storable (g : GSem nD τ sig) (r : ℕ) (d : Unit) :
    BI.Storable (upEmb : UEmb _ 𝕄) ((rd (F := F) m).payload g r d) := by
  dsimp only [rd]; split <;> infer_instance

section Sched
variable (c : Dev nD) (x : X)

omit [FloatOps F] in
/-- An event's semaphore is raised once in its only round. -/
theorem duties_cell : (rd (F := F) m).duties (cell c x) 0 = {()} := by dsimp only [rd]; exact if_pos ⟨rfl, rfl⟩
omit [FloatOps F] in
/-- Nothing is raised after that round. -/
theorem duties_later (g : GSem nD τ sig) : ∀ r, 1 ≤ r → (rd (F := F) m).duties g r = ∅ :=
  fun r hr => by dsimp only [rd]; exact if_neg fun h => by omega
omit [FloatOps F] in
/-- By how much it is raised. -/
theorem amount_cell : (rd (F := F) m).amount (cell c x) 0 () = N (arr x) := by
  show N (arr (xOf (semOf x))) = N (arr x); rw [xOf_semOf]
omit [FloatOps F] in
/-- What it hands over. -/
theorem payload_cell (d : Unit) : (rd (F := F) m).payload (cell c x) 0 d = pay m c x := by
  show pay m c (xOf (semOf x)) = pay m c x; rw [xOf_semOf]
omit [FloatOps F] in
/-- What a wait on it takes. -/
theorem expect_cell : (rd (F := F) m).expect (cell c x) 0 = N (arr x) := by
  unfold Schedule.expect Schedule.amountOf; rw [duties_cell, Finset.sum_singleton, amount_cell]
omit [FloatOps F] in
/-- What is handed over when nothing has been taken yet. -/
theorem rest_cell : bigSep ((rd (F := F) m).duties (cell c x) 0 \ ∅) (fun d => (rd (F := F) m).payload (cell c x) 0 d) = pay m c x := by
  rw [Finset.sdiff_empty, duties_cell, bigSep_singleton, payload_cell]
omit [FloatOps F] in
/-- Its duty is one of its first round's. -/
theorem duty_mem : () ∈ (rd (F := F) m).duties (cell c x) 0 := by rw [duties_cell]; exact Finset.mem_singleton_self _

end Sched

/-! ## The body -/

abbrev 𝒱₀ : Variants := Variants.none

/-- The credit a device owes its neighbours' arrivals while a list is still to be started. -/
def owed (c : Dev nD) : List R → CellTallies nD τ sig Unit
  | [] => 0
  | j :: l => owed c l + tallyAt (cell (peer j.2.succ c) (.inr (j.1, j.2.succ))) () (N j.1)

/-- Every cell's invariant, and that it has reached round 0. -/
def records (K : Dev nD × X → ℕ) : sProp 𝕄 :=
  iprop((bigSep Finset.univ fun x : Dev nD × X => cellInv ER (rd m) (K x) (kcell x))
    ∗ bigSep Finset.univ fun x : Dev nD × X => reached ER (kcell x) 0)

omit [FloatOps F] in
/-- The records may be used any number of times. -/
instance records_persistent (K : Dev nD × X → ℕ) : BI.Persistent (records m K) := by unfold records; infer_instance

omit [FloatOps F] in
/-- The record of one semaphore. -/
theorem inv_at (K : Dev nD × X → ℕ) (c : Dev nD) (x : X) : records m K ⊢ cellInv ER (rd m) (K (c, x)) (cell c x) := by
  unfold records; iintro ⟨H, -⟩
  iapply (show (bigSep Finset.univ fun x : Dev nD × X => (cellInv ER (rd m) (K x) (kcell x) : sProp 𝕄)) ⊢ cellInv ER (rd m) (K (c, x)) (cell c x) from bigSep_elim (Finset.mem_univ (c, x))); iexact H
omit [FloatOps F] in
/-- Each semaphore has reached its first round. -/
theorem reached_at (K : Dev nD × X → ℕ) (c : Dev nD) (x : X) : records m K ⊢ reached ER (cell c x) 0 := by
  unfold records; iintro ⟨-, H⟩
  iapply (show (bigSep Finset.univ fun x : Dev nD × X => (reached ER (kcell x) 0 : sProp 𝕄)) ⊢ reached ER (cell c x) 0 from bigSep_elim (Finset.mem_univ (c, x))); iexact H

/-- What copying the device's own slab of array `a` takes: the slab, the output slab it lands in, the duty it pays. -/
def keepRes (c : Dev nD) (a : Fin 3) : sProp 𝕄 :=
  iprop(srcPts m c a 0 ∗ fresh m c (out c a 0) ∗ dutyTok ER (cell c (.inr (a, 0))) 0 ())

/-- What starting remote copy `j` takes: the slab to send, the neighbour's slab it lands in, the two duties it pays. -/
def startRes (c : Dev nD) (j : R) : sProp 𝕄 :=
  iprop(srcPts m c j.1 j.2.succ ∗ fresh m (peer j.2.succ c) (out c j.1 0)
    ∗ dutyTok ER (cell c (.inl j)) 0 () ∗ dutyTok ER (cell (peer j.2.succ c) (.inr (j.1, j.2.succ))) 0 ())

/-- The credit of an event. -/
def credit (c : Dev nD) (x : X) : sProp 𝕄 := cred (tallyAt (cell c x) () (N (arr x)))

/-- What waiting on a cell takes: its credit and its position. -/
def waitRes (c : Dev nD) (x : X) : sProp 𝕄 := iprop(credit c x ∗ atPos ER (cell c x) 0 ∅ 0)

/-- What a wait leaves: the counter at zero, and what the duty handed over. -/
def waited (c : Dev nD) (x : X) : sProp 𝕄 := iprop(semVal (cell c x) 0 ∗ pay m c x)

/-- A list of own slabs copied. -/
theorem wp_keeps (K : Dev nD × X → ℕ) (c : Dev nD) (k : PR F) (Q : PUnit → sProp 𝕄) : ∀ l : List (Fin 3),
    iprop(records m K ∗ sepL (keepRes m c) l)
      ⊢ iprop((sepL (fun a => credit c (.inr (a, 0))) l
            -∗ wp frame (wpE (defs₀ (F := F)) 𝒱₀ (c : Thread nD τ) none) Set.univ k Q)
          -∗ wp frame (wpE (defs₀ (F := F)) 𝒱₀ (c : Thread nD τ) none) Set.univ (keeps c k l) Q)
  | [] => by
    iintro - Hk
    iapply Hk; unfold sepL; iempintro
  | a :: l => by
    have hs := Rounds.wp_copy_pointsTo (Q := Q) (k := fun _ => keeps (F := F) c k l) (defs := defs₀ (F := F)) (Γ := .empty) 𝒱₀ ER (rd m) (c : Thread nD τ) none
      (κ := K (c, .inr (a, 0))) (src := src c a 0) (dst := out c a 0) (sem := csem (.inr (a, 0)))
      (hsrc := src_wordExact c a 0) (hdst := out_wordExact c a 0) (hsem := ⟨Or.inl rfl, trivial⟩)
      (q := fullShare.right) (fs := m ((src c a 0).view.loc (c : Thread nD τ))) (fd := m ((out c a 0).view.loc (c : Thread nD τ)))
      (r := 0) (d := ()) (Es := Set.univ) (duty_mem m c (.inr (a, 0))) () (N a) (out_credit c a 0) (amount_cell m c (.inr (a, 0)))
      (by
        rw [show ((c : Thread nD τ), csem (.inr (a, 0))) = cell c (.inr (a, 0)) from rfl, payload_cell]
        unfold pay landed holds; iintro ⟨H, -⟩; iexact H)
    rw [sepL, sepL]
    unfold keepRes srcPts fresh
    iintro ⟨#HR, ⟨Hs, Hd, Ht⟩, Hl⟩ Hk
    iapply hs $$ [Hs Hd Ht]
    · isplitr; · iapply (inv_at m K c (.inr (a, 0))); iexact HR
      isplitl [Hs]; · iexact Hs
      isplitl [Hd]; · iexact Hd
      isplitl [Ht]; · iexact Ht
      iapply (reached_at m K c (.inr (a, 0))); iexact HR
    iintro Hc
    iapply (wp_keeps K c k Q l) $$ [Hl]
    · isplitr; · iexact HR
      unfold keepRes srcPts fresh; iexact Hl
    iintro Hcs
    iapply Hk
    isplitl [Hc]
    · unfold credit; iexact Hc
    iexact Hcs

/-- One remote copy started. -/
theorem wp_start (K : Dev nD × X → ℕ) (c : Dev nD) (n : R → Dev nD) (hn : ∀ j, n j = peer j.2.succ c) (j : R) (l : List R)
    (k : PR F) (W : Waits sig Unit) (Q : PUnit → sProp 𝕄) :
    iprop(records m K ∗ startRes m c j ∗ owes (c : Thread nD τ) (owed c (j :: l)) W)
      ⊢ iprop(((credit c (.inl j) ∗ owes (c : Thread nD τ) (owed c l) W)
            -∗ wp frame (wpE (defs₀ (F := F)) 𝒱₀ (c : Thread nD τ) none) Set.univ (starts c n k l) Q)
          -∗ wp frame (wpE (defs₀ (F := F)) 𝒱₀ (c : Thread nD τ) none) Set.univ (starts c n k (j :: l)) Q) := by
  obtain rfl : n = fun j => peer j.2.succ c := funext hn
  have hs := Rounds.wp_send_pointsTo (Q := Q) (k := fun _ => starts (F := F) c (fun j => peer j.2.succ c) k l) (defs := defs₀ (F := F)) (Γ := .empty) 𝒱₀ ER (rd m) (c : Thread nD τ) none
    (κ₁ := K (c, .inl j)) (κ₂ := K (peer j.2.succ c, .inr (j.1, j.2.succ)))
    (c' := (peer j.2.succ c : Thread nD τ)) (src := src c j.1 j.2.succ) (dst := out c j.1 0) (sS := csem (.inl j)) (sem := csem (.inr (j.1, j.2.succ))) (hsc := out_hsc c j.1 0)
    (hsrc := src_wordExact c j.1 j.2.succ) (hdst := out_wordExact c j.1 0) (hsem := ⟨⟨rfl, Or.inl rfl⟩, trivial⟩)
    (q := fullShare.right) (fs := m ((src c j.1 j.2.succ).view.loc (c : Thread nD τ))) (fd := m ((out c j.1 0).view.loc (peer j.2.succ c : Thread nD τ)))
    (r₁ := 0) (r₂ := 0) (d₁ := ()) (d₂ := ()) (Es := Set.univ)
    (duty_mem m c (.inl j)) (duty_mem m (peer j.2.succ c) (.inr (j.1, j.2.succ)))
    () () (N j.1) (out_credit c j.1 0) (amount_cell m c (.inl j)) (amount_cell m (peer j.2.succ c) (.inr (j.1, j.2.succ))) (owed c l) rfl (W := W)
    (by rw [show ((c : Thread nD τ), csem (.inl j)) = cell c (.inl j) from rfl, payload_cell]; unfold pay; iintro -; iempintro)
    (by
      rw [show ((peer j.2.succ c : Thread nD τ), csem (.inr (j.1, j.2.succ))) = cell (peer j.2.succ c) (.inr (j.1, j.2.succ)) from rfl, payload_cell]
      unfold pay landed; dsimp only; rw [out_peer, peer_peer]; unfold holds; exact BI.Entails.refl _)
  unfold startRes srcPts fresh credit
  iintro ⟨#HR, ⟨Hs, Hd, Ht, Ht'⟩, HO⟩
  iapply hs
  isplitr; · iapply (inv_at m K c (.inl j)); iexact HR
  isplitr; · iapply (inv_at m K (peer j.2.succ c) (.inr (j.1, j.2.succ))); iexact HR
  isplitl [Hs]; · iexact Hs
  isplitl [Hd]; · iexact Hd
  isplitl [HO]; · iexact HO
  isplitl [Ht]; · iexact Ht
  isplitr; · iapply (reached_at m K c (.inl j)); iexact HR
  isplitl [Ht']; · iexact Ht'
  iapply (reached_at m K (peer j.2.succ c) (.inr (j.1, j.2.succ))); iexact HR

/-- A list of remote copies started. -/
theorem wp_starts (K : Dev nD × X → ℕ) (c : Dev nD) (n : R → Dev nD) (hn : ∀ j, n j = peer j.2.succ c)
    (k : PR F) (W : Waits sig Unit) (Q : PUnit → sProp 𝕄) : ∀ l : List R,
    iprop(records m K ∗ sepL (startRes m c) l ∗ owes (c : Thread nD τ) (owed c l) W)
      ⊢ iprop(((sepL (fun j => credit c (.inl j)) l ∗ owes (c : Thread nD τ) 0 W)
            -∗ wp frame (wpE (defs₀ (F := F)) 𝒱₀ (c : Thread nD τ) none) Set.univ k Q)
          -∗ wp frame (wpE (defs₀ (F := F)) 𝒱₀ (c : Thread nD τ) none) Set.univ (starts c n k l) Q)
  | [] => by
    iintro ⟨-, -, HO⟩ Hk
    iapply Hk
    isplitr; · unfold sepL; iempintro
    iexact HO
  | j :: l => by
    rw [sepL, sepL]
    iintro ⟨#HR, ⟨Hj, Hl⟩, HO⟩ Hk
    iapply (wp_start m K c n hn j l k W Q) $$ [Hj HO]
    · isplitr; · iexact HR
      isplitl [Hj] <;> iassumption
    iintro ⟨Hc, HO⟩
    iapply (wp_starts K c n hn k W Q l) $$ [Hl HO]
    · isplitr; · iexact HR
      isplitl [Hl] <;> iassumption
    iintro ⟨Hcs, HO⟩
    iapply Hk
    isplitl [Hc Hcs]
    · isplitl [Hc] <;> iassumption
    iexact HO

/-- One event awaited, and its cell closed. -/
theorem wp_wait (K : Dev nD × X → ℕ) (c : Dev nD) (x : X) (l : List X)
    (k : PR F) (W : Waits sig Unit) (Q : PUnit → sProp 𝕄) :
    iprop(records m K ∗ waitRes c x ∗ owes (c : Thread nD τ) 0 W)
      ⊢ iprop(((waited m c x ∗ owes (c : Thread nD τ) 0 (insert (csem x, ()) W))
            -∗ wp frame (wpE (defs₀ (F := F)) 𝒱₀ (c : Thread nD τ) none) Set.univ (waits c k l) Q)
          -∗ wp frame (wpE (defs₀ (F := F)) 𝒱₀ (c : Thread nD τ) none) Set.univ (waits c k (x :: l)) Q) := by
  unfold waitRes waited credit
  iintro ⟨#HR, ⟨Hc, Hat⟩, HO⟩ Hk
  rw [waits]
  iapply (Rounds.wp_wait_rest_token 𝒱₀ ER (rd m) (c : Thread nD τ) none (κ := K (c, x)) (sm := csem x)
      (wpE_waitDma2_eq 𝒱₀ (c : Thread nD τ) none Set.univ) (Set.mem_univ _) () (O := 0) (W := W) (R := 0) (m := 0) (T := ∅)
      (by rw [Nat.zero_add, expect_cell, snd_credit])) $$ [Hc HO Hat]
  · isplitr; · iapply (inv_at m K c x); iexact HR
    isplitl [Hc]; · rw [snd_credit]; iexact Hc
    isplitl [HO]; · iexact HO
    isplitr; · rw [MayWait_zero]; iempintro
    iexact Hat
  iintro ⟨HO, Hat, -, Hpay⟩
  ihave Hp := (Entails.of_eq (rest_cell m c x)) $$ Hpay
  imod (Rounds.cell_close ER (rd m) (Set.mem_univ (K (c, x))) (fun h => h) (R := 0 + 1) (duties_later m (cell c x))) $$ [Hat] with Hz
  · isplitr; · iapply (inv_at m K c x); iexact HR
    iexact Hat
  iapply Hk
  isplitl [Hz Hp]
  · isplitl [Hz] <;> iassumption
  iexact HO

/-- A list of events awaited. -/
theorem wp_waits (K : Dev nD × X → ℕ) (c : Dev nD) (k : PR F) (Q : PUnit → sProp 𝕄) : ∀ (l : List X) (W : Waits sig Unit),
    iprop(records m K ∗ sepL (waitRes c) l ∗ owes (c : Thread nD τ) 0 W)
      ⊢ iprop(((sepL (waited m c) l ∗ ∃ W, owes (c : Thread nD τ) 0 W)
            -∗ wp frame (wpE (defs₀ (F := F)) 𝒱₀ (c : Thread nD τ) none) Set.univ k Q)
          -∗ wp frame (wpE (defs₀ (F := F)) 𝒱₀ (c : Thread nD τ) none) Set.univ (waits c k l) Q)
  | [], W => by
    iintro ⟨-, -, HO⟩ Hk
    iapply Hk
    isplitr; · unfold sepL; iempintro
    iexists W; iexact HO
  | x :: l, W => by
    rw [sepL, sepL]
    iintro ⟨#HR, ⟨Hj, Hl⟩, HO⟩ Hk
    iapply (wp_wait m K c x l k W Q) $$ [Hj HO]
    · isplitr; · iexact HR
      isplitl [Hj] <;> iassumption
    iintro ⟨Hw, HO⟩
    iapply (wp_waits K c k Q l _) $$ [Hl HO]
    · isplitr; · iexact HR
      isplitl [Hl] <;> iassumption
    iintro ⟨Hws, HO⟩
    iapply Hk
    isplitl [Hw Hws]
    · isplitl [Hw] <;> iassumption
    iexact HO

/-- What a device's body starts from, but its launch credit. -/
def start (c : Dev nD) : sProp 𝕄 :=
  iprop((∃ K, records m K) ∗ bigSep Finset.univ (keepRes m c) ∗ bigSep Finset.univ (startRes m c) ∗ bigSep Finset.univ fun x : X => atPos ER (cell c x) 0 ∅ 0)

/-- A device's counters, all at zero. -/
def zeros (c : Dev nD) : sProp 𝕄 := bigSep Finset.univ fun x : X => semVal (cell c x) 0

/-- The launch credit of a device: its arrivals' from others. -/
def credits (c : Dev nD) : sProp 𝕄 := bigSep Finset.univ fun j : R => credit c (.inr (j.1, j.2.succ))

/-- What the body leaves: the slabs landed. -/
def done (c : Dev nD) : sProp 𝕄 := bigSep Finset.univ (landed m c)

omit [FloatOps F] in
/-- Pieces of all copies: the device's own, and the remote ones. -/
theorem bigSep_copies (Φ : J → sProp 𝕄) :
    bigSep Finset.univ Φ = iprop((bigSep Finset.univ fun a : Fin 3 => Φ (a, 0)) ∗ bigSep Finset.univ fun j : R => Φ (j.1, j.2.succ)) := by
  have h4 : ∀ Ψ : Fin 4 → sProp 𝕄, bigSep Finset.univ Ψ = iprop(Ψ 0 ∗ bigSep Finset.univ fun r : Fin 3 => Ψ r.succ) := fun Ψ => by
    rw [bigSep_univ_eq_bigSepL [0, 1, 2, 3] (by decide) (by decide), bigSep_univ_eq_bigSepL [0, 1, 2] (by decide) (by decide)]
    rw [bigSepL_cons_cons, bigSepL_cons_cons, bigSepL_cons_cons, bigSepL_singleton, bigSepL_cons_cons, bigSepL_cons_cons, bigSepL_singleton]
    rfl
  rw [bigSep_univ_prod, bigSep_univ_prod, bigSep_congr (s := Finset.univ) fun (a : Fin 3) _ => h4 fun k => Φ (a, k), bigSep_sep']

omit [FloatOps F] in
/-- Pieces of all events: the departures and the arrivals. -/
theorem bigSep_events (Φ : X → sProp 𝕄) :
    bigSep Finset.univ Φ = iprop((bigSep Finset.univ fun j : R => Φ (.inl j)) ∗ bigSep Finset.univ fun j : J => Φ (.inr j)) :=
  bigSep_univ_sum Φ

/-- The body. -/
theorem wp_body (c : Dev nD) (t : Fin cfg0.N) (W : Waits sig Unit) (Q : PUnit → sProp 𝕄) :
    iprop(start m c ∗ credits c ∗ owes (c : Thread nD τ) (owed c rs) W)
      ⊢ iprop(((zeros c ∗ done m c ∗ ∃ W, owes (c : Thread nD τ) 0 W) -∗ Q ⟨⟩)
        -∗ wp frame (wpE (defs₀ (F := F)) 𝒱₀ (c : Thread nD τ) none) Set.univ (bodyAt0 t) Q) := by
  have hk : ∀ Φ : Fin 3 → sProp 𝕄, sepL Φ [0, 1, 2] = bigSep Finset.univ Φ := fun Φ => sepL_eq Φ _ (by decide)
  have hr : ∀ Φ : R → sProp 𝕄, sepL Φ rs = bigSep Finset.univ Φ := fun Φ => by rw [sepL_eq Φ rs (by decide), show rs.toFinset = Finset.univ by decide]
  have hx : ∀ Φ : X → sProp 𝕄, sepL Φ xs = bigSep Finset.univ Φ := fun Φ => by rw [sepL_eq Φ xs (by decide), show xs.toFinset = Finset.univ by decide]
  rw [body_eq]
  unfold tailOf start credits zeros done
  rw [wp_deviceId]
  iintro ⟨⟨⟨%K, #HR⟩, Hkp, Hst, Hat⟩, Hcr, HO⟩ Hk
  iapply (wp_keeps m K c _ Q [0, 1, 2]) $$ [Hkp]
  · isplitr; · iexact HR
    iapply (Entails.of_eq (hk (keepRes m c)).symm); iexact Hkp
  iintro HcK
  iapply (wp_starts m K c (goesTo c) (goesTo_eq c) _ W Q rs) $$ [Hst HO]
  · isplitr; · iexact HR
    isplitl [Hst]; · iapply (Entails.of_eq (hr (startRes m c)).symm); iexact Hst
    iexact HO
  iintro ⟨HcS, HO⟩
  ihave HcK := (Entails.of_eq (hk fun a => credit c (.inr (a, 0)))) $$ HcK
  ihave HcS := (Entails.of_eq (hr fun j => credit c (.inl j))) $$ HcS
  iapply (wp_waits m K c _ Q xs W) $$ [HcK HcS Hcr Hat HO]
  · isplitr; · iexact HR
    isplitl [HcK HcS Hcr Hat]
    · iapply (Entails.of_eq (hx (waitRes c)).symm)
      iapply (show iprop((bigSep Finset.univ fun x => credit (F := F) c x) ∗ bigSep Finset.univ fun x : X => (atPos ER (cell c x) 0 ∅ 0 : sProp 𝕄)) ⊢ bigSep Finset.univ (waitRes c) from
        Entails.of_eq (bigSep_sep' _ _ _).symm)
      isplitr [Hat]
      · iapply (Entails.of_eq ((bigSep_events fun x => credit (F := F) c x).trans (by rw [bigSep_copies fun j => credit (F := F) c (.inr j)])).symm)
        isplitl [HcS]; · iexact HcS
        isplitl [HcK] <;> iassumption
      iexact Hat
    iexact HO
  iintro ⟨Hw, ⟨%W', HO⟩⟩
  ihave Hw := (Entails.of_eq (hx (waited m c))) $$ Hw
  ihave Hw := (show bigSep Finset.univ (waited m c) ⊢ iprop((bigSep Finset.univ fun x : X => (semVal (cell c x) 0 : sProp 𝕄)) ∗ bigSep Finset.univ (pay m c)) from
        Entails.of_eq (bigSep_sep' _ _ _)) $$ Hw
  icases Hw with ⟨Hz, Hpay⟩
  ihave Hpay := (Entails.of_eq (bigSep_events (pay m c))) $$ Hpay
  icases Hpay with ⟨-, Hpay⟩
  rw [wp_ret]; imodintro
  iapply Hk
  isplitl [Hz]; · iexact Hz
  isplitl [Hpay]; · iexact Hpay
  iexists W'; iexact HO

/-! ## The region's proof data -/

/-- The call has one grid point. -/
theorem cfg0_N : cfg0.N = 1 := by decide
/-- That point. -/
def t₀ : Fin cfg0.N := ⟨0, by rw [cfg0_N]; decide⟩
/-- There is no other. -/
theorem fin_N (t : Fin cfg0.N) : t = t₀ := by
  obtain ⟨t, ht⟩ := t; have := cfg0_N; exact Fin.ext (by simp only [t₀]; omega)

/-- What the call holds before and after its point. -/
def dats (_ : Fin 1) (c : Dev nD) : Pipeline.Dat τ (Elt F) Unit ℕ UU ℕ cfg0 c where
  A w := w.elim0
  after w := w.elim0
  Φ t := match t with
    | ⟨0, _⟩ => iprop(start m c ∗ credits c)
    | ⟨_ + 1, _⟩ => iprop(zeros c ∗ done m c)
  q _ := fullShare
  owed t := match t with
    | ⟨0, _⟩ => owed c rs
    | ⟨_ + 1, _⟩ => 0

omit [FloatOps F] in
/-- No window, nothing held. -/
theorem bigSep_none (Φ : Fin cfg0.W → sProp 𝕄) : bigSep Finset.univ Φ = iprop(emp) := by
  rw [Finset.univ_eq_empty (α := Fin 0), BI.bigSep_empty]; rfl

/-- The library's obligation of the body. -/
theorem body_obligation (c : Dev nD) : Pipeline.BodyObligation (dats (F := F) m 0 c) (defs₀ (F := F)) 𝒱₀ () Set.univ := fun t => by
  rw [fin_N t]
  rw [bigSep_none, bigSep_none]
  show iprop((start m c ∗ credits c) ∗ (dats m 0 c).owesAt () t₀.castSucc ∗ emp) ⊢ wp frame (wpE (defs₀ (F := F)) 𝒱₀ c none) Set.univ (bodyAt0 t₀)
    (fun _ => iprop((zeros c ∗ done m c) ∗ (dats m 0 c).owesAt () t₀.succ ∗ emp))
  unfold Pipeline.Dat.owesAt Pipeline.owesWithin
  rw [show (dats m 0 c).owed t₀.castSucc = owed c rs from rfl, show (dats m 0 c).owed t₀.succ = 0 from rfl]
  iintro ⟨⟨Hs, Hc⟩, ⟨%W, -, HO⟩, -⟩
  iapply (wp_body m c t₀ W _) $$ [Hs Hc HO]
  · isplitl [Hs]; · iexact Hs
    isplitl [Hc] <;> iassumption
  iintro ⟨Hz, Hd, ⟨%W', HO⟩⟩
  isplitl [Hz Hd]
  · isplitl [Hz] <;> iassumption
  isplitl [HO]
  · iexists W'
    isplitr; · ipureintro; exact fun _ _ => Or.inl trivial
    iexact HO
  iempintro

/-! ## The memory dealt: the slabs -/

/-- The slabs of two neighbours are at different places. -/
theorem rows_apart (c : Dev nD) {k k' : Fin 4} (h : k ≠ k') : (peer k c).val + 1 ≤ (peer k' c).val ∨ (peer k' c).val + 1 ≤ (peer k c).val :=
  rows_apart' (peer_ne c k k' h)

/-- The sent slabs of the first array share no entry. -/
theorem src_disjoint0 (c : Dev nD) (k k' : Fin 4) (h : k ≠ k') : Disjoint (src c 0 k).view.set (src c 0 k').view.set :=
  disjoint_slabs main_arg0 (0 : Fin 3) squeezes_S1x4096x2051_S4096x2051 (off0_inb c k) (off0_inb c k') (by rw [off0_eq, off0_eq]; exact rows_apart c h)
/-- The sent slabs of the second array share no entry. -/
theorem src_disjoint1 (c : Dev nD) (k k' : Fin 4) (h : k ≠ k') : Disjoint (src c 1 k).view.set (src c 1 k').view.set :=
  disjoint_slabs main_arg1 (0 : Fin 3) squeezes_S1x3328x1024_S3328x1024 (off1_inb c k) (off1_inb c k') (by rw [off1_eq, off1_eq]; exact rows_apart c h)
/-- The sent slabs of the third array share no entry. -/
theorem src_disjoint2 (c : Dev nD) (k k' : Fin 4) (h : k ≠ k') : Disjoint (src c 2 k).view.set (src c 2 k').view.set :=
  disjoint_slabs main_arg2 (0 : Fin 3) squeezes_S1x896x1024_S896x1024 (off2_inb c k) (off2_inb c k') (by rw [off2_eq, off2_eq]; exact rows_apart c h)
/-- The received slabs of the first array share no entry. -/
theorem out_disjoint0 (c : Dev nD) (k k' : Fin 4) (h : k ≠ k') : Disjoint (out c 0 k).view.set (out c 0 k').view.set :=
  disjoint_slabs main_v1_0 (0 : Fin 3) squeezes_S1x4096x2051_S4096x2051 (off0_inb c k) (off0_inb c k') (by rw [off0_eq, off0_eq]; exact rows_apart c h)
/-- The received slabs of the second array share no entry. -/
theorem out_disjoint1 (c : Dev nD) (k k' : Fin 4) (h : k ≠ k') : Disjoint (out c 1 k).view.set (out c 1 k').view.set :=
  disjoint_slabs main_v1_1 (0 : Fin 3) squeezes_S1x3328x1024_S3328x1024 (off1_inb c k) (off1_inb c k') (by rw [off1_eq, off1_eq]; exact rows_apart c h)
/-- The received slabs of the third array share no entry. -/
theorem out_disjoint2 (c : Dev nD) (k k' : Fin 4) (h : k ≠ k') : Disjoint (out c 2 k).view.set (out c 2 k').view.set :=
  disjoint_slabs main_v1_2 (0 : Fin 3) squeezes_S1x896x1024_S896x1024 (off2_inb c k) (off2_inb c k') (by rw [off2_eq, off2_eq]; exact rows_apart c h)

/-- The half of its arguments a device keeps. -/
def kept (c : Dev nD) : sProp 𝕄 :=
  iprop((((c : Thread nD τ).loc main_arg0) ↦{fullShare.left} m ((c : Thread nD τ).loc main_arg0))
    ∗ (((c : Thread nD τ).loc main_arg1) ↦{fullShare.left} m ((c : Thread nD τ).loc main_arg1))
    ∗ (((c : Thread nD τ).loc main_arg2) ↦{fullShare.left} m ((c : Thread nD τ).loc main_arg2)))

omit [FloatOps F] in
/-- Pieces of all copies, one array at a time. -/
theorem bigSep_arrays (Φ : J → sProp 𝕄) :
    bigSep Finset.univ Φ = iprop((bigSep Finset.univ fun k => Φ (0, k)) ∗ (bigSep Finset.univ fun k => Φ (1, k)) ∗ bigSep Finset.univ fun k => Φ (2, k)) := by
  rw [bigSep_univ_prod, bigSep_univ_eq_bigSepL [0, 1, 2] (by decide) (by decide), bigSepL_cons_cons, bigSepL_cons_cons, bigSepL_singleton]; rfl

/-- Half of the slab of copy `j`, and the output slab it finds. -/
def sent (c : Dev nD) (j : J) : sProp 𝕄 := srcPts m c j.1 j.2
def found (c : Dev nD) (j : J) : sProp 𝕄 := fresh m c (out c j.1 j.2)

omit [FloatOps F] in
/-- A device's six arrays: half its arguments kept, half in the slabs it sends; its outputs in the slabs it receives. -/
theorem mem_split (c : Dev nD) : (unscopedBufs c (fun b => m ((c : Thread nD τ).loc b)) : sProp 𝕄)
    ⊢ iprop(kept m c ∗ bigSep Finset.univ (sent m c) ∗ bigSep Finset.univ (found m c)) := by
  have hb : (unscopedBufs c (fun b => m ((c : Thread nD τ).loc b)) : sProp 𝕄) = iprop(
      (((c : Thread nD τ).loc main_arg0) ↦{fullShare} m ((c : Thread nD τ).loc main_arg0))
      ∗ (((c : Thread nD τ).loc main_arg1) ↦{fullShare} m ((c : Thread nD τ).loc main_arg1))
      ∗ (((c : Thread nD τ).loc main_arg2) ↦{fullShare} m ((c : Thread nD τ).loc main_arg2))
      ∗ (((c : Thread nD τ).loc main_v1_0) ↦{fullShare} m ((c : Thread nD τ).loc main_v1_0))
      ∗ (((c : Thread nD τ).loc main_v1_1) ↦{fullShare} m ((c : Thread nD τ).loc main_v1_1))
      ∗ (((c : Thread nD τ).loc main_v1_2) ↦{fullShare} m ((c : Thread nD τ).loc main_v1_2))) := by
    unfold unscopedBufs
    rw [bigSep_eq_bigSepL_of_eq [main_arg0, main_arg1, main_arg2, main_v1_0, main_v1_1, main_v1_2] (by decide) (by decide),
      bigSepL_cons_cons, bigSepL_cons_cons, bigSepL_cons_cons, bigSepL_cons_cons, bigSepL_cons_cons, bigSepL_singleton]
    rfl
  rw [hb, bigSep_arrays, bigSep_arrays]
  unfold kept
  iintro ⟨H0, H1, H2, H3, H4, H5⟩
  ihave H0 := (pointsTo_share (PosShare.mem_left_op_right fullShare)).1 $$ H0
  ihave H1 := (pointsTo_share (PosShare.mem_left_op_right fullShare)).1 $$ H1
  ihave H2 := (pointsTo_share (PosShare.mem_left_op_right fullShare)).1 $$ H2
  icases H0 with ⟨H0, R0⟩
  icases H1 with ⟨H1, R1⟩
  icases H2 with ⟨H2, R2⟩
  isplitl [H0 H1 H2]
  · isplitl [H0]; · iexact H0
    isplitl [H1] <;> iassumption
  isplitl [R0 R1 R2]
  · isplitl [R0]; · iapply (slabs fullShare.right (m ((c : Thread nD τ).loc main_arg0)) (fun k => (src c 0 k).view.set) (src_disjoint0 c)); iexact R0
    isplitl [R1]; · iapply (slabs fullShare.right (m ((c : Thread nD τ).loc main_arg1)) (fun k => (src c 1 k).view.set) (src_disjoint1 c)); iexact R1
    iapply (slabs fullShare.right (m ((c : Thread nD τ).loc main_arg2)) (fun k => (src c 2 k).view.set) (src_disjoint2 c)); iexact R2
  isplitl [H3]; · iapply (slabs fullShare (m ((c : Thread nD τ).loc main_v1_0)) (fun k => (out c 0 k).view.set) (out_disjoint0 c)); iexact H3
  isplitl [H4]; · iapply (slabs fullShare (m ((c : Thread nD τ).loc main_v1_1)) (fun k => (out c 1 k).view.set) (out_disjoint1 c)); iexact H4
  iapply (slabs fullShare (m ((c : Thread nD τ).loc main_v1_2)) (fun k => (out c 2 k).view.set) (out_disjoint2 c)); iexact H5

/-! ## The launch -/

/-- Different events and devices have different semaphores. -/
theorem kcell_injective : Function.Injective kcell := by
  rintro ⟨c, x⟩ ⟨c', x'⟩ h
  have h1 : c = c' := congrArg (fun g : GSem nD τ sig => g.1.1) h
  have h2 : semOf x = semOf x' := SemLoc.dma.inj (congrArg Prod.snd h)
  rw [h1, ← xOf_semOf x, h2, xOf_semOf]

/-- On one device too. -/
theorem csem_injective : Function.Injective csem := fun x y h =>
  congrArg Prod.snd (kcell_injective (a₁ := (0, x)) (a₂ := (0, y)) (Prod.ext rfl h))

/-- Every cell. -/
def cells : Finset (GSem nD τ sig) := Finset.univ.map ⟨kcell, kcell_injective⟩
/-- Every raise of a semaphore, at the launch. -/
def duties : Finset (GSem nD τ sig × ℕ × Unit) := Finset.univ.map ⟨fun x => (kcell x, 0, ()), fun _ _ h => kcell_injective (congrArg Prod.fst h)⟩

/-- The records at the launch. -/
def u₀ : UU := (initOf ∅ ∅, initOf cells duties)

omit [FloatOps F] in
/-- The ghost state of every cell. -/
theorem fund_cells : BI.own (ER (initOf cells duties)) ⊢ (|==> iprop((bigSep Finset.univ fun x => roundState ER (rd m) (kcell x) 0)
    ∗ (bigSep Finset.univ fun x => reached ER (kcell x) 0) ∗ (bigSep Finset.univ fun x => atPos ER (kcell x) 0 ∅ 0)
    ∗ bigSep Finset.univ fun x => dutyTok ER (kcell x) 0 ()) : sProp 𝕄) := by
  have h := Rounds.fund ER (rd m) cells duties
  unfold cells duties at h ⊢
  simp only [bigSep_map] at h
  exact h

omit [FloatOps F] in
/-- A device's scoped semaphores are its cells. -/
theorem scopedSems0_eq (c : Dev nD) : (scopedSems0 (c : Thread nD τ) : sProp 𝕄) = zeros c := by
  rw [show (scopedSems0 (c.tc : Thread nD τ) : sProp 𝕄) = _ from scopedSems0_tc c,
    show (Finset.univ.filter fun sm : SemLoc sig => sm.isScoped .tc = true) = Finset.univ.map ⟨csem, csem_injective⟩ from by decide, bigSep_map]
  rfl

/-- What a device starts the kernel's call from. -/
def dealt (c : Dev nD) : sProp 𝕄 := iprop(start m c ∗ kept m c)

omit [FloatOps F] in
/-- The cells' invariants, allocated together. -/
theorem alloc_cells : iprop((bigSep Finset.univ fun c : Dev nD => zeros c) ∗ bigSep Finset.univ fun x => roundState ER (rd m) (kcell x) 0)
    ⊢ (|={Set.univ}=> ∃ K : Dev nD × X → ℕ, bigSep Finset.univ fun x => cellInv ER (rd m) (K x) (kcell x) : sProp 𝕄) := by
  have hz : (bigSep Finset.univ fun c : Dev nD => (zeros c : sProp 𝕄)) = bigSep Finset.univ fun x => semVal (kcell x) 0 := by
    rw [bigSep_univ_prod]; rfl
  rw [hz, ← bigSep_sep']
  exact ((bigSep_mono fun x _ => (Rounds.body_intro ER (rd m) (kcell x)).trans inv_alloc).trans (bigSep_fupd _ _)).trans
    (BI.fupd_mono (BI.bigSep_exists_pi Finset.univ (fun (x : Dev nD × X) (κ : ℕ) => (cellInv ER (rd m) κ (kcell x) : sProp 𝕄))))

/-- What is a device's alone: its slabs to send, the slabs it writes here and at its neighbours, the duties it pays, its positions, its half of its arguments. -/
def own (c : Dev nD) : sProp 𝕄 :=
  iprop(bigSep Finset.univ (keepRes m c) ∗ bigSep Finset.univ (startRes m c) ∗ (bigSep Finset.univ fun x : X => atPos ER (cell c x) 0 ∅ 0) ∗ kept m c)

omit [FloatOps F] in
/-- Pieces of every device and copy may be counted at the copy's other end. -/
theorem cross_over (Φ : Dev nD → J → sProp 𝕄) :
    (bigSep Finset.univ fun c => bigSep Finset.univ fun j => Φ c j) = bigSep Finset.univ fun c => bigSep Finset.univ fun j : J => Φ (peer j.2 c) j := by
  rw [BI.bigSep_univ_comm Φ, BI.bigSep_univ_comm fun c (j : J) => Φ (peer j.2 c) j]
  exact bigSep_congr fun j _ => bigSep_univ_equiv (swap j.2) fun c => Φ c j

omit [FloatOps F] in
/-- The output slabs of every device, dealt to their writers. -/
theorem found_cross : (bigSep Finset.univ fun c : Dev nD => bigSep Finset.univ (found m c))
    = (bigSep Finset.univ fun c : Dev nD => bigSep Finset.univ fun j : J => fresh m (peer j.2 c) (out c j.1 0) : sProp 𝕄) := by
  refine (cross_over (found m)).trans (bigSep_congr fun c _ => bigSep_congr fun j _ => ?_)
  unfold found; rw [out_peer]

omit [FloatOps F] in
/-- Pieces of every cell, by device: departures, and arrivals. -/
theorem bigSep_cells (Φ : Dev nD × X → sProp 𝕄) : bigSep Finset.univ Φ
    = iprop((bigSep Finset.univ fun c : Dev nD => bigSep Finset.univ fun j : R => Φ (c, .inl j)) ∗ bigSep Finset.univ fun c : Dev nD => bigSep Finset.univ fun j : J => Φ (c, .inr j)) := by
  rw [bigSep_univ_prod, ← bigSep_sep']; exact bigSep_congr fun c _ => bigSep_events _

omit [FloatOps F] in
/-- Pieces of every device's copies: own and remote. -/
theorem bigSep_dev_copies (Φ : Dev nD → J → sProp 𝕄) : (bigSep Finset.univ fun c => bigSep Finset.univ (Φ c))
    = iprop((bigSep Finset.univ fun c => bigSep Finset.univ fun a : Fin 3 => Φ c (a, 0)) ∗ bigSep Finset.univ fun c => bigSep Finset.univ fun j : R => Φ c (j.1, j.2.succ)) := by
  rw [← bigSep_sep']; exact bigSep_congr fun c _ => bigSep_copies _

omit [FloatOps F] in
/-- The outputs' slabs and the arrivals' duties cross over to the neighbours. -/
theorem cross : iprop((bigSep Finset.univ fun c : Dev nD => iprop(kept m c ∗ bigSep Finset.univ (sent m c) ∗ bigSep Finset.univ (found m c)))
      ∗ (bigSep Finset.univ fun x => atPos ER (kcell x) 0 ∅ 0) ∗ bigSep Finset.univ fun x => dutyTok ER (kcell x) 0 ())
    ⊢ (bigSep Finset.univ (own m) : sProp 𝕄) := by
  rw [bigSep_cells fun x => (dutyTok ER (kcell x) 0 () : sProp 𝕄), cross_over fun c j => (dutyTok ER (kcell (c, .inr j)) 0 () : sProp 𝕄),
    bigSep_dev_copies fun c (j : J) => (dutyTok ER (kcell (peer j.2 c, .inr j)) 0 () : sProp 𝕄),
    bigSep_univ_prod fun x : Dev nD × X => (atPos ER (kcell x) 0 ∅ 0 : sProp 𝕄)]
  unfold own keepRes startRes
  simp only [bigSep_sep']
  rw [found_cross, bigSep_dev_copies (sent m), bigSep_dev_copies fun c (j : J) => (fresh m (peer j.2 c) (out c j.1 0) : sProp 𝕄)]
  iintro ⟨⟨Hk, ⟨HsK, HsR⟩, HdK, HdR⟩, Hat, HtS, HtK, HtV⟩
  isplitl [HsK HdK HtK]
  · isplitl [HsK]; · iexact HsK
    isplitl [HdK]; · iexact HdK
    iexact HtK
  isplitl [HsR HdR HtS HtV]
  · isplitl [HsR]; · iexact HsR
    isplitl [HdR]; · iexact HdR
    isplitl [HtS]; · iexact HtS
    iexact HtV
  isplitl [Hat]; · iexact Hat
  iexact Hk

omit [FloatOps F] in
/-- The launch's step over all devices at once. -/
theorem deal : iprop((bigSep Finset.univ fun c : Dev nD => scopedSems0 (c : Thread nD τ))
      ∗ (bigSep Finset.univ fun c : Dev nD => unscopedBufs c (fun b => m ((c : Thread nD τ).loc b)))
      ∗ BI.own (ER (initOf cells duties)))
    ⊢ (|={Set.univ}=> bigSep Finset.univ (dealt m) : sProp 𝕄) := by
  rw [bigSep_congr (s := Finset.univ) fun (c : Dev nD) _ => scopedSems0_eq c]
  iintro ⟨Hz, Hb, Hu⟩
  imod (fund_cells m) $$ Hu with ⟨Hst, #Hr, Hat, Htok⟩
  imod (alloc_cells m) $$ [Hz Hst] with ⟨%K, #HI⟩
  · isplitl [Hz] <;> iassumption
  imodintro
  iapply (bigSep_with_persistent (R := records m K) (Φ := own m) (Ψ := dealt m) fun c _ => (by
    unfold own dealt start
    iintro ⟨#HR, H1, H2, H3, H4⟩
    isplitr [H4]
    · isplitr; · iexists K; iexact HR
      isplitl [H1]; · iexact H1
      isplitl [H2] <;> iassumption
    iexact H4))
  isplitr
  · unfold records; isplitl; · iexact HI
    iexact Hr
  iapply (cross m)
  isplitl [Hb]; · iapply (show (bigSep Finset.univ fun c : Dev nD => (unscopedBufs c (fun b => m ((c : Thread nD τ).loc b)) : sProp 𝕄)) ⊢ _ from bigSep_mono fun c _ => mem_split m c); iexact Hb
  isplitl [Hat] <;> iassumption

/-! ### The launch credit -/

/-- The arrival of a remote copy. -/
abbrev arrives (j : R) : X := .inr (j.1, j.2.succ)

/-- Different remote copies have different arrivals. -/
theorem arrives_injective : Function.Injective arrives := by decide

/-- Arrivals' semaphores are equal just when device and copy are. -/
theorem cell_eq_iff {c d : Dev nD} {i j : R} : Iff (cell c (arrives i) = cell d (arrives j)) (c = d ∧ i = j) :=
  ⟨fun h => by
    have := kcell_injective (a₁ := (c, arrives i)) (a₂ := (d, arrives j)) h
    exact ⟨congrArg Prod.fst this, arrives_injective (congrArg Prod.snd this)⟩, fun ⟨h, h'⟩ => h ▸ h' ▸ rfl⟩

/-- What device `d` owes an arrival: its credit, if it is its neighbour's. -/
theorem owed_apply (d c : Dev nD) (j : R) : ∀ l : List R, l.Nodup → owed d l (cell c (arrives j)) () = if peer j.2.succ d = c ∧ j ∈ l then N j.1 else 0
  | [], _ => by rw [owed, if_neg (fun h => nomatch h.2)]; rfl
  | i :: l, h => by
    rw [owed, Pi.add_apply, Finsupp.add_apply, tallyAt_apply, owed_apply d c j l (List.nodup_cons.mp h).2]
    have hn := (List.nodup_cons.mp h).1
    by_cases hi : i = j
    · subst hi
      rw [if_neg (fun h => hn h.2), Nat.zero_add]
      exact if_congr ⟨fun h => ⟨(cell_eq_iff.mp h.1).1.symm, List.mem_cons_self⟩, fun h => ⟨cell_eq_iff.mpr ⟨h.1.symm, rfl⟩, rfl⟩⟩ rfl rfl
    · have h2 : ¬(cell c (arrives j) = cell (peer i.2.succ d) (arrives i) ∧ () = ()) := fun h => hi (cell_eq_iff.mp h.1).2.symm
      rw [if_neg h2, Nat.add_zero]
      exact if_congr ⟨fun h => ⟨h.1, List.mem_cons_of_mem _ h.2⟩, fun h => ⟨h.1, (List.mem_cons.mp h.2).resolve_left fun e => hi e.symm⟩⟩ rfl rfl

/-- What the launch expects of one arrival. -/
theorem launch_cell (c : Dev nD) (j : R) :
    tallyOn (cell c (arrives j)) (launchCredit (Pipeline.owing fun c => owed c rs) 0 (cell c (arrives j))) = (tallyAt (cell c (arrives j)) () (N j.1) : CellTallies nD τ sig Unit) := by
  unfold tallyAt; refine congrArg _ (Finsupp.ext fun u => ?_); cases u
  rw [Pipeline.launchCredit_owing, Finsupp.single_eq_same, Finset.sum_congr rfl fun d _ => owed_apply d c j rs (by decide),
    Finset.sum_eq_single (peer j.2.succ c) (fun d _ hd => if_neg fun h => hd (by rw [← h.1, peer_peer])) (fun h => absurd (Finset.mem_univ _) h),
    if_pos ⟨peer_peer _ c, by revert j; decide⟩]

omit [FloatOps F] in
/-- What the launch hands a device for its waits. -/
theorem creds (c : Dev nD) : (Pipeline.launchCred (fun c => owed c rs) c : sProp 𝕄) ⊢ credits c := by
  unfold Pipeline.launchCred credits
  refine (Idealize.SL.BI.bigSep_subset (Finset.subset_univ (Finset.univ.map ⟨fun j : R => csem (arrives j), fun i j h => arrives_injective (csem_injective h)⟩))).trans ?_
  rw [bigSep_map]
  exact bigSep_mono fun j _ => by
    show cred (tallyOn (cell c (arrives j)) (launchCredit (Pipeline.owing fun c => owed c rs) 0 (cell c (arrives j)))) ⊢ _
    rw [launch_cell]; exact BI.Entails.refl _

/-! ### A device's run -/

omit [FloatOps F] in
/-- No buffer is scoped. -/
theorem scopedBufs_emp (c : Dev nD) : (scopedBufs (c.tc : Thread nD τ) : sProp 𝕄) = BI.emp := by
  rw [show (scopedBufs (c.tc : Thread nD τ) : sProp 𝕄) = _ from scopedBufs_tc c,
    show (Finset.univ.filter fun b : Ref sig .tc => b.isScoped) = ∅ from by decide, BI.bigSep_empty]

/-- What a device ends with. -/
def fin (c : Dev nD) : sProp 𝕄 := iprop(kept m c ∗ done m c ∗ scopedSems0 (c.tc : Thread nD τ))

abbrev adms : (p : Fin 1) → (pcfgs (F := F) p).Adm := fun p => (cfgs p).toPCfg_adm

/-- The call has no windows, so no two share a semaphore. -/
theorem cells_none : Function.Injective (Pipeline.cellOf (nD := nD) (τ := τ) (Pipeline.pin (pcfgs (F := F)) adms)) := by
  rintro ⟨_, ⟨_, ⟨w, _⟩⟩⟩ _ _; exact w.elim0

/-- The call needs what the device owes, and nothing of a pipeline: no operand is staged. -/
theorem entry_pre (c : Dev nD) : iprop(owes (c : Thread nD τ) (owed c rs) ∅)
    ⊢ Pipeline.EntryPre (Pipeline.pin (pcfgs (F := F)) adms) (dats m) () EP (fun _ => 0) 0 c := by
  show _ ⊢ iprop(bigSep Finset.univ _ ∗ (dats m 0 c).owesAt () 0 ∗ bigSep Finset.univ _ ∗ bigSep Finset.univ _ ∗ bigSep Finset.univ _)
  unfold Pipeline.Dat.owesAt Pipeline.owesWithin
  rw [bigSep_none, bigSep_none, bigSep_none, bigSep_none]
  iintro H
  isplitr; · iempintro
  isplitl [H]
  · iexists ∅; isplitr; · ipureintro; rw [Finset.coe_empty]; exact Set.empty_subset _
    iexact H
  isplitr; · iempintro
  isplitr <;> iempintro

/-- What the call leaves: the device owes nothing. -/
theorem entry_post (c : Dev nD) : Pipeline.EntryPost (Pipeline.pin (pcfgs (F := F)) adms) (dats m) () 0 c
    ⊢ iprop(∃ W, owes (c : Thread nD τ) (0 : CellTallies nD τ sig Unit) W) := by
  show iprop(bigSep Finset.univ _ ∗ (dats m 0 c).owesAt () (Fin.last _)) ⊢ _
  unfold Pipeline.Dat.owesAt Pipeline.owesWithin
  iintro ⟨-, ⟨%W, -, H⟩⟩
  iexists W; iexact H

/-- No table is prefetched. -/
theorem pref_none (c : Dev nD) : (Pipeline.prefHeld (pcfgs (F := F) 0).pre c (fun _ => fullShare) (adms (F := F) 0).1 : sProp 𝕄) = iprop(emp) := by
  unfold Pipeline.prefHeld
  exact (congrArg (fun S => bigSep S _) (Finset.univ_eq_empty (α := Fin 0))).trans BI.bigSep_empty

/-- What the call needs at its start. -/
theorem call_in (c : Dev nD) : iprop(iprop(start m c ∗ credits c) ∗ Pipeline.prefHeld (pcfgs (F := F) 0).pre c (fun _ => fullShare) (adms (F := F) 0).1 ∗ BI.emp)
    ⊢ (dats m 0 c).Φ 0 := by
  show _ ⊢ iprop(start m c ∗ credits c)
  iintro ⟨H, -⟩; iexact H

/-- What it leaves at its end. -/
theorem call_out (c : Dev nD) : iprop((dats m 0 c).Φ (Fin.last (Pipeline.pin (pcfgs (F := F)) adms 0).N)
      ∗ Pipeline.cellsSems0 (Pipeline.pin (pcfgs (F := F)) adms) 0 c ∗ Pipeline.Dat.staging (Pipeline.pin (pcfgs (F := F)) adms 0) c ∗ BI.emp)
    ⊢ iprop(done m c ∗ scopedSems0 (c.tc : Thread nD τ) ∗ scopedBufs (c.tc : Thread nD τ)) := by
  rw [scopedBufs_emp, show (scopedSems0 (c.tc : Thread nD τ) : sProp 𝕄) = zeros c from scopedSems0_eq c]
  show iprop(iprop(zeros c ∗ done m c) ∗ _) ⊢ _
  iintro ⟨⟨Hz, Hd⟩, -⟩
  isplitl [Hd]; · iexact Hd
  isplitl [Hz]; · iexact Hz
  iempintro

/-- It has no buffers of its own. -/
theorem call_bufs (c : Dev nD) : (scopedBufs (c.tc : Thread nD τ) : sProp 𝕄) ⊢ iprop(Pipeline.Dat.staging (Pipeline.pin (pcfgs (F := F)) adms 0) c ∗ BI.emp) := by
  show _ ⊢ iprop(bigSep Finset.univ _ ∗ BI.emp)
  rw [bigSep_none]
  iintro -
  isplitr <;> iempintro

/-- A device's run of the program. -/
theorem wp_main (c : Dev nD) : iprop(dealt m c ∗ credits c ∗ owes (c : Thread nD τ) (owed c rs) ∅)
    ⊢ wp frame (wpE (defs (F := F)) 𝒱₀.lift (c : Thread nD τ) none) Set.univ (main (F := F) c) (fun _ => post (liftTc (fin m) BI.emp) (c : Thread nD τ)) := by
  have hcall := Pipeline.wp_customCall_entry_frame (pcfgs (F := F)) adms (dats m) () EP (fun _ => 0) cells_none (0 : Fin 1) defs₀ 𝒱₀ (fun _ => fullShare) c Set.univ
    (fun _ _ => Set.mem_univ _) (body_obligation m c).loose (fun w => w.elim0) none (fun u h => nomatch h)
    (call_bufs c) (call_in m c) (call_out m c)
    (α := PUnit) (k := fun _ => .ret PUnit.unit) (Q := fun _ => post (liftTc (fin m) BI.emp) (c : Thread nD τ))
  unfold dealt
  iintro ⟨⟨Hs, Hk⟩, Hc, HO⟩
  iapply hcall $$ [Hs Hc HO]
  · isplitl [HO]; · iapply (entry_pre m c); iexact HO
    isplitr; · rw [pref_none]; iempintro
    isplitl [Hs Hc]; · isplitl [Hs] <;> iassumption
    isplitr; · iempintro
    rw [scopedBufs_emp]; iempintro
  iintro ⟨Hp, Hd, Hz, -⟩
  rw [wp_ret]; imodintro
  unfold post; simp only [liftTc_tc, fin]
  isplitl [Hk Hd Hz]
  · isplitl [Hk]; · iexact Hk
    isplitl [Hd] <;> iassumption
  iapply (entry_post m c); iexact Hp

/-! ### The end -/

/-- What an output of device `c` holds at the slab copy `j` lands in. -/
def held (c : Dev nD) (j : J) : Buf (Elt F) ((out c j.1 j.2).view.loc (c : Thread nD τ)) :=
  (out c j.1 j.2).view.write (Elt F) (m ((out c j.1 j.2).view.loc (c : Thread nD τ)))
    ((src (peer j.2 c) j.1 j.2).view.read (Elt F) (m ((src (peer j.2 c) j.1 j.2).view.loc (peer j.2 c : Thread nD τ)))) Finset.univ

/-- The slabs a device holds are what memory has there. -/
theorem read_slabs (c : Dev nD) (s' : Phys nD τ sig (Elt F)) (S : Finset J) :
    iprop(SI s' ∗ bigSep S (landed m c))
      ⊢ (⌜∀ j ∈ S, ∀ i ∈ (out c j.1 j.2).view.set, s'.mem.mem ((out c j.1 j.2).view.loc (c : Thread nD τ)) i = held m c j i⌝ : sProp 𝕄) := by
  induction S using Finset.induction_on with
  | empty => iintro -; ipureintro; exact fun j h => absurd h (Finset.notMem_empty j)
  | insert j S hj ih =>
    rw [bigSep_insert hj]
    show iprop(SI s' ∗ ((out c j.1 j.2).view.loc (c : Thread nD τ) ↦[(out c j.1 j.2).view.set]{fullShare} held m c j) ∗ bigSep S (landed m c)) ⊢ _
    iintro ⟨HSI, H, HS⟩
    icombine HSI H gives %h
    ihave %hS := ih $$ [HSI HS]
    · isplitl [HSI] <;> iassumption
    ipureintro
    exact fun j' h' => (Finset.mem_insert.mp h').elim (fun e => e ▸ h) (hS j')

/-- Every semaphore is scoped. -/
theorem all_scoped : ∀ sm : SemLoc sig, sm.isScoped .tc = true := by decide

/-- What memory holds of a device at the end. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2))
  ∧ ∀ j : J, ∀ i ∈ (out c j.1 j.2).view.set, s.mem ((out c j.1 j.2).view.loc (c : Thread nD τ)) i = held m c j i

/-- What a device ends with, read off the memory. -/
theorem read_fin (c : Dev nD) (s' : Phys nD τ sig (Elt F)) : iprop(fin m c ∗ SI s')
    ⊢ |={Set.univ}=> iprop(⌜Ends m c s'.mem ∧ ∀ sm : SemLoc sig, sm.isScoped .tc = true → s'.mem.sem ((c.tc : Thread nD τ), sm) = 0⌝ ∗ SI s') := by
  unfold fin kept
  iintro ⟨⟨⟨H0, H1, H2⟩, Hd, Hz⟩, HSI⟩
  ihave %hz := (tcScoped_read_pers c s') $$ [Hz HSI]
  · isplitl [Hz] <;> iassumption
  icombine HSI H0 gives %h0
  icombine HSI H1 gives %h1
  icombine HSI H2 gives %h2
  ihave %hd := ((read_slabs m c s' Finset.univ).trans Laws.persistently_pure.2) $$ [HSI Hd]
  · isplitl [HSI]; · iexact HSI
    unfold done; iexact Hd
  imodintro
  isplitr
  · ipureintro
    exact ⟨⟨⟨Buf.eq_of_forall_mem_univ h0, Buf.eq_of_forall_mem_univ h1, Buf.eq_of_forall_mem_univ h2⟩, fun j => hd j (Finset.mem_univ j)⟩, hz⟩
  · iexact HSI

/-- The four devices' runs: every array of gradients unchanged, every slab landed, every semaphore back at zero. -/
theorem run_main (g : Dev nD → PrngReg) :
    θ_run (defs (F := F)) (onTc (τ := τ) (main (F := F))) ⟨m, fun _ => 0, g⟩ (fun r => (∀ c, Ends m c r.2) ∧ r.2.sem = fun _ => 0) := by
  refine (θ_run (defs (F := F)) _ _).mono (Q := fun r => (∀ c : Dev nD, Ends m c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, funext fun g' => sems_of_reads (fun c => (hr.1 c).2) hr.2 g'
      (Or.inr (all_scoped g'.2))⟩)
    (adequate_tpu (defs (F := F)) _ _ _
    (reflect_intro_fupd_tc_sems (X := Unit) (Ix := Unit) (Name := ℕ) (U := UU) (Lvl := ℕ) 𝒱₀.lift (Pipeline.owing fun c => owed c rs) 0 (noBookings fun _ => le_rfl)
      (Pipeline.owing_of_ne _) u₀ (fun _ c => iprop(dealt m c ∗ credits c ∗ owes (c : Thread nD τ) (owed c rs) ∅)) (fun _ => fin m)
      (fun _ => iprop(emp)) Set.univ ?_ (fun _ c => wp_main m c) fun _ => ?_))
  · have hcore : (bigSep Finset.univ fun d : Dev nD =>
          coreInit (Ix := Unit) (Name := ℕ) (U := UU) (Lvl := ℕ) (Pipeline.owing fun c => owed c rs) 0 (⟨m, fun _ => 0, g⟩ : MemSt nD τ sig (Elt F)) (d.tc : Thread nD τ))
        ⊢ (bigSep Finset.univ fun c : Dev nD => iprop(scopedSems0 (c : Thread nD τ) ∗ unscopedBufs c (fun b => m ((c : Thread nD τ).loc b))
          ∗ owes (c : Thread nD τ) (owed c rs) ∅ ∗ credits c) : sProp 𝕄) :=
      bigSep_mono fun c _ => (Pipeline.coreInit_boundary_owing _ m g c).trans (by
        unfold boundary
        iintro ⟨⟨-, Hz, -⟩, Hb, -, HO, -, -, Hc⟩
        isplitl [Hz]; · iexact Hz
        isplitl [Hb]; · iexact Hb
        isplitl [HO]; · iexact HO
        iapply (creds c); iexact Hc)
    simp only [bigSep_sep'] at hcore ⊢
    iintro ⟨H, Hu⟩
    ihave Hc := hcore $$ H
    icases Hc with ⟨Hz, Hb, HO, Hc⟩
    unfold u₀
    ihave Hu2 := (ownU_pair _ _) $$ Hu
    icases Hu2 with ⟨-, HX⟩
    imod (deal m) $$ [Hz Hb HX] with Hd
    · isplitl [Hz]; · iexact Hz
      isplitl [Hb] <;> iassumption
    imodintro
    iexists ()
    isplitl
    · isplitl [Hd]; · iexact Hd
      isplitl [Hc] <;> iassumption
    · iempintro
  · iintro ⟨H, -, Hsc⟩ %s' HSI
    ihave %hsc := (scSems_read_zero m g s') $$ [Hsc HSI]
    · isplitl [Hsc] <;> iassumption
    imod (posts_fupd Finset.univ (read_fin m) s') $$ [H HSI] with %h
    · isplitl [H] <;> iassumption
    imodintro
    ipureintro
    exact ⟨fun c => h c (Finset.mem_univ c), hsc⟩

end Cert.ChipExchange

end
-- ==== Proof.ChipExchangeValue.lean ====
/-
# What the exchange among the chips leaves, and the reference's slices

Device `c` ends with slab `c` of every device's arrays, in the order of the devices: block `c` of the array of slabs the
reference takes, every fourth one from the `c`-th on.
-/
module

public import proofs.«01_k».proof.Proof.ChipExchange
public import proofs.«01_k».proof.Proof.Gen.Kernel32
public import proofs.«01_k».proof.Proof.Gen.Reference32Ideal.Run
public import proofs.«01_k».proof.Proof.Gen.Reference32Ideal.Read
public import proofs.«01_k».proof.Defs
public import Idealize.ShloMosaic.Lib.Pointwise.Index
public import Idealize.ShloMosaic.Lib.Pipeline.Value
public import Idealize.ShloMosaic.Lib.Layout

@[expose] public section

noncomputable section

namespace Cert.ChipExchange

open Cert.Kernel32Ideal Cert.Kernel32Ideal.Gen
open Cert.SlabProof

open Idealize.ShloMosaic
open Idealize.ShloMosaic.TcCoe

variable {F : FTy → Type} [FloatOps F] {m : (ℓ : Loc nD τ sig) → Buf (Elt F) ℓ}

/-- Every device is a neighbour of every other. -/
theorem peer_onto (c p : Dev nD) : ∃ k, peer k c = p := by revert c p; decide

/-- The slab a device sends back to its neighbour is the one of its own number. -/
theorem back (c : Dev nD) (k : Fin 4) : (![(peer k (peer k c)).val, 0, 0] : Fin 3 → Nat) = ![c.val, 0, 0] := by rw [peer_peer]

/-- The first output: its slab `p` is device `p`'s for this one. -/
theorem out0 {c : Dev nD} {s : MemSt nD τ sig (Elt F)} (h : Ends m c s) (p : Dev nD) (a : Fin 4096) (b : Fin 2051) :
    s.mem ((c : Thread nD τ).loc main_v1_0) (ix3 (p : Fin 4) a b) = m ((p : Thread nD τ).loc main_arg0) (ix3 (c : Fin 4) a b) := by
  obtain ⟨k, rfl⟩ := peer_onto c p
  have hi : (ix3 (peer k c : Fin 4) a b : S4x4096x2051.Idx) ∈ (out c 0 k).view.set := by
    rw [set_slab main_v1_0 (off0_inb c k) squeezes_S1x4096x2051_S4096x2051]
    exact Rect.mem_set_unit.mpr (by rw [off0_eq]; exact inside (peer k c : Fin 4) a b)
  obtain ⟨x, -, hx⟩ := Finset.mem_map.mp hi
  refine (h.2 (0, k) _ hi).trans ((congrArg (held m c (0, k)) hx.symm).trans ((View.write_emb_of_mem _ _ (Finset.mem_univ x)).trans ?_))
  exact congrArg (m ((peer k c : Thread nD τ).loc main_arg0)) (moved (c : Fin 4) (peer k c : Fin 4) a b _ _ _ _ _ ((off0_eq (peer k c) k).trans (back c k)) (off0_eq c k)
    (slab_coord main_arg0 (off0_inb (peer k c) k) squeezes_S1x4096x2051_S4096x2051 x) (slab_coord main_v1_0 (off0_inb c k) squeezes_S1x4096x2051_S4096x2051 x) hx)

/-- The second output: its slab `p` is device `p`'s for this one. -/
theorem out1 {c : Dev nD} {s : MemSt nD τ sig (Elt F)} (h : Ends m c s) (p : Dev nD) (a : Fin 3328) (b : Fin 1024) :
    s.mem ((c : Thread nD τ).loc main_v1_1) (ix3 (p : Fin 4) a b) = m ((p : Thread nD τ).loc main_arg1) (ix3 (c : Fin 4) a b) := by
  obtain ⟨k, rfl⟩ := peer_onto c p
  have hi : (ix3 (peer k c : Fin 4) a b : S4x3328x1024.Idx) ∈ (out c 1 k).view.set := by
    rw [set_slab main_v1_1 (off1_inb c k) squeezes_S1x3328x1024_S3328x1024]
    exact Rect.mem_set_unit.mpr (by rw [off1_eq]; exact inside (peer k c : Fin 4) a b)
  obtain ⟨x, -, hx⟩ := Finset.mem_map.mp hi
  refine (h.2 (1, k) _ hi).trans ((congrArg (held m c (1, k)) hx.symm).trans ((View.write_emb_of_mem _ _ (Finset.mem_univ x)).trans ?_))
  exact congrArg (m ((peer k c : Thread nD τ).loc main_arg1)) (moved (c : Fin 4) (peer k c : Fin 4) a b _ _ _ _ _ ((off1_eq (peer k c) k).trans (back c k)) (off1_eq c k)
    (slab_coord main_arg1 (off1_inb (peer k c) k) squeezes_S1x3328x1024_S3328x1024 x) (slab_coord main_v1_1 (off1_inb c k) squeezes_S1x3328x1024_S3328x1024 x) hx)

/-- The third output: its slab `p` is device `p`'s for this one. -/
theorem out2 {c : Dev nD} {s : MemSt nD τ sig (Elt F)} (h : Ends m c s) (p : Dev nD) (a : Fin 896) (b : Fin 1024) :
    s.mem ((c : Thread nD τ).loc main_v1_2) (ix3 (p : Fin 4) a b) = m ((p : Thread nD τ).loc main_arg2) (ix3 (c : Fin 4) a b) := by
  obtain ⟨k, rfl⟩ := peer_onto c p
  have hi : (ix3 (peer k c : Fin 4) a b : S4x896x1024.Idx) ∈ (out c 2 k).view.set := by
    rw [set_slab main_v1_2 (off2_inb c k) squeezes_S1x896x1024_S896x1024]
    exact Rect.mem_set_unit.mpr (by rw [off2_eq]; exact inside (peer k c : Fin 4) a b)
  obtain ⟨x, -, hx⟩ := Finset.mem_map.mp hi
  refine (h.2 (2, k) _ hi).trans ((congrArg (held m c (2, k)) hx.symm).trans ((View.write_emb_of_mem _ _ (Finset.mem_univ x)).trans ?_))
  exact congrArg (m ((peer k c : Thread nD τ).loc main_arg2)) (moved (c : Fin 4) (peer k c : Fin 4) a b _ _ _ _ _ ((off2_eq (peer k c) k).trans (back c k)) (off2_eq c k)
    (slab_coord main_arg2 (off2_inb (peer k c) k) squeezes_S1x896x1024_S896x1024 x) (slab_coord main_v1_2 (off2_inb c k) squeezes_S1x896x1024_S896x1024 x) hx)

/-- Every fourth slab from the `n`-th on is four slabs. -/
theorem slices (A B : Nat) (n : Fin 4) : Shape.SlicesBy ⟨3, ![16, A, B]⟩ ![n.val, 0, 0] ![4, 1, 1] ⟨3, ![4, A, B]⟩ := by
  refine ⟨rfl, fun d => ?_⟩
  fin_cases d
  · refine ⟨show 0 < 4 by decide, Or.inr ?_⟩; show n.val + 4 * (4 - 1) < 16; omega
  · refine ⟨show 0 < 1 by decide, ?_⟩; show A = 0 ∨ 0 + 1 * (A - 1) < A; omega
  · refine ⟨show 0 < 1 by decide, ?_⟩; show B = 0 ∨ 0 + 1 * (B - 1) < B; omega

/-- The reference's array of slabs: slab `k` of block `c` is its argument's slab `c` of block `k`. -/
theorem slices_at {α : Type} {A B : Nat} (x : (⟨3, ![16, A, B]⟩ : Shape).Idx → α)
    (hc : Shape.Concatenates [⟨3, ![4, A, B]⟩, ⟨3, ![4, A, B]⟩, ⟨3, ![4, A, B]⟩, ⟨3, ![4, A, B]⟩] ⟨3, ![16, A, B]⟩ 0)
    (ht : Layout.Tiles ⟨3, ![4, A, B]⟩ ⟨3, ![16, A, B]⟩ 0 4) (c : Fin 4) (k : Fin 4) (a : Fin A) (b : Fin B) :
    Layout.block ⟨3, ![4, A, B]⟩ ⟨3, ![16, A, B]⟩ 0 4 c (concatenate ⟨3, ![16, A, B]⟩ 0
        [⟨⟨3, ![4, A, B]⟩, Host.slice ⟨3, ![4, A, B]⟩ ![0, 0, 0] ![4, 1, 1] x (slices A B 0)⟩, ⟨⟨3, ![4, A, B]⟩, Host.slice ⟨3, ![4, A, B]⟩ ![1, 0, 0] ![4, 1, 1] x (slices A B 1)⟩,
          ⟨⟨3, ![4, A, B]⟩, Host.slice ⟨3, ![4, A, B]⟩ ![2, 0, 0] ![4, 1, 1] x (slices A B 2)⟩, ⟨⟨3, ![4, A, B]⟩, Host.slice ⟨3, ![4, A, B]⟩ ![3, 0, 0] ![4, 1, 1] x (slices A B 3)⟩] hc) ht (ix3 k a b)
      = Layout.block ⟨3, ![4, A, B]⟩ ⟨3, ![16, A, B]⟩ 0 4 k x ht (ix3 c a b) := by
  refine (congrFun (Layout.block_concatenate_ofFn (s₁ := ⟨3, ![4, A, B]⟩) (t := ⟨3, ![16, A, B]⟩) (0 : Fin 3)
    (fun n : Fin 4 => Host.slice ⟨3, ![4, A, B]⟩ ![n.val, 0, 0] ![4, 1, 1] x (slices A B n)) (by simpa using hc) ht c) (ix3 k a b)).trans ?_
  rw [Layout.block_apply]
  refine congrArg x (funext fun d => Fin.ext ?_)
  fin_cases d
  · show c.val + 4 * k.val = k.val * 4 + c.val; omega
  · show 0 + 1 * a.val = a.val; omega
  · show 0 + 1 * b.val = b.val; omega

end Cert.ChipExchange

namespace Cert.Proof

open Idealize.ShloMosaic Idealize.SL.Sem Cert.ChipExchange

section
attribute [local instance] Cert.Kernel32.Gen.facts Cert.Kernel32Ideal.Gen.facts Cert.Reference32Ideal.Gen.facts

/-- The exchange among the chips runs, keeps its arguments and leaves every semaphore at zero. -/
theorem chips_frame_ideal : Cert.quiescent_Kernel32Ideal := fun m g _ =>
  (θ_run _ _ _).mono (fun r h => ⟨fun c => (h.1 c).1, h.2⟩) (run_main (F := Ideal) m g)

/-- So it does on bits: it is the same text. -/
theorem chips_frame : Cert.quiescent_Kernel32 := fun m g _ =>
  (θ_run _ _ _).mono (fun r h => ⟨fun c => (h.1 c).1, h.2⟩) (run_main (F := Bits) m g)

/-- The reference runs, keeps its arguments and leaves every semaphore at zero. -/
theorem reference32_frame : Cert.quiescent_Reference32Ideal := by
  intro m g _
  exact (θ_run _ _ _).mono (fun r h => ⟨fun c => (h c).2.2.2, sem_eq_zero_of_no_sems rfl r.2⟩) (Cert.Reference32Ideal.Value.run m g)

/-- Each device ends with its block of the reference's arrays. -/
theorem chips : Cert.algebraic_Kernel32Ideal_Reference32Ideal := by
  intro m g m' g' _ hagree
  refine ⟨_, _, _, (θ_run _ _ _).mono (fun r h c => ⟨?_, ?_, ?_, (h.1 c).1⟩) (run_main (F := Ideal) m g),
    (θ_run _ _ _).mono (fun r h => h 0) (Cert.Reference32Ideal.Value.run m' g')⟩
  · exact funext fun i => by
      rw [← ix3_eta i]
      exact (out0 (h.1 c) _ _ _).trans ((congrFun ((hagree _).1) _).trans (slices_at _ _ _ c _ _ _).symm)
  · exact funext fun i => by
      rw [← ix3_eta i]
      exact (out1 (h.1 c) _ _ _).trans ((congrFun ((hagree _).2.1) _).trans (slices_at _ _ _ c _ _ _).symm)
  · exact funext fun i => by
      rw [← ix3_eta i]
      exact (out2 (h.1 c) _ _ _).trans ((congrFun ((hagree _).2.2) _).trans (slices_at _ _ _ c _ _ _).symm)
end

end Cert.Proof

end
-- ==== Proof.Gather.lean ====
/-
# The gather of the weights over the eight devices

Each device holds its rows of two arrays and ends with every device's. It copies its own rows into its slot of the two
outputs and sends them to four devices: its sibling on the same chip and the three devices of the other chips that it
faces. When the rows of a facing device arrive it passes them on to its sibling, which does not receive them directly.
Arrival `(a, κ)` of a device is that of the rows of its neighbour `κ` of array `a`: `κ = 0` its own, `1` the sibling's,
`2 … 4` those of the devices it faces, `5 … 7` those the sibling passes on. Every remote copy has a departure and an
arrival, a local one an arrival only; each is a cell of one round and one duty. A device waits for the rows it passes on
while it still owes its sibling the passing on, so the passed-on arrivals are at a higher level than all else. The output
slots are dealt to their writers at launch, before any core runs.
-/
module

public import proofs.«01_k».proof.Proof.Gen.Kernel33Ideal
public import proofs.«01_k».proof.Proof.Gen.Kernel33Ideal.Points
public import proofs.«01_k».proof.Proof.Slab
public import Idealize.ShloMosaic.Harness.Basic

@[expose] public section

noncomputable section

namespace Cert.Gather

open Cert.Kernel33Ideal Cert.Kernel33Ideal.Gen
open Cert.SlabProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The copies -/

/-- A direct copy: the array, and which of the four devices it goes to. -/
abbrev D : Type := Fin 2 × Fin 4
/-- A copy passed on: the array, and which of the three facing devices' rows it carries. -/
abbrev P : Type := Fin 2 × Fin 3
/-- An arrival: the array and the neighbour whose rows arrive, the device itself included. -/
abbrev J : Type := Fin 2 × Fin 8
/-- The events awaited: the departures of the direct copies, those of the copies passed on, and the arrivals. -/
abbrev X : Type := D ⊕ (P ⊕ J)

/-- The arrival of a device's own rows. -/
abbrev ownJ (a : Fin 2) : J := (a, 0)
/-- The arrival of a direct copy. -/
abbrev dirJ (j : D) : J := (j.1, ⟨j.2.val + 1, by have := j.2.isLt; omega⟩)
/-- The share a direct copy is sent from, counted after that of the device's own copy. -/
abbrev dirS (j : D) : Fin 2 × Fin 5 := (j.1, ⟨j.2.val + 1, by have := j.2.isLt; omega⟩)
/-- The share of the device's own copy. -/
abbrev ownS (a : Fin 2) : Fin 2 × Fin 5 := (a, 0)
/-- The arrival of a copy passed on. -/
abbrev pasJ (j : P) : J := (j.1, ⟨j.2.val + 5, by have := j.2.isLt; omega⟩)
/-- The arrival of the rows to be passed on. -/
abbrev viaJ (j : P) : J := (j.1, ⟨j.2.val + 2, by have := j.2.isLt; omega⟩)
/-- An arrival as an event. -/
abbrev arrives (j : J) : X := .inr (.inr j)

/-- The direct copies in the order the kernel starts them. -/
def ds : List D := [(0, 0), (0, 1), (0, 2), (0, 3), (1, 0), (1, 1), (1, 2), (1, 3)]
/-- The copies passed on, in the order the kernel passes them. -/
def ps : List P := [(0, 0), (0, 1), (0, 2), (1, 0), (1, 1), (1, 2)]
/-- The arrivals awaited after that: the sibling's own rows and those it passes on. -/
def late : List J := [(0, 1), (0, 5), (0, 6), (0, 7), (1, 1), (1, 5), (1, 6), (1, 7)]
/-- The events in the order the kernel awaits them at its end: late arrivals, departures, local copies. -/
def xs : List X := late.map arrives ++ (ds.map .inl ++ (ps.map (fun j => .inr (.inl j)) ++ [0, 1].map fun a => arrives (ownJ a)))

/-- A neighbour's number differs from a device's own in the binary digits of this one. -/
def mask : Fin 8 → Fin 8 := ![0, 1, 4, 2, 6, 5, 3, 7]
/-- The neighbours of a device: itself, its sibling, the three devices it faces, and their siblings. -/
def peer (κ : Fin 8) (c : Dev nD) : Dev nD := (c : Fin 8) ^^^ mask κ
/-- Which neighbour writes the rows of neighbour `κ`: the sibling those of the devices not faced, each other its own. -/
def wr (κ : Fin 8) : Fin 8 := if κ.val < 5 then κ else 1
/-- The device at which a copy of this device makes arrival `j`. -/
def goes (c : Dev nD) (j : J) : Dev nD := peer (wr j.2) c

/-- A device is its neighbour's neighbour. -/
theorem peer_peer (κ : Fin 8) (c : Dev nD) : peer κ (peer κ c) = c := by revert κ c; decide +kernel
/-- Different neighbours are different devices. -/
theorem peer_ne (c : Dev nD) (κ κ' : Fin 8) (h : κ ≠ κ') : peer κ c ≠ peer κ' c := by revert c κ κ'; decide +kernel
/-- The first neighbour is the device itself. -/
theorem goes_own (c : Dev nD) (a : Fin 2) : goes c (ownJ a) = c := by revert c a; decide +kernel
/-- What a device sends directly is, at the other end, that neighbour's rows. -/
theorem peer_dir (c : Dev nD) (j : D) : peer (dirJ j).2 (goes c (dirJ j)) = c := by revert c j; decide +kernel
/-- What a device passes on is, at its sibling, the rows of the device it has them from. -/
theorem peer_pas (c : Dev nD) (j : P) : peer (pasJ j).2 (goes c (pasJ j)) = peer (viaJ j).2 c := by revert c j; decide +kernel

/-- Going to a neighbour, as a permutation of the devices. -/
def swap (κ : Fin 8) : Dev nD ≃ Dev nD := ⟨peer κ, peer κ, peer_peer κ, peer_peer κ⟩

/-- The device a direct copy is addressed to, as the kernel computes it. -/
def dirTo (c : Dev nD) : D → Dev nD := fun j => match j with
  | (0, 0) => ⟨k0_dev1 c, k0_dev1_lt c⟩ | (0, 1) => ⟨k0_dev2 c, k0_dev2_lt c⟩ | (0, 2) => ⟨k0_dev3 c, k0_dev3_lt c⟩ | (0, 3) => ⟨k0_dev4 c, k0_dev4_lt c⟩
  | (1, 0) => ⟨k0_dev5 c, k0_dev5_lt c⟩ | (1, 1) => ⟨k0_dev6 c, k0_dev6_lt c⟩ | (1, 2) => ⟨k0_dev7 c, k0_dev7_lt c⟩ | (1, 3) => ⟨k0_dev8 c, k0_dev8_lt c⟩
/-- The device a copy is passed on to, as the kernel computes it. -/
def pasTo (c : Dev nD) : P → Dev nD := fun j => match j with
  | (0, 0) => ⟨k0_dev9 c, k0_dev9_lt c⟩ | (0, 1) => ⟨k0_dev10 c, k0_dev10_lt c⟩ | (0, 2) => ⟨k0_dev11 c, k0_dev11_lt c⟩
  | (1, 0) => ⟨k0_dev12 c, k0_dev12_lt c⟩ | (1, 1) => ⟨k0_dev13 c, k0_dev13_lt c⟩ | (1, 2) => ⟨k0_dev14 c, k0_dev14_lt c⟩

/-- A direct copy goes to its neighbour. -/
theorem dirTo_eq (c : Dev nD) (j : D) : dirTo c j = goes c (dirJ j) := by revert c j; decide +kernel
/-- A copy is passed on to the sibling. -/
theorem pasTo_eq (c : Dev nD) (j : P) : pasTo c j = goes c (pasJ j) := by revert c j; decide +kernel

/-- The shape of a device's rows. -/
abbrev tl (a : Fin 2) : Shape := match a with
  | 0 => S4096x2051 | 1 => S3328x1024

/-- Where the slot of a neighbour starts in the first output, as the kernel computes it. -/
abbrev off0 (c : Dev nD) (κ : Fin 8) : Fin 3 → Nat := match κ with
  | 0 => k0_off1 c | 1 => k0_off9 c | 2 => k0_off3 c | 3 => k0_off4 c | 4 => k0_off5 c | 5 => k0_off10 c | 6 => k0_off11 c | 7 => k0_off12 c
/-- The same of the second. -/
abbrev off1 (c : Dev nD) (κ : Fin 8) : Fin 3 → Nat := match κ with
  | 0 => k0_off2 c | 1 => k0_off13 c | 2 => k0_off6 c | 3 => k0_off7 c | 4 => k0_off8 c | 5 => k0_off14 c | 6 => k0_off15 c | 7 => k0_off16 c

/-- It is the slot of the neighbour's number. -/
theorem off0_eq (c : Dev nD) (κ : Fin 8) : off0 c κ = ![(peer κ c).val, 0, 0] := by revert c κ; decide +kernel
/-- The same of the second. -/
theorem off1_eq (c : Dev nD) (κ : Fin 8) : off1 c κ = ![(peer κ c).val, 0, 0] := by revert c κ; decide +kernel

/-- A slot lies inside the first output. -/
theorem off0_inb (c : Dev nD) (κ : Fin 8) : ∀ a, off0 c κ a + S1x4096x2051.size a ≤ S8x4096x2051.size a := match κ with
  | 0 => k0_off1_inb c | 1 => k0_off9_inb c | 2 => k0_off3_inb c | 3 => k0_off4_inb c | 4 => k0_off5_inb c | 5 => k0_off10_inb c | 6 => k0_off11_inb c | 7 => k0_off12_inb c
/-- A slot lies inside the second. -/
theorem off1_inb (c : Dev nD) (κ : Fin 8) : ∀ a, off1 c κ a + S1x3328x1024.size a ≤ S8x3328x1024.size a := match κ with
  | 0 => k0_off2_inb c | 1 => k0_off13_inb c | 2 => k0_off6_inb c | 3 => k0_off7_inb c | 4 => k0_off8_inb c | 5 => k0_off14_inb c | 6 => k0_off15_inb c | 7 => k0_off16_inb c

/-- A slot of the first output consists of whole words. -/
theorem off0_words (c : Dev nD) (κ : Fin 8) : (Rect.unit (s := S8x4096x2051) (off0 c κ) S1x4096x2051.size (off0_inb c κ)).WholeWords (EltTy.packing .bf16) := match κ with
  | 0 => k0_off1_wordsbf16 c | 1 => k0_off9_wordsbf16 c | 2 => k0_off3_wordsbf16 c | 3 => k0_off4_wordsbf16 c
  | 4 => k0_off5_wordsbf16 c | 5 => k0_off10_wordsbf16 c | 6 => k0_off11_wordsbf16 c | 7 => k0_off12_wordsbf16 c
/-- A slot of the second consists of whole words. -/
theorem off1_words (c : Dev nD) (κ : Fin 8) : (Rect.unit (s := S8x3328x1024) (off1 c κ) S1x3328x1024.size (off1_inb c κ)).WholeWords (EltTy.packing .bf16) := match κ with
  | 0 => k0_off2_wordsbf16 c | 1 => k0_off13_wordsbf16 c | 2 => k0_off6_wordsbf16 c | 3 => k0_off7_wordsbf16 c
  | 4 => k0_off8_wordsbf16 c | 5 => k0_off14_wordsbf16 c | 6 => k0_off15_wordsbf16 c | 7 => k0_off16_wordsbf16 c

/-- A device's rows of array `a`. -/
abbrev arg (a : Fin 2) : Memref sig .tc .hbm (tl a) .bf16 := match a with
  | 0 => Memref.whole main_arg0 | 1 => Memref.whole main_arg1

/-- The slot of output `a` at the number of device `c`'s neighbour `κ`. -/
abbrev out (c : Dev nD) (a : Fin 2) (κ : Fin 8) : Memref sig .tc .hbm (tl a) .bf16 := match a with
  | 0 => ((Memref.whole main_v1_0).slice (Rect.unit (s := S8x4096x2051) (off0 c κ) S1x4096x2051.size (off0_inb c κ)) (fun _ => rfl)).squeeze S4096x2051 squeezes_S1x4096x2051_S4096x2051
  | 1 => ((Memref.whole main_v1_1).slice (Rect.unit (s := S8x3328x1024) (off1 c κ) S1x3328x1024.size (off1_inb c κ)) (fun _ => rfl)).squeeze S3328x1024 squeezes_S1x3328x1024_S3328x1024

/-- An output slot is that of a device's number, whoever says so. -/
theorem out_congr {c c' : Dev nD} {κ κ' : Fin 8} (h : peer κ c = peer κ' c') (a : Fin 2) : out c a κ = out c' a κ' := match a with
  | 0 => slab_congr main_v1_0 squeezes_S1x4096x2051_S4096x2051 (off0_inb c κ) (off0_inb c' κ') (by rw [off0_eq, off0_eq, h])
  | 1 => slab_congr main_v1_1 squeezes_S1x3328x1024_S3328x1024 (off1_inb c κ) (off1_inb c' κ') (by rw [off1_eq, off1_eq, h])

/-- A device's rows consist of whole words. -/
theorem arg_wordExact (a : Fin 2) : (arg a).view.WordExact := match a with
  | 0 => (Memref.isWhole_whole main_arg0).wordExact
  | 1 => (Memref.isWhole_whole main_arg1).wordExact

/-- A slot consists of whole words. -/
theorem out_wordExact (c : Dev nD) (a : Fin 2) (κ : Fin 8) : (out c a κ).view.WordExact := match a with
  | 0 => ((Memref.isWhole_whole main_v1_0).wordExact_slice rfl _ (off0_words c κ)).reshape _ _
  | 1 => ((Memref.isWhole_whole main_v1_1).wordExact_slice rfl _ (off1_words c κ)).reshape _ _

/-- The semaphore an event is counted on. -/
def semOf (x : X) : DmaSem sig := match x with
  | .inl (a, r) => (⟨7 * a.val + r.val, by have := a.isLt; have := r.isLt; omega⟩ : Fin 30)
  | .inr (.inl (a, r)) => (⟨7 * a.val + (4 + r.val), by have := a.isLt; have := r.isLt; omega⟩ : Fin 30)
  | .inr (.inr (a, ⟨0, _⟩)) => (⟨28 + a.val, by have := a.isLt; omega⟩ : Fin 30)
  | .inr (.inr (a, ⟨r + 1, h⟩)) => (⟨14 + (7 * a.val + r), by have := a.isLt; omega⟩ : Fin 30)

/-! ## The body, over the lists of copies -/

/-- A slot is not scratch. -/
theorem out_hsc (c : Dev nD) (a : Fin 2) (κ : Fin 8) : (out c a κ).view.ref.isScScratch = false := match a with
  | 0 => rfl
  | 1 => rfl

abbrev PR (F : FTy → Type) : Type 1 := Prog (TpuEff nD τ sig (Elt F) Λ₀ .tc) PUnit

/-- Copy the device's own rows of a list of arrays, then go on. -/
def keeps (c : Dev nD) (k : PR F) : List (Fin 2) → PR F
  | [] => k
  | a :: l => .op (.enqueueDma (arg a) (.here (out c a 0)) (.dma (semOf (arrives (ownJ a)))) (arg_wordExact a) (out_wordExact c a 0) ⟨Or.inl rfl, trivial⟩)
      fun _ => keeps c k l

/-- Start the direct copies of a list, copy `j` addressed to `n j`, then go on. -/
def starts (c : Dev nD) (n : D → Dev nD) (k : PR F) : List D → PR F
  | [] => k
  | j :: l => .op (.enqueueDma (arg j.1) (.remote (Dev.tc (n j) : Thread nD τ) (out c j.1 0) (.dma (semOf (.inl j))) (out_hsc c j.1 0)) (.dma (semOf (arrives (dirJ j))))
      (arg_wordExact j.1) (out_wordExact c j.1 0) ⟨⟨rfl, Or.inl rfl⟩, trivial⟩) fun _ => starts c n k l

/-- The array of an event. -/
abbrev arr (x : X) : Fin 2 := match x with
  | .inl j => j.1 | .inr (.inl j) => j.1 | .inr (.inr j) => j.1
/-- The two places a wait names, in its order. -/
abbrev fst (c : Dev nD) (x : X) : Memref sig .tc .hbm (tl (arr x)) .bf16 := match x with
  | .inl j => out c j.1 0 | .inr (.inl j) => out c j.1 (viaJ j).2 | .inr (.inr (a, ⟨0, _⟩)) => arg a | .inr (.inr (a, ⟨r + 1, h⟩)) => out c a ⟨r + 1, h⟩
abbrev snd (c : Dev nD) (x : X) : Memref sig .tc .hbm (tl (arr x)) .bf16 := match x with
  | .inl j => arg j.1 | .inr (.inl j) => out c j.1 (viaJ j).2 | .inr (.inr j) => out c j.1 j.2

/-- The first place a wait names consists of whole words. -/
theorem fst_wordExact (c : Dev nD) (x : X) : (fst c x).view.WordExact := match x with
  | .inl j => out_wordExact c j.1 0 | .inr (.inl j) => out_wordExact c j.1 (viaJ j).2 | .inr (.inr (a, ⟨0, _⟩)) => arg_wordExact a
  | .inr (.inr (a, ⟨r + 1, h⟩)) => out_wordExact c a ⟨r + 1, h⟩
/-- The same of the second. -/
theorem snd_wordExact (c : Dev nD) (x : X) : (snd c x).view.WordExact := match x with
  | .inl j => arg_wordExact j.1 | .inr (.inl j) => out_wordExact c j.1 (viaJ j).2 | .inr (.inr j) => out_wordExact c j.1 j.2

/-- Await one event, then go on. -/
def await (c : Dev nD) (x : X) (k : PR F) : PR F := .op (.waitDma2 (semOf x) (fst c x) (snd c x) (fst_wordExact c x) (snd_wordExact c x)) fun _ => k

/-- Await the rows to be passed on and pass them on, for the copies of a list, copy `j` addressed to `n j`, then go on. -/
def passes (c : Dev nD) (n : P → Dev nD) (k : PR F) : List P → PR F
  | [] => k
  | j :: l => await c (arrives (viaJ j)) (.op (.enqueueDma (out c j.1 (viaJ j).2) (.remote (Dev.tc (n j) : Thread nD τ) (out c j.1 (viaJ j).2) (.dma (semOf (.inr (.inl j)))) (out_hsc c j.1 (viaJ j).2))
      (.dma (semOf (arrives (pasJ j)))) (out_wordExact c j.1 (viaJ j).2) (out_wordExact c j.1 (viaJ j).2) ⟨⟨rfl, Or.inl rfl⟩, trivial⟩) fun _ => passes c n k l)

/-- Await the events of a list, then go on. -/
def waits (c : Dev nD) (k : PR F) : List X → PR F
  | [] => k
  | x :: l => await c x (waits c k l)

/-- The kernel's body after it has read its device's number. -/
def tailOf (c : Dev nD) : PR F := keeps c (starts c (dirTo c) (passes c (pasTo c) (waits c (.ret ⟨⟩) xs) ps) ds) [0, 1]

set_option maxRecDepth 20000 in
/-- The kernel's body: read the device's number; copy, start, pass on, await. -/
theorem body_eq (t : Fin cfg0.N) : bodyAt0 (F := F) t = .op .deviceId tailOf := by
  rfl

/-! ## The resource algebra, the cells, the contents -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- The cell of an event of a device. -/
abbrev csem : X → SemLoc sig := fun x => .dma (semOf x)
abbrev cell (c : Dev nD) (x : X) : GSem nD τ sig := ((c : Thread nD τ), csem x)
abbrev kcell (x : Dev nD × X) : GSem nD τ sig := cell x.1 x.2

/-- What a copy of array `a` adds to its cells. -/
def N (a : Fin 2) : ℕ := (out 0 a 0).view.dmaCredit
/-- Every copy moves something. -/
theorem N_pos (a : Fin 2) : 0 < N a := match a with
  | 0 => View.dmaCredit_pos _ (show 0 < S4096x2051.numel by decide)
  | 1 => View.dmaCredit_pos _ (show 0 < S3328x1024.numel by decide)
/-- A slot of an output counts as much as the first. -/
theorem out_credit (c : Dev nD) (a : Fin 2) (κ : Fin 8) : (out c a κ).view.dmaCredit = N a := match a with
  | 0 => rfl
  | 1 => rfl
/-- What an event is awaited by. -/
theorem snd_credit (c : Dev nD) (x : X) : (snd c x).view.dmaCredit = N (arr x) := match x with
  | .inr (.inr j) => out_credit c j.1 j.2
  | .inr (.inl j) => out_credit c j.1 (viaJ j).2
  | .inl (0, r) => rfl
  | .inl (1, r) => rfl

/-- An output slot of device `c`, as launched. -/
def fresh (c : Dev nD) {s : Shape} {e : EltTy} (v : Memref sig .tc .hbm s e) : sProp 𝕄 :=
  v.view.loc (c : Thread nD τ) ↦[v.view.set]{fullShare} m (v.view.loc (c : Thread nD τ))
/-- The rows of array `a` device `d` was launched with. -/
def rows (d : Dev nD) (a : Fin 2) := (arg a).view.read (Elt F) (m ((arg a).view.loc (d : Thread nD τ)))
/-- What the output of device `c` holds in the slot of arrival `j`: the rows of neighbour `j`. -/
def held (c : Dev nD) (j : J) : Buf (Elt F) ((out c j.1 j.2).view.loc (c : Thread nD τ)) :=
  (out c j.1 j.2).view.write (Elt F) (m ((out c j.1 j.2).view.loc (c : Thread nD τ))) (rows m (peer j.2 c) j.1) Finset.univ
/-- A share of the slot of arrival `j` of device `c`, holding the rows of neighbour `j`. -/
def landed (q : PosShare TreeShare) (c : Dev nD) (j : J) : sProp 𝕄 :=
  (out c j.1 j.2).view.loc (c : Thread nD τ) ↦[(out c j.1 j.2).view.set]{q} held m c j
/-- A share of the device's rows of array `a`, as launched. -/
def argPts (q : PosShare TreeShare) (c : Dev nD) (a : Fin 2) : sProp 𝕄 :=
  (arg a).view.loc (c : Thread nD τ) ↦[(arg a).view.set]{q} m ((arg a).view.loc (c : Thread nD τ))

/-- The shares of its rows a device sends from: its own copy's, then the direct copies'. -/
def part (r : Fin 5) : PosShare TreeShare := match r with
  | 0 => fullShare.right.left | 1 => fullShare.right.right.left | 2 => fullShare.right.right.right.left
  | 3 => fullShare.right.right.right.right.left | 4 => fullShare.right.right.right.right.right

/-- What a wait hands over: an arrival's the slot, a departure's nothing. -/
def pay (c : Dev nD) (x : X) : sProp 𝕄 := match x with
  | .inl _ => iprop(emp) | .inr (.inl _) => iprop(emp) | .inr (.inr j) => landed m fullShare c j

omit [FloatOps F] in
/-- What a semaphore hands over may be kept in its record. -/
instance pay_storable (c : Dev nD) (x : X) : BI.Storable (upEmb : UEmb _ 𝕄) (pay (F := F) m c x) := by
  unfold pay landed; split <;> infer_instance

/-! ## The schedule -/

/-- The event of a semaphore. -/
def xOf (q : Fin 30) : X := if q.val < 14 then
    if q.val % 7 < 4 then .inl (⟨q.val / 7 % 2, by omega⟩, ⟨q.val % 7 % 4, by omega⟩) else .inr (.inl (⟨q.val / 7 % 2, by omega⟩, ⟨(q.val % 7 - 4) % 3, by omega⟩))
  else if q.val < 28 then .inr (.inr (⟨(q.val - 14) / 7 % 2, by omega⟩, ⟨q.val % 7 + 1, by omega⟩)) else .inr (.inr (⟨q.val % 2, by omega⟩, 0))
/-- The event of the semaphore of an event. -/
theorem xOf_semOf (x : X) : xOf (semOf x) = x := by revert x; decide +kernel

/-- One round, of one duty: the copy's credit. -/
def rd : Rounds.Schedule (GSem nD τ sig) Unit 𝕄 where
  duties g r := if r = 0 ∧ g.1.2 = .tc then {()} else ∅
  unitless _ := False
  amount g _ _ := match g.2 with
    | .dma q => N (arr (xOf q)) | .reg _ => 1
  payload g _ _ := match g.2 with
    | .dma q => pay m g.1.1 (xOf q) | .reg _ => iprop(emp)
  amount_pos g _ _ _ := by
    split
    · exact N_pos _
    · exact Nat.one_pos

omit [FloatOps F] in
/-- The same for every semaphore of the schedule. -/
instance rd_payload_storable (g : GSem nD τ sig) (r : ℕ) (d : Unit) :
    BI.Storable (upEmb : UEmb _ 𝕄) ((rd (F := F) m).payload g r d) := by
  dsimp only [rd]; split <;> infer_instance

section Sched
variable (c : Dev nD) (x : X)

omit [FloatOps F] in
/-- An event's semaphore is raised once in its only round. -/
theorem duties_cell : (rd (F := F) m).duties (cell c x) 0 = {()} := by dsimp only [rd]; exact if_pos ⟨rfl, rfl⟩
omit [FloatOps F] in
/-- Nothing is raised after that round. -/
theorem duties_later (g : GSem nD τ sig) : ∀ r, 1 ≤ r → (rd (F := F) m).duties g r = ∅ :=
  fun r hr => by dsimp only [rd]; exact if_neg fun h => by omega
omit [FloatOps F] in
/-- By how much it is raised. -/
theorem amount_cell : (rd (F := F) m).amount (cell c x) 0 () = N (arr x) := by
  show N (arr (xOf (semOf x))) = N (arr x); rw [xOf_semOf]
omit [FloatOps F] in
/-- What it hands over. -/
theorem payload_cell (d : Unit) : (rd (F := F) m).payload (cell c x) 0 d = pay m c x := by
  show pay m c (xOf (semOf x)) = pay m c x; rw [xOf_semOf]
omit [FloatOps F] in
/-- What a wait on it takes. -/
theorem expect_cell : (rd (F := F) m).expect (cell c x) 0 = N (arr x) := by
  unfold Schedule.expect Schedule.amountOf; rw [duties_cell, Finset.sum_singleton, amount_cell]
omit [FloatOps F] in
/-- What is handed over when nothing has been taken yet. -/
theorem rest_cell : bigSep ((rd (F := F) m).duties (cell c x) 0 \ ∅) (fun d => (rd (F := F) m).payload (cell c x) 0 d) = pay m c x := by
  rw [Finset.sdiff_empty, duties_cell, bigSep_singleton, payload_cell]
omit [FloatOps F] in
/-- Its duty is one of its first round's. -/
theorem duty_mem : () ∈ (rd (F := F) m).duties (cell c x) 0 := by rw [duties_cell]; exact Finset.mem_singleton_self _

end Sched

/-! ## The body -/

abbrev 𝒱₀ : Variants := Variants.none

/-- The credit a device owes arrivals elsewhere while a list of copies is still to be started. -/
def owed (c : Dev nD) : List J → CellTallies nD τ sig Unit
  | [] => 0
  | j :: l => owed c l + tallyAt (cell (goes c j) (arrives j)) () (N j.1)

/-- A semaphore's level: one for the arrivals of what a sibling passes on, nought for all others. -/
def lev (g : GSem nD τ sig) (_ : Unit) : ℕ := match g.2 with
  | .dma q => (match xOf q with | .inr (.inr j) => if j.2.val < 5 then 0 else 1 | _ => 0)
  | .reg _ => 0

/-- The levels of every device's semaphores. -/
abbrev levs : sProp 𝕄 := levAts (fun g => if g.1.2 = .tc then {()} else ∅) lev

/-- Every cell's invariant, that it has reached round 0, and the levels. -/
def records (K : Dev nD × X → ℕ) : sProp 𝕄 :=
  iprop((bigSep Finset.univ fun x : Dev nD × X => cellInv ER (rd m) (K x) (kcell x))
    ∗ (bigSep Finset.univ fun x : Dev nD × X => reached ER (kcell x) 0) ∗ levs)

omit [FloatOps F] in
/-- The records may be used any number of times. -/
instance records_persistent (K : Dev nD × X → ℕ) : BI.Persistent (records m K) := by unfold records; infer_instance

omit [FloatOps F] in
/-- The record of one semaphore. -/
theorem inv_at (K : Dev nD × X → ℕ) (c : Dev nD) (x : X) : records m K ⊢ cellInv ER (rd m) (K (c, x)) (cell c x) := by
  unfold records; iintro ⟨H, -⟩
  iapply (show (bigSep Finset.univ fun x : Dev nD × X => (cellInv ER (rd m) (K x) (kcell x) : sProp 𝕄)) ⊢ cellInv ER (rd m) (K (c, x)) (cell c x) from bigSep_elim (Finset.mem_univ (c, x))); iexact H
omit [FloatOps F] in
/-- Each semaphore has reached its first round. -/
theorem reached_at (K : Dev nD × X → ℕ) (c : Dev nD) (x : X) : records m K ⊢ reached ER (cell c x) 0 := by
  unfold records; iintro ⟨-, H, -⟩
  iapply (show (bigSep Finset.univ fun x : Dev nD × X => (reached ER (kcell x) 0 : sProp 𝕄)) ⊢ reached ER (cell c x) 0 from bigSep_elim (Finset.mem_univ (c, x))); iexact H

/-- While only copies to pass on are owed, all that is owed is at the higher level. -/
theorem owed_high (c : Dev nD) (g : GSem nD τ sig) : ∀ l : List P, 0 < owed c (l.map pasJ) g () → g.1.2 = .tc ∧ lev g () = 1
  | [], h => absurd h (Nat.lt_irrefl 0)
  | j :: l, h => (Pipeline.add_pos_cases h).elim (owed_high c g l) fun h => by
      have hg : g = cell (goes c (pasJ j)) (arrives (pasJ j)) := by
        rw [tallyAt_apply] at h
        by_contra hn
        rw [if_neg fun h => hn h.1] at h; exact Nat.lt_irrefl 0 h
      subst hg
      refine ⟨rfl, ?_⟩
      show (match xOf (semOf (arrives (pasJ j))) with | .inr (.inr j) => if j.2.val < 5 then 0 else 1 | _ => 0) = 1
      rw [xOf_semOf]
      exact if_neg (Nat.not_lt.mpr (Nat.le_add_left 5 j.2.val))

omit [FloatOps F] in
/-- A device may await rows to be passed on while it owes the passing on of a list. -/
theorem may_wait (K : Dev nD × X → ℕ) (c : Dev nD) (j : P) (l : List P) :
    records m K ⊢ MayWait (c : Thread nD τ) (csem (arrives (viaJ j))) () (owed c (l.map pasJ)) := by
  unfold records; iintro ⟨-, -, H⟩
  iapply (Pipeline.mayWait_of_levAts (L := fun g : GSem nD τ sig => if g.1.2 = .tc then {()} else ∅) (lev := lev)
    (Finset.mem_singleton_self ()) fun g i h => by
      obtain ⟨h1, h2⟩ := owed_high c g l h
      refine ⟨by rw [if_pos h1]; exact Finset.mem_singleton_self (), ?_⟩
      rw [h2]
      show (match xOf (semOf (arrives (viaJ j))) with | .inr (.inr j) => if j.2.val < 5 then 0 else 1 | _ => 0) < 1
      rw [xOf_semOf]
      have hj : j.2.val + 2 < 5 := by have := j.2.isLt; omega
      show (if j.2.val + 2 < 5 then 0 else 1) < 1
      rw [if_pos hj]; exact Nat.one_pos)
  iexact H

/-- What making arrival `j` elsewhere takes: the slot there, and the duty it pays. -/
def slot (c : Dev nD) (j : J) : sProp 𝕄 :=
  iprop(fresh m (goes c j) (out (goes c j) j.1 j.2) ∗ dutyTok ER (cell (goes c j) (arrives j)) 0 ())

/-- What copying the device's own rows of array `a` takes. -/
def keepRes (c : Dev nD) (a : Fin 2) : sProp 𝕄 := iprop(argPts m (part 0) c a ∗ slot m c (ownJ a))

/-- What starting direct copy `j` takes. -/
def startRes (c : Dev nD) (j : D) : sProp 𝕄 :=
  iprop(argPts m (part (dirS j).2) c j.1 ∗ slot m c (dirJ j) ∗ dutyTok ER (cell c (.inl j)) 0 ())

/-- The credit of an event. -/
def credit (c : Dev nD) (x : X) : sProp 𝕄 := cred (tallyAt (cell c x) () (N (arr x)))

/-- What waiting on a cell takes: its credit and its position. -/
def waitRes (c : Dev nD) (x : X) : sProp 𝕄 := iprop(credit c x ∗ atPos ER (cell c x) 0 ∅ 0)

/-- What passing on copy `j` takes: the wait for its rows, the slot at the sibling, the duties. -/
def passRes (c : Dev nD) (j : P) : sProp 𝕄 :=
  iprop(waitRes c (arrives (viaJ j)) ∗ slot m c (pasJ j) ∗ dutyTok ER (cell c (.inr (.inl j))) 0 ())

/-- What a wait leaves: the counter at zero, and what the duty handed over. -/
def waited (c : Dev nD) (x : X) : sProp 𝕄 := iprop(semVal (cell c x) 0 ∗ pay m c x)

/-- What passing on leaves: the counter at zero, half of the slot, and the credit of the departure. -/
def passed (c : Dev nD) (j : P) : sProp 𝕄 :=
  iprop(semVal (cell c (arrives (viaJ j))) 0 ∗ landed m fullShare.left c (viaJ j) ∗ credit c (.inr (.inl j)))

/-- One event awaited, whatever is still owed above it, and its cell closed. -/
theorem wp_await (K : Dev nD × X → ℕ) (c : Dev nD) (x : X) (k : PR F) (O : CellTallies nD τ sig Unit) (W : Waits sig Unit) (Q : PUnit → sProp 𝕄)
    (hO : records m K ⊢ MayWait (c : Thread nD τ) (csem x) () O) :
    iprop(records m K ∗ waitRes c x ∗ owes (c : Thread nD τ) O W)
      ⊢ iprop(((waited m c x ∗ owes (c : Thread nD τ) O (insert (csem x, ()) W))
            -∗ wp frame (wpE (defs₀ (F := F)) 𝒱₀ (c : Thread nD τ) none) Set.univ k Q)
          -∗ wp frame (wpE (defs₀ (F := F)) 𝒱₀ (c : Thread nD τ) none) Set.univ (await c x k) Q) := by
  unfold waitRes waited credit
  iintro ⟨#HR, ⟨Hc, Hat⟩, HO⟩ Hk
  rw [await]
  iapply (Rounds.wp_wait_rest_token 𝒱₀ ER (rd m) (c : Thread nD τ) none (κ := K (c, x)) (sm := csem x)
      (wpE_waitDma2_eq 𝒱₀ (c : Thread nD τ) none Set.univ) (Set.mem_univ _) () (O := O) (W := W) (R := 0) (m := 0) (T := ∅)
      (by rw [Nat.zero_add, expect_cell, snd_credit])) $$ [Hc HO Hat]
  · isplitr; · iapply (inv_at m K c x); iexact HR
    isplitl [Hc]; · rw [snd_credit]; iexact Hc
    isplitl [HO]; · iexact HO
    isplitr; · iapply hO; iexact HR
    iexact Hat
  iintro ⟨HO, Hat, -, Hpay⟩
  ihave Hp := (Entails.of_eq (rest_cell m c x)) $$ Hpay
  imod (Rounds.cell_close ER (rd m) (Set.mem_univ (K (c, x))) (fun h => h) (R := 0 + 1) (duties_later m (cell c x))) $$ [Hat] with Hz
  · isplitr; · iapply (inv_at m K c x); iexact HR
    iexact Hat
  iapply Hk
  isplitl [Hz Hp]
  · isplitl [Hz] <;> iassumption
  iexact HO

/-- One remote copy started: rows of array `a` from place `v` here to slot `w`, that of arrival `j` at its destination `n`. -/
theorem wp_send (K : Dev nD × X → ℕ) (c n : Dev nD) (j : J) (hn : n = goes c j) (x : X) (hx : pay m c x = iprop(emp)) (hN : N (arr x) = N j.1)
    (v w : Memref sig .tc .hbm (tl j.1) .bf16) (q : PosShare TreeShare) (fs : Buf (Elt F) (v.view.loc (c : Thread nD τ)))
    (hv : v.view.read (Elt F) fs = rows m (peer j.2 (goes c j)) j.1) (hw : w = out (goes c j) j.1 j.2)
    (hsrc : v.view.WordExact) (hdst : w.view.WordExact) (hsc : w.view.ref.isScScratch = false)
    (O : CellTallies nD τ sig Unit) (W : Waits sig Unit) (k : PR F) (Q : PUnit → sProp 𝕄) :
    iprop(records m K ∗ (v.view.loc (c : Thread nD τ) ↦[v.view.set]{q} fs) ∗ slot m c j ∗ dutyTok ER (cell c x) 0 ()
        ∗ owes (c : Thread nD τ) (O + tallyAt (cell (goes c j) (arrives j)) () (N j.1)) W)
      ⊢ iprop(((credit c x ∗ owes (c : Thread nD τ) O W)
            -∗ wp frame (wpE (defs₀ (F := F)) 𝒱₀ (c : Thread nD τ) none) Set.univ k Q)
          -∗ wp frame (wpE (defs₀ (F := F)) 𝒱₀ (c : Thread nD τ) none) Set.univ
            (.op (.enqueueDma v (.remote (Dev.tc n : Thread nD τ) w (.dma (semOf x)) hsc) (.dma (semOf (arrives j))) hsrc hdst ⟨⟨rfl, Or.inl rfl⟩, trivial⟩) fun _ => k) Q) := by
  subst hn hw
  have hs := Rounds.wp_send_pointsTo (Q := Q) (k := fun _ => k) (defs := defs₀ (F := F)) (Γ := .empty) 𝒱₀ ER (rd m) (c : Thread nD τ) none
    (κ₁ := K (c, x)) (κ₂ := K (goes c j, arrives j))
    (c' := (goes c j : Thread nD τ)) (src := v) (dst := out (goes c j) j.1 j.2) (sS := csem x) (sem := csem (arrives j)) (hsc := hsc)
    (hsrc := hsrc) (hdst := hdst) (hsem := ⟨⟨rfl, Or.inl rfl⟩, trivial⟩)
    (q := q) (fs := fs) (fd := m ((out (goes c j) j.1 j.2).view.loc (goes c j : Thread nD τ)))
    (r₁ := 0) (r₂ := 0) (d₁ := ()) (d₂ := ()) (Es := Set.univ)
    (duty_mem m c x) (duty_mem m (goes c j) (arrives j))
    () () (N j.1) (out_credit (goes c j) j.1 j.2) ((amount_cell m c x).trans hN) (amount_cell m (goes c j) (arrives j)) O rfl (W := W)
    (by rw [show ((c : Thread nD τ), csem x) = cell c x from rfl, payload_cell, hx]; iintro -; iempintro)
    (by
      rw [show ((goes c j : Thread nD τ), csem (arrives j)) = cell (goes c j) (arrives j) from rfl, payload_cell, hv]
      unfold pay landed held; exact BI.Entails.refl _)
  unfold slot fresh credit
  rw [hN]
  iintro ⟨#HR, Hs, ⟨Hd, Ht'⟩, Ht, HO⟩
  iapply hs
  isplitr; · iapply (inv_at m K c x); iexact HR
  isplitr; · iapply (inv_at m K (goes c j) (arrives j)); iexact HR
  isplitl [Hs]; · iexact Hs
  isplitl [Hd]; · iexact Hd
  isplitl [HO]; · iexact HO
  isplitl [Ht]; · iexact Ht
  isplitr; · iapply (reached_at m K c x); iexact HR
  isplitl [Ht']; · iexact Ht'
  iapply (reached_at m K (goes c j) (arrives j)); iexact HR

/-- The device's own rows of a list copied. -/
theorem wp_keeps (K : Dev nD × X → ℕ) (c : Dev nD) (k : PR F) (Q : PUnit → sProp 𝕄) : ∀ l : List (Fin 2),
    iprop(records m K ∗ sepL (keepRes m c) l)
      ⊢ iprop((sepL (fun a => credit c (arrives (ownJ a))) l
            -∗ wp frame (wpE (defs₀ (F := F)) 𝒱₀ (c : Thread nD τ) none) Set.univ k Q)
          -∗ wp frame (wpE (defs₀ (F := F)) 𝒱₀ (c : Thread nD τ) none) Set.univ (keeps c k l) Q)
  | [] => by
    iintro - Hk
    iapply Hk; unfold sepL; iempintro
  | a :: l => by
    have hs := Rounds.wp_copy_pointsTo (Q := Q) (k := fun _ => keeps (F := F) c k l) (defs := defs₀ (F := F)) (Γ := .empty) 𝒱₀ ER (rd m) (c : Thread nD τ) none
      (κ := K (c, arrives (ownJ a))) (src := arg a) (dst := out c a 0) (sem := csem (arrives (ownJ a)))
      (hsrc := arg_wordExact a) (hdst := out_wordExact c a 0) (hsem := ⟨Or.inl rfl, trivial⟩)
      (q := part 0) (fs := m ((arg a).view.loc (c : Thread nD τ))) (fd := m ((out c a 0).view.loc (c : Thread nD τ)))
      (r := 0) (d := ()) (Es := Set.univ) (duty_mem m c (arrives (ownJ a))) () (N a) (out_credit c a 0) (amount_cell m c (arrives (ownJ a)))
      (by
        rw [show ((c : Thread nD τ), csem (arrives (ownJ a))) = cell c (arrives (ownJ a)) from rfl, payload_cell]
        unfold pay landed held rows; dsimp only; rw [show peer 0 c = c from goes_own c a]; iintro ⟨H, -⟩; iexact H)
    have hk : keepRes m c a = iprop(argPts m (part 0) c a ∗ fresh m c (out c a 0) ∗ dutyTok ER (cell c (arrives (ownJ a))) 0 ()) := by
      unfold keepRes slot; rw [goes_own]
    rw [sepL, sepL, hk]
    unfold argPts fresh
    iintro ⟨#HR, ⟨Hs, Hd, Ht⟩, Hl⟩ Hk
    iapply hs $$ [Hs Hd Ht]
    · isplitr; · iapply (inv_at m K c (arrives (ownJ a))); iexact HR
      isplitl [Hs]; · iexact Hs
      isplitl [Hd]; · iexact Hd
      isplitl [Ht]; · iexact Ht
      iapply (reached_at m K c (arrives (ownJ a))); iexact HR
    iintro Hc
    iapply (wp_keeps K c k Q l) $$ [Hl]
    · isplitr; · iexact HR
      iexact Hl
    iintro Hcs
    iapply Hk
    isplitl [Hc]
    · unfold credit; iexact Hc
    iexact Hcs

/-- A list of direct copies started, the copies `t` still to be passed on. -/
theorem wp_starts (K : Dev nD × X → ℕ) (c : Dev nD) (n : D → Dev nD) (hn : ∀ j, n j = goes c (dirJ j)) (t : List J)
    (k : PR F) (W : Waits sig Unit) (Q : PUnit → sProp 𝕄) : ∀ l : List D,
    iprop(records m K ∗ sepL (startRes m c) l ∗ owes (c : Thread nD τ) (owed c (l.map dirJ ++ t)) W)
      ⊢ iprop(((sepL (fun j => credit c (.inl j)) l ∗ owes (c : Thread nD τ) (owed c t) W)
            -∗ wp frame (wpE (defs₀ (F := F)) 𝒱₀ (c : Thread nD τ) none) Set.univ k Q)
          -∗ wp frame (wpE (defs₀ (F := F)) 𝒱₀ (c : Thread nD τ) none) Set.univ (starts c n k l) Q)
  | [] => by
    iintro ⟨-, -, HO⟩ Hk
    iapply Hk
    isplitr; · unfold sepL; iempintro
    iexact HO
  | j :: l => by
    rw [sepL, sepL, starts]
    iintro ⟨#HR, ⟨Hj, Hl⟩, HO⟩ Hk
    unfold startRes argPts
    icases Hj with ⟨Hs, Hd, Ht⟩
    iapply (wp_send m K c (n j) (dirJ j) (hn j) (.inl j) rfl rfl (arg j.1) (out c j.1 0) _ (m ((arg j.1).view.loc (c : Thread nD τ)))
      (by rw [peer_dir]; rfl) (out_congr (by rw [peer_dir]; exact goes_own c j.1) j.1) _ _ _ (owed c (l.map dirJ ++ t)) W _ Q) $$ [Hs Hd Ht HO]
    · isplitr; · iexact HR
      isplitl [Hs]; · iexact Hs
      isplitl [Hd]; · iexact Hd
      isplitl [Ht]; · iexact Ht
      iexact HO
    iintro ⟨Hc, HO⟩
    iapply (wp_starts K c n hn t k W Q l) $$ [Hl HO]
    · isplitr; · iexact HR
      isplitl [Hl]; · unfold startRes argPts; iexact Hl
      iexact HO
    iintro ⟨Hcs, HO⟩
    iapply Hk
    isplitl [Hc Hcs]
    · isplitl [Hc] <;> iassumption
    iexact HO

/-- A list of arrivals awaited and passed on. -/
theorem wp_passes (K : Dev nD × X → ℕ) (c : Dev nD) (n : P → Dev nD) (hn : ∀ j, n j = goes c (pasJ j))
    (k : PR F) (Q : PUnit → sProp 𝕄) : ∀ (l : List P) (W : Waits sig Unit),
    iprop(records m K ∗ sepL (passRes m c) l ∗ owes (c : Thread nD τ) (owed c (l.map pasJ)) W)
      ⊢ iprop(((sepL (passed m c) l ∗ ∃ W, owes (c : Thread nD τ) 0 W)
            -∗ wp frame (wpE (defs₀ (F := F)) 𝒱₀ (c : Thread nD τ) none) Set.univ k Q)
          -∗ wp frame (wpE (defs₀ (F := F)) 𝒱₀ (c : Thread nD τ) none) Set.univ (passes c n k l) Q)
  | [], W => by
    iintro ⟨-, -, HO⟩ Hk
    iapply Hk
    isplitr; · unfold sepL; iempintro
    iexists W; iexact HO
  | j :: l, W => by
    rw [sepL, sepL, passes, passRes]
    iintro ⟨#HR, ⟨⟨Hw, Hd, Ht⟩, Hl⟩, HO⟩ Hk
    iapply (wp_await m K c (arrives (viaJ j)) _ (owed c ((j :: l).map pasJ)) W Q (may_wait m K c j (j :: l))) $$ [Hw HO]
    · isplitr; · iexact HR
      isplitl [Hw] <;> iassumption
    iintro ⟨Hw, HO⟩
    ihave Hw := (show waited m c (arrives (viaJ j)) ⊢ iprop(semVal (cell c (arrives (viaJ j))) 0 ∗ landed m fullShare.left c (viaJ j)
        ∗ ((out c j.1 (viaJ j).2).view.loc (c : Thread nD τ) ↦[(out c j.1 (viaJ j).2).view.set]{fullShare.right} held m c (viaJ j))) from
      sep_mono_right (pointsTo_share (PosShare.mem_left_op_right fullShare)).1) $$ Hw
    icases Hw with ⟨Hz, Hp, Hs⟩
    iapply (wp_send m K c (n j) (pasJ j) (hn j) (.inr (.inl j)) rfl rfl (out c j.1 (viaJ j).2) (out c j.1 (viaJ j).2) fullShare.right (held m c (viaJ j))
      ((View.read_write_univ _ _).trans (by rw [peer_pas])) (out_congr (peer_pas c j).symm j.1) _ _ _ (owed c (l.map pasJ)) _ _ Q) $$ [Hs Hd Ht HO]
    · isplitr; · iexact HR
      isplitl [Hs]; · iexact Hs
      isplitl [Hd]; · iexact Hd
      isplitl [Ht]; · iexact Ht
      iexact HO
    iintro ⟨Hc, HO⟩
    iapply (wp_passes K c n hn k Q l _) $$ [Hl HO]
    · isplitr; · iexact HR
      isplitl [Hl] <;> iassumption
    iintro ⟨Hcs, HO⟩
    iapply Hk
    isplitl [Hz Hp Hc Hcs]
    · isplitl [Hz Hp Hc]
      · unfold passed
        isplitl [Hz]; · iexact Hz
        isplitl [Hp] <;> iassumption
      iexact Hcs
    iexact HO

/-- A list of events awaited. -/
theorem wp_waits (K : Dev nD × X → ℕ) (c : Dev nD) (k : PR F) (Q : PUnit → sProp 𝕄) : ∀ (l : List X) (W : Waits sig Unit),
    iprop(records m K ∗ sepL (waitRes c) l ∗ owes (c : Thread nD τ) 0 W)
      ⊢ iprop(((sepL (waited m c) l ∗ ∃ W, owes (c : Thread nD τ) 0 W)
            -∗ wp frame (wpE (defs₀ (F := F)) 𝒱₀ (c : Thread nD τ) none) Set.univ k Q)
          -∗ wp frame (wpE (defs₀ (F := F)) 𝒱₀ (c : Thread nD τ) none) Set.univ (waits c k l) Q)
  | [], W => by
    iintro ⟨-, -, HO⟩ Hk
    iapply Hk
    isplitr; · unfold sepL; iempintro
    iexists W; iexact HO
  | x :: l, W => by
    rw [sepL, sepL, waits]
    iintro ⟨#HR, ⟨Hj, Hl⟩, HO⟩ Hk
    iapply (wp_await m K c x _ 0 W Q (by iintro -; rw [MayWait_zero]; iempintro)) $$ [Hj HO]
    · isplitr; · iexact HR
      isplitl [Hj] <;> iassumption
    iintro ⟨Hw, HO⟩
    iapply (wp_waits K c k Q l _) $$ [Hl HO]
    · isplitr; · iexact HR
      isplitl [Hl] <;> iassumption
    iintro ⟨Hws, HO⟩
    iapply Hk
    isplitl [Hw Hws]
    · isplitl [Hw] <;> iassumption
    iexact HO

/-- The arrivals to be passed on, in the order the kernel awaits them. -/
abbrev vs : List X := ps.map fun j => arrives (viaJ j)

/-- What a device has of the passing on, before the rows arrive: the slot at the sibling, the duties. -/
def passTok (c : Dev nD) (j : P) : sProp 𝕄 := iprop(slot m c (pasJ j) ∗ dutyTok ER (cell c (.inr (.inl j))) 0 ())

/-- What a device's body starts from, but its launch credit. -/
def start (c : Dev nD) : sProp 𝕄 :=
  iprop((∃ K, records m K) ∗ bigSep Finset.univ (keepRes m c) ∗ bigSep Finset.univ (startRes m c) ∗ bigSep Finset.univ (passTok m c)
    ∗ bigSep Finset.univ fun x : X => atPos ER (cell c x) 0 ∅ 0)

/-- A device's counters, all at zero. -/
def zeros (c : Dev nD) : sProp 𝕄 := bigSep Finset.univ fun x : X => semVal (cell c x) 0

/-- The arrivals from other devices. -/
abbrev others : List J := ps.map viaJ ++ late
/-- The copies to other devices, in the order the kernel starts them, by their arrivals. -/
abbrev sends : List J := ds.map dirJ ++ ps.map pasJ

/-- The launch credit of a device: its arrivals' from others. -/
def credits (c : Dev nD) : sProp 𝕄 := sepL (fun j => credit c (arrives j)) others

/-- What the body leaves: of every slot at least half, with its rows. -/
def done (c : Dev nD) : sProp 𝕄 := bigSep Finset.univ (landed m fullShare.left c)

/-- The body. -/
theorem wp_body (c : Dev nD) (t : Fin cfg0.N) (W : Waits sig Unit) (Q : PUnit → sProp 𝕄) :
    iprop(start m c ∗ credits c ∗ owes (c : Thread nD τ) (owed c sends) W)
      ⊢ iprop(((zeros c ∗ done m c ∗ ∃ W, owes (c : Thread nD τ) 0 W) -∗ Q ⟨⟩)
        -∗ wp frame (wpE (defs₀ (F := F)) 𝒱₀ (c : Thread nD τ) none) Set.univ (bodyAt0 t) Q) := by
  have hk : ∀ Φ : Fin 2 → sProp 𝕄, sepL Φ [0, 1] = bigSep Finset.univ Φ := fun Φ => sepL_eq Φ _ (by decide)
  have hd : ∀ Φ : D → sProp 𝕄, sepL Φ ds = bigSep Finset.univ Φ := fun Φ => by rw [sepL_eq Φ ds (by decide), show ds.toFinset = Finset.univ by decide]
  have hp : ∀ Φ : P → sProp 𝕄, sepL Φ ps = bigSep Finset.univ Φ := fun Φ => by rw [sepL_eq Φ ps (by decide), show ps.toFinset = Finset.univ by decide]
  have hx : ∀ Φ : X → sProp 𝕄, bigSep Finset.univ Φ = iprop(sepL (fun j => Φ (arrives (viaJ j))) ps ∗ sepL Φ xs) := fun Φ => by
    rw [← sepL_map Φ (fun j => arrives (viaJ j)) ps, ← sepL_append, sepL_eq Φ (vs ++ xs) (by decide +kernel), show (vs ++ xs).toFinset = Finset.univ by decide +kernel]
  have hxs : ∀ Φ : X → sProp 𝕄, sepL Φ xs = iprop(sepL (fun j => Φ (arrives j)) late ∗ sepL (fun j => Φ (.inl j)) ds ∗ sepL (fun j => Φ (.inr (.inl j))) ps
      ∗ sepL (fun a => Φ (arrives (ownJ a))) [0, 1]) := fun Φ => by
    unfold xs; rw [sepL_append, sepL_append, sepL_append, sepL_map, sepL_map, sepL_map, sepL_map]
  have hj : ∀ Φ : J → sProp 𝕄, bigSep Finset.univ Φ = iprop(sepL (fun j => Φ (viaJ j)) ps ∗ sepL Φ late ∗ sepL (fun a => Φ (ownJ a)) [0, 1]) := fun Φ => by
    rw [← sepL_map Φ ownJ, ← sepL_map Φ viaJ, ← sepL_append, ← sepL_append, sepL_eq Φ _ (by decide +kernel),
      show (ps.map viaJ ++ (late ++ [0, 1].map ownJ)).toFinset = Finset.univ by decide +kernel]
  have hweak : ∀ j, landed m fullShare c j ⊢ landed m fullShare.left c j := fun j =>
    (show landed m fullShare c j ⊢ iprop(landed m fullShare.left c j ∗ landed m fullShare.right c j) from (pointsTo_share (PosShare.mem_left_op_right fullShare)).1).trans (by iintro ⟨H, -⟩; iexact H)
  rw [body_eq]
  unfold tailOf start credits zeros done
  rw [wp_deviceId, sepL_append, sepL_map, hx, hx, hj]
  iintro ⟨⟨⟨%K, #HR⟩, Hkp, Hst, Hpt, Hatp, Hat⟩, ⟨Hcp, Hcl⟩, HO⟩ Hk
  iapply (wp_keeps m K c _ Q [0, 1]) $$ [Hkp]
  · isplitr; · iexact HR
    iapply (Entails.of_eq (hk (keepRes m c)).symm); iexact Hkp
  iintro HcK
  iapply (wp_starts m K c (dirTo c) (dirTo_eq c) (ps.map pasJ) _ W Q ds) $$ [Hst HO]
  · isplitr; · iexact HR
    isplitl [Hst]; · iapply (Entails.of_eq (hd (startRes m c)).symm); iexact Hst
    iexact HO
  iintro ⟨HcS, HO⟩
  iapply (wp_passes m K c (pasTo c) (pasTo_eq c) _ Q ps W) $$ [Hpt Hatp Hcp HO]
  · isplitr; · iexact HR
    isplitr [HO]
    · iapply (sepL_paired (fun j => waitRes c (arrives (viaJ j))) (passTok m c) ps)
      isplitr [Hpt]
      · iapply (sepL_paired (fun j => credit c (arrives (viaJ j))) (fun j => (atPos ER (cell c (arrives (viaJ j))) 0 ∅ 0 : sProp 𝕄)) ps)
        isplitl [Hcp] <;> iassumption
      iapply (Entails.of_eq (hp (passTok m c)).symm); iexact Hpt
    iexact HO
  iintro ⟨Hps, ⟨%W', HO⟩⟩
  ihave Hps := (show sepL (passed m c) ps ⊢ _ from sepL_pairs (fun j => semVal (cell c (arrives (viaJ j))) 0) (fun j => iprop(landed m fullShare.left c (viaJ j) ∗ credit c (.inr (.inl j)))) ps) $$ Hps
  icases Hps with ⟨Hzp, Hps⟩
  ihave Hps := (sepL_pairs (fun j => landed m fullShare.left c (viaJ j)) (fun j => credit c (.inr (.inl j))) ps) $$ Hps
  icases Hps with ⟨Hlp, HcP⟩
  iapply (wp_waits m K c _ Q xs W') $$ [HcK HcS HcP Hcl Hat HO]
  · isplitr; · iexact HR
    isplitr [HO]
    · iapply (sepL_paired (fun x => credit c x) (fun x => (atPos ER (cell c x) 0 ∅ 0 : sProp 𝕄)) xs)
      isplitr [Hat]
      · iapply (Entails.of_eq (hxs fun x => credit c x).symm)
        isplitl [Hcl]; · iexact Hcl
        isplitl [HcS]; · iexact HcS
        isplitl [HcP] <;> iassumption
      iexact Hat
    iexact HO
  iintro ⟨Hw, ⟨%W'', HO⟩⟩
  ihave Hw := (show sepL (waited m c) xs ⊢ _ from sepL_pairs (fun x => semVal (cell c x) 0) (pay m c) xs) $$ Hw
  icases Hw with ⟨Hz, Hpay⟩
  ihave Hpay := (Entails.of_eq (hxs (pay m c))) $$ Hpay
  icases Hpay with ⟨Hpl, -, -, Hpo⟩
  rw [wp_ret]; imodintro
  iapply Hk
  isplitl [Hzp Hz]; · isplitl [Hzp] <;> iassumption
  isplitl [Hlp Hpl Hpo]
  · isplitl [Hlp]; · iexact Hlp
    isplitl [Hpl]; · iapply (sepL_mono hweak late); iexact Hpl
    iapply (sepL_mono (fun a => hweak (ownJ a)) [0, 1]); iexact Hpo
  iexists W''; iexact HO

/-! ## The region's proof data -/

/-- The call has one grid point. -/
theorem cfg0_N : cfg0.N = 1 := by decide
/-- That point. -/
def t₀ : Fin cfg0.N := ⟨0, by rw [cfg0_N]; decide⟩
/-- There is no other. -/
theorem fin_N (t : Fin cfg0.N) : t = t₀ := by
  obtain ⟨t, ht⟩ := t; have := cfg0_N; exact Fin.ext (by simp only [t₀]; omega)

/-- What the call holds before and after its point. -/
def dats (_ : Fin 1) (c : Dev nD) : Pipeline.Dat τ (Elt F) Unit ℕ UU ℕ cfg0 c where
  A w := w.elim0
  after w := w.elim0
  Φ t := match t with
    | ⟨0, _⟩ => iprop(start m c ∗ credits c)
    | ⟨_ + 1, _⟩ => iprop(zeros c ∗ done m c)
  q _ := fullShare
  owed t := match t with
    | ⟨0, _⟩ => owed c sends
    | ⟨_ + 1, _⟩ => 0

omit [FloatOps F] in
/-- No window, nothing held. -/
theorem bigSep_none (Φ : Fin cfg0.W → sProp 𝕄) : bigSep Finset.univ Φ = iprop(emp) := by
  rw [Finset.univ_eq_empty (α := Fin 0), BI.bigSep_empty]; rfl

/-- The library's obligation of the body. -/
theorem body_obligation (c : Dev nD) : Pipeline.BodyObligation (dats (F := F) m 0 c) (defs₀ (F := F)) 𝒱₀ () Set.univ := fun t => by
  rw [fin_N t]
  rw [bigSep_none, bigSep_none]
  show iprop((start m c ∗ credits c) ∗ (dats m 0 c).owesAt () t₀.castSucc ∗ emp) ⊢ wp frame (wpE (defs₀ (F := F)) 𝒱₀ c none) Set.univ (bodyAt0 t₀)
    (fun _ => iprop((zeros c ∗ done m c) ∗ (dats m 0 c).owesAt () t₀.succ ∗ emp))
  unfold Pipeline.Dat.owesAt Pipeline.owesWithin
  rw [show (dats m 0 c).owed t₀.castSucc = owed c sends from rfl, show (dats m 0 c).owed t₀.succ = 0 from rfl]
  iintro ⟨⟨Hs, Hc⟩, ⟨%W, -, HO⟩, -⟩
  iapply (wp_body m c t₀ W _) $$ [Hs Hc HO]
  · isplitl [Hs]; · iexact Hs
    isplitl [Hc] <;> iassumption
  iintro ⟨Hz, Hd, ⟨%W', HO⟩⟩
  isplitl [Hz Hd]
  · isplitl [Hz] <;> iassumption
  isplitl [HO]
  · iexists W'
    isplitr; · ipureintro; exact fun _ _ => Or.inl trivial
    iexact HO
  iempintro

/-! ## The memory dealt: the shares and the slots -/

/-- The slots of two neighbours are at different places. -/
theorem rows_apart (c : Dev nD) {κ κ' : Fin 8} (h : κ ≠ κ') : (peer κ c).val + 1 ≤ (peer κ' c).val ∨ (peer κ' c).val + 1 ≤ (peer κ c).val :=
  rows_apart' (peer_ne c κ κ' h)

/-- The slots of the first output share no entry. -/
theorem out_disjoint0 (c : Dev nD) (κ κ' : Fin 8) (h : κ ≠ κ') : Disjoint (out c 0 κ).view.set (out c 0 κ').view.set :=
  disjoint_slabs main_v1_0 (0 : Fin 3) squeezes_S1x4096x2051_S4096x2051 (off0_inb c κ) (off0_inb c κ') (by rw [off0_eq, off0_eq]; exact rows_apart c h)
/-- The slots of the second output share no entry. -/
theorem out_disjoint1 (c : Dev nD) (κ κ' : Fin 8) (h : κ ≠ κ') : Disjoint (out c 1 κ).view.set (out c 1 κ').view.set :=
  disjoint_slabs main_v1_1 (0 : Fin 3) squeezes_S1x3328x1024_S3328x1024 (off1_inb c κ) (off1_inb c κ') (by rw [off1_eq, off1_eq]; exact rows_apart c h)

/-- The half of its arguments a device keeps. -/
def kept (c : Dev nD) : sProp 𝕄 := iprop(argPts m fullShare.left c 0 ∗ argPts m fullShare.left c 1)

/-- A share of its rows a device sends from, and an output slot it finds. -/
def sent (c : Dev nD) (j : Fin 2 × Fin 5) : sProp 𝕄 := argPts m (part j.2) c j.1
def found (c : Dev nD) (j : J) : sProp 𝕄 := fresh m c (out c j.1 j.2)

omit [FloatOps F] in
/-- Pieces of both arrays. -/
theorem bigSep_arrays {I : Type} [Fintype I] (Φ : Fin 2 × I → sProp 𝕄) :
    bigSep Finset.univ Φ = iprop((bigSep Finset.univ fun k => Φ (0, k)) ∗ bigSep Finset.univ fun k => Φ (1, k)) := by
  rw [bigSep_univ_prod, bigSep_univ_eq_bigSepL [0, 1] (by decide) (by decide), bigSepL_cons_cons, bigSepL_singleton]; rfl

omit [FloatOps F] in
/-- A device's rows split: half of them kept, and five shares to send from. -/
theorem arg_split (c : Dev nD) (a : Fin 2) : argPts m fullShare c a ⊢ iprop(argPts m fullShare.left c a ∗ bigSep Finset.univ fun r => sent m c (a, r)) := by
  have h : ∀ q : PosShare TreeShare, argPts m q c a ⊢ iprop(argPts m q.left c a ∗ argPts m q.right c a) := fun q => (pointsTo_share (PosShare.mem_left_op_right q)).1
  have e : (bigSep Finset.univ fun r => sent m c (a, r)) = iprop(argPts m fullShare.right.left c a ∗ argPts m fullShare.right.right.left c a
      ∗ argPts m fullShare.right.right.right.left c a ∗ argPts m fullShare.right.right.right.right.left c a ∗ argPts m fullShare.right.right.right.right.right c a) := by
    rw [bigSep_univ_eq_bigSepL [0, 1, 2, 3, 4] (by decide) (by decide), bigSepL_cons_cons, bigSepL_cons_cons, bigSepL_cons_cons, bigSepL_cons_cons, bigSepL_singleton]; rfl
  rw [e]
  iintro H
  ihave H := (h _) $$ H
  icases H with ⟨H0, H⟩
  ihave H := (h _) $$ H
  icases H with ⟨H1, H⟩
  ihave H := (h _) $$ H
  icases H with ⟨H2, H⟩
  ihave H := (h _) $$ H
  icases H with ⟨H3, H⟩
  ihave H := (h _) $$ H
  icases H with ⟨H4, H⟩
  isplitl [H0]; · iexact H0
  isplitl [H1]; · iexact H1
  isplitl [H2]; · iexact H2
  isplitl [H3]; · iexact H3
  isplitl [H4]; · iexact H4
  iexact H

omit [FloatOps F] in
/-- A device's four arrays: half its arguments kept, half in shares to send from; its outputs in their slots. -/
theorem mem_split (c : Dev nD) : (unscopedBufs c (fun b => m ((c : Thread nD τ).loc b)) : sProp 𝕄)
    ⊢ iprop(kept m c ∗ bigSep Finset.univ (sent m c) ∗ bigSep Finset.univ (found m c)) := by
  have hb : (unscopedBufs c (fun b => m ((c : Thread nD τ).loc b)) : sProp 𝕄) = iprop(
      (((c : Thread nD τ).loc main_arg0) ↦{fullShare} m ((c : Thread nD τ).loc main_arg0))
      ∗ (((c : Thread nD τ).loc main_arg1) ↦{fullShare} m ((c : Thread nD τ).loc main_arg1))
      ∗ (((c : Thread nD τ).loc main_v1_0) ↦{fullShare} m ((c : Thread nD τ).loc main_v1_0))
      ∗ (((c : Thread nD τ).loc main_v1_1) ↦{fullShare} m ((c : Thread nD τ).loc main_v1_1))) := by
    unfold unscopedBufs
    rw [bigSep_eq_bigSepL_of_eq [main_arg0, main_arg1, main_v1_0, main_v1_1] (by decide) (by decide),
      bigSepL_cons_cons, bigSepL_cons_cons, bigSepL_cons_cons, bigSepL_singleton]
    rfl
  have h0 : (((c : Thread nD τ).loc main_arg0) ↦{fullShare} m ((c : Thread nD τ).loc main_arg0) : sProp 𝕄) ⊢ argPts m fullShare c 0 := by
    unfold argPts; rw [show (arg 0).view.set = Finset.univ from View.set_whole main_arg0]
  have h1 : (((c : Thread nD τ).loc main_arg1) ↦{fullShare} m ((c : Thread nD τ).loc main_arg1) : sProp 𝕄) ⊢ argPts m fullShare c 1 := by
    unfold argPts; rw [show (arg 1).view.set = Finset.univ from View.set_whole main_arg1]
  rw [hb, bigSep_arrays, bigSep_arrays]
  unfold kept
  iintro ⟨H0, H1, H3, H4⟩
  ihave H0 := (h0.trans (arg_split m c 0)) $$ H0
  ihave H1 := (h1.trans (arg_split m c 1)) $$ H1
  icases H0 with ⟨H0, R0⟩
  icases H1 with ⟨H1, R1⟩
  isplitl [H0 H1]
  · isplitl [H0] <;> iassumption
  isplitl [R0 R1]
  · isplitl [R0] <;> iassumption
  isplitl [H3]; · iapply (slabs fullShare (m ((c : Thread nD τ).loc main_v1_0)) (fun k => (out c 0 k).view.set) (out_disjoint0 c)); iexact H3
  iapply (slabs fullShare (m ((c : Thread nD τ).loc main_v1_1)) (fun k => (out c 1 k).view.set) (out_disjoint1 c)); iexact H4

/-! ## The launch -/

/-- Different events and devices have different semaphores. -/
theorem kcell_injective : Function.Injective kcell := by
  rintro ⟨c, x⟩ ⟨c', x'⟩ h
  have h1 : c = c' := congrArg (fun g : GSem nD τ sig => g.1.1) h
  have h2 : semOf x = semOf x' := SemLoc.dma.inj (congrArg Prod.snd h)
  rw [h1, ← xOf_semOf x, h2, xOf_semOf]

/-- On one device too. -/
theorem csem_injective : Function.Injective csem := fun x y h =>
  congrArg Prod.snd (kcell_injective (a₁ := (0, x)) (a₂ := (0, y)) (Prod.ext rfl h))

/-- Every cell. -/
def cells : Finset (GSem nD τ sig) := Finset.univ.map ⟨kcell, kcell_injective⟩
/-- Every raise of a semaphore, at the launch. -/
def duties : Finset (GSem nD τ sig × ℕ × Unit) := Finset.univ.map ⟨fun x => (kcell x, 0, ()), fun _ _ h => kcell_injective (congrArg Prod.fst h)⟩

/-- The records at the launch. -/
def u₀ : UU := (initOf ∅ ∅, initOf cells duties)

omit [FloatOps F] in
/-- The ghost state of every cell. -/
theorem fund_cells : BI.own (ER (initOf cells duties)) ⊢ (|==> iprop((bigSep Finset.univ fun x => roundState ER (rd m) (kcell x) 0)
    ∗ (bigSep Finset.univ fun x => reached ER (kcell x) 0) ∗ (bigSep Finset.univ fun x => atPos ER (kcell x) 0 ∅ 0)
    ∗ bigSep Finset.univ fun x => dutyTok ER (kcell x) 0 ()) : sProp 𝕄) := by
  have h := Rounds.fund ER (rd m) cells duties
  unfold cells duties at h ⊢
  simp only [bigSep_map] at h
  exact h

omit [FloatOps F] in
/-- A device's scoped semaphores are its cells. -/
theorem scopedSems0_eq (c : Dev nD) : (scopedSems0 (c : Thread nD τ) : sProp 𝕄) = zeros c := by
  rw [show (scopedSems0 (c.tc : Thread nD τ) : sProp 𝕄) = _ from scopedSems0_tc c,
    show (Finset.univ.filter fun sm : SemLoc sig => sm.isScoped .tc = true) = Finset.univ.map ⟨csem, csem_injective⟩ from by decide +kernel, bigSep_map]
  rfl

/-- What a device starts the kernel's call from. -/
def dealt (c : Dev nD) : sProp 𝕄 := iprop(start m c ∗ kept m c)

omit [FloatOps F] in
/-- The cells' invariants, allocated together. -/
theorem alloc_cells : iprop((bigSep Finset.univ fun c : Dev nD => zeros c) ∗ bigSep Finset.univ fun x => roundState ER (rd m) (kcell x) 0)
    ⊢ (|={Set.univ}=> ∃ K : Dev nD × X → ℕ, bigSep Finset.univ fun x => cellInv ER (rd m) (K x) (kcell x) : sProp 𝕄) := by
  have hz : (bigSep Finset.univ fun c : Dev nD => (zeros c : sProp 𝕄)) = bigSep Finset.univ fun x => semVal (kcell x) 0 := by
    rw [bigSep_univ_prod]; rfl
  rw [hz, ← bigSep_sep']
  exact ((bigSep_mono fun x _ => (Rounds.body_intro ER (rd m) (kcell x)).trans inv_alloc).trans (bigSep_fupd _ _)).trans
    (BI.fupd_mono (BI.bigSep_exists_pi Finset.univ (fun (x : Dev nD × X) (κ : ℕ) => (cellInv ER (rd m) κ (kcell x) : sProp 𝕄))))

/-- What is a device's alone: its shares to send from, the slots it writes here and elsewhere, the duties it pays, its positions, its half of its arguments. -/
def own (c : Dev nD) : sProp 𝕄 :=
  iprop(bigSep Finset.univ (keepRes m c) ∗ bigSep Finset.univ (startRes m c) ∗ bigSep Finset.univ (passTok m c)
    ∗ (bigSep Finset.univ fun x : X => atPos ER (cell c x) 0 ∅ 0) ∗ kept m c)

omit [FloatOps F] in
/-- Pieces of every device and arrival may be counted at the writer of the slot. -/
theorem cross_over (Φ : Dev nD → J → sProp 𝕄) :
    (bigSep Finset.univ fun c => bigSep Finset.univ fun j => Φ c j) = bigSep Finset.univ fun c => bigSep Finset.univ fun j : J => Φ (goes c j) j := by
  rw [BI.bigSep_univ_comm Φ, BI.bigSep_univ_comm fun c (j : J) => Φ (goes c j) j]
  exact bigSep_congr fun j _ => bigSep_univ_equiv (swap (wr j.2)) fun c => Φ c j

omit [FloatOps F] in
/-- The slots and the arrivals' duties of every device, dealt to the slots' writers. -/
theorem slots_cross : iprop((bigSep Finset.univ fun c : Dev nD => bigSep Finset.univ (found m c))
      ∗ bigSep Finset.univ fun c : Dev nD => bigSep Finset.univ fun j : J => dutyTok ER (kcell (c, arrives j)) 0 ())
    = (bigSep Finset.univ fun c : Dev nD => bigSep Finset.univ (slot m c) : sProp 𝕄) := by
  rw [cross_over (found m), cross_over fun c j => (dutyTok ER (kcell (c, arrives j)) 0 () : sProp 𝕄), ← bigSep_sep']
  exact bigSep_congr fun c _ => (bigSep_sep' _ _ _).symm

omit [FloatOps F] in
/-- Pieces of every cell, by device: direct departures, departures of what is passed on, arrivals. -/
theorem bigSep_cells (Φ : Dev nD × X → sProp 𝕄) : bigSep Finset.univ Φ
    = iprop((bigSep Finset.univ fun c : Dev nD => bigSep Finset.univ fun j : D => Φ (c, .inl j)) ∗ (bigSep Finset.univ fun c : Dev nD => bigSep Finset.univ fun j : P => Φ (c, .inr (.inl j)))
      ∗ bigSep Finset.univ fun c : Dev nD => bigSep Finset.univ fun j : J => Φ (c, arrives j)) := by
  rw [bigSep_univ_prod, ← bigSep_sep', ← bigSep_sep']
  exact bigSep_congr fun c _ => (bigSep_univ_sum _).trans (congrArg (fun A : sProp 𝕄 => iprop((bigSep Finset.univ fun j : D => Φ (c, .inl j)) ∗ A)) (bigSep_univ_sum _))

omit [FloatOps F] in
/-- What is dealt to a device, sorted by what it is for. -/
theorem own_of (c : Dev nD) : iprop(kept m c ∗ bigSep Finset.univ (sent m c) ∗ bigSep Finset.univ (slot m c) ∗ (bigSep Finset.univ fun x : X => atPos ER (cell c x) 0 ∅ 0)
      ∗ (bigSep Finset.univ fun j : D => dutyTok ER (cell c (.inl j)) 0 ()) ∗ bigSep Finset.univ fun j : P => dutyTok ER (cell c (.inr (.inl j))) 0 ())
    ⊢ own m c := by
  have hk : ∀ Φ : Fin 2 → sProp 𝕄, sepL Φ [0, 1] = bigSep Finset.univ Φ := fun Φ => sepL_eq Φ _ (by decide)
  have hd : ∀ Φ : D → sProp 𝕄, sepL Φ ds = bigSep Finset.univ Φ := fun Φ => by rw [sepL_eq Φ ds (by decide), show ds.toFinset = Finset.univ by decide]
  have hp : ∀ Φ : P → sProp 𝕄, sepL Φ ps = bigSep Finset.univ Φ := fun Φ => by rw [sepL_eq Φ ps (by decide), show ps.toFinset = Finset.univ by decide]
  have hj : ∀ Φ : J → sProp 𝕄, bigSep Finset.univ Φ = iprop((bigSep Finset.univ fun a => Φ (ownJ a)) ∗ (bigSep Finset.univ fun j => Φ (dirJ j)) ∗ bigSep Finset.univ fun j => Φ (pasJ j)) := fun Φ => by
    rw [← hk, ← hd, ← hp, ← sepL_map Φ ownJ, ← sepL_map Φ dirJ, ← sepL_map Φ pasJ, ← sepL_append, ← sepL_append, sepL_eq Φ _ (by decide +kernel),
      show ([0, 1].map ownJ ++ (ds.map dirJ ++ ps.map pasJ)).toFinset = Finset.univ by decide +kernel]
  have hs : ∀ Φ : Fin 2 × Fin 5 → sProp 𝕄, bigSep Finset.univ Φ = iprop((bigSep Finset.univ fun a => Φ (ownS a)) ∗ bigSep Finset.univ fun j => Φ (dirS j)) := fun Φ => by
    rw [← hk, ← hd, ← sepL_map Φ ownS, ← sepL_map Φ dirS, ← sepL_append, sepL_eq Φ _ (by decide +kernel), show ([0, 1].map ownS ++ ds.map dirS).toFinset = Finset.univ by decide +kernel]
  rw [hs (sent m c), hj (slot m c)]
  unfold own keepRes startRes passTok
  simp only [bigSep_sep']
  iintro ⟨Hk, ⟨HsK, HsD⟩, ⟨HvK, HvD, HvP⟩, Hat, HtD, HtP⟩
  isplitl [HsK HvK]
  · isplitl [HsK]; · iexact HsK
    iexact HvK
  isplitl [HsD HvD HtD]
  · isplitl [HsD]; · iexact HsD
    isplitl [HvD]; · iexact HvD
    iexact HtD
  isplitl [HvP HtP]
  · isplitl [HvP]; · iexact HvP
    iexact HtP
  isplitl [Hat]; · iexact Hat
  iexact Hk

omit [FloatOps F] in
/-- The outputs' slots and the arrivals' duties cross over to the slots' writers. -/
theorem cross : iprop((bigSep Finset.univ fun c : Dev nD => iprop(kept m c ∗ bigSep Finset.univ (sent m c) ∗ bigSep Finset.univ (found m c)))
      ∗ (bigSep Finset.univ fun x => atPos ER (kcell x) 0 ∅ 0) ∗ bigSep Finset.univ fun x => dutyTok ER (kcell x) 0 ())
    ⊢ (bigSep Finset.univ (own m) : sProp 𝕄) := by
  have h : _ ⊢ (bigSep Finset.univ (own m) : sProp 𝕄) := bigSep_mono (s := Finset.univ) fun (c : Dev nD) _ => own_of m c
  simp only [bigSep_sep', ← slots_cross] at h
  rw [bigSep_cells fun x => (dutyTok ER (kcell x) 0 () : sProp 𝕄), bigSep_univ_prod fun x : Dev nD × X => (atPos ER (kcell x) 0 ∅ 0 : sProp 𝕄)]
  simp only [bigSep_sep']
  iintro ⟨⟨Hk, Hs, Hf⟩, Hat, HtD, HtP, HtJ⟩
  iapply h
  isplitl [Hk]; · iexact Hk
  isplitl [Hs]; · iexact Hs
  isplitl [Hf HtJ]
  · isplitl [Hf] <;> iassumption
  isplitl [Hat]; · iexact Hat
  isplitl [HtD]; · iexact HtD
  iexact HtP

omit [FloatOps F] in
/-- The launch's step over all devices at once. -/
theorem deal : iprop((bigSep Finset.univ fun c : Dev nD => scopedSems0 (c : Thread nD τ))
      ∗ (bigSep Finset.univ fun c : Dev nD => unscopedBufs c (fun b => m ((c : Thread nD τ).loc b)))
      ∗ BI.own (ER (initOf cells duties)) ∗ bigSep Finset.univ fun c : Dev nD => levels0 c)
    ⊢ (|={Set.univ}=> bigSep Finset.univ (dealt m) : sProp 𝕄) := by
  rw [bigSep_congr (s := Finset.univ) fun (c : Dev nD) _ => scopedSems0_eq c]
  iintro ⟨Hz, Hb, Hu, Hl⟩
  imod (fund_cells m) $$ Hu with ⟨Hst, #Hr, Hat, Htok⟩
  imod (alloc_cells m) $$ [Hz Hst] with ⟨%K, #HI⟩
  · isplitl [Hz] <;> iassumption
  imod (show (bigSep Finset.univ fun c : Dev nD => (levels0 c : sProp 𝕄)) ⊢ _ from Smoke.lev_assign_devs (fun _ => {()}) lev) $$ Hl with ⟨-, #HL⟩
  imodintro
  iapply (bigSep_with_persistent (R := records m K) (Φ := own m) (Ψ := dealt m) fun c _ => (by
    unfold own dealt start
    iintro ⟨#HR, H1, H2, H5, H3, H4⟩
    isplitr [H4]
    · isplitr; · iexists K; iexact HR
      isplitl [H1]; · iexact H1
      isplitl [H2]; · iexact H2
      isplitl [H5] <;> iassumption
    iexact H4))
  isplitr
  · unfold records
    isplitl; · iexact HI
    isplitl; · iexact Hr
    iexact HL
  iapply (cross m)
  isplitl [Hb]; · iapply (show (bigSep Finset.univ fun c : Dev nD => (unscopedBufs c (fun b => m ((c : Thread nD τ).loc b)) : sProp 𝕄)) ⊢ _ from bigSep_mono fun c _ => mem_split m c); iexact Hb
  isplitl [Hat] <;> iassumption

/-! ### The launch credit -/

/-- Different arrivals are different events. -/
theorem arrives_injective : Function.Injective arrives := fun _ _ h => Sum.inr.inj (Sum.inr.inj h)

/-- Arrivals' semaphores are equal just when device and arrival are. -/
theorem cell_eq_iff {c d : Dev nD} {i j : J} : Iff (cell c (arrives i) = cell d (arrives j)) (c = d ∧ i = j) :=
  ⟨fun h => by
    have := kcell_injective (a₁ := (c, arrives i)) (a₂ := (d, arrives j)) h
    exact ⟨congrArg Prod.fst this, arrives_injective (congrArg Prod.snd this)⟩, fun ⟨h, h'⟩ => h ▸ h' ▸ rfl⟩

/-- What device `d` owes an arrival: its credit, if it is the slot's writer. -/
theorem owed_apply (d c : Dev nD) (j : J) : ∀ l : List J, l.Nodup → owed d l (cell c (arrives j)) () = if goes d j = c ∧ j ∈ l then N j.1 else 0
  | [], _ => by rw [owed, if_neg (fun h => nomatch h.2)]; rfl
  | i :: l, h => by
    rw [owed, Pi.add_apply, Finsupp.add_apply, tallyAt_apply, owed_apply d c j l (List.nodup_cons.mp h).2]
    have hn := (List.nodup_cons.mp h).1
    by_cases hi : i = j
    · subst hi
      rw [if_neg (fun h => hn h.2), Nat.zero_add]
      exact if_congr ⟨fun h => ⟨(cell_eq_iff.mp h.1).1.symm, List.mem_cons_self⟩, fun h => ⟨cell_eq_iff.mpr ⟨h.1.symm, rfl⟩, rfl⟩⟩ rfl rfl
    · have h2 : ¬(cell c (arrives j) = cell (goes d i) (arrives i) ∧ () = ()) := fun h => hi (cell_eq_iff.mp h.1).2.symm
      rw [if_neg h2, Nat.add_zero]
      exact if_congr ⟨fun h => ⟨h.1, List.mem_cons_of_mem _ h.2⟩, fun h => ⟨h.1, (List.mem_cons.mp h.2).resolve_left fun e => hi e.symm⟩⟩ rfl rfl

/-- What the launch expects of one arrival from another device. -/
theorem launch_cell (c : Dev nD) (j : J) (hj : j ∈ others) :
    tallyOn (cell c (arrives j)) (launchCredit (Pipeline.owing fun c => owed c sends) 0 (cell c (arrives j))) = (tallyAt (cell c (arrives j)) () (N j.1) : CellTallies nD τ sig Unit) := by
  unfold tallyAt; refine congrArg _ (Finsupp.ext fun u => ?_); cases u
  rw [Pipeline.launchCredit_owing, Finsupp.single_eq_same, Finset.sum_congr rfl fun d _ => owed_apply d c j sends (by decide +kernel),
    Finset.sum_eq_single (goes c j) (fun d _ hd => if_neg fun h => hd (by rw [← h.1]; exact (peer_peer _ d).symm)) (fun h => absurd (Finset.mem_univ _) h),
    if_pos ⟨peer_peer _ c, by revert j; decide +kernel⟩]

omit [FloatOps F] in
/-- What the launch hands a device for its waits. -/
theorem creds (c : Dev nD) : (Pipeline.launchCred (fun c => owed c sends) c : sProp 𝕄) ⊢ credits c := by
  unfold Pipeline.launchCred credits
  rw [sepL_eq _ others (by decide +kernel)]
  refine (Idealize.SL.BI.bigSep_subset (Finset.subset_univ (others.toFinset.map ⟨fun j : J => csem (arrives j), fun i j h => arrives_injective (csem_injective h)⟩))).trans ?_
  rw [bigSep_map]
  exact bigSep_mono fun j hj => by
    show cred (tallyOn (cell c (arrives j)) (launchCredit (Pipeline.owing fun c => owed c sends) 0 (cell c (arrives j)))) ⊢ _
    rw [launch_cell c j (List.mem_toFinset.mp hj)]; exact BI.Entails.refl _

/-! ### A device's run -/

omit [FloatOps F] in
/-- No buffer is scoped. -/
theorem scopedBufs_emp (c : Dev nD) : (scopedBufs (c.tc : Thread nD τ) : sProp 𝕄) = BI.emp := by
  rw [show (scopedBufs (c.tc : Thread nD τ) : sProp 𝕄) = _ from scopedBufs_tc c,
    show (Finset.univ.filter fun b : Ref sig .tc => b.isScoped) = ∅ from by decide, BI.bigSep_empty]

/-- What a device ends with. -/
def fin (c : Dev nD) : sProp 𝕄 := iprop(kept m c ∗ done m c ∗ scopedSems0 (c.tc : Thread nD τ))

abbrev adms : (p : Fin 1) → (pcfgs (F := F) p).Adm := fun p => (cfgs p).toPCfg_adm

/-- The call has no windows, so no two share a semaphore. -/
theorem cells_none : Function.Injective (Pipeline.cellOf (nD := nD) (τ := τ) (Pipeline.pin (pcfgs (F := F)) adms)) := by
  rintro ⟨_, ⟨_, ⟨w, _⟩⟩⟩ _ _; exact w.elim0

/-- The call needs what the device owes, and nothing of a pipeline: no operand is staged. -/
theorem entry_pre (c : Dev nD) : iprop(owes (c : Thread nD τ) (owed c sends) ∅)
    ⊢ Pipeline.EntryPre (Pipeline.pin (pcfgs (F := F)) adms) (dats m) () EP (fun _ => 0) 0 c := by
  show _ ⊢ iprop(bigSep Finset.univ _ ∗ (dats m 0 c).owesAt () 0 ∗ bigSep Finset.univ _ ∗ bigSep Finset.univ _ ∗ bigSep Finset.univ _)
  unfold Pipeline.Dat.owesAt Pipeline.owesWithin
  rw [bigSep_none, bigSep_none, bigSep_none, bigSep_none]
  iintro H
  isplitr; · iempintro
  isplitl [H]
  · iexists ∅; isplitr; · ipureintro; rw [Finset.coe_empty]; exact Set.empty_subset _
    iexact H
  isplitr; · iempintro
  isplitr <;> iempintro

/-- What the call leaves: the device owes nothing. -/
theorem entry_post (c : Dev nD) : Pipeline.EntryPost (Pipeline.pin (pcfgs (F := F)) adms) (dats m) () 0 c
    ⊢ iprop(∃ W, owes (c : Thread nD τ) (0 : CellTallies nD τ sig Unit) W) := by
  show iprop(bigSep Finset.univ _ ∗ (dats m 0 c).owesAt () (Fin.last _)) ⊢ _
  unfold Pipeline.Dat.owesAt Pipeline.owesWithin
  iintro ⟨-, ⟨%W, -, H⟩⟩
  iexists W; iexact H

/-- No table is prefetched. -/
theorem pref_none (c : Dev nD) : (Pipeline.prefHeld (pcfgs (F := F) 0).pre c (fun _ => fullShare) (adms (F := F) 0).1 : sProp 𝕄) = iprop(emp) := by
  unfold Pipeline.prefHeld
  exact (congrArg (fun S => bigSep S _) (Finset.univ_eq_empty (α := Fin 0))).trans BI.bigSep_empty

/-- What the call needs at its start. -/
theorem call_in (c : Dev nD) : iprop(iprop(start m c ∗ credits c) ∗ Pipeline.prefHeld (pcfgs (F := F) 0).pre c (fun _ => fullShare) (adms (F := F) 0).1 ∗ BI.emp)
    ⊢ (dats m 0 c).Φ 0 := by
  show _ ⊢ iprop(start m c ∗ credits c)
  iintro ⟨H, -⟩; iexact H

/-- What it leaves at its end. -/
theorem call_out (c : Dev nD) : iprop((dats m 0 c).Φ (Fin.last (Pipeline.pin (pcfgs (F := F)) adms 0).N)
      ∗ Pipeline.cellsSems0 (Pipeline.pin (pcfgs (F := F)) adms) 0 c ∗ Pipeline.Dat.staging (Pipeline.pin (pcfgs (F := F)) adms 0) c ∗ BI.emp)
    ⊢ iprop(done m c ∗ scopedSems0 (c.tc : Thread nD τ) ∗ scopedBufs (c.tc : Thread nD τ)) := by
  rw [scopedBufs_emp, show (scopedSems0 (c.tc : Thread nD τ) : sProp 𝕄) = zeros c from scopedSems0_eq c]
  show iprop(iprop(zeros c ∗ done m c) ∗ _) ⊢ _
  iintro ⟨⟨Hz, Hd⟩, -⟩
  isplitl [Hd]; · iexact Hd
  isplitl [Hz]; · iexact Hz
  iempintro

/-- It has no buffers of its own. -/
theorem call_bufs (c : Dev nD) : (scopedBufs (c.tc : Thread nD τ) : sProp 𝕄) ⊢ iprop(Pipeline.Dat.staging (Pipeline.pin (pcfgs (F := F)) adms 0) c ∗ BI.emp) := by
  show _ ⊢ iprop(bigSep Finset.univ _ ∗ BI.emp)
  rw [bigSep_none]
  iintro -
  isplitr <;> iempintro

/-- A device's run of the program. -/
theorem wp_main (c : Dev nD) : iprop(dealt m c ∗ credits c ∗ owes (c : Thread nD τ) (owed c sends) ∅)
    ⊢ wp frame (wpE (defs (F := F)) 𝒱₀.lift (c : Thread nD τ) none) Set.univ (main (F := F) c) (fun _ => post (liftTc (fin m) BI.emp) (c : Thread nD τ)) := by
  have hcall := Pipeline.wp_customCall_entry_frame (pcfgs (F := F)) adms (dats m) () EP (fun _ => 0) cells_none (0 : Fin 1) defs₀ 𝒱₀ (fun _ => fullShare) c Set.univ
    (fun _ _ => Set.mem_univ _) (body_obligation m c).loose (fun w => w.elim0) none (fun u h => nomatch h)
    (call_bufs c) (call_in m c) (call_out m c)
    (α := PUnit) (k := fun _ => .ret PUnit.unit) (Q := fun _ => post (liftTc (fin m) BI.emp) (c : Thread nD τ))
  unfold dealt
  iintro ⟨⟨Hs, Hk⟩, Hc, HO⟩
  iapply hcall $$ [Hs Hc HO]
  · isplitl [HO]; · iapply (entry_pre m c); iexact HO
    isplitr; · rw [pref_none]; iempintro
    isplitl [Hs Hc]; · isplitl [Hs] <;> iassumption
    isplitr; · iempintro
    rw [scopedBufs_emp]; iempintro
  iintro ⟨Hp, Hd, Hz, -⟩
  rw [wp_ret]; imodintro
  unfold post; simp only [liftTc_tc, fin]
  isplitl [Hk Hd Hz]
  · isplitl [Hk]; · iexact Hk
    isplitl [Hd] <;> iassumption
  iapply (entry_post m c); iexact Hp

/-! ### The end -/

/-- The slots a device holds are what memory has there. -/
theorem read_slabs (c : Dev nD) (s' : Phys nD τ sig (Elt F)) (S : Finset J) :
    iprop(SI s' ∗ bigSep S (landed m fullShare.left c))
      ⊢ (⌜∀ j ∈ S, ∀ i ∈ (out c j.1 j.2).view.set, s'.mem.mem ((out c j.1 j.2).view.loc (c : Thread nD τ)) i = held m c j i⌝ : sProp 𝕄) := by
  induction S using Finset.induction_on with
  | empty => iintro -; ipureintro; exact fun j h => absurd h (Finset.notMem_empty j)
  | insert j S hj ih =>
    rw [bigSep_insert hj]
    show iprop(SI s' ∗ ((out c j.1 j.2).view.loc (c : Thread nD τ) ↦[(out c j.1 j.2).view.set]{fullShare.left} held m c j) ∗ bigSep S (landed m fullShare.left c)) ⊢ _
    iintro ⟨HSI, H, HS⟩
    icombine HSI H gives %h
    ihave %hS := ih $$ [HSI HS]
    · isplitl [HSI] <;> iassumption
    ipureintro
    exact fun j' h' => (Finset.mem_insert.mp h').elim (fun e => e ▸ h) (hS j')

/-- Every semaphore is scoped. -/
theorem all_scoped : ∀ sm : SemLoc sig, sm.isScoped .tc = true := by decide

/-- What memory holds of a device at the end. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1))
  ∧ ∀ j : J, ∀ i ∈ (out c j.1 j.2).view.set, s.mem ((out c j.1 j.2).view.loc (c : Thread nD τ)) i = held m c j i

/-- What a device ends with, read off the memory. -/
theorem read_fin (c : Dev nD) (s' : Phys nD τ sig (Elt F)) : iprop(fin m c ∗ SI s')
    ⊢ |={Set.univ}=> iprop(⌜Ends m c s'.mem ∧ ∀ sm : SemLoc sig, sm.isScoped .tc = true → s'.mem.sem ((c.tc : Thread nD τ), sm) = 0⌝ ∗ SI s') := by
  unfold fin kept argPts
  iintro ⟨⟨⟨H0, H1⟩, Hd, Hz⟩, HSI⟩
  ihave %hz := (tcScoped_read_pers c s') $$ [Hz HSI]
  · isplitl [Hz] <;> iassumption
  icombine HSI H0 gives %h0
  icombine HSI H1 gives %h1
  ihave %hd := ((read_slabs m c s' Finset.univ).trans Laws.persistently_pure.2) $$ [HSI Hd]
  · isplitl [HSI]; · iexact HSI
    unfold done; iexact Hd
  imodintro
  isplitr
  · ipureintro
    exact ⟨⟨⟨Buf.eq_of_forall_mem_univ fun i _ => h0 i (by rw [show (arg 0).view.set = Finset.univ from View.set_whole main_arg0]; exact Finset.mem_univ i),
      Buf.eq_of_forall_mem_univ fun i _ => h1 i (by rw [show (arg 1).view.set = Finset.univ from View.set_whole main_arg1]; exact Finset.mem_univ i)⟩, fun j => hd j (Finset.mem_univ j)⟩, hz⟩
  · iexact HSI

/-- The eight devices' runs: every argument unchanged, every slot filled, every semaphore back at zero. -/
theorem run_main (g : Dev nD → PrngReg) :
    θ_run (defs (F := F)) (onTc (τ := τ) (main (F := F))) ⟨m, fun _ => 0, g⟩ (fun r => (∀ c, Ends m c r.2) ∧ r.2.sem = fun _ => 0) := by
  refine (θ_run (defs (F := F)) _ _).mono (Q := fun r => (∀ c : Dev nD, Ends m c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, funext fun g' => sems_of_reads (fun c => (hr.1 c).2) hr.2 g'
      (Or.inr (all_scoped g'.2))⟩)
    (adequate_tpu (defs (F := F)) _ _ _
    (reflect_intro_fupd_tc_sems (X := Unit) (Ix := Unit) (Name := ℕ) (U := UU) (Lvl := ℕ) 𝒱₀.lift (Pipeline.owing fun c => owed c sends) 0 (noBookings fun _ => le_rfl)
      (Pipeline.owing_of_ne _) u₀ (fun _ c => iprop(dealt m c ∗ credits c ∗ owes (c : Thread nD τ) (owed c sends) ∅)) (fun _ => fin m)
      (fun _ => iprop(emp)) Set.univ ?_ (fun _ c => wp_main m c) fun _ => ?_))
  · have hcore : (bigSep Finset.univ fun d : Dev nD =>
          coreInit (Ix := Unit) (Name := ℕ) (U := UU) (Lvl := ℕ) (Pipeline.owing fun c => owed c sends) 0 (⟨m, fun _ => 0, g⟩ : MemSt nD τ sig (Elt F)) (d.tc : Thread nD τ))
        ⊢ (bigSep Finset.univ fun c : Dev nD => iprop(scopedSems0 (c : Thread nD τ) ∗ unscopedBufs c (fun b => m ((c : Thread nD τ).loc b))
          ∗ levels0 c ∗ owes (c : Thread nD τ) (owed c sends) ∅ ∗ credits c) : sProp 𝕄) :=
      bigSep_mono fun c _ => (Pipeline.coreInit_boundary_owing _ m g c).trans (by
        unfold boundary
        iintro ⟨⟨-, Hz, -⟩, Hb, -, HO, Hl, -, Hc⟩
        isplitl [Hz]; · iexact Hz
        isplitl [Hb]; · iexact Hb
        isplitl [Hl]; · iexact Hl
        isplitl [HO]; · iexact HO
        iapply (creds c); iexact Hc)
    simp only [bigSep_sep'] at hcore ⊢
    iintro ⟨H, Hu⟩
    ihave Hc := hcore $$ H
    icases Hc with ⟨Hz, Hb, Hl, HO, Hc⟩
    unfold u₀
    ihave Hu2 := (ownU_pair _ _) $$ Hu
    icases Hu2 with ⟨-, HX⟩
    imod (deal m) $$ [Hz Hb HX Hl] with Hd
    · isplitl [Hz]; · iexact Hz
      isplitl [Hb]; · iexact Hb
      isplitl [HX] <;> iassumption
    imodintro
    iexists ()
    isplitl
    · isplitl [Hd]; · iexact Hd
      isplitl [Hc] <;> iassumption
    · iempintro
  · iintro ⟨H, -, Hsc⟩ %s' HSI
    ihave %hsc := (scSems_read_zero m g s') $$ [Hsc HSI]
    · isplitl [Hsc] <;> iassumption
    imod (posts_fupd Finset.univ (read_fin m) s') $$ [H HSI] with %h
    · isplitl [H] <;> iassumption
    imodintro
    ipureintro
    exact ⟨fun c => h c (Finset.mem_univ c), hsc⟩

end Cert.Gather

end
-- ==== Proof.GatherValue.lean ====
/-
# What the gather leaves, and the reference's arrays

Every device ends with slot `p` of either output holding device `p`'s rows: the whole array the rows are blocks of, cut
into eight slabs, which is what the reference's reshape makes of it.
-/
module

public import proofs.«01_k».proof.Proof.Gather
public import proofs.«01_k».proof.Proof.Gen.Kernel33
public import proofs.«01_k».proof.Proof.Gen.Reference33Ideal.Run
public import proofs.«01_k».proof.Proof.Gen.Reference33Ideal.Read
public import proofs.«01_k».proof.Defs
public import Idealize.ShloMosaic.Lib.Pointwise.Index
public import Idealize.ShloMosaic.Lib.Pipeline.Value
public import Idealize.ShloMosaic.Lib.ValueLayout
public import Idealize.ShloMosaic.Lib.Layout

@[expose] public section

noncomputable section

namespace Cert.Gather

open Cert.Kernel33Ideal Cert.Kernel33Ideal.Gen
open Cert.SlabProof

open Idealize.ShloMosaic
open Idealize.ShloMosaic.TcCoe

variable {F : FTy → Type} [FloatOps F] {m : (ℓ : Loc nD τ sig) → Buf (Elt F) ℓ}

/-- Every device is a neighbour of every other. -/
theorem peer_onto (c p : Dev nD) : ∃ κ, peer κ c = p := by revert c p; decide +kernel

/-- An entry of slab `p` of an array, from its place in the slab. -/
theorem in_slab {n A B : Nat} (p : Fin n) (a : Fin A) (b : Fin B) (i : (⟨3, ![n, A, B]⟩ : Shape).Idx) (y : (⟨3, ![1, A, B]⟩ : Shape).Idx)
    (off : Fin 3 → Nat) (ho : off = ![p.val, 0, 0]) (hi : ∀ d : Fin 3, (i d).val = off d + (y d).val) (hy : y = ix3 (⟨0, Nat.one_pos⟩ : Fin 1) a b) : i = ix3 p a b := by
  subst ho hy
  funext d
  refine Fin.ext ((hi d).trans ?_)
  fin_cases d
  · exact Nat.add_zero _
  · exact Nat.zero_add _
  · exact Nat.zero_add _

/-- The first output: its slot `p` is device `p`'s rows. -/
theorem out0 {c : Dev nD} {s : MemSt nD τ sig (Elt F)} (h : Ends m c s) (p : Dev nD) (a : Fin 4096) (b : Fin 2051) :
    s.mem ((c : Thread nD τ).loc main_v1_0) (ix3 (p : Fin 8) a b) = m ((p : Thread nD τ).loc main_arg0) (ix2 a b) := by
  obtain ⟨κ, rfl⟩ := peer_onto c p
  have hx : (out c 0 κ).view.emb (ix2 a b) = (ix3 (peer κ c : Fin 8) a b : S8x4096x2051.Idx) :=
    in_slab (peer κ c : Fin 8) a b _ _ _ (off0_eq c κ) (slab_coord main_v1_0 (off0_inb c κ) squeezes_S1x4096x2051_S4096x2051 (ix2 a b)) (ValueIdx.reshapeEquiv_ix2_1ab _ a b)
  have hi : (ix3 (peer κ c : Fin 8) a b : S8x4096x2051.Idx) ∈ (out c 0 κ).view.set := hx ▸ Finset.mem_map_of_mem _ (Finset.mem_univ _)
  exact (h.2 (0, κ) _ hi).trans ((congrArg (held m c (0, κ)) hx.symm).trans (View.write_emb_of_mem _ _ (Finset.mem_univ (ix2 a b))))

/-- The second output: its slot `p` is device `p`'s rows. -/
theorem out1 {c : Dev nD} {s : MemSt nD τ sig (Elt F)} (h : Ends m c s) (p : Dev nD) (a : Fin 3328) (b : Fin 1024) :
    s.mem ((c : Thread nD τ).loc main_v1_1) (ix3 (p : Fin 8) a b) = m ((p : Thread nD τ).loc main_arg1) (ix2 a b) := by
  obtain ⟨κ, rfl⟩ := peer_onto c p
  have hx : (out c 1 κ).view.emb (ix2 a b) = (ix3 (peer κ c : Fin 8) a b : S8x3328x1024.Idx) :=
    in_slab (peer κ c : Fin 8) a b _ _ _ (off1_eq c κ) (slab_coord main_v1_1 (off1_inb c κ) squeezes_S1x3328x1024_S3328x1024 (ix2 a b)) (ValueIdx.reshapeEquiv_ix2_1ab _ a b)
  have hi : (ix3 (peer κ c : Fin 8) a b : S8x3328x1024.Idx) ∈ (out c 1 κ).view.set := hx ▸ Finset.mem_map_of_mem _ (Finset.mem_univ _)
  exact (h.2 (1, κ) _ hi).trans ((congrArg (held m c (1, κ)) hx.symm).trans (View.write_emb_of_mem _ _ (Finset.mem_univ (ix2 a b))))

/-- The reference's array: its slab `p` is block `p` of its argument. -/
theorem whole_at {α : Type} {M A B : Nat} (x : (⟨2, ![M, B]⟩ : Shape).Idx → α) (hc : (⟨2, ![M, B]⟩ : Shape).ShapeCasts ⟨3, ![8, A, B]⟩)
    (ht : Layout.Tiles ⟨2, ![A, B]⟩ ⟨2, ![M, B]⟩ 0 8) (p : Fin 8) (a : Fin A) (b : Fin B) :
    shapeCast ⟨3, ![8, A, B]⟩ x hc (ix3 p a b) = Layout.block ⟨2, ![A, B]⟩ ⟨2, ![M, B]⟩ 0 8 p x ht (ix2 a b) := by
  rw [Layout.block_apply]
  refine shapeCast_apply x hc (ix3 p a b) _ ?_
  rewrite [Shape.rowMajor_val_two, Shape.rowMajor_val_three]
  rfl

end Cert.Gather

namespace Cert.Proof

open Idealize.ShloMosaic Idealize.SL.Sem Cert.Gather

section
attribute [local instance] Cert.Kernel33.Gen.facts Cert.Kernel33Ideal.Gen.facts Cert.Reference33Ideal.Gen.facts

/-- The gather runs, keeps its arguments and leaves every semaphore at zero. -/
theorem gather_frame_ideal : Cert.quiescent_Kernel33Ideal := fun m g _ =>
  (θ_run _ _ _).mono (fun r h => ⟨fun c => (h.1 c).1, h.2⟩) (run_main (F := Ideal) m g)

/-- So it does on bits: it is the same text. -/
theorem gather_frame : Cert.quiescent_Kernel33 := fun m g _ =>
  (θ_run _ _ _).mono (fun r h => ⟨fun c => (h.1 c).1, h.2⟩) (run_main (F := Bits) m g)

/-- The reference runs, keeps its arguments and leaves every semaphore at zero. -/
theorem reference33_frame : Cert.quiescent_Reference33Ideal := by
  intro m g _
  exact (θ_run _ _ _).mono (fun r h => ⟨fun c => (h c).2.2, sem_eq_zero_of_no_sems rfl r.2⟩) (Cert.Reference33Ideal.Value.run m g)

/-- Each device ends with the whole of the reference's arrays. -/
theorem gather : Cert.algebraic_Kernel33Ideal_Reference33Ideal := by
  intro m g m' g' _ hagree
  refine ⟨_, _, (θ_run _ _ _).mono (fun r h c => ⟨?_, ?_, (h.1 c).1⟩) (run_main (F := Ideal) m g),
    (θ_run _ _ _).mono (fun r h => h 0) (Cert.Reference33Ideal.Value.run m' g')⟩
  · exact funext fun i => by
      rw [← ix3_eta i]
      exact (out0 (h.1 c) _ _ _).trans ((congrFun ((hagree _).1) _).trans (whole_at _ _ _ _ _ _).symm)
  · exact funext fun i => by
      rw [← ix3_eta i]
      exact (out1 (h.1 c) _ _ _).trans ((congrFun ((hagree _).2) _).trans (whole_at _ _ _ _ _ _).symm)
end

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel34.Frame
public import proofs.«01_k».proof.Proof.Gen.Kernel35.Frame
public import proofs.«01_k».proof.Proof.Gen.Kernel36.Frame
public import proofs.«01_k».proof.Proof.Gen.Kernel37.Frame
public import proofs.«01_k».proof.Proof.Gen.Kernel38.Frame
public import proofs.«01_k».proof.Proof.Gen.Kernel39.Frame
public import proofs.«01_k».proof.Proof.Gen.Kernel40.Frame
public import proofs.«01_k».proof.Proof.Fin8
public import proofs.«01_k».proof.Proof.Kern
public import Idealize.ShloMosaic.Lib.Quiescent
public import Idealize.ShloMosaic.Adequacy
public import Idealize.ShloMosaic.Init
public import proofs.«01_k».proof.Proof.MulT
public import proofs.«01_k».proof.Proof.TMul
public import proofs.«01_k».proof.Proof.Mul
public import proofs.«01_k».proof.Proof.AdamPacked
public import proofs.«01_k».proof.Proof.Loss
public import proofs.«01_k».proof.Proof.MemNorm
public import proofs.«01_k».proof.Proof.HeadsRun
public import proofs.«01_k».proof.Proof.TailRun
public import proofs.«01_k».proof.Proof.ExchangeValue
public import proofs.«01_k».proof.Proof.ChipExchangeValue
public import proofs.«01_k».proof.Proof.GatherValue

@[expose] public section

noncomputable section

namespace Cert.Proof

open Idealize.ShloMosaic Idealize.SL.Sem Cert.Kernel

/-- On finite arguments the kernel's three results are the three gradients of the reference. -/
theorem results (m : (ℓ : Loc Cert.KernelIdeal.nD Cert.KernelIdeal.τ Cert.KernelIdeal.sig) → Buf (Elt Ideal) ℓ) (c : Dev Cert.KernelIdeal.nD)
    (h : Cert.Pre_KernelIdeal_finite (hPre_finite := Cert.Pre_finite.Gen.facts) m) :
    Cert.ReferenceIdeal.Read.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        = Cert.KernelIdeal.Value.G6 m c
      ∧ Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        = Cert.KernelIdeal.Value.G7 m c
      ∧ Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3))
        = Cert.KernelIdeal.Value.G8 m c := by
  obtain ⟨f0, f1, f2, f3⟩ := Cert.Pre_finite.Real.reals _ _ _ _ (h c)
  obtain ⟨Q, h0⟩ := Cert.Pre_finite.Real.exists_fun _ _ _ f0
  obtain ⟨K, h1⟩ := Cert.Pre_finite.Real.exists_fun _ _ _ f1
  obtain ⟨W, h2⟩ := Cert.Pre_finite.Real.exists_fun _ _ _ f2
  obtain ⟨D, h3⟩ := Cert.Pre_finite.Real.exists_fun _ _ _ f3
  choose M hM using Cert.ReferenceIdeal.Real.r8 Q K _ _ h0 h1
  exact ⟨funext fun i => (Cert.ReferenceIdeal.Real.r63 Q K W D _ _ _ _ h0 h1 h2 h3 M hM i).trans (Cert.KernelIdeal.Kern.G6_real m c Q K W D h0 h1 h2 h3 i).symm,
    funext fun i => (Cert.ReferenceIdeal.Real.r62 Q K W D _ _ _ _ h0 h1 h2 h3 M hM i).trans (Cert.KernelIdeal.Kern.G7_real m c Q K W D h0 h1 h2 h3 i).symm,
    funext fun i => (Cert.ReferenceIdeal.Real.r61 Q K D _ _ _ h0 h1 h3 M hM i).trans (Cert.KernelIdeal.Kern.G8_real m c Q K D h0 h1 h3 i).symm⟩

section
attribute [local instance] Cert.Kernel.Gen.facts Cert.KernelIdeal.Gen.facts Cert.ReferenceIdeal.Gen.facts Cert.Pre_finite.Gen.facts

/-- The reference runs, keeps its arguments and leaves every semaphore at zero. -/
theorem reference_frame : Cert.quiescent_ReferenceIdeal := by
  intro m g _
  exact (θ_run _ _ _).mono (fun r h => ⟨fun c => (h c).2.2.2, sem_eq_zero_of_no_sems rfl r.2⟩) (Cert.ReferenceIdeal.Value.run m g)

/-- The kernel and the reference end with equal results on finite arguments. -/
theorem attention_gradient : Cert.algebraic_KernelIdeal_ReferenceIdeal_pre_finite := by
  intro m g m' g' hpre hagree
  refine ⟨fun c => Cert.KernelIdeal.Value.G6 m c, fun c => Cert.KernelIdeal.Value.G7 m c, fun c => Cert.KernelIdeal.Value.G8 m c,
    Cert.KernelIdeal.Value.run m g, ?_⟩
  refine (θ_run _ _ _).mono (fun r h c => ?_) (Cert.ReferenceIdeal.Value.run m' g')
  obtain ⟨r0, r1, r2, ha⟩ := h c
  obtain ⟨a0, a1, a2, a3⟩ := hagree c
  obtain ⟨e0, e1, e2⟩ := results m c hpre
  refine ⟨r0.trans ?_, r1.trans ?_, (r2.trans (Cert.ReferenceIdeal.Read.val_main_v61_eq _ _ _)).trans ?_, ha⟩
  · refine (Cert.ReferenceIdeal.Read.val_main_v63_eq m' c).trans ?_
    rw [a0, a1, a2, a3]
    exact e0
  · refine (Cert.ReferenceIdeal.Read.val_main_v62_eq m' c).trans ?_
    rw [a0, a1, a2, a3]
    exact e1
  · rw [a0, a1, a3]
    exact e2
end

/-- Everything the certificate claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.Kernel40.Gen.facts, Cert.Kernel40Ideal.Gen.facts, Cert.Reference40Ideal.Gen.facts, Cert.Pre_finite.Gen.facts, Cert.Pre_finite8.Gen.facts,
  fun m g _ => Cert.Kernel.Gen.frame m g, fun m g _ => Cert.KernelIdeal.Gen.frame m g, fun m g _ => Cert.KernelIdeal.Gen.frame m g,
  reference_frame, fun m g _ => reference_frame m g trivial,
  fun m g _ => Cert.Kernel2.Gen.frame m g, fun m g _ => Cert.Kernel2Ideal.Gen.frame m g, reference2_frame,
  fun m g _ => Cert.Kernel3.Gen.frame m g, fun m g _ => Cert.Kernel3Ideal.Gen.frame m g, reference3_frame,
  fun m g _ => Cert.Kernel4.Gen.frame m g, fun m g _ => Cert.Kernel4Ideal.Gen.frame m g, reference4_frame,
  fun m g _ => Cert.Kernel5.Gen.frame m g, fun m g _ => Cert.Kernel5Ideal.Gen.frame m g, reference5_frame,
  fun m g _ => Cert.Kernel6.Gen.frame m g, fun m g _ => Cert.Kernel6Ideal.Gen.frame m g, reference6_frame,
  fun m g _ => Cert.Kernel7.Gen.frame m g, fun m g _ => Cert.Kernel7Ideal.Gen.frame m g, reference7_frame,
  fun m g _ => Cert.Kernel8.Gen.frame m g, fun m g _ => Cert.Kernel8Ideal.Gen.frame m g, fun m g _ => Cert.Kernel8Ideal.Gen.frame m g,
  reference8_frame, fun m g _ => reference8_frame m g trivial,
  fun m g _ => Cert.Kernel9.Gen.frame m g, fun m g _ => Cert.Kernel9Ideal.Gen.frame m g, reference9_frame,
  fun m g _ => Cert.Kernel10.Gen.frame m g, fun m g _ => Cert.Kernel10Ideal.Gen.frame m g, reference10_frame,
  fun m g _ => Cert.Kernel11.Gen.frame m g, fun m g _ => Cert.Kernel11Ideal.Gen.frame m g, reference11_frame,
  fun m g _ => Cert.Kernel12.Gen.frame m g, fun m g _ => Cert.Kernel12Ideal.Gen.frame m g, reference12_frame,
  fun m g _ => Cert.Kernel13.Gen.frame m g, fun m g _ => Cert.Kernel13Ideal.Gen.frame m g, reference13_frame,
  fun m g _ => Cert.Kernel14.Gen.frame m g, fun m g _ => Cert.Kernel14Ideal.Gen.frame m g, reference14_frame,
  fun m g _ => Cert.Kernel15.Gen.frame m g, fun m g _ => Cert.Kernel15Ideal.Gen.frame m g, reference15_frame,
  fun m g _ => Cert.Kernel16.Gen.frame m g, fun m g _ => Cert.Kernel16Ideal.Gen.frame m g, reference16_frame,
  fun m g _ => Cert.Kernel17.Gen.frame m g, fun m g _ => Cert.Kernel17Ideal.Gen.frame m g, reference17_frame,
  fun m g _ => Cert.Kernel18.Gen.frame m g, fun m g _ => Cert.Kernel18Ideal.Gen.frame m g, reference18_frame,
  fun m g _ => Cert.Kernel19.Gen.frame m g, fun m g _ => Cert.Kernel19Ideal.Gen.frame m g, reference19_frame,
  fun m g _ => Cert.Kernel20.Gen.frame m g, fun m g _ => Cert.Kernel20Ideal.Gen.frame m g, reference20_frame,
  fun m g _ => Cert.Kernel21.Gen.frame m g, fun m g _ => Cert.Kernel21Ideal.Gen.frame m g, reference21_frame,
  fun m g _ => Cert.Kernel22.Gen.frame m g, fun m g _ => Cert.Kernel22Ideal.Gen.frame m g, reference22_frame,
  fun m g _ => Cert.Kernel23.Gen.frame m g, fun m g _ => Cert.Kernel23Ideal.Gen.frame m g, reference23_frame,
  fun m g _ => Cert.Kernel24.Gen.frame m g, fun m g _ => Cert.Kernel24Ideal.Gen.frame m g, reference24_frame,
  fun m g _ => Cert.Kernel25.Gen.frame m g, fun m g _ => Cert.Kernel25Ideal.Gen.frame m g, reference25_frame,
  fun m g _ => Cert.Kernel26.Gen.frame m g, fun m g _ => Cert.Kernel26Ideal.Gen.frame m g, reference26_frame,
  fun m g _ => Cert.Kernel27.Gen.frame m g, fun m g _ => Cert.Kernel27Ideal.Gen.frame m g, reference27_frame,
  fun m g _ => Cert.Kernel28.Gen.frame m g, fun m g _ => Cert.Kernel28Ideal.Gen.frame m g, reference28_frame,
  fun m g _ => Cert.Kernel29.Gen.frame m g, fun m g _ => Cert.Kernel29Ideal.Gen.frame m g, reference29_frame,
  fun m g _ => Cert.Kernel30.Gen.frame m g, fun m g _ => Cert.Kernel30Ideal.Gen.frame m g, reference30_frame,
  exchange_frame, exchange_frame_ideal, reference31_frame, chips_frame, chips_frame_ideal, reference32_frame, gather_frame, gather_frame_ideal, reference33_frame,
  fun m g _ => Cert.Kernel34.Gen.frame m g, fun m g _ => Cert.Kernel34Ideal.Gen.frame m g, reference34_frame,
  fun m g _ => Cert.Kernel35.Gen.frame m g, fun m g _ => Cert.Kernel35Ideal.Gen.frame m g, reference35_frame,
  fun m g _ => Cert.Kernel36.Gen.frame m g, fun m g _ => Cert.Kernel36Ideal.Gen.frame m g, reference36_frame,
  fun m g _ => Cert.Kernel37.Gen.frame m g, fun m g _ => Cert.Kernel37Ideal.Gen.frame m g, reference37_frame,
  fun m g _ => Cert.Kernel38.Gen.frame m g, fun m g _ => Cert.Kernel38Ideal.Gen.frame m g, reference38_frame,
  fun m g _ => Cert.Kernel39.Gen.frame m g, fun m g _ => Cert.Kernel39Ideal.Gen.frame m g, reference39_frame,
  fun m g _ => Cert.Kernel40.Gen.frame m g, fun m g _ => Cert.Kernel40Ideal.Gen.frame m g, reference40_frame,
  trivial, attention_gradient, trivial, product2, trivial, product3, trivial, product4, trivial, product5,
  trivial, product6, trivial, product7, trivial, attention_forward,
  trivial, product9, trivial, product10, trivial, product11, trivial, product12, trivial, product13, trivial, product14, trivial, product15, trivial, product16, trivial, product17,
  trivial, product18, trivial, product19, trivial, product20, trivial, product21, trivial, product22, trivial, product23, trivial, product24, trivial, product25, trivial, product26, trivial, product27, trivial, product28, trivial, product29, trivial, product30, trivial, exchange, trivial, chips, trivial, gather, trivial, product34, trivial, product35, trivial, product36, trivial, product37, trivial, product38, trivial, product39, trivial, product40⟩

end Cert.Proof

end
